-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_MlpB (m : (ℓ : Loc Cert.MlpB.nD Cert.MlpB.τ Cert.MlpB.sig) → Buf (Elt Bits) ℓ) : Prop :=
  True

def Pre_MlpBIdeal (m : (ℓ : Loc Cert.MlpBIdeal.nD Cert.MlpBIdeal.τ Cert.MlpBIdeal.sig) → Buf (Elt Ideal) ℓ) : Prop :=
  True

def Pre_MlpBRefIdeal (m : (ℓ : Loc Cert.MlpBRefIdeal.nD Cert.MlpBRefIdeal.τ Cert.MlpBRefIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_OutprojB (m : (ℓ : Loc Cert.OutprojB.nD Cert.OutprojB.τ Cert.OutprojB.sig) → Buf (Elt Bits) ℓ) : Prop :=
  True

def Pre_OutprojBIdeal (m : (ℓ : Loc Cert.OutprojBIdeal.nD Cert.OutprojBIdeal.τ Cert.OutprojBIdeal.sig) → Buf (Elt Ideal) ℓ) : Prop :=
  True

def Pre_OutprojBRefIdeal (m : (ℓ : Loc Cert.OutprojBRefIdeal.nD Cert.OutprojBRefIdeal.τ Cert.OutprojBRefIdeal.sig) → Buf (Elt Ideal) ℓ) : Prop :=
  True

def Pre_InprojB (m : (ℓ : Loc Cert.InprojB.nD Cert.InprojB.τ Cert.InprojB.sig) → Buf (Elt Bits) ℓ) : Prop :=
  True

def Pre_InprojBIdeal (m : (ℓ : Loc Cert.InprojBIdeal.nD Cert.InprojBIdeal.τ Cert.InprojBIdeal.sig) → Buf (Elt Ideal) ℓ) : Prop :=
  True

def Pre_InprojBRefIdeal (m : (ℓ : Loc Cert.InprojBRefIdeal.nD Cert.InprojBRefIdeal.τ Cert.InprojBRefIdeal.sig) → Buf (Elt Ideal) ℓ) : Prop :=
  True

def Pre_MlpS (m : (ℓ : Loc Cert.MlpS.nD Cert.MlpS.τ Cert.MlpS.sig) → Buf (Elt Bits) ℓ) : Prop :=
  True

def Pre_MlpSIdeal (m : (ℓ : Loc Cert.MlpSIdeal.nD Cert.MlpSIdeal.τ Cert.MlpSIdeal.sig) → Buf (Elt Ideal) ℓ) : Prop :=
  True

def Pre_MlpSRefIdeal (m : (ℓ : Loc Cert.MlpSRefIdeal.nD Cert.MlpSRefIdeal.τ Cert.MlpSRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_OutprojS (m : (ℓ : Loc Cert.OutprojS.nD Cert.OutprojS.τ Cert.OutprojS.sig) → Buf (Elt Bits) ℓ) : Prop :=
  True

def Pre_OutprojSIdeal (m : (ℓ : Loc Cert.OutprojSIdeal.nD Cert.OutprojSIdeal.τ Cert.OutprojSIdeal.sig) → Buf (Elt Ideal) ℓ) : Prop :=
  True

def Pre_OutprojSRefIdeal (m : (ℓ : Loc Cert.OutprojSRefIdeal.nD Cert.OutprojSRefIdeal.τ Cert.OutprojSRefIdeal.sig) → Buf (Elt Ideal) ℓ) : Prop :=
  True

def Pre_InprojS (m : (ℓ : Loc Cert.InprojS.nD Cert.InprojS.τ Cert.InprojS.sig) → Buf (Elt Bits) ℓ) : Prop :=
  True

def Pre_InprojSIdeal (m : (ℓ : Loc Cert.InprojSIdeal.nD Cert.InprojSIdeal.τ Cert.InprojSIdeal.sig) → Buf (Elt Ideal) ℓ) : Prop :=
  True

def Pre_InprojSRefIdeal (m : (ℓ : Loc Cert.InprojSRefIdeal.nD Cert.InprojSRefIdeal.τ Cert.InprojSRefIdeal.sig) → Buf (Elt Ideal) ℓ) : Prop :=
  True

def Pre_MlpSB (m : (ℓ : Loc Cert.MlpSB.nD Cert.MlpSB.τ Cert.MlpSB.sig) → Buf (Elt Bits) ℓ) : Prop :=
  True

def Pre_MlpSBIdeal (m : (ℓ : Loc Cert.MlpSBIdeal.nD Cert.MlpSBIdeal.τ Cert.MlpSBIdeal.sig) → Buf (Elt Ideal) ℓ) : Prop :=
  True

def Pre_MlpSBRefIdeal (m : (ℓ : Loc Cert.MlpSBRefIdeal.nD Cert.MlpSBRefIdeal.τ Cert.MlpSBRefIdeal.sig) → Buf (Elt Ideal) ℓ) : Prop :=
  True

def Pre_MergeSB (m : (ℓ : Loc Cert.MergeSB.nD Cert.MergeSB.τ Cert.MergeSB.sig) → Buf (Elt Bits) ℓ) : Prop :=
  True

def Pre_MergeSBIdeal (m : (ℓ : Loc Cert.MergeSBIdeal.nD Cert.MergeSBIdeal.τ Cert.MergeSBIdeal.sig) → Buf (Elt Ideal) ℓ) : Prop :=
  True

def Pre_MergeSBRefIdeal (m : (ℓ : Loc Cert.MergeSBRefIdeal.nD Cert.MergeSBRefIdeal.τ Cert.MergeSBRefIdeal.sig) → Buf (Elt Ideal) ℓ) : Prop :=
  True

def Pre_OutprojSB (m : (ℓ : Loc Cert.OutprojSB.nD Cert.OutprojSB.τ Cert.OutprojSB.sig) → Buf (Elt Bits) ℓ) : Prop :=
  True

def Pre_OutprojSBIdeal (m : (ℓ : Loc Cert.OutprojSBIdeal.nD Cert.OutprojSBIdeal.τ Cert.OutprojSBIdeal.sig) → Buf (Elt Ideal) ℓ) : Prop :=
  True

def Pre_OutprojSBRefIdeal (m : (ℓ : Loc Cert.OutprojSBRefIdeal.nD Cert.OutprojSBRefIdeal.τ Cert.OutprojSBRefIdeal.sig) → Buf (Elt Ideal) ℓ) : Prop :=
  True

def Pre_InprojSB (m : (ℓ : Loc Cert.InprojSB.nD Cert.InprojSB.τ Cert.InprojSB.sig) → Buf (Elt Bits) ℓ) : Prop :=
  True

def Pre_InprojSBIdeal (m : (ℓ : Loc Cert.InprojSBIdeal.nD Cert.InprojSBIdeal.τ Cert.InprojSBIdeal.sig) → Buf (Elt Ideal) ℓ) : Prop :=
  True

def Pre_InprojSBRefIdeal (m : (ℓ : Loc Cert.InprojSBRefIdeal.nD Cert.InprojSBRefIdeal.τ Cert.InprojSBRefIdeal.sig) → Buf (Elt Ideal) ℓ) : Prop :=
  True

def Pre_Lf (m : (ℓ : Loc Cert.Lf.nD Cert.Lf.τ Cert.Lf.sig) → Buf (Elt Bits) ℓ) : Prop :=
  True

def Pre_LfIdeal (m : (ℓ : Loc Cert.LfIdeal.nD Cert.LfIdeal.τ Cert.LfIdeal.sig) → Buf (Elt Ideal) ℓ) : Prop :=
  True

def Pre_LfIdeal_finite_lf [hPre_finite_lf : Cert.Pre_finite_lf.Facts] (m : (ℓ : Loc Cert.LfIdeal.nD Cert.LfIdeal.τ Cert.LfIdeal.sig) → Buf (Elt Ideal) ℓ) : Prop :=
  ∀ c : Dev Cert.LfIdeal.nD,
    (Cert.Pre_finite_lf.fn (F := Ideal) (m ((c.tc : Thread Cert.LfIdeal.nD Cert.LfIdeal.τ).loc Cert.LfIdeal.main_arg0))) = (fun _ => 1#1)

def Pre_LfRefIdeal (m : (ℓ : Loc Cert.LfRefIdeal.nD Cert.LfRefIdeal.τ Cert.LfRefIdeal.sig) → Buf (Elt Ideal) ℓ) : Prop :=
  True

def Pre_LfRefIdeal_finite_lf [hPre_finite_lf : Cert.Pre_finite_lf.Facts] (m : (ℓ : Loc Cert.LfRefIdeal.nD Cert.LfRefIdeal.τ Cert.LfRefIdeal.sig) → Buf (Elt Ideal) ℓ) : Prop :=
  ∀ c : Dev Cert.LfRefIdeal.nD,
    (Cert.Pre_finite_lf.fn (F := Ideal) (m ((c.tc : Thread Cert.LfRefIdeal.nD Cert.LfRefIdeal.τ).loc Cert.LfRefIdeal.main_arg0))) = (fun _ => 1#1)

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmRefIdeal (m : (ℓ : Loc Cert.MlstmRefIdeal.nD Cert.MlstmRefIdeal.τ Cert.MlstmRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_MlpB [hMlpB : Cert.MlpB.Facts] : Prop :=
  ∀ (m : (ℓ : Loc Cert.MlpB.nD Cert.MlpB.τ Cert.MlpB.sig) → Buf (Elt Bits) ℓ) (g : Dev Cert.MlpB.nD → PrngReg), Pre_MlpB m →
    θ_run (Cert.MlpB.defs (F := Bits)) (onTc (τ := Cert.MlpB.τ) (Cert.MlpB.main (F := Bits))) ⟨m, fun _ => 0, g⟩ (fun r => (∀ c : Dev Cert.MlpB.nD,
      r.2.mem ((c.tc : Thread Cert.MlpB.nD Cert.MlpB.τ).loc Cert.MlpB.main_arg0) = m ((c.tc : Thread Cert.MlpB.nD Cert.MlpB.τ).loc Cert.MlpB.main_arg0)
      ∧ r.2.mem ((c.tc : Thread Cert.MlpB.nD Cert.MlpB.τ).loc Cert.MlpB.main_arg1) = m ((c.tc : Thread Cert.MlpB.nD Cert.MlpB.τ).loc Cert.MlpB.main_arg1)
      ∧ r.2.mem ((c.tc : Thread Cert.MlpB.nD Cert.MlpB.τ).loc Cert.MlpB.main_arg2) = m ((c.tc : Thread Cert.MlpB.nD Cert.MlpB.τ).loc Cert.MlpB.main_arg2)
      ∧ r.2.mem ((c.tc : Thread Cert.MlpB.nD Cert.MlpB.τ).loc Cert.MlpB.main_arg3) = m ((c.tc : Thread Cert.MlpB.nD Cert.MlpB.τ).loc Cert.MlpB.main_arg3)
      ∧ r.2.mem ((c.tc : Thread Cert.MlpB.nD Cert.MlpB.τ).loc Cert.MlpB.main_arg4) = m ((c.tc : Thread Cert.MlpB.nD Cert.MlpB.τ).loc Cert.MlpB.main_arg4))
      ∧ r.2.sem = fun _ => 0)

def quiescent_MlpBIdeal [hMlpBIdeal : Cert.MlpBIdeal.Facts] : Prop :=
  ∀ (m : (ℓ : Loc Cert.MlpBIdeal.nD Cert.MlpBIdeal.τ Cert.MlpBIdeal.sig) → Buf (Elt Ideal) ℓ) (g : Dev Cert.MlpBIdeal.nD → PrngReg), Pre_MlpBIdeal m →
    θ_run (Cert.MlpBIdeal.defs (F := Ideal)) (onTc (τ := Cert.MlpBIdeal.τ) (Cert.MlpBIdeal.main (F := Ideal))) ⟨m, fun _ => 0, g⟩ (fun r => (∀ c : Dev Cert.MlpBIdeal.nD,
      r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
      ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
      ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
      ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
      ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ r.2.sem = fun _ => 0)

def quiescent_MlpBRefIdeal [hMlpBRefIdeal : Cert.MlpBRefIdeal.Facts] : Prop :=
  ∀ (m : (ℓ : Loc Cert.MlpBRefIdeal.nD Cert.MlpBRefIdeal.τ Cert.MlpBRefIdeal.sig) → Buf (Elt Ideal) ℓ) (g : Dev Cert.MlpBRefIdeal.nD → PrngReg), Pre_MlpBRefIdeal m →
    θ_run (Cert.MlpBRefIdeal.defs (F := Ideal)) (onTc (τ := Cert.MlpBRefIdeal.τ) (Cert.MlpBRefIdeal.main (F := Ideal))) ⟨m, fun _ => 0, g⟩ (fun r => (∀ c : Dev Cert.MlpBRefIdeal.nD,
      r.2.mem ((c.tc : Thread Cert.MlpBRefIdeal.nD Cert.MlpBRefIdeal.τ).loc Cert.MlpBRefIdeal.main_arg0) = m ((c.tc : Thread Cert.MlpBRefIdeal.nD Cert.MlpBRefIdeal.τ).loc Cert.MlpBRefIdeal.main_arg0)
      ∧ r.2.mem ((c.tc : Thread Cert.MlpBRefIdeal.nD Cert.MlpBRefIdeal.τ).loc Cert.MlpBRefIdeal.main_arg1) = m ((c.tc : Thread Cert.MlpBRefIdeal.nD Cert.MlpBRefIdeal.τ).loc Cert.MlpBRefIdeal.main_arg1)
      ∧ r.2.mem ((c.tc : Thread Cert.MlpBRefIdeal.nD Cert.MlpBRefIdeal.τ).loc Cert.MlpBRefIdeal.main_arg2) = m ((c.tc : Thread Cert.MlpBRefIdeal.nD Cert.MlpBRefIdeal.τ).loc Cert.MlpBRefIdeal.main_arg2)
      ∧ r.2.mem ((c.tc : Thread Cert.MlpBRefIdeal.nD Cert.MlpBRefIdeal.τ).loc Cert.MlpBRefIdeal.main_arg3) = m ((c.tc : Thread Cert.MlpBRefIdeal.nD Cert.MlpBRefIdeal.τ).loc Cert.MlpBRefIdeal.main_arg3)
      ∧ r.2.mem ((c.tc : Thread Cert.MlpBRefIdeal.nD Cert.MlpBRefIdeal.τ).loc Cert.MlpBRefIdeal.main_arg4) = m ((c.tc : Thread Cert.MlpBRefIdeal.nD Cert.MlpBRefIdeal.τ).loc Cert.MlpBRefIdeal.main_arg4))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3)
      ∧ r.2.mem ((c.tc : Thread Cert.MergeB.nD Cert.MergeB.τ).loc Cert.MergeB.main_arg4) = m ((c.tc : Thread Cert.MergeB.nD Cert.MergeB.τ).loc Cert.MergeB.main_arg4))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
      ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3)
      ∧ r.2.mem ((c.tc : Thread Cert.MergeBRefIdeal.nD Cert.MergeBRefIdeal.τ).loc Cert.MergeBRefIdeal.main_arg4) = m ((c.tc : Thread Cert.MergeBRefIdeal.nD Cert.MergeBRefIdeal.τ).loc Cert.MergeBRefIdeal.main_arg4))
      ∧ r.2.sem = fun _ => 0)

def quiescent_OutprojB [hOutprojB : Cert.OutprojB.Facts] : Prop :=
  ∀ (m : (ℓ : Loc Cert.OutprojB.nD Cert.OutprojB.τ Cert.OutprojB.sig) → Buf (Elt Bits) ℓ) (g : Dev Cert.OutprojB.nD → PrngReg), Pre_OutprojB m →
    θ_run (Cert.OutprojB.defs (F := Bits)) (onTc (τ := Cert.OutprojB.τ) (Cert.OutprojB.main (F := Bits))) ⟨m, fun _ => 0, g⟩ (fun r => (∀ c : Dev Cert.OutprojB.nD,
      r.2.mem ((c.tc : Thread Cert.OutprojB.nD Cert.OutprojB.τ).loc Cert.OutprojB.main_arg0) = m ((c.tc : Thread Cert.OutprojB.nD Cert.OutprojB.τ).loc Cert.OutprojB.main_arg0)
      ∧ r.2.mem ((c.tc : Thread Cert.OutprojB.nD Cert.OutprojB.τ).loc Cert.OutprojB.main_arg1) = m ((c.tc : Thread Cert.OutprojB.nD Cert.OutprojB.τ).loc Cert.OutprojB.main_arg1)
      ∧ r.2.mem ((c.tc : Thread Cert.OutprojB.nD Cert.OutprojB.τ).loc Cert.OutprojB.main_arg2) = m ((c.tc : Thread Cert.OutprojB.nD Cert.OutprojB.τ).loc Cert.OutprojB.main_arg2)
      ∧ r.2.mem ((c.tc : Thread Cert.OutprojB.nD Cert.OutprojB.τ).loc Cert.OutprojB.main_arg3) = m ((c.tc : Thread Cert.OutprojB.nD Cert.OutprojB.τ).loc Cert.OutprojB.main_arg3))
      ∧ r.2.sem = fun _ => 0)

def quiescent_OutprojBIdeal [hOutprojBIdeal : Cert.OutprojBIdeal.Facts] : Prop :=
  ∀ (m : (ℓ : Loc Cert.OutprojBIdeal.nD Cert.OutprojBIdeal.τ Cert.OutprojBIdeal.sig) → Buf (Elt Ideal) ℓ) (g : Dev Cert.OutprojBIdeal.nD → PrngReg), Pre_OutprojBIdeal m →
    θ_run (Cert.OutprojBIdeal.defs (F := Ideal)) (onTc (τ := Cert.OutprojBIdeal.τ) (Cert.OutprojBIdeal.main (F := Ideal))) ⟨m, fun _ => 0, g⟩ (fun r => (∀ c : Dev Cert.OutprojBIdeal.nD,
      r.2.mem ((c.tc : Thread Cert.OutprojBIdeal.nD Cert.OutprojBIdeal.τ).loc Cert.OutprojBIdeal.main_arg0) = m ((c.tc : Thread Cert.OutprojBIdeal.nD Cert.OutprojBIdeal.τ).loc Cert.OutprojBIdeal.main_arg0)
      ∧ r.2.mem ((c.tc : Thread Cert.OutprojBIdeal.nD Cert.OutprojBIdeal.τ).loc Cert.OutprojBIdeal.main_arg1) = m ((c.tc : Thread Cert.OutprojBIdeal.nD Cert.OutprojBIdeal.τ).loc Cert.OutprojBIdeal.main_arg1)
      ∧ r.2.mem ((c.tc : Thread Cert.OutprojBIdeal.nD Cert.OutprojBIdeal.τ).loc Cert.OutprojBIdeal.main_arg2) = m ((c.tc : Thread Cert.OutprojBIdeal.nD Cert.OutprojBIdeal.τ).loc Cert.OutprojBIdeal.main_arg2)
      ∧ r.2.mem ((c.tc : Thread Cert.OutprojBIdeal.nD Cert.OutprojBIdeal.τ).loc Cert.OutprojBIdeal.main_arg3) = m ((c.tc : Thread Cert.OutprojBIdeal.nD Cert.OutprojBIdeal.τ).loc Cert.OutprojBIdeal.main_arg3))
      ∧ r.2.sem = fun _ => 0)

def quiescent_OutprojBRefIdeal [hOutprojBRefIdeal : Cert.OutprojBRefIdeal.Facts] : Prop :=
  ∀ (m : (ℓ : Loc Cert.OutprojBRefIdeal.nD Cert.OutprojBRefIdeal.τ Cert.OutprojBRefIdeal.sig) → Buf (Elt Ideal) ℓ) (g : Dev Cert.OutprojBRefIdeal.nD → PrngReg), Pre_OutprojBRefIdeal m →
    θ_run (Cert.OutprojBRefIdeal.defs (F := Ideal)) (onTc (τ := Cert.OutprojBRefIdeal.τ) (Cert.OutprojBRefIdeal.main (F := Ideal))) ⟨m, fun _ => 0, g⟩ (fun r => (∀ c : Dev Cert.OutprojBRefIdeal.nD,
      r.2.mem ((c.tc : Thread Cert.OutprojBRefIdeal.nD Cert.OutprojBRefIdeal.τ).loc Cert.OutprojBRefIdeal.main_arg0) = m ((c.tc : Thread Cert.OutprojBRefIdeal.nD Cert.OutprojBRefIdeal.τ).loc Cert.OutprojBRefIdeal.main_arg0)
      ∧ r.2.mem ((c.tc : Thread Cert.OutprojBRefIdeal.nD Cert.OutprojBRefIdeal.τ).loc Cert.OutprojBRefIdeal.main_arg1) = m ((c.tc : Thread Cert.OutprojBRefIdeal.nD Cert.OutprojBRefIdeal.τ).loc Cert.OutprojBRefIdeal.main_arg1)
      ∧ r.2.mem ((c.tc : Thread Cert.OutprojBRefIdeal.nD Cert.OutprojBRefIdeal.τ).loc Cert.OutprojBRefIdeal.main_arg2) = m ((c.tc : Thread Cert.OutprojBRefIdeal.nD Cert.OutprojBRefIdeal.τ).loc Cert.OutprojBRefIdeal.main_arg2)
      ∧ r.2.mem ((c.tc : Thread Cert.OutprojBRefIdeal.nD Cert.OutprojBRefIdeal.τ).loc Cert.OutprojBRefIdeal.main_arg3) = m ((c.tc : Thread Cert.OutprojBRefIdeal.nD Cert.OutprojBRefIdeal.τ).loc Cert.OutprojBRefIdeal.main_arg3))
      ∧ r.2.sem = fun _ => 0)

def quiescent_InprojB [hInprojB : Cert.InprojB.Facts] : Prop :=
  ∀ (m : (ℓ : Loc Cert.InprojB.nD Cert.InprojB.τ Cert.InprojB.sig) → Buf (Elt Bits) ℓ) (g : Dev Cert.InprojB.nD → PrngReg), Pre_InprojB m →
    θ_run (Cert.InprojB.defs (F := Bits)) (onTc (τ := Cert.InprojB.τ) (Cert.InprojB.main (F := Bits))) ⟨m, fun _ => 0, g⟩ (fun r => (∀ c : Dev Cert.InprojB.nD,
      r.2.mem ((c.tc : Thread Cert.InprojB.nD Cert.InprojB.τ).loc Cert.InprojB.main_arg0) = m ((c.tc : Thread Cert.InprojB.nD Cert.InprojB.τ).loc Cert.InprojB.main_arg0)
      ∧ r.2.mem ((c.tc : Thread Cert.InprojB.nD Cert.InprojB.τ).loc Cert.InprojB.main_arg1) = m ((c.tc : Thread Cert.InprojB.nD Cert.InprojB.τ).loc Cert.InprojB.main_arg1)
      ∧ r.2.mem ((c.tc : Thread Cert.InprojB.nD Cert.InprojB.τ).loc Cert.InprojB.main_arg2) = m ((c.tc : Thread Cert.InprojB.nD Cert.InprojB.τ).loc Cert.InprojB.main_arg2)
      ∧ r.2.mem ((c.tc : Thread Cert.InprojB.nD Cert.InprojB.τ).loc Cert.InprojB.main_arg3) = m ((c.tc : Thread Cert.InprojB.nD Cert.InprojB.τ).loc Cert.InprojB.main_arg3))
      ∧ r.2.sem = fun _ => 0)

def quiescent_InprojBIdeal [hInprojBIdeal : Cert.InprojBIdeal.Facts] : Prop :=
  ∀ (m : (ℓ : Loc Cert.InprojBIdeal.nD Cert.InprojBIdeal.τ Cert.InprojBIdeal.sig) → Buf (Elt Ideal) ℓ) (g : Dev Cert.InprojBIdeal.nD → PrngReg), Pre_InprojBIdeal m →
    θ_run (Cert.InprojBIdeal.defs (F := Ideal)) (onTc (τ := Cert.InprojBIdeal.τ) (Cert.InprojBIdeal.main (F := Ideal))) ⟨m, fun _ => 0, g⟩ (fun r => (∀ c : Dev Cert.InprojBIdeal.nD,
      r.2.mem ((c.tc : Thread Cert.InprojBIdeal.nD Cert.InprojBIdeal.τ).loc Cert.InprojBIdeal.main_arg0) = m ((c.tc : Thread Cert.InprojBIdeal.nD Cert.InprojBIdeal.τ).loc Cert.InprojBIdeal.main_arg0)
      ∧ r.2.mem ((c.tc : Thread Cert.InprojBIdeal.nD Cert.InprojBIdeal.τ).loc Cert.InprojBIdeal.main_arg1) = m ((c.tc : Thread Cert.InprojBIdeal.nD Cert.InprojBIdeal.τ).loc Cert.InprojBIdeal.main_arg1)
      ∧ r.2.mem ((c.tc : Thread Cert.InprojBIdeal.nD Cert.InprojBIdeal.τ).loc Cert.InprojBIdeal.main_arg2) = m ((c.tc : Thread Cert.InprojBIdeal.nD Cert.InprojBIdeal.τ).loc Cert.InprojBIdeal.main_arg2)
      ∧ r.2.mem ((c.tc : Thread Cert.InprojBIdeal.nD Cert.InprojBIdeal.τ).loc Cert.InprojBIdeal.main_arg3) = m ((c.tc : Thread Cert.InprojBIdeal.nD Cert.InprojBIdeal.τ).loc Cert.InprojBIdeal.main_arg3))
      ∧ r.2.sem = fun _ => 0)

def quiescent_InprojBRefIdeal [hInprojBRefIdeal : Cert.InprojBRefIdeal.Facts] : Prop :=
  ∀ (m : (ℓ : Loc Cert.InprojBRefIdeal.nD Cert.InprojBRefIdeal.τ Cert.InprojBRefIdeal.sig) → Buf (Elt Ideal) ℓ) (g : Dev Cert.InprojBRefIdeal.nD → PrngReg), Pre_InprojBRefIdeal m →
    θ_run (Cert.InprojBRefIdeal.defs (F := Ideal)) (onTc (τ := Cert.InprojBRefIdeal.τ) (Cert.InprojBRefIdeal.main (F := Ideal))) ⟨m, fun _ => 0, g⟩ (fun r => (∀ c : Dev Cert.InprojBRefIdeal.nD,
      r.2.mem ((c.tc : Thread Cert.InprojBRefIdeal.nD Cert.InprojBRefIdeal.τ).loc Cert.InprojBRefIdeal.main_arg0) = m ((c.tc : Thread Cert.InprojBRefIdeal.nD Cert.InprojBRefIdeal.τ).loc Cert.InprojBRefIdeal.main_arg0)
      ∧ r.2.mem ((c.tc : Thread Cert.InprojBRefIdeal.nD Cert.InprojBRefIdeal.τ).loc Cert.InprojBRefIdeal.main_arg1) = m ((c.tc : Thread Cert.InprojBRefIdeal.nD Cert.InprojBRefIdeal.τ).loc Cert.InprojBRefIdeal.main_arg1)
      ∧ r.2.mem ((c.tc : Thread Cert.InprojBRefIdeal.nD Cert.InprojBRefIdeal.τ).loc Cert.InprojBRefIdeal.main_arg2) = m ((c.tc : Thread Cert.InprojBRefIdeal.nD Cert.InprojBRefIdeal.τ).loc Cert.InprojBRefIdeal.main_arg2)
      ∧ r.2.mem ((c.tc : Thread Cert.InprojBRefIdeal.nD Cert.InprojBRefIdeal.τ).loc Cert.InprojBRefIdeal.main_arg3) = m ((c.tc : Thread Cert.InprojBRefIdeal.nD Cert.InprojBRefIdeal.τ).loc Cert.InprojBRefIdeal.main_arg3))
      ∧ r.2.sem = fun _ => 0)

def quiescent_MlpS [hMlpS : Cert.MlpS.Facts] : Prop :=
  ∀ (m : (ℓ : Loc Cert.MlpS.nD Cert.MlpS.τ Cert.MlpS.sig) → Buf (Elt Bits) ℓ) (g : Dev Cert.MlpS.nD → PrngReg), Pre_MlpS m →
    θ_run (Cert.MlpS.defs (F := Bits)) (onTc (τ := Cert.MlpS.τ) (Cert.MlpS.main (F := Bits))) ⟨m, fun _ => 0, g⟩ (fun r => (∀ c : Dev Cert.MlpS.nD,
      r.2.mem ((c.tc : Thread Cert.MlpS.nD Cert.MlpS.τ).loc Cert.MlpS.main_arg0) = m ((c.tc : Thread Cert.MlpS.nD Cert.MlpS.τ).loc Cert.MlpS.main_arg0)
      ∧ r.2.mem ((c.tc : Thread Cert.MlpS.nD Cert.MlpS.τ).loc Cert.MlpS.main_arg1) = m ((c.tc : Thread Cert.MlpS.nD Cert.MlpS.τ).loc Cert.MlpS.main_arg1)
      ∧ r.2.mem ((c.tc : Thread Cert.MlpS.nD Cert.MlpS.τ).loc Cert.MlpS.main_arg2) = m ((c.tc : Thread Cert.MlpS.nD Cert.MlpS.τ).loc Cert.MlpS.main_arg2)
      ∧ r.2.mem ((c.tc : Thread Cert.MlpS.nD Cert.MlpS.τ).loc Cert.MlpS.main_arg3) = m ((c.tc : Thread Cert.MlpS.nD Cert.MlpS.τ).loc Cert.MlpS.main_arg3)
      ∧ r.2.mem ((c.tc : Thread Cert.MlpS.nD Cert.MlpS.τ).loc Cert.MlpS.main_arg4) = m ((c.tc : Thread Cert.MlpS.nD Cert.MlpS.τ).loc Cert.MlpS.main_arg4))
      ∧ r.2.sem = fun _ => 0)

def quiescent_MlpSIdeal [hMlpSIdeal : Cert.MlpSIdeal.Facts] : Prop :=
  ∀ (m : (ℓ : Loc Cert.MlpSIdeal.nD Cert.MlpSIdeal.τ Cert.MlpSIdeal.sig) → Buf (Elt Ideal) ℓ) (g : Dev Cert.MlpSIdeal.nD → PrngReg), Pre_MlpSIdeal m →
    θ_run (Cert.MlpSIdeal.defs (F := Ideal)) (onTc (τ := Cert.MlpSIdeal.τ) (Cert.MlpSIdeal.main (F := Ideal))) ⟨m, fun _ => 0, g⟩ (fun r => (∀ c : Dev Cert.MlpSIdeal.nD,
      r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
      ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
      ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
      ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
      ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ r.2.sem = fun _ => 0)

def quiescent_MlpSRefIdeal [hMlpSRefIdeal : Cert.MlpSRefIdeal.Facts] : Prop :=
  ∀ (m : (ℓ : Loc Cert.MlpSRefIdeal.nD Cert.MlpSRefIdeal.τ Cert.MlpSRefIdeal.sig) → Buf (Elt Ideal) ℓ) (g : Dev Cert.MlpSRefIdeal.nD → PrngReg), Pre_MlpSRefIdeal m →
    θ_run (Cert.MlpSRefIdeal.defs (F := Ideal)) (onTc (τ := Cert.MlpSRefIdeal.τ) (Cert.MlpSRefIdeal.main (F := Ideal))) ⟨m, fun _ => 0, g⟩ (fun r => (∀ c : Dev Cert.MlpSRefIdeal.nD,
      r.2.mem ((c.tc : Thread Cert.MlpSRefIdeal.nD Cert.MlpSRefIdeal.τ).loc Cert.MlpSRefIdeal.main_arg0) = m ((c.tc : Thread Cert.MlpSRefIdeal.nD Cert.MlpSRefIdeal.τ).loc Cert.MlpSRefIdeal.main_arg0)
      ∧ r.2.mem ((c.tc : Thread Cert.MlpSRefIdeal.nD Cert.MlpSRefIdeal.τ).loc Cert.MlpSRefIdeal.main_arg1) = m ((c.tc : Thread Cert.MlpSRefIdeal.nD Cert.MlpSRefIdeal.τ).loc Cert.MlpSRefIdeal.main_arg1)
      ∧ r.2.mem ((c.tc : Thread Cert.MlpSRefIdeal.nD Cert.MlpSRefIdeal.τ).loc Cert.MlpSRefIdeal.main_arg2) = m ((c.tc : Thread Cert.MlpSRefIdeal.nD Cert.MlpSRefIdeal.τ).loc Cert.MlpSRefIdeal.main_arg2)
      ∧ r.2.mem ((c.tc : Thread Cert.MlpSRefIdeal.nD Cert.MlpSRefIdeal.τ).loc Cert.MlpSRefIdeal.main_arg3) = m ((c.tc : Thread Cert.MlpSRefIdeal.nD Cert.MlpSRefIdeal.τ).loc Cert.MlpSRefIdeal.main_arg3)
      ∧ r.2.mem ((c.tc : Thread Cert.MlpSRefIdeal.nD Cert.MlpSRefIdeal.τ).loc Cert.MlpSRefIdeal.main_arg4) = m ((c.tc : Thread Cert.MlpSRefIdeal.nD Cert.MlpSRefIdeal.τ).loc Cert.MlpSRefIdeal.main_arg4))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4))
      ∧ r.2.sem = fun _ => 0)

def quiescent_OutprojS [hOutprojS : Cert.OutprojS.Facts] : Prop :=
  ∀ (m : (ℓ : Loc Cert.OutprojS.nD Cert.OutprojS.τ Cert.OutprojS.sig) → Buf (Elt Bits) ℓ) (g : Dev Cert.OutprojS.nD → PrngReg), Pre_OutprojS m →
    θ_run (Cert.OutprojS.defs (F := Bits)) (onTc (τ := Cert.OutprojS.τ) (Cert.OutprojS.main (F := Bits))) ⟨m, fun _ => 0, g⟩ (fun r => (∀ c : Dev Cert.OutprojS.nD,
      r.2.mem ((c.tc : Thread Cert.OutprojS.nD Cert.OutprojS.τ).loc Cert.OutprojS.main_arg0) = m ((c.tc : Thread Cert.OutprojS.nD Cert.OutprojS.τ).loc Cert.OutprojS.main_arg0)
      ∧ r.2.mem ((c.tc : Thread Cert.OutprojS.nD Cert.OutprojS.τ).loc Cert.OutprojS.main_arg1) = m ((c.tc : Thread Cert.OutprojS.nD Cert.OutprojS.τ).loc Cert.OutprojS.main_arg1)
      ∧ r.2.mem ((c.tc : Thread Cert.OutprojS.nD Cert.OutprojS.τ).loc Cert.OutprojS.main_arg2) = m ((c.tc : Thread Cert.OutprojS.nD Cert.OutprojS.τ).loc Cert.OutprojS.main_arg2)
      ∧ r.2.mem ((c.tc : Thread Cert.OutprojS.nD Cert.OutprojS.τ).loc Cert.OutprojS.main_arg3) = m ((c.tc : Thread Cert.OutprojS.nD Cert.OutprojS.τ).loc Cert.OutprojS.main_arg3))
      ∧ r.2.sem = fun _ => 0)

def quiescent_OutprojSIdeal [hOutprojSIdeal : Cert.OutprojSIdeal.Facts] : Prop :=
  ∀ (m : (ℓ : Loc Cert.OutprojSIdeal.nD Cert.OutprojSIdeal.τ Cert.OutprojSIdeal.sig) → Buf (Elt Ideal) ℓ) (g : Dev Cert.OutprojSIdeal.nD → PrngReg), Pre_OutprojSIdeal m →
    θ_run (Cert.OutprojSIdeal.defs (F := Ideal)) (onTc (τ := Cert.OutprojSIdeal.τ) (Cert.OutprojSIdeal.main (F := Ideal))) ⟨m, fun _ => 0, g⟩ (fun r => (∀ c : Dev Cert.OutprojSIdeal.nD,
      r.2.mem ((c.tc : Thread Cert.OutprojSIdeal.nD Cert.OutprojSIdeal.τ).loc Cert.OutprojSIdeal.main_arg0) = m ((c.tc : Thread Cert.OutprojSIdeal.nD Cert.OutprojSIdeal.τ).loc Cert.OutprojSIdeal.main_arg0)
      ∧ r.2.mem ((c.tc : Thread Cert.OutprojSIdeal.nD Cert.OutprojSIdeal.τ).loc Cert.OutprojSIdeal.main_arg1) = m ((c.tc : Thread Cert.OutprojSIdeal.nD Cert.OutprojSIdeal.τ).loc Cert.OutprojSIdeal.main_arg1)
      ∧ r.2.mem ((c.tc : Thread Cert.OutprojSIdeal.nD Cert.OutprojSIdeal.τ).loc Cert.OutprojSIdeal.main_arg2) = m ((c.tc : Thread Cert.OutprojSIdeal.nD Cert.OutprojSIdeal.τ).loc Cert.OutprojSIdeal.main_arg2)
      ∧ r.2.mem ((c.tc : Thread Cert.OutprojSIdeal.nD Cert.OutprojSIdeal.τ).loc Cert.OutprojSIdeal.main_arg3) = m ((c.tc : Thread Cert.OutprojSIdeal.nD Cert.OutprojSIdeal.τ).loc Cert.OutprojSIdeal.main_arg3))
      ∧ r.2.sem = fun _ => 0)

def quiescent_OutprojSRefIdeal [hOutprojSRefIdeal : Cert.OutprojSRefIdeal.Facts] : Prop :=
  ∀ (m : (ℓ : Loc Cert.OutprojSRefIdeal.nD Cert.OutprojSRefIdeal.τ Cert.OutprojSRefIdeal.sig) → Buf (Elt Ideal) ℓ) (g : Dev Cert.OutprojSRefIdeal.nD → PrngReg), Pre_OutprojSRefIdeal m →
    θ_run (Cert.OutprojSRefIdeal.defs (F := Ideal)) (onTc (τ := Cert.OutprojSRefIdeal.τ) (Cert.OutprojSRefIdeal.main (F := Ideal))) ⟨m, fun _ => 0, g⟩ (fun r => (∀ c : Dev Cert.OutprojSRefIdeal.nD,
      r.2.mem ((c.tc : Thread Cert.OutprojSRefIdeal.nD Cert.OutprojSRefIdeal.τ).loc Cert.OutprojSRefIdeal.main_arg0) = m ((c.tc : Thread Cert.OutprojSRefIdeal.nD Cert.OutprojSRefIdeal.τ).loc Cert.OutprojSRefIdeal.main_arg0)
      ∧ r.2.mem ((c.tc : Thread Cert.OutprojSRefIdeal.nD Cert.OutprojSRefIdeal.τ).loc Cert.OutprojSRefIdeal.main_arg1) = m ((c.tc : Thread Cert.OutprojSRefIdeal.nD Cert.OutprojSRefIdeal.τ).loc Cert.OutprojSRefIdeal.main_arg1)
      ∧ r.2.mem ((c.tc : Thread Cert.OutprojSRefIdeal.nD Cert.OutprojSRefIdeal.τ).loc Cert.OutprojSRefIdeal.main_arg2) = m ((c.tc : Thread Cert.OutprojSRefIdeal.nD Cert.OutprojSRefIdeal.τ).loc Cert.OutprojSRefIdeal.main_arg2)
      ∧ r.2.mem ((c.tc : Thread Cert.OutprojSRefIdeal.nD Cert.OutprojSRefIdeal.τ).loc Cert.OutprojSRefIdeal.main_arg3) = m ((c.tc : Thread Cert.OutprojSRefIdeal.nD Cert.OutprojSRefIdeal.τ).loc Cert.OutprojSRefIdeal.main_arg3))
      ∧ r.2.sem = fun _ => 0)

def quiescent_InprojS [hInprojS : Cert.InprojS.Facts] : Prop :=
  ∀ (m : (ℓ : Loc Cert.InprojS.nD Cert.InprojS.τ Cert.InprojS.sig) → Buf (Elt Bits) ℓ) (g : Dev Cert.InprojS.nD → PrngReg), Pre_InprojS m →
    θ_run (Cert.InprojS.defs (F := Bits)) (onTc (τ := Cert.InprojS.τ) (Cert.InprojS.main (F := Bits))) ⟨m, fun _ => 0, g⟩ (fun r => (∀ c : Dev Cert.InprojS.nD,
      r.2.mem ((c.tc : Thread Cert.InprojS.nD Cert.InprojS.τ).loc Cert.InprojS.main_arg0) = m ((c.tc : Thread Cert.InprojS.nD Cert.InprojS.τ).loc Cert.InprojS.main_arg0)
      ∧ r.2.mem ((c.tc : Thread Cert.InprojS.nD Cert.InprojS.τ).loc Cert.InprojS.main_arg1) = m ((c.tc : Thread Cert.InprojS.nD Cert.InprojS.τ).loc Cert.InprojS.main_arg1)
      ∧ r.2.mem ((c.tc : Thread Cert.InprojS.nD Cert.InprojS.τ).loc Cert.InprojS.main_arg2) = m ((c.tc : Thread Cert.InprojS.nD Cert.InprojS.τ).loc Cert.InprojS.main_arg2)
      ∧ r.2.mem ((c.tc : Thread Cert.InprojS.nD Cert.InprojS.τ).loc Cert.InprojS.main_arg3) = m ((c.tc : Thread Cert.InprojS.nD Cert.InprojS.τ).loc Cert.InprojS.main_arg3))
      ∧ r.2.sem = fun _ => 0)

def quiescent_InprojSIdeal [hInprojSIdeal : Cert.InprojSIdeal.Facts] : Prop :=
  ∀ (m : (ℓ : Loc Cert.InprojSIdeal.nD Cert.InprojSIdeal.τ Cert.InprojSIdeal.sig) → Buf (Elt Ideal) ℓ) (g : Dev Cert.InprojSIdeal.nD → PrngReg), Pre_InprojSIdeal m →
    θ_run (Cert.InprojSIdeal.defs (F := Ideal)) (onTc (τ := Cert.InprojSIdeal.τ) (Cert.InprojSIdeal.main (F := Ideal))) ⟨m, fun _ => 0, g⟩ (fun r => (∀ c : Dev Cert.InprojSIdeal.nD,
      r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
      ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
      ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
      ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3))
      ∧ r.2.sem = fun _ => 0)

def quiescent_InprojSRefIdeal [hInprojSRefIdeal : Cert.InprojSRefIdeal.Facts] : Prop :=
  ∀ (m : (ℓ : Loc Cert.InprojSRefIdeal.nD Cert.InprojSRefIdeal.τ Cert.InprojSRefIdeal.sig) → Buf (Elt Ideal) ℓ) (g : Dev Cert.InprojSRefIdeal.nD → PrngReg), Pre_InprojSRefIdeal m →
    θ_run (Cert.InprojSRefIdeal.defs (F := Ideal)) (onTc (τ := Cert.InprojSRefIdeal.τ) (Cert.InprojSRefIdeal.main (F := Ideal))) ⟨m, fun _ => 0, g⟩ (fun r => (∀ c : Dev Cert.InprojSRefIdeal.nD,
      r.2.mem ((c.tc : Thread Cert.InprojSRefIdeal.nD Cert.InprojSRefIdeal.τ).loc Cert.InprojSRefIdeal.main_arg0) = m ((c.tc : Thread Cert.InprojSRefIdeal.nD Cert.InprojSRefIdeal.τ).loc Cert.InprojSRefIdeal.main_arg0)
      ∧ r.2.mem ((c.tc : Thread Cert.InprojSRefIdeal.nD Cert.InprojSRefIdeal.τ).loc Cert.InprojSRefIdeal.main_arg1) = m ((c.tc : Thread Cert.InprojSRefIdeal.nD Cert.InprojSRefIdeal.τ).loc Cert.InprojSRefIdeal.main_arg1)
      ∧ r.2.mem ((c.tc : Thread Cert.InprojSRefIdeal.nD Cert.InprojSRefIdeal.τ).loc Cert.InprojSRefIdeal.main_arg2) = m ((c.tc : Thread Cert.InprojSRefIdeal.nD Cert.InprojSRefIdeal.τ).loc Cert.InprojSRefIdeal.main_arg2)
      ∧ r.2.mem ((c.tc : Thread Cert.InprojSRefIdeal.nD Cert.InprojSRefIdeal.τ).loc Cert.InprojSRefIdeal.main_arg3) = m ((c.tc : Thread Cert.InprojSRefIdeal.nD Cert.InprojSRefIdeal.τ).loc Cert.InprojSRefIdeal.main_arg3))
      ∧ r.2.sem = fun _ => 0)

def quiescent_MlpSB [hMlpSB : Cert.MlpSB.Facts] : Prop :=
  ∀ (m : (ℓ : Loc Cert.MlpSB.nD Cert.MlpSB.τ Cert.MlpSB.sig) → Buf (Elt Bits) ℓ) (g : Dev Cert.MlpSB.nD → PrngReg), Pre_MlpSB m →
    θ_run (Cert.MlpSB.defs (F := Bits)) (onTc (τ := Cert.MlpSB.τ) (Cert.MlpSB.main (F := Bits))) ⟨m, fun _ => 0, g⟩ (fun r => (∀ c : Dev Cert.MlpSB.nD,
      r.2.mem ((c.tc : Thread Cert.MlpSB.nD Cert.MlpSB.τ).loc Cert.MlpSB.main_arg0) = m ((c.tc : Thread Cert.MlpSB.nD Cert.MlpSB.τ).loc Cert.MlpSB.main_arg0)
      ∧ r.2.mem ((c.tc : Thread Cert.MlpSB.nD Cert.MlpSB.τ).loc Cert.MlpSB.main_arg1) = m ((c.tc : Thread Cert.MlpSB.nD Cert.MlpSB.τ).loc Cert.MlpSB.main_arg1)
      ∧ r.2.mem ((c.tc : Thread Cert.MlpSB.nD Cert.MlpSB.τ).loc Cert.MlpSB.main_arg2) = m ((c.tc : Thread Cert.MlpSB.nD Cert.MlpSB.τ).loc Cert.MlpSB.main_arg2)
      ∧ r.2.mem ((c.tc : Thread Cert.MlpSB.nD Cert.MlpSB.τ).loc Cert.MlpSB.main_arg3) = m ((c.tc : Thread Cert.MlpSB.nD Cert.MlpSB.τ).loc Cert.MlpSB.main_arg3)
      ∧ r.2.mem ((c.tc : Thread Cert.MlpSB.nD Cert.MlpSB.τ).loc Cert.MlpSB.main_arg4) = m ((c.tc : Thread Cert.MlpSB.nD Cert.MlpSB.τ).loc Cert.MlpSB.main_arg4))
      ∧ r.2.sem = fun _ => 0)

def quiescent_MlpSBIdeal [hMlpSBIdeal : Cert.MlpSBIdeal.Facts] : Prop :=
  ∀ (m : (ℓ : Loc Cert.MlpSBIdeal.nD Cert.MlpSBIdeal.τ Cert.MlpSBIdeal.sig) → Buf (Elt Ideal) ℓ) (g : Dev Cert.MlpSBIdeal.nD → PrngReg), Pre_MlpSBIdeal m →
    θ_run (Cert.MlpSBIdeal.defs (F := Ideal)) (onTc (τ := Cert.MlpSBIdeal.τ) (Cert.MlpSBIdeal.main (F := Ideal))) ⟨m, fun _ => 0, g⟩ (fun r => (∀ c : Dev Cert.MlpSBIdeal.nD,
      r.2.mem ((c.tc : Thread Cert.MlpSBIdeal.nD Cert.MlpSBIdeal.τ).loc Cert.MlpSBIdeal.main_arg0) = m ((c.tc : Thread Cert.MlpSBIdeal.nD Cert.MlpSBIdeal.τ).loc Cert.MlpSBIdeal.main_arg0)
      ∧ r.2.mem ((c.tc : Thread Cert.MlpSBIdeal.nD Cert.MlpSBIdeal.τ).loc Cert.MlpSBIdeal.main_arg1) = m ((c.tc : Thread Cert.MlpSBIdeal.nD Cert.MlpSBIdeal.τ).loc Cert.MlpSBIdeal.main_arg1)
      ∧ r.2.mem ((c.tc : Thread Cert.MlpSBIdeal.nD Cert.MlpSBIdeal.τ).loc Cert.MlpSBIdeal.main_arg2) = m ((c.tc : Thread Cert.MlpSBIdeal.nD Cert.MlpSBIdeal.τ).loc Cert.MlpSBIdeal.main_arg2)
      ∧ r.2.mem ((c.tc : Thread Cert.MlpSBIdeal.nD Cert.MlpSBIdeal.τ).loc Cert.MlpSBIdeal.main_arg3) = m ((c.tc : Thread Cert.MlpSBIdeal.nD Cert.MlpSBIdeal.τ).loc Cert.MlpSBIdeal.main_arg3)
      ∧ r.2.mem ((c.tc : Thread Cert.MlpSBIdeal.nD Cert.MlpSBIdeal.τ).loc Cert.MlpSBIdeal.main_arg4) = m ((c.tc : Thread Cert.MlpSBIdeal.nD Cert.MlpSBIdeal.τ).loc Cert.MlpSBIdeal.main_arg4))
      ∧ r.2.sem = fun _ => 0)

def quiescent_MlpSBRefIdeal [hMlpSBRefIdeal : Cert.MlpSBRefIdeal.Facts] : Prop :=
  ∀ (m : (ℓ : Loc Cert.MlpSBRefIdeal.nD Cert.MlpSBRefIdeal.τ Cert.MlpSBRefIdeal.sig) → Buf (Elt Ideal) ℓ) (g : Dev Cert.MlpSBRefIdeal.nD → PrngReg), Pre_MlpSBRefIdeal m →
    θ_run (Cert.MlpSBRefIdeal.defs (F := Ideal)) (onTc (τ := Cert.MlpSBRefIdeal.τ) (Cert.MlpSBRefIdeal.main (F := Ideal))) ⟨m, fun _ => 0, g⟩ (fun r => (∀ c : Dev Cert.MlpSBRefIdeal.nD,
      r.2.mem ((c.tc : Thread Cert.MlpSBRefIdeal.nD Cert.MlpSBRefIdeal.τ).loc Cert.MlpSBRefIdeal.main_arg0) = m ((c.tc : Thread Cert.MlpSBRefIdeal.nD Cert.MlpSBRefIdeal.τ).loc Cert.MlpSBRefIdeal.main_arg0)
      ∧ r.2.mem ((c.tc : Thread Cert.MlpSBRefIdeal.nD Cert.MlpSBRefIdeal.τ).loc Cert.MlpSBRefIdeal.main_arg1) = m ((c.tc : Thread Cert.MlpSBRefIdeal.nD Cert.MlpSBRefIdeal.τ).loc Cert.MlpSBRefIdeal.main_arg1)
      ∧ r.2.mem ((c.tc : Thread Cert.MlpSBRefIdeal.nD Cert.MlpSBRefIdeal.τ).loc Cert.MlpSBRefIdeal.main_arg2) = m ((c.tc : Thread Cert.MlpSBRefIdeal.nD Cert.MlpSBRefIdeal.τ).loc Cert.MlpSBRefIdeal.main_arg2)
      ∧ r.2.mem ((c.tc : Thread Cert.MlpSBRefIdeal.nD Cert.MlpSBRefIdeal.τ).loc Cert.MlpSBRefIdeal.main_arg3) = m ((c.tc : Thread Cert.MlpSBRefIdeal.nD Cert.MlpSBRefIdeal.τ).loc Cert.MlpSBRefIdeal.main_arg3)
      ∧ r.2.mem ((c.tc : Thread Cert.MlpSBRefIdeal.nD Cert.MlpSBRefIdeal.τ).loc Cert.MlpSBRefIdeal.main_arg4) = m ((c.tc : Thread Cert.MlpSBRefIdeal.nD Cert.MlpSBRefIdeal.τ).loc Cert.MlpSBRefIdeal.main_arg4))
      ∧ r.2.sem = fun _ => 0)

def quiescent_MergeSB [hMergeSB : Cert.MergeSB.Facts] : Prop :=
  ∀ (m : (ℓ : Loc Cert.MergeSB.nD Cert.MergeSB.τ Cert.MergeSB.sig) → Buf (Elt Bits) ℓ) (g : Dev Cert.MergeSB.nD → PrngReg), Pre_MergeSB m →
    θ_run (Cert.MergeSB.defs (F := Bits)) (onTc (τ := Cert.MergeSB.τ) (Cert.MergeSB.main (F := Bits))) ⟨m, fun _ => 0, g⟩ (fun r => (∀ c : Dev Cert.MergeSB.nD,
      r.2.mem ((c.tc : Thread Cert.MergeSB.nD Cert.MergeSB.τ).loc Cert.MergeSB.main_arg0) = m ((c.tc : Thread Cert.MergeSB.nD Cert.MergeSB.τ).loc Cert.MergeSB.main_arg0)
      ∧ r.2.mem ((c.tc : Thread Cert.MergeSB.nD Cert.MergeSB.τ).loc Cert.MergeSB.main_arg1) = m ((c.tc : Thread Cert.MergeSB.nD Cert.MergeSB.τ).loc Cert.MergeSB.main_arg1)
      ∧ r.2.mem ((c.tc : Thread Cert.MergeSB.nD Cert.MergeSB.τ).loc Cert.MergeSB.main_arg2) = m ((c.tc : Thread Cert.MergeSB.nD Cert.MergeSB.τ).loc Cert.MergeSB.main_arg2)
      ∧ r.2.mem ((c.tc : Thread Cert.MergeSB.nD Cert.MergeSB.τ).loc Cert.MergeSB.main_arg3) = m ((c.tc : Thread Cert.MergeSB.nD Cert.MergeSB.τ).loc Cert.MergeSB.main_arg3)
      ∧ r.2.mem ((c.tc : Thread Cert.MergeSB.nD Cert.MergeSB.τ).loc Cert.MergeSB.main_arg4) = m ((c.tc : Thread Cert.MergeSB.nD Cert.MergeSB.τ).loc Cert.MergeSB.main_arg4))
      ∧ r.2.sem = fun _ => 0)

def quiescent_MergeSBIdeal [hMergeSBIdeal : Cert.MergeSBIdeal.Facts] : Prop :=
  ∀ (m : (ℓ : Loc Cert.MergeSBIdeal.nD Cert.MergeSBIdeal.τ Cert.MergeSBIdeal.sig) → Buf (Elt Ideal) ℓ) (g : Dev Cert.MergeSBIdeal.nD → PrngReg), Pre_MergeSBIdeal m →
    θ_run (Cert.MergeSBIdeal.defs (F := Ideal)) (onTc (τ := Cert.MergeSBIdeal.τ) (Cert.MergeSBIdeal.main (F := Ideal))) ⟨m, fun _ => 0, g⟩ (fun r => (∀ c : Dev Cert.MergeSBIdeal.nD,
      r.2.mem ((c.tc : Thread Cert.MergeSBIdeal.nD Cert.MergeSBIdeal.τ).loc Cert.MergeSBIdeal.main_arg0) = m ((c.tc : Thread Cert.MergeSBIdeal.nD Cert.MergeSBIdeal.τ).loc Cert.MergeSBIdeal.main_arg0)
      ∧ r.2.mem ((c.tc : Thread Cert.MergeSBIdeal.nD Cert.MergeSBIdeal.τ).loc Cert.MergeSBIdeal.main_arg1) = m ((c.tc : Thread Cert.MergeSBIdeal.nD Cert.MergeSBIdeal.τ).loc Cert.MergeSBIdeal.main_arg1)
      ∧ r.2.mem ((c.tc : Thread Cert.MergeSBIdeal.nD Cert.MergeSBIdeal.τ).loc Cert.MergeSBIdeal.main_arg2) = m ((c.tc : Thread Cert.MergeSBIdeal.nD Cert.MergeSBIdeal.τ).loc Cert.MergeSBIdeal.main_arg2)
      ∧ r.2.mem ((c.tc : Thread Cert.MergeSBIdeal.nD Cert.MergeSBIdeal.τ).loc Cert.MergeSBIdeal.main_arg3) = m ((c.tc : Thread Cert.MergeSBIdeal.nD Cert.MergeSBIdeal.τ).loc Cert.MergeSBIdeal.main_arg3)
      ∧ r.2.mem ((c.tc : Thread Cert.MergeSBIdeal.nD Cert.MergeSBIdeal.τ).loc Cert.MergeSBIdeal.main_arg4) = m ((c.tc : Thread Cert.MergeSBIdeal.nD Cert.MergeSBIdeal.τ).loc Cert.MergeSBIdeal.main_arg4))
      ∧ r.2.sem = fun _ => 0)

def quiescent_MergeSBRefIdeal [hMergeSBRefIdeal : Cert.MergeSBRefIdeal.Facts] : Prop :=
  ∀ (m : (ℓ : Loc Cert.MergeSBRefIdeal.nD Cert.MergeSBRefIdeal.τ Cert.MergeSBRefIdeal.sig) → Buf (Elt Ideal) ℓ) (g : Dev Cert.MergeSBRefIdeal.nD → PrngReg), Pre_MergeSBRefIdeal m →
    θ_run (Cert.MergeSBRefIdeal.defs (F := Ideal)) (onTc (τ := Cert.MergeSBRefIdeal.τ) (Cert.MergeSBRefIdeal.main (F := Ideal))) ⟨m, fun _ => 0, g⟩ (fun r => (∀ c : Dev Cert.MergeSBRefIdeal.nD,
      r.2.mem ((c.tc : Thread Cert.MergeSBRefIdeal.nD Cert.MergeSBRefIdeal.τ).loc Cert.MergeSBRefIdeal.main_arg0) = m ((c.tc : Thread Cert.MergeSBRefIdeal.nD Cert.MergeSBRefIdeal.τ).loc Cert.MergeSBRefIdeal.main_arg0)
      ∧ r.2.mem ((c.tc : Thread Cert.MergeSBRefIdeal.nD Cert.MergeSBRefIdeal.τ).loc Cert.MergeSBRefIdeal.main_arg1) = m ((c.tc : Thread Cert.MergeSBRefIdeal.nD Cert.MergeSBRefIdeal.τ).loc Cert.MergeSBRefIdeal.main_arg1)
      ∧ r.2.mem ((c.tc : Thread Cert.MergeSBRefIdeal.nD Cert.MergeSBRefIdeal.τ).loc Cert.MergeSBRefIdeal.main_arg2) = m ((c.tc : Thread Cert.MergeSBRefIdeal.nD Cert.MergeSBRefIdeal.τ).loc Cert.MergeSBRefIdeal.main_arg2)
      ∧ r.2.mem ((c.tc : Thread Cert.MergeSBRefIdeal.nD Cert.MergeSBRefIdeal.τ).loc Cert.MergeSBRefIdeal.main_arg3) = m ((c.tc : Thread Cert.MergeSBRefIdeal.nD Cert.MergeSBRefIdeal.τ).loc Cert.MergeSBRefIdeal.main_arg3)
      ∧ r.2.mem ((c.tc : Thread Cert.MergeSBRefIdeal.nD Cert.MergeSBRefIdeal.τ).loc Cert.MergeSBRefIdeal.main_arg4) = m ((c.tc : Thread Cert.MergeSBRefIdeal.nD Cert.MergeSBRefIdeal.τ).loc Cert.MergeSBRefIdeal.main_arg4))
      ∧ r.2.sem = fun _ => 0)

def quiescent_OutprojSB [hOutprojSB : Cert.OutprojSB.Facts] : Prop :=
  ∀ (m : (ℓ : Loc Cert.OutprojSB.nD Cert.OutprojSB.τ Cert.OutprojSB.sig) → Buf (Elt Bits) ℓ) (g : Dev Cert.OutprojSB.nD → PrngReg), Pre_OutprojSB m →
    θ_run (Cert.OutprojSB.defs (F := Bits)) (onTc (τ := Cert.OutprojSB.τ) (Cert.OutprojSB.main (F := Bits))) ⟨m, fun _ => 0, g⟩ (fun r => (∀ c : Dev Cert.OutprojSB.nD,
      r.2.mem ((c.tc : Thread Cert.OutprojSB.nD Cert.OutprojSB.τ).loc Cert.OutprojSB.main_arg0) = m ((c.tc : Thread Cert.OutprojSB.nD Cert.OutprojSB.τ).loc Cert.OutprojSB.main_arg0)
      ∧ r.2.mem ((c.tc : Thread Cert.OutprojSB.nD Cert.OutprojSB.τ).loc Cert.OutprojSB.main_arg1) = m ((c.tc : Thread Cert.OutprojSB.nD Cert.OutprojSB.τ).loc Cert.OutprojSB.main_arg1)
      ∧ r.2.mem ((c.tc : Thread Cert.OutprojSB.nD Cert.OutprojSB.τ).loc Cert.OutprojSB.main_arg2) = m ((c.tc : Thread Cert.OutprojSB.nD Cert.OutprojSB.τ).loc Cert.OutprojSB.main_arg2)
      ∧ r.2.mem ((c.tc : Thread Cert.OutprojSB.nD Cert.OutprojSB.τ).loc Cert.OutprojSB.main_arg3) = m ((c.tc : Thread Cert.OutprojSB.nD Cert.OutprojSB.τ).loc Cert.OutprojSB.main_arg3))
      ∧ r.2.sem = fun _ => 0)

def quiescent_OutprojSBIdeal [hOutprojSBIdeal : Cert.OutprojSBIdeal.Facts] : Prop :=
  ∀ (m : (ℓ : Loc Cert.OutprojSBIdeal.nD Cert.OutprojSBIdeal.τ Cert.OutprojSBIdeal.sig) → Buf (Elt Ideal) ℓ) (g : Dev Cert.OutprojSBIdeal.nD → PrngReg), Pre_OutprojSBIdeal m →
    θ_run (Cert.OutprojSBIdeal.defs (F := Ideal)) (onTc (τ := Cert.OutprojSBIdeal.τ) (Cert.OutprojSBIdeal.main (F := Ideal))) ⟨m, fun _ => 0, g⟩ (fun r => (∀ c : Dev Cert.OutprojSBIdeal.nD,
      r.2.mem ((c.tc : Thread Cert.OutprojSBIdeal.nD Cert.OutprojSBIdeal.τ).loc Cert.OutprojSBIdeal.main_arg0) = m ((c.tc : Thread Cert.OutprojSBIdeal.nD Cert.OutprojSBIdeal.τ).loc Cert.OutprojSBIdeal.main_arg0)
      ∧ r.2.mem ((c.tc : Thread Cert.OutprojSBIdeal.nD Cert.OutprojSBIdeal.τ).loc Cert.OutprojSBIdeal.main_arg1) = m ((c.tc : Thread Cert.OutprojSBIdeal.nD Cert.OutprojSBIdeal.τ).loc Cert.OutprojSBIdeal.main_arg1)
      ∧ r.2.mem ((c.tc : Thread Cert.OutprojSBIdeal.nD Cert.OutprojSBIdeal.τ).loc Cert.OutprojSBIdeal.main_arg2) = m ((c.tc : Thread Cert.OutprojSBIdeal.nD Cert.OutprojSBIdeal.τ).loc Cert.OutprojSBIdeal.main_arg2)
      ∧ r.2.mem ((c.tc : Thread Cert.OutprojSBIdeal.nD Cert.OutprojSBIdeal.τ).loc Cert.OutprojSBIdeal.main_arg3) = m ((c.tc : Thread Cert.OutprojSBIdeal.nD Cert.OutprojSBIdeal.τ).loc Cert.OutprojSBIdeal.main_arg3))
      ∧ r.2.sem = fun _ => 0)

def quiescent_OutprojSBRefIdeal [hOutprojSBRefIdeal : Cert.OutprojSBRefIdeal.Facts] : Prop :=
  ∀ (m : (ℓ : Loc Cert.OutprojSBRefIdeal.nD Cert.OutprojSBRefIdeal.τ Cert.OutprojSBRefIdeal.sig) → Buf (Elt Ideal) ℓ) (g : Dev Cert.OutprojSBRefIdeal.nD → PrngReg), Pre_OutprojSBRefIdeal m →
    θ_run (Cert.OutprojSBRefIdeal.defs (F := Ideal)) (onTc (τ := Cert.OutprojSBRefIdeal.τ) (Cert.OutprojSBRefIdeal.main (F := Ideal))) ⟨m, fun _ => 0, g⟩ (fun r => (∀ c : Dev Cert.OutprojSBRefIdeal.nD,
      r.2.mem ((c.tc : Thread Cert.OutprojSBRefIdeal.nD Cert.OutprojSBRefIdeal.τ).loc Cert.OutprojSBRefIdeal.main_arg0) = m ((c.tc : Thread Cert.OutprojSBRefIdeal.nD Cert.OutprojSBRefIdeal.τ).loc Cert.OutprojSBRefIdeal.main_arg0)
      ∧ r.2.mem ((c.tc : Thread Cert.OutprojSBRefIdeal.nD Cert.OutprojSBRefIdeal.τ).loc Cert.OutprojSBRefIdeal.main_arg1) = m ((c.tc : Thread Cert.OutprojSBRefIdeal.nD Cert.OutprojSBRefIdeal.τ).loc Cert.OutprojSBRefIdeal.main_arg1)
      ∧ r.2.mem ((c.tc : Thread Cert.OutprojSBRefIdeal.nD Cert.OutprojSBRefIdeal.τ).loc Cert.OutprojSBRefIdeal.main_arg2) = m ((c.tc : Thread Cert.OutprojSBRefIdeal.nD Cert.OutprojSBRefIdeal.τ).loc Cert.OutprojSBRefIdeal.main_arg2)
      ∧ r.2.mem ((c.tc : Thread Cert.OutprojSBRefIdeal.nD Cert.OutprojSBRefIdeal.τ).loc Cert.OutprojSBRefIdeal.main_arg3) = m ((c.tc : Thread Cert.OutprojSBRefIdeal.nD Cert.OutprojSBRefIdeal.τ).loc Cert.OutprojSBRefIdeal.main_arg3))
      ∧ r.2.sem = fun _ => 0)

def quiescent_InprojSB [hInprojSB : Cert.InprojSB.Facts] : Prop :=
  ∀ (m : (ℓ : Loc Cert.InprojSB.nD Cert.InprojSB.τ Cert.InprojSB.sig) → Buf (Elt Bits) ℓ) (g : Dev Cert.InprojSB.nD → PrngReg), Pre_InprojSB m →
    θ_run (Cert.InprojSB.defs (F := Bits)) (onTc (τ := Cert.InprojSB.τ) (Cert.InprojSB.main (F := Bits))) ⟨m, fun _ => 0, g⟩ (fun r => (∀ c : Dev Cert.InprojSB.nD,
      r.2.mem ((c.tc : Thread Cert.InprojSB.nD Cert.InprojSB.τ).loc Cert.InprojSB.main_arg0) = m ((c.tc : Thread Cert.InprojSB.nD Cert.InprojSB.τ).loc Cert.InprojSB.main_arg0)
      ∧ r.2.mem ((c.tc : Thread Cert.InprojSB.nD Cert.InprojSB.τ).loc Cert.InprojSB.main_arg1) = m ((c.tc : Thread Cert.InprojSB.nD Cert.InprojSB.τ).loc Cert.InprojSB.main_arg1)
      ∧ r.2.mem ((c.tc : Thread Cert.InprojSB.nD Cert.InprojSB.τ).loc Cert.InprojSB.main_arg2) = m ((c.tc : Thread Cert.InprojSB.nD Cert.InprojSB.τ).loc Cert.InprojSB.main_arg2)
      ∧ r.2.mem ((c.tc : Thread Cert.InprojSB.nD Cert.InprojSB.τ).loc Cert.InprojSB.main_arg3) = m ((c.tc : Thread Cert.InprojSB.nD Cert.InprojSB.τ).loc Cert.InprojSB.main_arg3))
      ∧ r.2.sem = fun _ => 0)

def quiescent_InprojSBIdeal [hInprojSBIdeal : Cert.InprojSBIdeal.Facts] : Prop :=
  ∀ (m : (ℓ : Loc Cert.InprojSBIdeal.nD Cert.InprojSBIdeal.τ Cert.InprojSBIdeal.sig) → Buf (Elt Ideal) ℓ) (g : Dev Cert.InprojSBIdeal.nD → PrngReg), Pre_InprojSBIdeal m →
    θ_run (Cert.InprojSBIdeal.defs (F := Ideal)) (onTc (τ := Cert.InprojSBIdeal.τ) (Cert.InprojSBIdeal.main (F := Ideal))) ⟨m, fun _ => 0, g⟩ (fun r => (∀ c : Dev Cert.InprojSBIdeal.nD,
      r.2.mem ((c.tc : Thread Cert.InprojSBIdeal.nD Cert.InprojSBIdeal.τ).loc Cert.InprojSBIdeal.main_arg0) = m ((c.tc : Thread Cert.InprojSBIdeal.nD Cert.InprojSBIdeal.τ).loc Cert.InprojSBIdeal.main_arg0)
      ∧ r.2.mem ((c.tc : Thread Cert.InprojSBIdeal.nD Cert.InprojSBIdeal.τ).loc Cert.InprojSBIdeal.main_arg1) = m ((c.tc : Thread Cert.InprojSBIdeal.nD Cert.InprojSBIdeal.τ).loc Cert.InprojSBIdeal.main_arg1)
      ∧ r.2.mem ((c.tc : Thread Cert.InprojSBIdeal.nD Cert.InprojSBIdeal.τ).loc Cert.InprojSBIdeal.main_arg2) = m ((c.tc : Thread Cert.InprojSBIdeal.nD Cert.InprojSBIdeal.τ).loc Cert.InprojSBIdeal.main_arg2)
      ∧ r.2.mem ((c.tc : Thread Cert.InprojSBIdeal.nD Cert.InprojSBIdeal.τ).loc Cert.InprojSBIdeal.main_arg3) = m ((c.tc : Thread Cert.InprojSBIdeal.nD Cert.InprojSBIdeal.τ).loc Cert.InprojSBIdeal.main_arg3))
      ∧ r.2.sem = fun _ => 0)

def quiescent_InprojSBRefIdeal [hInprojSBRefIdeal : Cert.InprojSBRefIdeal.Facts] : Prop :=
  ∀ (m : (ℓ : Loc Cert.InprojSBRefIdeal.nD Cert.InprojSBRefIdeal.τ Cert.InprojSBRefIdeal.sig) → Buf (Elt Ideal) ℓ) (g : Dev Cert.InprojSBRefIdeal.nD → PrngReg), Pre_InprojSBRefIdeal m →
    θ_run (Cert.InprojSBRefIdeal.defs (F := Ideal)) (onTc (τ := Cert.InprojSBRefIdeal.τ) (Cert.InprojSBRefIdeal.main (F := Ideal))) ⟨m, fun _ => 0, g⟩ (fun r => (∀ c : Dev Cert.InprojSBRefIdeal.nD,
      r.2.mem ((c.tc : Thread Cert.InprojSBRefIdeal.nD Cert.InprojSBRefIdeal.τ).loc Cert.InprojSBRefIdeal.main_arg0) = m ((c.tc : Thread Cert.InprojSBRefIdeal.nD Cert.InprojSBRefIdeal.τ).loc Cert.InprojSBRefIdeal.main_arg0)
      ∧ r.2.mem ((c.tc : Thread Cert.InprojSBRefIdeal.nD Cert.InprojSBRefIdeal.τ).loc Cert.InprojSBRefIdeal.main_arg1) = m ((c.tc : Thread Cert.InprojSBRefIdeal.nD Cert.InprojSBRefIdeal.τ).loc Cert.InprojSBRefIdeal.main_arg1)
      ∧ r.2.mem ((c.tc : Thread Cert.InprojSBRefIdeal.nD Cert.InprojSBRefIdeal.τ).loc Cert.InprojSBRefIdeal.main_arg2) = m ((c.tc : Thread Cert.InprojSBRefIdeal.nD Cert.InprojSBRefIdeal.τ).loc Cert.InprojSBRefIdeal.main_arg2)
      ∧ r.2.mem ((c.tc : Thread Cert.InprojSBRefIdeal.nD Cert.InprojSBRefIdeal.τ).loc Cert.InprojSBRefIdeal.main_arg3) = m ((c.tc : Thread Cert.InprojSBRefIdeal.nD Cert.InprojSBRefIdeal.τ).loc Cert.InprojSBRefIdeal.main_arg3))
      ∧ r.2.sem = fun _ => 0)

def quiescent_Lf [hLf : Cert.Lf.Facts] : Prop :=
  ∀ (m : (ℓ : Loc Cert.Lf.nD Cert.Lf.τ Cert.Lf.sig) → Buf (Elt Bits) ℓ) (g : Dev Cert.Lf.nD → PrngReg), Pre_Lf m →
    θ_run (Cert.Lf.defs (F := Bits)) (onTc (τ := Cert.Lf.τ) (Cert.Lf.main (F := Bits))) ⟨m, fun _ => 0, g⟩ (fun r => (∀ c : Dev Cert.Lf.nD,
      r.2.mem ((c.tc : Thread Cert.Lf.nD Cert.Lf.τ).loc Cert.Lf.main_arg0) = m ((c.tc : Thread Cert.Lf.nD Cert.Lf.τ).loc Cert.Lf.main_arg0))
      ∧ r.2.sem = fun _ => 0)

def quiescent_LfIdeal [hLfIdeal : Cert.LfIdeal.Facts] : Prop :=
  ∀ (m : (ℓ : Loc Cert.LfIdeal.nD Cert.LfIdeal.τ Cert.LfIdeal.sig) → Buf (Elt Ideal) ℓ) (g : Dev Cert.LfIdeal.nD → PrngReg), Pre_LfIdeal m →
    θ_run (Cert.LfIdeal.defs (F := Ideal)) (onTc (τ := Cert.LfIdeal.τ) (Cert.LfIdeal.main (F := Ideal))) ⟨m, fun _ => 0, g⟩ (fun r => (∀ c : Dev Cert.LfIdeal.nD,
      r.2.mem ((c.tc : Thread Cert.LfIdeal.nD Cert.LfIdeal.τ).loc Cert.LfIdeal.main_arg0) = m ((c.tc : Thread Cert.LfIdeal.nD Cert.LfIdeal.τ).loc Cert.LfIdeal.main_arg0))
      ∧ r.2.sem = fun _ => 0)

def quiescent_LfIdeal_pre_finite_lf [hLfIdeal : Cert.LfIdeal.Facts] [hPre_finite_lf : Cert.Pre_finite_lf.Facts] : Prop :=
  ∀ (m : (ℓ : Loc Cert.LfIdeal.nD Cert.LfIdeal.τ Cert.LfIdeal.sig) → Buf (Elt Ideal) ℓ) (g : Dev Cert.LfIdeal.nD → PrngReg), Pre_LfIdeal_finite_lf m →
    θ_run (Cert.LfIdeal.defs (F := Ideal)) (onTc (τ := Cert.LfIdeal.τ) (Cert.LfIdeal.main (F := Ideal))) ⟨m, fun _ => 0, g⟩ (fun r => (∀ c : Dev Cert.LfIdeal.nD,
      r.2.mem ((c.tc : Thread Cert.LfIdeal.nD Cert.LfIdeal.τ).loc Cert.LfIdeal.main_arg0) = m ((c.tc : Thread Cert.LfIdeal.nD Cert.LfIdeal.τ).loc Cert.LfIdeal.main_arg0))
      ∧ r.2.sem = fun _ => 0)

def quiescent_LfRefIdeal [hLfRefIdeal : Cert.LfRefIdeal.Facts] : Prop :=
  ∀ (m : (ℓ : Loc Cert.LfRefIdeal.nD Cert.LfRefIdeal.τ Cert.LfRefIdeal.sig) → Buf (Elt Ideal) ℓ) (g : Dev Cert.LfRefIdeal.nD → PrngReg), Pre_LfRefIdeal m →
    θ_run (Cert.LfRefIdeal.defs (F := Ideal)) (onTc (τ := Cert.LfRefIdeal.τ) (Cert.LfRefIdeal.main (F := Ideal))) ⟨m, fun _ => 0, g⟩ (fun r => (∀ c : Dev Cert.LfRefIdeal.nD,
      r.2.mem ((c.tc : Thread Cert.LfRefIdeal.nD Cert.LfRefIdeal.τ).loc Cert.LfRefIdeal.main_arg0) = m ((c.tc : Thread Cert.LfRefIdeal.nD Cert.LfRefIdeal.τ).loc Cert.LfRefIdeal.main_arg0))
      ∧ r.2.sem = fun _ => 0)

def quiescent_LfRefIdeal_pre_finite_lf [hLfRefIdeal : Cert.LfRefIdeal.Facts] [hPre_finite_lf : Cert.Pre_finite_lf.Facts] : Prop :=
  ∀ (m : (ℓ : Loc Cert.LfRefIdeal.nD Cert.LfRefIdeal.τ Cert.LfRefIdeal.sig) → Buf (Elt Ideal) ℓ) (g : Dev Cert.LfRefIdeal.nD → PrngReg), Pre_LfRefIdeal_finite_lf m →
    θ_run (Cert.LfRefIdeal.defs (F := Ideal)) (onTc (τ := Cert.LfRefIdeal.τ) (Cert.LfRefIdeal.main (F := Ideal))) ⟨m, fun _ => 0, g⟩ (fun r => (∀ c : Dev Cert.LfRefIdeal.nD,
      r.2.mem ((c.tc : Thread Cert.LfRefIdeal.nD Cert.LfRefIdeal.τ).loc Cert.LfRefIdeal.main_arg0) = m ((c.tc : Thread Cert.LfRefIdeal.nD Cert.LfRefIdeal.τ).loc Cert.LfRefIdeal.main_arg0))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v4) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v38) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v18) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v19) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v1_0)) (v1 : (c : Dev Cert.InprojIdeal.nD) → Buf (Elt Ideal) ((c.tc : Thread Cert.InprojIdeal.nD Cert.InprojIdeal.τ).loc Cert.InprojIdeal.main_v1_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v1_0) = v0 c
          ∧ r.2.mem ((c.tc : Thread Cert.InprojIdeal.nD Cert.InprojIdeal.τ).loc Cert.InprojIdeal.main_v1_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v18) = v0 c
          ∧ r.2.mem ((c.tc : Thread Cert.InprojRefIdeal.nD Cert.InprojRefIdeal.τ).loc Cert.InprojRefIdeal.main_v21) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_MlpB_MlpBIdeal : Prop :=
  True

def algebraic_MlpBIdeal_MlpBRefIdeal [hMlpBIdeal : Cert.MlpBIdeal.Facts] [hMlpBRefIdeal : Cert.MlpBRefIdeal.Facts] : Prop :=
  ∀ (m : (ℓ : Loc Cert.MlpBIdeal.nD Cert.MlpBIdeal.τ Cert.MlpBIdeal.sig) → Buf (Elt Ideal) ℓ) (g : Dev Cert.MlpBIdeal.nD → PrngReg)
    (m' : (ℓ : Loc Cert.MlpBRefIdeal.nD Cert.MlpBRefIdeal.τ Cert.MlpBRefIdeal.sig) → Buf (Elt Ideal) ℓ) (g' : Dev Cert.MlpBRefIdeal.nD → PrngReg), Pre_MlpBIdeal m →
    (∀ c : Dev Cert.MlpBIdeal.nD,
      m' ((c.tc : Thread Cert.MlpBRefIdeal.nD Cert.MlpBRefIdeal.τ).loc Cert.MlpBRefIdeal.main_arg0) = m ((c.tc : Thread Cert.MlpBIdeal.nD Cert.MlpBIdeal.τ).loc Cert.MlpBIdeal.main_arg0)
      ∧ m' ((c.tc : Thread Cert.MlpBRefIdeal.nD Cert.MlpBRefIdeal.τ).loc Cert.MlpBRefIdeal.main_arg1) = m ((c.tc : Thread Cert.MlpBIdeal.nD Cert.MlpBIdeal.τ).loc Cert.MlpBIdeal.main_arg1)
      ∧ m' ((c.tc : Thread Cert.MlpBRefIdeal.nD Cert.MlpBRefIdeal.τ).loc Cert.MlpBRefIdeal.main_arg2) = m ((c.tc : Thread Cert.MlpBIdeal.nD Cert.MlpBIdeal.τ).loc Cert.MlpBIdeal.main_arg2)
      ∧ m' ((c.tc : Thread Cert.MlpBRefIdeal.nD Cert.MlpBRefIdeal.τ).loc Cert.MlpBRefIdeal.main_arg3) = m ((c.tc : Thread Cert.MlpBIdeal.nD Cert.MlpBIdeal.τ).loc Cert.MlpBIdeal.main_arg3)
      ∧ m' ((c.tc : Thread Cert.MlpBRefIdeal.nD Cert.MlpBRefIdeal.τ).loc Cert.MlpBRefIdeal.main_arg4) = m ((c.tc : Thread Cert.MlpBIdeal.nD Cert.MlpBIdeal.τ).loc Cert.MlpBIdeal.main_arg4)) →
    ∃ (v0 : (c : Dev Cert.MlpBIdeal.nD) → Buf (Elt Ideal) ((c.tc : Thread Cert.MlpBIdeal.nD Cert.MlpBIdeal.τ).loc Cert.MlpBIdeal.main_v4)),
      θ_run (Cert.MlpBIdeal.defs (F := Ideal)) (onTc (τ := Cert.MlpBIdeal.τ) (Cert.MlpBIdeal.main (F := Ideal))) ⟨m, fun _ => 0, g⟩ (fun r => ∀ c : Dev Cert.MlpBIdeal.nD,
          r.2.mem ((c.tc : Thread Cert.MlpBIdeal.nD Cert.MlpBIdeal.τ).loc Cert.MlpBIdeal.main_v4) = v0 c
          ∧ r.2.mem ((c.tc : Thread Cert.MlpBIdeal.nD Cert.MlpBIdeal.τ).loc Cert.MlpBIdeal.main_arg0) = m ((c.tc : Thread Cert.MlpBIdeal.nD Cert.MlpBIdeal.τ).loc Cert.MlpBIdeal.main_arg0)
          ∧ r.2.mem ((c.tc : Thread Cert.MlpBIdeal.nD Cert.MlpBIdeal.τ).loc Cert.MlpBIdeal.main_arg1) = m ((c.tc : Thread Cert.MlpBIdeal.nD Cert.MlpBIdeal.τ).loc Cert.MlpBIdeal.main_arg1)
          ∧ r.2.mem ((c.tc : Thread Cert.MlpBIdeal.nD Cert.MlpBIdeal.τ).loc Cert.MlpBIdeal.main_arg2) = m ((c.tc : Thread Cert.MlpBIdeal.nD Cert.MlpBIdeal.τ).loc Cert.MlpBIdeal.main_arg2)
          ∧ r.2.mem ((c.tc : Thread Cert.MlpBIdeal.nD Cert.MlpBIdeal.τ).loc Cert.MlpBIdeal.main_arg3) = m ((c.tc : Thread Cert.MlpBIdeal.nD Cert.MlpBIdeal.τ).loc Cert.MlpBIdeal.main_arg3)
          ∧ r.2.mem ((c.tc : Thread Cert.MlpBIdeal.nD Cert.MlpBIdeal.τ).loc Cert.MlpBIdeal.main_arg4) = m ((c.tc : Thread Cert.MlpBIdeal.nD Cert.MlpBIdeal.τ).loc Cert.MlpBIdeal.main_arg4))
      ∧ θ_run (Cert.MlpBRefIdeal.defs (F := Ideal)) (onTc (τ := Cert.MlpBRefIdeal.τ) (Cert.MlpBRefIdeal.main (F := Ideal))) ⟨m', fun _ => 0, g'⟩ (fun r => ∀ c : Dev Cert.MlpBRefIdeal.nD,
          r.2.mem ((c.tc : Thread Cert.MlpBRefIdeal.nD Cert.MlpBRefIdeal.τ).loc Cert.MlpBRefIdeal.main_v38) = v0 c
          ∧ r.2.mem ((c.tc : Thread Cert.MlpBRefIdeal.nD Cert.MlpBRefIdeal.τ).loc Cert.MlpBRefIdeal.main_arg0) = m' ((c.tc : Thread Cert.MlpBRefIdeal.nD Cert.MlpBRefIdeal.τ).loc Cert.MlpBRefIdeal.main_arg0)
          ∧ r.2.mem ((c.tc : Thread Cert.MlpBRefIdeal.nD Cert.MlpBRefIdeal.τ).loc Cert.MlpBRefIdeal.main_arg1) = m' ((c.tc : Thread Cert.MlpBRefIdeal.nD Cert.MlpBRefIdeal.τ).loc Cert.MlpBRefIdeal.main_arg1)
          ∧ r.2.mem ((c.tc : Thread Cert.MlpBRefIdeal.nD Cert.MlpBRefIdeal.τ).loc Cert.MlpBRefIdeal.main_arg2) = m' ((c.tc : Thread Cert.MlpBRefIdeal.nD Cert.MlpBRefIdeal.τ).loc Cert.MlpBRefIdeal.main_arg2)
          ∧ r.2.mem ((c.tc : Thread Cert.MlpBRefIdeal.nD Cert.MlpBRefIdeal.τ).loc Cert.MlpBRefIdeal.main_arg3) = m' ((c.tc : Thread Cert.MlpBRefIdeal.nD Cert.MlpBRefIdeal.τ).loc Cert.MlpBRefIdeal.main_arg3)
          ∧ r.2.mem ((c.tc : Thread Cert.MlpBRefIdeal.nD Cert.MlpBRefIdeal.τ).loc Cert.MlpBRefIdeal.main_arg4) = m' ((c.tc : Thread Cert.MlpBRefIdeal.nD Cert.MlpBRefIdeal.τ).loc Cert.MlpBRefIdeal.main_arg4))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)
      ∧ m' ((c.tc : Thread Cert.MergeBRefIdeal.nD Cert.MergeBRefIdeal.τ).loc Cert.MergeBRefIdeal.main_arg4) = m ((c.tc : Thread Cert.MergeBIdeal.nD Cert.MergeBIdeal.τ).loc Cert.MergeBIdeal.main_arg4)) →
    ∃ (v0 : (c : Dev Cert.MergeBIdeal.nD) → Buf (Elt Ideal) ((c.tc : Thread Cert.MergeBIdeal.nD Cert.MergeBIdeal.τ).loc Cert.MergeBIdeal.main_v1)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v1) = v0 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
          ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v18) = v0 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3)
          ∧ r.2.mem ((c.tc : Thread Cert.MergeBRefIdeal.nD Cert.MergeBRefIdeal.τ).loc Cert.MergeBRefIdeal.main_arg4) = m' ((c.tc : Thread Cert.MergeBRefIdeal.nD Cert.MergeBRefIdeal.τ).loc Cert.MergeBRefIdeal.main_arg4))

def preserves_OutprojB_OutprojBIdeal : Prop :=
  True

def algebraic_OutprojBIdeal_OutprojBRefIdeal [hOutprojBIdeal : Cert.OutprojBIdeal.Facts] [hOutprojBRefIdeal : Cert.OutprojBRefIdeal.Facts] : Prop :=
  ∀ (m : (ℓ : Loc Cert.OutprojBIdeal.nD Cert.OutprojBIdeal.τ Cert.OutprojBIdeal.sig) → Buf (Elt Ideal) ℓ) (g : Dev Cert.OutprojBIdeal.nD → PrngReg)
    (m' : (ℓ : Loc Cert.OutprojBRefIdeal.nD Cert.OutprojBRefIdeal.τ Cert.OutprojBRefIdeal.sig) → Buf (Elt Ideal) ℓ) (g' : Dev Cert.OutprojBRefIdeal.nD → PrngReg), Pre_OutprojBIdeal m →
    (∀ c : Dev Cert.OutprojBIdeal.nD,
      m' ((c.tc : Thread Cert.OutprojBRefIdeal.nD Cert.OutprojBRefIdeal.τ).loc Cert.OutprojBRefIdeal.main_arg0) = m ((c.tc : Thread Cert.OutprojBIdeal.nD Cert.OutprojBIdeal.τ).loc Cert.OutprojBIdeal.main_arg0)
      ∧ m' ((c.tc : Thread Cert.OutprojBRefIdeal.nD Cert.OutprojBRefIdeal.τ).loc Cert.OutprojBRefIdeal.main_arg1) = m ((c.tc : Thread Cert.OutprojBIdeal.nD Cert.OutprojBIdeal.τ).loc Cert.OutprojBIdeal.main_arg1)
      ∧ m' ((c.tc : Thread Cert.OutprojBRefIdeal.nD Cert.OutprojBRefIdeal.τ).loc Cert.OutprojBRefIdeal.main_arg2) = m ((c.tc : Thread Cert.OutprojBIdeal.nD Cert.OutprojBIdeal.τ).loc Cert.OutprojBIdeal.main_arg2)
      ∧ m' ((c.tc : Thread Cert.OutprojBRefIdeal.nD Cert.OutprojBRefIdeal.τ).loc Cert.OutprojBRefIdeal.main_arg3) = m ((c.tc : Thread Cert.OutprojBIdeal.nD Cert.OutprojBIdeal.τ).loc Cert.OutprojBIdeal.main_arg3)) →
    ∃ (v0 : (c : Dev Cert.OutprojBIdeal.nD) → Buf (Elt Ideal) ((c.tc : Thread Cert.OutprojBIdeal.nD Cert.OutprojBIdeal.τ).loc Cert.OutprojBIdeal.main_v2)),
      θ_run (Cert.OutprojBIdeal.defs (F := Ideal)) (onTc (τ := Cert.OutprojBIdeal.τ) (Cert.OutprojBIdeal.main (F := Ideal))) ⟨m, fun _ => 0, g⟩ (fun r => ∀ c : Dev Cert.OutprojBIdeal.nD,
          r.2.mem ((c.tc : Thread Cert.OutprojBIdeal.nD Cert.OutprojBIdeal.τ).loc Cert.OutprojBIdeal.main_v2) = v0 c
          ∧ r.2.mem ((c.tc : Thread Cert.OutprojBIdeal.nD Cert.OutprojBIdeal.τ).loc Cert.OutprojBIdeal.main_arg0) = m ((c.tc : Thread Cert.OutprojBIdeal.nD Cert.OutprojBIdeal.τ).loc Cert.OutprojBIdeal.main_arg0)
          ∧ r.2.mem ((c.tc : Thread Cert.OutprojBIdeal.nD Cert.OutprojBIdeal.τ).loc Cert.OutprojBIdeal.main_arg1) = m ((c.tc : Thread Cert.OutprojBIdeal.nD Cert.OutprojBIdeal.τ).loc Cert.OutprojBIdeal.main_arg1)
          ∧ r.2.mem ((c.tc : Thread Cert.OutprojBIdeal.nD Cert.OutprojBIdeal.τ).loc Cert.OutprojBIdeal.main_arg2) = m ((c.tc : Thread Cert.OutprojBIdeal.nD Cert.OutprojBIdeal.τ).loc Cert.OutprojBIdeal.main_arg2)
          ∧ r.2.mem ((c.tc : Thread Cert.OutprojBIdeal.nD Cert.OutprojBIdeal.τ).loc Cert.OutprojBIdeal.main_arg3) = m ((c.tc : Thread Cert.OutprojBIdeal.nD Cert.OutprojBIdeal.τ).loc Cert.OutprojBIdeal.main_arg3))
      ∧ θ_run (Cert.OutprojBRefIdeal.defs (F := Ideal)) (onTc (τ := Cert.OutprojBRefIdeal.τ) (Cert.OutprojBRefIdeal.main (F := Ideal))) ⟨m', fun _ => 0, g'⟩ (fun r => ∀ c : Dev Cert.OutprojBRefIdeal.nD,
          r.2.mem ((c.tc : Thread Cert.OutprojBRefIdeal.nD Cert.OutprojBRefIdeal.τ).loc Cert.OutprojBRefIdeal.main_v19) = v0 c
          ∧ r.2.mem ((c.tc : Thread Cert.OutprojBRefIdeal.nD Cert.OutprojBRefIdeal.τ).loc Cert.OutprojBRefIdeal.main_arg0) = m' ((c.tc : Thread Cert.OutprojBRefIdeal.nD Cert.OutprojBRefIdeal.τ).loc Cert.OutprojBRefIdeal.main_arg0)
          ∧ r.2.mem ((c.tc : Thread Cert.OutprojBRefIdeal.nD Cert.OutprojBRefIdeal.τ).loc Cert.OutprojBRefIdeal.main_arg1) = m' ((c.tc : Thread Cert.OutprojBRefIdeal.nD Cert.OutprojBRefIdeal.τ).loc Cert.OutprojBRefIdeal.main_arg1)
          ∧ r.2.mem ((c.tc : Thread Cert.OutprojBRefIdeal.nD Cert.OutprojBRefIdeal.τ).loc Cert.OutprojBRefIdeal.main_arg2) = m' ((c.tc : Thread Cert.OutprojBRefIdeal.nD Cert.OutprojBRefIdeal.τ).loc Cert.OutprojBRefIdeal.main_arg2)
          ∧ r.2.mem ((c.tc : Thread Cert.OutprojBRefIdeal.nD Cert.OutprojBRefIdeal.τ).loc Cert.OutprojBRefIdeal.main_arg3) = m' ((c.tc : Thread Cert.OutprojBRefIdeal.nD Cert.OutprojBRefIdeal.τ).loc Cert.OutprojBRefIdeal.main_arg3))

def preserves_InprojB_InprojBIdeal : Prop :=
  True

def algebraic_InprojBIdeal_InprojBRefIdeal [hInprojBIdeal : Cert.InprojBIdeal.Facts] [hInprojBRefIdeal : Cert.InprojBRefIdeal.Facts] : Prop :=
  ∀ (m : (ℓ : Loc Cert.InprojBIdeal.nD Cert.InprojBIdeal.τ Cert.InprojBIdeal.sig) → Buf (Elt Ideal) ℓ) (g : Dev Cert.InprojBIdeal.nD → PrngReg)
    (m' : (ℓ : Loc Cert.InprojBRefIdeal.nD Cert.InprojBRefIdeal.τ Cert.InprojBRefIdeal.sig) → Buf (Elt Ideal) ℓ) (g' : Dev Cert.InprojBRefIdeal.nD → PrngReg), Pre_InprojBIdeal m →
    (∀ c : Dev Cert.InprojBIdeal.nD,
      m' ((c.tc : Thread Cert.InprojBRefIdeal.nD Cert.InprojBRefIdeal.τ).loc Cert.InprojBRefIdeal.main_arg0) = m ((c.tc : Thread Cert.InprojBIdeal.nD Cert.InprojBIdeal.τ).loc Cert.InprojBIdeal.main_arg0)
      ∧ m' ((c.tc : Thread Cert.InprojBRefIdeal.nD Cert.InprojBRefIdeal.τ).loc Cert.InprojBRefIdeal.main_arg1) = m ((c.tc : Thread Cert.InprojBIdeal.nD Cert.InprojBIdeal.τ).loc Cert.InprojBIdeal.main_arg1)
      ∧ m' ((c.tc : Thread Cert.InprojBRefIdeal.nD Cert.InprojBRefIdeal.τ).loc Cert.InprojBRefIdeal.main_arg2) = m ((c.tc : Thread Cert.InprojBIdeal.nD Cert.InprojBIdeal.τ).loc Cert.InprojBIdeal.main_arg2)
      ∧ m' ((c.tc : Thread Cert.InprojBRefIdeal.nD Cert.InprojBRefIdeal.τ).loc Cert.InprojBRefIdeal.main_arg3) = m ((c.tc : Thread Cert.InprojBIdeal.nD Cert.InprojBIdeal.τ).loc Cert.InprojBIdeal.main_arg3)) →
    ∃ (v0 : (c : Dev Cert.InprojBIdeal.nD) → Buf (Elt Ideal) ((c.tc : Thread Cert.InprojBIdeal.nD Cert.InprojBIdeal.τ).loc Cert.InprojBIdeal.main_v1_0)) (v1 : (c : Dev Cert.InprojBIdeal.nD) → Buf (Elt Ideal) ((c.tc : Thread Cert.InprojBIdeal.nD Cert.InprojBIdeal.τ).loc Cert.InprojBIdeal.main_v1_1)),
      θ_run (Cert.InprojBIdeal.defs (F := Ideal)) (onTc (τ := Cert.InprojBIdeal.τ) (Cert.InprojBIdeal.main (F := Ideal))) ⟨m, fun _ => 0, g⟩ (fun r => ∀ c : Dev Cert.InprojBIdeal.nD,
          r.2.mem ((c.tc : Thread Cert.InprojBIdeal.nD Cert.InprojBIdeal.τ).loc Cert.InprojBIdeal.main_v1_0) = v0 c
          ∧ r.2.mem ((c.tc : Thread Cert.InprojBIdeal.nD Cert.InprojBIdeal.τ).loc Cert.InprojBIdeal.main_v1_1) = v1 c
          ∧ r.2.mem ((c.tc : Thread Cert.InprojBIdeal.nD Cert.InprojBIdeal.τ).loc Cert.InprojBIdeal.main_arg0) = m ((c.tc : Thread Cert.InprojBIdeal.nD Cert.InprojBIdeal.τ).loc Cert.InprojBIdeal.main_arg0)
          ∧ r.2.mem ((c.tc : Thread Cert.InprojBIdeal.nD Cert.InprojBIdeal.τ).loc Cert.InprojBIdeal.main_arg1) = m ((c.tc : Thread Cert.InprojBIdeal.nD Cert.InprojBIdeal.τ).loc Cert.InprojBIdeal.main_arg1)
          ∧ r.2.mem ((c.tc : Thread Cert.InprojBIdeal.nD Cert.InprojBIdeal.τ).loc Cert.InprojBIdeal.main_arg2) = m ((c.tc : Thread Cert.InprojBIdeal.nD Cert.InprojBIdeal.τ).loc Cert.InprojBIdeal.main_arg2)
          ∧ r.2.mem ((c.tc : Thread Cert.InprojBIdeal.nD Cert.InprojBIdeal.τ).loc Cert.InprojBIdeal.main_arg3) = m ((c.tc : Thread Cert.InprojBIdeal.nD Cert.InprojBIdeal.τ).loc Cert.InprojBIdeal.main_arg3))
      ∧ θ_run (Cert.InprojBRefIdeal.defs (F := Ideal)) (onTc (τ := Cert.InprojBRefIdeal.τ) (Cert.InprojBRefIdeal.main (F := Ideal))) ⟨m', fun _ => 0, g'⟩ (fun r => ∀ c : Dev Cert.InprojBRefIdeal.nD,
          r.2.mem ((c.tc : Thread Cert.InprojBRefIdeal.nD Cert.InprojBRefIdeal.τ).loc Cert.InprojBRefIdeal.main_v18) = v0 c
          ∧ r.2.mem ((c.tc : Thread Cert.InprojBRefIdeal.nD Cert.InprojBRefIdeal.τ).loc Cert.InprojBRefIdeal.main_v21) = v1 c
          ∧ r.2.mem ((c.tc : Thread Cert.InprojBRefIdeal.nD Cert.InprojBRefIdeal.τ).loc Cert.InprojBRefIdeal.main_arg0) = m' ((c.tc : Thread Cert.InprojBRefIdeal.nD Cert.InprojBRefIdeal.τ).loc Cert.InprojBRefIdeal.main_arg0)
          ∧ r.2.mem ((c.tc : Thread Cert.InprojBRefIdeal.nD Cert.InprojBRefIdeal.τ).loc Cert.InprojBRefIdeal.main_arg1) = m' ((c.tc : Thread Cert.InprojBRefIdeal.nD Cert.InprojBRefIdeal.τ).loc Cert.InprojBRefIdeal.main_arg1)
          ∧ r.2.mem ((c.tc : Thread Cert.InprojBRefIdeal.nD Cert.InprojBRefIdeal.τ).loc Cert.InprojBRefIdeal.main_arg2) = m' ((c.tc : Thread Cert.InprojBRefIdeal.nD Cert.InprojBRefIdeal.τ).loc Cert.InprojBRefIdeal.main_arg2)
          ∧ r.2.mem ((c.tc : Thread Cert.InprojBRefIdeal.nD Cert.InprojBRefIdeal.τ).loc Cert.InprojBRefIdeal.main_arg3) = m' ((c.tc : Thread Cert.InprojBRefIdeal.nD Cert.InprojBRefIdeal.τ).loc Cert.InprojBRefIdeal.main_arg3))

def preserves_MlpS_MlpSIdeal : Prop :=
  True

def algebraic_MlpSIdeal_MlpSRefIdeal [hMlpSIdeal : Cert.MlpSIdeal.Facts] [hMlpSRefIdeal : Cert.MlpSRefIdeal.Facts] : Prop :=
  ∀ (m : (ℓ : Loc Cert.MlpSIdeal.nD Cert.MlpSIdeal.τ Cert.MlpSIdeal.sig) → Buf (Elt Ideal) ℓ) (g : Dev Cert.MlpSIdeal.nD → PrngReg)
    (m' : (ℓ : Loc Cert.MlpSRefIdeal.nD Cert.MlpSRefIdeal.τ Cert.MlpSRefIdeal.sig) → Buf (Elt Ideal) ℓ) (g' : Dev Cert.MlpSRefIdeal.nD → PrngReg), Pre_MlpSIdeal m →
    (∀ c : Dev Cert.MlpSIdeal.nD,
      m' ((c.tc : Thread Cert.MlpSRefIdeal.nD Cert.MlpSRefIdeal.τ).loc Cert.MlpSRefIdeal.main_arg0) = m ((c.tc : Thread Cert.MlpSIdeal.nD Cert.MlpSIdeal.τ).loc Cert.MlpSIdeal.main_arg0)
      ∧ m' ((c.tc : Thread Cert.MlpSRefIdeal.nD Cert.MlpSRefIdeal.τ).loc Cert.MlpSRefIdeal.main_arg1) = m ((c.tc : Thread Cert.MlpSIdeal.nD Cert.MlpSIdeal.τ).loc Cert.MlpSIdeal.main_arg1)
      ∧ m' ((c.tc : Thread Cert.MlpSRefIdeal.nD Cert.MlpSRefIdeal.τ).loc Cert.MlpSRefIdeal.main_arg2) = m ((c.tc : Thread Cert.MlpSIdeal.nD Cert.MlpSIdeal.τ).loc Cert.MlpSIdeal.main_arg2)
      ∧ m' ((c.tc : Thread Cert.MlpSRefIdeal.nD Cert.MlpSRefIdeal.τ).loc Cert.MlpSRefIdeal.main_arg3) = m ((c.tc : Thread Cert.MlpSIdeal.nD Cert.MlpSIdeal.τ).loc Cert.MlpSIdeal.main_arg3)
      ∧ m' ((c.tc : Thread Cert.MlpSRefIdeal.nD Cert.MlpSRefIdeal.τ).loc Cert.MlpSRefIdeal.main_arg4) = m ((c.tc : Thread Cert.MlpSIdeal.nD Cert.MlpSIdeal.τ).loc Cert.MlpSIdeal.main_arg4)) →
    ∃ (v0 : (c : Dev Cert.MlpSIdeal.nD) → Buf (Elt Ideal) ((c.tc : Thread Cert.MlpSIdeal.nD Cert.MlpSIdeal.τ).loc Cert.MlpSIdeal.main_v4)),
      θ_run (Cert.MlpSIdeal.defs (F := Ideal)) (onTc (τ := Cert.MlpSIdeal.τ) (Cert.MlpSIdeal.main (F := Ideal))) ⟨m, fun _ => 0, g⟩ (fun r => ∀ c : Dev Cert.MlpSIdeal.nD,
          r.2.mem ((c.tc : Thread Cert.MlpSIdeal.nD Cert.MlpSIdeal.τ).loc Cert.MlpSIdeal.main_v4) = v0 c
          ∧ r.2.mem ((c.tc : Thread Cert.MlpSIdeal.nD Cert.MlpSIdeal.τ).loc Cert.MlpSIdeal.main_arg0) = m ((c.tc : Thread Cert.MlpSIdeal.nD Cert.MlpSIdeal.τ).loc Cert.MlpSIdeal.main_arg0)
          ∧ r.2.mem ((c.tc : Thread Cert.MlpSIdeal.nD Cert.MlpSIdeal.τ).loc Cert.MlpSIdeal.main_arg1) = m ((c.tc : Thread Cert.MlpSIdeal.nD Cert.MlpSIdeal.τ).loc Cert.MlpSIdeal.main_arg1)
          ∧ r.2.mem ((c.tc : Thread Cert.MlpSIdeal.nD Cert.MlpSIdeal.τ).loc Cert.MlpSIdeal.main_arg2) = m ((c.tc : Thread Cert.MlpSIdeal.nD Cert.MlpSIdeal.τ).loc Cert.MlpSIdeal.main_arg2)
          ∧ r.2.mem ((c.tc : Thread Cert.MlpSIdeal.nD Cert.MlpSIdeal.τ).loc Cert.MlpSIdeal.main_arg3) = m ((c.tc : Thread Cert.MlpSIdeal.nD Cert.MlpSIdeal.τ).loc Cert.MlpSIdeal.main_arg3)
          ∧ r.2.mem ((c.tc : Thread Cert.MlpSIdeal.nD Cert.MlpSIdeal.τ).loc Cert.MlpSIdeal.main_arg4) = m ((c.tc : Thread Cert.MlpSIdeal.nD Cert.MlpSIdeal.τ).loc Cert.MlpSIdeal.main_arg4))
      ∧ θ_run (Cert.MlpSRefIdeal.defs (F := Ideal)) (onTc (τ := Cert.MlpSRefIdeal.τ) (Cert.MlpSRefIdeal.main (F := Ideal))) ⟨m', fun _ => 0, g'⟩ (fun r => ∀ c : Dev Cert.MlpSRefIdeal.nD,
          r.2.mem ((c.tc : Thread Cert.MlpSRefIdeal.nD Cert.MlpSRefIdeal.τ).loc Cert.MlpSRefIdeal.main_v38) = v0 c
          ∧ r.2.mem ((c.tc : Thread Cert.MlpSRefIdeal.nD Cert.MlpSRefIdeal.τ).loc Cert.MlpSRefIdeal.main_arg0) = m' ((c.tc : Thread Cert.MlpSRefIdeal.nD Cert.MlpSRefIdeal.τ).loc Cert.MlpSRefIdeal.main_arg0)
          ∧ r.2.mem ((c.tc : Thread Cert.MlpSRefIdeal.nD Cert.MlpSRefIdeal.τ).loc Cert.MlpSRefIdeal.main_arg1) = m' ((c.tc : Thread Cert.MlpSRefIdeal.nD Cert.MlpSRefIdeal.τ).loc Cert.MlpSRefIdeal.main_arg1)
          ∧ r.2.mem ((c.tc : Thread Cert.MlpSRefIdeal.nD Cert.MlpSRefIdeal.τ).loc Cert.MlpSRefIdeal.main_arg2) = m' ((c.tc : Thread Cert.MlpSRefIdeal.nD Cert.MlpSRefIdeal.τ).loc Cert.MlpSRefIdeal.main_arg2)
          ∧ r.2.mem ((c.tc : Thread Cert.MlpSRefIdeal.nD Cert.MlpSRefIdeal.τ).loc Cert.MlpSRefIdeal.main_arg3) = m' ((c.tc : Thread Cert.MlpSRefIdeal.nD Cert.MlpSRefIdeal.τ).loc Cert.MlpSRefIdeal.main_arg3)
          ∧ r.2.mem ((c.tc : Thread Cert.MlpSRefIdeal.nD Cert.MlpSRefIdeal.τ).loc Cert.MlpSRefIdeal.main_arg4) = m' ((c.tc : Thread Cert.MlpSRefIdeal.nD Cert.MlpSRefIdeal.τ).loc Cert.MlpSRefIdeal.main_arg4))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)) →
    ∃ (v0 : (c : Dev Cert.MergeSIdeal.nD) → Buf (Elt Ideal) ((c.tc : Thread Cert.MergeSIdeal.nD Cert.MergeSIdeal.τ).loc Cert.MergeSIdeal.main_v1)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v1) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v18) = v0 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4))

def preserves_OutprojS_OutprojSIdeal : Prop :=
  True

def algebraic_OutprojSIdeal_OutprojSRefIdeal [hOutprojSIdeal : Cert.OutprojSIdeal.Facts] [hOutprojSRefIdeal : Cert.OutprojSRefIdeal.Facts] : Prop :=
  ∀ (m : (ℓ : Loc Cert.OutprojSIdeal.nD Cert.OutprojSIdeal.τ Cert.OutprojSIdeal.sig) → Buf (Elt Ideal) ℓ) (g : Dev Cert.OutprojSIdeal.nD → PrngReg)
    (m' : (ℓ : Loc Cert.OutprojSRefIdeal.nD Cert.OutprojSRefIdeal.τ Cert.OutprojSRefIdeal.sig) → Buf (Elt Ideal) ℓ) (g' : Dev Cert.OutprojSRefIdeal.nD → PrngReg), Pre_OutprojSIdeal m →
    (∀ c : Dev Cert.OutprojSIdeal.nD,
      m' ((c.tc : Thread Cert.OutprojSRefIdeal.nD Cert.OutprojSRefIdeal.τ).loc Cert.OutprojSRefIdeal.main_arg0) = m ((c.tc : Thread Cert.OutprojSIdeal.nD Cert.OutprojSIdeal.τ).loc Cert.OutprojSIdeal.main_arg0)
      ∧ m' ((c.tc : Thread Cert.OutprojSRefIdeal.nD Cert.OutprojSRefIdeal.τ).loc Cert.OutprojSRefIdeal.main_arg1) = m ((c.tc : Thread Cert.OutprojSIdeal.nD Cert.OutprojSIdeal.τ).loc Cert.OutprojSIdeal.main_arg1)
      ∧ m' ((c.tc : Thread Cert.OutprojSRefIdeal.nD Cert.OutprojSRefIdeal.τ).loc Cert.OutprojSRefIdeal.main_arg2) = m ((c.tc : Thread Cert.OutprojSIdeal.nD Cert.OutprojSIdeal.τ).loc Cert.OutprojSIdeal.main_arg2)
      ∧ m' ((c.tc : Thread Cert.OutprojSRefIdeal.nD Cert.OutprojSRefIdeal.τ).loc Cert.OutprojSRefIdeal.main_arg3) = m ((c.tc : Thread Cert.OutprojSIdeal.nD Cert.OutprojSIdeal.τ).loc Cert.OutprojSIdeal.main_arg3)) →
    ∃ (v0 : (c : Dev Cert.OutprojSIdeal.nD) → Buf (Elt Ideal) ((c.tc : Thread Cert.OutprojSIdeal.nD Cert.OutprojSIdeal.τ).loc Cert.OutprojSIdeal.main_v2)),
      θ_run (Cert.OutprojSIdeal.defs (F := Ideal)) (onTc (τ := Cert.OutprojSIdeal.τ) (Cert.OutprojSIdeal.main (F := Ideal))) ⟨m, fun _ => 0, g⟩ (fun r => ∀ c : Dev Cert.OutprojSIdeal.nD,
          r.2.mem ((c.tc : Thread Cert.OutprojSIdeal.nD Cert.OutprojSIdeal.τ).loc Cert.OutprojSIdeal.main_v2) = v0 c
          ∧ r.2.mem ((c.tc : Thread Cert.OutprojSIdeal.nD Cert.OutprojSIdeal.τ).loc Cert.OutprojSIdeal.main_arg0) = m ((c.tc : Thread Cert.OutprojSIdeal.nD Cert.OutprojSIdeal.τ).loc Cert.OutprojSIdeal.main_arg0)
          ∧ r.2.mem ((c.tc : Thread Cert.OutprojSIdeal.nD Cert.OutprojSIdeal.τ).loc Cert.OutprojSIdeal.main_arg1) = m ((c.tc : Thread Cert.OutprojSIdeal.nD Cert.OutprojSIdeal.τ).loc Cert.OutprojSIdeal.main_arg1)
          ∧ r.2.mem ((c.tc : Thread Cert.OutprojSIdeal.nD Cert.OutprojSIdeal.τ).loc Cert.OutprojSIdeal.main_arg2) = m ((c.tc : Thread Cert.OutprojSIdeal.nD Cert.OutprojSIdeal.τ).loc Cert.OutprojSIdeal.main_arg2)
          ∧ r.2.mem ((c.tc : Thread Cert.OutprojSIdeal.nD Cert.OutprojSIdeal.τ).loc Cert.OutprojSIdeal.main_arg3) = m ((c.tc : Thread Cert.OutprojSIdeal.nD Cert.OutprojSIdeal.τ).loc Cert.OutprojSIdeal.main_arg3))
      ∧ θ_run (Cert.OutprojSRefIdeal.defs (F := Ideal)) (onTc (τ := Cert.OutprojSRefIdeal.τ) (Cert.OutprojSRefIdeal.main (F := Ideal))) ⟨m', fun _ => 0, g'⟩ (fun r => ∀ c : Dev Cert.OutprojSRefIdeal.nD,
          r.2.mem ((c.tc : Thread Cert.OutprojSRefIdeal.nD Cert.OutprojSRefIdeal.τ).loc Cert.OutprojSRefIdeal.main_v19) = v0 c
          ∧ r.2.mem ((c.tc : Thread Cert.OutprojSRefIdeal.nD Cert.OutprojSRefIdeal.τ).loc Cert.OutprojSRefIdeal.main_arg0) = m' ((c.tc : Thread Cert.OutprojSRefIdeal.nD Cert.OutprojSRefIdeal.τ).loc Cert.OutprojSRefIdeal.main_arg0)
          ∧ r.2.mem ((c.tc : Thread Cert.OutprojSRefIdeal.nD Cert.OutprojSRefIdeal.τ).loc Cert.OutprojSRefIdeal.main_arg1) = m' ((c.tc : Thread Cert.OutprojSRefIdeal.nD Cert.OutprojSRefIdeal.τ).loc Cert.OutprojSRefIdeal.main_arg1)
          ∧ r.2.mem ((c.tc : Thread Cert.OutprojSRefIdeal.nD Cert.OutprojSRefIdeal.τ).loc Cert.OutprojSRefIdeal.main_arg2) = m' ((c.tc : Thread Cert.OutprojSRefIdeal.nD Cert.OutprojSRefIdeal.τ).loc Cert.OutprojSRefIdeal.main_arg2)
          ∧ r.2.mem ((c.tc : Thread Cert.OutprojSRefIdeal.nD Cert.OutprojSRefIdeal.τ).loc Cert.OutprojSRefIdeal.main_arg3) = m' ((c.tc : Thread Cert.OutprojSRefIdeal.nD Cert.OutprojSRefIdeal.τ).loc Cert.OutprojSRefIdeal.main_arg3))

def preserves_InprojS_InprojSIdeal : Prop :=
  True

def algebraic_InprojSIdeal_InprojSRefIdeal [hInprojSIdeal : Cert.InprojSIdeal.Facts] [hInprojSRefIdeal : Cert.InprojSRefIdeal.Facts] : Prop :=
  ∀ (m : (ℓ : Loc Cert.InprojSIdeal.nD Cert.InprojSIdeal.τ Cert.InprojSIdeal.sig) → Buf (Elt Ideal) ℓ) (g : Dev Cert.InprojSIdeal.nD → PrngReg)
    (m' : (ℓ : Loc Cert.InprojSRefIdeal.nD Cert.InprojSRefIdeal.τ Cert.InprojSRefIdeal.sig) → Buf (Elt Ideal) ℓ) (g' : Dev Cert.InprojSRefIdeal.nD → PrngReg), Pre_InprojSIdeal m →
    (∀ c : Dev Cert.InprojSIdeal.nD,
      m' ((c.tc : Thread Cert.InprojSRefIdeal.nD Cert.InprojSRefIdeal.τ).loc Cert.InprojSRefIdeal.main_arg0) = m ((c.tc : Thread Cert.InprojSIdeal.nD Cert.InprojSIdeal.τ).loc Cert.InprojSIdeal.main_arg0)
      ∧ m' ((c.tc : Thread Cert.InprojSRefIdeal.nD Cert.InprojSRefIdeal.τ).loc Cert.InprojSRefIdeal.main_arg1) = m ((c.tc : Thread Cert.InprojSIdeal.nD Cert.InprojSIdeal.τ).loc Cert.InprojSIdeal.main_arg1)
      ∧ m' ((c.tc : Thread Cert.InprojSRefIdeal.nD Cert.InprojSRefIdeal.τ).loc Cert.InprojSRefIdeal.main_arg2) = m ((c.tc : Thread Cert.InprojSIdeal.nD Cert.InprojSIdeal.τ).loc Cert.InprojSIdeal.main_arg2)
      ∧ m' ((c.tc : Thread Cert.InprojSRefIdeal.nD Cert.InprojSRefIdeal.τ).loc Cert.InprojSRefIdeal.main_arg3) = m ((c.tc : Thread Cert.InprojSIdeal.nD Cert.InprojSIdeal.τ).loc Cert.InprojSIdeal.main_arg3)) →
    ∃ (v0 : (c : Dev Cert.InprojSIdeal.nD) → Buf (Elt Ideal) ((c.tc : Thread Cert.InprojSIdeal.nD Cert.InprojSIdeal.τ).loc Cert.InprojSIdeal.main_v1_0)) (v1 : (c : Dev Cert.InprojSIdeal.nD) → Buf (Elt Ideal) ((c.tc : Thread Cert.InprojSIdeal.nD Cert.InprojSIdeal.τ).loc Cert.InprojSIdeal.main_v1_1)),
      θ_run (Cert.InprojSIdeal.defs (F := Ideal)) (onTc (τ := Cert.InprojSIdeal.τ) (Cert.InprojSIdeal.main (F := Ideal))) ⟨m, fun _ => 0, g⟩ (fun r => ∀ c : Dev Cert.InprojSIdeal.nD,
          r.2.mem ((c.tc : Thread Cert.InprojSIdeal.nD Cert.InprojSIdeal.τ).loc Cert.InprojSIdeal.main_v1_0) = v0 c
          ∧ r.2.mem ((c.tc : Thread Cert.InprojSIdeal.nD Cert.InprojSIdeal.τ).loc Cert.InprojSIdeal.main_v1_1) = v1 c
          ∧ r.2.mem ((c.tc : Thread Cert.InprojSIdeal.nD Cert.InprojSIdeal.τ).loc Cert.InprojSIdeal.main_arg0) = m ((c.tc : Thread Cert.InprojSIdeal.nD Cert.InprojSIdeal.τ).loc Cert.InprojSIdeal.main_arg0)
          ∧ r.2.mem ((c.tc : Thread Cert.InprojSIdeal.nD Cert.InprojSIdeal.τ).loc Cert.InprojSIdeal.main_arg1) = m ((c.tc : Thread Cert.InprojSIdeal.nD Cert.InprojSIdeal.τ).loc Cert.InprojSIdeal.main_arg1)
          ∧ r.2.mem ((c.tc : Thread Cert.InprojSIdeal.nD Cert.InprojSIdeal.τ).loc Cert.InprojSIdeal.main_arg2) = m ((c.tc : Thread Cert.InprojSIdeal.nD Cert.InprojSIdeal.τ).loc Cert.InprojSIdeal.main_arg2)
          ∧ r.2.mem ((c.tc : Thread Cert.InprojSIdeal.nD Cert.InprojSIdeal.τ).loc Cert.InprojSIdeal.main_arg3) = m ((c.tc : Thread Cert.InprojSIdeal.nD Cert.InprojSIdeal.τ).loc Cert.InprojSIdeal.main_arg3))
      ∧ θ_run (Cert.InprojSRefIdeal.defs (F := Ideal)) (onTc (τ := Cert.InprojSRefIdeal.τ) (Cert.InprojSRefIdeal.main (F := Ideal))) ⟨m', fun _ => 0, g'⟩ (fun r => ∀ c : Dev Cert.InprojSRefIdeal.nD,
          r.2.mem ((c.tc : Thread Cert.InprojSRefIdeal.nD Cert.InprojSRefIdeal.τ).loc Cert.InprojSRefIdeal.main_v18) = v0 c
          ∧ r.2.mem ((c.tc : Thread Cert.InprojSRefIdeal.nD Cert.InprojSRefIdeal.τ).loc Cert.InprojSRefIdeal.main_v21) = v1 c
          ∧ r.2.mem ((c.tc : Thread Cert.InprojSRefIdeal.nD Cert.InprojSRefIdeal.τ).loc Cert.InprojSRefIdeal.main_arg0) = m' ((c.tc : Thread Cert.InprojSRefIdeal.nD Cert.InprojSRefIdeal.τ).loc Cert.InprojSRefIdeal.main_arg0)
          ∧ r.2.mem ((c.tc : Thread Cert.InprojSRefIdeal.nD Cert.InprojSRefIdeal.τ).loc Cert.InprojSRefIdeal.main_arg1) = m' ((c.tc : Thread Cert.InprojSRefIdeal.nD Cert.InprojSRefIdeal.τ).loc Cert.InprojSRefIdeal.main_arg1)
          ∧ r.2.mem ((c.tc : Thread Cert.InprojSRefIdeal.nD Cert.InprojSRefIdeal.τ).loc Cert.InprojSRefIdeal.main_arg2) = m' ((c.tc : Thread Cert.InprojSRefIdeal.nD Cert.InprojSRefIdeal.τ).loc Cert.InprojSRefIdeal.main_arg2)
          ∧ r.2.mem ((c.tc : Thread Cert.InprojSRefIdeal.nD Cert.InprojSRefIdeal.τ).loc Cert.InprojSRefIdeal.main_arg3) = m' ((c.tc : Thread Cert.InprojSRefIdeal.nD Cert.InprojSRefIdeal.τ).loc Cert.InprojSRefIdeal.main_arg3))

def preserves_MlpSB_MlpSBIdeal : Prop :=
  True

def algebraic_MlpSBIdeal_MlpSBRefIdeal [hMlpSBIdeal : Cert.MlpSBIdeal.Facts] [hMlpSBRefIdeal : Cert.MlpSBRefIdeal.Facts] : Prop :=
  ∀ (m : (ℓ : Loc Cert.MlpSBIdeal.nD Cert.MlpSBIdeal.τ Cert.MlpSBIdeal.sig) → Buf (Elt Ideal) ℓ) (g : Dev Cert.MlpSBIdeal.nD → PrngReg)
    (m' : (ℓ : Loc Cert.MlpSBRefIdeal.nD Cert.MlpSBRefIdeal.τ Cert.MlpSBRefIdeal.sig) → Buf (Elt Ideal) ℓ) (g' : Dev Cert.MlpSBRefIdeal.nD → PrngReg), Pre_MlpSBIdeal m →
    (∀ c : Dev Cert.MlpSBIdeal.nD,
      m' ((c.tc : Thread Cert.MlpSBRefIdeal.nD Cert.MlpSBRefIdeal.τ).loc Cert.MlpSBRefIdeal.main_arg0) = m ((c.tc : Thread Cert.MlpSBIdeal.nD Cert.MlpSBIdeal.τ).loc Cert.MlpSBIdeal.main_arg0)
      ∧ m' ((c.tc : Thread Cert.MlpSBRefIdeal.nD Cert.MlpSBRefIdeal.τ).loc Cert.MlpSBRefIdeal.main_arg1) = m ((c.tc : Thread Cert.MlpSBIdeal.nD Cert.MlpSBIdeal.τ).loc Cert.MlpSBIdeal.main_arg1)
      ∧ m' ((c.tc : Thread Cert.MlpSBRefIdeal.nD Cert.MlpSBRefIdeal.τ).loc Cert.MlpSBRefIdeal.main_arg2) = m ((c.tc : Thread Cert.MlpSBIdeal.nD Cert.MlpSBIdeal.τ).loc Cert.MlpSBIdeal.main_arg2)
      ∧ m' ((c.tc : Thread Cert.MlpSBRefIdeal.nD Cert.MlpSBRefIdeal.τ).loc Cert.MlpSBRefIdeal.main_arg3) = m ((c.tc : Thread Cert.MlpSBIdeal.nD Cert.MlpSBIdeal.τ).loc Cert.MlpSBIdeal.main_arg3)
      ∧ m' ((c.tc : Thread Cert.MlpSBRefIdeal.nD Cert.MlpSBRefIdeal.τ).loc Cert.MlpSBRefIdeal.main_arg4) = m ((c.tc : Thread Cert.MlpSBIdeal.nD Cert.MlpSBIdeal.τ).loc Cert.MlpSBIdeal.main_arg4)) →
    ∃ (v0 : (c : Dev Cert.MlpSBIdeal.nD) → Buf (Elt Ideal) ((c.tc : Thread Cert.MlpSBIdeal.nD Cert.MlpSBIdeal.τ).loc Cert.MlpSBIdeal.main_v4)),
      θ_run (Cert.MlpSBIdeal.defs (F := Ideal)) (onTc (τ := Cert.MlpSBIdeal.τ) (Cert.MlpSBIdeal.main (F := Ideal))) ⟨m, fun _ => 0, g⟩ (fun r => ∀ c : Dev Cert.MlpSBIdeal.nD,
          r.2.mem ((c.tc : Thread Cert.MlpSBIdeal.nD Cert.MlpSBIdeal.τ).loc Cert.MlpSBIdeal.main_v4) = v0 c
          ∧ r.2.mem ((c.tc : Thread Cert.MlpSBIdeal.nD Cert.MlpSBIdeal.τ).loc Cert.MlpSBIdeal.main_arg0) = m ((c.tc : Thread Cert.MlpSBIdeal.nD Cert.MlpSBIdeal.τ).loc Cert.MlpSBIdeal.main_arg0)
          ∧ r.2.mem ((c.tc : Thread Cert.MlpSBIdeal.nD Cert.MlpSBIdeal.τ).loc Cert.MlpSBIdeal.main_arg1) = m ((c.tc : Thread Cert.MlpSBIdeal.nD Cert.MlpSBIdeal.τ).loc Cert.MlpSBIdeal.main_arg1)
          ∧ r.2.mem ((c.tc : Thread Cert.MlpSBIdeal.nD Cert.MlpSBIdeal.τ).loc Cert.MlpSBIdeal.main_arg2) = m ((c.tc : Thread Cert.MlpSBIdeal.nD Cert.MlpSBIdeal.τ).loc Cert.MlpSBIdeal.main_arg2)
          ∧ r.2.mem ((c.tc : Thread Cert.MlpSBIdeal.nD Cert.MlpSBIdeal.τ).loc Cert.MlpSBIdeal.main_arg3) = m ((c.tc : Thread Cert.MlpSBIdeal.nD Cert.MlpSBIdeal.τ).loc Cert.MlpSBIdeal.main_arg3)
          ∧ r.2.mem ((c.tc : Thread Cert.MlpSBIdeal.nD Cert.MlpSBIdeal.τ).loc Cert.MlpSBIdeal.main_arg4) = m ((c.tc : Thread Cert.MlpSBIdeal.nD Cert.MlpSBIdeal.τ).loc Cert.MlpSBIdeal.main_arg4))
      ∧ θ_run (Cert.MlpSBRefIdeal.defs (F := Ideal)) (onTc (τ := Cert.MlpSBRefIdeal.τ) (Cert.MlpSBRefIdeal.main (F := Ideal))) ⟨m', fun _ => 0, g'⟩ (fun r => ∀ c : Dev Cert.MlpSBRefIdeal.nD,
          r.2.mem ((c.tc : Thread Cert.MlpSBRefIdeal.nD Cert.MlpSBRefIdeal.τ).loc Cert.MlpSBRefIdeal.main_v38) = v0 c
          ∧ r.2.mem ((c.tc : Thread Cert.MlpSBRefIdeal.nD Cert.MlpSBRefIdeal.τ).loc Cert.MlpSBRefIdeal.main_arg0) = m' ((c.tc : Thread Cert.MlpSBRefIdeal.nD Cert.MlpSBRefIdeal.τ).loc Cert.MlpSBRefIdeal.main_arg0)
          ∧ r.2.mem ((c.tc : Thread Cert.MlpSBRefIdeal.nD Cert.MlpSBRefIdeal.τ).loc Cert.MlpSBRefIdeal.main_arg1) = m' ((c.tc : Thread Cert.MlpSBRefIdeal.nD Cert.MlpSBRefIdeal.τ).loc Cert.MlpSBRefIdeal.main_arg1)
          ∧ r.2.mem ((c.tc : Thread Cert.MlpSBRefIdeal.nD Cert.MlpSBRefIdeal.τ).loc Cert.MlpSBRefIdeal.main_arg2) = m' ((c.tc : Thread Cert.MlpSBRefIdeal.nD Cert.MlpSBRefIdeal.τ).loc Cert.MlpSBRefIdeal.main_arg2)
          ∧ r.2.mem ((c.tc : Thread Cert.MlpSBRefIdeal.nD Cert.MlpSBRefIdeal.τ).loc Cert.MlpSBRefIdeal.main_arg3) = m' ((c.tc : Thread Cert.MlpSBRefIdeal.nD Cert.MlpSBRefIdeal.τ).loc Cert.MlpSBRefIdeal.main_arg3)
          ∧ r.2.mem ((c.tc : Thread Cert.MlpSBRefIdeal.nD Cert.MlpSBRefIdeal.τ).loc Cert.MlpSBRefIdeal.main_arg4) = m' ((c.tc : Thread Cert.MlpSBRefIdeal.nD Cert.MlpSBRefIdeal.τ).loc Cert.MlpSBRefIdeal.main_arg4))

def preserves_MergeSB_MergeSBIdeal : Prop :=
  True

def algebraic_MergeSBIdeal_MergeSBRefIdeal [hMergeSBIdeal : Cert.MergeSBIdeal.Facts] [hMergeSBRefIdeal : Cert.MergeSBRefIdeal.Facts] : Prop :=
  ∀ (m : (ℓ : Loc Cert.MergeSBIdeal.nD Cert.MergeSBIdeal.τ Cert.MergeSBIdeal.sig) → Buf (Elt Ideal) ℓ) (g : Dev Cert.MergeSBIdeal.nD → PrngReg)
    (m' : (ℓ : Loc Cert.MergeSBRefIdeal.nD Cert.MergeSBRefIdeal.τ Cert.MergeSBRefIdeal.sig) → Buf (Elt Ideal) ℓ) (g' : Dev Cert.MergeSBRefIdeal.nD → PrngReg), Pre_MergeSBIdeal m →
    (∀ c : Dev Cert.MergeSBIdeal.nD,
      m' ((c.tc : Thread Cert.MergeSBRefIdeal.nD Cert.MergeSBRefIdeal.τ).loc Cert.MergeSBRefIdeal.main_arg0) = m ((c.tc : Thread Cert.MergeSBIdeal.nD Cert.MergeSBIdeal.τ).loc Cert.MergeSBIdeal.main_arg0)
      ∧ m' ((c.tc : Thread Cert.MergeSBRefIdeal.nD Cert.MergeSBRefIdeal.τ).loc Cert.MergeSBRefIdeal.main_arg1) = m ((c.tc : Thread Cert.MergeSBIdeal.nD Cert.MergeSBIdeal.τ).loc Cert.MergeSBIdeal.main_arg1)
      ∧ m' ((c.tc : Thread Cert.MergeSBRefIdeal.nD Cert.MergeSBRefIdeal.τ).loc Cert.MergeSBRefIdeal.main_arg2) = m ((c.tc : Thread Cert.MergeSBIdeal.nD Cert.MergeSBIdeal.τ).loc Cert.MergeSBIdeal.main_arg2)
      ∧ m' ((c.tc : Thread Cert.MergeSBRefIdeal.nD Cert.MergeSBRefIdeal.τ).loc Cert.MergeSBRefIdeal.main_arg3) = m ((c.tc : Thread Cert.MergeSBIdeal.nD Cert.MergeSBIdeal.τ).loc Cert.MergeSBIdeal.main_arg3)
      ∧ m' ((c.tc : Thread Cert.MergeSBRefIdeal.nD Cert.MergeSBRefIdeal.τ).loc Cert.MergeSBRefIdeal.main_arg4) = m ((c.tc : Thread Cert.MergeSBIdeal.nD Cert.MergeSBIdeal.τ).loc Cert.MergeSBIdeal.main_arg4)) →
    ∃ (v0 : (c : Dev Cert.MergeSBIdeal.nD) → Buf (Elt Ideal) ((c.tc : Thread Cert.MergeSBIdeal.nD Cert.MergeSBIdeal.τ).loc Cert.MergeSBIdeal.main_v1)),
      θ_run (Cert.MergeSBIdeal.defs (F := Ideal)) (onTc (τ := Cert.MergeSBIdeal.τ) (Cert.MergeSBIdeal.main (F := Ideal))) ⟨m, fun _ => 0, g⟩ (fun r => ∀ c : Dev Cert.MergeSBIdeal.nD,
          r.2.mem ((c.tc : Thread Cert.MergeSBIdeal.nD Cert.MergeSBIdeal.τ).loc Cert.MergeSBIdeal.main_v1) = v0 c
          ∧ r.2.mem ((c.tc : Thread Cert.MergeSBIdeal.nD Cert.MergeSBIdeal.τ).loc Cert.MergeSBIdeal.main_arg0) = m ((c.tc : Thread Cert.MergeSBIdeal.nD Cert.MergeSBIdeal.τ).loc Cert.MergeSBIdeal.main_arg0)
          ∧ r.2.mem ((c.tc : Thread Cert.MergeSBIdeal.nD Cert.MergeSBIdeal.τ).loc Cert.MergeSBIdeal.main_arg1) = m ((c.tc : Thread Cert.MergeSBIdeal.nD Cert.MergeSBIdeal.τ).loc Cert.MergeSBIdeal.main_arg1)
          ∧ r.2.mem ((c.tc : Thread Cert.MergeSBIdeal.nD Cert.MergeSBIdeal.τ).loc Cert.MergeSBIdeal.main_arg2) = m ((c.tc : Thread Cert.MergeSBIdeal.nD Cert.MergeSBIdeal.τ).loc Cert.MergeSBIdeal.main_arg2)
          ∧ r.2.mem ((c.tc : Thread Cert.MergeSBIdeal.nD Cert.MergeSBIdeal.τ).loc Cert.MergeSBIdeal.main_arg3) = m ((c.tc : Thread Cert.MergeSBIdeal.nD Cert.MergeSBIdeal.τ).loc Cert.MergeSBIdeal.main_arg3)
          ∧ r.2.mem ((c.tc : Thread Cert.MergeSBIdeal.nD Cert.MergeSBIdeal.τ).loc Cert.MergeSBIdeal.main_arg4) = m ((c.tc : Thread Cert.MergeSBIdeal.nD Cert.MergeSBIdeal.τ).loc Cert.MergeSBIdeal.main_arg4))
      ∧ θ_run (Cert.MergeSBRefIdeal.defs (F := Ideal)) (onTc (τ := Cert.MergeSBRefIdeal.τ) (Cert.MergeSBRefIdeal.main (F := Ideal))) ⟨m', fun _ => 0, g'⟩ (fun r => ∀ c : Dev Cert.MergeSBRefIdeal.nD,
          r.2.mem ((c.tc : Thread Cert.MergeSBRefIdeal.nD Cert.MergeSBRefIdeal.τ).loc Cert.MergeSBRefIdeal.main_v18) = v0 c
          ∧ r.2.mem ((c.tc : Thread Cert.MergeSBRefIdeal.nD Cert.MergeSBRefIdeal.τ).loc Cert.MergeSBRefIdeal.main_arg0) = m' ((c.tc : Thread Cert.MergeSBRefIdeal.nD Cert.MergeSBRefIdeal.τ).loc Cert.MergeSBRefIdeal.main_arg0)
          ∧ r.2.mem ((c.tc : Thread Cert.MergeSBRefIdeal.nD Cert.MergeSBRefIdeal.τ).loc Cert.MergeSBRefIdeal.main_arg1) = m' ((c.tc : Thread Cert.MergeSBRefIdeal.nD Cert.MergeSBRefIdeal.τ).loc Cert.MergeSBRefIdeal.main_arg1)
          ∧ r.2.mem ((c.tc : Thread Cert.MergeSBRefIdeal.nD Cert.MergeSBRefIdeal.τ).loc Cert.MergeSBRefIdeal.main_arg2) = m' ((c.tc : Thread Cert.MergeSBRefIdeal.nD Cert.MergeSBRefIdeal.τ).loc Cert.MergeSBRefIdeal.main_arg2)
          ∧ r.2.mem ((c.tc : Thread Cert.MergeSBRefIdeal.nD Cert.MergeSBRefIdeal.τ).loc Cert.MergeSBRefIdeal.main_arg3) = m' ((c.tc : Thread Cert.MergeSBRefIdeal.nD Cert.MergeSBRefIdeal.τ).loc Cert.MergeSBRefIdeal.main_arg3)
          ∧ r.2.mem ((c.tc : Thread Cert.MergeSBRefIdeal.nD Cert.MergeSBRefIdeal.τ).loc Cert.MergeSBRefIdeal.main_arg4) = m' ((c.tc : Thread Cert.MergeSBRefIdeal.nD Cert.MergeSBRefIdeal.τ).loc Cert.MergeSBRefIdeal.main_arg4))

def preserves_OutprojSB_OutprojSBIdeal : Prop :=
  True

def algebraic_OutprojSBIdeal_OutprojSBRefIdeal [hOutprojSBIdeal : Cert.OutprojSBIdeal.Facts] [hOutprojSBRefIdeal : Cert.OutprojSBRefIdeal.Facts] : Prop :=
  ∀ (m : (ℓ : Loc Cert.OutprojSBIdeal.nD Cert.OutprojSBIdeal.τ Cert.OutprojSBIdeal.sig) → Buf (Elt Ideal) ℓ) (g : Dev Cert.OutprojSBIdeal.nD → PrngReg)
    (m' : (ℓ : Loc Cert.OutprojSBRefIdeal.nD Cert.OutprojSBRefIdeal.τ Cert.OutprojSBRefIdeal.sig) → Buf (Elt Ideal) ℓ) (g' : Dev Cert.OutprojSBRefIdeal.nD → PrngReg), Pre_OutprojSBIdeal m →
    (∀ c : Dev Cert.OutprojSBIdeal.nD,
      m' ((c.tc : Thread Cert.OutprojSBRefIdeal.nD Cert.OutprojSBRefIdeal.τ).loc Cert.OutprojSBRefIdeal.main_arg0) = m ((c.tc : Thread Cert.OutprojSBIdeal.nD Cert.OutprojSBIdeal.τ).loc Cert.OutprojSBIdeal.main_arg0)
      ∧ m' ((c.tc : Thread Cert.OutprojSBRefIdeal.nD Cert.OutprojSBRefIdeal.τ).loc Cert.OutprojSBRefIdeal.main_arg1) = m ((c.tc : Thread Cert.OutprojSBIdeal.nD Cert.OutprojSBIdeal.τ).loc Cert.OutprojSBIdeal.main_arg1)
      ∧ m' ((c.tc : Thread Cert.OutprojSBRefIdeal.nD Cert.OutprojSBRefIdeal.τ).loc Cert.OutprojSBRefIdeal.main_arg2) = m ((c.tc : Thread Cert.OutprojSBIdeal.nD Cert.OutprojSBIdeal.τ).loc Cert.OutprojSBIdeal.main_arg2)
      ∧ m' ((c.tc : Thread Cert.OutprojSBRefIdeal.nD Cert.OutprojSBRefIdeal.τ).loc Cert.OutprojSBRefIdeal.main_arg3) = m ((c.tc : Thread Cert.OutprojSBIdeal.nD Cert.OutprojSBIdeal.τ).loc Cert.OutprojSBIdeal.main_arg3)) →
    ∃ (v0 : (c : Dev Cert.OutprojSBIdeal.nD) → Buf (Elt Ideal) ((c.tc : Thread Cert.OutprojSBIdeal.nD Cert.OutprojSBIdeal.τ).loc Cert.OutprojSBIdeal.main_v2)),
      θ_run (Cert.OutprojSBIdeal.defs (F := Ideal)) (onTc (τ := Cert.OutprojSBIdeal.τ) (Cert.OutprojSBIdeal.main (F := Ideal))) ⟨m, fun _ => 0, g⟩ (fun r => ∀ c : Dev Cert.OutprojSBIdeal.nD,
          r.2.mem ((c.tc : Thread Cert.OutprojSBIdeal.nD Cert.OutprojSBIdeal.τ).loc Cert.OutprojSBIdeal.main_v2) = v0 c
          ∧ r.2.mem ((c.tc : Thread Cert.OutprojSBIdeal.nD Cert.OutprojSBIdeal.τ).loc Cert.OutprojSBIdeal.main_arg0) = m ((c.tc : Thread Cert.OutprojSBIdeal.nD Cert.OutprojSBIdeal.τ).loc Cert.OutprojSBIdeal.main_arg0)
          ∧ r.2.mem ((c.tc : Thread Cert.OutprojSBIdeal.nD Cert.OutprojSBIdeal.τ).loc Cert.OutprojSBIdeal.main_arg1) = m ((c.tc : Thread Cert.OutprojSBIdeal.nD Cert.OutprojSBIdeal.τ).loc Cert.OutprojSBIdeal.main_arg1)
          ∧ r.2.mem ((c.tc : Thread Cert.OutprojSBIdeal.nD Cert.OutprojSBIdeal.τ).loc Cert.OutprojSBIdeal.main_arg2) = m ((c.tc : Thread Cert.OutprojSBIdeal.nD Cert.OutprojSBIdeal.τ).loc Cert.OutprojSBIdeal.main_arg2)
          ∧ r.2.mem ((c.tc : Thread Cert.OutprojSBIdeal.nD Cert.OutprojSBIdeal.τ).loc Cert.OutprojSBIdeal.main_arg3) = m ((c.tc : Thread Cert.OutprojSBIdeal.nD Cert.OutprojSBIdeal.τ).loc Cert.OutprojSBIdeal.main_arg3))
      ∧ θ_run (Cert.OutprojSBRefIdeal.defs (F := Ideal)) (onTc (τ := Cert.OutprojSBRefIdeal.τ) (Cert.OutprojSBRefIdeal.main (F := Ideal))) ⟨m', fun _ => 0, g'⟩ (fun r => ∀ c : Dev Cert.OutprojSBRefIdeal.nD,
          r.2.mem ((c.tc : Thread Cert.OutprojSBRefIdeal.nD Cert.OutprojSBRefIdeal.τ).loc Cert.OutprojSBRefIdeal.main_v19) = v0 c
          ∧ r.2.mem ((c.tc : Thread Cert.OutprojSBRefIdeal.nD Cert.OutprojSBRefIdeal.τ).loc Cert.OutprojSBRefIdeal.main_arg0) = m' ((c.tc : Thread Cert.OutprojSBRefIdeal.nD Cert.OutprojSBRefIdeal.τ).loc Cert.OutprojSBRefIdeal.main_arg0)
          ∧ r.2.mem ((c.tc : Thread Cert.OutprojSBRefIdeal.nD Cert.OutprojSBRefIdeal.τ).loc Cert.OutprojSBRefIdeal.main_arg1) = m' ((c.tc : Thread Cert.OutprojSBRefIdeal.nD Cert.OutprojSBRefIdeal.τ).loc Cert.OutprojSBRefIdeal.main_arg1)
          ∧ r.2.mem ((c.tc : Thread Cert.OutprojSBRefIdeal.nD Cert.OutprojSBRefIdeal.τ).loc Cert.OutprojSBRefIdeal.main_arg2) = m' ((c.tc : Thread Cert.OutprojSBRefIdeal.nD Cert.OutprojSBRefIdeal.τ).loc Cert.OutprojSBRefIdeal.main_arg2)
          ∧ r.2.mem ((c.tc : Thread Cert.OutprojSBRefIdeal.nD Cert.OutprojSBRefIdeal.τ).loc Cert.OutprojSBRefIdeal.main_arg3) = m' ((c.tc : Thread Cert.OutprojSBRefIdeal.nD Cert.OutprojSBRefIdeal.τ).loc Cert.OutprojSBRefIdeal.main_arg3))

def preserves_InprojSB_InprojSBIdeal : Prop :=
  True

def algebraic_InprojSBIdeal_InprojSBRefIdeal [hInprojSBIdeal : Cert.InprojSBIdeal.Facts] [hInprojSBRefIdeal : Cert.InprojSBRefIdeal.Facts] : Prop :=
  ∀ (m : (ℓ : Loc Cert.InprojSBIdeal.nD Cert.InprojSBIdeal.τ Cert.InprojSBIdeal.sig) → Buf (Elt Ideal) ℓ) (g : Dev Cert.InprojSBIdeal.nD → PrngReg)
    (m' : (ℓ : Loc Cert.InprojSBRefIdeal.nD Cert.InprojSBRefIdeal.τ Cert.InprojSBRefIdeal.sig) → Buf (Elt Ideal) ℓ) (g' : Dev Cert.InprojSBRefIdeal.nD → PrngReg), Pre_InprojSBIdeal m →
    (∀ c : Dev Cert.InprojSBIdeal.nD,
      m' ((c.tc : Thread Cert.InprojSBRefIdeal.nD Cert.InprojSBRefIdeal.τ).loc Cert.InprojSBRefIdeal.main_arg0) = m ((c.tc : Thread Cert.InprojSBIdeal.nD Cert.InprojSBIdeal.τ).loc Cert.InprojSBIdeal.main_arg0)
      ∧ m' ((c.tc : Thread Cert.InprojSBRefIdeal.nD Cert.InprojSBRefIdeal.τ).loc Cert.InprojSBRefIdeal.main_arg1) = m ((c.tc : Thread Cert.InprojSBIdeal.nD Cert.InprojSBIdeal.τ).loc Cert.InprojSBIdeal.main_arg1)
      ∧ m' ((c.tc : Thread Cert.InprojSBRefIdeal.nD Cert.InprojSBRefIdeal.τ).loc Cert.InprojSBRefIdeal.main_arg2) = m ((c.tc : Thread Cert.InprojSBIdeal.nD Cert.InprojSBIdeal.τ).loc Cert.InprojSBIdeal.main_arg2)
      ∧ m' ((c.tc : Thread Cert.InprojSBRefIdeal.nD Cert.InprojSBRefIdeal.τ).loc Cert.InprojSBRefIdeal.main_arg3) = m ((c.tc : Thread Cert.InprojSBIdeal.nD Cert.InprojSBIdeal.τ).loc Cert.InprojSBIdeal.main_arg3)) →
    ∃ (v0 : (c : Dev Cert.InprojSBIdeal.nD) → Buf (Elt Ideal) ((c.tc : Thread Cert.InprojSBIdeal.nD Cert.InprojSBIdeal.τ).loc Cert.InprojSBIdeal.main_v1_0)) (v1 : (c : Dev Cert.InprojSBIdeal.nD) → Buf (Elt Ideal) ((c.tc : Thread Cert.InprojSBIdeal.nD Cert.InprojSBIdeal.τ).loc Cert.InprojSBIdeal.main_v1_1)),
      θ_run (Cert.InprojSBIdeal.defs (F := Ideal)) (onTc (τ := Cert.InprojSBIdeal.τ) (Cert.InprojSBIdeal.main (F := Ideal))) ⟨m, fun _ => 0, g⟩ (fun r => ∀ c : Dev Cert.InprojSBIdeal.nD,
          r.2.mem ((c.tc : Thread Cert.InprojSBIdeal.nD Cert.InprojSBIdeal.τ).loc Cert.InprojSBIdeal.main_v1_0) = v0 c
          ∧ r.2.mem ((c.tc : Thread Cert.InprojSBIdeal.nD Cert.InprojSBIdeal.τ).loc Cert.InprojSBIdeal.main_v1_1) = v1 c
          ∧ r.2.mem ((c.tc : Thread Cert.InprojSBIdeal.nD Cert.InprojSBIdeal.τ).loc Cert.InprojSBIdeal.main_arg0) = m ((c.tc : Thread Cert.InprojSBIdeal.nD Cert.InprojSBIdeal.τ).loc Cert.InprojSBIdeal.main_arg0)
          ∧ r.2.mem ((c.tc : Thread Cert.InprojSBIdeal.nD Cert.InprojSBIdeal.τ).loc Cert.InprojSBIdeal.main_arg1) = m ((c.tc : Thread Cert.InprojSBIdeal.nD Cert.InprojSBIdeal.τ).loc Cert.InprojSBIdeal.main_arg1)
          ∧ r.2.mem ((c.tc : Thread Cert.InprojSBIdeal.nD Cert.InprojSBIdeal.τ).loc Cert.InprojSBIdeal.main_arg2) = m ((c.tc : Thread Cert.InprojSBIdeal.nD Cert.InprojSBIdeal.τ).loc Cert.InprojSBIdeal.main_arg2)
          ∧ r.2.mem ((c.tc : Thread Cert.InprojSBIdeal.nD Cert.InprojSBIdeal.τ).loc Cert.InprojSBIdeal.main_arg3) = m ((c.tc : Thread Cert.InprojSBIdeal.nD Cert.InprojSBIdeal.τ).loc Cert.InprojSBIdeal.main_arg3))
      ∧ θ_run (Cert.InprojSBRefIdeal.defs (F := Ideal)) (onTc (τ := Cert.InprojSBRefIdeal.τ) (Cert.InprojSBRefIdeal.main (F := Ideal))) ⟨m', fun _ => 0, g'⟩ (fun r => ∀ c : Dev Cert.InprojSBRefIdeal.nD,
          r.2.mem ((c.tc : Thread Cert.InprojSBRefIdeal.nD Cert.InprojSBRefIdeal.τ).loc Cert.InprojSBRefIdeal.main_v18) = v0 c
          ∧ r.2.mem ((c.tc : Thread Cert.InprojSBRefIdeal.nD Cert.InprojSBRefIdeal.τ).loc Cert.InprojSBRefIdeal.main_v21) = v1 c
          ∧ r.2.mem ((c.tc : Thread Cert.InprojSBRefIdeal.nD Cert.InprojSBRefIdeal.τ).loc Cert.InprojSBRefIdeal.main_arg0) = m' ((c.tc : Thread Cert.InprojSBRefIdeal.nD Cert.InprojSBRefIdeal.τ).loc Cert.InprojSBRefIdeal.main_arg0)
          ∧ r.2.mem ((c.tc : Thread Cert.InprojSBRefIdeal.nD Cert.InprojSBRefIdeal.τ).loc Cert.InprojSBRefIdeal.main_arg1) = m' ((c.tc : Thread Cert.InprojSBRefIdeal.nD Cert.InprojSBRefIdeal.τ).loc Cert.InprojSBRefIdeal.main_arg1)
          ∧ r.2.mem ((c.tc : Thread Cert.InprojSBRefIdeal.nD Cert.InprojSBRefIdeal.τ).loc Cert.InprojSBRefIdeal.main_arg2) = m' ((c.tc : Thread Cert.InprojSBRefIdeal.nD Cert.InprojSBRefIdeal.τ).loc Cert.InprojSBRefIdeal.main_arg2)
          ∧ r.2.mem ((c.tc : Thread Cert.InprojSBRefIdeal.nD Cert.InprojSBRefIdeal.τ).loc Cert.InprojSBRefIdeal.main_arg3) = m' ((c.tc : Thread Cert.InprojSBRefIdeal.nD Cert.InprojSBRefIdeal.τ).loc Cert.InprojSBRefIdeal.main_arg3))

def preserves_Lf_LfIdeal : Prop :=
  True

def algebraic_LfIdeal_LfRefIdeal_pre_finite_lf [hLfIdeal : Cert.LfIdeal.Facts] [hLfRefIdeal : Cert.LfRefIdeal.Facts] [hPre_finite_lf : Cert.Pre_finite_lf.Facts] : Prop :=
  ∀ (m : (ℓ : Loc Cert.LfIdeal.nD Cert.LfIdeal.τ Cert.LfIdeal.sig) → Buf (Elt Ideal) ℓ) (g : Dev Cert.LfIdeal.nD → PrngReg)
    (m' : (ℓ : Loc Cert.LfRefIdeal.nD Cert.LfRefIdeal.τ Cert.LfRefIdeal.sig) → Buf (Elt Ideal) ℓ) (g' : Dev Cert.LfRefIdeal.nD → PrngReg), Pre_LfIdeal_finite_lf m →
    (∀ c : Dev Cert.LfIdeal.nD,
      m' ((c.tc : Thread Cert.LfRefIdeal.nD Cert.LfRefIdeal.τ).loc Cert.LfRefIdeal.main_arg0) = m ((c.tc : Thread Cert.LfIdeal.nD Cert.LfIdeal.τ).loc Cert.LfIdeal.main_arg0)) →
    ∃ (v0 : (c : Dev Cert.LfIdeal.nD) → Buf (Elt Ideal) ((c.tc : Thread Cert.LfIdeal.nD Cert.LfIdeal.τ).loc Cert.LfIdeal.main_v0)),
      θ_run (Cert.LfIdeal.defs (F := Ideal)) (onTc (τ := Cert.LfIdeal.τ) (Cert.LfIdeal.main (F := Ideal))) ⟨m, fun _ => 0, g⟩ (fun r => ∀ c : Dev Cert.LfIdeal.nD,
          r.2.mem ((c.tc : Thread Cert.LfIdeal.nD Cert.LfIdeal.τ).loc Cert.LfIdeal.main_v0) = v0 c
          ∧ r.2.mem ((c.tc : Thread Cert.LfIdeal.nD Cert.LfIdeal.τ).loc Cert.LfIdeal.main_arg0) = m ((c.tc : Thread Cert.LfIdeal.nD Cert.LfIdeal.τ).loc Cert.LfIdeal.main_arg0))
      ∧ θ_run (Cert.LfRefIdeal.defs (F := Ideal)) (onTc (τ := Cert.LfRefIdeal.τ) (Cert.LfRefIdeal.main (F := Ideal))) ⟨m', fun _ => 0, g'⟩ (fun r => ∀ c : Dev Cert.LfRefIdeal.nD,
          r.2.mem ((c.tc : Thread Cert.LfRefIdeal.nD Cert.LfRefIdeal.τ).loc Cert.LfRefIdeal.main_v8) = v0 c
          ∧ r.2.mem ((c.tc : Thread Cert.LfRefIdeal.nD Cert.LfRefIdeal.τ).loc Cert.LfRefIdeal.main_arg0) = m' ((c.tc : Thread Cert.LfRefIdeal.nD Cert.LfRefIdeal.τ).loc Cert.LfRefIdeal.main_arg0))

def preserves_Mlstm_MlstmIdeal : Prop :=
  True

def algebraic_MlstmIdeal_MlstmRefIdeal [hMlstmIdeal : Cert.MlstmIdeal.Facts] [hMlstmRefIdeal : Cert.MlstmRefIdeal.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)
      ∧ m' ((c.tc : Thread Cert.MlstmRefIdeal.nD Cert.MlstmRefIdeal.τ).loc Cert.MlstmRefIdeal.main_arg6) = m ((c.tc : Thread Cert.MlstmIdeal.nD Cert.MlstmIdeal.τ).loc Cert.MlstmIdeal.main_arg6)) →
    ∃ (v0 : (c : Dev Cert.MlstmIdeal.nD) → Buf (Elt Ideal) ((c.tc : Thread Cert.MlstmIdeal.nD Cert.MlstmIdeal.τ).loc Cert.MlstmIdeal.main_v7_0)) (v1 : (c : Dev Cert.MlstmIdeal.nD) → Buf (Elt Ideal) ((c.tc : Thread Cert.MlstmIdeal.nD Cert.MlstmIdeal.τ).loc Cert.MlstmIdeal.main_v7_1)) (v2 : (c : Dev Cert.MlstmIdeal.nD) → Buf (Elt Ideal) ((c.tc : Thread Cert.MlstmIdeal.nD Cert.MlstmIdeal.τ).loc Cert.MlstmIdeal.main_v7_2)) (v3 : (c : Dev Cert.MlstmIdeal.nD) → Buf (Elt Ideal) ((c.tc : Thread Cert.MlstmIdeal.nD Cert.MlstmIdeal.τ).loc Cert.MlstmIdeal.main_v7_3)) (v4 : (c : Dev Cert.MlstmIdeal.nD) → Buf (Elt Ideal) ((c.tc : Thread Cert.MlstmIdeal.nD Cert.MlstmIdeal.τ).loc Cert.MlstmIdeal.main_v7_4)) (v5 : (c : Dev Cert.MlstmIdeal.nD) → Buf (Elt Ideal) ((c.tc : Thread Cert.MlstmIdeal.nD Cert.MlstmIdeal.τ).loc Cert.MlstmIdeal.main_v7_5)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v7_0) = v0 c
          ∧ r.2.mem ((c.tc : Thread Cert.MlstmIdeal.nD Cert.MlstmIdeal.τ).loc Cert.MlstmIdeal.main_v7_1) = v1 c
          ∧ r.2.mem ((c.tc : Thread Cert.MlstmIdeal.nD Cert.MlstmIdeal.τ).loc Cert.MlstmIdeal.main_v7_2) = v2 c
          ∧ r.2.mem ((c.tc : Thread Cert.MlstmIdeal.nD Cert.MlstmIdeal.τ).loc Cert.MlstmIdeal.main_v7_3) = v3 c
          ∧ r.2.mem ((c.tc : Thread Cert.MlstmIdeal.nD Cert.MlstmIdeal.τ).loc Cert.MlstmIdeal.main_v7_4) = v4 c
          ∧ r.2.mem ((c.tc : Thread Cert.MlstmIdeal.nD Cert.MlstmIdeal.τ).loc Cert.MlstmIdeal.main_v7_5) = v5 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v131) = v0 c
          ∧ r.2.mem ((c.tc : Thread Cert.MlstmRefIdeal.nD Cert.MlstmRefIdeal.τ).loc Cert.MlstmRefIdeal.main_v93) = v1 c
          ∧ r.2.mem ((c.tc : Thread Cert.MlstmRefIdeal.nD Cert.MlstmRefIdeal.τ).loc Cert.MlstmRefIdeal.main_v132) = v2 c
          ∧ r.2.mem ((c.tc : Thread Cert.MlstmRefIdeal.nD Cert.MlstmRefIdeal.τ).loc Cert.MlstmRefIdeal.main_v133) = v3 c
          ∧ r.2.mem ((c.tc : Thread Cert.MlstmRefIdeal.nD Cert.MlstmRefIdeal.τ).loc Cert.MlstmRefIdeal.main_v135) = v4 c
          ∧ r.2.mem ((c.tc : Thread Cert.MlstmRefIdeal.nD Cert.MlstmRefIdeal.τ).loc Cert.MlstmRefIdeal.main_v128) = v5 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5)
          ∧ r.2.mem ((c.tc : Thread Cert.MlstmRefIdeal.nD Cert.MlstmRefIdeal.τ).loc Cert.MlstmRefIdeal.main_arg6) = m' ((c.tc : Thread Cert.MlstmRefIdeal.nD Cert.MlstmRefIdeal.τ).loc Cert.MlstmRefIdeal.main_arg6))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hOutproj : Cert.Outproj.Facts) (hOutprojIdeal : Cert.OutprojIdeal.Facts) (hOutprojRefIdeal : Cert.OutprojRefIdeal.Facts) (hInproj : Cert.Inproj.Facts) (hInprojIdeal : Cert.InprojIdeal.Facts) (hInprojRefIdeal : Cert.InprojRefIdeal.Facts) (hMlpB : Cert.MlpB.Facts) (hMlpBIdeal : Cert.MlpBIdeal.Facts) (hMlpBRefIdeal : Cert.MlpBRefIdeal.Facts) (hMergeB : Cert.MergeB.Facts) (hMergeBIdeal : Cert.MergeBIdeal.Facts) (hMergeBRefIdeal : Cert.MergeBRefIdeal.Facts) (hOutprojB : Cert.OutprojB.Facts) (hOutprojBIdeal : Cert.OutprojBIdeal.Facts) (hOutprojBRefIdeal : Cert.OutprojBRefIdeal.Facts) (hInprojB : Cert.InprojB.Facts) (hInprojBIdeal : Cert.InprojBIdeal.Facts) (hInprojBRefIdeal : Cert.InprojBRefIdeal.Facts) (hMlpS : Cert.MlpS.Facts) (hMlpSIdeal : Cert.MlpSIdeal.Facts) (hMlpSRefIdeal : Cert.MlpSRefIdeal.Facts) (hMergeS : Cert.MergeS.Facts) (hMergeSIdeal : Cert.MergeSIdeal.Facts) (hMergeSRefIdeal : Cert.MergeSRefIdeal.Facts) (hOutprojS : Cert.OutprojS.Facts) (hOutprojSIdeal : Cert.OutprojSIdeal.Facts) (hOutprojSRefIdeal : Cert.OutprojSRefIdeal.Facts) (hInprojS : Cert.InprojS.Facts) (hInprojSIdeal : Cert.InprojSIdeal.Facts) (hInprojSRefIdeal : Cert.InprojSRefIdeal.Facts) (hMlpSB : Cert.MlpSB.Facts) (hMlpSBIdeal : Cert.MlpSBIdeal.Facts) (hMlpSBRefIdeal : Cert.MlpSBRefIdeal.Facts) (hMergeSB : Cert.MergeSB.Facts) (hMergeSBIdeal : Cert.MergeSBIdeal.Facts) (hMergeSBRefIdeal : Cert.MergeSBRefIdeal.Facts) (hOutprojSB : Cert.OutprojSB.Facts) (hOutprojSBIdeal : Cert.OutprojSBIdeal.Facts) (hOutprojSBRefIdeal : Cert.OutprojSBRefIdeal.Facts) (hInprojSB : Cert.InprojSB.Facts) (hInprojSBIdeal : Cert.InprojSBIdeal.Facts) (hInprojSBRefIdeal : Cert.InprojSBRefIdeal.Facts) (hLf : Cert.Lf.Facts) (hLfIdeal : Cert.LfIdeal.Facts) (hLfRefIdeal : Cert.LfRefIdeal.Facts) (hMlstm : Cert.Mlstm.Facts) (hMlstmIdeal : Cert.MlstmIdeal.Facts) (hMlstmRefIdeal : Cert.MlstmRefIdeal.Facts) (hPre_finite : Cert.Pre_finite.Facts) (hPre_finite_lf : Cert.Pre_finite_lf.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpRefIdeal (hMlpRefIdeal := hMlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Inproj (hInproj := hInproj)
    ∧ quiescent_InprojIdeal (hInprojIdeal := hInprojIdeal)
    ∧ quiescent_InprojRefIdeal (hInprojRefIdeal := hInprojRefIdeal)
    ∧ quiescent_MlpB (hMlpB := hMlpB)
    ∧ quiescent_MlpBIdeal (hMlpBIdeal := hMlpBIdeal)
    ∧ quiescent_MlpBRefIdeal (hMlpBRefIdeal := hMlpBRefIdeal)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_OutprojB (hOutprojB := hOutprojB)
    ∧ quiescent_OutprojBIdeal (hOutprojBIdeal := hOutprojBIdeal)
    ∧ quiescent_OutprojBRefIdeal (hOutprojBRefIdeal := hOutprojBRefIdeal)
    ∧ quiescent_InprojB (hInprojB := hInprojB)
    ∧ quiescent_InprojBIdeal (hInprojBIdeal := hInprojBIdeal)
    ∧ quiescent_InprojBRefIdeal (hInprojBRefIdeal := hInprojBRefIdeal)
    ∧ quiescent_MlpS (hMlpS := hMlpS)
    ∧ quiescent_MlpSIdeal (hMlpSIdeal := hMlpSIdeal)
    ∧ quiescent_MlpSRefIdeal (hMlpSRefIdeal := hMlpSRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_OutprojS (hOutprojS := hOutprojS)
    ∧ quiescent_OutprojSIdeal (hOutprojSIdeal := hOutprojSIdeal)
    ∧ quiescent_OutprojSRefIdeal (hOutprojSRefIdeal := hOutprojSRefIdeal)
    ∧ quiescent_InprojS (hInprojS := hInprojS)
    ∧ quiescent_InprojSIdeal (hInprojSIdeal := hInprojSIdeal)
    ∧ quiescent_InprojSRefIdeal (hInprojSRefIdeal := hInprojSRefIdeal)
    ∧ quiescent_MlpSB (hMlpSB := hMlpSB)
    ∧ quiescent_MlpSBIdeal (hMlpSBIdeal := hMlpSBIdeal)
    ∧ quiescent_MlpSBRefIdeal (hMlpSBRefIdeal := hMlpSBRefIdeal)
    ∧ quiescent_MergeSB (hMergeSB := hMergeSB)
    ∧ quiescent_MergeSBIdeal (hMergeSBIdeal := hMergeSBIdeal)
    ∧ quiescent_MergeSBRefIdeal (hMergeSBRefIdeal := hMergeSBRefIdeal)
    ∧ quiescent_OutprojSB (hOutprojSB := hOutprojSB)
    ∧ quiescent_OutprojSBIdeal (hOutprojSBIdeal := hOutprojSBIdeal)
    ∧ quiescent_OutprojSBRefIdeal (hOutprojSBRefIdeal := hOutprojSBRefIdeal)
    ∧ quiescent_InprojSB (hInprojSB := hInprojSB)
    ∧ quiescent_InprojSBIdeal (hInprojSBIdeal := hInprojSBIdeal)
    ∧ quiescent_InprojSBRefIdeal (hInprojSBRefIdeal := hInprojSBRefIdeal)
    ∧ quiescent_Lf (hLf := hLf)
    ∧ quiescent_LfIdeal (hLfIdeal := hLfIdeal)
    ∧ quiescent_LfIdeal_pre_finite_lf (hLfIdeal := hLfIdeal) (hPre_finite_lf := hPre_finite_lf)
    ∧ quiescent_LfRefIdeal (hLfRefIdeal := hLfRefIdeal)
    ∧ quiescent_LfRefIdeal_pre_finite_lf (hLfRefIdeal := hLfRefIdeal) (hPre_finite_lf := hPre_finite_lf)
    ∧ quiescent_Mlstm (hMlstm := hMlstm)
    ∧ quiescent_MlstmIdeal (hMlstmIdeal := hMlstmIdeal)
    ∧ quiescent_MlstmRefIdeal (hMlstmRefIdeal := hMlstmRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpRefIdeal (hMlpIdeal := hMlpIdeal) (hMlpRefIdeal := hMlpRefIdeal)
    ∧ preserves_Merge_MergeIdeal
    ∧ algebraic_MergeIdeal_MergeRefIdeal (hMergeIdeal := hMergeIdeal) (hMergeRefIdeal := hMergeRefIdeal)
    ∧ preserves_Outproj_OutprojIdeal
    ∧ algebraic_OutprojIdeal_OutprojRefIdeal (hOutprojIdeal := hOutprojIdeal) (hOutprojRefIdeal := hOutprojRefIdeal)
    ∧ preserves_Inproj_InprojIdeal
    ∧ algebraic_InprojIdeal_InprojRefIdeal (hInprojIdeal := hInprojIdeal) (hInprojRefIdeal := hInprojRefIdeal)
    ∧ preserves_MlpB_MlpBIdeal
    ∧ algebraic_MlpBIdeal_MlpBRefIdeal (hMlpBIdeal := hMlpBIdeal) (hMlpBRefIdeal := hMlpBRefIdeal)
    ∧ preserves_MergeB_MergeBIdeal
    ∧ algebraic_MergeBIdeal_MergeBRefIdeal (hMergeBIdeal := hMergeBIdeal) (hMergeBRefIdeal := hMergeBRefIdeal)
    ∧ preserves_OutprojB_OutprojBIdeal
    ∧ algebraic_OutprojBIdeal_OutprojBRefIdeal (hOutprojBIdeal := hOutprojBIdeal) (hOutprojBRefIdeal := hOutprojBRefIdeal)
    ∧ preserves_InprojB_InprojBIdeal
    ∧ algebraic_InprojBIdeal_InprojBRefIdeal (hInprojBIdeal := hInprojBIdeal) (hInprojBRefIdeal := hInprojBRefIdeal)
    ∧ preserves_MlpS_MlpSIdeal
    ∧ algebraic_MlpSIdeal_MlpSRefIdeal (hMlpSIdeal := hMlpSIdeal) (hMlpSRefIdeal := hMlpSRefIdeal)
    ∧ preserves_MergeS_MergeSIdeal
    ∧ algebraic_MergeSIdeal_MergeSRefIdeal (hMergeSIdeal := hMergeSIdeal) (hMergeSRefIdeal := hMergeSRefIdeal)
    ∧ preserves_OutprojS_OutprojSIdeal
    ∧ algebraic_OutprojSIdeal_OutprojSRefIdeal (hOutprojSIdeal := hOutprojSIdeal) (hOutprojSRefIdeal := hOutprojSRefIdeal)
    ∧ preserves_InprojS_InprojSIdeal
    ∧ algebraic_InprojSIdeal_InprojSRefIdeal (hInprojSIdeal := hInprojSIdeal) (hInprojSRefIdeal := hInprojSRefIdeal)
    ∧ preserves_MlpSB_MlpSBIdeal
    ∧ algebraic_MlpSBIdeal_MlpSBRefIdeal (hMlpSBIdeal := hMlpSBIdeal) (hMlpSBRefIdeal := hMlpSBRefIdeal)
    ∧ preserves_MergeSB_MergeSBIdeal
    ∧ algebraic_MergeSBIdeal_MergeSBRefIdeal (hMergeSBIdeal := hMergeSBIdeal) (hMergeSBRefIdeal := hMergeSBRefIdeal)
    ∧ preserves_OutprojSB_OutprojSBIdeal
    ∧ algebraic_OutprojSBIdeal_OutprojSBRefIdeal (hOutprojSBIdeal := hOutprojSBIdeal) (hOutprojSBRefIdeal := hOutprojSBRefIdeal)
    ∧ preserves_InprojSB_InprojSBIdeal
    ∧ algebraic_InprojSBIdeal_InprojSBRefIdeal (hInprojSBIdeal := hInprojSBIdeal) (hInprojSBRefIdeal := hInprojSBRefIdeal)
    ∧ preserves_Lf_LfIdeal
    ∧ algebraic_LfIdeal_LfRefIdeal_pre_finite_lf (hLfIdeal := hLfIdeal) (hLfRefIdeal := hLfRefIdeal) (hPre_finite_lf := hPre_finite_lf)
    ∧ preserves_Mlstm_MlstmIdeal
    ∧ algebraic_MlstmIdeal_MlstmRefIdeal (hMlstmIdeal := hMlstmIdeal) (hMlstmRefIdeal := hMlstmRefIdeal)
-- ==== Pre_finite.lean ====
abbrev S2x4096x15360 : Shape := ⟨3, ![2, 4096, 15360]⟩
abbrev S2x8x4096 : Shape := ⟨3, ![2, 8, 4096]⟩
abbrev S_ : Shape := ⟨0, ![]⟩

class Facts : Prop where
  bcast_S_S2x4096x15360 : S_.BroadcastsInDim S2x4096x15360 (![] : Fin 0 → Fin S2x4096x15360.rank)
  reducesTo_S2x4096x15360_S_d0_1_2 : S2x4096x15360.ReducesTo [0, 1, 2] S_
  h_S_ : 0 < S_.numel
  bcast_S_S2x8x4096 : S_.BroadcastsInDim S2x8x4096 (![] : Fin 0 → Fin S2x8x4096.rank)
  reducesTo_S2x8x4096_S_d0_1_2 : S2x8x4096.ReducesTo [0, 1, 2] S_

variable [Facts]

def fn {F : FTy → Type} [FloatOps F] (main_arg0 : FVec F S2x4096x15360 .f32) (main_arg1 : FVec F S2x8x4096 .f32) : IVec S_ 1 :=
  let main_v0 : FVec F S2x4096x15360 .f32 := Host.absf main_arg0
  let main_cst : FVec F S_ .f32 := constant S_ .f32 0x7F800000#32
  let main_v1 : FVec F S2x4096x15360 .f32 := broadcastInDim S2x4096x15360 ![] bcast_S_S2x4096x15360 main_cst
  let main_v2 : IVec S2x4096x15360 1 := cmpf .olt main_v0 main_v1
  let main_c : IVec S_ 1 := constantI S_ 1 1#1
  let main_v3 : IVec S_ 1 := (fun x v => Host.reduce IntOp.andi x v reducesTo_S2x4096x15360_S_d0_1_2 h_S_) main_v2 main_c
  let main_v4 : FVec F S2x8x4096 .f32 := Host.absf main_arg1
  let main_cst_0 : FVec F S_ .f32 := constant S_ .f32 0x7F800000#32
  let main_v5 : FVec F S2x8x4096 .f32 := broadcastInDim S2x8x4096 ![] bcast_S_S2x8x4096 main_cst_0
  let main_v6 : IVec S2x8x4096 1 := cmpf .olt main_v4 main_v5
  let main_c_1 : IVec S_ 1 := constantI S_ 1 1#1
  let main_v7 : IVec S_ 1 := (fun x v => Host.reduce IntOp.andi x v reducesTo_S2x8x4096_S_d0_1_2 h_S_) main_v6 main_c_1
  let main_v8 : IVec S_ 1 := andi main_v3 main_v7
  main_v8
-- ==== Pre_finite_lf.lean ====
abbrev S5120x1024 : Shape := ⟨2, ![5120, 1024]⟩
abbrev S_ : Shape := ⟨0, ![]⟩

class Facts : Prop where
  bcast_S_S5120x1024 : S_.BroadcastsInDim S5120x1024 (![] : Fin 0 → Fin S5120x1024.rank)
  reducesTo_S5120x1024_S_d0_1 : S5120x1024.ReducesTo [0, 1] S_
  h_S_ : 0 < S_.numel

variable [Facts]

def fn {F : FTy → Type} [FloatOps F] (main_arg0 : FVec F S5120x1024 .f32) : IVec S_ 1 :=
  let main_v0 : FVec F S5120x1024 .f32 := Host.absf main_arg0
  let main_cst : FVec F S_ .f32 := constant S_ .f32 0x7F800000#32
  let main_v1 : FVec F S5120x1024 .f32 := broadcastInDim S5120x1024 ![] bcast_S_S5120x1024 main_cst
  let main_v2 : IVec S5120x1024 1 := cmpf .olt main_v0 main_v1
  let main_c : IVec S_ 1 := constantI S_ 1 1#1
  let main_v3 : IVec S_ 1 := (fun x v => Host.reduce IntOp.andi x v reducesTo_S5120x1024_S_d0_1 h_S_) main_v2 main_c
  main_v3
-- ==== Kernel.lean ====
abbrev S2x4096x15360 : Shape := ⟨3, ![2, 4096, 15360]⟩
abbrev S2x8x4096 : Shape := ⟨3, ![2, 8, 4096]⟩
abbrev S2x8x4x1x1024 : Shape := ⟨5, ![2, 8, 4, 1, 1024]⟩
abbrev S2x4096x1024 : Shape := ⟨3, ![2, 4096, 1024]⟩
abbrev S1x1024x128 : Shape := ⟨3, ![1, 1024, 128]⟩
abbrev S1x4096x128 : Shape := ⟨3, ![1, 4096, 128]⟩
abbrev S1x1x4x1x1024 : Shape := ⟨5, ![1, 1, 4, 1, 1024]⟩
abbrev S4096x128 : Shape := ⟨2, ![4096, 128]⟩
abbrev S1024x128 : Shape := ⟨2, ![1024, 128]⟩
abbrev S1x1024 : Shape := ⟨2, ![1, 1024]⟩
abbrev S1024x1 : Shape := ⟨2, ![1024, 1]⟩
abbrev S1024x1024 : Shape := ⟨2, ![1024, 1024]⟩
abbrev S1x1x1x1x1024 : Shape := ⟨5, ![1, 1, 1, 1, 1024]⟩
abbrev S1024 : Shape := ⟨1, ![1024]⟩

abbrev nBuf : Space → Nat
  | .hbm => 4
  | .vmem => 12
  | .smem => 0
  | _ => 0

abbrev bufTy : (tb : Table) → Fin (tcTables nBuf tb) → BufTy
  | .hbm, ⟨0, _⟩ => ⟨S2x4096x15360, .f32⟩
  | .hbm, ⟨1, _⟩ => ⟨S2x8x4096, .f32⟩
  | .hbm, ⟨2, _⟩ => ⟨S2x8x4x1x1024, .f32⟩
  | .hbm, ⟨3, _⟩ => ⟨S2x4096x1024, .bf16⟩
  | .local _ .vmem, ⟨0, _⟩ => ⟨S1x1024x128, .f32⟩
  | .local _ .vmem, ⟨1, _⟩ => ⟨S1x1024x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x1x4x1x1024, .f32⟩
  | .local _ .vmem, ⟨7, _⟩ => ⟨S1x1x4x1x1024, .f32⟩
  | .local _ .vmem, ⟨8, _⟩ => ⟨S1x1024x128, .bf16⟩
  | .local _ .vmem, ⟨9, _⟩ => ⟨S1x1024x128, .bf16⟩
  | .local _ .vmem, ⟨10, _⟩ => ⟨S4096x128, .bf16⟩
  | .local _ .vmem, ⟨11, _⟩ => ⟨S4096x128, .bf16⟩
  | _, _ => ⟨S2x4096x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

@[reducible] def k0_t1_loop (i : grid0.Coords) : Scf.Loop 32 :=
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let c1_i32_7 : BitVec 32 := 1#32
  ⟨c0_i32_6, v20, c1_i32_7⟩
def k0_mult1 (i : grid0.Coords) (k0_t1 : Fin (k0_t1_loop i).trips) : BitVec 32 :=
  let c0_i32_6 : BitVec 32 := 0#32
  let c1_i32_7 : BitVec 32 := 1#32
  let arg10 : BitVec 32 := Scf.iv c0_i32_6 c1_i32_7 k0_t1
  let c1024_i32_24 : BitVec 32 := 1024#32
  let v62 : BitVec 32 := Scalar.muli arg10 c1024_i32_24
  v62
def k0_off1 (i : grid0.Coords) (k0_t1 : Fin (k0_t1_loop i).trips) : Fin 2 → Nat :=
  let c0_i32_6 : BitVec 32 := 0#32
  let c1_i32_7 : BitVec 32 := 1#32
  let arg10 : BitVec 32 := Scf.iv c0_i32_6 c1_i32_7 k0_t1
  let c1024_i32_24 : BitVec 32 := 1024#32
  let v62 : BitVec 32 := Scalar.muli arg10 c1024_i32_24
  let v63 : BitVec 32 := v62
  let v64 : Index := Scalar.indexCast v63
  let c0_25 : Index := 0#32
  ![v64.toNat, 0]
def k0_off2 (i : grid0.Coords) (k0_t1 : Fin (k0_t1_loop i).trips) : Fin 5 → Nat :=
  let c0_27 : Index := 0#32
  let c0_28 : Index := 0#32
  let c0_i32_6 : BitVec 32 := 0#32
  let c1_i32_7 : BitVec 32 := 1#32
  let arg10 : BitVec 32 := Scf.iv c0_i32_6 c1_i32_7 k0_t1
  let v67 : Index := Scalar.indexCast arg10
  let c0_29 : Index := 0#32
  let c0_30 : Index := 0#32
  ![0, 0, v67.toNat, 0, 0]
@[reducible] def k0_t2_loop (i : grid0.Coords) : Scf.Loop 32 :=
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let v17 : BitVec 32 := Scalar.addi c0_i32_6 v16
  let c1_i32_8 : BitVec 32 := 1#32
  ⟨v20, v17, c1_i32_8⟩
def k0_mult2 (i : grid0.Coords) (k0_t2 : Fin (k0_t2_loop i).trips) : BitVec 32 :=
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let c1_i32_8 : BitVec 32 := 1#32
  let arg10 : BitVec 32 := Scf.iv v20 c1_i32_8 k0_t2
  let c1024_i32_24 : BitVec 32 := 1024#32
  let v62 : BitVec 32 := Scalar.muli arg10 c1024_i32_24
  v62
def k0_off3 (i : grid0.Coords) (k0_t2 : Fin (k0_t2_loop i).trips) : Fin 2 → Nat :=
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let c1_i32_8 : BitVec 32 := 1#32
  let arg10 : BitVec 32 := Scf.iv v20 c1_i32_8 k0_t2
  let c1024_i32_24 : BitVec 32 := 1024#32
  let v62 : BitVec 32 := Scalar.muli arg10 c1024_i32_24
  let v63 : BitVec 32 := v62
  let v64 : Index := Scalar.indexCast v63
  let c0_25 : Index := 0#32
  ![v64.toNat, 0]
def k0_off4 (i : grid0.Coords) (k0_t2 : Fin (k0_t2_loop i).trips) : Fin 5 → Nat :=
  let c0_27 : Index := 0#32
  let c0_28 : Index := 0#32
  let c0_i32_6 : BitVec 32 := 0#32
  let arg2 : BitVec 32 := BitVec.ofNat 32 (i 2).val
  let v16 : BitVec 32 := Scalar.subi arg2 c0_i32_6
  let c1_i32 : BitVec 32 := 1#32
  let v18 : BitVec 32 := Scalar.divsi v16 c1_i32
  let v19 : BitVec 32 := Scalar.muli v18 c1_i32
  let v20 : BitVec 32 := Scalar.addi c0_i32_6 v19
  let c1_i32_8 : BitVec 32 := 1#32
  let arg10 : BitVec 32 := Scf.iv v20 c1_i32_8 k0_t2
  let v67 : Index := Scalar.indexCast arg10
  let c0_29 : Index := 0#32
  let c0_30 : Index := 0#32
  ![0, 0, v67.toNat, 0, 0]
def k0_mult3 (i : grid0.Coords) : BitVec 32 :=
  let arg2 : BitVec 32 := BitVec.ofNat 32 (i 2).val
  let c1024_i32 : BitVec 32 := 1024#32
  let v23 : BitVec 32 := Scalar.muli arg2 c1024_i32
  v23
def k0_off5 (i : grid0.Coords) : Fin 2 → Nat :=
  let arg2 : BitVec 32 := BitVec.ofNat 32 (i 2).val
  let c1024_i32 : BitVec 32 := 1024#32
  let v23 : BitVec 32 := Scalar.muli arg2 c1024_i32
  let v24 : BitVec 32 := v23
  let v25 : Index := Scalar.indexCast v24
  let c0_9 : Index := 0#32
  ![v25.toNat, 0]
def k0_off6 (i : grid0.Coords) : Fin 5 → Nat :=
  let c0_11 : Index := 0#32
  let c0_12 : Index := 0#32
  let arg2 : BitVec 32 := BitVec.ofNat 32 (i 2).val
  let v28 : Index := Scalar.indexCast arg2
  let c0_13 : Index := 0#32
  let c0_14 : Index := 0#32
  ![0, 0, v28.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some (((Real.log 2)⁻¹ : ℝ) : EReal)
  | "qscale" => some (((Real.sqrt 128)⁻¹ * (Real.log 2)⁻¹ : ℝ) : EReal)
  | _ => none
-- ==== ReferenceIdeal.lean ====
abbrev S2x4096x15360 : Shape := ⟨3, ![2, 4096, 15360]⟩
abbrev S2x8x4096 : Shape := ⟨3, ![2, 8, 4096]⟩
abbrev S2x4096x1024 : Shape := ⟨3, ![2, 4096, 1024]⟩
abbrev S2x4096x8x128 : Shape := ⟨4, ![2, 4096, 8, 128]⟩
abbrev S2x8x4096x4096 : Shape := ⟨4, ![2, 8, 4096, 4096]⟩
abbrev S_ : Shape := ⟨0, ![]⟩
abbrev S2x8x4096x1 : Shape := ⟨4, ![2, 8, 4096, 1]⟩
abbrev S2x8x1x4096 : Shape := ⟨4, ![2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x15360, .f32⟩
  | .hbm, ⟨1, _⟩ => ⟨S2x8x4096, .f32⟩
  | .hbm, ⟨2, _⟩ => ⟨S2x4096x1024, .f32⟩
  | .hbm, ⟨3, _⟩ => ⟨S2x4096x8x128, .f32⟩
  | .hbm, ⟨4, _⟩ => ⟨S2x4096x1024, .f32⟩
  | .hbm, ⟨5, _⟩ => ⟨S2x4096x8x128, .f32⟩
  | .hbm, ⟨6, _⟩ => ⟨S2x4096x1024, .f32⟩
  | .hbm, ⟨7, _⟩ => ⟨S2x4096x8x128, .f32⟩
  | .hbm, ⟨8, _⟩ => ⟨S2x8x4096x4096, .f32⟩
  | .hbm, ⟨9, _⟩ => ⟨S_, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S2x8x4096x1, .f32⟩
  | .hbm, ⟨14, _⟩ => ⟨S2x8x4096x4096, .f32⟩
  | .hbm, ⟨15, _⟩ => ⟨S2x8x4096x4096, .f32⟩
  | .hbm, ⟨16, _⟩ => ⟨S2x8x1x4096, .f32⟩
  | .hbm, ⟨17, _⟩ => ⟨S2x8x4096x4096, .f32⟩
  | .hbm, ⟨18, _⟩ => ⟨S2x8x4096x4096, .f32⟩
  | .hbm, ⟨19, _⟩ => ⟨S4096, .i32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S2x8x4096x4096, .i1⟩
  | .hbm, ⟨28, _⟩ => ⟨S2x8x4096x4096, .f32⟩
  | .hbm, ⟨29, _⟩ => ⟨S2x8x4096x4096, .f32⟩
  | .hbm, ⟨30, _⟩ => ⟨S_, .f32⟩
  | .hbm, ⟨31, _⟩ => ⟨S2x8x4096, .f32⟩
  | .hbm, ⟨32, _⟩ => ⟨S_, .f32⟩
  | .hbm, ⟨33, _⟩ => ⟨S2x8x4096, .f32⟩
  | .hbm, ⟨34, _⟩ => ⟨S2x8x4096, .f32⟩
  | .hbm, ⟨35, _⟩ => ⟨S2x8x4096x1, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S_, .f32⟩
  | .hbm, ⟨40, _⟩ => ⟨S2x8x4096, .f32⟩
  | .hbm, ⟨41, _⟩ => ⟨S2x8x4096x1, .f32⟩
  | .hbm, ⟨42, _⟩ => ⟨S2x8x4096x4096, .f32⟩
  | .hbm, ⟨43, _⟩ => ⟨S2x8x4096x4096, .f32⟩
  | .hbm, ⟨44, _⟩ => ⟨S2x8x128x4096, .f32⟩
  | .hbm, ⟨45, _⟩ => ⟨S2x4096x8x128, .f32⟩
  | .hbm, ⟨46, _⟩ => ⟨S2x4096x1024, .f32⟩
  | .hbm, ⟨47, _⟩ => ⟨S2x4096x1024, .bf16⟩
  | _, _ => ⟨S2x4096x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Mlp.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S2x1x2048, .f32⟩
  | .hbm, ⟨6, _⟩ => ⟨S2x2048x8192, .bf16⟩
  | .hbm, ⟨7, _⟩ => ⟨S2x8192x2048, .bf16⟩
  | .hbm, ⟨8, _⟩ => ⟨S2x1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S1x8192x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Merge.lean ====
abbrev S8192x1024 : Shape := ⟨2, ![8192, 1024]⟩
abbrev S2x3x1024x2048 : Shape := ⟨4, ![2, 3, 1024, 2048]⟩
abbrev S8192x15360 : Shape := ⟨2, ![8192, 15360]⟩
abbrev S8192x2048 : Shape := ⟨2, ![8192, 2048]⟩
abbrev S1024x1024 : Shape := ⟨2, ![1024, 1024]⟩
abbrev S1x3x1024x512 : Shape := ⟨4, ![1, 3, 1024, 512]⟩
abbrev S1024x512 : Shape := ⟨2, ![1024, 512]⟩
abbrev S1x1x1024x512 : Shape := ⟨4, ![1, 1, 1024, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2x3x1024x2048, .f32⟩
  | .hbm, ⟨4, _⟩ => ⟨S8192x15360, .f32⟩
  | .hbm, ⟨5, _⟩ => ⟨S2x3x1024x2048, .bf16⟩
  | .hbm, ⟨6, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x3x1024x512, .bf16⟩
  | .local _ .vmem, ⟨7, _⟩ => ⟨S1x3x1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S8192x1024 : Shape := ⟨2, ![8192, 1024]⟩
abbrev S2x3x1024x2048 : Shape := ⟨4, ![2, 3, 1024, 2048]⟩
abbrev S8192x15360 : Shape := ⟨2, ![8192, 15360]⟩
abbrev S8192x1x1024 : Shape := ⟨3, ![8192, 1, 1024]⟩
abbrev S8192x3x1024 : Shape := ⟨3, ![8192, 3, 1024]⟩
abbrev S1x3x1024x2048 : Shape := ⟨4, ![1, 3, 1024, 2048]⟩
abbrev S3x1024x2048 : Shape := ⟨3, ![3, 1024, 2048]⟩
abbrev S3x2048x8192 : Shape := ⟨3, ![3, 2048, 8192]⟩
abbrev S8192x3x2048 : Shape := ⟨3, ![8192, 3, 2048]⟩
abbrev S8192x6144 : Shape := ⟨2, ![8192, 6144]⟩
abbrev S_ : Shape := ⟨0, ![]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2x3x1024x2048, .f32⟩
  | .hbm, ⟨4, _⟩ => ⟨S8192x15360, .f32⟩
  | .hbm, ⟨5, _⟩ => ⟨S8192x1x1024, .bf16⟩
  | .hbm, ⟨6, _⟩ => ⟨S8192x1x1024, .bf16⟩
  | .hbm, ⟨7, _⟩ => ⟨S8192x1x1024, .bf16⟩
  | .hbm, ⟨8, _⟩ => ⟨S8192x3x1024, .bf16⟩
  | .hbm, ⟨9, _⟩ => ⟨S8192x3x1024, .f32⟩
  | .hbm, ⟨10, _⟩ => ⟨S1x3x1024x2048, .f32⟩
  | .hbm, ⟨11, _⟩ => ⟨S3x1024x2048, .f32⟩
  | .hbm, ⟨12, _⟩ => ⟨S3x2048x8192, .f32⟩
  | .hbm, ⟨13, _⟩ => ⟨S8192x3x2048, .f32⟩
  | .hbm, ⟨14, _⟩ => ⟨S8192x6144, .f32⟩
  | .hbm, ⟨15, _⟩ => ⟨S8192x6144, .f32⟩
  | .hbm, ⟨16, _⟩ => ⟨S8192x6144, .f32⟩
  | .hbm, ⟨17, _⟩ => ⟨S_, .f32⟩
  | .hbm, ⟨18, _⟩ => ⟨S8192x6144, .f32⟩
  | .hbm, ⟨19, _⟩ => ⟨S8192x6144, .f32⟩
  | .hbm, ⟨20, _⟩ => ⟨S_, .f32⟩
  | .hbm, ⟨21, _⟩ => ⟨S8192x6144, .f32⟩
  | .hbm, ⟨22, _⟩ => ⟨S8192x6144, .f32⟩
  | .hbm, ⟨23, _⟩ => ⟨S8192x3x2048, .f32⟩
  | .hbm, ⟨24, _⟩ => ⟨S8192x2048, .f32⟩
  | .hbm, ⟨25, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Outproj.lean ====
abbrev S8192x2048 : Shape := ⟨2, ![8192, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x2048, .f32⟩
  | .hbm, ⟨3, _⟩ => ⟨S8192x2048, .f32⟩
  | .hbm, ⟨4, _⟩ => ⟨S2x2048x2048, .bf16⟩
  | .hbm, ⟨5, _⟩ => ⟨S2x1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutprojRefIdeal.lean ====
abbrev S8192x2048 : Shape := ⟨2, ![8192, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x2048, .f32⟩
  | .hbm, ⟨3, _⟩ => ⟨S8192x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Inproj.lean ====
abbrev S8192x2048 : Shape := ⟨2, ![8192, 2048]⟩
abbrev S2x2048 : Shape := ⟨2, ![2, 2048]⟩
abbrev S2x2048x15360 : Shape := ⟨3, ![2, 2048, 15360]⟩
abbrev S2x2048x128 : Shape := ⟨3, ![2, 2048, 128]⟩
abbrev S2x1x2048 : Shape := ⟨3, ![2, 1, 2048]⟩
abbrev S8192x15360 : Shape := ⟨2, ![8192, 15360]⟩
abbrev S8192x128 : Shape := ⟨2, ![8192, 128]⟩
abbrev S1024x2048 : Shape := ⟨2, ![1024, 2048]⟩
abbrev S1x1x2048 : Shape := ⟨3, ![1, 1, 2048]⟩
abbrev S1x2048x1536 : Shape := ⟨3, ![1, 2048, 1536]⟩
abbrev S1x2048x128 : Shape := ⟨3, ![1, 2048, 128]⟩
abbrev S1024x1536 : Shape := ⟨2, ![1024, 1536]⟩
abbrev S1024x128 : Shape := ⟨2, ![1024, 128]⟩
abbrev S1x2048 : Shape := ⟨2, ![1, 2048]⟩
abbrev S1024 : Shape := ⟨1, ![1024]⟩
abbrev S1024x1 : Shape := ⟨2, ![1024, 1]⟩
abbrev S2048x1536 : Shape := ⟨2, ![2048, 1536]⟩
abbrev S2048x128 : Shape := ⟨2, ![2048, 128]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x15360, .bf16⟩
  | .hbm, ⟨3, _⟩ => ⟨S2x2048x128, .f32⟩
  | .hbm, ⟨4, _⟩ => ⟨S2x1x2048, .f32⟩
  | .hbm, ⟨5, _⟩ => ⟨S8192x15360, .f32⟩
  | .hbm, ⟨6, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1536, .bf16⟩
  | .local _ .vmem, ⟨4, _⟩ => ⟨S1x2048x1536, .bf16⟩
  | .local _ .vmem, ⟨5, _⟩ => ⟨S1x2048x128, .f32⟩
  | .local _ .vmem, ⟨6, _⟩ => ⟨S1024x1536, .f32⟩
  | .local _ .vmem, ⟨7, _⟩ => ⟨S1024x1536, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojRefIdeal.lean ====
abbrev S8192x2048 : Shape := ⟨2, ![8192, 2048]⟩
abbrev S2x2048 : Shape := ⟨2, ![2, 2048]⟩
abbrev S2x2048x15360 : Shape := ⟨3, ![2, 2048, 15360]⟩
abbrev S2x2048x128 : Shape := ⟨3, ![2, 2048, 128]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x15360 : Shape := ⟨3, ![1, 2048, 15360]⟩
abbrev S2048x15360 : Shape := ⟨2, ![2048, 15360]⟩
abbrev S8192x15360 : Shape := ⟨2, ![8192, 15360]⟩
abbrev S1x2048x128 : Shape := ⟨3, ![1, 2048, 128]⟩
abbrev S2048x128 : Shape := ⟨2, ![2048, 128]⟩
abbrev S8192x128 : Shape := ⟨2, ![8192, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x15360, .bf16⟩
  | .hbm, ⟨3, _⟩ => ⟨S2x2048x128, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x15360, .bf16⟩
  | .hbm, ⟨23, _⟩ => ⟨S2048x15360, .bf16⟩
  | .hbm, ⟨24, _⟩ => ⟨S2048x15360, .f32⟩
  | .hbm, ⟨25, _⟩ => ⟨S8192x15360, .f32⟩
  | .hbm, ⟨26, _⟩ => ⟨S1x2048x128, .f32⟩
  | .hbm, ⟨27, _⟩ => ⟨S2048x128, .f32⟩
  | .hbm, ⟨28, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MlpB.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x1x2048 : Shape := ⟨3, ![2, 1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S2x1x2048, .f32⟩
  | .hbm, ⟨6, _⟩ => ⟨S2x2048x8192, .bf16⟩
  | .hbm, ⟨7, _⟩ => ⟨S2x8192x2048, .bf16⟩
  | .hbm, ⟨8, _⟩ => ⟨S2x1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpBRefIdeal.lean ====
abbrev S8192x2048 : Shape := ⟨2, ![8192, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x8192 : Shape := ⟨3, ![1, 2048, 8192]⟩
abbrev S2048x8192 : Shape := ⟨2, ![2048, 8192]⟩
abbrev S8192x8192 : Shape := ⟨2, ![8192, 8192]⟩
abbrev S1x8192x2048 : Shape := ⟨3, ![1, 8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x8192, .f32⟩
  | .hbm, ⟨24, _⟩ => ⟨S2048x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S1x8192x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MergeB.lean ====
abbrev S8192x1024 : Shape := ⟨2, ![8192, 1024]⟩
abbrev S2x3x1024x2048 : Shape := ⟨4, ![2, 3, 1024, 2048]⟩
abbrev S8192x15360 : Shape := ⟨2, ![8192, 15360]⟩
abbrev S8192x2048 : Shape := ⟨2, ![8192, 2048]⟩
abbrev S1024x1024 : Shape := ⟨2, ![1024, 1024]⟩
abbrev S1x3x1024x512 : Shape := ⟨4, ![1, 3, 1024, 512]⟩
abbrev S1024x512 : Shape := ⟨2, ![1024, 512]⟩
abbrev S1x1x1024x512 : Shape := ⟨4, ![1, 1, 1024, 512]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2x3x1024x2048, .f32⟩
  | .hbm, ⟨4, _⟩ => ⟨S8192x15360, .f32⟩
  | .hbm, ⟨5, _⟩ => ⟨S2x3x1024x2048, .bf16⟩
  | .hbm, ⟨6, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x3x1024x512, .bf16⟩
  | .local _ .vmem, ⟨7, _⟩ => ⟨S1x3x1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeBRefIdeal.lean ====
abbrev S8192x1024 : Shape := ⟨2, ![8192, 1024]⟩
abbrev S2x3x1024x2048 : Shape := ⟨4, ![2, 3, 1024, 2048]⟩
abbrev S8192x15360 : Shape := ⟨2, ![8192, 15360]⟩
abbrev S8192x1x1024 : Shape := ⟨3, ![8192, 1, 1024]⟩
abbrev S8192x3x1024 : Shape := ⟨3, ![8192, 3, 1024]⟩
abbrev S1x3x1024x2048 : Shape := ⟨4, ![1, 3, 1024, 2048]⟩
abbrev S3x1024x2048 : Shape := ⟨3, ![3, 1024, 2048]⟩
abbrev S3x2048x8192 : Shape := ⟨3, ![3, 2048, 8192]⟩
abbrev S8192x3x2048 : Shape := ⟨3, ![8192, 3, 2048]⟩
abbrev S8192x6144 : Shape := ⟨2, ![8192, 6144]⟩
abbrev S_ : Shape := ⟨0, ![]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2x3x1024x2048, .f32⟩
  | .hbm, ⟨4, _⟩ => ⟨S8192x15360, .f32⟩
  | .hbm, ⟨5, _⟩ => ⟨S8192x1x1024, .bf16⟩
  | .hbm, ⟨6, _⟩ => ⟨S8192x1x1024, .bf16⟩
  | .hbm, ⟨7, _⟩ => ⟨S8192x1x1024, .bf16⟩
  | .hbm, ⟨8, _⟩ => ⟨S8192x3x1024, .bf16⟩
  | .hbm, ⟨9, _⟩ => ⟨S8192x3x1024, .f32⟩
  | .hbm, ⟨10, _⟩ => ⟨S1x3x1024x2048, .f32⟩
  | .hbm, ⟨11, _⟩ => ⟨S3x1024x2048, .f32⟩
  | .hbm, ⟨12, _⟩ => ⟨S3x2048x8192, .f32⟩
  | .hbm, ⟨13, _⟩ => ⟨S8192x3x2048, .f32⟩
  | .hbm, ⟨14, _⟩ => ⟨S8192x6144, .f32⟩
  | .hbm, ⟨15, _⟩ => ⟨S8192x6144, .f32⟩
  | .hbm, ⟨16, _⟩ => ⟨S8192x6144, .f32⟩
  | .hbm, ⟨17, _⟩ => ⟨S_, .f32⟩
  | .hbm, ⟨18, _⟩ => ⟨S8192x6144, .f32⟩
  | .hbm, ⟨19, _⟩ => ⟨S8192x6144, .f32⟩
  | .hbm, ⟨20, _⟩ => ⟨S_, .f32⟩
  | .hbm, ⟨21, _⟩ => ⟨S8192x6144, .f32⟩
  | .hbm, ⟨22, _⟩ => ⟨S8192x6144, .f32⟩
  | .hbm, ⟨23, _⟩ => ⟨S8192x3x2048, .f32⟩
  | .hbm, ⟨24, _⟩ => ⟨S8192x2048, .f32⟩
  | .hbm, ⟨25, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutprojB.lean ====
abbrev S8192x2048 : Shape := ⟨2, ![8192, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S512x2048 : Shape := ⟨2, ![512, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x2048, .f32⟩
  | .hbm, ⟨3, _⟩ => ⟨S8192x2048, .f32⟩
  | .hbm, ⟨4, _⟩ => ⟨S2x2048x2048, .bf16⟩
  | .hbm, ⟨5, _⟩ => ⟨S2x1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S1x1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutprojBRefIdeal.lean ====
abbrev S8192x2048 : Shape := ⟨2, ![8192, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S2x2048, .f32⟩
  | .hbm, ⟨3, _⟩ => ⟨S8192x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S1x2048, .f32⟩
  | .hbm, ⟨9, _⟩ => ⟨S2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InprojB.lean ====
abbrev S8192x2048 : Shape := ⟨2, ![8192, 2048]⟩
abbrev S2x2048 : Shape := ⟨2, ![2, 2048]⟩
abbrev S2x2048x15360 : Shape := ⟨3, ![2, 2048, 15360]⟩
abbrev S2x2048x128 : Shape := ⟨3, ![2, 2048, 128]⟩
abbrev S2x1x2048 : Shape := ⟨3, ![2, 1, 2048]⟩
abbrev S8192x15360 : Shape := ⟨2, ![8192, 15360]⟩
abbrev S8192x128 : Shape := ⟨2, ![8192, 128]⟩
abbrev S1024x2048 : Shape := ⟨2, ![1024, 2048]⟩
abbrev S1x1x2048 : Shape := ⟨3, ![1, 1, 2048]⟩
abbrev S1x2048x1536 : Shape := ⟨3, ![1, 2048, 1536]⟩
abbrev S1x2048x128 : Shape := ⟨3, ![1, 2048, 128]⟩
abbrev S1024x1536 : Shape := ⟨2, ![1024, 1536]⟩
abbrev S1024x128 : Shape := ⟨2, ![1024, 128]⟩
abbrev S1x2048 : Shape := ⟨2, ![1, 2048]⟩
abbrev S1024 : Shape := ⟨1, ![1024]⟩
abbrev S1024x1 : Shape := ⟨2, ![1024, 1]⟩
abbrev S2048x1536 : Shape := ⟨2, ![2048, 1536]⟩
abbrev S2048x128 : Shape := ⟨2, ![2048, 128]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x15360, .bf16⟩
  | .hbm, ⟨3, _⟩ => ⟨S2x2048x128, .f32⟩
  | .hbm, ⟨4, _⟩ => ⟨S2x1x2048, .f32⟩
  | .hbm, ⟨5, _⟩ => ⟨S8192x15360, .f32⟩
  | .hbm, ⟨6, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x1536, .bf16⟩
  | .local _ .vmem, ⟨4, _⟩ => ⟨S1x2048x1536, .bf16⟩
  | .local _ .vmem, ⟨5, _⟩ => ⟨S1x2048x128, .f32⟩
  | .local _ .vmem, ⟨6, _⟩ => ⟨S1024x1536, .f32⟩
  | .local _ .vmem, ⟨7, _⟩ => ⟨S1024x1536, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 11], ![false, false]⟩

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InprojBRefIdeal.lean ====
abbrev S8192x2048 : Shape := ⟨2, ![8192, 2048]⟩
abbrev S2x2048 : Shape := ⟨2, ![2, 2048]⟩
abbrev S2x2048x15360 : Shape := ⟨3, ![2, 2048, 15360]⟩
abbrev S2x2048x128 : Shape := ⟨3, ![2, 2048, 128]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x15360 : Shape := ⟨3, ![1, 2048, 15360]⟩
abbrev S2048x15360 : Shape := ⟨2, ![2048, 15360]⟩
abbrev S8192x15360 : Shape := ⟨2, ![8192, 15360]⟩
abbrev S1x2048x128 : Shape := ⟨3, ![1, 2048, 128]⟩
abbrev S2048x128 : Shape := ⟨2, ![2048, 128]⟩
abbrev S8192x128 : Shape := ⟨2, ![8192, 128]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S2x2048x15360, .bf16⟩
  | .hbm, ⟨3, _⟩ => ⟨S2x2048x128, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x15360, .bf16⟩
  | .hbm, ⟨23, _⟩ => ⟨S2048x15360, .bf16⟩
  | .hbm, ⟨24, _⟩ => ⟨S2048x15360, .f32⟩
  | .hbm, ⟨25, _⟩ => ⟨S8192x15360, .f32⟩
  | .hbm, ⟨26, _⟩ => ⟨S1x2048x128, .f32⟩
  | .hbm, ⟨27, _⟩ => ⟨S2048x128, .f32⟩
  | .hbm, ⟨28, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MlpS.lean ====
abbrev S128x2048 : Shape := ⟨2, ![128, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x1x2048 : Shape := ⟨3, ![2, 1, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S128 : Shape := ⟨1, ![128]⟩
abbrev S128x1 : Shape := ⟨2, ![128, 1]⟩
abbrev S2048x512 : Shape := ⟨2, ![2048, 512]⟩
abbrev S128x512 : Shape := ⟨2, ![128, 512]⟩
abbrev S512x2048 : Shape := ⟨2, ![512, 2048]⟩

abbrev nBuf : Space → Nat
  | .hbm => 10
  | .vmem => 9
  | .smem => 0
  | _ => 0

abbrev bufTy : (tb : Table) → Fin (tcTables nBuf tb) → BufTy
  | .hbm, ⟨0, _⟩ => ⟨S128x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S2x1x2048, .f32⟩
  | .hbm, ⟨6, _⟩ => ⟨S2x2048x8192, .bf16⟩
  | .hbm, ⟨7, _⟩ => ⟨S2x8192x2048, .bf16⟩
  | .hbm, ⟨8, _⟩ => ⟨S2x1x2048, .f32⟩
  | .hbm, ⟨9, _⟩ => ⟨S128x2048, .f32⟩
  | .local _ .vmem, ⟨0, _⟩ => ⟨S128x2048, .f32⟩
  | .local _ .vmem, ⟨1, _⟩ => ⟨S1x1x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x1x2048, .f32⟩
  | .local _ .vmem, ⟨7, _⟩ => ⟨S128x2048, .f32⟩
  | .local _ .vmem, ⟨8, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== MlpSRefIdeal.lean ====
abbrev S128x2048 : Shape := ⟨2, ![128, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048x8192 : Shape := ⟨3, ![1, 2048, 8192]⟩
abbrev S2048x8192 : Shape := ⟨2, ![2048, 8192]⟩
abbrev S128x8192 : Shape := ⟨2, ![128, 8192]⟩
abbrev S1x8192x2048 : Shape := ⟨3, ![1, 8192, 2048]⟩
abbrev S8192x2048 : Shape := ⟨2, ![8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S128x2048, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S1x2048, .f32⟩
  | .hbm, ⟨21, _⟩ => ⟨S128x2048, .f32⟩
  | .hbm, ⟨22, _⟩ => ⟨S128x2048, .f32⟩
  | .hbm, ⟨23, _⟩ => ⟨S1x2048x8192, .f32⟩
  | .hbm, ⟨24, _⟩ => ⟨S2048x8192, .f32⟩
  | .hbm, ⟨25, _⟩ => ⟨S128x8192, .f32⟩
  | .hbm, ⟨26, _⟩ => ⟨S_, .f32⟩
  | .hbm, ⟨27, _⟩ => ⟨S128x8192, .f32⟩
  | .hbm, ⟨28, _⟩ => ⟨S128x8192, .f32⟩
  | .hbm, ⟨29, _⟩ => ⟨S128x8192, .f32⟩
  | .hbm, ⟨30, _⟩ => ⟨S1x8192x2048, .f32⟩
  | .hbm, ⟨31, _⟩ => ⟨S8192x2048, .f32⟩
  | .hbm, ⟨32, _⟩ => ⟨S128x2048, .f32⟩
  | .hbm, ⟨33, _⟩ => ⟨S1x2048, .f32⟩
  | .hbm, ⟨34, _⟩ => ⟨S2048, .f32⟩
  | .hbm, ⟨35, _⟩ => ⟨S128x2048, .f32⟩
  | .hbm, ⟨36, _⟩ => ⟨S_, .f32⟩
  | .hbm, ⟨37, _⟩ => ⟨S128, .f32⟩
  | .hbm, ⟨38, _⟩ => ⟨S128x1, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S128x1, .f32⟩
  | .hbm, ⟨46, _⟩ => ⟨S128x2048, .f32⟩
  | .hbm, ⟨47, _⟩ => ⟨S128x2048, .f32⟩
  | .hbm, ⟨48, _⟩ => ⟨S1x2048, .f32⟩
  | .hbm, ⟨49, _⟩ => ⟨S128x2048, .f32⟩
  | .hbm, ⟨50, _⟩ => ⟨S128x2048, .f32⟩
  | .hbm, ⟨51, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MergeS.lean ====
abbrev S128x1024 : Shape := ⟨2, ![128, 1024]⟩
abbrev S2x3x1024x2048 : Shape := ⟨4, ![2, 3, 1024, 2048]⟩
abbrev S128x15360 : Shape := ⟨2, ![128, 15360]⟩
abbrev S128x2048 : Shape := ⟨2, ![128, 2048]⟩
abbrev S1x3x1024x512 : Shape := ⟨4, ![1, 3, 1024, 512]⟩
abbrev S128x512 : Shape := ⟨2, ![128, 512]⟩
abbrev S1x1x1024x512 : Shape := ⟨4, ![1, 1, 1024, 512]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S128x1024, .bf16⟩
  | .hbm, ⟨3, _⟩ => ⟨S2x3x1024x2048, .f32⟩
  | .hbm, ⟨4, _⟩ => ⟨S128x15360, .f32⟩
  | .hbm, ⟨5, _⟩ => ⟨S2x3x1024x2048, .bf16⟩
  | .hbm, ⟨6, _⟩ => ⟨S128x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S1x3x1024x512, .bf16⟩
  | .local _ .vmem, ⟨4, _⟩ => ⟨S1x3x1024x512, .bf16⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .bf16⟩
  | .local _ .vmem, ⟨12, _⟩ => ⟨S128x512, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeSRefIdeal.lean ====
abbrev S128x1024 : Shape := ⟨2, ![128, 1024]⟩
abbrev S2x3x1024x2048 : Shape := ⟨4, ![2, 3, 1024, 2048]⟩
abbrev S128x15360 : Shape := ⟨2, ![128, 15360]⟩
abbrev S128x1x1024 : Shape := ⟨3, ![128, 1, 1024]⟩
abbrev S128x3x1024 : Shape := ⟨3, ![128, 3, 1024]⟩
abbrev S1x3x1024x2048 : Shape := ⟨4, ![1, 3, 1024, 2048]⟩
abbrev S3x1024x2048 : Shape := ⟨3, ![3, 1024, 2048]⟩
abbrev S3x2048x128 : Shape := ⟨3, ![3, 2048, 128]⟩
abbrev S128x3x2048 : Shape := ⟨3, ![128, 3, 2048]⟩
abbrev S128x6144 : Shape := ⟨2, ![128, 6144]⟩
abbrev S_ : Shape := ⟨0, ![]⟩
abbrev S128x2048 : Shape := ⟨2, ![128, 2048]⟩

abbrev nBuf : Space → Nat
  | .hbm => 26
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S128x1024, .bf16⟩
  | .hbm, ⟨3, _⟩ => ⟨S2x3x1024x2048, .f32⟩
  | .hbm, ⟨4, _⟩ => ⟨S128x15360, .f32⟩
  | .hbm, ⟨5, _⟩ => ⟨S128x1x1024, .bf16⟩
  | .hbm, ⟨6, _⟩ => ⟨S128x1x1024, .bf16⟩
  | .hbm, ⟨7, _⟩ => ⟨S128x1x1024, .bf16⟩
  | .hbm, ⟨8, _⟩ => ⟨S128x3x1024, .bf16⟩
  | .hbm, ⟨9, _⟩ => ⟨S128x3x1024, .f32⟩
  | .hbm, ⟨10, _⟩ => ⟨S1x3x1024x2048, .f32⟩
  | .hbm, ⟨11, _⟩ => ⟨S3x1024x2048, .f32⟩
  | .hbm, ⟨12, _⟩ => ⟨S3x2048x128, .f32⟩
  | .hbm, ⟨13, _⟩ => ⟨S128x3x2048, .f32⟩
  | .hbm, ⟨14, _⟩ => ⟨S128x6144, .f32⟩
  | .hbm, ⟨15, _⟩ => ⟨S128x6144, .f32⟩
  | .hbm, ⟨16, _⟩ => ⟨S128x6144, .f32⟩
  | .hbm, ⟨17, _⟩ => ⟨S_, .f32⟩
  | .hbm, ⟨18, _⟩ => ⟨S128x6144, .f32⟩
  | .hbm, ⟨19, _⟩ => ⟨S128x6144, .f32⟩
  | .hbm, ⟨20, _⟩ => ⟨S_, .f32⟩
  | .hbm, ⟨21, _⟩ => ⟨S128x6144, .f32⟩
  | .hbm, ⟨22, _⟩ => ⟨S128x6144, .f32⟩
  | .hbm, ⟨23, _⟩ => ⟨S128x3x2048, .f32⟩
  | .hbm, ⟨24, _⟩ => ⟨S128x2048, .f32⟩
  | .hbm, ⟨25, _⟩ => ⟨S128x2048, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutprojS.lean ====
abbrev S128x2048 : Shape := ⟨2, ![128, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩
abbrev S128 : Shape := ⟨1, ![128]⟩
abbrev S128x1 : Shape := ⟨2, ![128, 1]⟩

abbrev nBuf : Space → Nat
  | .hbm => 7
  | .vmem => 5
  | .smem => 0
  | _ => 0

abbrev bufTy : (tb : Table) → Fin (tcTables nBuf tb) → BufTy
  | .hbm, ⟨0, _⟩ => ⟨S128x2048, .bf16⟩
  | .hbm, ⟨1, _⟩ => ⟨S2x2048x2048, .f32⟩
  | .hbm, ⟨2, _⟩ => ⟨S2x2048, .f32⟩
  | .hbm, ⟨3, _⟩ => ⟨S128x2048, .f32⟩
  | .hbm, ⟨4, _⟩ => ⟨S2x2048x2048, .bf16⟩
  | .hbm, ⟨5, _⟩ => ⟨S2x1x2048, .f32⟩
  | .hbm, ⟨6, _⟩ => ⟨S128x2048, .f32⟩
  | .local _ .vmem, ⟨0, _⟩ => ⟨S128x2048, .bf16⟩
  | .local _ .vmem, ⟨1, _⟩ => ⟨S1x2048x2048, .bf16⟩
  | .local _ .vmem, ⟨2, _⟩ => ⟨S1x1x2048, .f32⟩
  | .local _ .vmem, ⟨3, _⟩ => ⟨S128x2048, .f32⟩
  | .local _ .vmem, ⟨4, _⟩ => ⟨S128x2048, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== OutprojSRefIdeal.lean ====
abbrev S128x2048 : Shape := ⟨2, ![128, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩

abbrev nBuf : Space → Nat
  | .hbm => 27
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2x2048x2048, .f32⟩
  | .hbm, ⟨2, _⟩ => ⟨S2x2048, .f32⟩
  | .hbm, ⟨3, _⟩ => ⟨S128x2048, .f32⟩
  | .hbm, ⟨4, _⟩ => ⟨S128x2048, .f32⟩
  | .hbm, ⟨5, _⟩ => ⟨S1x2048x2048, .f32⟩
  | .hbm, ⟨6, _⟩ => ⟨S2048x2048, .f32⟩
  | .hbm, ⟨7, _⟩ => ⟨S128x2048, .f32⟩
  | .hbm, ⟨8, _⟩ => ⟨S1x2048, .f32⟩
  | .hbm, ⟨9, _⟩ => ⟨S2048, .f32⟩
  | .hbm, ⟨10, _⟩ => ⟨S128x2048, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x2048, .f32⟩
  | .hbm, ⟨22, _⟩ => ⟨S128x2048, .f32⟩
  | .hbm, ⟨23, _⟩ => ⟨S1x2048, .f32⟩
  | .hbm, ⟨24, _⟩ => ⟨S128x2048, .f32⟩
  | .hbm, ⟨25, _⟩ => ⟨S128x2048, .f32⟩
  | .hbm, ⟨26, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InprojS.lean ====
abbrev S128x2048 : Shape := ⟨2, ![128, 2048]⟩
abbrev S2x2048 : Shape := ⟨2, ![2, 2048]⟩
abbrev S2x2048x15360 : Shape := ⟨3, ![2, 2048, 15360]⟩
abbrev S2x2048x128 : Shape := ⟨3, ![2, 2048, 128]⟩
abbrev S2x1x2048 : Shape := ⟨3, ![2, 1, 2048]⟩
abbrev S128x15360 : Shape := ⟨2, ![128, 15360]⟩
abbrev S128x128 : Shape := ⟨2, ![128, 128]⟩
abbrev S1x1x2048 : Shape := ⟨3, ![1, 1, 2048]⟩
abbrev S1x2048x1536 : Shape := ⟨3, ![1, 2048, 1536]⟩
abbrev S1x2048x128 : Shape := ⟨3, ![1, 2048, 128]⟩
abbrev S128x1536 : Shape := ⟨2, ![128, 1536]⟩
abbrev S1x2048 : Shape := ⟨2, ![1, 2048]⟩
abbrev S128 : Shape := ⟨1, ![128]⟩
abbrev S128x1 : Shape := ⟨2, ![128, 1]⟩
abbrev S2048x1536 : Shape := ⟨2, ![2048, 1536]⟩
abbrev S2048x128 : Shape := ⟨2, ![2048, 128]⟩

abbrev nBuf : Space → Nat
  | .hbm => 7
  | .vmem => 9
  | .smem => 0
  | _ => 0

abbrev bufTy : (tb : Table) → Fin (tcTables nBuf tb) → BufTy
  | .hbm, ⟨0, _⟩ => ⟨S128x2048, .f32⟩
  | .hbm, ⟨1, _⟩ => ⟨S2x2048, .f32⟩
  | .hbm, ⟨2, _⟩ => ⟨S2x2048x15360, .bf16⟩
  | .hbm, ⟨3, _⟩ => ⟨S2x2048x128, .f32⟩
  | .hbm, ⟨4, _⟩ => ⟨S2x1x2048, .f32⟩
  | .hbm, ⟨5, _⟩ => ⟨S128x15360, .f32⟩
  | .hbm, ⟨6, _⟩ => ⟨S128x128, .f32⟩
  | .local _ .vmem, ⟨0, _⟩ => ⟨S128x2048, .f32⟩
  | .local _ .vmem, ⟨1, _⟩ => ⟨S1x1x2048, .f32⟩
  | .local _ .vmem, ⟨2, _⟩ => ⟨S1x2048x1536, .bf16⟩
  | .local _ .vmem, ⟨3, _⟩ => ⟨S1x2048x1536, .bf16⟩
  | .local _ .vmem, ⟨4, _⟩ => ⟨S1x2048x128, .f32⟩
  | .local _ .vmem, ⟨5, _⟩ => ⟨S128x1536, .f32⟩
  | .local _ .vmem, ⟨6, _⟩ => ⟨S128x1536, .f32⟩
  | .local _ .vmem, ⟨7, _⟩ => ⟨S128x128, .f32⟩
  | .local _ .vmem, ⟨8, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== InprojSRefIdeal.lean ====
abbrev S128x2048 : Shape := ⟨2, ![128, 2048]⟩
abbrev S2x2048 : Shape := ⟨2, ![2, 2048]⟩
abbrev S2x2048x15360 : Shape := ⟨3, ![2, 2048, 15360]⟩
abbrev S2x2048x128 : Shape := ⟨3, ![2, 2048, 128]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048x15360 : Shape := ⟨3, ![1, 2048, 15360]⟩
abbrev S2048x15360 : Shape := ⟨2, ![2048, 15360]⟩
abbrev S128x15360 : Shape := ⟨2, ![128, 15360]⟩
abbrev S1x2048x128 : Shape := ⟨3, ![1, 2048, 128]⟩
abbrev S2048x128 : Shape := ⟨2, ![2048, 128]⟩
abbrev S128x128 : Shape := ⟨2, ![128, 128]⟩

abbrev nBuf : Space → Nat
  | .hbm => 29
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2x2048, .f32⟩
  | .hbm, ⟨2, _⟩ => ⟨S2x2048x15360, .bf16⟩
  | .hbm, ⟨3, _⟩ => ⟨S2x2048x128, .f32⟩
  | .hbm, ⟨4, _⟩ => ⟨S1x2048, .f32⟩
  | .hbm, ⟨5, _⟩ => ⟨S2048, .f32⟩
  | .hbm, ⟨6, _⟩ => ⟨S128x2048, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x2048, .f32⟩
  | .hbm, ⟨18, _⟩ => ⟨S128x2048, .f32⟩
  | .hbm, ⟨19, _⟩ => ⟨S1x2048, .f32⟩
  | .hbm, ⟨20, _⟩ => ⟨S128x2048, .f32⟩
  | .hbm, ⟨21, _⟩ => ⟨S128x2048, .f32⟩
  | .hbm, ⟨22, _⟩ => ⟨S1x2048x15360, .bf16⟩
  | .hbm, ⟨23, _⟩ => ⟨S2048x15360, .bf16⟩
  | .hbm, ⟨24, _⟩ => ⟨S2048x15360, .f32⟩
  | .hbm, ⟨25, _⟩ => ⟨S128x15360, .f32⟩
  | .hbm, ⟨26, _⟩ => ⟨S1x2048x128, .f32⟩
  | .hbm, ⟨27, _⟩ => ⟨S2048x128, .f32⟩
  | .hbm, ⟨28, _⟩ => ⟨S128x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== MlpSB.lean ====
abbrev S128x2048 : Shape := ⟨2, ![128, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2x1x2048 : Shape := ⟨3, ![2, 1, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S128 : Shape := ⟨1, ![128]⟩
abbrev S128x1 : Shape := ⟨2, ![128, 1]⟩
abbrev S2048x512 : Shape := ⟨2, ![2048, 512]⟩
abbrev S128x512 : Shape := ⟨2, ![128, 512]⟩
abbrev S512x2048 : Shape := ⟨2, ![512, 2048]⟩

abbrev nBuf : Space → Nat
  | .hbm => 10
  | .vmem => 9
  | .smem => 0
  | _ => 0

abbrev bufTy : (tb : Table) → Fin (tcTables nBuf tb) → BufTy
  | .hbm, ⟨0, _⟩ => ⟨S128x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S2x1x2048, .f32⟩
  | .hbm, ⟨6, _⟩ => ⟨S2x2048x8192, .bf16⟩
  | .hbm, ⟨7, _⟩ => ⟨S2x8192x2048, .bf16⟩
  | .hbm, ⟨8, _⟩ => ⟨S2x1x2048, .f32⟩
  | .hbm, ⟨9, _⟩ => ⟨S128x2048, .f32⟩
  | .local _ .vmem, ⟨0, _⟩ => ⟨S128x2048, .f32⟩
  | .local _ .vmem, ⟨1, _⟩ => ⟨S1x1x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x1x2048, .f32⟩
  | .local _ .vmem, ⟨7, _⟩ => ⟨S128x2048, .f32⟩
  | .local _ .vmem, ⟨8, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== MlpSBRefIdeal.lean ====
abbrev S128x2048 : Shape := ⟨2, ![128, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048x8192 : Shape := ⟨3, ![1, 2048, 8192]⟩
abbrev S2048x8192 : Shape := ⟨2, ![2048, 8192]⟩
abbrev S128x8192 : Shape := ⟨2, ![128, 8192]⟩
abbrev S1x8192x2048 : Shape := ⟨3, ![1, 8192, 2048]⟩
abbrev S8192x2048 : Shape := ⟨2, ![8192, 2048]⟩

abbrev nBuf : Space → Nat
  | .hbm => 52
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2x2048, .f32⟩
  | .hbm, ⟨2, _⟩ => ⟨S2x2048x8192, .f32⟩
  | .hbm, ⟨3, _⟩ => ⟨S2x8192x2048, .f32⟩
  | .hbm, ⟨4, _⟩ => ⟨S2x2048, .f32⟩
  | .hbm, ⟨5, _⟩ => ⟨S1x2048, .f32⟩
  | .hbm, ⟨6, _⟩ => ⟨S2048, .f32⟩
  | .hbm, ⟨7, _⟩ => ⟨S128x2048, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x2048, .f32⟩
  | .hbm, ⟨19, _⟩ => ⟨S128x2048, .f32⟩
  | .hbm, ⟨20, _⟩ => ⟨S1x2048, .f32⟩
  | .hbm, ⟨21, _⟩ => ⟨S128x2048, .f32⟩
  | .hbm, ⟨22, _⟩ => ⟨S128x2048, .f32⟩
  | .hbm, ⟨23, _⟩ => ⟨S1x2048x8192, .f32⟩
  | .hbm, ⟨24, _⟩ => ⟨S2048x8192, .f32⟩
  | .hbm, ⟨25, _⟩ => ⟨S128x8192, .f32⟩
  | .hbm, ⟨26, _⟩ => ⟨S_, .f32⟩
  | .hbm, ⟨27, _⟩ => ⟨S128x8192, .f32⟩
  | .hbm, ⟨28, _⟩ => ⟨S128x8192, .f32⟩
  | .hbm, ⟨29, _⟩ => ⟨S128x8192, .f32⟩
  | .hbm, ⟨30, _⟩ => ⟨S1x8192x2048, .f32⟩
  | .hbm, ⟨31, _⟩ => ⟨S8192x2048, .f32⟩
  | .hbm, ⟨32, _⟩ => ⟨S128x2048, .f32⟩
  | .hbm, ⟨33, _⟩ => ⟨S1x2048, .f32⟩
  | .hbm, ⟨34, _⟩ => ⟨S2048, .f32⟩
  | .hbm, ⟨35, _⟩ => ⟨S128x2048, .f32⟩
  | .hbm, ⟨36, _⟩ => ⟨S_, .f32⟩
  | .hbm, ⟨37, _⟩ => ⟨S128, .f32⟩
  | .hbm, ⟨38, _⟩ => ⟨S128x1, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S_, .f32⟩
  | .hbm, ⟨43, _⟩ => ⟨S128x1, .f32⟩
  | .hbm, ⟨44, _⟩ => ⟨S128x1, .f32⟩
  | .hbm, ⟨45, _⟩ => ⟨S128x1, .f32⟩
  | .hbm, ⟨46, _⟩ => ⟨S128x2048, .f32⟩
  | .hbm, ⟨47, _⟩ => ⟨S128x2048, .f32⟩
  | .hbm, ⟨48, _⟩ => ⟨S1x2048, .f32⟩
  | .hbm, ⟨49, _⟩ => ⟨S128x2048, .f32⟩
  | .hbm, ⟨50, _⟩ => ⟨S128x2048, .f32⟩
  | .hbm, ⟨51, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MergeSB.lean ====
abbrev S128x1024 : Shape := ⟨2, ![128, 1024]⟩
abbrev S2x3x1024x2048 : Shape := ⟨4, ![2, 3, 1024, 2048]⟩
abbrev S128x15360 : Shape := ⟨2, ![128, 15360]⟩
abbrev S128x2048 : Shape := ⟨2, ![128, 2048]⟩
abbrev S1x3x1024x512 : Shape := ⟨4, ![1, 3, 1024, 512]⟩
abbrev S128x512 : Shape := ⟨2, ![128, 512]⟩
abbrev S1x1x1024x512 : Shape := ⟨4, ![1, 1, 1024, 512]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S128x1024, .bf16⟩
  | .hbm, ⟨3, _⟩ => ⟨S2x3x1024x2048, .f32⟩
  | .hbm, ⟨4, _⟩ => ⟨S128x15360, .f32⟩
  | .hbm, ⟨5, _⟩ => ⟨S2x3x1024x2048, .bf16⟩
  | .hbm, ⟨6, _⟩ => ⟨S128x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S1x3x1024x512, .bf16⟩
  | .local _ .vmem, ⟨4, _⟩ => ⟨S1x3x1024x512, .bf16⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .bf16⟩
  | .local _ .vmem, ⟨12, _⟩ => ⟨S128x512, .bf16⟩
  | _, _ => ⟨S128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x3x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeSBRefIdeal.lean ====
abbrev S128x1024 : Shape := ⟨2, ![128, 1024]⟩
abbrev S2x3x1024x2048 : Shape := ⟨4, ![2, 3, 1024, 2048]⟩
abbrev S128x15360 : Shape := ⟨2, ![128, 15360]⟩
abbrev S128x1x1024 : Shape := ⟨3, ![128, 1, 1024]⟩
abbrev S128x3x1024 : Shape := ⟨3, ![128, 3, 1024]⟩
abbrev S1x3x1024x2048 : Shape := ⟨4, ![1, 3, 1024, 2048]⟩
abbrev S3x1024x2048 : Shape := ⟨3, ![3, 1024, 2048]⟩
abbrev S3x2048x128 : Shape := ⟨3, ![3, 2048, 128]⟩
abbrev S128x3x2048 : Shape := ⟨3, ![128, 3, 2048]⟩
abbrev S128x6144 : Shape := ⟨2, ![128, 6144]⟩
abbrev S_ : Shape := ⟨0, ![]⟩
abbrev S128x2048 : Shape := ⟨2, ![128, 2048]⟩

abbrev nBuf : Space → Nat
  | .hbm => 26
  | .vmem => 0
  | .smem => 0
  | _ => 0

abbrev bufTy : (tb : Table) → Fin (tcTables nBuf tb) → BufTy
  | .hbm, ⟨0, _⟩ => ⟨S128x1024, .bf16⟩
  | .hbm, ⟨1, _⟩ => ⟨S128x1024, .bf16⟩
  | .hbm, ⟨2, _⟩ => ⟨S128x1024, .bf16⟩
  | .hbm, ⟨3, _⟩ => ⟨S2x3x1024x2048, .f32⟩
  | .hbm, ⟨4, _⟩ => ⟨S128x15360, .f32⟩
  | .hbm, ⟨5, _⟩ => ⟨S128x1x1024, .bf16⟩
  | .hbm, ⟨6, _⟩ => ⟨S128x1x1024, .bf16⟩
  | .hbm, ⟨7, _⟩ => ⟨S128x1x1024, .bf16⟩
  | .hbm, ⟨8, _⟩ => ⟨S128x3x1024, .bf16⟩
  | .hbm, ⟨9, _⟩ => ⟨S128x3x1024, .f32⟩
  | .hbm, ⟨10, _⟩ => ⟨S1x3x1024x2048, .f32⟩
  | .hbm, ⟨11, _⟩ => ⟨S3x1024x2048, .f32⟩
  | .hbm, ⟨12, _⟩ => ⟨S3x2048x128, .f32⟩
  | .hbm, ⟨13, _⟩ => ⟨S128x3x2048, .f32⟩
  | .hbm, ⟨14, _⟩ => ⟨S128x6144, .f32⟩
  | .hbm, ⟨15, _⟩ => ⟨S128x6144, .f32⟩
  | .hbm, ⟨16, _⟩ => ⟨S128x6144, .f32⟩
  | .hbm, ⟨17, _⟩ => ⟨S_, .f32⟩
  | .hbm, ⟨18, _⟩ => ⟨S128x6144, .f32⟩
  | .hbm, ⟨19, _⟩ => ⟨S128x6144, .f32⟩
  | .hbm, ⟨20, _⟩ => ⟨S_, .f32⟩
  | .hbm, ⟨21, _⟩ => ⟨S128x6144, .f32⟩
  | .hbm, ⟨22, _⟩ => ⟨S128x6144, .f32⟩
  | .hbm, ⟨23, _⟩ => ⟨S128x3x2048, .f32⟩
  | .hbm, ⟨24, _⟩ => ⟨S128x2048, .f32⟩
  | .hbm, ⟨25, _⟩ => ⟨S128x2048, .bf16⟩
  | _, _ => ⟨S128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutprojSB.lean ====
abbrev S128x2048 : Shape := ⟨2, ![128, 2048]⟩
abbrev S2x2048x2048 : Shape := ⟨3, ![2, 2048, 2048]⟩
abbrev S2x2048 : Shape := ⟨2, ![2, 2048]⟩
abbrev S2x1x2048 : Shape := ⟨3, ![2, 1, 2048]⟩
abbrev S1x2048x2048 : Shape := ⟨3, ![1, 2048, 2048]⟩
abbrev S1x1x2048 : Shape := ⟨3, ![1, 1, 2048]⟩
abbrev S2048x2048 : Shape := ⟨2, ![2048, 2048]⟩
abbrev S1x2048 : Shape := ⟨2, ![1, 2048]⟩
abbrev S128 : Shape := ⟨1, ![128]⟩
abbrev S128x1 : Shape := ⟨2, ![128, 1]⟩

abbrev nBuf : Space → Nat
  | .hbm => 7
  | .vmem => 5
  | .smem => 0
  | _ => 0

abbrev bufTy : (tb : Table) → Fin (tcTables nBuf tb) → BufTy
  | .hbm, ⟨0, _⟩ => ⟨S128x2048, .bf16⟩
  | .hbm, ⟨1, _⟩ => ⟨S2x2048x2048, .f32⟩
  | .hbm, ⟨2, _⟩ => ⟨S2x2048, .f32⟩
  | .hbm, ⟨3, _⟩ => ⟨S128x2048, .f32⟩
  | .hbm, ⟨4, _⟩ => ⟨S2x2048x2048, .bf16⟩
  | .hbm, ⟨5, _⟩ => ⟨S2x1x2048, .f32⟩
  | .hbm, ⟨6, _⟩ => ⟨S128x2048, .f32⟩
  | .local _ .vmem, ⟨0, _⟩ => ⟨S128x2048, .bf16⟩
  | .local _ .vmem, ⟨1, _⟩ => ⟨S1x2048x2048, .bf16⟩
  | .local _ .vmem, ⟨2, _⟩ => ⟨S1x1x2048, .f32⟩
  | .local _ .vmem, ⟨3, _⟩ => ⟨S128x2048, .f32⟩
  | .local _ .vmem, ⟨4, _⟩ => ⟨S128x2048, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== OutprojSBRefIdeal.lean ====
abbrev S128x2048 : Shape := ⟨2, ![128, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩

abbrev nBuf : Space → Nat
  | .hbm => 27
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S2x2048x2048, .f32⟩
  | .hbm, ⟨2, _⟩ => ⟨S2x2048, .f32⟩
  | .hbm, ⟨3, _⟩ => ⟨S128x2048, .f32⟩
  | .hbm, ⟨4, _⟩ => ⟨S128x2048, .f32⟩
  | .hbm, ⟨5, _⟩ => ⟨S1x2048x2048, .f32⟩
  | .hbm, ⟨6, _⟩ => ⟨S2048x2048, .f32⟩
  | .hbm, ⟨7, _⟩ => ⟨S128x2048, .f32⟩
  | .hbm, ⟨8, _⟩ => ⟨S1x2048, .f32⟩
  | .hbm, ⟨9, _⟩ => ⟨S2048, .f32⟩
  | .hbm, ⟨10, _⟩ => ⟨S128x2048, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x2048, .f32⟩
  | .hbm, ⟨22, _⟩ => ⟨S128x2048, .f32⟩
  | .hbm, ⟨23, _⟩ => ⟨S1x2048, .f32⟩
  | .hbm, ⟨24, _⟩ => ⟨S128x2048, .f32⟩
  | .hbm, ⟨25, _⟩ => ⟨S128x2048, .f32⟩
  | .hbm, ⟨26, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== InprojSB.lean ====
abbrev S128x2048 : Shape := ⟨2, ![128, 2048]⟩
abbrev S2x2048 : Shape := ⟨2, ![2, 2048]⟩
abbrev S2x2048x15360 : Shape := ⟨3, ![2, 2048, 15360]⟩
abbrev S2x2048x128 : Shape := ⟨3, ![2, 2048, 128]⟩
abbrev S2x1x2048 : Shape := ⟨3, ![2, 1, 2048]⟩
abbrev S128x15360 : Shape := ⟨2, ![128, 15360]⟩
abbrev S128x128 : Shape := ⟨2, ![128, 128]⟩
abbrev S1x1x2048 : Shape := ⟨3, ![1, 1, 2048]⟩
abbrev S1x2048x1536 : Shape := ⟨3, ![1, 2048, 1536]⟩
abbrev S1x2048x128 : Shape := ⟨3, ![1, 2048, 128]⟩
abbrev S128x1536 : Shape := ⟨2, ![128, 1536]⟩
abbrev S1x2048 : Shape := ⟨2, ![1, 2048]⟩
abbrev S128 : Shape := ⟨1, ![128]⟩
abbrev S128x1 : Shape := ⟨2, ![128, 1]⟩
abbrev S2048x1536 : Shape := ⟨2, ![2048, 1536]⟩
abbrev S2048x128 : Shape := ⟨2, ![2048, 128]⟩

abbrev nBuf : Space → Nat
  | .hbm => 7
  | .vmem => 9
  | .smem => 0
  | _ => 0

abbrev bufTy : (tb : Table) → Fin (tcTables nBuf tb) → BufTy
  | .hbm, ⟨0, _⟩ => ⟨S128x2048, .f32⟩
  | .hbm, ⟨1, _⟩ => ⟨S2x2048, .f32⟩
  | .hbm, ⟨2, _⟩ => ⟨S2x2048x15360, .bf16⟩
  | .hbm, ⟨3, _⟩ => ⟨S2x2048x128, .f32⟩
  | .hbm, ⟨4, _⟩ => ⟨S2x1x2048, .f32⟩
  | .hbm, ⟨5, _⟩ => ⟨S128x15360, .f32⟩
  | .hbm, ⟨6, _⟩ => ⟨S128x128, .f32⟩
  | .local _ .vmem, ⟨0, _⟩ => ⟨S128x2048, .f32⟩
  | .local _ .vmem, ⟨1, _⟩ => ⟨S1x1x2048, .f32⟩
  | .local _ .vmem, ⟨2, _⟩ => ⟨S1x2048x1536, .bf16⟩
  | .local _ .vmem, ⟨3, _⟩ => ⟨S1x2048x1536, .bf16⟩
  | .local _ .vmem, ⟨4, _⟩ => ⟨S1x2048x128, .f32⟩
  | .local _ .vmem, ⟨5, _⟩ => ⟨S128x1536, .f32⟩
  | .local _ .vmem, ⟨6, _⟩ => ⟨S128x1536, .f32⟩
  | .local _ .vmem, ⟨7, _⟩ => ⟨S128x128, .f32⟩
  | .local _ .vmem, ⟨8, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v3 : BitVec 1 := Scalar.cmpi .slt arg1 c10_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c10_i32_2 : BitVec 32 := 10#32
  let v6 : BitVec 1 := Scalar.cmpi .eq arg1 c10_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.minsi arg1 c9_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== InprojSBRefIdeal.lean ====
abbrev S128x2048 : Shape := ⟨2, ![128, 2048]⟩
abbrev S2x2048 : Shape := ⟨2, ![2, 2048]⟩
abbrev S2x2048x15360 : Shape := ⟨3, ![2, 2048, 15360]⟩
abbrev S2x2048x128 : Shape := ⟨3, ![2, 2048, 128]⟩
abbrev S1x2048 : Shape := ⟨2, ![1, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048x15360 : Shape := ⟨3, ![1, 2048, 15360]⟩
abbrev S2048x15360 : Shape := ⟨2, ![2048, 15360]⟩
abbrev S128x15360 : Shape := ⟨2, ![128, 15360]⟩
abbrev S1x2048x128 : Shape := ⟨3, ![1, 2048, 128]⟩
abbrev S2048x128 : Shape := ⟨2, ![2048, 128]⟩
abbrev S128x128 : Shape := ⟨2, ![128, 128]⟩

abbrev nBuf : Space → Nat
  | .hbm => 29
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2x2048, .f32⟩
  | .hbm, ⟨2, _⟩ => ⟨S2x2048x15360, .bf16⟩
  | .hbm, ⟨3, _⟩ => ⟨S2x2048x128, .f32⟩
  | .hbm, ⟨4, _⟩ => ⟨S1x2048, .f32⟩
  | .hbm, ⟨5, _⟩ => ⟨S2048, .f32⟩
  | .hbm, ⟨6, _⟩ => ⟨S128x2048, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x2048, .f32⟩
  | .hbm, ⟨18, _⟩ => ⟨S128x2048, .f32⟩
  | .hbm, ⟨19, _⟩ => ⟨S1x2048, .f32⟩
  | .hbm, ⟨20, _⟩ => ⟨S128x2048, .f32⟩
  | .hbm, ⟨21, _⟩ => ⟨S128x2048, .f32⟩
  | .hbm, ⟨22, _⟩ => ⟨S1x2048x15360, .bf16⟩
  | .hbm, ⟨23, _⟩ => ⟨S2048x15360, .bf16⟩
  | .hbm, ⟨24, _⟩ => ⟨S2048x15360, .f32⟩
  | .hbm, ⟨25, _⟩ => ⟨S128x15360, .f32⟩
  | .hbm, ⟨26, _⟩ => ⟨S1x2048x128, .f32⟩
  | .hbm, ⟨27, _⟩ => ⟨S2048x128, .f32⟩
  | .hbm, ⟨28, _⟩ => ⟨S128x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Lf.lean ====
abbrev S5120x1024 : Shape := ⟨2, ![5120, 1024]⟩
abbrev S5120x2048 : Shape := ⟨2, ![5120, 2048]⟩
abbrev S512x1024 : Shape := ⟨2, ![512, 1024]⟩
abbrev S512x2048 : Shape := ⟨2, ![512, 2048]⟩
abbrev S1024x2048 : Shape := ⟨2, ![1024, 2048]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 2
  | .vmem => 5
  | .smem => 0
  | _ => 0

abbrev bufTy : (tb : Table) → Fin (tcTables nBuf tb) → BufTy
  | .hbm, ⟨0, _⟩ => ⟨S5120x1024, .f32⟩
  | .hbm, ⟨1, _⟩ => ⟨S5120x2048, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1024x2048, .bf16⟩
  | _, _ => ⟨S5120x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== LfRefIdeal.lean ====
abbrev S5120x1024 : Shape := ⟨2, ![5120, 1024]⟩
abbrev S5120x128x8 : Shape := ⟨3, ![5120, 128, 8]⟩
abbrev S_ : Shape := ⟨0, ![]⟩
abbrev S5120x8 : Shape := ⟨2, ![5120, 8]⟩
abbrev S5120x1x8 : Shape := ⟨3, ![5120, 1, 8]⟩
abbrev S5120x2048 : Shape := ⟨2, ![5120, 2048]⟩

abbrev nBuf : Space → Nat
  | .hbm => 13
  | .vmem => 0
  | .smem => 0
  | _ => 0

abbrev bufTy : (tb : Table) → Fin (tcTables nBuf tb) → BufTy
  | .hbm, ⟨0, _⟩ => ⟨S5120x1024, .f32⟩
  | .hbm, ⟨1, _⟩ => ⟨S5120x128x8, .f32⟩
  | .hbm, ⟨2, _⟩ => ⟨S_, .f32⟩
  | .hbm, ⟨3, _⟩ => ⟨S_, .f32⟩
  | .hbm, ⟨4, _⟩ => ⟨S5120x128x8, .f32⟩
  | .hbm, ⟨5, _⟩ => ⟨S5120x128x8, .f32⟩
  | .hbm, ⟨6, _⟩ => ⟨S_, .f32⟩
  | .hbm, ⟨7, _⟩ => ⟨S5120x8, .f32⟩
  | .hbm, ⟨8, _⟩ => ⟨S5120x1x8, .f32⟩
  | .hbm, ⟨9, _⟩ => ⟨S5120x128x8, .f32⟩
  | .hbm, ⟨10, _⟩ => ⟨S5120x1024, .f32⟩
  | .hbm, ⟨11, _⟩ => ⟨S5120x1024, .f32⟩
  | .hbm, ⟨12, _⟩ => ⟨S5120x2048, .f32⟩
  | _, _ => ⟨S5120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_cst : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Mlstm.lean ====
abbrev S32x4x15360 : Shape := ⟨3, ![32, 4, 15360]⟩
abbrev S32x4x128 : Shape := ⟨3, ![32, 4, 128]⟩
abbrev S2x128 : Shape := ⟨2, ![2, 128]⟩
abbrev S2x1024 : Shape := ⟨2, ![2, 1024]⟩
abbrev S2x32x4x256x128 : Shape := ⟨5, ![2, 32, 4, 256, 128]⟩
abbrev S2x32x4x128 : Shape := ⟨4, ![2, 32, 4, 128]⟩
abbrev S2x32x4 : Shape := ⟨3, ![2, 32, 4]⟩
abbrev S_ : Shape := ⟨0, ![]⟩
abbrev S32x8x15360 : Shape := ⟨3, ![32, 8, 15360]⟩
abbrev S32x8x128 : Shape := ⟨3, ![32, 8, 128]⟩
abbrev S2x1x128 : Shape := ⟨3, ![2, 1, 128]⟩
abbrev S2x128x1 : Shape := ⟨3, ![2, 128, 1]⟩
abbrev S2x1x1024 : Shape := ⟨3, ![2, 1, 1024]⟩
abbrev S2x32x4x1x128 : Shape := ⟨5, ![2, 32, 4, 1, 128]⟩
abbrev S2x32x4x1x1 : Shape := ⟨5, ![2, 32, 4, 1, 1]⟩
abbrev S32x8x1024 : Shape := ⟨3, ![32, 8, 1024]⟩
abbrev S32x4x256x128 : Shape := ⟨4, ![32, 4, 256, 128]⟩
abbrev S32x4x1x128 : Shape := ⟨4, ![32, 4, 1, 128]⟩
abbrev S32x4x1x1 : Shape := ⟨4, ![32, 4, 1, 1]⟩
abbrev S32x8x8 : Shape := ⟨3, ![32, 8, 8]⟩
abbrev S1x8x512 : Shape := ⟨3, ![1, 8, 512]⟩
abbrev S1x8x1024 : Shape := ⟨3, ![1, 8, 1024]⟩
abbrev S1x8x128 : Shape := ⟨3, ![1, 8, 128]⟩
abbrev S1x1x128 : Shape := ⟨3, ![1, 1, 128]⟩
abbrev S1x128x1 : Shape := ⟨3, ![1, 128, 1]⟩
abbrev S1x1x1024 : Shape := ⟨3, ![1, 1, 1024]⟩
abbrev S1x1x4x256x128 : Shape := ⟨5, ![1, 1, 4, 256, 128]⟩
abbrev S1x1x4x1x128 : Shape := ⟨5, ![1, 1, 4, 1, 128]⟩
abbrev S1x1x4x1x1 : Shape := ⟨5, ![1, 1, 4, 1, 1]⟩
abbrev S1x4x256x128 : Shape := ⟨4, ![1, 4, 256, 128]⟩
abbrev S1x4x1x128 : Shape := ⟨4, ![1, 4, 1, 128]⟩
abbrev S1x4x1x1 : Shape := ⟨4, ![1, 4, 1, 1]⟩
abbrev S1x8x8 : Shape := ⟨3, ![1, 8, 8]⟩
abbrev S4x128x256 : Shape := ⟨3, ![4, 128, 256]⟩
abbrev S4x1x128 : Shape := ⟨3, ![4, 1, 128]⟩
abbrev S4x1x1 : Shape := ⟨3, ![4, 1, 1]⟩
abbrev S8x1 : Shape := ⟨2, ![8, 1]⟩
abbrev S1x1x1x256x128 : Shape := ⟨5, ![1, 1, 1, 256, 128]⟩
abbrev S256x128 : Shape := ⟨2, ![256, 128]⟩
abbrev S128x256 : Shape := ⟨2, ![128, 256]⟩
abbrev S1x128x256 : Shape := ⟨3, ![1, 128, 256]⟩
abbrev S8x128 : Shape := ⟨2, ![8, 128]⟩
abbrev S120x128 : Shape := ⟨2, ![120, 128]⟩
abbrev S128x128 : Shape := ⟨2, ![128, 128]⟩
abbrev S128x1 : Shape := ⟨2, ![128, 1]⟩
abbrev S1x128 : Shape := ⟨2, ![1, 128]⟩
abbrev S8x8 : Shape := ⟨2, ![8, 8]⟩
abbrev S1x8x256 : Shape := ⟨3, ![1, 8, 256]⟩
abbrev S8x256 : Shape := ⟨2, ![8, 256]⟩
abbrev S120x256 : Shape := ⟨2, ![120, 256]⟩
abbrev S128 : Shape := ⟨1, ![128]⟩
abbrev S1x1x1 : Shape := ⟨3, ![1, 1, 1]⟩
abbrev S1x1 : Shape := ⟨2, ![1, 1]⟩
abbrev S1 : Shape := ⟨1, ![1]⟩
abbrev S1x1x256 : Shape := ⟨3, ![1, 1, 256]⟩
abbrev S1x256 : Shape := ⟨2, ![1, 256]⟩
abbrev S1x1x256x128 : Shape := ⟨4, ![1, 1, 256, 128]⟩

abbrev nBuf : Space → Nat
  | .hbm => 24
  | .vmem => 35
  | .smem => 0
  | _ => 0

abbrev bufTy : (tb : Table) → Fin (tcTables nBuf tb) → BufTy
  | .hbm, ⟨0, _⟩ => ⟨S32x4x15360, .f32⟩
  | .hbm, ⟨1, _⟩ => ⟨S32x4x128, .f32⟩
  | .hbm, ⟨2, _⟩ => ⟨S2x128, .f32⟩
  | .hbm, ⟨3, _⟩ => ⟨S2x1024, .f32⟩
  | .hbm, ⟨4, _⟩ => ⟨S2x32x4x256x128, .f32⟩
  | .hbm, ⟨5, _⟩ => ⟨S2x32x4x128, .f32⟩
  | .hbm, ⟨6, _⟩ => ⟨S2x32x4, .f32⟩
  | .hbm, ⟨7, _⟩ => ⟨S_, .i32⟩
  | .hbm, ⟨8, _⟩ => ⟨S_, .f32⟩
  | .hbm, ⟨9, _⟩ => ⟨S32x8x15360, .f32⟩
  | .hbm, ⟨10, _⟩ => ⟨S_, .i32⟩
  | .hbm, ⟨11, _⟩ => ⟨S_, .f32⟩
  | .hbm, ⟨12, _⟩ => ⟨S32x8x128, .f32⟩
  | .hbm, ⟨13, _⟩ => ⟨S2x1x128, .f32⟩
  | .hbm, ⟨14, _⟩ => ⟨S2x128x1, .f32⟩
  | .hbm, ⟨15, _⟩ => ⟨S2x1x1024, .f32⟩
  | .hbm, ⟨16, _⟩ => ⟨S2x32x4x1x128, .f32⟩
  | .hbm, ⟨17, _⟩ => ⟨S2x32x4x1x1, .f32⟩
  | .hbm, ⟨18, _⟩ => ⟨S32x8x1024, .bf16⟩
  | .hbm, ⟨19, _⟩ => ⟨S32x4x256x128, .f32⟩
  | .hbm, ⟨20, _⟩ => ⟨S32x4x1x128, .f32⟩
  | .hbm, ⟨21, _⟩ => ⟨S32x4x1x1, .f32⟩
  | .hbm, ⟨22, _⟩ => ⟨S32x8x8, .f32⟩
  | .hbm, ⟨23, _⟩ => ⟨S32x8x128, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x128, .f32⟩
  | .local _ .vmem, ⟨9, _⟩ => ⟨S1x8x128, .f32⟩
  | .local _ .vmem, ⟨10, _⟩ => ⟨S1x1x128, .f32⟩
  | .local _ .vmem, ⟨11, _⟩ => ⟨S1x128x1, .f32⟩
  | .local _ .vmem, ⟨12, _⟩ => ⟨S1x1x1024, .f32⟩
  | .local _ .vmem, ⟨13, _⟩ => ⟨S1x1x4x256x128, .f32⟩
  | .local _ .vmem, ⟨14, _⟩ => ⟨S1x1x4x256x128, .f32⟩
  | .local _ .vmem, ⟨15, _⟩ => ⟨S1x1x4x1x128, .f32⟩
  | .local _ .vmem, ⟨16, _⟩ => ⟨S1x1x4x1x128, .f32⟩
  | .local _ .vmem, ⟨17, _⟩ => ⟨S1x1x4x1x1, .f32⟩
  | .local _ .vmem, ⟨18, _⟩ => ⟨S1x1x4x1x1, .f32⟩
  | .local _ .vmem, ⟨19, _⟩ => ⟨S1x8x1024, .bf16⟩
  | .local _ .vmem, ⟨20, _⟩ => ⟨S1x8x1024, .bf16⟩
  | .local _ .vmem, ⟨21, _⟩ => ⟨S1x4x256x128, .f32⟩
  | .local _ .vmem, ⟨22, _⟩ => ⟨S1x4x256x128, .f32⟩
  | .local _ .vmem, ⟨23, _⟩ => ⟨S1x4x1x128, .f32⟩
  | .local _ .vmem, ⟨24, _⟩ => ⟨S1x4x1x128, .f32⟩
  | .local _ .vmem, ⟨25, _⟩ => ⟨S1x4x1x1, .f32⟩
  | .local _ .vmem, ⟨26, _⟩ => ⟨S1x4x1x1, .f32⟩
  | .local _ .vmem, ⟨27, _⟩ => ⟨S1x8x8, .f32⟩
  | .local _ .vmem, ⟨28, _⟩ => ⟨S1x8x8, .f32⟩
  | .local _ .vmem, ⟨29, _⟩ => ⟨S1x8x128, .f32⟩
  | .local _ .vmem, ⟨30, _⟩ => ⟨S1x8x128, .f32⟩
  | .local _ .vmem, ⟨31, _⟩ => ⟨S4x128x256, .f32⟩
  | .local _ .vmem, ⟨32, _⟩ => ⟨S4x1x128, .f32⟩
  | .local _ .vmem, ⟨33, _⟩ => ⟨S4x1x1, .f32⟩
  | .local _ .vmem, ⟨34, _⟩ => ⟨S8x1, .f32⟩
  | _, _ => ⟨S32x4x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_280 : BitVec 32 := 0#32
  let v742 : BitVec 1 := Scalar.cmpi .eq arg1 c0_i32_280
  let v743 : BitVec 32 := Scalar.extui v742
  let c0_i32_281 : BitVec 32 := 0#32
  let v744 : BitVec 1 := Scalar.cmpi .ne v743 c0_i32_281
  v744

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x4x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x4x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x4x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x1x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MlstmRefIdeal.lean ====
abbrev S32x4x15360 : Shape := ⟨3, ![32, 4, 15360]⟩
abbrev S32x4x128 : Shape := ⟨3, ![32, 4, 128]⟩
abbrev S2x128 : Shape := ⟨2, ![2, 128]⟩
abbrev S2x1024 : Shape := ⟨2, ![2, 1024]⟩
abbrev S2x32x4x256x128 : Shape := ⟨5, ![2, 32, 4, 256, 128]⟩
abbrev S2x32x4x128 : Shape := ⟨4, ![2, 32, 4, 128]⟩
abbrev S2x32x4 : Shape := ⟨3, ![2, 32, 4]⟩
abbrev S32x4x512 : Shape := ⟨3, ![32, 4, 512]⟩
abbrev S32x4x4x128 : Shape := ⟨4, ![32, 4, 4, 128]⟩
abbrev S_ : Shape := ⟨0, ![]⟩
abbrev S32x4x1024 : Shape := ⟨3, ![32, 4, 1024]⟩
abbrev S32x4x4x256 : Shape := ⟨4, ![32, 4, 4, 256]⟩
abbrev S1x128 : Shape := ⟨2, ![1, 128]⟩
abbrev S128 : Shape := ⟨1, ![128]⟩
abbrev S1x1x128 : Shape := ⟨3, ![1, 1, 128]⟩
abbrev S32x4x4 : Shape := ⟨3, ![32, 4, 4]⟩
abbrev S1x32x4x256x128 : Shape := ⟨5, ![1, 32, 4, 256, 128]⟩
abbrev S32x4x256x128 : Shape := ⟨4, ![32, 4, 256, 128]⟩
abbrev S1x32x4x128 : Shape := ⟨4, ![1, 32, 4, 128]⟩
abbrev S1x32x4 : Shape := ⟨3, ![1, 32, 4]⟩
abbrev S32x4 : Shape := ⟨2, ![32, 4]⟩
abbrev S4x4 : Shape := ⟨2, ![4, 4]⟩
abbrev S1x4x4x1 : Shape := ⟨4, ![1, 4, 4, 1]⟩
abbrev S32x4x1x4 : Shape := ⟨4, ![32, 4, 1, 4]⟩
abbrev S32x1x4x4 : Shape := ⟨4, ![32, 1, 4, 4]⟩
abbrev S32x4x4x4 : Shape := ⟨4, ![32, 4, 4, 4]⟩
abbrev S32x1x4 : Shape := ⟨3, ![32, 1, 4]⟩
abbrev S32x4x256x4 : Shape := ⟨4, ![32, 4, 256, 4]⟩
abbrev S32x4x4x1 : Shape := ⟨4, ![32, 4, 4, 1]⟩
abbrev S32x4x1x1 : Shape := ⟨4, ![32, 4, 1, 1]⟩
abbrev S32x4x1 : Shape := ⟨3, ![32, 4, 1]⟩
abbrev S1x1024 : Shape := ⟨2, ![1, 1024]⟩
abbrev S1024 : Shape := ⟨1, ![1024]⟩
abbrev S4x256 : Shape := ⟨2, ![4, 256]⟩
abbrev S1x1x4x256 : Shape := ⟨4, ![1, 1, 4, 256]⟩
abbrev S32x4x8 : Shape := ⟨3, ![32, 4, 8]⟩
abbrev S32x8x4 : Shape := ⟨3, ![32, 8, 4]⟩
abbrev S32x8x1 : Shape := ⟨3, ![32, 8, 1]⟩
abbrev S32x8x124 : Shape := ⟨3, ![32, 8, 124]⟩
abbrev S32x8x128 : Shape := ⟨3, ![32, 8, 128]⟩
abbrev S32x8x1024 : Shape := ⟨3, ![32, 8, 1024]⟩
abbrev S32x4x1x128 : Shape := ⟨4, ![32, 4, 1, 128]⟩
abbrev S32x8x8 : Shape := ⟨3, ![32, 8, 8]⟩

abbrev nBuf : Space → Nat
  | .hbm => 186
  | .vmem => 0
  | .smem => 0
  | _ => 0

abbrev hbmTy0_0 (i : Nat) : BufTy := match i % 128 with
  | 0 => ⟨S32x4x15360, .f32⟩
  | 1 => ⟨S32x4x128, .f32⟩
  | 2 => ⟨S2x128, .f32⟩
  | 3 => ⟨S2x1024, .f32⟩
  | 4 => ⟨S2x32x4x256x128, .f32⟩
  | 5 => ⟨S2x32x4x128, .f32⟩
  | 6 => ⟨S2x32x4, .f32⟩
  | 7 => ⟨S32x4x512, .f32⟩
  | 8 => ⟨S32x4x4x128, .f32⟩
  | 9 => ⟨S32x4x512, .f32⟩
  | 10 => ⟨S32x4x4x128, .f32⟩
  | 11 => ⟨S_, .f32⟩
  | 12 => ⟨S32x4x4x128, .f32⟩
  | 13 => ⟨S32x4x4x128, .f32⟩
  | 14 => ⟨S32x4x1024, .f32⟩
  | 15 => ⟨S32x4x4x256, .f32⟩
  | 16 => ⟨S32x4x1024, .f32⟩
  | 17 => ⟨S1x128, .f32⟩
  | 18 => ⟨S128, .f32⟩
  | 19 => ⟨S1x1x128, .f32⟩
  | 20 => ⟨S32x4x128, .f32⟩
  | 21 => ⟨S32x4x128, .f32⟩
  | 22 => ⟨S32x4x128, .f32⟩
  | 23 => ⟨S_, .f32⟩
  | 24 => ⟨S32x4x128, .f32⟩
  | 25 => ⟨S32x4x128, .f32⟩
  | 26 => ⟨S32x4x128, .f32⟩
  | 27 => ⟨S32x4x128, .f32⟩
  | 28 => ⟨S32x4x128, .i1⟩
  | 29 => ⟨S32x4x128, .f32⟩
  | 30 => ⟨S32x4x128, .f32⟩
  | 31 => ⟨S32x4x128, .f32⟩
  | 32 => ⟨S32x4x128, .f32⟩
  | 33 => ⟨S32x4x128, .f32⟩
  | 34 => ⟨S32x4x128, .f32⟩
  | 35 => ⟨S32x4x128, .f32⟩
  | 36 => ⟨S32x4x128, .f32⟩
  | 37 => ⟨S32x4x128, .f32⟩
  | 38 => ⟨S32x4x4, .f32⟩
  | 39 => ⟨S32x4x4, .f32⟩
  | 40 => ⟨S1x32x4x256x128, .f32⟩
  | 41 => ⟨S32x4x256x128, .f32⟩
  | 42 => ⟨S1x32x4x128, .f32⟩
  | 43 => ⟨S32x4x128, .f32⟩
  | 44 => ⟨S1x32x4, .f32⟩
  | 45 => ⟨S32x4, .f32⟩
  | 46 => ⟨S_, .i1⟩
  | 47 => ⟨S4x4, .i1⟩
  | 48 => ⟨S4x4, .i32⟩
  | 49 => ⟨S_, .i32⟩
  | 50 => ⟨S4x4, .i32⟩
  | 51 => ⟨S4x4, .i32⟩
  | 52 => ⟨S4x4, .i32⟩
  | 53 => ⟨S4x4, .i1⟩
  | 54 => ⟨S_, .i1⟩
  | 55 => ⟨S4x4, .i1⟩
  | 56 => ⟨S4x4, .i1⟩
  | 57 => ⟨S1x4x4x1, .i1⟩
  | 58 => ⟨S_, .f32⟩
  | 59 => ⟨S_, .f32⟩
  | 60 => ⟨S32x4x4, .f32⟩
  | 61 => ⟨S32x4x1x4, .f32⟩
  | 62 => ⟨S32x1x4x4, .f32⟩
  | 63 => ⟨S32x4x4x4, .f32⟩
  | 64 => ⟨S32x4x4x4, .f32⟩
  | 65 => ⟨S32x4x4x4, .f32⟩
  | 66 => ⟨S32x1x4x4, .f32⟩
  | 67 => ⟨S32x4x4x4, .f32⟩
  | 68 => ⟨S32x4x4x4, .f32⟩
  | 69 => ⟨S_, .f32⟩
  | 70 => ⟨S_, .f32⟩
  | 71 => ⟨S32x4x4x4, .i1⟩
  | 72 => ⟨S32x4x4x4, .f32⟩
  | 73 => ⟨S32x4x4x4, .f32⟩
  | 74 => ⟨S32x1x4, .f32⟩
  | 75 => ⟨S32x4x4, .f32⟩
  | 76 => ⟨S32x4x4, .f32⟩
  | 77 => ⟨S_, .f32⟩
  | 78 => ⟨S32x4x4, .f32⟩
  | 79 => ⟨S32x4x4, .f32⟩
  | 80 => ⟨S32x4x4, .f32⟩
  | 81 => ⟨S32x4x4, .f32⟩
  | 82 => ⟨S32x4x4x4, .f32⟩
  | 83 => ⟨S32x4x4x4, .f32⟩
  | 84 => ⟨S32x4x1x4, .f32⟩
  | 85 => ⟨S32x4x4x4, .f32⟩
  | 86 => ⟨S32x4x4x4, .f32⟩
  | 87 => ⟨S32x4x4x4, .f32⟩
  | 88 => ⟨S32x4x4x4, .f32⟩
  | 89 => ⟨S32x4x256x4, .f32⟩
  | 90 => ⟨S32x4x4x256, .f32⟩
  | 91 => ⟨S32x4x4x1, .f32⟩
  | 92 => ⟨S32x4x4x256, .f32⟩
  | 93 => ⟨S32x4x4x256, .f32⟩
  | 94 => ⟨S32x4x4x256, .f32⟩
  | 95 => ⟨S32x4x4x256, .f32⟩
  | 96 => ⟨S32x4x4x256, .f32⟩
  | 97 => ⟨S_, .f32⟩
  | 98 => ⟨S32x4x4, .f32⟩
  | 99 => ⟨S32x4x4, .f32⟩
  | 100 => ⟨S32x4x4, .f32⟩
  | 101 => ⟨S32x4x4, .f32⟩
  | 102 => ⟨S32x4x4, .f32⟩
  | 103 => ⟨S32x4x4, .f32⟩
  | 104 => ⟨S32x4x4, .f32⟩
  | 105 => ⟨S32x4x4, .f32⟩
  | 106 => ⟨S32x4x4, .f32⟩
  | 107 => ⟨S32x4x4x1, .f32⟩
  | 108 => ⟨S32x4x4x256, .f32⟩
  | 109 => ⟨S32x4x4x256, .f32⟩
  | 110 => ⟨S32x1x4, .f32⟩
  | 111 => ⟨S32x4, .f32⟩
  | 112 => ⟨S32x1x4, .f32⟩
  | 113 => ⟨S32x4x4, .f32⟩
  | 114 => ⟨S32x4x4, .f32⟩
  | 115 => ⟨S32x4x4, .f32⟩
  | 116 => ⟨S32x4, .f32⟩
  | 117 => ⟨S_, .f32⟩
  | 118 => ⟨S32x4, .f32⟩
  | 119 => ⟨S32x4, .f32⟩
  | 120 => ⟨S32x1x4, .f32⟩
  | 121 => ⟨S32x4x4, .f32⟩
  | 122 => ⟨S32x4x4, .f32⟩
  | 123 => ⟨S32x4x4, .f32⟩
  | 124 => ⟨S32x4, .f32⟩
  | 125 => ⟨S32x4, .f32⟩
  | 126 => ⟨S32x4, .f32⟩
  | 127 => ⟨S32x4x1x1, .f32⟩
  | _ => ⟨S32x4x15360, .f32⟩

abbrev hbmTy0_1 (i : Nat) : BufTy := match i % 128 with
  | 0 => ⟨S32x4x256x128, .f32⟩
  | 1 => ⟨S32x4x256x128, .f32⟩
  | 2 => ⟨S32x4x4x1, .f32⟩
  | 3 => ⟨S32x4x4x256, .f32⟩
  | 4 => ⟨S32x4x4x256, .f32⟩
  | 5 => ⟨S32x4x256x128, .f32⟩
  | 6 => ⟨S32x4x256x128, .f32⟩
  | 7 => ⟨S32x4x1, .f32⟩
  | 8 => ⟨S32x4x128, .f32⟩
  | 9 => ⟨S32x4x128, .f32⟩
  | 10 => ⟨S32x4x128, .f32⟩
  | 11 => ⟨S32x4x128, .f32⟩
  | 12 => ⟨S1x1024, .f32⟩
  | 13 => ⟨S1024, .f32⟩
  | 14 => ⟨S4x256, .f32⟩
  | 15 => ⟨S32x4x4x256, .f32⟩
  | 16 => ⟨S_, .f32⟩
  | 17 => ⟨S32x4x4, .f32⟩
  | 18 => ⟨S32x4x4x1, .f32⟩
  | 19 => ⟨S_, .f32⟩
  | 20 => ⟨S32x4x4x1, .f32⟩
  | 21 => ⟨S32x4x4x1, .f32⟩
  | 22 => ⟨S_, .f32⟩
  | 23 => ⟨S32x4x4x1, .f32⟩
  | 24 => ⟨S32x4x4x1, .f32⟩
  | 25 => ⟨S32x4x4x1, .f32⟩
  | 26 => ⟨S32x4x4x256, .f32⟩
  | 27 => ⟨S32x4x4x256, .f32⟩
  | 28 => ⟨S1x1x4x256, .f32⟩
  | 29 => ⟨S32x4x4x256, .f32⟩
  | 30 => ⟨S32x4x4x256, .f32⟩
  | 31 => ⟨S32x4x1024, .f32⟩
  | 32 => ⟨S32x4x1024, .f32⟩
  | 33 => ⟨S32x4x1024, .f32⟩
  | 34 => ⟨S_, .f32⟩
  | 35 => ⟨S32x4x1024, .f32⟩
  | 36 => ⟨S32x4x1024, .f32⟩
  | 37 => ⟨S_, .f32⟩
  | 38 => ⟨S32x4x1024, .f32⟩
  | 39 => ⟨S32x4x1024, .f32⟩
  | 40 => ⟨S32x4x1024, .f32⟩
  | 41 => ⟨S32x4x8, .f32⟩
  | 42 => ⟨S_, .f32⟩
  | 43 => ⟨S_, .f32⟩
  | 44 => ⟨S32x4x8, .f32⟩
  | 45 => ⟨S32x8x4, .f32⟩
  | 46 => ⟨S32x8x1, .f32⟩
  | 47 => ⟨S32x8x124, .f32⟩
  | 48 => ⟨S32x8x128, .f32⟩
  | 49 => ⟨S32x4x1024, .bf16⟩
  | 50 => ⟨S_, .bf16⟩
  | 51 => ⟨S32x4x1024, .bf16⟩
  | 52 => ⟨S32x8x1024, .bf16⟩
  | 53 => ⟨S32x4x1x128, .f32⟩
  | 54 => ⟨S32x4x1x1, .f32⟩
  | 55 => ⟨S_, .f32⟩
  | 56 => ⟨S32x4x8, .f32⟩
  | 57 => ⟨S32x8x8, .f32⟩
  | _ => ⟨S32x4x15360, .f32⟩

abbrev hbmTy (i : Nat) : BufTy := match i / 128 with
  | 0 => hbmTy0_0 i
  | 1 => hbmTy0_1 i
  | _ => ⟨S32x4x15360, .f32⟩

abbrev bufTy : (tb : Table) → Fin (tcTables nBuf tb) → BufTy
  | .hbm, ⟨i, _⟩ => hbmTy i
  | _, _ => ⟨S32x4x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_call1_v0 : Ref sig .tc := ⟨.hbm, 48, rfl⟩
abbrev main_call1_c : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_0 : Ref sig .tc := ⟨.hbm, 54, rfl⟩
abbrev main_call1_v5 : Ref sig .tc := ⟨.hbm, 55, rfl⟩
abbrev main_v24 : Ref sig .tc := ⟨.hbm, 56, rfl⟩
abbrev main_v25 : Ref sig .tc := ⟨.hbm, 57, rfl⟩
abbrev main_call2_call0_cst : Ref sig .tc := ⟨.hbm, 58, rfl⟩
abbrev main_call2_call0_v0 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_0 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_1 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_2 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_3 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_4 : Ref sig .tc := ⟨.hbm, 144, rfl⟩
abbrev main_v103 : Ref sig .tc := ⟨.hbm, 145, rfl⟩
abbrev main_v104 : Ref sig .tc := ⟨.hbm, 146, rfl⟩
abbrev main_cst_5 : Ref sig .tc := ⟨.hbm, 147, rfl⟩
abbrev main_v105 : Ref sig .tc := ⟨.hbm, 148, rfl⟩
abbrev main_v106 : Ref sig .tc := ⟨.hbm, 149, rfl⟩
abbrev main_cst_6 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_7 : Ref sig .tc := ⟨.hbm, 162, rfl⟩
abbrev main_v118 : Ref sig .tc := ⟨.hbm, 163, rfl⟩
abbrev main_v119 : Ref sig .tc := ⟨.hbm, 164, rfl⟩
abbrev main_cst_8 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_call4_call0_cst : Ref sig .tc := ⟨.hbm, 170, rfl⟩
abbrev main_call4_call0_v0 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_9 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_10 : Ref sig .tc := ⟨.hbm, 183, rfl⟩
abbrev main_v134 : Ref sig .tc := ⟨.hbm, 184, rfl⟩
abbrev main_v135 : Ref sig .tc := ⟨.hbm, 185, rfl⟩

abbrev nD : Nat := 1
abbrev τ : Topo := Topo.v7x

variable {F : FTy → Type} [FloatOps F]
-- ==== Proof.FlashRead.lean ====
/-
  What one grid point of the attention kernel stores, in closed form, at any float values: the block the point leaves is
  the last-tile payload over the carried triple (running maximum, running sum, running weighted sum), and the triple is a
  recursion over the earlier key tiles (`state`). The two scratch arrays hold the keys and values of the point's head.
-/
module

public import proofs.«01_k».proof.Proof.Gen.KernelIdeal.Value
public import Idealize.ShloMosaic.Lib.Pointwise
public import Idealize.ShloMosaic.Lib.Tactic

@[expose] public section

set_option maxRecDepth 16384

noncomputable section

open Idealize.ShloMosaic Idealize.ShloMosaic.TcCoe Idealize.SL.Sem

namespace Cert.KernelIdeal.Flash

open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `1024 j … 1024 j + 1023` of a [4096, 128] array. -/
def tile (X : Vec F S4096x128 .bf16) (j : ℕ) : Vec F S1024x128 .bf16 :=
  fun y => X (ix2 (⟨(1024 * j + (y 0).val) % 4096, Nat.mod_lt _ (by decide)⟩ : Fin 4096) (y 1 : Fin 128))

/-- The cumulated gate logarithms of key tile `j`. -/
def ctile (X : Vec F S1x1x4x1x1024 .f32) (j : ℕ) : Vec F S1x1x1x1x1024 .f32 :=
  fun y => X (ix5 (0 : Fin 1) (0 : Fin 1) (⟨j % 4, Nat.mod_lt _ (by decide)⟩ : Fin 4) (0 : Fin 1) (y 4 : Fin 1024))

/-- The carried triple after the first `j` key tiles. -/
def state (x0 : Vec F S1x1024x128 .f32) (kb vb : Vec F S4096x128 .bf16) (x3 : Vec F S1x1x4x1x1024 .f32) :
    ℕ → FVec F S1024x1 .f32 × FVec F S1024x1 .f32 × FVec F S1024x128 .f32
  | 0 => (k0_pay6, k0_pay7, k0_pay8)
  | j + 1 =>
    (k0_pay10 x0 (state x0 kb vb x3 j).1 (tile kb j) (ctile x3 j),
     k0_pay13 x0 (state x0 kb vb x3 j).1 (state x0 kb vb x3 j).2.1 (tile kb j) (ctile x3 j),
     k0_pay14 x0 (state x0 kb vb x3 j).1 (state x0 kb vb x3 j).2.2 (tile kb j) (ctile x3 j) (tile vb j))

/-- The stored block of a point at query tile `q`. -/
def blockOut (x0 : Vec F S1x1024x128 .f32) (kb vb : Vec F S4096x128 .bf16) (x3 : Vec F S1x1x4x1x1024 .f32) (q : ℕ) :
    FVec F S1x1024x128 .bf16 :=
  k0_pay1 k0_pay5 (state x0 kb vb x3 q).1 (state x0 kb vb x3 q).2.1 (state x0 kb vb x3 q).2.2
    (k0_pay21 x0 (tile kb q) (ctile x3 q)) (tile vb q)

theorem ld_tile (X : Vec F S4096x128 .bf16) (off : Fin 2 → ℕ) (j : ℕ) (hoff : off = ![1024 * j, 0]) (h) (hj : j < 4) :
    View.ld X (Rect.unit (s := S4096x128) off S1024x128.size h) = tile X j := by
  subst hoff
  funext y
  idx_vars y
  unfold tile
  pointwise
  refine congrArg X ((ix2_inj ..).2 ⟨Fin.ext ?_, rfl⟩)
  exact (Nat.mod_eq_of_lt (by omega)).symm

theorem ld_ctile (X : Vec F S1x1x4x1x1024 .f32) (off : Fin 5 → ℕ) (j : ℕ) (hoff : off = ![0, 0, j, 0, 0]) (h) (hj : j < 4) :
    View.ld X (Rect.unit (s := S1x1x4x1x1024) off S1x1x1x1x1024.size h) = ctile X j := by
  subst hoff
  funext y
  idx_vars y
  unfold ctile
  pointwise
  exact congrArg X (congrArg (fun z : Fin 4 => (ix5 (0 : Fin 1) (0 : Fin 1) z (0 : Fin 1) y4 : S1x1x4x1x1024.Idx)) (Fin.ext (Nat.mod_eq_of_lt hj).symm))

theorem trips1 : ∀ i : grid0.Coords, (k0_t1_loop i).trips = (i 2).val := by decide +kernel
theorem trips2 : ∀ i : grid0.Coords, (k0_t2_loop i).trips = 0 := by decide +kernel
theorem lt_four : ∀ i : grid0.Coords, (i 2).val < 4 := by decide +kernel

/-- A buffer one store filled whole reads as what was stored. -/
theorem read_store (v : View sig .tc .vmem S4096x128 .bf16) (f : v.ty.Contents (Elt F)) (w : Vec F S4096x128 .bf16)
    (inb : ∀ a, (![0, 0] : Fin 2 → ℕ) a + S4096x128.size a ≤ S4096x128.size a) :
    v.read (Elt F) (v.writes (Elt F) f [⟨Rect.unit (s := S4096x128) ![0, 0] S4096x128.size inb, w⟩]) = w := by
  rw [View.read_writes_eq_canon v f [⟨Rect.unit (s := S4096x128) ![0, 0] S4096x128.size inb, w⟩]
    (fun y => ⟨_, List.mem_singleton_self _, View.mem_set_unit_zero hz2 inb y⟩), View.canon_unit_zero hz2]

/-- One trip of the loop over the earlier key tiles, read. -/
theorem trip_eq (c : Dev nD) (i : grid0.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole)
    (arg6 : Memref sig .tc .vmem S1x1x4x1x1024 .f32) (harg6 : arg6.IsWhole) (arg7 : Memref sig .tc .vmem S1x1024x128 .bf16) (harg7 : arg7.IsWhole)
    (arg8 : Memref sig .tc .vmem S4096x128 .bf16) (harg8 : arg8.IsWhole) (arg9 : Memref sig .tc .vmem S4096x128 .bf16) (harg9 : arg9.IsWhole)
    (x0 : Vec F S1x1024x128 .f32) (x3 : Vec F S1x1x4x1x1024 .f32) (X8 : BufTy.Contents (Elt F) arg8.view.ty) (X9 : BufTy.Contents (Elt F) arg9.view.ty)
    (k : Fin (k0_t1_loop i).trips) (acc : FVec F S1024x1 .f32 × FVec F S1024x1 .f32 × FVec F S1024x128 .f32) :
    tripR_k0_t1 (F := F) Variants.none c none i arg3 harg3 arg4 harg4 arg5 harg5 arg6 harg6 arg7 harg7 arg8 harg8 arg9 harg9 x0 (harg6.unread x3) X8 X9 k acc
      = (k0_pay10 x0 acc.1 (tile (arg8.view.read (Elt F) X8) k.val) (ctile x3 k.val),
         k0_pay13 x0 acc.1 acc.2.1 (tile (arg8.view.read (Elt F) X8) k.val) (ctile x3 k.val),
         k0_pay14 x0 acc.1 acc.2.2 (tile (arg8.view.read (Elt F) X8) k.val) (ctile x3 k.val) (tile (arg9.view.read (Elt F) X9) k.val)) := by
  have hk : k.val < 4 := lt_trans (lt_of_lt_of_eq k.isLt (trips1 i)) (lt_four i)
  unfold tripR_k0_t1 trip_k0_t1
  dsimp only
  simp only [View.readAt_eq_ld, harg6.read_unread]
  rw [ld_tile _ _ k.val (k0_off1_eq i k) _ hk, ld_tile _ _ k.val (k0_off1_eq i k) _ hk, ld_ctile _ _ k.val (k0_off2_eq i k) _ hk]

/-- The loop's carried value before trip `n` is `state` at `n`. -/
theorem st_eq (c : Dev nD) (i : grid0.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole)
    (arg6 : Memref sig .tc .vmem S1x1x4x1x1024 .f32) (harg6 : arg6.IsWhole) (arg7 : Memref sig .tc .vmem S1x1024x128 .bf16) (harg7 : arg7.IsWhole)
    (arg8 : Memref sig .tc .vmem S4096x128 .bf16) (harg8 : arg8.IsWhole) (arg9 : Memref sig .tc .vmem S4096x128 .bf16) (harg9 : arg9.IsWhole)
    (x0 : Vec F S1x1024x128 .f32) (x3 : Vec F S1x1x4x1x1024 .f32) (X8 : BufTy.Contents (Elt F) arg8.view.ty) (X9 : BufTy.Contents (Elt F) arg9.view.ty) :
    ∀ n : ℕ, n ≤ (k0_t1_loop i).trips →
    st_k0_t1 (F := F) Variants.none c none i arg3 harg3 arg4 harg4 arg5 harg5 arg6 harg6 arg7 harg7 arg8 harg8 arg9 harg9 x0 (harg6.unread x3) X8 X9 (k0_pay6, k0_pay7, k0_pay8) n
      = state x0 (arg8.view.read (Elt F) X8) (arg9.view.read (Elt F) X9) x3 n
  | 0, _ => rfl
  | n + 1, h => by
    rw [st_k0_t1_succ Variants.none c none i arg3 harg3 arg4 harg4 arg5 harg5 arg6 harg6 arg7 harg7 arg8 harg8 arg9 harg9 x0 (harg6.unread x3) X8 X9 (k0_pay6, k0_pay7, k0_pay8) ⟨n, h⟩,
      trip_eq, st_eq c i arg3 harg3 arg4 harg4 arg5 harg5 arg6 harg6 arg7 harg7 arg8 harg8 arg9 harg9 x0 x3 X8 X9 n (Nat.le_of_lt h)]
    rfl

theorem sout_A_0 (c : Dev nD) (i : grid0.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole)
    (arg6 : Memref sig .tc .vmem S1x1x4x1x1024 .f32) (harg6 : arg6.IsWhole) (arg7 : Memref sig .tc .vmem S1x1024x128 .bf16) (harg7 : arg7.IsWhole)
    (arg8 : Memref sig .tc .vmem S4096x128 .bf16) (harg8 : arg8.IsWhole) (arg9 : Memref sig .tc .vmem S4096x128 .bf16) (harg9 : arg9.IsWhole) (hc0 : cond0_0 i)
    (x0 : Vec F S1x1024x128 .f32) (x1 x2 : Vec F S1x4096x128 .f32) (x3 : Vec F S1x1x4x1x1024 .f32) :
    sout0_A_0 c i arg3 harg3 arg4 harg4 arg5 harg5 arg6 harg6 arg7 harg7 arg8 harg8 arg9 harg9 hc0 x0 x1 x2 x3 = k0_pay2 x1 := by
  unfold sout0_A_0
  rw [View.read_writes_eq_canon _ _ _ (scover0_A_0 c i arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg4.read_unread, View.ld_unit_zero (S := S1x4096x128) hz3]

theorem sout_A_1 (c : Dev nD) (i : grid0.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole)
    (arg6 : Memref sig .tc .vmem S1x1x4x1x1024 .f32) (harg6 : arg6.IsWhole) (arg7 : Memref sig .tc .vmem S1x1024x128 .bf16) (harg7 : arg7.IsWhole)
    (arg8 : Memref sig .tc .vmem S4096x128 .bf16) (harg8 : arg8.IsWhole) (arg9 : Memref sig .tc .vmem S4096x128 .bf16) (harg9 : arg9.IsWhole) (hc0 : cond0_0 i)
    (x0 : Vec F S1x1024x128 .f32) (x1 x2 : Vec F S1x4096x128 .f32) (x3 : Vec F S1x1x4x1x1024 .f32) :
    sout0_A_1 c i arg3 harg3 arg4 harg4 arg5 harg5 arg6 harg6 arg7 harg7 arg8 harg8 arg9 harg9 hc0 x0 x1 x2 x3 = k0_pay3 x2 := by
  unfold sout0_A_1
  rw [View.read_writes_eq_canon _ _ _ (scover0_A_1 c i arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg5.read_unread, View.ld_unit_zero (S := S1x4096x128) hz3]

theorem sout_B_0 (c : Dev nD) (i : grid0.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole)
    (arg6 : Memref sig .tc .vmem S1x1x4x1x1024 .f32) (harg6 : arg6.IsWhole) (arg7 : Memref sig .tc .vmem S1x1024x128 .bf16) (harg7 : arg7.IsWhole)
    (arg8 : Memref sig .tc .vmem S4096x128 .bf16) (harg8 : arg8.IsWhole) (arg9 : Memref sig .tc .vmem S4096x128 .bf16) (harg9 : arg9.IsWhole) (hc0 : ¬cond0_0 i)
    (x0 : Vec F S1x1024x128 .f32) (x1 x2 : Vec F S1x4096x128 .f32) (x3 : Vec F S1x1x4x1x1024 .f32) (xs0 xs1 : Vec F S4096x128 .bf16) :
    sout0_B_0 c i arg3 harg3 arg4 harg4 arg5 harg5 arg6 harg6 arg7 harg7 arg8 harg8 arg9 harg9 hc0 x0 x1 x2 x3 xs0 xs1 = xs0 := by
  rfl

theorem sout_B_1 (c : Dev nD) (i : grid0.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole)
    (arg6 : Memref sig .tc .vmem S1x1x4x1x1024 .f32) (harg6 : arg6.IsWhole) (arg7 : Memref sig .tc .vmem S1x1024x128 .bf16) (harg7 : arg7.IsWhole)
    (arg8 : Memref sig .tc .vmem S4096x128 .bf16) (harg8 : arg8.IsWhole) (arg9 : Memref sig .tc .vmem S4096x128 .bf16) (harg9 : arg9.IsWhole) (hc0 : ¬cond0_0 i)
    (x0 : Vec F S1x1024x128 .f32) (x1 x2 : Vec F S1x4096x128 .f32) (x3 : Vec F S1x1x4x1x1024 .f32) (xs0 xs1 : Vec F S4096x128 .bf16) :
    sout0_B_1 c i arg3 harg3 arg4 harg4 arg5 harg5 arg6 harg6 arg7 harg7 arg8 harg8 arg9 harg9 hc0 x0 x1 x2 x3 xs0 xs1 = xs1 := by
  rfl

/-- A later query tile's point stores `blockOut` over the scratch arrays it finds. -/
theorem out_B (c : Dev nD) (i : grid0.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole)
    (arg6 : Memref sig .tc .vmem S1x1x4x1x1024 .f32) (harg6 : arg6.IsWhole) (arg7 : Memref sig .tc .vmem S1x1024x128 .bf16) (harg7 : arg7.IsWhole)
    (arg8 : Memref sig .tc .vmem S4096x128 .bf16) (harg8 : arg8.IsWhole) (arg9 : Memref sig .tc .vmem S4096x128 .bf16) (harg9 : arg9.IsWhole) (hc0 : ¬cond0_0 i)
    (x0 : Vec F S1x1024x128 .f32) (x1 x2 : Vec F S1x4096x128 .f32) (x3 : Vec F S1x1x4x1x1024 .f32) (xs0 xs1 : Vec F S4096x128 .bf16) :
    out0_B_4 c i arg3 harg3 arg4 harg4 arg5 harg5 arg6 harg6 arg7 harg7 arg8 harg8 arg9 harg9 hc0 x0 x1 x2 x3 xs0 xs1 = blockOut x0 xs0 xs1 x3 (i 2).val := by
  have h1 := trips1 i
  have h2 := trips2 i
  unfold out0_B_4
  rw [View.read_writes_eq_canon _ _ _ (cover0_B_4 c i arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz3]
  simp only [View.readAt_eq_ld, harg3.read_unread, harg8.read_unread, harg9.read_unread, harg6.read_unread, View.ld_unit_zero (S := S1x1024x128) hz3]
  unfold Scf.Loop.trips k0_t1_loop at h1
  unfold Scf.Loop.trips k0_t2_loop at h2
  dsimp only at h1 h2
  rw [h2]
  simp only [st_k0_t2_zero, h1]
  rw [st_eq _ _ _ _ _ _ _ _ _ _ _ _ _ _ _ _ _ _ _ _ _ (le_of_eq (trips1 i).symm)]
  rw [harg8.read_unread, harg9.read_unread]
  exact congrArg₂ (fun a b => k0_pay1 k0_pay5 _ _ _ a b)
    (congrArg₂ (k0_pay21 x0) (ld_tile _ (k0_off5 i) _ (k0_off5_eq i) _ (lt_four i)) (ld_ctile _ (k0_off6 i) _ (k0_off6_eq i) _ (lt_four i)))
    (ld_tile _ (k0_off5 i) _ (k0_off5_eq i) _ (lt_four i))

set_option maxHeartbeats 1000000 in
/-- The first query tile's point stores `blockOut` over the scratch arrays it fills. -/
theorem out_A (c : Dev nD) (i : grid0.Coords) (arg3 : Memref sig .tc .vmem S1x1024x128 .f32) (harg3 : arg3.IsWhole) (arg4 : Memref sig .tc .vmem S1x4096x128 .f32) (harg4 : arg4.IsWhole) (arg5 : Memref sig .tc .vmem S1x4096x128 .f32) (harg5 : arg5.IsWhole)
    (arg6 : Memref sig .tc .vmem S1x1x4x1x1024 .f32) (harg6 : arg6.IsWhole) (arg7 : Memref sig .tc .vmem S1x1024x128 .bf16) (harg7 : arg7.IsWhole)
    (arg8 : Memref sig .tc .vmem S4096x128 .bf16) (harg8 : arg8.IsWhole) (arg9 : Memref sig .tc .vmem S4096x128 .bf16) (harg9 : arg9.IsWhole) (hc0 : cond0_0 i)
    (x0 : Vec F S1x1024x128 .f32) (x1 x2 : Vec F S1x4096x128 .f32) (x3 : Vec F S1x1x4x1x1024 .f32) :
    out0_A_4 c i arg3 harg3 arg4 harg4 arg5 harg5 arg6 harg6 arg7 harg7 arg8 harg8 arg9 harg9 hc0 x0 x1 x2 x3 = blockOut x0 (k0_pay2 x1) (k0_pay3 x2) x3 (i 2).val := by
  have h1 := trips1 i
  have h2 := trips2 i
  unfold out0_A_4
  rw [View.read_writes_eq_canon _ _ _ (cover0_A_4 c i arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readAt_eq_ld, harg3.read_unread, harg4.read_unread, harg5.read_unread, harg6.read_unread, View.ld_unit_zero (S := S1x1024x128) hz3, View.ld_unit_zero (S := S1x4096x128) hz3]
  unfold Scf.Loop.trips k0_t1_loop at h1
  unfold Scf.Loop.trips k0_t2_loop at h2
  dsimp only at h1 h2
  rw [h2]
  simp only [st_k0_t2_zero, h1]
  rw [st_eq _ _ _ _ _ _ _ _ _ _ _ _ _ _ _ _ _ _ _ _ _ (le_of_eq (trips1 i).symm)]
  rw [read_store, read_store]
  exact congrArg₂ (fun a b => k0_pay1 k0_pay5 _ _ _ a b)
    (congrArg₂ (k0_pay21 x0) (ld_tile _ (k0_off5 i) _ (k0_off5_eq i) _ (lt_four i)) (ld_ctile _ (k0_off6 i) _ (k0_off6_eq i) _ (lt_four i)))
    (ld_tile _ (k0_off5 i) _ (k0_off5_eq i) _ (lt_four i))

end Cert.KernelIdeal.Flash

end
-- ==== Proof.OnlineSoftmax.lean ====
/-
  The arithmetic of softmax-weighted sums over the extended reals, away from any program: the running form (maximum, sum
  and weighted sum rescaled tile by tile, in base 2) keeps an invariant whose quotient is the weighted mean, and the plain
  form (one maximum, one sum, base e) is the weighted mean too.
-/
module

public import Idealize.ShloMosaic.PureOps.Ideal
public import Idealize.ShloMosaic.Lib.Pointwise
public import Idealize.ShloMosaic.Lib.Tactic

@[expose] public section

noncomputable section

open Idealize.ShloMosaic

namespace Cert.Softmax

/-- A score that a mask may remove. -/
def score (p : Prop) [Decidable p] (x : ℝ) : EReal := if p then (x : EReal) else ⊥

/-- The weight in base 2 of a score that a mask may remove. -/
def weight (p : Prop) [Decidable p] (x : ℝ) : ℝ := if p then (2 : ℝ) ^ x else 0

/-- The weight in base e of a score that a mask may remove. -/
def weightE (p : Prop) [Decidable p] (x : ℝ) : ℝ := if p then Real.exp x else 0

theorem coe_sum {n : ℕ} (f : Fin n → ℝ) : (∑ k, (f k : EReal)) = ((∑ k, f k : ℝ) : EReal) := by
  classical
  refine Finset.induction_on (Finset.univ : Finset (Fin n)) (by simp) fun a s ha ih => ?_
  rw [Finset.sum_insert ha, Finset.sum_insert ha, ih, EReal.coe_add]

/-- The maximum of scores of which one at least is kept is a real number. -/
theorem fold_real {n : ℕ} (p : Fin n → Prop) [DecidablePred p] (x : Fin n → ℝ) (h : ∃ k, p k) :
    ∃ M : ℝ, Finset.univ.fold max (⊥ : EReal) (fun k => score (p k) (x k)) = (M : EReal) := by
  obtain ⟨k, hk⟩ := h
  have h1 : Finset.univ.fold max (⊥ : EReal) (fun k => score (p k) (x k)) ≠ ⊤ := by
    refine ne_of_lt ((Finset.fold_max_lt _).2 ⟨bot_lt_top, fun j _ => ?_⟩)
    unfold score
    by_cases hj : p j
    · rw [if_pos hj]; exact EReal.coe_lt_top _
    · rw [if_neg hj]; exact bot_lt_top
  have h2 : Finset.univ.fold max (⊥ : EReal) (fun k => score (p k) (x k)) ≠ ⊥ := by
    refine ne_of_gt ((Finset.lt_fold_max _).2 (Or.inr ⟨k, Finset.mem_univ k, ?_⟩))
    unfold score
    rw [if_pos hk]; exact EReal.bot_lt_coe _
  exact ⟨_, (EReal.coe_toReal h1 h2).symm⟩

theorem exp2_score (p : Prop) [Decidable p] (x M : ℝ) :
    Ideal.exp2 (score p x - (M : EReal)) = ((weight p x * (2 : ℝ) ^ (-M) : ℝ) : EReal) := by
  unfold score weight
  by_cases h : p
  · rw [if_pos h, if_pos h, ← EReal.coe_sub, Ideal.exp2_coe, ← Real.rpow_add (by norm_num), ← sub_eq_add_neg]; rfl
  · rw [if_neg h, if_neg h, EReal.bot_sub, Ideal.exp2_bot, zero_mul, EReal.coe_zero]

theorem exp_score (p : Prop) [Decidable p] (x M : ℝ) :
    Ideal.exp (score p x - (M : EReal)) = ((weightE p x * Real.exp (-M) : ℝ) : EReal) := by
  unfold score weightE
  by_cases h : p
  · rw [if_pos h, if_pos h, ← EReal.coe_sub, Ideal.exp_coe, ← Real.exp_add, ← sub_eq_add_neg]
  · rw [if_neg h, if_neg h, EReal.bot_sub, Ideal.exp_bot, zero_mul, EReal.coe_zero]

theorem weight_nonneg (p : Prop) [Decidable p] (x : ℝ) : 0 ≤ weight p x := by
  unfold weight
  split
  · exact (Real.rpow_pos_of_pos (by norm_num) _).le
  · exact le_rfl

theorem weightE_nonneg (p : Prop) [Decidable p] (x : ℝ) : 0 ≤ weightE p x := by
  unfold weightE
  split
  · exact (Real.exp_pos _).le
  · exact le_rfl

theorem sum_weight_pos {n : ℕ} (p : Fin n → Prop) [DecidablePred p] (x : Fin n → ℝ) (h : ∃ k, p k) :
    0 < ∑ k, weight (p k) (x k) := by
  obtain ⟨k, hk⟩ := h
  refine Finset.sum_pos' (fun j _ => weight_nonneg _ _) ⟨k, Finset.mem_univ k, ?_⟩
  unfold weight
  rw [if_pos hk]
  exact Real.rpow_pos_of_pos (by norm_num) _

theorem sum_weightE_pos {n : ℕ} (p : Fin n → Prop) [DecidablePred p] (x : Fin n → ℝ) (h : ∃ k, p k) :
    0 < ∑ k, weightE (p k) (x k) := by
  obtain ⟨k, hk⟩ := h
  refine Finset.sum_pos' (fun j _ => weightE_nonneg _ _) ⟨k, Finset.mem_univ k, ?_⟩
  unfold weightE
  rw [if_pos hk]
  exact Real.exp_pos _

/-- The running maximum, sum and weighted sum `(m, l, acc)` stand for the total weight `W` and the total weighted value
    `A`: nothing seen yet, or both scaled by `2 ^ (-m)`. -/
def Inv (m l acc : EReal) (W A : ℝ) : Prop :=
  (m = ⊥ ∧ l = 0 ∧ acc = 0 ∧ W = 0 ∧ A = 0)
    ∨ ∃ M : ℝ, m = (M : EReal) ∧ l = ((W * (2 : ℝ) ^ (-M) : ℝ) : EReal) ∧ acc = ((A * (2 : ℝ) ^ (-M) : ℝ) : EReal)

/-- The new running maximum. -/
def newMax {n : ℕ} (m : EReal) (a : Fin n → EReal) : EReal := max m (Finset.univ.fold max (⊥ : EReal) a)

theorem rescale (W M M' : ℝ) : Real.rpow 2 (M - M') * (W * (2 : ℝ) ^ (-M)) = W * (2 : ℝ) ^ (-M') := by
  have h : (2 : ℝ) ^ (M - M') * (2 : ℝ) ^ (-M) = (2 : ℝ) ^ (-M') := by
    rw [← Real.rpow_add (by norm_num)]
    congr 1
    ring
  calc Real.rpow 2 (M - M') * (W * (2 : ℝ) ^ (-M)) = W * ((2 : ℝ) ^ (M - M') * (2 : ℝ) ^ (-M)) := by
        show (2 : ℝ) ^ (M - M') * (W * (2 : ℝ) ^ (-M)) = _
        ring
    _ = _ := by rw [h]

theorem sum_exp2 {n : ℕ} (p : Fin n → Prop) [DecidablePred p] (x : Fin n → ℝ) (M : ℝ) :
    (∑ k, Ideal.exp2 (score (p k) (x k) - (M : EReal))) = (((∑ k, weight (p k) (x k)) * (2 : ℝ) ^ (-M) : ℝ) : EReal) := by
  rw [Finset.sum_congr rfl fun k _ => exp2_score (p k) (x k) M, coe_sum, Finset.sum_mul]

theorem sum_exp2_mul {n : ℕ} (p : Fin n → Prop) [DecidablePred p] (x v : Fin n → ℝ) (M : ℝ) :
    (∑ k, Ideal.exp2 (score (p k) (x k) - (M : EReal)) * (v k : EReal))
      = (((∑ k, weight (p k) (x k) * v k) * (2 : ℝ) ^ (-M) : ℝ) : EReal) := by
  rw [Finset.sum_congr rfl fun k _ => (congrArg (· * (v k : EReal)) (exp2_score (p k) (x k) M)).trans (EReal.coe_mul _ _).symm,
    coe_sum, Finset.sum_mul]
  refine congrArg _ (Finset.sum_congr rfl fun k _ => by ring)

/-- One tile keeps the invariant, and leaves a real maximum. -/
theorem step {n : ℕ} (m l acc : EReal) (W A : ℝ) (p : Fin n → Prop) [DecidablePred p] (x v : Fin n → ℝ) (h : ∃ k, p k)
    (hI : Inv m l acc W A) :
    ∃ M : ℝ, newMax m (fun k => score (p k) (x k)) = (M : EReal)
      ∧ Ideal.exp2 (m - newMax m fun k => score (p k) (x k)) * l
          + ∑ k, Ideal.exp2 (score (p k) (x k) - newMax m fun k => score (p k) (x k))
        = (((W + ∑ k, weight (p k) (x k)) * (2 : ℝ) ^ (-M) : ℝ) : EReal)
      ∧ Ideal.exp2 (m - newMax m fun k => score (p k) (x k)) * acc
          + ∑ k, Ideal.exp2 (score (p k) (x k) - newMax m fun k => score (p k) (x k)) * (v k : EReal)
        = (((A + ∑ k, weight (p k) (x k) * v k) * (2 : ℝ) ^ (-M) : ℝ) : EReal) := by
  obtain ⟨M0, hM0⟩ := fold_real p x h
  rcases hI with ⟨rfl, rfl, rfl, rfl, rfl⟩ | ⟨M1, rfl, rfl, rfl⟩
  · have e : newMax ⊥ (fun k => score (p k) (x k)) = (M0 : EReal) := by
      unfold newMax; rw [hM0]; exact max_eq_right bot_le
    refine ⟨M0, e, ?_, ?_⟩
    · rw [e, sum_exp2, mul_zero, zero_add, zero_add]
    · rw [e, sum_exp2_mul, mul_zero, zero_add, zero_add]
  · have e : newMax (M1 : EReal) (fun k => score (p k) (x k)) = ((max M1 M0 : ℝ) : EReal) := by
      unfold newMax; rw [hM0]; exact (EReal.coe_strictMono.monotone.map_max).symm
    refine ⟨max M1 M0, e, ?_, ?_⟩
    · rw [e, sum_exp2, ← EReal.coe_sub, Ideal.exp2_coe, ← EReal.coe_mul, rescale, ← EReal.coe_add, add_mul]
    · rw [e, sum_exp2_mul, ← EReal.coe_sub, Ideal.exp2_coe, ← EReal.coe_mul, rescale, ← EReal.coe_add, add_mul]

/-- The quotient after a last tile is the weighted mean. -/
theorem quotient (W A M : ℝ) (hW : W ≠ 0) :
    Ideal.div (((A * (2 : ℝ) ^ (-M) : ℝ)) : EReal) ((W * (2 : ℝ) ^ (-M) : ℝ) : EReal) = ((A / W : ℝ) : EReal) := by
  have h2 : (2 : ℝ) ^ (-M) ≠ 0 := (Real.rpow_pos_of_pos (by norm_num) _).ne'
  rw [Ideal.div_coe (mul_ne_zero hW h2), ← EReal.coe_mul]
  refine congrArg _ ?_
  field_simp

/-- The plain softmax-weighted sum is the weighted mean. -/
theorem plain {n : ℕ} (p : Fin n → Prop) [DecidablePred p] (x v : Fin n → ℝ) (h : ∃ k, p k) (s : Fin n → EReal)
    (hs : ∀ k, s k = score (p k) (x k)) (N D : EReal) (hN : N = Finset.univ.fold max (⊥ : EReal) s)
    (hD : D = ∑ k, Ideal.exp (s k - N)) :
    (∑ k, (v k : EReal) * Ideal.div (Ideal.exp (s k - N)) D)
      = (((∑ k, weightE (p k) (x k) * v k) / (∑ k, weightE (p k) (x k)) : ℝ) : EReal) := by
  obtain rfl : s = fun k => score (p k) (x k) := funext hs
  obtain ⟨M, hM⟩ := fold_real p x h
  rw [hM] at hN
  subst hN
  have hpos := sum_weightE_pos p x h
  have he : Real.exp (-M) ≠ 0 := (Real.exp_pos _).ne'
  have hD' : D = (((∑ k, weightE (p k) (x k)) * Real.exp (-M) : ℝ) : EReal) := by
    rw [hD, Finset.sum_congr rfl fun k _ => exp_score (p k) (x k) M, coe_sum, Finset.sum_mul]
  rw [hD']
  rw [Finset.sum_congr rfl fun k _ => show _ = ((v k * (weightE (p k) (x k) / ∑ k, weightE (p k) (x k)) : ℝ) : EReal) from by
    rw [exp_score, Ideal.div_coe (mul_ne_zero hpos.ne' he), ← EReal.coe_mul, ← EReal.coe_mul]
    refine congrArg _ ?_
    field_simp]
  rw [coe_sum, Finset.sum_div]
  refine congrArg _ (Finset.sum_congr rfl fun k _ => by ring)

end Cert.Softmax

end
-- ==== Proof.FlashRow.lean ====
/-
  The attention kernel's payloads read at one row, over the extended reals: the scores of a tile, the step of the carried
  triple and the quotient stored at the end.
-/
module

public import proofs.«01_k».proof.Proof.FlashRead
public import proofs.«01_k».proof.Proof.OnlineSoftmax

@[expose] public section

set_option maxRecDepth 16384

noncomputable section

open Idealize.ShloMosaic Idealize.ShloMosaic.TcCoe Idealize.SL.Sem

namespace Cert.KernelIdeal.Flash

open Cert.KernelIdeal Cert.KernelIdeal.Gen Cert.Softmax

/-- The factor on the queries. -/
def qs : ℝ := (Real.sqrt 128)⁻¹ * (Real.log 2)⁻¹
/-- The change of base. -/
def l2e : ℝ := (Real.log 2)⁻¹

theorem named_qs : Named.named (F := Ideal) κ "qscale" (φ := .f32) 0x3E0293EE#32 = (qs : EReal) :=
  IdealRules.named_const.ideal_named_scalar _ _ _ _ rfl
theorem named_l2e : Named.named (F := Ideal) κ "log2e" (φ := .f32) 0x3FB8AA3B#32 = (l2e : EReal) :=
  IdealRules.named_const.ideal_named_scalar _ _ _ _ rfl

theorem neg_inf : Ideal.ofBits .f32 0xFF800000#32 = ⊥ := by simp [Ideal.ofBits, Ideal.ieee]

theorem pay9_at (x0 : Vec Ideal S1x1024x128 .f32) (kt : Vec Ideal S1024x128 .bf16) (ct : Vec Ideal S1x1x1x1x1024 .f32)
    (r t : Fin 1024) :
    k0_pay9 (F := Ideal) x0 kt ct (ix2 r t)
      = (∑ d : Fin 128, (show EReal from x0 (ix3 0 r d)) * (qs : EReal) * (show EReal from kt (ix2 t d)))
        - (show EReal from ct (ix5 0 0 0 0 t)) * (l2e : EReal) := by
  pointwise [k0_pay9, k0_pay4, named_qs, named_l2e]

theorem pay21_eq (x0 : Vec Ideal S1x1024x128 .f32) (kt : Vec Ideal S1024x128 .bf16) (ct : Vec Ideal S1x1x1x1x1024 .f32) :
    k0_pay21 (F := Ideal) x0 kt ct = k0_pay9 (F := Ideal) x0 kt ct := rfl

theorem pay10_at (x0 : Vec Ideal S1x1024x128 .f32) (m : FVec Ideal S1024x1 .f32) (kt : Vec Ideal S1024x128 .bf16) (ct : Vec Ideal S1x1x1x1x1024 .f32)
    (r : Fin 1024) (z : Fin 1) :
    k0_pay10 (F := Ideal) x0 m kt ct (ix2 r z) = newMax (m (ix2 r 0)) fun t : Fin 1024 => k0_pay9 (F := Ideal) x0 kt ct (ix2 r t) := by
  pointwise [k0_pay10, newMax, neg_inf]
  rw [Subsingleton.elim z 0]

theorem pay13_at (x0 : Vec Ideal S1x1024x128 .f32) (m l : FVec Ideal S1024x1 .f32) (kt : Vec Ideal S1024x128 .bf16) (ct : Vec Ideal S1x1x1x1x1024 .f32)
    (r : Fin 1024) :
    k0_pay13 (F := Ideal) x0 m l kt ct (ix2 r (0 : Fin 1))
      = Ideal.exp2 ((show EReal from m (ix2 r 0)) - newMax (m (ix2 r 0)) fun t : Fin 1024 => k0_pay9 (F := Ideal) x0 kt ct (ix2 r t)) * (show EReal from l (ix2 r 0))
        + ∑ t : Fin 1024, Ideal.exp2 ((show EReal from k0_pay9 (F := Ideal) x0 kt ct (ix2 r t)) - newMax (m (ix2 r 0)) fun t : Fin 1024 => k0_pay9 (F := Ideal) x0 kt ct (ix2 r t)) := by
  pointwise [k0_pay13, k0_pay11, k0_pay12, pay10_at]
  rfl

theorem pay14_at (x0 : Vec Ideal S1x1024x128 .f32) (m : FVec Ideal S1024x1 .f32) (acc : FVec Ideal S1024x128 .f32) (kt vt : Vec Ideal S1024x128 .bf16) (ct : Vec Ideal S1x1x1x1x1024 .f32)
    (r : Fin 1024) (d : Fin 128) :
    k0_pay14 (F := Ideal) x0 m acc kt ct vt (ix2 r d)
      = Ideal.exp2 ((show EReal from m (ix2 r 0)) - newMax (m (ix2 r 0)) fun t : Fin 1024 => k0_pay9 (F := Ideal) x0 kt ct (ix2 r t)) * (show EReal from acc (ix2 r d))
        + ∑ t : Fin 1024, Ideal.exp2 ((show EReal from k0_pay9 (F := Ideal) x0 kt ct (ix2 r t)) - newMax (m (ix2 r 0)) fun t : Fin 1024 => k0_pay9 (F := Ideal) x0 kt ct (ix2 r t)) * (show EReal from vt (ix2 t d)) := by
  pointwise [k0_pay14, k0_pay11, k0_pay12, pay10_at]
  rfl

/-- A score of the last tile: masked above the diagonal. -/
def masked (S : FVec Ideal S1024x1024 .f32) (r t : Fin 1024) : EReal :=
  Scalar.select (IntOp.cmpi .sle (BitVec.ofNat 32 t.val) (BitVec.ofNat 32 r.val)) (S (ix2 r t)) ⊥

/-- The order of two small numbers, read on their words. -/
theorem sle_word (a b : ℕ) (ha : a < 4096) (hb : b < 4096) (x y : EReal) :
    Scalar.select (IntOp.cmpi .sle (BitVec.ofNat 32 a) (BitVec.ofNat 32 b)) x y = if a ≤ b then x else y := by
  word_cmp

theorem pay1_at (S : FVec Ideal S1024x1024 .f32) (m l : FVec Ideal S1024x1 .f32) (acc : FVec Ideal S1024x128 .f32) (vt : Vec Ideal S1024x128 .bf16)
    (z : Fin 1) (r : Fin 1024) (d : Fin 128) :
    k0_pay1 (F := Ideal) k0_pay5 m l acc S vt (ix3 z r d)
      = Ideal.div
        (Ideal.exp2 ((show EReal from m (ix2 r 0)) - newMax (m (ix2 r 0)) (masked S r)) * (show EReal from acc (ix2 r d))
          + ∑ t : Fin 1024, Ideal.exp2 (masked S r t - newMax (m (ix2 r 0)) (masked S r)) * (show EReal from vt (ix2 t d)))
        (Ideal.exp2 ((show EReal from m (ix2 r 0)) - newMax (m (ix2 r 0)) (masked S r)) * (show EReal from l (ix2 r 0))
          + ∑ t : Fin 1024, Ideal.exp2 (masked S r t - newMax (m (ix2 r 0)) (masked S r))) := by
  pointwise [k0_pay1, k0_pay5, newMax, neg_inf]
  rfl

/-- The score, in base 2 and without the query's own gate, of row `r` against row `t` of key tile `j`. -/
def X (q : Fin 1024 → Fin 128 → ℝ) (k : Fin 4096 → Fin 128 → ℝ) (c : Fin 4 → Fin 1024 → ℝ) (r : Fin 1024) (j : ℕ) (t : Fin 1024) : ℝ :=
  (∑ d : Fin 128, q r d * qs * k ⟨(1024 * j + t.val) % 4096, Nat.mod_lt _ (by decide)⟩ d)
    - c ⟨j % 4, Nat.mod_lt _ (by decide)⟩ t * l2e

/-- The values of row `t` of tile `j`. -/
def vt (v : Fin 4096 → Fin 128 → ℝ) (j : ℕ) (t : Fin 1024) (d : Fin 128) : ℝ := v ⟨(1024 * j + t.val) % 4096, Nat.mod_lt _ (by decide)⟩ d

section

variable {x0 : Vec Ideal S1x1024x128 .f32} {kb vb : Vec Ideal S4096x128 .bf16} {x3 : Vec Ideal S1x1x4x1x1024 .f32}
  {q : Fin 1024 → Fin 128 → ℝ} {k v : Fin 4096 → Fin 128 → ℝ} {c : Fin 4 → Fin 1024 → ℝ}

theorem score_at (hq : ∀ (r : Fin 1024) (d : Fin 128), x0 (ix3 (0 : Fin 1) r d) = (q r d : EReal))
    (hk : ∀ (s : Fin 4096) (d : Fin 128), kb (ix2 s d) = (k s d : EReal))
    (hc : ∀ (j : Fin 4) (t : Fin 1024), x3 (ix5 (0 : Fin 1) (0 : Fin 1) j (0 : Fin 1) t) = (c j t : EReal)) (j : ℕ) (r t : Fin 1024) :
    k0_pay9 (F := Ideal) x0 (tile kb j) (ctile x3 j) (ix2 r t) = (X q k c r j t : EReal) := by
  rw [pay9_at]
  have e1 : ∀ d : Fin 128, (show EReal from x0 (ix3 0 r d)) * (qs : EReal) * (show EReal from tile kb j (ix2 t d))
      = ((q r d * qs * k ⟨(1024 * j + t.val) % 4096, Nat.mod_lt _ (by decide)⟩ d : ℝ) : EReal) := fun d => by
    rw [EReal.coe_mul, EReal.coe_mul]
    exact congrArg₂ (· * ·) (congrArg (· * (qs : EReal)) (hq r d)) (hk ⟨(1024 * j + t.val) % 4096, Nat.mod_lt _ (by decide)⟩ d)
  have e2 : (show EReal from ctile x3 j (ix5 0 0 0 0 t)) = ((c ⟨j % 4, Nat.mod_lt _ (by decide)⟩ t : ℝ) : EReal) :=
    hc ⟨j % 4, Nat.mod_lt _ (by decide)⟩ t
  rw [Finset.sum_congr rfl fun d _ => e1 d, coe_sum, e2, ← EReal.coe_mul, ← EReal.coe_sub]
  rfl

/-- The weights of the first `j` tiles. -/
def W (q : Fin 1024 → Fin 128 → ℝ) (k : Fin 4096 → Fin 128 → ℝ) (c : Fin 4 → Fin 1024 → ℝ) (r : Fin 1024) (j : ℕ) : ℝ :=
  ∑ i ∈ Finset.range j, ∑ t : Fin 1024, weight True (X q k c r i t)
/-- The weighted values of the first `j` tiles. -/
def A (q : Fin 1024 → Fin 128 → ℝ) (k v : Fin 4096 → Fin 128 → ℝ) (c : Fin 4 → Fin 1024 → ℝ) (r : Fin 1024) (d : Fin 128) (j : ℕ) : ℝ :=
  ∑ i ∈ Finset.range j, ∑ t : Fin 1024, weight True (X q k c r i t) * vt v i t d

/-- The carried triple, row by row. -/
theorem state_inv (hq : ∀ (r : Fin 1024) (d : Fin 128), x0 (ix3 (0 : Fin 1) r d) = (q r d : EReal))
    (hk : ∀ (s : Fin 4096) (d : Fin 128), kb (ix2 s d) = (k s d : EReal))
    (hv : ∀ (s : Fin 4096) (d : Fin 128), vb (ix2 s d) = (v s d : EReal))
    (hc : ∀ (j : Fin 4) (t : Fin 1024), x3 (ix5 (0 : Fin 1) (0 : Fin 1) j (0 : Fin 1) t) = (c j t : EReal)) (r : Fin 1024) (d : Fin 128) :
    ∀ j : ℕ, Inv ((state x0 kb vb x3 j).1 (ix2 r (0 : Fin 1))) ((state x0 kb vb x3 j).2.1 (ix2 r (0 : Fin 1)))
      ((state x0 kb vb x3 j).2.2 (ix2 r d)) (W q k c r j) (A q k v c r d j)
  | 0 => Or.inl ⟨neg_inf, Ideal.ofBits_zero_f32, Ideal.ofBits_zero_f32, rfl, rfl⟩
  | j + 1 => by
    have ih := state_inv hq hk hv hc r d j
    have hs : (fun t : Fin 1024 => k0_pay9 (F := Ideal) x0 (tile kb j) (ctile x3 j) (ix2 r t)) = fun t => score True (X q k c r j t) :=
      funext fun t => (score_at hq hk hc j r t).trans (if_pos trivial).symm
    obtain ⟨M, h1, h2, h3⟩ := step _ _ _ _ _ (fun _ : Fin 1024 => True) (fun t => X q k c r j t) (fun t => vt v j t d) ⟨0, trivial⟩ ih
    refine Or.inr ⟨M, ?_, ?_, ?_⟩
    · refine (pay10_at x0 _ _ _ r 0).trans ?_
      rw [hs]
      exact h1
    · refine (pay13_at x0 _ _ _ _ r).trans ?_
      have e : W q k c r (j + 1) = W q k c r j + ∑ t : Fin 1024, weight True (X q k c r j t) := Finset.sum_range_succ _ _
      rw [hs, e]
      refine Eq.trans ?_ h2
      exact congrArg₂ (· + ·) rfl (Finset.sum_congr rfl fun t _ => congrArg (fun y => Ideal.exp2 (y - _)) (congrFun hs t))
    · refine (pay14_at x0 _ _ _ _ _ r d).trans ?_
      have e : A q k v c r d (j + 1) = A q k v c r d j + ∑ t : Fin 1024, weight True (X q k c r j t) * vt v j t d := Finset.sum_range_succ _ _
      rw [hs, e]
      refine Eq.trans ?_ h3
      exact congrArg₂ (· + ·) rfl (Finset.sum_congr rfl fun t _ => congrArg₂ (· * ·) (congrArg (fun y => Ideal.exp2 (y - _)) (congrFun hs t))
        (hv ⟨(1024 * j + t.val) % 4096, Nat.mod_lt _ (by decide)⟩ d))

/-- All the weights of a row at query tile `n`: the earlier tiles, and the diagonal tile up to the row. -/
def Wall (q : Fin 1024 → Fin 128 → ℝ) (k : Fin 4096 → Fin 128 → ℝ) (c : Fin 4 → Fin 1024 → ℝ) (r : Fin 1024) (n : ℕ) : ℝ :=
  W q k c r n + ∑ t : Fin 1024, weight (t.val ≤ r.val) (X q k c r n t)
/-- All the weighted values of a row at query tile `n`. -/
def Aall (q : Fin 1024 → Fin 128 → ℝ) (k v : Fin 4096 → Fin 128 → ℝ) (c : Fin 4 → Fin 1024 → ℝ) (r : Fin 1024) (d : Fin 128) (n : ℕ) : ℝ :=
  A q k v c r d n + ∑ t : Fin 1024, weight (t.val ≤ r.val) (X q k c r n t) * vt v n t d

theorem Wall_pos (r : Fin 1024) (n : ℕ) : 0 < Wall q k c r n :=
  add_pos_of_nonneg_of_pos (Finset.sum_nonneg fun _ _ => Finset.sum_nonneg fun _ _ => weight_nonneg _ _)
    (sum_weight_pos _ _ ⟨r, le_rfl⟩)

/-- The stored block, element by element: the weighted mean. -/
theorem blockOut_at (hq : ∀ (r : Fin 1024) (d : Fin 128), x0 (ix3 (0 : Fin 1) r d) = (q r d : EReal))
    (hk : ∀ (s : Fin 4096) (d : Fin 128), kb (ix2 s d) = (k s d : EReal))
    (hv : ∀ (s : Fin 4096) (d : Fin 128), vb (ix2 s d) = (v s d : EReal))
    (hc : ∀ (j : Fin 4) (t : Fin 1024), x3 (ix5 (0 : Fin 1) (0 : Fin 1) j (0 : Fin 1) t) = (c j t : EReal)) (n : ℕ)
    (z : Fin 1) (r : Fin 1024) (d : Fin 128) :
    blockOut x0 kb vb x3 n (ix3 z r d) = ((Aall q k v c r d n / Wall q k c r n : ℝ) : EReal) := by
  unfold blockOut
  rw [pay21_eq]
  refine (pay1_at _ _ _ _ _ z r d).trans ?_
  have hs : (masked (k0_pay9 (F := Ideal) x0 (tile kb n) (ctile x3 n)) r) = fun t => score (t.val ≤ r.val) (X q k c r n t) :=
    funext fun t => (sle_word _ _ (by omega) (by omega) _ _).trans (by unfold score; rw [score_at hq hk hc n r t])
  obtain ⟨M, h1, h2, h3⟩ := step _ _ _ _ _ (fun t : Fin 1024 => t.val ≤ r.val) (fun t => X q k c r n t) (fun t => vt v n t d) ⟨r, le_rfl⟩
    (state_inv hq hk hv hc r d n)
  rw [hs]
  refine (congrArg₂ Ideal.div ?_ h2).trans (quotient _ _ M (Wall_pos r n).ne')
  refine Eq.trans ?_ h3
  exact congrArg₂ (· + ·) rfl (Finset.sum_congr rfl fun t _ => congrArg₂ (· * ·) rfl
    (hv ⟨(1024 * n + t.val) % 4096, Nat.mod_lt _ (by decide)⟩ d))

end

end Cert.KernelIdeal.Flash

end
-- ==== Proof.FlashMean.lean ====
/-
  The tile by tile weighted mean of the attention kernel is the weighted mean over all keys up to the query, in base e.
-/
module

public import proofs.«01_k».proof.Proof.FlashRow

@[expose] public section

set_option maxRecDepth 16384

noncomputable section

open Idealize.ShloMosaic Idealize.ShloMosaic.TcCoe Idealize.SL.Sem

namespace Cert.KernelIdeal.Flash

open Cert.KernelIdeal Cert.KernelIdeal.Gen Cert.Softmax

/-- Row `t` of tile `j` of 4096 rows. -/
def row (j : ℕ) (t : Fin 1024) : Fin 4096 := ⟨(1024 * j + t.val) % 4096, Nat.mod_lt _ (by decide)⟩

/-- The score of query `t` against key `s`. -/
def Z (Q k : Fin 4096 → Fin 128 → ℝ) (C : Fin 4096 → ℝ) (t s : Fin 4096) : ℝ :=
  (∑ d : Fin 128, Q t d * k s d) * (1 / Real.sqrt 128) + C t - C s

/-- Four tile sums, of which those beyond tile `n` vanish. -/
theorem four_tiles (n : ℕ) (hn : n < 4) (g E : ℕ → ℝ) (D : ℝ) (h1 : ∀ j, j < n → g j = E j) (h2 : g n = D) (h3 : ∀ j, n < j → j < 4 → g j = 0) :
    ∑ j ∈ Finset.range 4, g j = ∑ j ∈ Finset.range n, E j + D := by
  obtain ⟨b, hb⟩ : ∃ b, 4 = n + 1 + b := ⟨3 - n, by omega⟩
  rw [hb, Finset.sum_range_add, Finset.sum_range_succ, h2, Finset.sum_congr rfl fun j hj => h1 j (Finset.mem_range.1 hj),
    Finset.sum_eq_zero fun j hj => h3 _ (by omega) (by have := Finset.mem_range.1 hj; omega), add_zero]

theorem exp_Z (Q k : Fin 4096 → Fin 128 → ℝ) (C : Fin 4096 → ℝ) (n : ℕ) (r : Fin 1024) (j : ℕ) (hj : j < 4) (t : Fin 1024) :
    Real.exp (Z Q k C (row n r) (row j t))
      = Real.exp (C (row n r)) * (2 : ℝ) ^ X (fun r d => Q (row n r) d) k (fun i t => C (row i.val t)) r j t := by
  have hl : Real.log 2 ≠ 0 := (Real.log_pos (by norm_num)).ne'
  rw [Real.rpow_def_of_pos (by norm_num), ← Real.exp_add]
  refine congrArg _ ?_
  have e : X (fun r d => Q (row n r) d) k (fun i t => C (row i.val t)) r j t
      = (∑ d : Fin 128, Q (row n r) d * k (row j t) d) * qs - C (row j t) * l2e := by
    unfold X
    rw [Finset.sum_mul]
    refine congrArg₂ (· - ·) (Finset.sum_congr rfl fun d _ => ?_) ?_
    · show Q (row n r) d * qs * k (row j t) d = _
      ring
    · show C (row (j % 4) t) * l2e = _
      rw [Nat.mod_eq_of_lt hj]
  rw [e]
  unfold Z qs l2e
  field_simp
  ring

/-- The sums over all keys, tile by tile. -/
theorem sum_tiles (Q k : Fin 4096 → Fin 128 → ℝ) (C : Fin 4096 → ℝ) (u : Fin 4096 → ℝ) (n : ℕ) (hn : n < 4) (r : Fin 1024) :
    ∑ s : Fin 4096, weightE (s.val ≤ (row n r).val) (Z Q k C (row n r) s) * u s
      = Real.exp (C (row n r))
        * (∑ j ∈ Finset.range n, ∑ t : Fin 1024, weight True (X (fun r d => Q (row n r) d) k (fun i t => C (row i.val t)) r j t) * u (row j t)
          + ∑ t : Fin 1024, weight (t.val ≤ r.val) (X (fun r d => Q (row n r) d) k (fun i t => C (row i.val t)) r n t) * u (row n t)) := by
  have hrow : ∀ j : ℕ, j < 4 → ∀ t : Fin 1024, (row j t).val = 1024 * j + t.val := fun j hj t => Nat.mod_eq_of_lt (by omega)
  have tiles : ∑ s : Fin 4096, weightE (s.val ≤ (row n r).val) (Z Q k C (row n r) s) * u s
      = ∑ j ∈ Finset.range 4, ∑ t : Fin 1024, weightE ((row j t).val ≤ (row n r).val) (Z Q k C (row n r) (row j t)) * u (row j t) := by
    rw [Finset.sum_range]
    refine (Fin.sum_univ_tiles 4 1024 rfl fun s => weightE (s.val ≤ (row n r).val) (Z Q k C (row n r) s) * u s).trans ?_
    refine Finset.sum_congr rfl fun j _ => Finset.sum_congr rfl fun t _ => ?_
    have e : (⟨j.val * 1024 + t.val, by omega⟩ : Fin 4096) = row j.val t := Fin.ext (by rw [hrow j.val j.isLt t]; ring)
    exact congrArg (fun s : Fin 4096 => weightE (s.val ≤ (row n r).val) (Z Q k C (row n r) s) * u s) e
  rw [tiles, mul_add, Finset.mul_sum]
  refine four_tiles n hn _ _ _ (fun j hj => ?_) ?_ fun j hj hj4 => ?_
  · rw [Finset.mul_sum]
    refine Finset.sum_congr rfl fun t _ => ?_
    unfold weightE weight
    rw [if_pos (by rw [hrow j (by omega), hrow n hn]; omega), if_pos trivial, exp_Z Q k C n r j (by omega) t, mul_assoc]
  · rw [Finset.mul_sum]
    refine Finset.sum_congr rfl fun t _ => ?_
    unfold weightE weight
    by_cases h : t.val ≤ r.val
    · rw [if_pos (by rw [hrow n hn, hrow n hn]; omega), if_pos h, exp_Z Q k C n r n hn t, mul_assoc]
    · rw [if_neg (by rw [hrow n hn, hrow n hn]; omega), if_neg h, zero_mul, mul_zero]
  · refine Finset.sum_eq_zero fun t _ => ?_
    unfold weightE
    rw [if_neg (by rw [hrow j hj4, hrow n hn]; omega), zero_mul]

/-- The mean the kernel stores is the mean over all keys up to the query. -/
theorem mean_eq (Q k v : Fin 4096 → Fin 128 → ℝ) (C : Fin 4096 → ℝ) (n : ℕ) (hn : n < 4) (r : Fin 1024) (d : Fin 128) :
    Aall (fun r d => Q (row n r) d) k v (fun i t => C (row i.val t)) r d n / Wall (fun r d => Q (row n r) d) k (fun i t => C (row i.val t)) r n
      = (∑ s : Fin 4096, weightE (s.val ≤ (row n r).val) (Z Q k C (row n r) s) * v s d)
        / ∑ s : Fin 4096, weightE (s.val ≤ (row n r).val) (Z Q k C (row n r) s) := by
  have h1 := sum_tiles Q k C (fun s => v s d) n hn r
  have h2 := sum_tiles Q k C (fun _ => 1) n hn r
  simp only [mul_one] at h2
  rw [h1, h2, mul_div_mul_left _ _ (Real.exp_pos _).ne']
  rfl

end Cert.KernelIdeal.Flash

end
-- ==== Proof.FlashArray.lean ====
/-
  What the attention kernel's result array holds: the weighted means, from the argument arrays.
-/
module

public import proofs.«01_k».proof.Proof.FlashMean
public import Idealize.ShloMosaic.Lib.Pipeline.ValueKit

@[expose] public section

set_option maxRecDepth 16384

noncomputable section

open Idealize.ShloMosaic Idealize.ShloMosaic.TcCoe Idealize.SL.Sem

namespace Cert.KernelIdeal.Flash

open Cert.KernelIdeal Cert.KernelIdeal.Gen Cert.KernelIdeal.Value Cert.Softmax

variable (m : (ℓ : Loc nD τ sig) → Buf (Elt Ideal) ℓ)

/-- The projected row the kernel reads. -/
abbrev arg0 (c : Dev nD) : S2x4096x15360.Idx → EReal := m ((c : Thread nD τ).loc main_arg0)
/-- The cumulated gate logarithms. -/
abbrev arg1 (c : Dev nD) : S2x8x4096.Idx → EReal := m ((c : Thread nD τ).loc main_arg1)

theorem idx : ∀ t : Fin cfg0.N,
    win0_0.index t = ![t.val / 32, t.val % 4, 40 + t.val / 4 % 8] ∧ win0_1.index t = ![t.val / 32, 0, 48 + t.val / 4 % 8]
      ∧ win0_2.index t = ![t.val / 32, 0, 56 + t.val / 4 % 8] ∧ win0_3.index t = ![t.val / 32, t.val / 4 % 8, 0, 0, 0]
      ∧ win0_4.index t = ![t.val / 32, t.val % 4, t.val / 4 % 8] ∧ (grid0.coords t 2).val = t.val % 4 :=
  (by decide +kernel : ∀ t : Fin grid0.N, _)

theorem pt_lt (t : Fin cfg0.N) : t.val < 64 := lt_of_lt_of_eq t.isLt N_0

/-- Column `d` of head `h` of the columns starting at `o`. -/
def col (o : ℕ) (ho : o ≤ 14336) (h : Fin 8) (d : Fin 128) : Fin 15360 := ⟨o + 128 * h.val + d.val, by omega⟩

/-- The batch row of a grid point. -/
def bOf (t : Fin cfg0.N) : Fin 2 := ⟨t.val / 32, by have := pt_lt t; omega⟩
/-- The head of a grid point. -/
def hOf (t : Fin cfg0.N) : Fin 8 := ⟨t.val / 4 % 8, by omega⟩

theorem rd0 (c : Dev nD) (t : Fin cfg0.N) (r : Fin 1024) (d : Fin 128) :
    iblk m c 0 t (ix3 (0 : Fin 1) r d) = arg0 m c (ix3 (bOf t) (row (t.val % 4) r) (col 5120 (by decide) (hOf t) d)) := by
  have := pt_lt t
  unfold arg0 bOf hOf col row
  blk_ext [iblk, V, idx t]

theorem rd1 (c : Dev nD) (t : Fin cfg0.N) (s : Fin 4096) (d : Fin 128) :
    iblk m c 1 t (ix3 (0 : Fin 1) s d) = arg0 m c (ix3 (bOf t) s (col 6144 (by decide) (hOf t) d)) := by
  have := pt_lt t
  unfold arg0 bOf hOf col
  blk_ext [iblk, V, idx t]

theorem rd2 (c : Dev nD) (t : Fin cfg0.N) (s : Fin 4096) (d : Fin 128) :
    iblk m c 2 t (ix3 (0 : Fin 1) s d) = arg0 m c (ix3 (bOf t) s (col 7168 (by decide) (hOf t) d)) := by
  have := pt_lt t
  unfold arg0 bOf hOf col
  blk_ext [iblk, V, idx t]

theorem rd3 (c : Dev nD) (t : Fin cfg0.N) (j : Fin 4) (l : Fin 1024) :
    iblk m c 3 t (ix5 (0 : Fin 1) (0 : Fin 1) j (0 : Fin 1) l) = arg1 m c (ix3 (bOf t) (hOf t) (row j.val l)) := by
  have := pt_lt t
  unfold arg1 bOf hOf row
  blk_point [iblk, V, idx t]

theorem pay2_at (x : Vec Ideal S1x4096x128 .f32) (s : Fin 4096) (d : Fin 128) : k0_pay2 (F := Ideal) x (ix2 s d) = x (ix3 0 s d) := by
  pointwise [k0_pay2]
theorem pay3_at (x : Vec Ideal S1x4096x128 .f32) (s : Fin 4096) (d : Fin 128) : k0_pay3 (F := Ideal) x (ix2 s d) = x (ix3 0 s d) := by
  pointwise [k0_pay3]

/-- The two scratch arrays hold the keys and the values of the point's head. -/
theorem scratch (c : Dev nD) : ∀ (n : ℕ) (hn : n < cfg0.N) (s : Fin 4096) (d : Fin 128),
    (outsAt0 m c n hn).2.1 (ix2 s d) = arg0 m c (ix3 (bOf ⟨n, hn⟩) s (col 6144 (by decide) (hOf ⟨n, hn⟩) d))
      ∧ (outsAt0 m c n hn).2.2 (ix2 s d) = arg0 m c (ix3 (bOf ⟨n, hn⟩) s (col 7168 (by decide) (hOf ⟨n, hn⟩) d))
  | n, hn, s, d => by
    by_cases h0 : n % 4 = 0
    · rw [outsAt0_A m c ⟨n, hn⟩ h0]
      dsimp only
      rw [sout_A_0, sout_A_1]
      exact ⟨(pay2_at _ s d).trans (rd1 m c ⟨n, hn⟩ s d), (pay3_at _ s d).trans (rd2 m c ⟨n, hn⟩ s d)⟩
    · match n, hn, h0 with
      | n + 1, hn, h0 =>
        rw [outsAt0_B m c ⟨n + 1, hn⟩ h0]
        dsimp only
        rw [sout_B_0, sout_B_1]
        have ih := scratch c n (Nat.lt_of_succ_lt hn) s d
        have eb : bOf ⟨n, Nat.lt_of_succ_lt hn⟩ = bOf ⟨n + 1, hn⟩ := Fin.ext (show n / 32 = (n + 1) / 32 by omega)
        have eh : hOf ⟨n, Nat.lt_of_succ_lt hn⟩ = hOf ⟨n + 1, hn⟩ := Fin.ext (show n / 4 % 8 = (n + 1) / 4 % 8 by omega)
        rw [eb, eh] at ih
        exact ih

/-- What point `t` leaves in the output block. -/
theorem block_eq (c : Dev nD) (t : Fin cfg0.N) :
    ∃ kb vb : Vec Ideal S4096x128 .bf16, (outsAt0 m c t.val t.isLt).1 = blockOut (iblk m c 0 t) kb vb (iblk m c 3 t) (t.val % 4)
      ∧ (∀ (s : Fin 4096) (d : Fin 128), kb (ix2 s d) = arg0 m c (ix3 (bOf t) s (col 6144 (by decide) (hOf t) d)))
      ∧ (∀ (s : Fin 4096) (d : Fin 128), vb (ix2 s d) = arg0 m c (ix3 (bOf t) s (col 7168 (by decide) (hOf t) d))) := by
  have hq : (grid0.coords t 2).val = t.val % 4 := (idx t).2.2.2.2.2
  by_cases h0 : t.val % 4 = 0
  · refine ⟨k0_pay2 (iblk m c 1 t), k0_pay3 (iblk m c 2 t), ?_, fun s d => (pay2_at _ s d).trans (rd1 m c t s d), fun s d => (pay3_at _ s d).trans (rd2 m c t s d)⟩
    rw [outsAt0_A m c t h0]
    dsimp only
    rw [out_A, hq]
  · have hlt : t.val - 1 < cfg0.N := Nat.lt_of_le_of_lt (Nat.sub_le _ _) t.isLt
    have eb : bOf ⟨t.val - 1, hlt⟩ = bOf t := Fin.ext (show (t.val - 1) / 32 = t.val / 32 by omega)
    have eh : hOf ⟨t.val - 1, hlt⟩ = hOf t := Fin.ext (show (t.val - 1) / 4 % 8 = t.val / 4 % 8 by omega)
    refine ⟨(outsAt0 m c (t.val - 1) hlt).2.1, (outsAt0 m c (t.val - 1) hlt).2.2, ?_, fun s d => ?_, fun s d => ?_⟩
    · rw [outsAt0_B m c t h0]
      dsimp only
      rw [out_B, hq]
    · rw [(scratch m c (t.val - 1) hlt s d).1, eb, eh]
    · rw [(scratch m c (t.val - 1) hlt s d).2, eb, eh]

/-- The weighted mean at an index of the result, from real arrays. -/
def mean (Zr : S2x4096x15360.Idx → ℝ) (Cr : S2x8x4096.Idx → ℝ) (b : Fin 2) (h : Fin 8) (t : Fin 4096) (d : Fin 128) : ℝ :=
  (∑ s : Fin 4096, weightE (s.val ≤ t.val)
      (Z (fun t d => Zr (ix3 b t (col 5120 (by decide) h d))) (fun s d => Zr (ix3 b s (col 6144 (by decide) h d))) (fun s => Cr (ix3 b h s)) t s)
      * Zr (ix3 b s (col 7168 (by decide) h d)))
    / ∑ s : Fin 4096, weightE (s.val ≤ t.val)
      (Z (fun t d => Zr (ix3 b t (col 5120 (by decide) h d))) (fun s d => Zr (ix3 b s (col 6144 (by decide) h d))) (fun s => Cr (ix3 b h s)) t s)

/-- The result array. -/
def meanArr (Zr : S2x4096x15360.Idx → ℝ) (Cr : S2x8x4096.Idx → ℝ) : S2x4096x1024.Idx → EReal := fun i =>
  (mean Zr Cr (i 0) ⟨(i 2).val / 128, by have : (i 2).val < 1024 := (i 2).isLt; omega⟩ (i 1) ⟨(i 2).val % 128, Nat.mod_lt _ (by decide)⟩ : EReal)

theorem point (c : Dev nD) (Zr : S2x4096x15360.Idx → ℝ) (Cr : S2x8x4096.Idx → ℝ)
    (hZ : ∀ i, arg0 m c i = (Zr i : EReal)) (hC : ∀ i, arg1 m c i = (Cr i : EReal)) (t : Fin cfg0.N) (z : Fin 1) (r : Fin 1024) (d : Fin 128) :
    (outsAt0 m c t.val t.isLt).1 (ix3 z r d) = (mean Zr Cr (bOf t) (hOf t) (row (t.val % 4) r) d : EReal) := by
  obtain ⟨kb, vb, e, hk, hv⟩ := block_eq m c t
  rw [e, blockOut_at (q := fun r d => Zr (ix3 (bOf t) (row (t.val % 4) r) (col 5120 (by decide) (hOf t) d)))
    (k := fun s d => Zr (ix3 (bOf t) s (col 6144 (by decide) (hOf t) d))) (v := fun s d => Zr (ix3 (bOf t) s (col 7168 (by decide) (hOf t) d)))
    (c := fun j l => Cr (ix3 (bOf t) (hOf t) (row j.val l)))
    (fun r d => (rd0 m c t r d).trans (hZ _)) (fun s d => (hk s d).trans (hZ _)) (fun s d => (hv s d).trans (hZ _))
    (fun j l => (rd3 m c t j l).trans (hC _))]
  exact congrArg _ (mean_eq (fun t' d => Zr (ix3 (bOf t) t' (col 5120 (by decide) (hOf t) d))) (fun s d => Zr (ix3 (bOf t) s (col 6144 (by decide) (hOf t) d)))
    (fun s d => Zr (ix3 (bOf t) s (col 7168 (by decide) (hOf t) d))) (fun s => Cr (ix3 (bOf t) (hOf t) s)) (t.val % 4) (Nat.mod_lt _ (by decide)) r d)

theorem final (c : Dev nD) (Zr : S2x4096x15360.Idx → ℝ) (Cr : S2x8x4096.Idx → ℝ)
    (hZ : ∀ i, arg0 m c i = (Zr i : EReal)) (hC : ∀ i, arg1 m c i = (Cr i : EReal)) :
    (dats m 0 c).arrAt 4 (cfgs 0).N = meanArr Zr Cr := by
  refine (dats m 0 c).arrAt_eq_of_covers 4 _ (by decide +kernel) fun t _ y => ?_
  blk_simp
  rw [after0_4]
  idx_vars y
  have := pt_lt t
  refine (point m c Zr Cr hZ hC t y0 y1 y2).trans ?_
  unfold meanArr
  refine congrArg _ ?_
  have h0 := (idx t).2.2.2.2.1
  congr 1
  all_goals (apply Fin.ext; simp only [bOf, hOf, row]; blk_simp [idx t])
  all_goals omega

end Cert.KernelIdeal.Flash

end
-- ==== Proof.FlashRef.lean ====
/-
  The attention reference read at an index: the plain softmax-weighted mean.
-/
module

public import proofs.«01_k».proof.Proof.OnlineSoftmax
public import proofs.«01_k».proof.Proof.Gen.ReferenceIdeal.Run
public import Idealize.ShloMosaic.Lib.WordCmp

@[expose] public section

set_option maxRecDepth 16384

noncomputable section

open Idealize.ShloMosaic Idealize.ShloMosaic.TcCoe Idealize.SL.Sem

namespace Cert.ReferenceIdeal.Flash

open Cert.ReferenceIdeal Cert.ReferenceIdeal.Gen Cert.ReferenceIdeal.Value Cert.Softmax

variable (m : (ℓ : Loc nD τ sig) → Buf (Elt Ideal) ℓ)

/-- The masked scores. -/
def SC (X : FVec Ideal S2x4096x15360 .f32) (C : FVec Ideal S2x8x4096 .f32) : FVec Ideal S2x8x4096x4096 .f32 :=
  select (broadcastInDim S2x8x4096x4096 ![2, 3] bcast_S4096x4096_S2x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (subf (addf (Host.divf (Host.dotGeneral dot_S2x4096x8x128_S2x4096x8x128_S2x8x4096x4096_3_3_1_1_02_02 none (shapeCast _ (extractStridedSlice S2x4096x1024 ![0, 0, 5120] X slices_S2x4096x15360_S2x4096x1024_0_0_5120) shapeCasts_S2x4096x1024_S2x4096x8x128) (shapeCast _ (extractStridedSlice S2x4096x1024 ![0, 0, 6144] X slices_S2x4096x15360_S2x4096x1024_0_0_6144) shapeCasts_S2x4096x1024_S2x4096x8x128)) (broadcastInDim S2x8x4096x4096 ![] bcast_S_S2x8x4096x4096 (Host.sqrt (constant S_ .f32 0x43000000#32)))) (broadcastInDim S2x8x4096x4096 ![0, 1, 2, 3] bcast_S2x8x4096x1_S2x8x4096x4096_0_1_2_3 (broadcastInDim S2x8x4096x1 ![0, 1, 2] bcast_S2x8x4096_S2x8x4096x1_0_1_2 C))) (broadcastInDim S2x8x4096x4096 ![0, 1, 2, 3] bcast_S2x8x1x4096_S2x8x4096x4096_0_1_2_3 (broadcastInDim S2x8x1x4096 ![0, 1, 3] bcast_S2x8x4096_S2x8x1x4096_0_1_3 C))) (broadcastInDim S2x8x4096x4096 ![] bcast_S_S2x8x4096x4096 (id (constant S_ .f32 0xFF800000#32)))

/-- The row maxima. -/
def MX (S : FVec Ideal S2x8x4096x4096 .f32) : FVec Ideal S2x8x4096 .f32 :=
  maximumf (broadcastInDim S2x8x4096 ![] bcast_S_S2x8x4096 (constant S_ .f32 0xFF800000#32)) (Host.reduce FloatOps.maximumf S (constant S_ .f32 0xFF800000#32) reducesTo_S2x8x4096x4096_S2x8x4096_d3 h_S_)

/-- The exponentials over the row maxima. -/
def EX (S : FVec Ideal S2x8x4096x4096 .f32) (M : FVec Ideal S2x8x4096 .f32) : FVec Ideal S2x8x4096x4096 .f32 :=
  Host.exp (subf S (broadcastInDim S2x8x4096x4096 ![0, 1, 2, 3] bcast_S2x8x4096x1_S2x8x4096x4096_0_1_2_3 (broadcastInDim S2x8x4096x1 ![0, 1, 2] bcast_S2x8x4096_S2x8x4096x1_0_1_2 M)))

/-- The row sums. -/
def DN (E : FVec Ideal S2x8x4096x4096 .f32) : FVec Ideal S2x8x4096 .f32 :=
  Host.reduceAdd E (constant S_ .f32 0x00000000#32) reducesTo_S2x8x4096x4096_S2x8x4096_d3 h_S_

/-- The weighted values. -/
def OUT (X : FVec Ideal S2x4096x15360 .f32) (E : FVec Ideal S2x8x4096x4096 .f32) (D : FVec Ideal S2x8x4096 .f32) : FVec Ideal S2x4096x1024 .bf16 :=
  truncf .bf16 (shapeCast _ (transpose S2x4096x8x128 [0, 3, 1, 2] (Host.dotGeneral dot_S2x4096x8x128_S2x8x4096x4096_S2x8x128x4096_1_3_3_2_02_01 none (shapeCast _ (extractStridedSlice S2x4096x1024 ![0, 0, 7168] X slices_S2x4096x15360_S2x4096x1024_0_0_7168) shapeCasts_S2x4096x1024_S2x4096x8x128) (Host.divf E (broadcastInDim S2x8x4096x4096 ![0, 1, 2, 3] bcast_S2x8x4096x1_S2x8x4096x4096_0_1_2_3 (broadcastInDim S2x8x4096x1 ![0, 1, 2] bcast_S2x8x4096_S2x8x4096x1_0_1_2 D)))) transposes_S2x8x128x4096_S2x4096x8x128_0_3_1_2) shapeCasts_S2x4096x8x128_S2x4096x1024) bitsLt_bf16_f32

/-- The reference's result, in stages. -/
theorem stages (c : Dev nD) : res_out0 m c
    = OUT (m ((c.tc : Thread nD τ).loc main_arg0))
        (EX (SC (m ((c.tc : Thread nD τ).loc main_arg0)) (m ((c.tc : Thread nD τ).loc main_arg1)))
          (MX (SC (m ((c.tc : Thread nD τ).loc main_arg0)) (m ((c.tc : Thread nD τ).loc main_arg1)))))
        (DN (EX (SC (m ((c.tc : Thread nD τ).loc main_arg0)) (m ((c.tc : Thread nD τ).loc main_arg1)))
          (MX (SC (m ((c.tc : Thread nD τ).loc main_arg0)) (m ((c.tc : Thread nD τ).loc main_arg1)))))) := by
  unfold res_out0 res_main_v37 OUT EX MX DN SC
  rfl

theorem neg_inf : Ideal.ofBits .f32 0xFF800000#32 = ⊥ := by simp [Ideal.ofBits, Ideal.ieee]
theorem sqrt_128 : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee, -EReal.coe_mul]
    norm_num
  rw [h, Ideal.sqrt_coe, if_neg (by norm_num)]

theorem out_at (X : FVec Ideal S2x4096x15360 .f32) (E : FVec Ideal S2x8x4096x4096 .f32) (D : FVec Ideal S2x8x4096 .f32) (b : Fin 2) (t : Fin 4096) (x : Fin 1024) :
    OUT X E D (ix3 b t x) = ∑ s : Fin 4096, X (ix3 b s (⟨7168 + x.val, by omega⟩ : Fin 15360))
      * Ideal.div (E (ix4 b (⟨x.val / 128, by omega⟩ : Fin 8) t s)) (D (ix3 b (⟨x.val / 128, by omega⟩ : Fin 8) t)) := by
  pointwise [OUT]

theorem ex_at (S : FVec Ideal S2x8x4096x4096 .f32) (M : FVec Ideal S2x8x4096 .f32) (b : Fin 2) (h : Fin 8) (t s : Fin 4096) :
    EX S M (ix4 b h t s) = Ideal.exp (S (ix4 b h t s) - M (ix3 b h t)) := by
  pointwise [EX]

/-- A maximum over the last of four axes, at sizes left open. -/
theorem max_last {n0 n1 n2 n3 : ℕ} {u : Shape} (v : FVec Ideal (⟨4, ![n0, n1, n2, n3]⟩ : Shape) .f32) (init : FVec Ideal u .f32)
    (h : (⟨4, ![n0, n1, n2, n3]⟩ : Shape).ReducesTo [3] (⟨3, ![n0, n1, n2]⟩ : Shape)) (hu : 0 < u.numel) (a : Fin n0) (b : Fin n1) (c : Fin n2) :
    Host.reduce FloatOps.maximumf v init h hu (ix3 a b c)
      = Finset.univ.fold max (show EReal from init (Shape.Idx.first hu)) fun k : Fin n3 => (show EReal from v (ix4 a b c k)) := by
  rw [Host.reduce_eq_fold, h.fold_fiber_r4_a3]
  rfl

/-- A maximum with minus infinity, at an index. -/
theorem max_const (R : FVec Ideal S2x8x4096 .f32) (j : S2x8x4096.Idx) :
    maximumf (broadcastInDim S2x8x4096 ![] bcast_S_S2x8x4096 (constant S_ .f32 0xFF800000#32)) R j = max (⊥ : EReal) (R j) := by
  pointwise [neg_inf]

theorem mx_at (S : FVec Ideal S2x8x4096x4096 .f32) (b : Fin 2) (h : Fin 8) (t : Fin 4096) :
    MX S (ix3 b h t) = Finset.univ.fold max (⊥ : EReal) fun s : Fin 4096 => S (ix4 b h t s) := by
  unfold MX
  rw [max_const, max_last]
  rw [max_eq_right bot_le]
  exact congrArg (fun z => Finset.univ.fold max z fun s : Fin 4096 => S (ix4 b h t s)) neg_inf

theorem dn_at (E : FVec Ideal S2x8x4096x4096 .f32) (b : Fin 2) (h : Fin 8) (t : Fin 4096) :
    DN E (ix3 b h t) = ∑ s : Fin 4096, E (ix4 b h t s) := by
  pointwise [DN]

theorem sc_at (X : FVec Ideal S2x4096x15360 .f32) (C : FVec Ideal S2x8x4096 .f32) (b : Fin 2) (h : Fin 8) (t s : Fin 4096) :
    SC X C (ix4 b h t s) = if s.val ≤ t.val then
      Ideal.div (∑ d : Fin 128, X (ix3 b t (⟨5120 + (h.val * 128 + d.val), by omega⟩ : Fin 15360)) * X (ix3 b s (⟨6144 + (h.val * 128 + d.val), by omega⟩ : Fin 15360))) (Real.sqrt 128 : EReal)
        + C (ix3 b h t) - C (ix3 b h s)
      else ⊥ := by
  pointwise [SC, sqrt_128]
  have hst : ∀ x y : EReal, Scalar.select (IntOp.cmpi .sle (BitVec.ofNat 32 s.val) (BitVec.ofNat 32 t.val)) x y = if s.val ≤ t.val then x else y := fun x y => by word_cmp
  rw [hst]
  exact congrArg (fun z : EReal => if s.val ≤ t.val then _ else z) neg_inf

theorem id_const : id (constant (F := Ideal) S_ .f32 0xFF800000#32) ix0 = ⊥ := neg_inf

/-- The reference's result at an index, from real arrays: the weighted mean of the values. -/
theorem ref_at (c : Dev nD) (Zr : S2x4096x15360.Idx → ℝ) (Cr : S2x8x4096.Idx → ℝ)
    (hZ : ∀ i, m ((c.tc : Thread nD τ).loc main_arg0) i = (Zr i : EReal)) (hC : ∀ i, m ((c.tc : Thread nD τ).loc main_arg1) i = (Cr i : EReal))
    (b : Fin 2) (t : Fin 4096) (x : Fin 1024) (x' : Fin 4096 → ℝ)
    (hx' : ∀ s : Fin 4096, x' s = (∑ d : Fin 128, Zr (ix3 b t (⟨5120 + (x.val / 128 * 128 + d.val), by omega⟩ : Fin 15360)) * Zr (ix3 b s (⟨6144 + (x.val / 128 * 128 + d.val), by omega⟩ : Fin 15360)))
      * (1 / Real.sqrt 128) + Cr (ix3 b (⟨x.val / 128, by omega⟩ : Fin 8) t) - Cr (ix3 b (⟨x.val / 128, by omega⟩ : Fin 8) s)) :
    res_out0 m c (ix3 b t x)
      = (((∑ s : Fin 4096, weightE (s.val ≤ t.val) (x' s) * Zr (ix3 b s (⟨7168 + x.val, by omega⟩ : Fin 15360)))
        / (∑ s : Fin 4096, weightE (s.val ≤ t.val) (x' s)) : ℝ) : EReal) := by
  rw [stages, out_at, dn_at]
  have h128 : Real.sqrt 128 ≠ 0 := (Real.sqrt_pos.2 (by norm_num)).ne'
  have hs : ∀ s : Fin 4096, SC (m ((c.tc : Thread nD τ).loc main_arg0)) (m ((c.tc : Thread nD τ).loc main_arg1)) (ix4 b (⟨x.val / 128, by omega⟩ : Fin 8) t s)
      = score (s.val ≤ t.val) (x' s) := fun s => by
    rw [sc_at]
    unfold score
    refine congrArg (fun z : EReal => if s.val ≤ t.val then z else ⊥) ?_
    rw [Ideal.div_coe h128, hx', EReal.coe_sub, EReal.coe_add, EReal.coe_mul, ← coe_sum]
    refine congrArg₂ (· - ·) (congrArg₂ (· + ·) (congrArg (· * _) (Finset.sum_congr rfl fun d _ => ?_)) (hC _)) (hC _)
    rw [EReal.coe_mul]
    exact congrArg₂ (· * ·) (hZ _) (hZ _)
  refine Eq.trans ?_ (plain (fun s : Fin 4096 => s.val ≤ t.val) x' (fun s => Zr (ix3 b s (⟨7168 + x.val, by omega⟩ : Fin 15360))) ⟨t, le_rfl⟩ _ hs _ _
    (mx_at (SC (m ((c.tc : Thread nD τ).loc main_arg0)) (m ((c.tc : Thread nD τ).loc main_arg1))) b ⟨x.val / 128, by omega⟩ t) rfl)
  refine Finset.sum_congr (M := EReal) rfl fun s _ => congrArg₂ (· * ·) (hZ _) (congrArg₂ Ideal.div (ex_at _ _ _ _ _ _) (Finset.sum_congr rfl fun s _ => ex_at _ _ _ _ _ _))

end Cert.ReferenceIdeal.Flash

end
-- ==== Proof.FlashClaim.lean ====
/-
  The attention call: the kernel's array and the reference's are the same array, and finite arguments are real ones.
-/
module

public import proofs.«01_k».proof.Proof.FlashArray
public import proofs.«01_k».proof.Proof.FlashRef
public import proofs.«01_k».proof.Proof.Gen.Pre_finite
public import Idealize.ShloMosaic.Lib.ReduceAll

@[expose] public section

set_option maxRecDepth 16384

noncomputable section

open Idealize.ShloMosaic Idealize.ShloMosaic.TcCoe Idealize.SL.Sem

namespace Cert.Flash

open Cert.Softmax Cert.KernelIdeal.Flash

/-- The reference's array is the softmax-weighted mean at every index. -/
theorem ref_final (m : (ℓ : Loc ReferenceIdeal.nD ReferenceIdeal.τ ReferenceIdeal.sig) → Buf (Elt Ideal) ℓ) (c : Dev ReferenceIdeal.nD)
    (Zr : KernelIdeal.S2x4096x15360.Idx → ℝ) (Cr : KernelIdeal.S2x8x4096.Idx → ℝ)
    (hZ : ∀ i, m ((c.tc : Thread ReferenceIdeal.nD ReferenceIdeal.τ).loc ReferenceIdeal.main_arg0) i = (Zr i : EReal))
    (hC : ∀ i, m ((c.tc : Thread ReferenceIdeal.nD ReferenceIdeal.τ).loc ReferenceIdeal.main_arg1) i = (Cr i : EReal)) :
    ReferenceIdeal.Value.res_out0 m c = meanArr Zr Cr := by
  funext i
  idx_vars i
  have e1 : ∀ o ho, col o ho (⟨i2.val / 128, by omega⟩ : Fin 8) (⟨i2.val % 128, Nat.mod_lt _ (by decide)⟩ : Fin 128) = (⟨o + i2.val, by omega⟩ : Fin 15360) := by
    intro o ho
    apply Fin.ext
    simp only [col]
    omega
  have e2 : ∀ o ho (d : Fin 128), col o ho (⟨i2.val / 128, by omega⟩ : Fin 8) d = (⟨o + (i2.val / 128 * 128 + d.val), by omega⟩ : Fin 15360) := by
    intro o ho d
    apply Fin.ext
    simp only [col]
    omega
  refine (ReferenceIdeal.Flash.ref_at m c Zr Cr hZ hC i0 i1 i2 (fun s => Z (fun t d => Zr (ix3 i0 t (col 5120 (by decide) ⟨i2.val / 128, by omega⟩ d)))
    (fun s d => Zr (ix3 i0 s (col 6144 (by decide) ⟨i2.val / 128, by omega⟩ d))) (fun s => Cr (ix3 i0 ⟨i2.val / 128, by omega⟩ s)) i1 s) ?_).trans ?_
  · intro s
    simp only [Z, e2]
  · show _ = ((mean Zr Cr i0 ⟨i2.val / 128, _⟩ i1 ⟨i2.val % 128, _⟩ : ℝ) : EReal)
    unfold mean
    simp only [e1]

theorem real_of_abs_lt (x : Ideal .f32) (h : FloatOps.cmpf .olt (FloatOps.hostAbsf x) (FloatOps.ofBits (F := Ideal) .f32 0x7F800000#32) = 1#1) :
    (x : EReal) = ((EReal.toReal x : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hl : max (x : EReal) (-(x : EReal)) < ⊤ := by
    by_contra hn
    simp [hn] at h'
  rw [max_lt_iff] at hl
  refine (EReal.coe_toReal hl.1.ne fun hb => ?_).symm
  rw [hb] at hl
  exact absurd hl.2 (by simp)

instance : Subsingleton Pre_finite.S_.Idx := ⟨fun a b => funext fun k => k.elim0⟩

/-- A finite argument is a real one, element by element. -/
theorem finite_real (a0 : FVec Ideal Pre_finite.S2x4096x15360 .f32) (a1 : FVec Ideal Pre_finite.S2x8x4096 .f32)
    [Pre_finite.Facts] (h : Pre_finite.fn (F := Ideal) a0 a1 = fun _ => 1#1) :
    (∀ i, (a0 i : EReal) = ((EReal.toReal (a0 i) : ℝ) : EReal)) ∧ ∀ i, (a1 i : EReal) = ((EReal.toReal (a1 i) : ℝ) : EReal) := by
  have h0 := congrFun h (fun k => k.elim0)
  unfold Pre_finite.fn at h0
  obtain ⟨ha, hb⟩ := IntOp.andi_eq_one.1 h0
  exact ⟨fun i => real_of_abs_lt _ (Host.reduce_andi_all _ _ _ _ _ ha i), fun i => real_of_abs_lt _ (Host.reduce_andi_all _ _ _ _ _ hb i)⟩

end Cert.Flash

end
-- ==== Proof.Rms.lean ====
/-
  The layer's row normalisation over the extended reals: `v / sqrt (mean v² + ε)` times the gain.
-/
module

public import Idealize.ShloMosaic.Lib.Pointwise

@[expose] public section

noncomputable section

open Idealize.ShloMosaic

namespace Cert.Layer

/-- Entry `j` of the normalised row `v`, at gain `g`; 2048 and ε are the printed constants. -/
def rms (v : Fin 2048 → EReal) (g : EReal) (j : Fin 2048) : EReal :=
  v j * Ideal.rsqrt (Ideal.div (∑ k : Fin 2048, v k * v k) (Ideal.ofBits .f32 0x45000000#32) + Ideal.ofBits .f32 0x358637BD#32) * g

end Cert.Layer

end
-- ==== Proof.MlpCases.lean ====
/-
  What the feed-forward kernel holds after a grid point, over what it held after the point before.
-/
module

public import proofs.«01_k».proof.Proof.Gen.MlpIdeal.Value
public import Idealize.ShloMosaic.Lib.Pipeline.ValueKit

@[expose] public section

set_option maxRecDepth 16384

noncomputable section

open Idealize.ShloMosaic Idealize.ShloMosaic.TcCoe Idealize.SL.Sem

namespace Cert.MlpIdeal.Layer

open Cert.MlpIdeal Cert.MlpIdeal.Gen

variable (m : (ℓ : Loc nD τ sig) → Buf (Elt Ideal) ℓ)

theorem h_A (c : Dev nD) (t : Fin cfg0.N) (h0 : t.val % 16 = 0) :
    (outsAt0 m c t.val t.isLt).2 = k0_pay1 (iblk m c 0 t) (iblk m c 1 t) := by
  rw [outsAt0_A m c t h0 (by omega)]; frame_out

theorem o_A (c : Dev nD) (t : Fin cfg0.N) (h0 : t.val % 16 = 0) :
    (outsAt0 m c t.val t.isLt).1 = k0_pay3 (k0_pay1 (iblk m c 0 t) (iblk m c 1 t)) (iblk m c 2 t) (k0_pay2 (F := Ideal)) (iblk m c 3 t) := by
  rw [outsAt0_A m c t h0 (by omega)]; frame_out

theorem h_step (c : Dev nD) (t : Fin cfg0.N) (h0 : ¬t.val % 16 = 0) :
    (outsAt0 m c t.val t.isLt).2 = (outsAt0 m c (t.val - 1) (Nat.lt_of_le_of_lt (Nat.sub_le _ _) t.isLt)).2 := by
  by_cases h1 : t.val % 16 = 15
  · rw [outsAt0_C m c t h0 h1]; rfl
  · rw [outsAt0_B m c t h0 h1]; rfl

theorem o_B (c : Dev nD) (t : Fin cfg0.N) (h0 : ¬t.val % 16 = 0) (h1 : ¬t.val % 16 = 15) :
    (outsAt0 m c t.val t.isLt).1 = k0_pay3 (outsAt0 m c (t.val - 1) (Nat.lt_of_le_of_lt (Nat.sub_le _ _) t.isLt)).2 (iblk m c 2 t)
      (outsAt0 m c (t.val - 1) (Nat.lt_of_le_of_lt (Nat.sub_le _ _) t.isLt)).1 (iblk m c 3 t) := by
  rw [outsAt0_B m c t h0 h1]; frame_out
  exact congrArg (fun h => k0_pay3 (F := Ideal) h (iblk m c 2 t) (outsAt0 m c (t.val - 1) (Nat.lt_of_le_of_lt (Nat.sub_le _ _) t.isLt)).1 (iblk m c 3 t))
    ((Memref.isWhole_whole cc0_scratch0).read_unread _)

theorem o_C (c : Dev nD) (t : Fin cfg0.N) (h0 : ¬t.val % 16 = 0) (h1 : t.val % 16 = 15) :
    (outsAt0 m c t.val t.isLt).1 = k0_pay4 (iblk m c 0 t) (k0_pay3 (outsAt0 m c (t.val - 1) (Nat.lt_of_le_of_lt (Nat.sub_le _ _) t.isLt)).2 (iblk m c 2 t)
      (outsAt0 m c (t.val - 1) (Nat.lt_of_le_of_lt (Nat.sub_le _ _) t.isLt)).1 (iblk m c 3 t)) (iblk m c 4 t) := by
  rw [outsAt0_C m c t h0 h1]; frame_out
  exact congrArg (fun h => k0_pay4 (F := Ideal) (iblk m c 0 t) (k0_pay3 (F := Ideal) h (iblk m c 2 t)
    (outsAt0 m c (t.val - 1) (Nat.lt_of_le_of_lt (Nat.sub_le _ _) t.isLt)).1 (iblk m c 3 t)) (iblk m c 4 t))
    ((Memref.isWhole_whole cc0_scratch0).read_unread _)

end Cert.MlpIdeal.Layer

end
-- ==== Proof.MlpArray.lean ====
/-
  The feed-forward kernel: the array its grid leaves. The sixteen tiles of the hidden axis add up to the whole product.
-/
module

public import proofs.«01_k».proof.Proof.Rms
public import proofs.«01_k».proof.Proof.MlpCases

@[expose] public section

set_option maxRecDepth 16384

noncomputable section

open Idealize.ShloMosaic Idealize.ShloMosaic.TcCoe Idealize.SL.Sem

namespace Cert.MlpIdeal.Layer

open Cert.MlpIdeal Cert.MlpIdeal.Gen Cert.Layer

/-- The squared positive part. -/
def act (s : EReal) : EReal := max s 0 * max s 0

/-- The normalised row. -/
def hid (x : S8192x2048.Idx → EReal) (g : S2x2048.Idx → EReal) (i : Fin 8192) (k : Fin 2048) : EReal :=
  rms (fun j => x (ix2 i j)) (g (ix2 (0 : Fin 2) k)) k

/-- What hidden unit `l` adds to entry `j` of row `i`. -/
def unit (x : S8192x2048.Idx → EReal) (g : S2x2048.Idx → EReal) (wu : S2x2048x8192.Idx → EReal) (wd : S2x8192x2048.Idx → EReal)
    (i : Fin 8192) (j : Fin 2048) (l : Fin 8192) : EReal :=
  act (∑ k : Fin 2048, hid x g i k * wu (ix3 (0 : Fin 2) k l)) * wd (ix3 (0 : Fin 2) l j)

/-- The result: the residual plus the normalised output of the two products. -/
def out (x : S8192x2048.Idx → EReal) (g : S2x2048.Idx → EReal) (wu : S2x2048x8192.Idx → EReal) (wd : S2x8192x2048.Idx → EReal)
    (gp : S2x2048.Idx → EReal) : S8192x2048.Idx → EReal := fun i =>
  x i + rms (fun j => ∑ l : Fin 8192, unit x g wu wd (i 0) j l) (gp (ix2 (0 : Fin 2) (i 1 : Fin 2048))) (i 1)

theorem pay1_at (x : Vec Ideal S1024x2048 .f32) (g : Vec Ideal S1x1x2048 .f32) (r : Fin 1024) (k : Fin 2048) :
    k0_pay1 (F := Ideal) x g (ix2 r k) = rms (fun j => x (ix2 r j)) (g (ix3 (0 : Fin 1) (0 : Fin 1) k)) k := by
  pointwise [k0_pay1, rms]

theorem pay2_at (r : Fin 1024) (k : Fin 2048) : (k0_pay2 (F := Ideal) (ix2 r k) : EReal) = 0 := by
  pointwise [k0_pay2]

theorem pay3_at (h : Vec Ideal S1024x2048 .bf16) (wu : Vec Ideal S1x2048x512 .bf16) (o : Vec Ideal S1024x2048 .f32) (wd : Vec Ideal S1x512x2048 .bf16)
    (r : Fin 1024) (j : Fin 2048) :
    k0_pay3 (F := Ideal) h wu o wd (ix2 r j) = (show EReal from o (ix2 r j))
      + ∑ l : Fin 512, act (∑ k : Fin 2048, (show EReal from h (ix2 r k)) * (show EReal from wu (ix3 (0 : Fin 1) k l))) * (show EReal from wd (ix3 (0 : Fin 1) l j)) := by
  pointwise [k0_pay3, act]

theorem pay4_at (x o : Vec Ideal S1024x2048 .f32) (g : Vec Ideal S1x1x2048 .f32) (r : Fin 1024) (j : Fin 2048) :
    k0_pay4 (F := Ideal) x o g (ix2 r j) = (show EReal from x (ix2 r j)) + rms (fun j => o (ix2 r j)) (g (ix3 (0 : Fin 1) (0 : Fin 1) j)) j := by
  pointwise [k0_pay4, rms]

variable (m : (ℓ : Loc nD τ sig) → Buf (Elt Ideal) ℓ)

theorem idx : ∀ t : Fin cfg0.N, win0_0.index t = ![t.val / 16, 0] ∧ win0_1.index t = ![0, 0, 0] ∧ win0_2.index t = ![0, 0, t.val % 16]
      ∧ win0_3.index t = ![0, t.val % 16, 0] ∧ win0_4.index t = ![0, 0, 0] ∧ win0_5.index t = ![t.val / 16, 0] :=
  (by decide +kernel : ∀ t : Fin grid0.N, _)

theorem pt_lt (t : Fin cfg0.N) : t.val < 128 := lt_of_lt_of_eq t.isLt N_0

/-- Row `r` of block row `t / 16`. -/
def row (t : Fin cfg0.N) (r : Fin 1024) : Fin 8192 := ⟨t.val / 16 * 1024 + r.val, by have := pt_lt t; omega⟩

/-- Hidden unit `l` of tile `t % 16`. -/
def hcol (t : Fin cfg0.N) (l : Fin 512) : Fin 8192 := ⟨t.val % 16 * 512 + l.val, by omega⟩

theorem rd0 (c : Dev nD) (t : Fin cfg0.N) (r : Fin 1024) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k : Fin 2048) :
    iblk m c 1 t (ix3 (0 : Fin 1) (0 : Fin 1) k) = m ((c : Thread nD τ).loc main_arg1) (ix2 (0 : Fin 2) k) := by
  blk_point [iblk, V, idx t]

theorem rd2 (c : Dev nD) (t : Fin cfg0.N) (k : Fin 2048) (l : Fin 512) :
    iblk m c 2 t (ix3 (0 : Fin 1) k l) = m ((c : Thread nD τ).loc main_arg2) (ix3 (0 : Fin 2) k (hcol t l)) := by
  unfold hcol
  blk_point [iblk, V, idx t]

theorem rd3 (c : Dev nD) (t : Fin cfg0.N) (l : Fin 512) (j : Fin 2048) :
    iblk m c 3 t (ix3 (0 : Fin 1) l j) = m ((c : Thread nD τ).loc main_arg3) (ix3 (0 : Fin 2) (hcol t l) j) := by
  unfold hcol
  blk_point [iblk, V, idx t]

theorem rd4 (c : Dev nD) (t : Fin cfg0.N) (k : Fin 2048) :
    iblk m c 4 t (ix3 (0 : Fin 1) (0 : Fin 1) k) = m ((c : Thread nD τ).loc main_arg4) (ix2 (0 : Fin 2) k) := by
  blk_point [iblk, V, idx t]

/-- The carried rows, at every point, are the normalised rows of the point's block row. -/
theorem h_at (c : Dev nD) : ∀ (n : ℕ) (hn : n < cfg0.N) (r : Fin 1024) (k : Fin 2048),
    (outsAt0 m c n hn).2 (ix2 r k) = hid (m ((c : Thread nD τ).loc main_arg0)) (m ((c : Thread nD τ).loc main_arg1)) (row ⟨n, hn⟩ r) k := by
  intro n
  induction n with
  | zero =>
    intro hn r k
    rw [h_A m c ⟨0, hn⟩ rfl]
    refine (pay1_at _ _ r k).trans ?_
    simp only [rd0, rd1]
    rfl
  | succ n ih =>
    intro hn r k
    by_cases h0 : (n + 1) % 16 = 0
    · rw [h_A m c ⟨n + 1, hn⟩ h0]
      refine (pay1_at _ _ r k).trans ?_
      simp only [rd0, rd1]
      rfl
    · rw [h_step m c ⟨n + 1, hn⟩ h0]
      refine (ih _ r k).trans ?_
      have e : row ⟨n, Nat.lt_of_succ_lt hn⟩ r = row ⟨n + 1, hn⟩ r := Fin.ext (by simp only [row]; omega)
      exact congrArg (fun i => hid _ _ i k) e

/-- What point `t` adds to entry `j` of row `r`. -/
def term (c : Dev nD) (r : Fin 1024) (j : Fin 2048) (t : Fin cfg0.N) : EReal :=
  ∑ l : Fin 512, unit (m ((c : Thread nD τ).loc main_arg0)) (m ((c : Thread nD τ).loc main_arg1)) (m ((c : Thread nD τ).loc main_arg2)) (m ((c : Thread nD τ).loc main_arg3)) (row t r) j (hcol t l)

/-- One step over carried rows `h` known to be the normalised ones. -/
theorem step (c : Dev nD) (t : Fin cfg0.N) (h : Vec Ideal S1024x2048 .bf16) (o : Vec Ideal S1024x2048 .f32)
    (hh : ∀ r k, h (ix2 r k) = hid (m ((c : Thread nD τ).loc main_arg0)) (m ((c : Thread nD τ).loc main_arg1)) (row t r) k) (r : Fin 1024) (j : Fin 2048) :
    k0_pay3 (F := Ideal) h (iblk m c 2 t) o (iblk m c 3 t) (ix2 r j) = (show EReal from o (ix2 r j)) + term m c r j t := by
  refine (pay3_at _ _ _ _ r j).trans ?_
  unfold term unit
  simp only [hh, rd2, rd3]

theorem row_pred (t : Fin cfg0.N) (h0 : ¬t.val % 16 = 0) (r : Fin 1024) :
    row ⟨t.val - 1, Nat.lt_of_le_of_lt (Nat.sub_le _ _) t.isLt⟩ r = row t r := Fin.ext (by simp only [row]; omega)

theorem h_pred (c : Dev nD) (t : Fin cfg0.N) (h0 : ¬t.val % 16 = 0) (r : Fin 1024) (k : Fin 2048) :
    (outsAt0 m c (t.val - 1) (Nat.lt_of_le_of_lt (Nat.sub_le _ _) t.isLt)).2 (ix2 r k)
      = hid (m ((c : Thread nD τ).loc main_arg0)) (m ((c : Thread nD τ).loc main_arg1)) (row t r) k :=
  (h_at m c _ _ r k).trans (congrArg (fun i => hid _ _ i k) (row_pred t h0 r))

/-- The running sum at entry `j` of row `r`, before the last point's normalisation. -/
def acc (c : Dev nD) (r : Fin 1024) (j : Fin 2048) (n : ℕ) (hn : n < cfg0.N) : EReal :=
  if n % 16 = 15 then (show EReal from (outsAt0 m c (n - 1) (Nat.lt_of_le_of_lt (Nat.sub_le _ _) hn)).1 (ix2 r j)) + term m c r j ⟨n, hn⟩
  else (outsAt0 m c n hn).1 (ix2 r j)

theorem acc_A (c : Dev nD) (r : Fin 1024) (j : Fin 2048) (t : Fin cfg0.N) (h0 : t.val % 16 = 0) :
    acc m c r j t.val t.isLt = 0 + term m c r j t := by
  unfold acc
  rw [if_neg (by omega), o_A m c t h0]
  refine (step m c t _ _ (fun r k => ?_) r j).trans (congrArg (· + _) (pay2_at r j))
  rw [← h_A m c t h0]
  exact h_at m c _ _ r k

theorem acc_S (c : Dev nD) (r : Fin 1024) (j : Fin 2048) (t : Fin cfg0.N) (h0 : ¬t.val % 16 = 0) :
    acc m c r j t.val t.isLt = acc m c r j (t.val - 1) (Nat.lt_of_le_of_lt (Nat.sub_le _ _) t.isLt) + term m c r j t := by
  have e : acc m c r j (t.val - 1) (Nat.lt_of_le_of_lt (Nat.sub_le _ _) t.isLt)
      = (outsAt0 m c (t.val - 1) (Nat.lt_of_le_of_lt (Nat.sub_le _ _) t.isLt)).1 (ix2 r j) := if_neg (by omega)
  rw [e]
  by_cases h1 : t.val % 16 = 15
  · exact if_pos h1
  · refine (if_neg h1).trans ?_
    rw [o_B m c t h0 h1]
    exact step m c t _ _ (h_pred m c t h0) r j

/-- The whole sum over the hidden axis. -/
theorem acc_last (c : Dev nD) (r : Fin 1024) (j : Fin 2048) (t : Fin cfg0.N) (h1 : t.val % 16 = 15) :
    acc m c r j t.val t.isLt
      = ∑ l : Fin 8192, unit (m ((c : Thread nD τ).loc main_arg0)) (m ((c : Thread nD τ).loc main_arg1)) (m ((c : Thread nD τ).loc main_arg2)) (m ((c : Thread nD τ).loc main_arg3)) (row t r) j l := by
  rw [Pipeline.eq_sum_fin_of_reset_step_of_flush (fun n hn => acc m c r j n hn) 16 0 (term m c r j) (acc_A m c r j) (acc_S m c r j) t h1, zero_add]
  unfold term
  refine Fin.sum_mul_add_congr fun s k hl => ?_
  have hr : row ⟨16 * (t.val / 16) + s.val, Pipeline.run_point_lt_of_flush t h1 s⟩ r = row t r := Fin.ext (by simp only [row]; omega)
  have hc : hcol ⟨16 * (t.val / 16) + s.val, Pipeline.run_point_lt_of_flush t h1 s⟩ k = ⟨s.val * 512 + k.val, hl⟩ := Fin.ext (by simp only [hcol]; omega)
  rw [hr, hc]

theorem last_at (c : Dev nD) (t : Fin cfg0.N) (h1 : t.val % 16 = 15) (r : Fin 1024) (j : Fin 2048) :
    (outsAt0 m c t.val t.isLt).1 (ix2 r j)
      = out (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) := by
  have h0 : ¬t.val % 16 = 0 := by omega
  rw [o_C m c t h0 h1]
  refine (pay4_at _ _ _ r j).trans ?_
  rw [rd0, rd4]
  unfold out
  refine congrArg (fun f : Fin 2048 → EReal => _ + rms f _ j) (funext fun j' => ?_)
  refine (step m c t _ _ (h_pred m c t h0) r j').trans ?_
  refine Eq.trans ?_ (acc_last m c r j' t h1)
  exact (if_pos h1).symm

theorem final (c : Dev nD) : (dats m 0 c).arrAt 5 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  have := pt_lt t
  refine (last_at m c t ((flush0_5 t).mp hf) y0 y1).trans ?_
  have e : ((View.whole main_v4).slice (win0_5.rect t)).emb (ix2 y0 y1) = ix2 (row t y0) y1 := by
    unfold row
    blk_ext [idx t]
  rw [e]

end Cert.MlpIdeal.Layer

end
-- ==== Proof.MlpRef.lean ====
/-
  The feed-forward reference: its term, stage by stage, and the array it is.
-/
module

public import proofs.«01_k».proof.Proof.MlpArray
public import proofs.«01_k».proof.Proof.Gen.MlpRefIdeal.Run

@[expose] public section

set_option maxRecDepth 16384

noncomputable section

open Idealize.ShloMosaic Idealize.ShloMosaic.TcCoe Idealize.SL.Sem

namespace Cert.MlpRefIdeal.Layer

open Cert.MlpRefIdeal Cert.MlpRefIdeal.Gen Cert.MlpRefIdeal.Value Cert.Layer Cert.MlpIdeal.Layer

def RN (y : FVec Ideal S8192x2048 .f32) (g : FVec Ideal S2x2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S2x2048_S1x2048_0_0) shapeCasts_S1x2048_S2048)))

theorem rn_at (y : FVec Ideal S8192x2048 .f32) (g : FVec Ideal S2x2048 .f32) (t : Fin 8192) (j : Fin 2048) :
    RN y g (ix2 t j) = rms (fun j => y (ix2 t j)) (g (ix2 (0 : Fin 2) j)) j := by
  pointwise [RN, rms]

def UP (h : FVec Ideal S8192x2048 .f32) (w : FVec Ideal S2x2048x8192 .f32) : FVec Ideal S8192x8192 .f32 :=
  Host.dotGeneral dot_S8192x2048_S2048x8192_S8192x8192_1_0_0_1_n_n none h (shapeCast _ (extractStridedSlice S1x2048x8192 ![0, 0, 0] w slices_S2x2048x8192_S1x2048x8192_0_0_0) shapeCasts_S1x2048x8192_S2048x8192)

theorem up_at (h : FVec Ideal S8192x2048 .f32) (w : FVec Ideal S2x2048x8192 .f32) (t l : Fin 8192) :
    UP h w (ix2 t l) = ∑ k : Fin 2048, (show EReal from h (ix2 t k)) * (show EReal from w (ix3 (0 : Fin 2) k l)) := by
  pointwise [UP]

def SQ (u : FVec Ideal S8192x8192 .f32) : FVec Ideal S8192x8192 .f32 :=
  mulf (maximumf u (broadcastInDim S8192x8192 ![] bcast_S_S8192x8192 (constant S_ .f32 0x00000000#32))) (maximumf u (broadcastInDim S8192x8192 ![] bcast_S_S8192x8192 (constant S_ .f32 0x00000000#32)))

theorem sq_at (u : FVec Ideal S8192x8192 .f32) (t l : Fin 8192) : SQ u (ix2 t l) = act (u (ix2 t l)) := by
  pointwise [SQ, act]

def DN (q : FVec Ideal S8192x8192 .f32) (w : FVec Ideal S2x8192x2048 .f32) : FVec Ideal S8192x2048 .f32 :=
  Host.dotGeneral dot_S8192x8192_S8192x2048_S8192x2048_1_0_0_1_n_n none q (shapeCast _ (extractStridedSlice S1x8192x2048 ![0, 0, 0] w slices_S2x8192x2048_S1x8192x2048_0_0_0) shapeCasts_S1x8192x2048_S8192x2048)

theorem dn_at (q : FVec Ideal S8192x8192 .f32) (w : FVec Ideal S2x8192x2048 .f32) (t : Fin 8192) (j : Fin 2048) :
    DN q w (ix2 t j) = ∑ l : Fin 8192, (show EReal from q (ix2 t l)) * (show EReal from w (ix3 (0 : Fin 2) l j)) := by
  pointwise [DN]

variable (m : (ℓ : Loc nD τ sig) → Buf (Elt Ideal) ℓ)

theorem stages (c : Dev nD) : res_out0 m c
    = addf (m ((c.tc : Thread nD τ).loc main_arg0)) (RN (DN (SQ (UP (RN (m ((c.tc : Thread nD τ).loc main_arg0)) (m ((c.tc : Thread nD τ).loc main_arg1))) (m ((c.tc : Thread nD τ).loc main_arg2)))) (m ((c.tc : Thread nD τ).loc main_arg3))) (m ((c.tc : Thread nD τ).loc main_arg4))) := by
  unfold res_out0 res_main_v38 RN DN SQ UP
  rfl

/-- The staged term is the layer's result. -/
theorem ref_eq (x : FVec Ideal S8192x2048 .f32) (g : FVec Ideal S2x2048 .f32) (wu : FVec Ideal S2x2048x8192 .f32) (wd : FVec Ideal S2x8192x2048 .f32)
    (gp : FVec Ideal S2x2048 .f32) : addf x (RN (DN (SQ (UP (RN x g) wu)) wd) gp) = out x g wu wd gp := by
  funext i
  idx_vars i
  refine congrArg (fun z : EReal => (show EReal from x (ix2 i0 i1)) + z) ((rn_at _ _ i0 i1).trans ?_)
  refine congrArg (fun f : Fin 2048 → EReal => rms f (gp (ix2 (0 : Fin 2) i1)) i1) (funext fun j => (dn_at _ _ i0 j).trans ?_)
  refine Fin.sum_fin_congr fun l => congrArg (fun z : EReal => z * (show EReal from wd (ix3 (0 : Fin 2) l j))) ((sq_at _ i0 l).trans (congrArg act ((up_at _ _ i0 l).trans ?_)))
  exact Fin.sum_fin_congr fun k => congrArg (fun z : EReal => z * (show EReal from wu (ix3 (0 : Fin 2) k l))) (rn_at x g i0 k)

end Cert.MlpRefIdeal.Layer

end
-- ==== Proof.MergeClaim.lean ====
/-
  The merge of the three branches: what the kernel's array and the reference's array hold.
-/
module

public import proofs.«01_k».proof.Proof.Gen.MergeIdeal.Value
public import proofs.«01_k».proof.Proof.Gen.MergeRefIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MergeIdeal.Layer

open Cert.MergeIdeal Cert.MergeIdeal.Gen

/-- The logistic function, as both programs write it. -/
def sgm (z : EReal) : EReal := Ideal.div (Ideal.ofBits .f32 0x3F800000#32) (Ideal.ofBits .f32 0x3F800000#32 + Ideal.exp (-z))

/-- Branch `b`'s rows times its matrix. -/
def proj (h : S8192x1024.Idx → EReal) (w : S2x3x1024x2048.Idx → EReal) (b : Fin 3) (t : Fin 8192) (j : Fin 2048) : EReal :=
  ∑ k : Fin 1024, h (ix2 t k) * w (ix4 (0 : Fin 2) b k j)

/-- Branch `b`'s gate. -/
def gate (z : S8192x15360.Idx → EReal) (b : Fin 3) (t : Fin 8192) (j : Fin 2048) : EReal :=
  sgm (z (ix2 t (⟨9216 + (b.val * 2048 + j.val), by omega⟩ : Fin 15360)))

/-- The merged rows: the gated branches, summed. -/
def out (hm hf ys : S8192x1024.Idx → EReal) (w : S2x3x1024x2048.Idx → EReal) (z : S8192x15360.Idx → EReal) : S8192x2048.Idx → EReal := fun i =>
  gate z 0 (i 0) (i 1) * proj hm w 0 (i 0) (i 1) + gate z 1 (i 0) (i 1) * proj hf w 1 (i 0) (i 1) + gate z 2 (i 0) (i 1) * proj ys w 2 (i 0) (i 1)

theorem pay2_at (g0 : Vec Ideal S1024x512 .f32) (a0 : Vec Ideal S1024x1024 .bf16) (w0 : Vec Ideal S1x1x1024x512 .bf16)
    (g1 : Vec Ideal S1024x512 .f32) (a1 : Vec Ideal S1024x1024 .bf16) (w1 : Vec Ideal S1x1x1024x512 .bf16) (r : Fin 1024) (j : Fin 512) :
    k0_pay2 (F := Ideal) g0 a0 w0 g1 a1 w1 (ix2 r j)
      = sgm (g0 (ix2 r j)) * (∑ k : Fin 1024, (show EReal from a0 (ix2 r k)) * (show EReal from w0 (ix4 (0 : Fin 1) (0 : Fin 1) k j)))
       + sgm (g1 (ix2 r j)) * (∑ k : Fin 1024, (show EReal from a1 (ix2 r k)) * (show EReal from w1 (ix4 (0 : Fin 1) (0 : Fin 1) k j))) := by
  pointwise [k0_pay2, sgm]
  simp only [zero_sub]

theorem pay1_at (acc : Vec Ideal S1024x512 .f32) (g : Vec Ideal S1024x512 .f32) (a : Vec Ideal S1024x1024 .bf16) (w : Vec Ideal S1x1x1024x512 .bf16) (r : Fin 1024) (j : Fin 512) :
    k0_pay1 (F := Ideal) acc (k0_pay3 (F := Ideal) g) a w (ix2 r j)
      = (show EReal from acc (ix2 r j)) + sgm (g (ix2 r j)) * (∑ k : Fin 1024, (show EReal from a (ix2 r k)) * (show EReal from w (ix4 (0 : Fin 1) (0 : Fin 1) k j))) := by
  pointwise [k0_pay1, k0_pay3, sgm]
  simp only [zero_sub]

variable (m : (ℓ : Loc nD τ sig) → Buf (Elt Ideal) ℓ)

theorem idx : ∀ t : Fin cfg0.N, win0_0.index t = ![t.val / 4, 0] ∧ win0_1.index t = ![t.val / 4, 0] ∧ win0_2.index t = ![t.val / 4, 0]
      ∧ win0_3.index t = ![0, 0, 0, t.val % 4] ∧ win0_4.index t = ![t.val / 4, 18 + t.val % 4] ∧ win0_5.index t = ![t.val / 4, 22 + t.val % 4]
      ∧ win0_6.index t = ![t.val / 4, 26 + t.val % 4] ∧ win0_7.index t = ![t.val / 4, t.val % 4] :=
  (by decide +kernel : ∀ t : Fin grid0.N, _)

theorem hz2 : (![0, 0] : Fin 2 → Nat) = fun _ => 0 := funext fun a => by fin_cases a <;> rfl

theorem pt_lt (t : Fin cfg0.N) : t.val < 32 := lt_of_lt_of_eq t.isLt N_0

/-- Row `r` of block row `t / 4`. -/
def row (t : Fin cfg0.N) (r : Fin 1024) : Fin 8192 := ⟨t.val / 4 * 1024 + r.val, by have := pt_lt t; omega⟩

/-- Column `j` of block column `t % 4`. -/
def col (t : Fin cfg0.N) (j : Fin 512) : Fin 2048 := ⟨t.val % 4 * 512 + j.val, by omega⟩

theorem rd0 (c : Dev nD) (t : Fin cfg0.N) (r : Fin 1024) (k : Fin 1024) :
    iblk m c 0 t (ix2 r k) = m ((c : Thread nD τ).loc main_arg0) (ix2 (row t r) k) := by
  have := pt_lt t
  unfold row
  blk_ext [iblk, V, idx t]

theorem rd1 (c : Dev nD) (t : Fin cfg0.N) (r : Fin 1024) (k : Fin 1024) :
    iblk m c 1 t (ix2 r k) = m ((c : Thread nD τ).loc main_arg1) (ix2 (row t r) k) := by
  have := pt_lt t
  unfold row
  blk_ext [iblk, V, idx t]

theorem rd2 (c : Dev nD) (t : Fin cfg0.N) (r : Fin 1024) (k : Fin 1024) :
    iblk m c 2 t (ix2 r k) = m ((c : Thread nD τ).loc main_arg2) (ix2 (row t r) k) := by
  have := pt_lt t
  unfold row
  blk_ext [iblk, V, idx t]

theorem rd3 (c : Dev nD) (t : Fin cfg0.N) (b : Fin 3) (k : Fin 1024) (j : Fin 512) :
    iblk m c 3 t (ix4 (0 : Fin 1) b k j) = m ((c : Thread nD τ).loc main_arg3) (ix4 (0 : Fin 2) b k (col t j)) := by
  unfold col
  blk_point [iblk, V, idx t]

theorem rd4 (c : Dev nD) (t : Fin cfg0.N) (r : Fin 1024) (j : Fin 512) :
    iblk m c 4 t (ix2 r j) = m ((c : Thread nD τ).loc main_arg4) (ix2 (row t r) (⟨9216 + ((0 : Fin 3).val * 2048 + (col t j).val), by omega⟩ : Fin 15360)) := by
  have := pt_lt t
  unfold row col
  blk_ext [iblk, V, idx t]

theorem rd5 (c : Dev nD) (t : Fin cfg0.N) (r : Fin 1024) (j : Fin 512) :
    iblk m c 5 t (ix2 r j) = m ((c : Thread nD τ).loc main_arg4) (ix2 (row t r) (⟨9216 + ((1 : Fin 3).val * 2048 + (col t j).val), by omega⟩ : Fin 15360)) := by
  have := pt_lt t
  unfold row col
  blk_ext [iblk, V, idx t]

theorem rd6 (c : Dev nD) (t : Fin cfg0.N) (r : Fin 1024) (j : Fin 512) :
    iblk m c 6 t (ix2 r j) = m ((c : Thread nD τ).loc main_arg4) (ix2 (row t r) (⟨9216 + ((2 : Fin 3).val * 2048 + (col t j).val), by omega⟩ : Fin 15360)) := by
  have := pt_lt t
  unfold row col
  blk_ext [iblk, V, idx t]

theorem ld3_0 (x : Vec Ideal S1x3x1024x512 .bf16) (k : Fin 1024) (j : Fin 512) : View.ld x r0_2 (ix4 (0 : Fin 1) (0 : Fin 1) k j) = x (ix4 (0 : Fin 1) (0 : Fin 3) k j) := by
  unfold r0_2
  pointwise
theorem ld3_1 (x : Vec Ideal S1x3x1024x512 .bf16) (k : Fin 1024) (j : Fin 512) : View.ld x r0_3 (ix4 (0 : Fin 1) (0 : Fin 1) k j) = x (ix4 (0 : Fin 1) (1 : Fin 3) k j) := by
  unfold r0_3
  pointwise
theorem ld3_2 (x : Vec Ideal S1x3x1024x512 .bf16) (k : Fin 1024) (j : Fin 512) : View.ld x r0_4 (ix4 (0 : Fin 1) (0 : Fin 1) k j) = x (ix4 (0 : Fin 1) (2 : Fin 3) k j) := by
  unfold r0_4
  pointwise

theorem final (c : Dev nD) : (dats m 0 c).arrAt 7 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  idx_vars y
  have := pt_lt t
  unfold out0_7
  rw [View.canon_unit_zero hz2]
  simp only [View.ld_unit_zero (S := S1024x512) hz2, View.ld_unit_zero (S := S1024x1024) hz2]
  refine (pay1_at _ _ _ _ y0 y1).trans ?_
  rw [pay2_at]
  simp only [rd0, rd1, rd2, rd4, rd5, rd6]
  have e : ((View.whole main_v1).slice (win0_7.rect t)).emb (ix2 y0 y1) = ix2 (row t y0) (col t y1) := by
    unfold row col
    blk_ext [idx t]
  rw [e]
  unfold out proj gate
  refine congrArg₂ (· + ·) (congrArg₂ (· + ·) ?_ ?_) ?_
  · exact congrArg _ (Fin.sum_fin_congr fun k => congrArg _ ((ld3_0 _ k y1).trans (rd3 m c t 0 k y1)))
  · exact congrArg _ (Fin.sum_fin_congr fun k => congrArg _ ((ld3_1 _ k y1).trans (rd3 m c t 1 k y1)))
  · exact congrArg _ (Fin.sum_fin_congr fun k => congrArg _ ((ld3_2 _ k y1).trans (rd3 m c t 2 k y1)))

end Cert.MergeIdeal.Layer

namespace Cert.MergeRefIdeal.Layer

open Cert.MergeRefIdeal Cert.MergeRefIdeal.Gen Cert.MergeIdeal.Layer

def G (z : FVec Ideal S8192x15360 .f32) : FVec Ideal S8192x3x2048 .f32 :=
  shapeCast _ (Host.divf (broadcastInDim S8192x6144 ![] bcast_S_S8192x6144 (constant S_ .f32 0x3F800000#32)) (addf (broadcastInDim S8192x6144 ![] bcast_S_S8192x6144 (constant S_ .f32 0x3F800000#32)) (Host.exp (Host.negf (extractStridedSlice S8192x6144 ![0, 9216] z slices_S8192x15360_S8192x6144_0_9216))))) shapeCasts_S8192x6144_S8192x3x2048

theorem g_at (z : FVec Ideal S8192x15360 .f32) (t : Fin 8192) (b : Fin 3) (j : Fin 2048) : G z (ix3 t b j) = gate z b t j := by
  pointwise [G, gate, Cert.MergeIdeal.Layer.sgm]

def ST (hm hf ys : FVec Ideal S8192x1024 .bf16) : FVec Ideal S8192x3x1024 .bf16 :=
  concatenate S8192x3x1024 1 [⟨S8192x1x1024, ((broadcastInDim S8192x1x1024 ![0, 2] bcast_S8192x1024_S8192x1x1024_0_2 hm) : (⟨S8192x1x1024, .bf16⟩ : BufTy).Contents (Elt Ideal))⟩, ⟨S8192x1x1024, ((broadcastInDim S8192x1x1024 ![0, 2] bcast_S8192x1024_S8192x1x1024_0_2 hf) : (⟨S8192x1x1024, .bf16⟩ : BufTy).Contents (Elt Ideal))⟩, ⟨S8192x1x1024, ((broadcastInDim S8192x1x1024 ![0, 2] bcast_S8192x1024_S8192x1x1024_0_2 ys) : (⟨S8192x1x1024, .bf16⟩ : BufTy).Contents (Elt Ideal))⟩] concatenates_S8192x1x1024_S8192x1x1024_S8192x1x1024_S8192x3x1024_d1

theorem st_at0 (hm hf ys : FVec Ideal S8192x1024 .bf16) (t : Fin 8192) (k : Fin 1024) : ST hm hf ys (ix3 t (0 : Fin 3) k) = hm (ix2 t k) := by
  pointwise [ST]
theorem st_at1 (hm hf ys : FVec Ideal S8192x1024 .bf16) (t : Fin 8192) (k : Fin 1024) : ST hm hf ys (ix3 t (1 : Fin 3) k) = hf (ix2 t k) := by
  pointwise [ST]
theorem st_at2 (hm hf ys : FVec Ideal S8192x1024 .bf16) (t : Fin 8192) (k : Fin 1024) : ST hm hf ys (ix3 t (2 : Fin 3) k) = ys (ix2 t k) := by
  pointwise [ST]

def PJ (h : FVec Ideal S8192x3x1024 .bf16) (w : FVec Ideal S2x3x1024x2048 .f32) : FVec Ideal S8192x3x2048 .f32 :=
  transpose S8192x3x2048 [2, 0, 1] (Host.dotGeneral dot_S3x1024x2048_S8192x3x1024_S3x2048x8192_1_2_2_0_0_1 none (shapeCast _ (extractStridedSlice S1x3x1024x2048 ![0, 0, 0, 0] w slices_S2x3x1024x2048_S1x3x1024x2048_0_0_0_0) shapeCasts_S1x3x1024x2048_S3x1024x2048) (extf .f32 h bitsLt_bf16_f32)) transposes_S3x2048x8192_S8192x3x2048_2_0_1

theorem pj_at (h : FVec Ideal S8192x3x1024 .bf16) (w : FVec Ideal S2x3x1024x2048 .f32) (t : Fin 8192) (b : Fin 3) (j : Fin 2048) :
    PJ h w (ix3 t b j) = ∑ k : Fin 1024, (show EReal from w (ix4 (0 : Fin 2) b k j)) * (show EReal from h (ix3 t b k)) := by
  pointwise [PJ]

def MG (g p : FVec Ideal S8192x3x2048 .f32) : FVec Ideal S8192x2048 .bf16 :=
  truncf .bf16 (Host.dotGeneral dot_S8192x3x2048_S8192x3x2048_S8192x2048_1_1_n_n_02_02 none g p) bitsLt_bf16_f32

theorem mg_at (g p : FVec Ideal S8192x3x2048 .f32) (t : Fin 8192) (j : Fin 2048) :
    MG g p (ix2 t j) = ∑ b : Fin 3, (show EReal from g (ix3 t b j)) * (show EReal from p (ix3 t b j)) := by
  pointwise [MG]

/-- The reference's term is the merged rows. -/
theorem ref_eq (hm hf ys : FVec Ideal S8192x1024 .bf16) (w : FVec Ideal S2x3x1024x2048 .f32) (z : FVec Ideal S8192x15360 .f32) :
    MG (G z) (PJ (ST hm hf ys) w) = out hm hf ys w z := by
  funext i
  idx_vars i
  rw [mg_at, Fin.sum_univ_three, g_at, g_at, g_at, pj_at, pj_at, pj_at]
  simp only [st_at0, st_at1, st_at2]
  unfold out proj
  refine congrArg₂ (· + ·) (congrArg₂ (· + ·) ?_ ?_) ?_
  all_goals exact congrArg _ (Fin.sum_fin_congr fun k => mul_comm _ _)

end Cert.MergeRefIdeal.Layer

end
-- ==== Proof.OutprojClaim.lean ====
/-
  The output projection: what the kernel's array and the reference's array hold.
-/
module

public import proofs.«01_k».proof.Proof.Rms
public import proofs.«01_k».proof.Proof.Gen.OutprojIdeal.Value
public import proofs.«01_k».proof.Proof.Gen.OutprojRefIdeal.Run
public import Idealize.ShloMosaic.Lib.Pipeline.ValueKit

@[expose] public section

set_option maxRecDepth 16384

noncomputable section

open Idealize.ShloMosaic Idealize.ShloMosaic.TcCoe Idealize.SL.Sem

namespace Cert.OutprojIdeal.Layer

open Cert.OutprojIdeal Cert.OutprojIdeal.Gen Cert.Layer

/-- The result: the residual plus the normalised projection. -/
def out (a : S8192x2048.Idx → EReal) (w : S2x2048x2048.Idx → EReal) (g : S2x2048.Idx → EReal) (x : S8192x2048.Idx → EReal) :
    S8192x2048.Idx → EReal := fun i =>
  x i + rms (fun j => ∑ k : Fin 2048, a (ix2 (i 0 : Fin 8192) k) * w (ix3 (0 : Fin 2) k j)) (g (ix2 (0 : Fin 2) (i 1 : Fin 2048))) (i 1)

theorem pay_at (x : Vec Ideal S512x2048 .f32) (a : Vec Ideal S512x2048 .bf16) (w : Vec Ideal S1x2048x2048 .bf16) (g : Vec Ideal S1x1x2048 .f32)
    (r : Fin 512) (j : Fin 2048) :
    k0_pay1 (F := Ideal) x a w g (ix2 r j)
      = (show EReal from x (ix2 r j)) + rms (fun j => ∑ k : Fin 2048, (show EReal from a (ix2 r k)) * (show EReal from w (ix3 (0 : Fin 1) k j))) (g (ix3 (0 : Fin 1) (0 : Fin 1) j)) j := by
  pointwise [k0_pay1, rms]

variable (m : (ℓ : Loc nD τ sig) → Buf (Elt Ideal) ℓ)

theorem idx : ∀ t : Fin cfg0.N, win0_0.index t = ![t.val, 0] ∧ win0_1.index t = ![0, 0, 0] ∧ win0_2.index t = ![0, 0, 0]
      ∧ win0_3.index t = ![t.val, 0] ∧ win0_4.index t = ![t.val, 0] :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

theorem pt_lt (t : Fin cfg0.N) : t.val < 16 := lt_of_lt_of_eq t.isLt N_0

/-- Row `r` of block `t`. -/
def row (t : Fin cfg0.N) (r : Fin 512) : Fin 8192 := ⟨t.val * 512 + r.val, by have := pt_lt t; omega⟩

theorem rd0 (c : Dev nD) (t : Fin cfg0.N) (r : Fin 512) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k j : Fin 2048) :
    iblk m c 1 t (ix3 (0 : Fin 1) k j) = m ((c : Thread nD τ).loc main_arg1) (ix3 (0 : Fin 2) k j) := by
  blk_point [iblk, V, idx t]

theorem rd2 (c : Dev nD) (t : Fin cfg0.N) (j : Fin 2048) :
    iblk m c 2 t (ix3 (0 : Fin 1) (0 : Fin 1) j) = m ((c : Thread nD τ).loc main_arg2) (ix2 (0 : Fin 2) j) := by
  blk_point [iblk, V, idx t]

theorem rd3 (c : Dev nD) (t : Fin cfg0.N) (r : Fin 512) (k : Fin 2048) :
    iblk m c 3 t (ix2 r k) = m ((c : Thread nD τ).loc main_arg3) (ix2 (row t r) k) := by
  have := pt_lt t
  unfold row
  blk_ext [iblk, V, idx t]

theorem final (c : Dev nD) : (dats m 0 c).arrAt 4 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  idx_vars y
  have := pt_lt t
  unfold out0_4
  rw [View.canon_unit_zero hz2]
  simp only [View.ld_unit_zero (S := S512x2048) hz2, View.ld_unit_zero (S := S1x2048x2048) hz3, View.ld_unit_zero (S := S1x1x2048) hz3]
  refine (pay_at _ _ _ _ y0 y1).trans ?_
  simp only [rd0, rd1, rd2, rd3]
  have e : ((View.whole main_v2).slice (win0_4.rect t)).emb (ix2 y0 y1) = ix2 (row t y0) y1 := by
    unfold row
    blk_ext [idx t]
  rw [e]
  rfl

end Cert.OutprojIdeal.Layer

namespace Cert.OutprojRefIdeal.Layer

open Cert.OutprojRefIdeal Cert.OutprojRefIdeal.Gen Cert.Layer

def MM (a : FVec Ideal S8192x2048 .bf16) (w : FVec Ideal S2x2048x2048 .f32) : FVec Ideal S8192x2048 .f32 :=
  Host.dotGeneral dot_S8192x2048_S2048x2048_S8192x2048_1_0_0_1_n_n none (extf .f32 a bitsLt_bf16_f32) (shapeCast _ (extractStridedSlice S1x2048x2048 ![0, 0, 0] w slices_S2x2048x2048_S1x2048x2048_0_0_0) shapeCasts_S1x2048x2048_S2048x2048)

theorem mm_at (a : FVec Ideal S8192x2048 .bf16) (w : FVec Ideal S2x2048x2048 .f32) (t : Fin 8192) (j : Fin 2048) :
    MM a w (ix2 t j) = ∑ k : Fin 2048, (show EReal from a (ix2 t k)) * (show EReal from w (ix3 (0 : Fin 2) k j)) := by
  pointwise [MM]

def RN (y : FVec Ideal S8192x2048 .f32) (g : FVec Ideal S2x2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S2x2048_S1x2048_0_0) shapeCasts_S1x2048_S2048)))

theorem rn_at (y : FVec Ideal S8192x2048 .f32) (g : FVec Ideal S2x2048 .f32) (t : Fin 8192) (j : Fin 2048) :
    RN y g (ix2 t j) = rms (fun j => y (ix2 t j)) (g (ix2 (0 : Fin 2) j)) j := by
  pointwise [RN, rms]

/-- The reference's term is the layer's result. -/
theorem ref_eq (a : FVec Ideal S8192x2048 .bf16) (w : FVec Ideal S2x2048x2048 .f32) (g : FVec Ideal S2x2048 .f32) (x : FVec Ideal S8192x2048 .f32) :
    addf x (RN (MM a w) g) = Cert.OutprojIdeal.Layer.out a w g x := by
  funext i
  idx_vars i
  refine congrArg (fun z : EReal => (show EReal from x (ix2 i0 i1)) + z) ((rn_at _ _ i0 i1).trans ?_)
  refine congrArg (fun f : Fin 2048 → EReal => rms f (g (ix2 (0 : Fin 2) i1)) i1) (funext fun j => mm_at a w i0 j)

end Cert.OutprojRefIdeal.Layer

end
-- ==== Proof.InprojIdealBody.lean ====
/-
  The input projection's body at one grid point: the three cases of its branches, and what each leaves.
-/
module

public import proofs.«01_k».proof.Proof.Gen.InprojIdeal.Skeleton
public import proofs.«01_k».proof.Proof.Gen.InprojIdeal.Frame
public import Idealize.ShloMosaic.Lib.VecWindow

@[expose] public section

set_option maxRecDepth 16384

noncomputable section

namespace Cert.InprojIdeal.Layer

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource the assertions speak of. -/
abbrev Res (F : FTy → Type) := MT nD τ sig Unit (Elt F) ℕ (UR sig nD τ) ℕ

/-! ## The branch conditions -/

/-- The condition of the first branch: the first column tile. -/
abbrev cond1 (i : grid0.Coords) : Prop :=
  (Scalar.cmpi .ne (Scalar.extui (Scalar.cmpi .eq (BitVec.ofNat 32 (i 1).val) 0#32)) 0#32) = 1#1

theorem cond1_iff (t : Fin grid0.N) : cond1 (grid0.coords t) ↔ t.val % 11 = 0 := by
  have ht : t.val < 88 := Nat.lt_of_lt_of_eq t.isLt N_0
  have e1 : (grid0.coords t 1).val = t.val / 1 % 11 := Pipeline.Grid.coords_val t 1 (by decide) rfl
  simp only [cond1, e1]
  word_cmp

theorem cond2_iff (t : Fin grid0.N) : k0_cond2 (grid0.coords t) = 1#1 ↔ ¬t.val % 11 = 10 := by
  have ht : t.val < 88 := Nat.lt_of_lt_of_eq t.isLt N_0
  have e1 : (grid0.coords t 1).val = t.val / 1 % 11 := Pipeline.Grid.coords_val t 1 (by decide) rfl
  unfold k0_cond2
  simp only [e1]
  word_cmp

theorem cond3_iff (t : Fin grid0.N) : k0_cond3 (grid0.coords t) = 1#1 ↔ t.val % 11 = 10 := by
  have ht : t.val < 88 := Nat.lt_of_lt_of_eq t.isLt N_0
  have e1 : (grid0.coords t 1).val = t.val / 1 % 11 := Pipeline.Grid.coords_val t 1 (by decide) rfl
  unfold k0_cond3
  simp only [e1]
  word_cmp

/-! ## The body -/

section body

variable (c : Dev nD) (i : grid0.Coords)
  (arg2 : Memref sig .tc .vmem S1024x2048 .f32) (harg2 : arg2.IsWhole)
  (arg3 : Memref sig .tc .vmem S1x1x2048 .f32) (harg3 : arg3.IsWhole)
  (arg4 : Memref sig .tc .vmem S1x2048x1536 .bf16) (harg4 : arg4.IsWhole)
  (arg5 : Memref sig .tc .vmem S1x2048x128 .f32) (harg5 : arg5.IsWhole)
  (arg6 : Memref sig .tc .vmem S1024x1536 .f32) (harg6 : arg6.IsWhole)
  (arg7 : Memref sig .tc .vmem S1024x128 .f32) (harg7 : arg7.IsWhole)
  (arg8 : Memref sig .tc .vmem S1024x2048 .bf16) (harg8 : arg8.IsWhole)
  (x0 : Vec F S1024x2048 .f32) (x1 : Vec F S1x1x2048 .f32) (x2 : Vec F S1x2048x1536 .bf16)
  (x3 : Vec F S1x2048x128 .f32) (x5 : Vec F S1024x128 .f32)

/-- At the first column tile the body normalises the rows into the scratch and stores the first tile of the product. -/
theorem run_first (h1 : cond1 i) (h2 : k0_cond2 i = 1#1) (h3 : ¬k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k0_pay2 (k0_pay1 x0 x1) x2) ∗ owns (c : Thread nD τ) arg7 fullShare x5
          ∗ owns (c : Thread nD τ) arg8 fullShare (k0_pay1 x0 x1)) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full ..).trans (congrArg₂ _ ?_ ((View.readAt_full ..).trans (harg4.read_unread _)))
    exact (View.readCov_full ..).trans (congrArg₂ _ ((View.readAt_full ..).trans (harg2.read_unread _))
      ((View.readAt_full ..).trans (harg3.read_unread _)))
  isplitl [H5]
  · iexists _; isplitr; · ipureintro; exact harg7.read_unread _
    iexact H5
  iexists _; isplitr
  swap; · iexact HS
  ipureintro
  exact (View.read_writes_full ..).trans (congrArg₂ _ ((View.readAt_full ..).trans (harg2.read_unread _))
    ((View.readAt_full ..).trans (harg3.read_unread _)))

/-- At a column tile in between the body stores its tile of the product of the rows the scratch holds. -/
theorem run_mid (xs : Vec F S1024x2048 .bf16) (h1 : ¬cond1 i) (h2 : k0_cond2 i = 1#1) (h3 : ¬k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare x5
        ∗ owns (c : Thread nD τ) arg8 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k0_pay2 xs x2) ∗ owns (c : Thread nD τ) arg7 fullShare x5
          ∗ owns (c : Thread nD τ) arg8 fullShare xs) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hf5; obtain rfl := harg8.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    exact (View.read_writes_full ..).trans (congrArg₂ _ ((View.readAt_full ..).trans (harg8.read_unread _))
      ((View.readAt_full ..).trans (harg4.read_unread _)))
  isplitl [H5]
  · iexists _; isplitr; · ipureintro; exact harg7.read_unread _
    iexact H5
  iexists _; isplitr; · ipureintro; exact harg8.read_unread _
  iexact HS

/-- At the last point of a row the body stores the narrow product; the wide one's tile stays as it was. -/
theorem run_last (x4 : Vec F S1024x1536 .f32) (xs : Vec F S1024x2048 .bf16) (h1 : ¬cond1 i) (h2 : ¬k0_cond2 i = 1#1) (h3 : k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare (k0_pay3 xs x3)
          ∗ owns (c : Thread nD τ) arg8 fullShare xs) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    exact (View.read_writes_full ..).trans (congrArg₂ _ ((View.readAt_full ..).trans (harg8.read_unread _))
      ((View.readAt_full ..).trans (harg5.read_unread _)))
  iexists _; isplitr; · ipureintro; exact harg8.read_unread _
  iexact HS

end body

end Cert.InprojIdeal.Layer

end
-- ==== Proof.InprojIdealFrame.lean ====
/-
  The input projection's run: what each buffer holds after each grid point, the body at every point, and the frame.

  The grid runs over 8 row blocks and 11 positions.  At position 0 the rows are normalised into the scratch; positions
  0 to 9 each store one tile of the wide product; position 10 stores the narrow product, and the wide product's last
  tile, left by position 9, is written out after it.
-/
module

public import proofs.«01_k».proof.Proof.InprojIdealBody
public import Idealize.ShloMosaic.Lib.Claim

@[expose] public section

set_option maxRecDepth 16384

noncomputable section

namespace Cert.InprojIdeal.Layer

open Cert.InprojIdeal Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Which points write what -/

theorem flush_wide : ∀ t : Fin cfg0.N, (cfg0.win 4).flush t = true ↔ ¬t.val % 11 = 9 :=
  (by decide +kernel : ∀ t : Fin grid0.N, win0_4.flush t = true ↔ ¬t.val % 11 = 9)

theorem idle_wide (t : Fin cfg0.N) : cfg0.idle 4 (cfg0.grid.coords t) = true ↔ t.val % 11 = 10 := by
  show (!(k0_cond2 (grid0.coords t) == 1#1)) = true ↔ _
  rw [Bool.not_eq_true', beq_eq_false_iff_ne, ne_eq, cond2_iff, not_not]

theorem idle_narrow (t : Fin cfg0.N) : cfg0.idle 5 (cfg0.grid.coords t) = true ↔ ¬t.val % 11 = 10 := by
  show (!(k0_cond3 (grid0.coords t) == 1#1)) = true ↔ _
  rw [Bool.not_eq_true', beq_eq_false_iff_ne, ne_eq, cond3_iff]

/-! ## What the buffers hold -/

/-- The point before. -/
def prev (t : Fin cfg0.N) : Fin cfg0.N := ⟨t.val - 1, Nat.lt_of_le_of_lt (Nat.sub_le _ _) t.isLt⟩

/-- The first point of the point's row block. -/
def start (t : Fin cfg0.N) : Fin cfg0.N := ⟨t.val - t.val % 11, Nat.lt_of_le_of_lt (Nat.sub_le _ _) t.isLt⟩

theorem start_first (t : Fin cfg0.N) (h : t.val % 11 = 0) : start t = t := Fin.ext (by show t.val - t.val % 11 = t.val; omega)

theorem start_prev (t : Fin cfg0.N) (h : ¬t.val % 11 = 0) : start (prev t) = start t :=
  Fin.ext (by show t.val - 1 - (t.val - 1) % 11 = t.val - t.val % 11; omega)

/-- The point whose tile of the wide product the buffer holds. -/
def wideAt (t : Fin cfg0.N) : Fin cfg0.N := if t.val % 11 = 10 then prev t else t

/-- The normalised rows the scratch holds. -/
def hs (c : Dev nD) (t : Fin cfg0.N) : Vec F S1024x2048 .bf16 := k0_pay1 (iblk m c 0 (start t)) (iblk m c 1 (start t))

/-- The scratch, as a buffer. -/
abbrev scr : Memref sig .tc .vmem S1024x2048 .bf16 := Memref.whole cc0_scratch0

theorem launch_eq (c : Dev nD) :
    (Pipeline.ΦA spec0 c : sProp (Res F))
      = iprop(iprop((∃ d, owns (c : Thread nD τ) scr fullShare d)) ∗ (∃ r, prngReg c r)) := by
  unfold Pipeline.ΦA; rw [scopedRest0_eq]; simp only [scr, owns_whole]; try rfl

/-- What holds before a point: the scratch holds the rows the point before used. -/
def inv (c : Dev nD) : (n : ℕ) → n ≤ cfg0.N → sProp (Res F)
  | 0, _ => Pipeline.ΦA spec0 c
  | n + 1, hn => iprop(iprop(owns (c : Thread nD τ) scr fullShare (hs m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (t : Fin cfg0.N) :
    inv m c (t.val + 1) t.isLt = iprop(iprop(owns (c : Thread nD τ) scr fullShare (hs m c t)) ∗ (∃ r, prngReg c r)) := rfl

theorem inv_pos (c : Dev nD) (n : ℕ) (h : n ≤ cfg0.N) (hz : n ≠ 0) :
    inv m c n h = iprop(iprop(owns (c : Thread nD τ) scr fullShare (hs m c ⟨n - 1, by omega⟩)) ∗ (∃ r, prngReg c r)) := by
  cases n with
  | zero => exact absurd rfl hz
  | succ n => rfl

/-- The run's data: the arrays as found, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (hs m c (wideAt t)) (iblk m c 2 (wideAt t))
    | ⟨5, _⟩ => k0_pay3 (hs m c t) (iblk m c 3 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay2 (hs m c (wideAt t)) (iblk m c 2 (wideAt t)) := by dsimp only [dats]
theorem after_5 (c : Dev nD) (t : Fin cfg0.N) : (dats m 0 c).after 5 t = k0_pay3 (hs m c t) (iblk m c 3 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At the last point of a row block the wide product's buffer still holds the tile of the point before. -/
theorem before_4 (c : Dev nD) (t : Fin cfg0.N) (h : t.val % 11 = 10) (d) :
    (dats m 0 c).before 4 t d = (dats m 0 c).after 4 t := by
  have hp : (prev t).val % 11 = 9 := by show (t.val - 1) % 11 = 9; omega
  have hfl : (cfg0.win 4).flush (prev t) = false := Bool.eq_false_iff.mpr fun h => (flush_wide _).mp h hp
  have hid : cfg0.idle 4 (cfg0.grid.coords (prev t)) = false :=
    Bool.eq_false_iff.mpr fun h => by have := (idle_wide _).mp h; omega
  have e : (dats m 0 c).before 4 t d = (dats m 0 c).after 4 (prev t) := by
    refine (Dat.before_of_pos _ 4 t (by omega) ((cfg0.win 4).fetch_out rfl t) d).trans ?_
    refine (if_neg (by rw [show (cfg0.win 4).flush ⟨t.val - 1, _⟩ = false from hfl]; exact Bool.false_ne_true)).trans ?_
    show (dats m 0 c).left 4 (prev t) d = _
    unfold Dat.left
    rw [hid]
    exact (Pipeline.fill_of_clip_none 4 _ (fun _ => rfl) d ((dats m 0 c).after 4 (prev t)) _).trans ((cfg0.win 4).fill_cut _ _)
  rw [e, after_4, after_4]
  unfold wideAt
  rw [if_pos h, if_neg (by omega)]

/-! ## The body at a point -/

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

/-- Every point leaves the wide product's buffer at its tile. -/
theorem leaves_wide (c : Dev nD) (t : Fin cfg0.N) :
    (dats m 0 c).leavesExact 4 t = owns (c : Thread nD τ) (st0_4 t) fullShare ((dats m 0 c).after 4 t) := by
  unfold Dat.leavesExact
  by_cases h : t.val % 11 = 10
  · rw [(idle_wide t).mpr h, (flush_wide t).mpr (by omega)]
  · rw [show cfg0.idle 4 (cfg0.grid.coords t) = false from Bool.eq_false_iff.mpr fun h' => h ((idle_wide t).mp h')]

/-- The last point of a row block leaves the narrow product's buffer at its block, -/
theorem leaves_narrow (c : Dev nD) (t : Fin cfg0.N) (h : t.val % 11 = 10) :
    (dats m 0 c).leavesExact 5 t = owns (c : Thread nD τ) (st0_5 t) fullShare ((dats m 0 c).after 5 t) := by
  unfold Dat.leavesExact
  rw [show cfg0.idle 5 (cfg0.grid.coords t) = false from Bool.eq_false_iff.mpr fun h' => (idle_narrow t).mp h' h]

/-- and any other point as it found it. -/
theorem leaves_narrow_idle (c : Dev nD) (t : Fin cfg0.N) (h : ¬t.val % 11 = 10) :
    (dats m 0 c).leavesExact 5 t = iprop(∃ d, owns (c : Thread nD τ) (st0_5 t) fullShare ((dats m 0 c).before 5 t d)) :=
  Dat.leavesExact_idle _ 5 t ((idle_narrow t).mpr h) (Bool.eq_false_iff.mpr fun h' => h ((flush0_5 t).mp h'))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, leaves_wide]
  rw [show (dats m 0 c).Φ t.succ = inv m c (t.val + 1) t.isLt from rfl, inv_succ, inv_castSucc m c t]
  by_cases h0 : t.val % 11 = 0
  · have h10 : ¬t.val % 11 = 10 := by omega
    rw [leaves_narrow_idle m c t h10, after_4]
    unfold wideAt; rw [if_neg h10]
    have eh : hs m c t = k0_pay1 (iblk m c 0 t) (iblk m c 1 t) := by unfold hs; rw [start_first t h0]
    rw [eh]
    have hphi : inv m c t.val (Nat.le_of_lt t.isLt)
        ⊢ iprop(iprop((∃ d, owns (c : Thread nD τ) scr fullShare d)) ∗ (∃ r, prngReg c r)) := by
      by_cases hz : t.val = 0
      · rw [inv_zero m c _ _ hz, launch_eq]
      · rw [inv_pos m c _ _ hz]
        iintro ⟨HS, Hg⟩
        isplitl [HS]
        · iexists _; iexact HS
        iexact Hg
    refine (sep_mono hphi .rfl).trans ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ (iblk m c 0 t) (iblk m c 1 t) (iblk m c 2 t) (iblk m c 3 t)
      ((dats m 0 c).before 5 t d5) ((cond1_iff t).mpr h0) ((cond2_iff t).mpr h10) (fun h => h10 ((cond3_iff t).mp h)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    have eh : hs m c ⟨t.val - 1, by omega⟩ = hs m c t := by
      show hs m c (prev t) = _
      unfold hs; rw [start_prev t h0]
    rw [inv_pos m c _ _ hz, eh]
    by_cases h10 : t.val % 11 = 10
    · rw [leaves_narrow m c t h10, after_5]
      simp only [before_4 m c t h10]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ (iblk m c 0 t) (iblk m c 1 t) (iblk m c 2 t) (iblk m c 3 t)
        ((dats m 0 c).after 4 t) (hs m c t) (fun h => h0 ((cond1_iff t).mp h)) (fun h => (cond2_iff t).mp h h10) ((cond3_iff t).mpr h10) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves_narrow_idle m c t h10, after_4]
      unfold wideAt; rw [if_neg h10]
      iintro ⟨⟨HS, Hg⟩, Ho, ⟨%d0, H0⟩, ⟨%d1, H1⟩, ⟨%d2, H2⟩, ⟨%d3, H3⟩, ⟨%d4, H4⟩, ⟨%d5, H5⟩⟩
      iapply (run_mid c (grid0.coords t) _ _ _ _ _ _ _ _ _ _ _ _ _ _ (iblk m c 0 t) (iblk m c 1 t) (iblk m c 2 t) (iblk m c 3 t)
        ((dats m 0 c).before 5 t d5) (hs m c t) (fun h => h0 ((cond1_iff t).mp h)) ((cond2_iff t).mpr h10) (fun h => h10 ((cond3_iff t).mp h)) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem defs_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hN : cfg0.N = 88 := N_0
  rw [show (dats m 0 c).Φ (Fin.last cfg0.N) = inv m c cfg0.N (Nat.le_refl _) from rfl, inv_pos m c _ _ (by omega), launch_eq]
  iintro ⟨HS, Hg⟩
  isplitl [HS]
  · iexists _; iexact HS
  iexact Hg

/-! ## The run and the frame -/

set_option backward.isDefEq.respectTransparency.types false in
/-- The run: every array at what the data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_main_quiescent m ρ))

end Cert.InprojIdeal.Layer

end
-- ==== Proof.InprojFrame.lean ====
/-
  The input projection: the idealized module is the module itself, so the frame of the one is the frame of the other.
-/
module

public import proofs.«01_k».proof.Proof.Gen.Inproj
public import proofs.«01_k».proof.Proof.InprojIdealFrame

@[expose] public section

set_option maxRecDepth 16384

noncomputable section

open Idealize.ShloMosaic Idealize.ShloMosaic.TcCoe Idealize.SL.Sem

namespace Cert.Inproj.Layer

open Cert.Inproj Cert.Inproj.Gen

variable {F : FTy → Type} [FloatOps F]

theorem bodies_eq : (defs₀ (F := F)) = Cert.InprojIdeal.defs₀ (F := F) := by
  unfold defs₀ Cert.InprojIdeal.defs₀
  refine congrArg Defs.onTc ?_
  funext l a
  match l, a with
  | 0, (t, s) => with_unfolding_all rfl

theorem table_eq : (defs (F := F)) = Cert.InprojIdeal.defs (F := F) := congrArg (Pipeline.defs pcfgs) bodies_eq

/-- Every run ends, with the argument arrays unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [table_eq]
  with_unfolding_all exact Cert.InprojIdeal.Layer.frame (F := F) m ρ

end Cert.Inproj.Layer
end
-- ==== Proof.InprojClaim.lean ====
/-
  The input projection: what the kernel's two arrays and the reference's two arrays hold.
-/
module

public import proofs.«01_k».proof.Proof.Rms
public import proofs.«01_k».proof.Proof.InprojIdealFrame
public import proofs.«01_k».proof.Proof.Gen.InprojRefIdeal.Run
public import Idealize.ShloMosaic.Lib.Pipeline.ValueKit

@[expose] public section

set_option maxRecDepth 16384

noncomputable section

open Idealize.ShloMosaic Idealize.ShloMosaic.TcCoe Idealize.SL.Sem

namespace Cert.InprojIdeal.Layer

open Cert.InprojIdeal Cert.InprojIdeal.Gen Cert.Layer

/-- The normalised row. -/
def hid (x : S8192x2048.Idx → EReal) (g : S2x2048.Idx → EReal) (i : Fin 8192) (k : Fin 2048) : EReal :=
  rms (fun j => x (ix2 i j)) (g (ix2 (0 : Fin 2) k)) k

/-- The wide product. -/
def wide (x : S8192x2048.Idx → EReal) (g : S2x2048.Idx → EReal) (w : S2x2048x15360.Idx → EReal) : S8192x15360.Idx → EReal := fun i =>
  ∑ k : Fin 2048, hid x g (i 0) k * w (ix3 (0 : Fin 2) k (i 1 : Fin 15360))

/-- The narrow product. -/
def narrow (x : S8192x2048.Idx → EReal) (g : S2x2048.Idx → EReal) (w : S2x2048x128.Idx → EReal) : S8192x128.Idx → EReal := fun i =>
  ∑ k : Fin 2048, hid x g (i 0) k * w (ix3 (0 : Fin 2) k (i 1 : Fin 128))

theorem pay1_at (x : Vec Ideal S1024x2048 .f32) (g : Vec Ideal S1x1x2048 .f32) (r : Fin 1024) (k : Fin 2048) :
    k0_pay1 (F := Ideal) x g (ix2 r k) = rms (fun j => x (ix2 r j)) (g (ix3 (0 : Fin 1) (0 : Fin 1) k)) k := by
  pointwise [k0_pay1, rms]

theorem pay2_at (h : Vec Ideal S1024x2048 .bf16) (w : Vec Ideal S1x2048x1536 .bf16) (r : Fin 1024) (j : Fin 1536) :
    k0_pay2 (F := Ideal) h w (ix2 r j) = ∑ k : Fin 2048, (show EReal from h (ix2 r k)) * (show EReal from w (ix3 (0 : Fin 1) k j)) := by
  pointwise [k0_pay2]

theorem pay3_at (h : Vec Ideal S1024x2048 .bf16) (w : Vec Ideal S1x2048x128 .f32) (r : Fin 1024) (j : Fin 128) :
    k0_pay3 (F := Ideal) h w (ix2 r j) = ∑ k : Fin 2048, (show EReal from h (ix2 r k)) * (show EReal from w (ix3 (0 : Fin 1) k j)) := by
  pointwise [k0_pay3]

variable (m : (ℓ : Loc nD τ sig) → Buf (Elt Ideal) ℓ) (ρ : Dev nD → PrngReg)

theorem idx : ∀ t : Fin cfg0.N, win0_0.index t = ![t.val / 11, 0] ∧ win0_1.index t = ![0, 0, 0] ∧ win0_2.index t = ![0, 0, min (t.val % 11) 9]
      ∧ win0_3.index t = ![0, 0, 0] ∧ win0_4.index t = ![t.val / 11, min (t.val % 11) 9] ∧ win0_5.index t = ![t.val / 11, 0] :=
  (by decide +kernel : ∀ t : Fin grid0.N, _)

theorem pt_lt (t : Fin cfg0.N) : t.val < 88 := lt_of_lt_of_eq t.isLt N_0

/-- Row `r` of the point's row block. -/
def row (t : Fin cfg0.N) (r : Fin 1024) : Fin 8192 := ⟨t.val / 11 * 1024 + r.val, by have := pt_lt t; omega⟩

/-- Column `l` of the point's tile. -/
def col (t : Fin cfg0.N) (l : Fin 1536) : Fin 15360 := ⟨min (t.val % 11) 9 * 1536 + l.val, by omega⟩

theorem rd0 (c : Dev nD) (t : Fin cfg0.N) (r : Fin 1024) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k : Fin 2048) :
    iblk m c 1 t (ix3 (0 : Fin 1) (0 : Fin 1) k) = m ((c : Thread nD τ).loc main_arg1) (ix2 (0 : Fin 2) k) := by
  blk_point [iblk, V, idx t]

theorem rd2 (c : Dev nD) (t : Fin cfg0.N) (k : Fin 2048) (l : Fin 1536) :
    iblk m c 2 t (ix3 (0 : Fin 1) k l) = m ((c : Thread nD τ).loc main_arg2) (ix3 (0 : Fin 2) k (col t l)) := by
  unfold col
  blk_point [iblk, V, idx t]

theorem rd3 (c : Dev nD) (t : Fin cfg0.N) (k : Fin 2048) (l : Fin 128) :
    iblk m c 3 t (ix3 (0 : Fin 1) k l) = m ((c : Thread nD τ).loc main_arg3) (ix3 (0 : Fin 2) k l) := by
  blk_point [iblk, V, idx t]

theorem row_start (t : Fin cfg0.N) (r : Fin 1024) : row (start t) r = row t r := Fin.ext (by
  show (t.val - t.val % 11) / 11 * 1024 + r.val = t.val / 11 * 1024 + r.val
  omega)

theorem row_wide (t : Fin cfg0.N) (r : Fin 1024) : row (wideAt t) r = row t r := by
  unfold wideAt
  split
  · exact Fin.ext (by show (t.val - 1) / 11 * 1024 + r.val = t.val / 11 * 1024 + r.val; omega)
  · rfl

theorem col_wide (t : Fin cfg0.N) (l : Fin 1536) : col (wideAt t) l = col t l := by
  unfold wideAt
  split
  · exact Fin.ext (by show min ((t.val - 1) % 11) 9 * 1536 + l.val = min (t.val % 11) 9 * 1536 + l.val; omega)
  · rfl

/-- The scratch holds the normalised rows of the point's row block. -/
theorem hs_at (c : Dev nD) (t : Fin cfg0.N) (r : Fin 1024) (k : Fin 2048) :
    hs m c t (ix2 r k) = hid (m ((c : Thread nD τ).loc main_arg0)) (m ((c : Thread nD τ).loc main_arg1)) (row t r) k := by
  unfold hs
  refine (pay1_at _ _ r k).trans ?_
  simp only [rd0, rd1, row_start]
  rfl

theorem final_wide (c : Dev nD) : (dats m 0 c).arrAt 4 (cfgs 0).N
    = wide (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after_4]
  idx_vars y
  have := pt_lt t
  refine (pay2_at _ _ y0 y1).trans ?_
  simp only [hs_at, rd2, row_wide, col_wide]
  have e : ((View.whole main_v1_0).slice (win0_4.rect t)).emb (ix2 y0 y1) = ix2 (row t y0) (col t y1) := by
    unfold row col
    blk_ext [idx t]
  rw [e]
  rfl

theorem final_narrow (c : Dev nD) : (dats m 0 c).arrAt 5 (cfgs 0).N
    = narrow (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after_5]
  idx_vars y
  have := pt_lt t
  refine (pay3_at _ _ y0 y1).trans ?_
  simp only [hs_at, rd3]
  have e : ((View.whole main_v1_1).slice (win0_5.rect t)).emb (ix2 y0 y1) = ix2 (row t y0) y1 := by
    unfold row
    blk_ext [idx t]
  rw [e]
  rfl

/-- The run, with the two result arrays named. -/
theorem run_blocks : θ_run defs (onTc (τ := τ) (main (F := Ideal))) ⟨m, fun _ => 0, ρ⟩ fun r => ∀ c : Dev nD,
      r.2.mem ((c : Thread nD τ).loc main_v1_0) = (dats m 0 c).arrAt 4 (cfgs 0).N
      ∧ r.2.mem ((c : Thread nD τ).loc main_v1_1) = (dats m 0 c).arrAt 5 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, h.2 c⟩)
    (θ_run_and (run_main m ρ) (frame_of m ρ (dats m) (A_eq m) (run_main m ρ)))

end Cert.InprojIdeal.Layer

namespace Cert.InprojRefIdeal.Layer

open Cert.InprojRefIdeal Cert.InprojRefIdeal.Gen Cert.Layer
open Cert.InprojIdeal.Layer (hid wide narrow)

def RN (y : FVec Ideal S8192x2048 .f32) (g : FVec Ideal S2x2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![0, 0] g slices_S2x2048_S1x2048_0_0) shapeCasts_S1x2048_S2048)))

theorem rn_at (y : FVec Ideal S8192x2048 .f32) (g : FVec Ideal S2x2048 .f32) (t : Fin 8192) (j : Fin 2048) :
    RN y g (ix2 t j) = hid y g t j := by
  pointwise [RN, hid, rms]

def WD (h : FVec Ideal S8192x2048 .f32) (w : FVec Ideal S2x2048x15360 .bf16) : FVec Ideal S8192x15360 .f32 :=
  Host.dotGeneral dot_S8192x2048_S2048x15360_S8192x15360_1_0_0_1_n_n none h (extf .f32 (shapeCast _ (extractStridedSlice S1x2048x15360 ![0, 0, 0] w slices_S2x2048x15360_S1x2048x15360_0_0_0) shapeCasts_S1x2048x15360_S2048x15360) bitsLt_bf16_f32)

theorem wd_at (h : FVec Ideal S8192x2048 .f32) (w : FVec Ideal S2x2048x15360 .bf16) (t : Fin 8192) (j : Fin 15360) :
    WD h w (ix2 t j) = ∑ k : Fin 2048, (show EReal from h (ix2 t k)) * (show EReal from w (ix3 (0 : Fin 2) k j)) := by
  pointwise [WD]

def NR (h : FVec Ideal S8192x2048 .f32) (w : FVec Ideal S2x2048x128 .f32) : FVec Ideal S8192x128 .f32 :=
  Host.dotGeneral dot_S8192x2048_S2048x128_S8192x128_1_0_0_1_n_n none h (shapeCast _ (extractStridedSlice S1x2048x128 ![0, 0, 0] w slices_S2x2048x128_S1x2048x128_0_0_0) shapeCasts_S1x2048x128_S2048x128)

theorem nr_at (h : FVec Ideal S8192x2048 .f32) (w : FVec Ideal S2x2048x128 .f32) (t : Fin 8192) (j : Fin 128) :
    NR h w (ix2 t j) = ∑ k : Fin 2048, (show EReal from h (ix2 t k)) * (show EReal from w (ix3 (0 : Fin 2) k j)) := by
  pointwise [NR]

/-- The reference's wide product. -/
theorem wide_eq (x : FVec Ideal S8192x2048 .f32) (g : FVec Ideal S2x2048 .f32) (w : FVec Ideal S2x2048x15360 .bf16) :
    WD (RN x g) w = wide x g w := by
  funext i
  idx_vars i
  refine (wd_at _ _ i0 i1).trans ?_
  exact Fin.sum_fin_congr fun k => congrArg (fun z : EReal => z * (show EReal from w (ix3 (0 : Fin 2) k i1))) (rn_at x g i0 k)

/-- The reference's narrow product. -/
theorem narrow_eq (x : FVec Ideal S8192x2048 .f32) (g : FVec Ideal S2x2048 .f32) (w : FVec Ideal S2x2048x128 .f32) :
    NR (RN x g) w = narrow x g w := by
  funext i
  idx_vars i
  refine (nr_at _ _ i0 i1).trans ?_
  exact Fin.sum_fin_congr fun k => congrArg (fun z : EReal => z * (show EReal from w (ix3 (0 : Fin 2) k i1))) (rn_at x g i0 k)

end Cert.InprojRefIdeal.Layer

end
-- ==== Proof.MlpBCases.lean ====
/-
  What the feed-forward kernel holds after a grid point, over what it held after the point before.
  The call of the second layer.
-/
module

public import proofs.«01_k».proof.Proof.Gen.MlpBIdeal.Value
public import Idealize.ShloMosaic.Lib.Pipeline.ValueKit

@[expose] public section

set_option maxRecDepth 16384

noncomputable section

open Idealize.ShloMosaic Idealize.ShloMosaic.TcCoe Idealize.SL.Sem

namespace Cert.MlpBIdeal.Layer

open Cert.MlpBIdeal Cert.MlpBIdeal.Gen

variable (m : (ℓ : Loc nD τ sig) → Buf (Elt Ideal) ℓ)

theorem h_A (c : Dev nD) (t : Fin cfg0.N) (h0 : t.val % 16 = 0) :
    (outsAt0 m c t.val t.isLt).2 = k0_pay1 (iblk m c 0 t) (iblk m c 1 t) := by
  rw [outsAt0_A m c t h0 (by omega)]; frame_out

theorem o_A (c : Dev nD) (t : Fin cfg0.N) (h0 : t.val % 16 = 0) :
    (outsAt0 m c t.val t.isLt).1 = k0_pay3 (k0_pay1 (iblk m c 0 t) (iblk m c 1 t)) (iblk m c 2 t) (k0_pay2 (F := Ideal)) (iblk m c 3 t) := by
  rw [outsAt0_A m c t h0 (by omega)]; frame_out

theorem h_step (c : Dev nD) (t : Fin cfg0.N) (h0 : ¬t.val % 16 = 0) :
    (outsAt0 m c t.val t.isLt).2 = (outsAt0 m c (t.val - 1) (Nat.lt_of_le_of_lt (Nat.sub_le _ _) t.isLt)).2 := by
  by_cases h1 : t.val % 16 = 15
  · rw [outsAt0_C m c t h0 h1]; rfl
  · rw [outsAt0_B m c t h0 h1]; rfl

theorem o_B (c : Dev nD) (t : Fin cfg0.N) (h0 : ¬t.val % 16 = 0) (h1 : ¬t.val % 16 = 15) :
    (outsAt0 m c t.val t.isLt).1 = k0_pay3 (outsAt0 m c (t.val - 1) (Nat.lt_of_le_of_lt (Nat.sub_le _ _) t.isLt)).2 (iblk m c 2 t)
      (outsAt0 m c (t.val - 1) (Nat.lt_of_le_of_lt (Nat.sub_le _ _) t.isLt)).1 (iblk m c 3 t) := by
  rw [outsAt0_B m c t h0 h1]; frame_out
  exact congrArg (fun h => k0_pay3 (F := Ideal) h (iblk m c 2 t) (outsAt0 m c (t.val - 1) (Nat.lt_of_le_of_lt (Nat.sub_le _ _) t.isLt)).1 (iblk m c 3 t))
    ((Memref.isWhole_whole cc0_scratch0).read_unread _)

theorem o_C (c : Dev nD) (t : Fin cfg0.N) (h0 : ¬t.val % 16 = 0) (h1 : t.val % 16 = 15) :
    (outsAt0 m c t.val t.isLt).1 = k0_pay4 (iblk m c 0 t) (k0_pay3 (outsAt0 m c (t.val - 1) (Nat.lt_of_le_of_lt (Nat.sub_le _ _) t.isLt)).2 (iblk m c 2 t)
      (outsAt0 m c (t.val - 1) (Nat.lt_of_le_of_lt (Nat.sub_le _ _) t.isLt)).1 (iblk m c 3 t)) (iblk m c 4 t) := by
  rw [outsAt0_C m c t h0 h1]; frame_out
  exact congrArg (fun h => k0_pay4 (F := Ideal) (iblk m c 0 t) (k0_pay3 (F := Ideal) h (iblk m c 2 t)
    (outsAt0 m c (t.val - 1) (Nat.lt_of_le_of_lt (Nat.sub_le _ _) t.isLt)).1 (iblk m c 3 t)) (iblk m c 4 t))
    ((Memref.isWhole_whole cc0_scratch0).read_unread _)

end Cert.MlpBIdeal.Layer

end
-- ==== Proof.MlpBArray.lean ====
/-
  The feed-forward kernel: the array its grid leaves. The sixteen tiles of the hidden axis add up to the whole product.
  The call of the second layer.
-/
module

public import proofs.«01_k».proof.Proof.Rms
public import proofs.«01_k».proof.Proof.MlpBCases

@[expose] public section

set_option maxRecDepth 16384

noncomputable section

open Idealize.ShloMosaic Idealize.ShloMosaic.TcCoe Idealize.SL.Sem

namespace Cert.MlpBIdeal.Layer

open Cert.MlpBIdeal Cert.MlpBIdeal.Gen Cert.Layer

/-- The squared positive part. -/
def act (s : EReal) : EReal := max s 0 * max s 0

/-- The normalised row. -/
def hid (x : S8192x2048.Idx → EReal) (g : S2x2048.Idx → EReal) (i : Fin 8192) (k : Fin 2048) : EReal :=
  rms (fun j => x (ix2 i j)) (g (ix2 (1 : Fin 2) k)) k

/-- What hidden unit `l` adds to entry `j` of row `i`. -/
def unit (x : S8192x2048.Idx → EReal) (g : S2x2048.Idx → EReal) (wu : S2x2048x8192.Idx → EReal) (wd : S2x8192x2048.Idx → EReal)
    (i : Fin 8192) (j : Fin 2048) (l : Fin 8192) : EReal :=
  act (∑ k : Fin 2048, hid x g i k * wu (ix3 (1 : Fin 2) k l)) * wd (ix3 (1 : Fin 2) l j)

/-- The result: the residual plus the normalised output of the two products. -/
def out (x : S8192x2048.Idx → EReal) (g : S2x2048.Idx → EReal) (wu : S2x2048x8192.Idx → EReal) (wd : S2x8192x2048.Idx → EReal)
    (gp : S2x2048.Idx → EReal) : S8192x2048.Idx → EReal := fun i =>
  x i + rms (fun j => ∑ l : Fin 8192, unit x g wu wd (i 0) j l) (gp (ix2 (1 : Fin 2) (i 1 : Fin 2048))) (i 1)

theorem pay1_at (x : Vec Ideal S1024x2048 .f32) (g : Vec Ideal S1x1x2048 .f32) (r : Fin 1024) (k : Fin 2048) :
    k0_pay1 (F := Ideal) x g (ix2 r k) = rms (fun j => x (ix2 r j)) (g (ix3 (0 : Fin 1) (0 : Fin 1) k)) k := by
  pointwise [k0_pay1, rms]

theorem pay2_at (r : Fin 1024) (k : Fin 2048) : (k0_pay2 (F := Ideal) (ix2 r k) : EReal) = 0 := by
  pointwise [k0_pay2]

theorem pay3_at (h : Vec Ideal S1024x2048 .bf16) (wu : Vec Ideal S1x2048x512 .bf16) (o : Vec Ideal S1024x2048 .f32) (wd : Vec Ideal S1x512x2048 .bf16)
    (r : Fin 1024) (j : Fin 2048) :
    k0_pay3 (F := Ideal) h wu o wd (ix2 r j) = (show EReal from o (ix2 r j))
      + ∑ l : Fin 512, act (∑ k : Fin 2048, (show EReal from h (ix2 r k)) * (show EReal from wu (ix3 (0 : Fin 1) k l))) * (show EReal from wd (ix3 (0 : Fin 1) l j)) := by
  pointwise [k0_pay3, act]

theorem pay4_at (x o : Vec Ideal S1024x2048 .f32) (g : Vec Ideal S1x1x2048 .f32) (r : Fin 1024) (j : Fin 2048) :
    k0_pay4 (F := Ideal) x o g (ix2 r j) = (show EReal from x (ix2 r j)) + rms (fun j => o (ix2 r j)) (g (ix3 (0 : Fin 1) (0 : Fin 1) j)) j := by
  pointwise [k0_pay4, rms]

variable (m : (ℓ : Loc nD τ sig) → Buf (Elt Ideal) ℓ)

theorem idx : ∀ t : Fin cfg0.N, win0_0.index t = ![t.val / 16, 0] ∧ win0_1.index t = ![1, 0, 0] ∧ win0_2.index t = ![1, 0, t.val % 16]
      ∧ win0_3.index t = ![1, t.val % 16, 0] ∧ win0_4.index t = ![1, 0, 0] ∧ win0_5.index t = ![t.val / 16, 0] :=
  (by decide +kernel : ∀ t : Fin grid0.N, _)

theorem pt_lt (t : Fin cfg0.N) : t.val < 128 := lt_of_lt_of_eq t.isLt N_0

/-- Row `r` of block row `t / 16`. -/
def row (t : Fin cfg0.N) (r : Fin 1024) : Fin 8192 := ⟨t.val / 16 * 1024 + r.val, by have := pt_lt t; omega⟩

/-- Hidden unit `l` of tile `t % 16`. -/
def hcol (t : Fin cfg0.N) (l : Fin 512) : Fin 8192 := ⟨t.val % 16 * 512 + l.val, by omega⟩

theorem rd0 (c : Dev nD) (t : Fin cfg0.N) (r : Fin 1024) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k : Fin 2048) :
    iblk m c 1 t (ix3 (0 : Fin 1) (0 : Fin 1) k) = m ((c : Thread nD τ).loc main_arg1) (ix2 (1 : Fin 2) k) := by
  blk_point [iblk, V, idx t]

theorem rd2 (c : Dev nD) (t : Fin cfg0.N) (k : Fin 2048) (l : Fin 512) :
    iblk m c 2 t (ix3 (0 : Fin 1) k l) = m ((c : Thread nD τ).loc main_arg2) (ix3 (1 : Fin 2) k (hcol t l)) := by
  unfold hcol
  blk_point [iblk, V, idx t]

theorem rd3 (c : Dev nD) (t : Fin cfg0.N) (l : Fin 512) (j : Fin 2048) :
    iblk m c 3 t (ix3 (0 : Fin 1) l j) = m ((c : Thread nD τ).loc main_arg3) (ix3 (1 : Fin 2) (hcol t l) j) := by
  unfold hcol
  blk_point [iblk, V, idx t]

theorem rd4 (c : Dev nD) (t : Fin cfg0.N) (k : Fin 2048) :
    iblk m c 4 t (ix3 (0 : Fin 1) (0 : Fin 1) k) = m ((c : Thread nD τ).loc main_arg4) (ix2 (1 : Fin 2) k) := by
  blk_point [iblk, V, idx t]

/-- The carried rows, at every point, are the normalised rows of the point's block row. -/
theorem h_at (c : Dev nD) : ∀ (n : ℕ) (hn : n < cfg0.N) (r : Fin 1024) (k : Fin 2048),
    (outsAt0 m c n hn).2 (ix2 r k) = hid (m ((c : Thread nD τ).loc main_arg0)) (m ((c : Thread nD τ).loc main_arg1)) (row ⟨n, hn⟩ r) k := by
  intro n
  induction n with
  | zero =>
    intro hn r k
    rw [h_A m c ⟨0, hn⟩ rfl]
    refine (pay1_at _ _ r k).trans ?_
    simp only [rd0, rd1]
    rfl
  | succ n ih =>
    intro hn r k
    by_cases h0 : (n + 1) % 16 = 0
    · rw [h_A m c ⟨n + 1, hn⟩ h0]
      refine (pay1_at _ _ r k).trans ?_
      simp only [rd0, rd1]
      rfl
    · rw [h_step m c ⟨n + 1, hn⟩ h0]
      refine (ih _ r k).trans ?_
      have e : row ⟨n, Nat.lt_of_succ_lt hn⟩ r = row ⟨n + 1, hn⟩ r := Fin.ext (by simp only [row]; omega)
      exact congrArg (fun i => hid _ _ i k) e

/-- What point `t` adds to entry `j` of row `r`. -/
def term (c : Dev nD) (r : Fin 1024) (j : Fin 2048) (t : Fin cfg0.N) : EReal :=
  ∑ l : Fin 512, unit (m ((c : Thread nD τ).loc main_arg0)) (m ((c : Thread nD τ).loc main_arg1)) (m ((c : Thread nD τ).loc main_arg2)) (m ((c : Thread nD τ).loc main_arg3)) (row t r) j (hcol t l)

/-- One step over carried rows `h` known to be the normalised ones. -/
theorem step (c : Dev nD) (t : Fin cfg0.N) (h : Vec Ideal S1024x2048 .bf16) (o : Vec Ideal S1024x2048 .f32)
    (hh : ∀ r k, h (ix2 r k) = hid (m ((c : Thread nD τ).loc main_arg0)) (m ((c : Thread nD τ).loc main_arg1)) (row t r) k) (r : Fin 1024) (j : Fin 2048) :
    k0_pay3 (F := Ideal) h (iblk m c 2 t) o (iblk m c 3 t) (ix2 r j) = (show EReal from o (ix2 r j)) + term m c r j t := by
  refine (pay3_at _ _ _ _ r j).trans ?_
  unfold term unit
  simp only [hh, rd2, rd3]

theorem row_pred (t : Fin cfg0.N) (h0 : ¬t.val % 16 = 0) (r : Fin 1024) :
    row ⟨t.val - 1, Nat.lt_of_le_of_lt (Nat.sub_le _ _) t.isLt⟩ r = row t r := Fin.ext (by simp only [row]; omega)

theorem h_pred (c : Dev nD) (t : Fin cfg0.N) (h0 : ¬t.val % 16 = 0) (r : Fin 1024) (k : Fin 2048) :
    (outsAt0 m c (t.val - 1) (Nat.lt_of_le_of_lt (Nat.sub_le _ _) t.isLt)).2 (ix2 r k)
      = hid (m ((c : Thread nD τ).loc main_arg0)) (m ((c : Thread nD τ).loc main_arg1)) (row t r) k :=
  (h_at m c _ _ r k).trans (congrArg (fun i => hid _ _ i k) (row_pred t h0 r))

/-- The running sum at entry `j` of row `r`, before the last point's normalisation. -/
def acc (c : Dev nD) (r : Fin 1024) (j : Fin 2048) (n : ℕ) (hn : n < cfg0.N) : EReal :=
  if n % 16 = 15 then (show EReal from (outsAt0 m c (n - 1) (Nat.lt_of_le_of_lt (Nat.sub_le _ _) hn)).1 (ix2 r j)) + term m c r j ⟨n, hn⟩
  else (outsAt0 m c n hn).1 (ix2 r j)

theorem acc_A (c : Dev nD) (r : Fin 1024) (j : Fin 2048) (t : Fin cfg0.N) (h0 : t.val % 16 = 0) :
    acc m c r j t.val t.isLt = 0 + term m c r j t := by
  unfold acc
  rw [if_neg (by omega), o_A m c t h0]
  refine (step m c t _ _ (fun r k => ?_) r j).trans (congrArg (· + _) (pay2_at r j))
  rw [← h_A m c t h0]
  exact h_at m c _ _ r k

theorem acc_S (c : Dev nD) (r : Fin 1024) (j : Fin 2048) (t : Fin cfg0.N) (h0 : ¬t.val % 16 = 0) :
    acc m c r j t.val t.isLt = acc m c r j (t.val - 1) (Nat.lt_of_le_of_lt (Nat.sub_le _ _) t.isLt) + term m c r j t := by
  have e : acc m c r j (t.val - 1) (Nat.lt_of_le_of_lt (Nat.sub_le _ _) t.isLt)
      = (outsAt0 m c (t.val - 1) (Nat.lt_of_le_of_lt (Nat.sub_le _ _) t.isLt)).1 (ix2 r j) := if_neg (by omega)
  rw [e]
  by_cases h1 : t.val % 16 = 15
  · exact if_pos h1
  · refine (if_neg h1).trans ?_
    rw [o_B m c t h0 h1]
    exact step m c t _ _ (h_pred m c t h0) r j

/-- The whole sum over the hidden axis. -/
theorem acc_last (c : Dev nD) (r : Fin 1024) (j : Fin 2048) (t : Fin cfg0.N) (h1 : t.val % 16 = 15) :
    acc m c r j t.val t.isLt
      = ∑ l : Fin 8192, unit (m ((c : Thread nD τ).loc main_arg0)) (m ((c : Thread nD τ).loc main_arg1)) (m ((c : Thread nD τ).loc main_arg2)) (m ((c : Thread nD τ).loc main_arg3)) (row t r) j l := by
  rw [Pipeline.eq_sum_fin_of_reset_step_of_flush (fun n hn => acc m c r j n hn) 16 0 (term m c r j) (acc_A m c r j) (acc_S m c r j) t h1, zero_add]
  unfold term
  refine Fin.sum_mul_add_congr fun s k hl => ?_
  have hr : row ⟨16 * (t.val / 16) + s.val, Pipeline.run_point_lt_of_flush t h1 s⟩ r = row t r := Fin.ext (by simp only [row]; omega)
  have hc : hcol ⟨16 * (t.val / 16) + s.val, Pipeline.run_point_lt_of_flush t h1 s⟩ k = ⟨s.val * 512 + k.val, hl⟩ := Fin.ext (by simp only [hcol]; omega)
  rw [hr, hc]

theorem last_at (c : Dev nD) (t : Fin cfg0.N) (h1 : t.val % 16 = 15) (r : Fin 1024) (j : Fin 2048) :
    (outsAt0 m c t.val t.isLt).1 (ix2 r j)
      = out (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) := by
  have h0 : ¬t.val % 16 = 0 := by omega
  rw [o_C m c t h0 h1]
  refine (pay4_at _ _ _ r j).trans ?_
  rw [rd0, rd4]
  unfold out
  refine congrArg (fun f : Fin 2048 → EReal => _ + rms f _ j) (funext fun j' => ?_)
  refine (step m c t _ _ (h_pred m c t h0) r j').trans ?_
  refine Eq.trans ?_ (acc_last m c r j' t h1)
  exact (if_pos h1).symm

theorem final (c : Dev nD) : (dats m 0 c).arrAt 5 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  have := pt_lt t
  refine (last_at m c t ((flush0_5 t).mp hf) y0 y1).trans ?_
  have e : ((View.whole main_v4).slice (win0_5.rect t)).emb (ix2 y0 y1) = ix2 (row t y0) y1 := by
    unfold row
    blk_ext [idx t]
  rw [e]

end Cert.MlpBIdeal.Layer

end
-- ==== Proof.MlpBRef.lean ====
/-
  The feed-forward reference: its term, stage by stage, and the array it is.
  The call of the second layer.
-/
module

public import proofs.«01_k».proof.Proof.MlpBArray
public import proofs.«01_k».proof.Proof.Gen.MlpBRefIdeal.Run

@[expose] public section

set_option maxRecDepth 16384

noncomputable section

open Idealize.ShloMosaic Idealize.ShloMosaic.TcCoe Idealize.SL.Sem

namespace Cert.MlpBRefIdeal.Layer

open Cert.MlpBRefIdeal Cert.MlpBRefIdeal.Gen Cert.MlpBRefIdeal.Value Cert.Layer Cert.MlpBIdeal.Layer

def RN (y : FVec Ideal S8192x2048 .f32) (g : FVec Ideal S2x2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] g slices_S2x2048_S1x2048_1_0) shapeCasts_S1x2048_S2048)))

theorem rn_at (y : FVec Ideal S8192x2048 .f32) (g : FVec Ideal S2x2048 .f32) (t : Fin 8192) (j : Fin 2048) :
    RN y g (ix2 t j) = rms (fun j => y (ix2 t j)) (g (ix2 (1 : Fin 2) j)) j := by
  pointwise [RN, rms]

def UP (h : FVec Ideal S8192x2048 .f32) (w : FVec Ideal S2x2048x8192 .f32) : FVec Ideal S8192x8192 .f32 :=
  Host.dotGeneral dot_S8192x2048_S2048x8192_S8192x8192_1_0_0_1_n_n none h (shapeCast _ (extractStridedSlice S1x2048x8192 ![1, 0, 0] w slices_S2x2048x8192_S1x2048x8192_1_0_0) shapeCasts_S1x2048x8192_S2048x8192)

theorem up_at (h : FVec Ideal S8192x2048 .f32) (w : FVec Ideal S2x2048x8192 .f32) (t l : Fin 8192) :
    UP h w (ix2 t l) = ∑ k : Fin 2048, (show EReal from h (ix2 t k)) * (show EReal from w (ix3 (1 : Fin 2) k l)) := by
  pointwise [UP]

def SQ (u : FVec Ideal S8192x8192 .f32) : FVec Ideal S8192x8192 .f32 :=
  mulf (maximumf u (broadcastInDim S8192x8192 ![] bcast_S_S8192x8192 (constant S_ .f32 0x00000000#32))) (maximumf u (broadcastInDim S8192x8192 ![] bcast_S_S8192x8192 (constant S_ .f32 0x00000000#32)))

theorem sq_at (u : FVec Ideal S8192x8192 .f32) (t l : Fin 8192) : SQ u (ix2 t l) = act (u (ix2 t l)) := by
  pointwise [SQ, act]

def DN (q : FVec Ideal S8192x8192 .f32) (w : FVec Ideal S2x8192x2048 .f32) : FVec Ideal S8192x2048 .f32 :=
  Host.dotGeneral dot_S8192x8192_S8192x2048_S8192x2048_1_0_0_1_n_n none q (shapeCast _ (extractStridedSlice S1x8192x2048 ![1, 0, 0] w slices_S2x8192x2048_S1x8192x2048_1_0_0) shapeCasts_S1x8192x2048_S8192x2048)

theorem dn_at (q : FVec Ideal S8192x8192 .f32) (w : FVec Ideal S2x8192x2048 .f32) (t : Fin 8192) (j : Fin 2048) :
    DN q w (ix2 t j) = ∑ l : Fin 8192, (show EReal from q (ix2 t l)) * (show EReal from w (ix3 (1 : Fin 2) l j)) := by
  pointwise [DN]

variable (m : (ℓ : Loc nD τ sig) → Buf (Elt Ideal) ℓ)

theorem stages (c : Dev nD) : res_out0 m c
    = addf (m ((c.tc : Thread nD τ).loc main_arg0)) (RN (DN (SQ (UP (RN (m ((c.tc : Thread nD τ).loc main_arg0)) (m ((c.tc : Thread nD τ).loc main_arg1))) (m ((c.tc : Thread nD τ).loc main_arg2)))) (m ((c.tc : Thread nD τ).loc main_arg3))) (m ((c.tc : Thread nD τ).loc main_arg4))) := by
  unfold res_out0 res_main_v38 RN DN SQ UP
  rfl

/-- The staged term is the layer's result. -/
theorem ref_eq (x : FVec Ideal S8192x2048 .f32) (g : FVec Ideal S2x2048 .f32) (wu : FVec Ideal S2x2048x8192 .f32) (wd : FVec Ideal S2x8192x2048 .f32)
    (gp : FVec Ideal S2x2048 .f32) : addf x (RN (DN (SQ (UP (RN x g) wu)) wd) gp) = out x g wu wd gp := by
  funext i
  idx_vars i
  refine congrArg (fun z : EReal => (show EReal from x (ix2 i0 i1)) + z) ((rn_at _ _ i0 i1).trans ?_)
  refine congrArg (fun f : Fin 2048 → EReal => rms f (gp (ix2 (1 : Fin 2) i1)) i1) (funext fun j => (dn_at _ _ i0 j).trans ?_)
  refine Fin.sum_fin_congr fun l => congrArg (fun z : EReal => z * (show EReal from wd (ix3 (1 : Fin 2) l j))) ((sq_at _ i0 l).trans (congrArg act ((up_at _ _ i0 l).trans ?_)))
  exact Fin.sum_fin_congr fun k => congrArg (fun z : EReal => z * (show EReal from wu (ix3 (1 : Fin 2) k l))) (rn_at x g i0 k)

end Cert.MlpBRefIdeal.Layer

end
-- ==== Proof.MergeBClaim.lean ====
/-
  The merge of the three branches: what the kernel's array and the reference's array hold.
  The call of the second layer.
-/
module

public import proofs.«01_k».proof.Proof.Gen.MergeBIdeal.Value
public import proofs.«01_k».proof.Proof.Gen.MergeBRefIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MergeBIdeal.Layer

open Cert.MergeBIdeal Cert.MergeBIdeal.Gen

/-- The logistic function, as both programs write it. -/
def sgm (z : EReal) : EReal := Ideal.div (Ideal.ofBits .f32 0x3F800000#32) (Ideal.ofBits .f32 0x3F800000#32 + Ideal.exp (-z))

/-- Branch `b`'s rows times its matrix. -/
def proj (h : S8192x1024.Idx → EReal) (w : S2x3x1024x2048.Idx → EReal) (b : Fin 3) (t : Fin 8192) (j : Fin 2048) : EReal :=
  ∑ k : Fin 1024, h (ix2 t k) * w (ix4 (1 : Fin 2) b k j)

/-- Branch `b`'s gate. -/
def gate (z : S8192x15360.Idx → EReal) (b : Fin 3) (t : Fin 8192) (j : Fin 2048) : EReal :=
  sgm (z (ix2 t (⟨9216 + (b.val * 2048 + j.val), by omega⟩ : Fin 15360)))

/-- The merged rows: the gated branches, summed. -/
def out (hm hf ys : S8192x1024.Idx → EReal) (w : S2x3x1024x2048.Idx → EReal) (z : S8192x15360.Idx → EReal) : S8192x2048.Idx → EReal := fun i =>
  gate z 0 (i 0) (i 1) * proj hm w 0 (i 0) (i 1) + gate z 1 (i 0) (i 1) * proj hf w 1 (i 0) (i 1) + gate z 2 (i 0) (i 1) * proj ys w 2 (i 0) (i 1)

theorem pay2_at (g0 : Vec Ideal S1024x512 .f32) (a0 : Vec Ideal S1024x1024 .bf16) (w0 : Vec Ideal S1x1x1024x512 .bf16)
    (g1 : Vec Ideal S1024x512 .f32) (a1 : Vec Ideal S1024x1024 .bf16) (w1 : Vec Ideal S1x1x1024x512 .bf16) (r : Fin 1024) (j : Fin 512) :
    k0_pay2 (F := Ideal) g0 a0 w0 g1 a1 w1 (ix2 r j)
      = sgm (g0 (ix2 r j)) * (∑ k : Fin 1024, (show EReal from a0 (ix2 r k)) * (show EReal from w0 (ix4 (0 : Fin 1) (0 : Fin 1) k j)))
       + sgm (g1 (ix2 r j)) * (∑ k : Fin 1024, (show EReal from a1 (ix2 r k)) * (show EReal from w1 (ix4 (0 : Fin 1) (0 : Fin 1) k j))) := by
  pointwise [k0_pay2, sgm]
  simp only [zero_sub]

theorem pay1_at (acc : Vec Ideal S1024x512 .f32) (g : Vec Ideal S1024x512 .f32) (a : Vec Ideal S1024x1024 .bf16) (w : Vec Ideal S1x1x1024x512 .bf16) (r : Fin 1024) (j : Fin 512) :
    k0_pay1 (F := Ideal) acc (k0_pay3 (F := Ideal) g) a w (ix2 r j)
      = (show EReal from acc (ix2 r j)) + sgm (g (ix2 r j)) * (∑ k : Fin 1024, (show EReal from a (ix2 r k)) * (show EReal from w (ix4 (0 : Fin 1) (0 : Fin 1) k j))) := by
  pointwise [k0_pay1, k0_pay3, sgm]
  simp only [zero_sub]

variable (m : (ℓ : Loc nD τ sig) → Buf (Elt Ideal) ℓ)

theorem idx : ∀ t : Fin cfg0.N, win0_0.index t = ![t.val / 4, 0] ∧ win0_1.index t = ![t.val / 4, 0] ∧ win0_2.index t = ![t.val / 4, 0]
      ∧ win0_3.index t = ![1, 0, 0, t.val % 4] ∧ win0_4.index t = ![t.val / 4, 18 + t.val % 4] ∧ win0_5.index t = ![t.val / 4, 22 + t.val % 4]
      ∧ win0_6.index t = ![t.val / 4, 26 + t.val % 4] ∧ win0_7.index t = ![t.val / 4, t.val % 4] :=
  (by decide +kernel : ∀ t : Fin grid0.N, _)

theorem hz2 : (![0, 0] : Fin 2 → Nat) = fun _ => 0 := funext fun a => by fin_cases a <;> rfl

theorem pt_lt (t : Fin cfg0.N) : t.val < 32 := lt_of_lt_of_eq t.isLt N_0

/-- Row `r` of block row `t / 4`. -/
def row (t : Fin cfg0.N) (r : Fin 1024) : Fin 8192 := ⟨t.val / 4 * 1024 + r.val, by have := pt_lt t; omega⟩

/-- Column `j` of block column `t % 4`. -/
def col (t : Fin cfg0.N) (j : Fin 512) : Fin 2048 := ⟨t.val % 4 * 512 + j.val, by omega⟩

theorem rd0 (c : Dev nD) (t : Fin cfg0.N) (r : Fin 1024) (k : Fin 1024) :
    iblk m c 0 t (ix2 r k) = m ((c : Thread nD τ).loc main_arg0) (ix2 (row t r) k) := by
  have := pt_lt t
  unfold row
  blk_ext [iblk, V, idx t]

theorem rd1 (c : Dev nD) (t : Fin cfg0.N) (r : Fin 1024) (k : Fin 1024) :
    iblk m c 1 t (ix2 r k) = m ((c : Thread nD τ).loc main_arg1) (ix2 (row t r) k) := by
  have := pt_lt t
  unfold row
  blk_ext [iblk, V, idx t]

theorem rd2 (c : Dev nD) (t : Fin cfg0.N) (r : Fin 1024) (k : Fin 1024) :
    iblk m c 2 t (ix2 r k) = m ((c : Thread nD τ).loc main_arg2) (ix2 (row t r) k) := by
  have := pt_lt t
  unfold row
  blk_ext [iblk, V, idx t]

theorem rd3 (c : Dev nD) (t : Fin cfg0.N) (b : Fin 3) (k : Fin 1024) (j : Fin 512) :
    iblk m c 3 t (ix4 (0 : Fin 1) b k j) = m ((c : Thread nD τ).loc main_arg3) (ix4 (1 : Fin 2) b k (col t j)) := by
  unfold col
  blk_point [iblk, V, idx t]

theorem rd4 (c : Dev nD) (t : Fin cfg0.N) (r : Fin 1024) (j : Fin 512) :
    iblk m c 4 t (ix2 r j) = m ((c : Thread nD τ).loc main_arg4) (ix2 (row t r) (⟨9216 + ((0 : Fin 3).val * 2048 + (col t j).val), by omega⟩ : Fin 15360)) := by
  have := pt_lt t
  unfold row col
  blk_ext [iblk, V, idx t]

theorem rd5 (c : Dev nD) (t : Fin cfg0.N) (r : Fin 1024) (j : Fin 512) :
    iblk m c 5 t (ix2 r j) = m ((c : Thread nD τ).loc main_arg4) (ix2 (row t r) (⟨9216 + ((1 : Fin 3).val * 2048 + (col t j).val), by omega⟩ : Fin 15360)) := by
  have := pt_lt t
  unfold row col
  blk_ext [iblk, V, idx t]

theorem rd6 (c : Dev nD) (t : Fin cfg0.N) (r : Fin 1024) (j : Fin 512) :
    iblk m c 6 t (ix2 r j) = m ((c : Thread nD τ).loc main_arg4) (ix2 (row t r) (⟨9216 + ((2 : Fin 3).val * 2048 + (col t j).val), by omega⟩ : Fin 15360)) := by
  have := pt_lt t
  unfold row col
  blk_ext [iblk, V, idx t]

theorem ld3_0 (x : Vec Ideal S1x3x1024x512 .bf16) (k : Fin 1024) (j : Fin 512) : View.ld x r0_2 (ix4 (0 : Fin 1) (0 : Fin 1) k j) = x (ix4 (0 : Fin 1) (0 : Fin 3) k j) := by
  unfold r0_2
  pointwise
theorem ld3_1 (x : Vec Ideal S1x3x1024x512 .bf16) (k : Fin 1024) (j : Fin 512) : View.ld x r0_3 (ix4 (0 : Fin 1) (0 : Fin 1) k j) = x (ix4 (0 : Fin 1) (1 : Fin 3) k j) := by
  unfold r0_3
  pointwise
theorem ld3_2 (x : Vec Ideal S1x3x1024x512 .bf16) (k : Fin 1024) (j : Fin 512) : View.ld x r0_4 (ix4 (0 : Fin 1) (0 : Fin 1) k j) = x (ix4 (0 : Fin 1) (2 : Fin 3) k j) := by
  unfold r0_4
  pointwise

theorem final (c : Dev nD) : (dats m 0 c).arrAt 7 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  idx_vars y
  have := pt_lt t
  unfold out0_7
  rw [View.canon_unit_zero hz2]
  simp only [View.ld_unit_zero (S := S1024x512) hz2, View.ld_unit_zero (S := S1024x1024) hz2]
  refine (pay1_at _ _ _ _ y0 y1).trans ?_
  rw [pay2_at]
  simp only [rd0, rd1, rd2, rd4, rd5, rd6]
  have e : ((View.whole main_v1).slice (win0_7.rect t)).emb (ix2 y0 y1) = ix2 (row t y0) (col t y1) := by
    unfold row col
    blk_ext [idx t]
  rw [e]
  unfold out proj gate
  refine congrArg₂ (· + ·) (congrArg₂ (· + ·) ?_ ?_) ?_
  · exact congrArg _ (Fin.sum_fin_congr fun k => congrArg _ ((ld3_0 _ k y1).trans (rd3 m c t 0 k y1)))
  · exact congrArg _ (Fin.sum_fin_congr fun k => congrArg _ ((ld3_1 _ k y1).trans (rd3 m c t 1 k y1)))
  · exact congrArg _ (Fin.sum_fin_congr fun k => congrArg _ ((ld3_2 _ k y1).trans (rd3 m c t 2 k y1)))

end Cert.MergeBIdeal.Layer

namespace Cert.MergeBRefIdeal.Layer

open Cert.MergeBRefIdeal Cert.MergeBRefIdeal.Gen Cert.MergeBIdeal.Layer

def G (z : FVec Ideal S8192x15360 .f32) : FVec Ideal S8192x3x2048 .f32 :=
  shapeCast _ (Host.divf (broadcastInDim S8192x6144 ![] bcast_S_S8192x6144 (constant S_ .f32 0x3F800000#32)) (addf (broadcastInDim S8192x6144 ![] bcast_S_S8192x6144 (constant S_ .f32 0x3F800000#32)) (Host.exp (Host.negf (extractStridedSlice S8192x6144 ![0, 9216] z slices_S8192x15360_S8192x6144_0_9216))))) shapeCasts_S8192x6144_S8192x3x2048

theorem g_at (z : FVec Ideal S8192x15360 .f32) (t : Fin 8192) (b : Fin 3) (j : Fin 2048) : G z (ix3 t b j) = gate z b t j := by
  pointwise [G, gate, Cert.MergeBIdeal.Layer.sgm]

def ST (hm hf ys : FVec Ideal S8192x1024 .bf16) : FVec Ideal S8192x3x1024 .bf16 :=
  concatenate S8192x3x1024 1 [⟨S8192x1x1024, ((broadcastInDim S8192x1x1024 ![0, 2] bcast_S8192x1024_S8192x1x1024_0_2 hm) : (⟨S8192x1x1024, .bf16⟩ : BufTy).Contents (Elt Ideal))⟩, ⟨S8192x1x1024, ((broadcastInDim S8192x1x1024 ![0, 2] bcast_S8192x1024_S8192x1x1024_0_2 hf) : (⟨S8192x1x1024, .bf16⟩ : BufTy).Contents (Elt Ideal))⟩, ⟨S8192x1x1024, ((broadcastInDim S8192x1x1024 ![0, 2] bcast_S8192x1024_S8192x1x1024_0_2 ys) : (⟨S8192x1x1024, .bf16⟩ : BufTy).Contents (Elt Ideal))⟩] concatenates_S8192x1x1024_S8192x1x1024_S8192x1x1024_S8192x3x1024_d1

theorem st_at0 (hm hf ys : FVec Ideal S8192x1024 .bf16) (t : Fin 8192) (k : Fin 1024) : ST hm hf ys (ix3 t (0 : Fin 3) k) = hm (ix2 t k) := by
  pointwise [ST]
theorem st_at1 (hm hf ys : FVec Ideal S8192x1024 .bf16) (t : Fin 8192) (k : Fin 1024) : ST hm hf ys (ix3 t (1 : Fin 3) k) = hf (ix2 t k) := by
  pointwise [ST]
theorem st_at2 (hm hf ys : FVec Ideal S8192x1024 .bf16) (t : Fin 8192) (k : Fin 1024) : ST hm hf ys (ix3 t (2 : Fin 3) k) = ys (ix2 t k) := by
  pointwise [ST]

def PJ (h : FVec Ideal S8192x3x1024 .bf16) (w : FVec Ideal S2x3x1024x2048 .f32) : FVec Ideal S8192x3x2048 .f32 :=
  transpose S8192x3x2048 [2, 0, 1] (Host.dotGeneral dot_S3x1024x2048_S8192x3x1024_S3x2048x8192_1_2_2_0_0_1 none (shapeCast _ (extractStridedSlice S1x3x1024x2048 ![1, 0, 0, 0] w slices_S2x3x1024x2048_S1x3x1024x2048_1_0_0_0) shapeCasts_S1x3x1024x2048_S3x1024x2048) (extf .f32 h bitsLt_bf16_f32)) transposes_S3x2048x8192_S8192x3x2048_2_0_1

theorem pj_at (h : FVec Ideal S8192x3x1024 .bf16) (w : FVec Ideal S2x3x1024x2048 .f32) (t : Fin 8192) (b : Fin 3) (j : Fin 2048) :
    PJ h w (ix3 t b j) = ∑ k : Fin 1024, (show EReal from w (ix4 (1 : Fin 2) b k j)) * (show EReal from h (ix3 t b k)) := by
  pointwise [PJ]

def MG (g p : FVec Ideal S8192x3x2048 .f32) : FVec Ideal S8192x2048 .bf16 :=
  truncf .bf16 (Host.dotGeneral dot_S8192x3x2048_S8192x3x2048_S8192x2048_1_1_n_n_02_02 none g p) bitsLt_bf16_f32

theorem mg_at (g p : FVec Ideal S8192x3x2048 .f32) (t : Fin 8192) (j : Fin 2048) :
    MG g p (ix2 t j) = ∑ b : Fin 3, (show EReal from g (ix3 t b j)) * (show EReal from p (ix3 t b j)) := by
  pointwise [MG]

/-- The reference's term is the merged rows. -/
theorem ref_eq (hm hf ys : FVec Ideal S8192x1024 .bf16) (w : FVec Ideal S2x3x1024x2048 .f32) (z : FVec Ideal S8192x15360 .f32) :
    MG (G z) (PJ (ST hm hf ys) w) = out hm hf ys w z := by
  funext i
  idx_vars i
  rw [mg_at, Fin.sum_univ_three, g_at, g_at, g_at, pj_at, pj_at, pj_at]
  simp only [st_at0, st_at1, st_at2]
  unfold out proj
  refine congrArg₂ (· + ·) (congrArg₂ (· + ·) ?_ ?_) ?_
  all_goals exact congrArg _ (Fin.sum_fin_congr fun k => mul_comm _ _)

end Cert.MergeBRefIdeal.Layer

end
-- ==== Proof.OutprojBClaim.lean ====
/-
  The output projection: what the kernel's array and the reference's array hold.
  The call of the second layer.
-/
module

public import proofs.«01_k».proof.Proof.Rms
public import proofs.«01_k».proof.Proof.Gen.OutprojBIdeal.Value
public import proofs.«01_k».proof.Proof.Gen.OutprojBRefIdeal.Run
public import Idealize.ShloMosaic.Lib.Pipeline.ValueKit

@[expose] public section

set_option maxRecDepth 16384

noncomputable section

open Idealize.ShloMosaic Idealize.ShloMosaic.TcCoe Idealize.SL.Sem

namespace Cert.OutprojBIdeal.Layer

open Cert.OutprojBIdeal Cert.OutprojBIdeal.Gen Cert.Layer

/-- The result: the residual plus the normalised projection. -/
def out (a : S8192x2048.Idx → EReal) (w : S2x2048x2048.Idx → EReal) (g : S2x2048.Idx → EReal) (x : S8192x2048.Idx → EReal) :
    S8192x2048.Idx → EReal := fun i =>
  x i + rms (fun j => ∑ k : Fin 2048, a (ix2 (i 0 : Fin 8192) k) * w (ix3 (1 : Fin 2) k j)) (g (ix2 (1 : Fin 2) (i 1 : Fin 2048))) (i 1)

theorem pay_at (x : Vec Ideal S512x2048 .f32) (a : Vec Ideal S512x2048 .bf16) (w : Vec Ideal S1x2048x2048 .bf16) (g : Vec Ideal S1x1x2048 .f32)
    (r : Fin 512) (j : Fin 2048) :
    k0_pay1 (F := Ideal) x a w g (ix2 r j)
      = (show EReal from x (ix2 r j)) + rms (fun j => ∑ k : Fin 2048, (show EReal from a (ix2 r k)) * (show EReal from w (ix3 (0 : Fin 1) k j))) (g (ix3 (0 : Fin 1) (0 : Fin 1) j)) j := by
  pointwise [k0_pay1, rms]

variable (m : (ℓ : Loc nD τ sig) → Buf (Elt Ideal) ℓ)

theorem idx : ∀ t : Fin cfg0.N, win0_0.index t = ![t.val, 0] ∧ win0_1.index t = ![1, 0, 0] ∧ win0_2.index t = ![1, 0, 0]
      ∧ win0_3.index t = ![t.val, 0] ∧ win0_4.index t = ![t.val, 0] :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

theorem pt_lt (t : Fin cfg0.N) : t.val < 16 := lt_of_lt_of_eq t.isLt N_0

/-- Row `r` of block `t`. -/
def row (t : Fin cfg0.N) (r : Fin 512) : Fin 8192 := ⟨t.val * 512 + r.val, by have := pt_lt t; omega⟩

theorem rd0 (c : Dev nD) (t : Fin cfg0.N) (r : Fin 512) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k j : Fin 2048) :
    iblk m c 1 t (ix3 (0 : Fin 1) k j) = m ((c : Thread nD τ).loc main_arg1) (ix3 (1 : Fin 2) k j) := by
  blk_point [iblk, V, idx t]

theorem rd2 (c : Dev nD) (t : Fin cfg0.N) (j : Fin 2048) :
    iblk m c 2 t (ix3 (0 : Fin 1) (0 : Fin 1) j) = m ((c : Thread nD τ).loc main_arg2) (ix2 (1 : Fin 2) j) := by
  blk_point [iblk, V, idx t]

theorem rd3 (c : Dev nD) (t : Fin cfg0.N) (r : Fin 512) (k : Fin 2048) :
    iblk m c 3 t (ix2 r k) = m ((c : Thread nD τ).loc main_arg3) (ix2 (row t r) k) := by
  have := pt_lt t
  unfold row
  blk_ext [iblk, V, idx t]

theorem final (c : Dev nD) : (dats m 0 c).arrAt 4 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  idx_vars y
  have := pt_lt t
  unfold out0_4
  rw [View.canon_unit_zero hz2]
  simp only [View.ld_unit_zero (S := S512x2048) hz2, View.ld_unit_zero (S := S1x2048x2048) hz3, View.ld_unit_zero (S := S1x1x2048) hz3]
  refine (pay_at _ _ _ _ y0 y1).trans ?_
  simp only [rd0, rd1, rd2, rd3]
  have e : ((View.whole main_v2).slice (win0_4.rect t)).emb (ix2 y0 y1) = ix2 (row t y0) y1 := by
    unfold row
    blk_ext [idx t]
  rw [e]
  rfl

end Cert.OutprojBIdeal.Layer

namespace Cert.OutprojBRefIdeal.Layer

open Cert.OutprojBRefIdeal Cert.OutprojBRefIdeal.Gen Cert.Layer

def MM (a : FVec Ideal S8192x2048 .bf16) (w : FVec Ideal S2x2048x2048 .f32) : FVec Ideal S8192x2048 .f32 :=
  Host.dotGeneral dot_S8192x2048_S2048x2048_S8192x2048_1_0_0_1_n_n none (extf .f32 a bitsLt_bf16_f32) (shapeCast _ (extractStridedSlice S1x2048x2048 ![1, 0, 0] w slices_S2x2048x2048_S1x2048x2048_1_0_0) shapeCasts_S1x2048x2048_S2048x2048)

theorem mm_at (a : FVec Ideal S8192x2048 .bf16) (w : FVec Ideal S2x2048x2048 .f32) (t : Fin 8192) (j : Fin 2048) :
    MM a w (ix2 t j) = ∑ k : Fin 2048, (show EReal from a (ix2 t k)) * (show EReal from w (ix3 (1 : Fin 2) k j)) := by
  pointwise [MM]

def RN (y : FVec Ideal S8192x2048 .f32) (g : FVec Ideal S2x2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] g slices_S2x2048_S1x2048_1_0) shapeCasts_S1x2048_S2048)))

theorem rn_at (y : FVec Ideal S8192x2048 .f32) (g : FVec Ideal S2x2048 .f32) (t : Fin 8192) (j : Fin 2048) :
    RN y g (ix2 t j) = rms (fun j => y (ix2 t j)) (g (ix2 (1 : Fin 2) j)) j := by
  pointwise [RN, rms]

/-- The reference's term is the layer's result. -/
theorem ref_eq (a : FVec Ideal S8192x2048 .bf16) (w : FVec Ideal S2x2048x2048 .f32) (g : FVec Ideal S2x2048 .f32) (x : FVec Ideal S8192x2048 .f32) :
    addf x (RN (MM a w) g) = Cert.OutprojBIdeal.Layer.out a w g x := by
  funext i
  idx_vars i
  refine congrArg (fun z : EReal => (show EReal from x (ix2 i0 i1)) + z) ((rn_at _ _ i0 i1).trans ?_)
  refine congrArg (fun f : Fin 2048 → EReal => rms f (g (ix2 (1 : Fin 2) i1)) i1) (funext fun j => mm_at a w i0 j)

end Cert.OutprojBRefIdeal.Layer

end
-- ==== Proof.InprojBIdealBody.lean ====
/-
  The input projection's body at one grid point: the three cases of its branches, and what each leaves.
  The call of the second layer.
-/
module

public import proofs.«01_k».proof.Proof.Gen.InprojBIdeal.Skeleton
public import proofs.«01_k».proof.Proof.Gen.InprojBIdeal.Frame
public import Idealize.ShloMosaic.Lib.VecWindow

@[expose] public section

set_option maxRecDepth 16384

noncomputable section

namespace Cert.InprojBIdeal.Layer

open Cert.InprojBIdeal Cert.InprojBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource the assertions speak of. -/
abbrev Res (F : FTy → Type) := MT nD τ sig Unit (Elt F) ℕ (UR sig nD τ) ℕ

/-! ## The branch conditions -/

/-- The condition of the first branch: the first column tile. -/
abbrev cond1 (i : grid0.Coords) : Prop :=
  (Scalar.cmpi .ne (Scalar.extui (Scalar.cmpi .eq (BitVec.ofNat 32 (i 1).val) 0#32)) 0#32) = 1#1

theorem cond1_iff (t : Fin grid0.N) : cond1 (grid0.coords t) ↔ t.val % 11 = 0 := by
  have ht : t.val < 88 := Nat.lt_of_lt_of_eq t.isLt N_0
  have e1 : (grid0.coords t 1).val = t.val / 1 % 11 := Pipeline.Grid.coords_val t 1 (by decide) rfl
  simp only [cond1, e1]
  word_cmp

theorem cond2_iff (t : Fin grid0.N) : k0_cond2 (grid0.coords t) = 1#1 ↔ ¬t.val % 11 = 10 := by
  have ht : t.val < 88 := Nat.lt_of_lt_of_eq t.isLt N_0
  have e1 : (grid0.coords t 1).val = t.val / 1 % 11 := Pipeline.Grid.coords_val t 1 (by decide) rfl
  unfold k0_cond2
  simp only [e1]
  word_cmp

theorem cond3_iff (t : Fin grid0.N) : k0_cond3 (grid0.coords t) = 1#1 ↔ t.val % 11 = 10 := by
  have ht : t.val < 88 := Nat.lt_of_lt_of_eq t.isLt N_0
  have e1 : (grid0.coords t 1).val = t.val / 1 % 11 := Pipeline.Grid.coords_val t 1 (by decide) rfl
  unfold k0_cond3
  simp only [e1]
  word_cmp

/-! ## The body -/

section body

variable (c : Dev nD) (i : grid0.Coords)
  (arg2 : Memref sig .tc .vmem S1024x2048 .f32) (harg2 : arg2.IsWhole)
  (arg3 : Memref sig .tc .vmem S1x1x2048 .f32) (harg3 : arg3.IsWhole)
  (arg4 : Memref sig .tc .vmem S1x2048x1536 .bf16) (harg4 : arg4.IsWhole)
  (arg5 : Memref sig .tc .vmem S1x2048x128 .f32) (harg5 : arg5.IsWhole)
  (arg6 : Memref sig .tc .vmem S1024x1536 .f32) (harg6 : arg6.IsWhole)
  (arg7 : Memref sig .tc .vmem S1024x128 .f32) (harg7 : arg7.IsWhole)
  (arg8 : Memref sig .tc .vmem S1024x2048 .bf16) (harg8 : arg8.IsWhole)
  (x0 : Vec F S1024x2048 .f32) (x1 : Vec F S1x1x2048 .f32) (x2 : Vec F S1x2048x1536 .bf16)
  (x3 : Vec F S1x2048x128 .f32) (x5 : Vec F S1024x128 .f32)

/-- At the first column tile the body normalises the rows into the scratch and stores the first tile of the product. -/
theorem run_first (h1 : cond1 i) (h2 : k0_cond2 i = 1#1) (h3 : ¬k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k0_pay2 (k0_pay1 x0 x1) x2) ∗ owns (c : Thread nD τ) arg7 fullShare x5
          ∗ owns (c : Thread nD τ) arg8 fullShare (k0_pay1 x0 x1)) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full ..).trans (congrArg₂ _ ?_ ((View.readAt_full ..).trans (harg4.read_unread _)))
    exact (View.readCov_full ..).trans (congrArg₂ _ ((View.readAt_full ..).trans (harg2.read_unread _))
      ((View.readAt_full ..).trans (harg3.read_unread _)))
  isplitl [H5]
  · iexists _; isplitr; · ipureintro; exact harg7.read_unread _
    iexact H5
  iexists _; isplitr
  swap; · iexact HS
  ipureintro
  exact (View.read_writes_full ..).trans (congrArg₂ _ ((View.readAt_full ..).trans (harg2.read_unread _))
    ((View.readAt_full ..).trans (harg3.read_unread _)))

/-- At a column tile in between the body stores its tile of the product of the rows the scratch holds. -/
theorem run_mid (xs : Vec F S1024x2048 .bf16) (h1 : ¬cond1 i) (h2 : k0_cond2 i = 1#1) (h3 : ¬k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare x5
        ∗ owns (c : Thread nD τ) arg8 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k0_pay2 xs x2) ∗ owns (c : Thread nD τ) arg7 fullShare x5
          ∗ owns (c : Thread nD τ) arg8 fullShare xs) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hf5; obtain rfl := harg8.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    exact (View.read_writes_full ..).trans (congrArg₂ _ ((View.readAt_full ..).trans (harg8.read_unread _))
      ((View.readAt_full ..).trans (harg4.read_unread _)))
  isplitl [H5]
  · iexists _; isplitr; · ipureintro; exact harg7.read_unread _
    iexact H5
  iexists _; isplitr; · ipureintro; exact harg8.read_unread _
  iexact HS

/-- At the last point of a row the body stores the narrow product; the wide one's tile stays as it was. -/
theorem run_last (x4 : Vec F S1024x1536 .f32) (xs : Vec F S1024x2048 .bf16) (h1 : ¬cond1 i) (h2 : ¬k0_cond2 i = 1#1) (h3 : k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare (k0_pay3 xs x3)
          ∗ owns (c : Thread nD τ) arg8 fullShare xs) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    exact (View.read_writes_full ..).trans (congrArg₂ _ ((View.readAt_full ..).trans (harg8.read_unread _))
      ((View.readAt_full ..).trans (harg5.read_unread _)))
  iexists _; isplitr; · ipureintro; exact harg8.read_unread _
  iexact HS

end body

end Cert.InprojBIdeal.Layer

end
-- ==== Proof.InprojBIdealFrame.lean ====
/-
  The input projection's run: what each buffer holds after each grid point, the body at every point, and the frame.

  The grid runs over 8 row blocks and 11 positions.  At position 0 the rows are normalised into the scratch; positions
  0 to 9 each store one tile of the wide product; position 10 stores the narrow product, and the wide product's last
  tile, left by position 9, is written out after it.
  The call of the second layer.
-/
module

public import proofs.«01_k».proof.Proof.InprojBIdealBody
public import Idealize.ShloMosaic.Lib.Claim

@[expose] public section

set_option maxRecDepth 16384

noncomputable section

namespace Cert.InprojBIdeal.Layer

open Cert.InprojBIdeal Cert.InprojBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Which points write what -/

theorem flush_wide : ∀ t : Fin cfg0.N, (cfg0.win 4).flush t = true ↔ ¬t.val % 11 = 9 :=
  (by decide +kernel : ∀ t : Fin grid0.N, win0_4.flush t = true ↔ ¬t.val % 11 = 9)

theorem idle_wide (t : Fin cfg0.N) : cfg0.idle 4 (cfg0.grid.coords t) = true ↔ t.val % 11 = 10 := by
  show (!(k0_cond2 (grid0.coords t) == 1#1)) = true ↔ _
  rw [Bool.not_eq_true', beq_eq_false_iff_ne, ne_eq, cond2_iff, not_not]

theorem idle_narrow (t : Fin cfg0.N) : cfg0.idle 5 (cfg0.grid.coords t) = true ↔ ¬t.val % 11 = 10 := by
  show (!(k0_cond3 (grid0.coords t) == 1#1)) = true ↔ _
  rw [Bool.not_eq_true', beq_eq_false_iff_ne, ne_eq, cond3_iff]

/-! ## What the buffers hold -/

/-- The point before. -/
def prev (t : Fin cfg0.N) : Fin cfg0.N := ⟨t.val - 1, Nat.lt_of_le_of_lt (Nat.sub_le _ _) t.isLt⟩

/-- The first point of the point's row block. -/
def start (t : Fin cfg0.N) : Fin cfg0.N := ⟨t.val - t.val % 11, Nat.lt_of_le_of_lt (Nat.sub_le _ _) t.isLt⟩

theorem start_first (t : Fin cfg0.N) (h : t.val % 11 = 0) : start t = t := Fin.ext (by show t.val - t.val % 11 = t.val; omega)

theorem start_prev (t : Fin cfg0.N) (h : ¬t.val % 11 = 0) : start (prev t) = start t :=
  Fin.ext (by show t.val - 1 - (t.val - 1) % 11 = t.val - t.val % 11; omega)

/-- The point whose tile of the wide product the buffer holds. -/
def wideAt (t : Fin cfg0.N) : Fin cfg0.N := if t.val % 11 = 10 then prev t else t

/-- The normalised rows the scratch holds. -/
def hs (c : Dev nD) (t : Fin cfg0.N) : Vec F S1024x2048 .bf16 := k0_pay1 (iblk m c 0 (start t)) (iblk m c 1 (start t))

/-- The scratch, as a buffer. -/
abbrev scr : Memref sig .tc .vmem S1024x2048 .bf16 := Memref.whole cc0_scratch0

theorem launch_eq (c : Dev nD) :
    (Pipeline.ΦA spec0 c : sProp (Res F))
      = iprop(iprop((∃ d, owns (c : Thread nD τ) scr fullShare d)) ∗ (∃ r, prngReg c r)) := by
  unfold Pipeline.ΦA; rw [scopedRest0_eq]; simp only [scr, owns_whole]; try rfl

/-- What holds before a point: the scratch holds the rows the point before used. -/
def inv (c : Dev nD) : (n : ℕ) → n ≤ cfg0.N → sProp (Res F)
  | 0, _ => Pipeline.ΦA spec0 c
  | n + 1, hn => iprop(iprop(owns (c : Thread nD τ) scr fullShare (hs m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (t : Fin cfg0.N) :
    inv m c (t.val + 1) t.isLt = iprop(iprop(owns (c : Thread nD τ) scr fullShare (hs m c t)) ∗ (∃ r, prngReg c r)) := rfl

theorem inv_pos (c : Dev nD) (n : ℕ) (h : n ≤ cfg0.N) (hz : n ≠ 0) :
    inv m c n h = iprop(iprop(owns (c : Thread nD τ) scr fullShare (hs m c ⟨n - 1, by omega⟩)) ∗ (∃ r, prngReg c r)) := by
  cases n with
  | zero => exact absurd rfl hz
  | succ n => rfl

/-- The run's data: the arrays as found, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (hs m c (wideAt t)) (iblk m c 2 (wideAt t))
    | ⟨5, _⟩ => k0_pay3 (hs m c t) (iblk m c 3 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay2 (hs m c (wideAt t)) (iblk m c 2 (wideAt t)) := by dsimp only [dats]
theorem after_5 (c : Dev nD) (t : Fin cfg0.N) : (dats m 0 c).after 5 t = k0_pay3 (hs m c t) (iblk m c 3 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At the last point of a row block the wide product's buffer still holds the tile of the point before. -/
theorem before_4 (c : Dev nD) (t : Fin cfg0.N) (h : t.val % 11 = 10) (d) :
    (dats m 0 c).before 4 t d = (dats m 0 c).after 4 t := by
  have hp : (prev t).val % 11 = 9 := by show (t.val - 1) % 11 = 9; omega
  have hfl : (cfg0.win 4).flush (prev t) = false := Bool.eq_false_iff.mpr fun h => (flush_wide _).mp h hp
  have hid : cfg0.idle 4 (cfg0.grid.coords (prev t)) = false :=
    Bool.eq_false_iff.mpr fun h => by have := (idle_wide _).mp h; omega
  have e : (dats m 0 c).before 4 t d = (dats m 0 c).after 4 (prev t) := by
    refine (Dat.before_of_pos _ 4 t (by omega) ((cfg0.win 4).fetch_out rfl t) d).trans ?_
    refine (if_neg (by rw [show (cfg0.win 4).flush ⟨t.val - 1, _⟩ = false from hfl]; exact Bool.false_ne_true)).trans ?_
    show (dats m 0 c).left 4 (prev t) d = _
    unfold Dat.left
    rw [hid]
    exact (Pipeline.fill_of_clip_none 4 _ (fun _ => rfl) d ((dats m 0 c).after 4 (prev t)) _).trans ((cfg0.win 4).fill_cut _ _)
  rw [e, after_4, after_4]
  unfold wideAt
  rw [if_pos h, if_neg (by omega)]

/-! ## The body at a point -/

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

/-- Every point leaves the wide product's buffer at its tile. -/
theorem leaves_wide (c : Dev nD) (t : Fin cfg0.N) :
    (dats m 0 c).leavesExact 4 t = owns (c : Thread nD τ) (st0_4 t) fullShare ((dats m 0 c).after 4 t) := by
  unfold Dat.leavesExact
  by_cases h : t.val % 11 = 10
  · rw [(idle_wide t).mpr h, (flush_wide t).mpr (by omega)]
  · rw [show cfg0.idle 4 (cfg0.grid.coords t) = false from Bool.eq_false_iff.mpr fun h' => h ((idle_wide t).mp h')]

/-- The last point of a row block leaves the narrow product's buffer at its block, -/
theorem leaves_narrow (c : Dev nD) (t : Fin cfg0.N) (h : t.val % 11 = 10) :
    (dats m 0 c).leavesExact 5 t = owns (c : Thread nD τ) (st0_5 t) fullShare ((dats m 0 c).after 5 t) := by
  unfold Dat.leavesExact
  rw [show cfg0.idle 5 (cfg0.grid.coords t) = false from Bool.eq_false_iff.mpr fun h' => (idle_narrow t).mp h' h]

/-- and any other point as it found it. -/
theorem leaves_narrow_idle (c : Dev nD) (t : Fin cfg0.N) (h : ¬t.val % 11 = 10) :
    (dats m 0 c).leavesExact 5 t = iprop(∃ d, owns (c : Thread nD τ) (st0_5 t) fullShare ((dats m 0 c).before 5 t d)) :=
  Dat.leavesExact_idle _ 5 t ((idle_narrow t).mpr h) (Bool.eq_false_iff.mpr fun h' => h ((flush0_5 t).mp h'))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, leaves_wide]
  rw [show (dats m 0 c).Φ t.succ = inv m c (t.val + 1) t.isLt from rfl, inv_succ, inv_castSucc m c t]
  by_cases h0 : t.val % 11 = 0
  · have h10 : ¬t.val % 11 = 10 := by omega
    rw [leaves_narrow_idle m c t h10, after_4]
    unfold wideAt; rw [if_neg h10]
    have eh : hs m c t = k0_pay1 (iblk m c 0 t) (iblk m c 1 t) := by unfold hs; rw [start_first t h0]
    rw [eh]
    have hphi : inv m c t.val (Nat.le_of_lt t.isLt)
        ⊢ iprop(iprop((∃ d, owns (c : Thread nD τ) scr fullShare d)) ∗ (∃ r, prngReg c r)) := by
      by_cases hz : t.val = 0
      · rw [inv_zero m c _ _ hz, launch_eq]
      · rw [inv_pos m c _ _ hz]
        iintro ⟨HS, Hg⟩
        isplitl [HS]
        · iexists _; iexact HS
        iexact Hg
    refine (sep_mono hphi .rfl).trans ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ (iblk m c 0 t) (iblk m c 1 t) (iblk m c 2 t) (iblk m c 3 t)
      ((dats m 0 c).before 5 t d5) ((cond1_iff t).mpr h0) ((cond2_iff t).mpr h10) (fun h => h10 ((cond3_iff t).mp h)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    have eh : hs m c ⟨t.val - 1, by omega⟩ = hs m c t := by
      show hs m c (prev t) = _
      unfold hs; rw [start_prev t h0]
    rw [inv_pos m c _ _ hz, eh]
    by_cases h10 : t.val % 11 = 10
    · rw [leaves_narrow m c t h10, after_5]
      simp only [before_4 m c t h10]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ (iblk m c 0 t) (iblk m c 1 t) (iblk m c 2 t) (iblk m c 3 t)
        ((dats m 0 c).after 4 t) (hs m c t) (fun h => h0 ((cond1_iff t).mp h)) (fun h => (cond2_iff t).mp h h10) ((cond3_iff t).mpr h10) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves_narrow_idle m c t h10, after_4]
      unfold wideAt; rw [if_neg h10]
      iintro ⟨⟨HS, Hg⟩, Ho, ⟨%d0, H0⟩, ⟨%d1, H1⟩, ⟨%d2, H2⟩, ⟨%d3, H3⟩, ⟨%d4, H4⟩, ⟨%d5, H5⟩⟩
      iapply (run_mid c (grid0.coords t) _ _ _ _ _ _ _ _ _ _ _ _ _ _ (iblk m c 0 t) (iblk m c 1 t) (iblk m c 2 t) (iblk m c 3 t)
        ((dats m 0 c).before 5 t d5) (hs m c t) (fun h => h0 ((cond1_iff t).mp h)) ((cond2_iff t).mpr h10) (fun h => h10 ((cond3_iff t).mp h)) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem defs_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hN : cfg0.N = 88 := N_0
  rw [show (dats m 0 c).Φ (Fin.last cfg0.N) = inv m c cfg0.N (Nat.le_refl _) from rfl, inv_pos m c _ _ (by omega), launch_eq]
  iintro ⟨HS, Hg⟩
  isplitl [HS]
  · iexists _; iexact HS
  iexact Hg

/-! ## The run and the frame -/

set_option backward.isDefEq.respectTransparency.types false in
/-- The run: every array at what the data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_main_quiescent m ρ))

end Cert.InprojBIdeal.Layer

end
-- ==== Proof.InprojBFrame.lean ====
/-
  The input projection of the second layer: the idealized module is the module itself, so the frame of the one is the frame of the other.
-/
module

public import proofs.«01_k».proof.Proof.Gen.InprojB
public import proofs.«01_k».proof.Proof.InprojBIdealFrame

@[expose] public section

set_option maxRecDepth 16384

noncomputable section

open Idealize.ShloMosaic Idealize.ShloMosaic.TcCoe Idealize.SL.Sem

namespace Cert.InprojB.Layer

open Cert.InprojB Cert.InprojB.Gen

variable {F : FTy → Type} [FloatOps F]

theorem bodies_eq : (defs₀ (F := F)) = Cert.InprojBIdeal.defs₀ (F := F) := by
  unfold defs₀ Cert.InprojBIdeal.defs₀
  refine congrArg Defs.onTc ?_
  funext l a
  match l, a with
  | 0, (t, s) => with_unfolding_all rfl

theorem table_eq : (defs (F := F)) = Cert.InprojBIdeal.defs (F := F) := congrArg (Pipeline.defs pcfgs) bodies_eq

/-- Every run ends, with the argument arrays unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [table_eq]
  with_unfolding_all exact Cert.InprojBIdeal.Layer.frame (F := F) m ρ

end Cert.InprojB.Layer
end
-- ==== Proof.InprojBClaim.lean ====
/-
  The input projection: what the kernel's two arrays and the reference's two arrays hold.
  The call of the second layer.
-/
module

public import proofs.«01_k».proof.Proof.Rms
public import proofs.«01_k».proof.Proof.InprojBIdealFrame
public import proofs.«01_k».proof.Proof.Gen.InprojBRefIdeal.Run
public import Idealize.ShloMosaic.Lib.Pipeline.ValueKit

@[expose] public section

set_option maxRecDepth 16384

noncomputable section

open Idealize.ShloMosaic Idealize.ShloMosaic.TcCoe Idealize.SL.Sem

namespace Cert.InprojBIdeal.Layer

open Cert.InprojBIdeal Cert.InprojBIdeal.Gen Cert.Layer

/-- The normalised row. -/
def hid (x : S8192x2048.Idx → EReal) (g : S2x2048.Idx → EReal) (i : Fin 8192) (k : Fin 2048) : EReal :=
  rms (fun j => x (ix2 i j)) (g (ix2 (1 : Fin 2) k)) k

/-- The wide product. -/
def wide (x : S8192x2048.Idx → EReal) (g : S2x2048.Idx → EReal) (w : S2x2048x15360.Idx → EReal) : S8192x15360.Idx → EReal := fun i =>
  ∑ k : Fin 2048, hid x g (i 0) k * w (ix3 (1 : Fin 2) k (i 1 : Fin 15360))

/-- The narrow product. -/
def narrow (x : S8192x2048.Idx → EReal) (g : S2x2048.Idx → EReal) (w : S2x2048x128.Idx → EReal) : S8192x128.Idx → EReal := fun i =>
  ∑ k : Fin 2048, hid x g (i 0) k * w (ix3 (1 : Fin 2) k (i 1 : Fin 128))

theorem pay1_at (x : Vec Ideal S1024x2048 .f32) (g : Vec Ideal S1x1x2048 .f32) (r : Fin 1024) (k : Fin 2048) :
    k0_pay1 (F := Ideal) x g (ix2 r k) = rms (fun j => x (ix2 r j)) (g (ix3 (0 : Fin 1) (0 : Fin 1) k)) k := by
  pointwise [k0_pay1, rms]

theorem pay2_at (h : Vec Ideal S1024x2048 .bf16) (w : Vec Ideal S1x2048x1536 .bf16) (r : Fin 1024) (j : Fin 1536) :
    k0_pay2 (F := Ideal) h w (ix2 r j) = ∑ k : Fin 2048, (show EReal from h (ix2 r k)) * (show EReal from w (ix3 (0 : Fin 1) k j)) := by
  pointwise [k0_pay2]

theorem pay3_at (h : Vec Ideal S1024x2048 .bf16) (w : Vec Ideal S1x2048x128 .f32) (r : Fin 1024) (j : Fin 128) :
    k0_pay3 (F := Ideal) h w (ix2 r j) = ∑ k : Fin 2048, (show EReal from h (ix2 r k)) * (show EReal from w (ix3 (0 : Fin 1) k j)) := by
  pointwise [k0_pay3]

variable (m : (ℓ : Loc nD τ sig) → Buf (Elt Ideal) ℓ) (ρ : Dev nD → PrngReg)

theorem idx : ∀ t : Fin cfg0.N, win0_0.index t = ![t.val / 11, 0] ∧ win0_1.index t = ![1, 0, 0] ∧ win0_2.index t = ![1, 0, min (t.val % 11) 9]
      ∧ win0_3.index t = ![1, 0, 0] ∧ win0_4.index t = ![t.val / 11, min (t.val % 11) 9] ∧ win0_5.index t = ![t.val / 11, 0] :=
  (by decide +kernel : ∀ t : Fin grid0.N, _)

theorem pt_lt (t : Fin cfg0.N) : t.val < 88 := lt_of_lt_of_eq t.isLt N_0

/-- Row `r` of the point's row block. -/
def row (t : Fin cfg0.N) (r : Fin 1024) : Fin 8192 := ⟨t.val / 11 * 1024 + r.val, by have := pt_lt t; omega⟩

/-- Column `l` of the point's tile. -/
def col (t : Fin cfg0.N) (l : Fin 1536) : Fin 15360 := ⟨min (t.val % 11) 9 * 1536 + l.val, by omega⟩

theorem rd0 (c : Dev nD) (t : Fin cfg0.N) (r : Fin 1024) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k : Fin 2048) :
    iblk m c 1 t (ix3 (0 : Fin 1) (0 : Fin 1) k) = m ((c : Thread nD τ).loc main_arg1) (ix2 (1 : Fin 2) k) := by
  blk_point [iblk, V, idx t]

theorem rd2 (c : Dev nD) (t : Fin cfg0.N) (k : Fin 2048) (l : Fin 1536) :
    iblk m c 2 t (ix3 (0 : Fin 1) k l) = m ((c : Thread nD τ).loc main_arg2) (ix3 (1 : Fin 2) k (col t l)) := by
  unfold col
  blk_point [iblk, V, idx t]

theorem rd3 (c : Dev nD) (t : Fin cfg0.N) (k : Fin 2048) (l : Fin 128) :
    iblk m c 3 t (ix3 (0 : Fin 1) k l) = m ((c : Thread nD τ).loc main_arg3) (ix3 (1 : Fin 2) k l) := by
  blk_point [iblk, V, idx t]

theorem row_start (t : Fin cfg0.N) (r : Fin 1024) : row (start t) r = row t r := Fin.ext (by
  show (t.val - t.val % 11) / 11 * 1024 + r.val = t.val / 11 * 1024 + r.val
  omega)

theorem row_wide (t : Fin cfg0.N) (r : Fin 1024) : row (wideAt t) r = row t r := by
  unfold wideAt
  split
  · exact Fin.ext (by show (t.val - 1) / 11 * 1024 + r.val = t.val / 11 * 1024 + r.val; omega)
  · rfl

theorem col_wide (t : Fin cfg0.N) (l : Fin 1536) : col (wideAt t) l = col t l := by
  unfold wideAt
  split
  · exact Fin.ext (by show min ((t.val - 1) % 11) 9 * 1536 + l.val = min (t.val % 11) 9 * 1536 + l.val; omega)
  · rfl

/-- The scratch holds the normalised rows of the point's row block. -/
theorem hs_at (c : Dev nD) (t : Fin cfg0.N) (r : Fin 1024) (k : Fin 2048) :
    hs m c t (ix2 r k) = hid (m ((c : Thread nD τ).loc main_arg0)) (m ((c : Thread nD τ).loc main_arg1)) (row t r) k := by
  unfold hs
  refine (pay1_at _ _ r k).trans ?_
  simp only [rd0, rd1, row_start]
  rfl

theorem final_wide (c : Dev nD) : (dats m 0 c).arrAt 4 (cfgs 0).N
    = wide (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after_4]
  idx_vars y
  have := pt_lt t
  refine (pay2_at _ _ y0 y1).trans ?_
  simp only [hs_at, rd2, row_wide, col_wide]
  have e : ((View.whole main_v1_0).slice (win0_4.rect t)).emb (ix2 y0 y1) = ix2 (row t y0) (col t y1) := by
    unfold row col
    blk_ext [idx t]
  rw [e]
  rfl

theorem final_narrow (c : Dev nD) : (dats m 0 c).arrAt 5 (cfgs 0).N
    = narrow (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after_5]
  idx_vars y
  have := pt_lt t
  refine (pay3_at _ _ y0 y1).trans ?_
  simp only [hs_at, rd3]
  have e : ((View.whole main_v1_1).slice (win0_5.rect t)).emb (ix2 y0 y1) = ix2 (row t y0) y1 := by
    unfold row
    blk_ext [idx t]
  rw [e]
  rfl

/-- The run, with the two result arrays named. -/
theorem run_blocks : θ_run defs (onTc (τ := τ) (main (F := Ideal))) ⟨m, fun _ => 0, ρ⟩ fun r => ∀ c : Dev nD,
      r.2.mem ((c : Thread nD τ).loc main_v1_0) = (dats m 0 c).arrAt 4 (cfgs 0).N
      ∧ r.2.mem ((c : Thread nD τ).loc main_v1_1) = (dats m 0 c).arrAt 5 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, h.2 c⟩)
    (θ_run_and (run_main m ρ) (frame_of m ρ (dats m) (A_eq m) (run_main m ρ)))

end Cert.InprojBIdeal.Layer

namespace Cert.InprojBRefIdeal.Layer

open Cert.InprojBRefIdeal Cert.InprojBRefIdeal.Gen Cert.Layer
open Cert.InprojBIdeal.Layer (hid wide narrow)

def RN (y : FVec Ideal S8192x2048 .f32) (g : FVec Ideal S2x2048 .f32) : FVec Ideal S8192x2048 .f32 :=
  mulf (mulf y (broadcastInDim S8192x2048 ![0, 1] bcast_S8192x1_S8192x2048_0_1 (Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ (extractStridedSlice S1x2048 ![1, 0] g slices_S2x2048_S1x2048_1_0) shapeCasts_S1x2048_S2048)))

theorem rn_at (y : FVec Ideal S8192x2048 .f32) (g : FVec Ideal S2x2048 .f32) (t : Fin 8192) (j : Fin 2048) :
    RN y g (ix2 t j) = hid y g t j := by
  pointwise [RN, hid, rms]

def WD (h : FVec Ideal S8192x2048 .f32) (w : FVec Ideal S2x2048x15360 .bf16) : FVec Ideal S8192x15360 .f32 :=
  Host.dotGeneral dot_S8192x2048_S2048x15360_S8192x15360_1_0_0_1_n_n none h (extf .f32 (shapeCast _ (extractStridedSlice S1x2048x15360 ![1, 0, 0] w slices_S2x2048x15360_S1x2048x15360_1_0_0) shapeCasts_S1x2048x15360_S2048x15360) bitsLt_bf16_f32)

theorem wd_at (h : FVec Ideal S8192x2048 .f32) (w : FVec Ideal S2x2048x15360 .bf16) (t : Fin 8192) (j : Fin 15360) :
    WD h w (ix2 t j) = ∑ k : Fin 2048, (show EReal from h (ix2 t k)) * (show EReal from w (ix3 (1 : Fin 2) k j)) := by
  pointwise [WD]

def NR (h : FVec Ideal S8192x2048 .f32) (w : FVec Ideal S2x2048x128 .f32) : FVec Ideal S8192x128 .f32 :=
  Host.dotGeneral dot_S8192x2048_S2048x128_S8192x128_1_0_0_1_n_n none h (shapeCast _ (extractStridedSlice S1x2048x128 ![1, 0, 0] w slices_S2x2048x128_S1x2048x128_1_0_0) shapeCasts_S1x2048x128_S2048x128)

theorem nr_at (h : FVec Ideal S8192x2048 .f32) (w : FVec Ideal S2x2048x128 .f32) (t : Fin 8192) (j : Fin 128) :
    NR h w (ix2 t j) = ∑ k : Fin 2048, (show EReal from h (ix2 t k)) * (show EReal from w (ix3 (1 : Fin 2) k j)) := by
  pointwise [NR]

/-- The reference's wide product. -/
theorem wide_eq (x : FVec Ideal S8192x2048 .f32) (g : FVec Ideal S2x2048 .f32) (w : FVec Ideal S2x2048x15360 .bf16) :
    WD (RN x g) w = wide x g w := by
  funext i
  idx_vars i
  refine (wd_at _ _ i0 i1).trans ?_
  exact Fin.sum_fin_congr fun k => congrArg (fun z : EReal => z * (show EReal from w (ix3 (1 : Fin 2) k i1))) (rn_at x g i0 k)

/-- The reference's narrow product. -/
theorem narrow_eq (x : FVec Ideal S8192x2048 .f32) (g : FVec Ideal S2x2048 .f32) (w : FVec Ideal S2x2048x128 .f32) :
    NR (RN x g) w = narrow x g w := by
  funext i
  idx_vars i
  refine (nr_at _ _ i0 i1).trans ?_
  exact Fin.sum_fin_congr fun k => congrArg (fun z : EReal => z * (show EReal from w (ix3 (1 : Fin 2) k i1))) (rn_at x g i0 k)

end Cert.InprojBRefIdeal.Layer

end
-- ==== Proof.MlpSCases.lean ====
/-
  What the feed-forward kernel holds after a grid point, over what it held after the point before.
  The call of the sample group, 128 rows.
-/
module

public import proofs.«01_k».proof.Proof.Gen.MlpSIdeal.Value
public import Idealize.ShloMosaic.Lib.Pipeline.ValueKit

@[expose] public section

set_option maxRecDepth 16384

noncomputable section

open Idealize.ShloMosaic Idealize.ShloMosaic.TcCoe Idealize.SL.Sem

namespace Cert.MlpSIdeal.Layer

open Cert.MlpSIdeal Cert.MlpSIdeal.Gen

variable (m : (ℓ : Loc nD τ sig) → Buf (Elt Ideal) ℓ)

theorem h_A (c : Dev nD) (t : Fin cfg0.N) (h0 : t.val % 16 = 0) :
    (outsAt0 m c t.val t.isLt).2 = k0_pay1 (iblk m c 0 t) (iblk m c 1 t) := by
  rw [outsAt0_A m c t h0 (by omega)]; frame_out

theorem o_A (c : Dev nD) (t : Fin cfg0.N) (h0 : t.val % 16 = 0) :
    (outsAt0 m c t.val t.isLt).1 = k0_pay3 (k0_pay1 (iblk m c 0 t) (iblk m c 1 t)) (iblk m c 2 t) (k0_pay2 (F := Ideal)) (iblk m c 3 t) := by
  rw [outsAt0_A m c t h0 (by omega)]; frame_out

theorem h_step (c : Dev nD) (t : Fin cfg0.N) (h0 : ¬t.val % 16 = 0) :
    (outsAt0 m c t.val t.isLt).2 = (outsAt0 m c (t.val - 1) (Nat.lt_of_le_of_lt (Nat.sub_le _ _) t.isLt)).2 := by
  by_cases h1 : t.val % 16 = 15
  · rw [outsAt0_C m c t h0 h1]; rfl
  · rw [outsAt0_B m c t h0 h1]; rfl

theorem o_B (c : Dev nD) (t : Fin cfg0.N) (h0 : ¬t.val % 16 = 0) (h1 : ¬t.val % 16 = 15) :
    (outsAt0 m c t.val t.isLt).1 = k0_pay3 (outsAt0 m c (t.val - 1) (Nat.lt_of_le_of_lt (Nat.sub_le _ _) t.isLt)).2 (iblk m c 2 t)
      (outsAt0 m c (t.val - 1) (Nat.lt_of_le_of_lt (Nat.sub_le _ _) t.isLt)).1 (iblk m c 3 t) := by
  rw [outsAt0_B m c t h0 h1]; frame_out
  exact congrArg (fun h => k0_pay3 (F := Ideal) h (iblk m c 2 t) (outsAt0 m c (t.val - 1) (Nat.lt_of_le_of_lt (Nat.sub_le _ _) t.isLt)).1 (iblk m c 3 t))
    ((Memref.isWhole_whole cc0_scratch0).read_unread _)

theorem o_C (c : Dev nD) (t : Fin cfg0.N) (h0 : ¬t.val % 16 = 0) (h1 : t.val % 16 = 15) :
    (outsAt0 m c t.val t.isLt).1 = k0_pay4 (iblk m c 0 t) (k0_pay3 (outsAt0 m c (t.val - 1) (Nat.lt_of_le_of_lt (Nat.sub_le _ _) t.isLt)).2 (iblk m c 2 t)
      (outsAt0 m c (t.val - 1) (Nat.lt_of_le_of_lt (Nat.sub_le _ _) t.isLt)).1 (iblk m c 3 t)) (iblk m c 4 t) := by
  rw [outsAt0_C m c t h0 h1]; frame_out
  exact congrArg (fun h => k0_pay4 (F := Ideal) (iblk m c 0 t) (k0_pay3 (F := Ideal) h (iblk m c 2 t)
    (outsAt0 m c (t.val - 1) (Nat.lt_of_le_of_lt (Nat.sub_le _ _) t.isLt)).1 (iblk m c 3 t)) (iblk m c 4 t))
    ((Memref.isWhole_whole cc0_scratch0).read_unread _)

end Cert.MlpSIdeal.Layer

end
-- ==== Proof.MlpSArray.lean ====
/-
  The feed-forward kernel: the array its grid leaves. The sixteen tiles of the hidden axis add up to the whole product.
  The call of the sample group, 128 rows.
-/
module

public import proofs.«01_k».proof.Proof.Rms
public import proofs.«01_k».proof.Proof.MlpSCases

@[expose] public section

set_option maxRecDepth 16384

noncomputable section

open Idealize.ShloMosaic Idealize.ShloMosaic.TcCoe Idealize.SL.Sem

namespace Cert.MlpSIdeal.Layer

open Cert.MlpSIdeal Cert.MlpSIdeal.Gen Cert.Layer

/-- The squared positive part. -/
def act (s : EReal) : EReal := max s 0 * max s 0

/-- The normalised row. -/
def hid (x : S128x2048.Idx → EReal) (g : S2x2048.Idx → EReal) (i : Fin 128) (k : Fin 2048) : EReal :=
  rms (fun j => x (ix2 i j)) (g (ix2 (0 : Fin 2) k)) k

/-- What hidden unit `l` adds to entry `j` of row `i`. -/
def unit (x : S128x2048.Idx → EReal) (g : S2x2048.Idx → EReal) (wu : S2x2048x8192.Idx → EReal) (wd : S2x8192x2048.Idx → EReal)
    (i : Fin 128) (j : Fin 2048) (l : Fin 8192) : EReal :=
  act (∑ k : Fin 2048, hid x g i k * wu (ix3 (0 : Fin 2) k l)) * wd (ix3 (0 : Fin 2) l j)

/-- The result: the residual plus the normalised output of the two products. -/
def out (x : S128x2048.Idx → EReal) (g : S2x2048.Idx → EReal) (wu : S2x2048x8192.Idx → EReal) (wd : S2x8192x2048.Idx → EReal)
    (gp : S2x2048.Idx → EReal) : S128x2048.Idx → EReal := fun i =>
  x i + rms (fun j => ∑ l : Fin 8192, unit x g wu wd (i 0) j l) (gp (ix2 (0 : Fin 2) (i 1 : Fin 2048))) (i 1)

theorem pay1_at (x : Vec Ideal S128x2048 .f32) (g : Vec Ideal S1x1x2048 .f32) (r : Fin 128) (k : Fin 2048) :
    k0_pay1 (F := Ideal) x g (ix2 r k) = rms (fun j => x (ix2 r j)) (g (ix3 (0 : Fin 1) (0 : Fin 1) k)) k := by
  pointwise [k0_pay1, rms]

theorem pay2_at (r : Fin 128) (k : Fin 2048) : (k0_pay2 (F := Ideal) (ix2 r k) : EReal) = 0 := by
  pointwise [k0_pay2]

theorem pay3_at (h : Vec Ideal S128x2048 .bf16) (wu : Vec Ideal S1x2048x512 .bf16) (o : Vec Ideal S128x2048 .f32) (wd : Vec Ideal S1x512x2048 .bf16)
    (r : Fin 128) (j : Fin 2048) :
    k0_pay3 (F := Ideal) h wu o wd (ix2 r j) = (show EReal from o (ix2 r j))
      + ∑ l : Fin 512, act (∑ k : Fin 2048, (show EReal from h (ix2 r k)) * (show EReal from wu (ix3 (0 : Fin 1) k l))) * (show EReal from wd (ix3 (0 : Fin 1) l j)) := by
  pointwise [k0_pay3, act]

theorem pay4_at (x o : Vec Ideal S128x2048 .f32) (g : Vec Ideal S1x1x2048 .f32) (r : Fin 128) (j : Fin 2048) :
    k0_pay4 (F := Ideal) x o g (ix2 r j) = (show EReal from x (ix2 r j)) + rms (fun j => o (ix2 r j)) (g (ix3 (0 : Fin 1) (0 : Fin 1) j)) j := by
  pointwise [k0_pay4, rms]

variable (m : (ℓ : Loc nD τ sig) → Buf (Elt Ideal) ℓ)

theorem idx : ∀ t : Fin cfg0.N, win0_0.index t = ![t.val / 16, 0] ∧ win0_1.index t = ![0, 0, 0] ∧ win0_2.index t = ![0, 0, t.val % 16]
      ∧ win0_3.index t = ![0, t.val % 16, 0] ∧ win0_4.index t = ![0, 0, 0] ∧ win0_5.index t = ![t.val / 16, 0] :=
  (by decide +kernel : ∀ t : Fin grid0.N, _)

theorem pt_lt (t : Fin cfg0.N) : t.val < 16 := lt_of_lt_of_eq t.isLt N_0

/-- Row `r` of block row `t / 16`. -/
def row (t : Fin cfg0.N) (r : Fin 128) : Fin 128 := ⟨t.val / 16 * 128 + r.val, by have := pt_lt t; omega⟩

/-- Hidden unit `l` of tile `t % 16`. -/
def hcol (t : Fin cfg0.N) (l : Fin 512) : Fin 8192 := ⟨t.val % 16 * 512 + l.val, by omega⟩

theorem rd0 (c : Dev nD) (t : Fin cfg0.N) (r : Fin 128) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k : Fin 2048) :
    iblk m c 1 t (ix3 (0 : Fin 1) (0 : Fin 1) k) = m ((c : Thread nD τ).loc main_arg1) (ix2 (0 : Fin 2) k) := by
  blk_point [iblk, V, idx t]

theorem rd2 (c : Dev nD) (t : Fin cfg0.N) (k : Fin 2048) (l : Fin 512) :
    iblk m c 2 t (ix3 (0 : Fin 1) k l) = m ((c : Thread nD τ).loc main_arg2) (ix3 (0 : Fin 2) k (hcol t l)) := by
  unfold hcol
  blk_point [iblk, V, idx t]

theorem rd3 (c : Dev nD) (t : Fin cfg0.N) (l : Fin 512) (j : Fin 2048) :
    iblk m c 3 t (ix3 (0 : Fin 1) l j) = m ((c : Thread nD τ).loc main_arg3) (ix3 (0 : Fin 2) (hcol t l) j) := by
  unfold hcol
  blk_point [iblk, V, idx t]

theorem rd4 (c : Dev nD) (t : Fin cfg0.N) (k : Fin 2048) :
    iblk m c 4 t (ix3 (0 : Fin 1) (0 : Fin 1) k) = m ((c : Thread nD τ).loc main_arg4) (ix2 (0 : Fin 2) k) := by
  blk_point [iblk, V, idx t]

/-- The carried rows, at every point, are the normalised rows of the point's block row. -/
theorem h_at (c : Dev nD) : ∀ (n : ℕ) (hn : n < cfg0.N) (r : Fin 128) (k : Fin 2048),
    (outsAt0 m c n hn).2 (ix2 r k) = hid (m ((c : Thread nD τ).loc main_arg0)) (m ((c : Thread nD τ).loc main_arg1)) (row ⟨n, hn⟩ r) k := by
  intro n
  induction n with
  | zero =>
    intro hn r k
    rw [h_A m c ⟨0, hn⟩ rfl]
    refine (pay1_at _ _ r k).trans ?_
    simp only [rd0, rd1]
    rfl
  | succ n ih =>
    intro hn r k
    by_cases h0 : (n + 1) % 16 = 0
    · rw [h_A m c ⟨n + 1, hn⟩ h0]
      refine (pay1_at _ _ r k).trans ?_
      simp only [rd0, rd1]
      rfl
    · rw [h_step m c ⟨n + 1, hn⟩ h0]
      refine (ih _ r k).trans ?_
      have e : row ⟨n, Nat.lt_of_succ_lt hn⟩ r = row ⟨n + 1, hn⟩ r := Fin.ext (by simp only [row]; omega)
      exact congrArg (fun i => hid _ _ i k) e

/-- What point `t` adds to entry `j` of row `r`. -/
def term (c : Dev nD) (r : Fin 128) (j : Fin 2048) (t : Fin cfg0.N) : EReal :=
  ∑ l : Fin 512, unit (m ((c : Thread nD τ).loc main_arg0)) (m ((c : Thread nD τ).loc main_arg1)) (m ((c : Thread nD τ).loc main_arg2)) (m ((c : Thread nD τ).loc main_arg3)) (row t r) j (hcol t l)

/-- One step over carried rows `h` known to be the normalised ones. -/
theorem step (c : Dev nD) (t : Fin cfg0.N) (h : Vec Ideal S128x2048 .bf16) (o : Vec Ideal S128x2048 .f32)
    (hh : ∀ r k, h (ix2 r k) = hid (m ((c : Thread nD τ).loc main_arg0)) (m ((c : Thread nD τ).loc main_arg1)) (row t r) k) (r : Fin 128) (j : Fin 2048) :
    k0_pay3 (F := Ideal) h (iblk m c 2 t) o (iblk m c 3 t) (ix2 r j) = (show EReal from o (ix2 r j)) + term m c r j t := by
  refine (pay3_at _ _ _ _ r j).trans ?_
  unfold term unit
  simp only [hh, rd2, rd3]

theorem row_pred (t : Fin cfg0.N) (h0 : ¬t.val % 16 = 0) (r : Fin 128) :
    row ⟨t.val - 1, Nat.lt_of_le_of_lt (Nat.sub_le _ _) t.isLt⟩ r = row t r := Fin.ext (by simp only [row]; omega)

theorem h_pred (c : Dev nD) (t : Fin cfg0.N) (h0 : ¬t.val % 16 = 0) (r : Fin 128) (k : Fin 2048) :
    (outsAt0 m c (t.val - 1) (Nat.lt_of_le_of_lt (Nat.sub_le _ _) t.isLt)).2 (ix2 r k)
      = hid (m ((c : Thread nD τ).loc main_arg0)) (m ((c : Thread nD τ).loc main_arg1)) (row t r) k :=
  (h_at m c _ _ r k).trans (congrArg (fun i => hid _ _ i k) (row_pred t h0 r))

/-- The running sum at entry `j` of row `r`, before the last point's normalisation. -/
def acc (c : Dev nD) (r : Fin 128) (j : Fin 2048) (n : ℕ) (hn : n < cfg0.N) : EReal :=
  if n % 16 = 15 then (show EReal from (outsAt0 m c (n - 1) (Nat.lt_of_le_of_lt (Nat.sub_le _ _) hn)).1 (ix2 r j)) + term m c r j ⟨n, hn⟩
  else (outsAt0 m c n hn).1 (ix2 r j)

theorem acc_A (c : Dev nD) (r : Fin 128) (j : Fin 2048) (t : Fin cfg0.N) (h0 : t.val % 16 = 0) :
    acc m c r j t.val t.isLt = 0 + term m c r j t := by
  unfold acc
  rw [if_neg (by omega), o_A m c t h0]
  refine (step m c t _ _ (fun r k => ?_) r j).trans (congrArg (· + _) (pay2_at r j))
  rw [← h_A m c t h0]
  exact h_at m c _ _ r k

theorem acc_S (c : Dev nD) (r : Fin 128) (j : Fin 2048) (t : Fin cfg0.N) (h0 : ¬t.val % 16 = 0) :
    acc m c r j t.val t.isLt = acc m c r j (t.val - 1) (Nat.lt_of_le_of_lt (Nat.sub_le _ _) t.isLt) + term m c r j t := by
  have e : acc m c r j (t.val - 1) (Nat.lt_of_le_of_lt (Nat.sub_le _ _) t.isLt)
      = (outsAt0 m c (t.val - 1) (Nat.lt_of_le_of_lt (Nat.sub_le _ _) t.isLt)).1 (ix2 r j) := if_neg (by omega)
  rw [e]
  by_cases h1 : t.val % 16 = 15
  · exact if_pos h1
  · refine (if_neg h1).trans ?_
    rw [o_B m c t h0 h1]
    exact step m c t _ _ (h_pred m c t h0) r j

/-- The whole sum over the hidden axis. -/
theorem acc_last (c : Dev nD) (r : Fin 128) (j : Fin 2048) (t : Fin cfg0.N) (h1 : t.val % 16 = 15) :
    acc m c r j t.val t.isLt
      = ∑ l : Fin 8192, unit (m ((c : Thread nD τ).loc main_arg0)) (m ((c : Thread nD τ).loc main_arg1)) (m ((c : Thread nD τ).loc main_arg2)) (m ((c : Thread nD τ).loc main_arg3)) (row t r) j l := by
  rw [Pipeline.eq_sum_fin_of_reset_step_of_flush (fun n hn => acc m c r j n hn) 16 0 (term m c r j) (acc_A m c r j) (acc_S m c r j) t h1, zero_add]
  unfold term
  refine Fin.sum_mul_add_congr fun s k hl => ?_
  have hr : row ⟨16 * (t.val / 16) + s.val, Pipeline.run_point_lt_of_flush t h1 s⟩ r = row t r := Fin.ext (by simp only [row]; omega)
  have hc : hcol ⟨16 * (t.val / 16) + s.val, Pipeline.run_point_lt_of_flush t h1 s⟩ k = ⟨s.val * 512 + k.val, hl⟩ := Fin.ext (by simp only [hcol]; omega)
  rw [hr, hc]

theorem last_at (c : Dev nD) (t : Fin cfg0.N) (h1 : t.val % 16 = 15) (r : Fin 128) (j : Fin 2048) :
    (outsAt0 m c t.val t.isLt).1 (ix2 r j)
      = out (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) := by
  have h0 : ¬t.val % 16 = 0 := by omega
  rw [o_C m c t h0 h1]
  refine (pay4_at _ _ _ r j).trans ?_
  rw [rd0, rd4]
  unfold out
  refine congrArg (fun f : Fin 2048 → EReal => _ + rms f _ j) (funext fun j' => ?_)
  refine (step m c t _ _ (h_pred m c t h0) r j').trans ?_
  refine Eq.trans ?_ (acc_last m c r j' t h1)
  exact (if_pos h1).symm

theorem final (c : Dev nD) : (dats m 0 c).arrAt 5 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  have := pt_lt t
  refine (last_at m c t ((flush0_5 t).mp hf) y0 y1).trans ?_
  have e : ((View.whole main_v4).slice (win0_5.rect t)).emb (ix2 y0 y1) = ix2 (row t y0) y1 := by
    unfold row
    blk_ext [idx t]
  rw [e]

end Cert.MlpSIdeal.Layer

end
-- ==== Proof.MlpSRef.lean ====
/-
  The feed-forward reference: its term, stage by stage, and the array it is.
  The call of the sample group, 128 rows.
-/
module

public import proofs.«01_k».proof.Proof.MlpSArray
public import proofs.«01_k».proof.Proof.Gen.MlpSRefIdeal.Run

@[expose] public section

set_option maxRecDepth 16384

noncomputable section

open Idealize.ShloMosaic Idealize.ShloMosaic.TcCoe Idealize.SL.Sem

namespace Cert.MlpSRefIdeal.Layer

open Cert.MlpSRefIdeal Cert.MlpSRefIdeal.Gen Cert.MlpSRefIdeal.Value Cert.Layer Cert.MlpSIdeal.Layer

def RN (y : FVec Ideal S128x2048 .f32) (g : FVec Ideal S2x2048 .f32) : FVec Ideal S128x2048 .f32 :=
  mulf (mulf y (broadcastInDim S128x2048 ![0, 1] bcast_S128x1_S128x2048_0_1 (Host.rsqrt (addf (Host.divf (broadcastInDim S128x1 ![0] bcast_S128_S128x1_0 (Host.reduceAdd (mulf y y) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 (shapeCast _ (extractStridedSlice S1x2048 ![0, 0] g slices_S2x2048_S1x2048_0_0) shapeCasts_S1x2048_S2048)))

theorem rn_at (y : FVec Ideal S128x2048 .f32) (g : FVec Ideal S2x2048 .f32) (t : Fin 128) (j : Fin 2048) :
    RN y g (ix2 t j) = rms (fun j => y (ix2 t j)) (g (ix2 (0 : Fin 2) j)) j := by
  pointwise [RN, rms]

def UP (h : FVec Ideal S128x2048 .f32) (w : FVec Ideal S2x2048x8192 .f32) : FVec Ideal S128x8192 .f32 :=
  Host.dotGeneral dot_S128x2048_S2048x8192_S128x8192_1_0_0_1_n_n none h (shapeCast _ (extractStridedSlice S1x2048x8192 ![0, 0, 0] w slices_S2x2048x8192_S1x2048x8192_0_0_0) shapeCasts_S1x2048x8192_S2048x8192)

theorem up_at (h : FVec Ideal S128x2048 .f32) (w : FVec Ideal S2x2048x8192 .f32) (t : Fin 128) (l : Fin 8192) :
    UP h w (ix2 t l) = ∑ k : Fin 2048, (show EReal from h (ix2 t k)) * (show EReal from w (ix3 (0 : Fin 2) k l)) := by
  pointwise [UP]

def SQ (u : FVec Ideal S128x8192 .f32) : FVec Ideal S128x8192 .f32 :=
  mulf (maximumf u (broadcastInDim S128x8192 ![] bcast_S_S128x8192 (constant S_ .f32 0x00000000#32))) (maximumf u (broadcastInDim S128x8192 ![] bcast_S_S128x8192 (constant S_ .f32 0x00000000#32)))

theorem sq_at (u : FVec Ideal S128x8192 .f32) (t : Fin 128) (l : Fin 8192) : SQ u (ix2 t l) = act (u (ix2 t l)) := by
  pointwise [SQ, act]

def DN (q : FVec Ideal S128x8192 .f32) (w : FVec Ideal S2x8192x2048 .f32) : FVec Ideal S128x2048 .f32 :=
  Host.dotGeneral dot_S128x8192_S8192x2048_S128x2048_1_0_0_1_n_n none q (shapeCast _ (extractStridedSlice S1x8192x2048 ![0, 0, 0] w slices_S2x8192x2048_S1x8192x2048_0_0_0) shapeCasts_S1x8192x2048_S8192x2048)

theorem dn_at (q : FVec Ideal S128x8192 .f32) (w : FVec Ideal S2x8192x2048 .f32) (t : Fin 128) (j : Fin 2048) :
    DN q w (ix2 t j) = ∑ l : Fin 8192, (show EReal from q (ix2 t l)) * (show EReal from w (ix3 (0 : Fin 2) l j)) := by
  pointwise [DN]

variable (m : (ℓ : Loc nD τ sig) → Buf (Elt Ideal) ℓ)

theorem stages (c : Dev nD) : res_out0 m c
    = addf (m ((c.tc : Thread nD τ).loc main_arg0)) (RN (DN (SQ (UP (RN (m ((c.tc : Thread nD τ).loc main_arg0)) (m ((c.tc : Thread nD τ).loc main_arg1))) (m ((c.tc : Thread nD τ).loc main_arg2)))) (m ((c.tc : Thread nD τ).loc main_arg3))) (m ((c.tc : Thread nD τ).loc main_arg4))) := by
  unfold res_out0 res_main_v38 RN DN SQ UP
  rfl

/-- The staged term is the layer's result. -/
theorem ref_eq (x : FVec Ideal S128x2048 .f32) (g : FVec Ideal S2x2048 .f32) (wu : FVec Ideal S2x2048x8192 .f32) (wd : FVec Ideal S2x8192x2048 .f32)
    (gp : FVec Ideal S2x2048 .f32) : addf x (RN (DN (SQ (UP (RN x g) wu)) wd) gp) = out x g wu wd gp := by
  funext i
  idx_vars i
  refine congrArg (fun z : EReal => (show EReal from x (ix2 i0 i1)) + z) ((rn_at _ _ i0 i1).trans ?_)
  refine congrArg (fun f : Fin 2048 → EReal => rms f (gp (ix2 (0 : Fin 2) i1)) i1) (funext fun j => (dn_at _ _ i0 j).trans ?_)
  refine Fin.sum_fin_congr fun l => congrArg (fun z : EReal => z * (show EReal from wd (ix3 (0 : Fin 2) l j))) ((sq_at _ i0 l).trans (congrArg act ((up_at _ _ i0 l).trans ?_)))
  exact Fin.sum_fin_congr fun k => congrArg (fun z : EReal => z * (show EReal from wu (ix3 (0 : Fin 2) k l))) (rn_at x g i0 k)

end Cert.MlpSRefIdeal.Layer

end
-- ==== Proof.MergeSClaim.lean ====
/-
  The merge of the three branches: what the kernel's array and the reference's array hold.
  The call of the sample group, 128 rows.
-/
module

public import proofs.«01_k».proof.Proof.Gen.MergeSIdeal.Value
public import proofs.«01_k».proof.Proof.Gen.MergeSRefIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MergeSIdeal.Layer

open Cert.MergeSIdeal Cert.MergeSIdeal.Gen

/-- The logistic function, as both programs write it. -/
def sgm (z : EReal) : EReal := Ideal.div (Ideal.ofBits .f32 0x3F800000#32) (Ideal.ofBits .f32 0x3F800000#32 + Ideal.exp (-z))

/-- Branch `b`'s rows times its matrix. -/
def proj (h : S128x1024.Idx → EReal) (w : S2x3x1024x2048.Idx → EReal) (b : Fin 3) (t : Fin 128) (j : Fin 2048) : EReal :=
  ∑ k : Fin 1024, h (ix2 t k) * w (ix4 (0 : Fin 2) b k j)

/-- Branch `b`'s gate. -/
def gate (z : S128x15360.Idx → EReal) (b : Fin 3) (t : Fin 128) (j : Fin 2048) : EReal :=
  sgm (z (ix2 t (⟨9216 + (b.val * 2048 + j.val), by omega⟩ : Fin 15360)))

/-- The merged rows: the gated branches, summed. -/
def out (hm hf ys : S128x1024.Idx → EReal) (w : S2x3x1024x2048.Idx → EReal) (z : S128x15360.Idx → EReal) : S128x2048.Idx → EReal := fun i =>
  gate z 0 (i 0) (i 1) * proj hm w 0 (i 0) (i 1) + gate z 1 (i 0) (i 1) * proj hf w 1 (i 0) (i 1) + gate z 2 (i 0) (i 1) * proj ys w 2 (i 0) (i 1)

theorem pay2_at (g0 : Vec Ideal S128x512 .f32) (a0 : Vec Ideal S128x1024 .bf16) (w0 : Vec Ideal S1x1x1024x512 .bf16)
    (g1 : Vec Ideal S128x512 .f32) (a1 : Vec Ideal S128x1024 .bf16) (w1 : Vec Ideal S1x1x1024x512 .bf16) (r : Fin 128) (j : Fin 512) :
    k0_pay2 (F := Ideal) g0 a0 w0 g1 a1 w1 (ix2 r j)
      = sgm (g0 (ix2 r j)) * (∑ k : Fin 1024, (show EReal from a0 (ix2 r k)) * (show EReal from w0 (ix4 (0 : Fin 1) (0 : Fin 1) k j)))
       + sgm (g1 (ix2 r j)) * (∑ k : Fin 1024, (show EReal from a1 (ix2 r k)) * (show EReal from w1 (ix4 (0 : Fin 1) (0 : Fin 1) k j))) := by
  pointwise [k0_pay2, sgm]
  simp only [zero_sub]

theorem pay1_at (acc : Vec Ideal S128x512 .f32) (g : Vec Ideal S128x512 .f32) (a : Vec Ideal S128x1024 .bf16) (w : Vec Ideal S1x1x1024x512 .bf16) (r : Fin 128) (j : Fin 512) :
    k0_pay1 (F := Ideal) acc (k0_pay3 (F := Ideal) g) a w (ix2 r j)
      = (show EReal from acc (ix2 r j)) + sgm (g (ix2 r j)) * (∑ k : Fin 1024, (show EReal from a (ix2 r k)) * (show EReal from w (ix4 (0 : Fin 1) (0 : Fin 1) k j))) := by
  pointwise [k0_pay1, k0_pay3, sgm]
  simp only [zero_sub]

variable (m : (ℓ : Loc nD τ sig) → Buf (Elt Ideal) ℓ)

theorem idx : ∀ t : Fin cfg0.N, win0_0.index t = ![t.val / 4, 0] ∧ win0_1.index t = ![t.val / 4, 0] ∧ win0_2.index t = ![t.val / 4, 0]
      ∧ win0_3.index t = ![0, 0, 0, t.val % 4] ∧ win0_4.index t = ![t.val / 4, 18 + t.val % 4] ∧ win0_5.index t = ![t.val / 4, 22 + t.val % 4]
      ∧ win0_6.index t = ![t.val / 4, 26 + t.val % 4] ∧ win0_7.index t = ![t.val / 4, t.val % 4] :=
  (by decide +kernel : ∀ t : Fin grid0.N, _)

theorem hz2 : (![0, 0] : Fin 2 → Nat) = fun _ => 0 := funext fun a => by fin_cases a <;> rfl

theorem pt_lt (t : Fin cfg0.N) : t.val < 4 := lt_of_lt_of_eq t.isLt N_0

/-- Row `r` of block row `t / 4`. -/
def row (t : Fin cfg0.N) (r : Fin 128) : Fin 128 := ⟨t.val / 4 * 128 + r.val, by have := pt_lt t; omega⟩

/-- Column `j` of block column `t % 4`. -/
def col (t : Fin cfg0.N) (j : Fin 512) : Fin 2048 := ⟨t.val % 4 * 512 + j.val, by omega⟩

theorem rd0 (c : Dev nD) (t : Fin cfg0.N) (r : Fin 128) (k : Fin 1024) :
    iblk m c 0 t (ix2 r k) = m ((c : Thread nD τ).loc main_arg0) (ix2 (row t r) k) := by
  have := pt_lt t
  unfold row
  blk_ext [iblk, V, idx t]

theorem rd1 (c : Dev nD) (t : Fin cfg0.N) (r : Fin 128) (k : Fin 1024) :
    iblk m c 1 t (ix2 r k) = m ((c : Thread nD τ).loc main_arg1) (ix2 (row t r) k) := by
  have := pt_lt t
  unfold row
  blk_ext [iblk, V, idx t]

theorem rd2 (c : Dev nD) (t : Fin cfg0.N) (r : Fin 128) (k : Fin 1024) :
    iblk m c 2 t (ix2 r k) = m ((c : Thread nD τ).loc main_arg2) (ix2 (row t r) k) := by
  have := pt_lt t
  unfold row
  blk_ext [iblk, V, idx t]

theorem rd3 (c : Dev nD) (t : Fin cfg0.N) (b : Fin 3) (k : Fin 1024) (j : Fin 512) :
    iblk m c 3 t (ix4 (0 : Fin 1) b k j) = m ((c : Thread nD τ).loc main_arg3) (ix4 (0 : Fin 2) b k (col t j)) := by
  unfold col
  blk_point [iblk, V, idx t]

theorem rd4 (c : Dev nD) (t : Fin cfg0.N) (r : Fin 128) (j : Fin 512) :
    iblk m c 4 t (ix2 r j) = m ((c : Thread nD τ).loc main_arg4) (ix2 (row t r) (⟨9216 + ((0 : Fin 3).val * 2048 + (col t j).val), by omega⟩ : Fin 15360)) := by
  have := pt_lt t
  unfold row col
  blk_ext [iblk, V, idx t]

theorem rd5 (c : Dev nD) (t : Fin cfg0.N) (r : Fin 128) (j : Fin 512) :
    iblk m c 5 t (ix2 r j) = m ((c : Thread nD τ).loc main_arg4) (ix2 (row t r) (⟨9216 + ((1 : Fin 3).val * 2048 + (col t j).val), by omega⟩ : Fin 15360)) := by
  have := pt_lt t
  unfold row col
  blk_ext [iblk, V, idx t]

theorem rd6 (c : Dev nD) (t : Fin cfg0.N) (r : Fin 128) (j : Fin 512) :
    iblk m c 6 t (ix2 r j) = m ((c : Thread nD τ).loc main_arg4) (ix2 (row t r) (⟨9216 + ((2 : Fin 3).val * 2048 + (col t j).val), by omega⟩ : Fin 15360)) := by
  have := pt_lt t
  unfold row col
  blk_ext [iblk, V, idx t]

theorem ld3_0 (x : Vec Ideal S1x3x1024x512 .bf16) (k : Fin 1024) (j : Fin 512) : View.ld x r0_2 (ix4 (0 : Fin 1) (0 : Fin 1) k j) = x (ix4 (0 : Fin 1) (0 : Fin 3) k j) := by
  unfold r0_2
  pointwise
theorem ld3_1 (x : Vec Ideal S1x3x1024x512 .bf16) (k : Fin 1024) (j : Fin 512) : View.ld x r0_3 (ix4 (0 : Fin 1) (0 : Fin 1) k j) = x (ix4 (0 : Fin 1) (1 : Fin 3) k j) := by
  unfold r0_3
  pointwise
theorem ld3_2 (x : Vec Ideal S1x3x1024x512 .bf16) (k : Fin 1024) (j : Fin 512) : View.ld x r0_4 (ix4 (0 : Fin 1) (0 : Fin 1) k j) = x (ix4 (0 : Fin 1) (2 : Fin 3) k j) := by
  unfold r0_4
  pointwise

theorem final (c : Dev nD) : (dats m 0 c).arrAt 7 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  idx_vars y
  have := pt_lt t
  unfold out0_7
  rw [View.canon_unit_zero hz2]
  simp only [View.ld_unit_zero (S := S128x512) hz2, View.ld_unit_zero (S := S128x1024) hz2]
  refine (pay1_at _ _ _ _ y0 y1).trans ?_
  rw [pay2_at]
  simp only [rd0, rd1, rd2, rd4, rd5, rd6]
  have e : ((View.whole main_v1).slice (win0_7.rect t)).emb (ix2 y0 y1) = ix2 (row t y0) (col t y1) := by
    unfold row col
    blk_ext [idx t]
  rw [e]
  unfold out proj gate
  refine congrArg₂ (· + ·) (congrArg₂ (· + ·) ?_ ?_) ?_
  · exact congrArg _ (Fin.sum_fin_congr fun k => congrArg _ ((ld3_0 _ k y1).trans (rd3 m c t 0 k y1)))
  · exact congrArg _ (Fin.sum_fin_congr fun k => congrArg _ ((ld3_1 _ k y1).trans (rd3 m c t 1 k y1)))
  · exact congrArg _ (Fin.sum_fin_congr fun k => congrArg _ ((ld3_2 _ k y1).trans (rd3 m c t 2 k y1)))

end Cert.MergeSIdeal.Layer

namespace Cert.MergeSRefIdeal.Layer

open Cert.MergeSRefIdeal Cert.MergeSRefIdeal.Gen Cert.MergeSIdeal.Layer

def G (z : FVec Ideal S128x15360 .f32) : FVec Ideal S128x3x2048 .f32 :=
  shapeCast _ (Host.divf (broadcastInDim S128x6144 ![] bcast_S_S128x6144 (constant S_ .f32 0x3F800000#32)) (addf (broadcastInDim S128x6144 ![] bcast_S_S128x6144 (constant S_ .f32 0x3F800000#32)) (Host.exp (Host.negf (extractStridedSlice S128x6144 ![0, 9216] z slices_S128x15360_S128x6144_0_9216))))) shapeCasts_S128x6144_S128x3x2048

theorem g_at (z : FVec Ideal S128x15360 .f32) (t : Fin 128) (b : Fin 3) (j : Fin 2048) : G z (ix3 t b j) = gate z b t j := by
  pointwise [G, gate, Cert.MergeSIdeal.Layer.sgm]

def ST (hm hf ys : FVec Ideal S128x1024 .bf16) : FVec Ideal S128x3x1024 .bf16 :=
  concatenate S128x3x1024 1 [⟨S128x1x1024, ((broadcastInDim S128x1x1024 ![0, 2] bcast_S128x1024_S128x1x1024_0_2 hm) : (⟨S128x1x1024, .bf16⟩ : BufTy).Contents (Elt Ideal))⟩, ⟨S128x1x1024, ((broadcastInDim S128x1x1024 ![0, 2] bcast_S128x1024_S128x1x1024_0_2 hf) : (⟨S128x1x1024, .bf16⟩ : BufTy).Contents (Elt Ideal))⟩, ⟨S128x1x1024, ((broadcastInDim S128x1x1024 ![0, 2] bcast_S128x1024_S128x1x1024_0_2 ys) : (⟨S128x1x1024, .bf16⟩ : BufTy).Contents (Elt Ideal))⟩] concatenates_S128x1x1024_S128x1x1024_S128x1x1024_S128x3x1024_d1

theorem st_at0 (hm hf ys : FVec Ideal S128x1024 .bf16) (t : Fin 128) (k : Fin 1024) : ST hm hf ys (ix3 t (0 : Fin 3) k) = hm (ix2 t k) := by
  pointwise [ST]
theorem st_at1 (hm hf ys : FVec Ideal S128x1024 .bf16) (t : Fin 128) (k : Fin 1024) : ST hm hf ys (ix3 t (1 : Fin 3) k) = hf (ix2 t k) := by
  pointwise [ST]
theorem st_at2 (hm hf ys : FVec Ideal S128x1024 .bf16) (t : Fin 128) (k : Fin 1024) : ST hm hf ys (ix3 t (2 : Fin 3) k) = ys (ix2 t k) := by
  pointwise [ST]

def PJ (h : FVec Ideal S128x3x1024 .bf16) (w : FVec Ideal S2x3x1024x2048 .f32) : FVec Ideal S128x3x2048 .f32 :=
  transpose S128x3x2048 [2, 0, 1] (Host.dotGeneral dot_S3x1024x2048_S128x3x1024_S3x2048x128_1_2_2_0_0_1 none (shapeCast _ (extractStridedSlice S1x3x1024x2048 ![0, 0, 0, 0] w slices_S2x3x1024x2048_S1x3x1024x2048_0_0_0_0) shapeCasts_S1x3x1024x2048_S3x1024x2048) (extf .f32 h bitsLt_bf16_f32)) transposes_S3x2048x128_S128x3x2048_2_0_1

theorem pj_at (h : FVec Ideal S128x3x1024 .bf16) (w : FVec Ideal S2x3x1024x2048 .f32) (t : Fin 128) (b : Fin 3) (j : Fin 2048) :
    PJ h w (ix3 t b j) = ∑ k : Fin 1024, (show EReal from w (ix4 (0 : Fin 2) b k j)) * (show EReal from h (ix3 t b k)) := by
  pointwise [PJ]

def MG (g p : FVec Ideal S128x3x2048 .f32) : FVec Ideal S128x2048 .bf16 :=
  truncf .bf16 (Host.dotGeneral dot_S128x3x2048_S128x3x2048_S128x2048_1_1_n_n_02_02 none g p) bitsLt_bf16_f32

theorem mg_at (g p : FVec Ideal S128x3x2048 .f32) (t : Fin 128) (j : Fin 2048) :
    MG g p (ix2 t j) = ∑ b : Fin 3, (show EReal from g (ix3 t b j)) * (show EReal from p (ix3 t b j)) := by
  pointwise [MG]

/-- The reference's term is the merged rows. -/
theorem ref_eq (hm hf ys : FVec Ideal S128x1024 .bf16) (w : FVec Ideal S2x3x1024x2048 .f32) (z : FVec Ideal S128x15360 .f32) :
    MG (G z) (PJ (ST hm hf ys) w) = out hm hf ys w z := by
  funext i
  idx_vars i
  rw [mg_at, Fin.sum_univ_three, g_at, g_at, g_at, pj_at, pj_at, pj_at]
  simp only [st_at0, st_at1, st_at2]
  unfold out proj
  refine congrArg₂ (· + ·) (congrArg₂ (· + ·) ?_ ?_) ?_
  all_goals exact congrArg _ (Fin.sum_fin_congr fun k => mul_comm _ _)

end Cert.MergeSRefIdeal.Layer

end
-- ==== Proof.OutprojSClaim.lean ====
/-
  The output projection: what the kernel's array and the reference's array hold.
  The call of the sample group, 128 rows.
-/
module

public import proofs.«01_k».proof.Proof.Rms
public import proofs.«01_k».proof.Proof.Gen.OutprojSIdeal.Value
public import proofs.«01_k».proof.Proof.Gen.OutprojSRefIdeal.Run
public import Idealize.ShloMosaic.Lib.Pipeline.ValueKit

@[expose] public section

set_option maxRecDepth 16384

noncomputable section

open Idealize.ShloMosaic Idealize.ShloMosaic.TcCoe Idealize.SL.Sem

namespace Cert.OutprojSIdeal.Layer

open Cert.OutprojSIdeal Cert.OutprojSIdeal.Gen Cert.Layer

/-- The result: the residual plus the normalised projection. -/
def out (a : S128x2048.Idx → EReal) (w : S2x2048x2048.Idx → EReal) (g : S2x2048.Idx → EReal) (x : S128x2048.Idx → EReal) :
    S128x2048.Idx → EReal := fun i =>
  x i + rms (fun j => ∑ k : Fin 2048, a (ix2 (i 0 : Fin 128) k) * w (ix3 (0 : Fin 2) k j)) (g (ix2 (0 : Fin 2) (i 1 : Fin 2048))) (i 1)

theorem pay_at (x : Vec Ideal S128x2048 .f32) (a : Vec Ideal S128x2048 .bf16) (w : Vec Ideal S1x2048x2048 .bf16) (g : Vec Ideal S1x1x2048 .f32)
    (r : Fin 128) (j : Fin 2048) :
    k0_pay1 (F := Ideal) x a w g (ix2 r j)
      = (show EReal from x (ix2 r j)) + rms (fun j => ∑ k : Fin 2048, (show EReal from a (ix2 r k)) * (show EReal from w (ix3 (0 : Fin 1) k j))) (g (ix3 (0 : Fin 1) (0 : Fin 1) j)) j := by
  pointwise [k0_pay1, rms]

variable (m : (ℓ : Loc nD τ sig) → Buf (Elt Ideal) ℓ)

theorem idx : ∀ t : Fin cfg0.N, win0_0.index t = ![t.val, 0] ∧ win0_1.index t = ![0, 0, 0] ∧ win0_2.index t = ![0, 0, 0]
      ∧ win0_3.index t = ![t.val, 0] ∧ win0_4.index t = ![t.val, 0] :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

theorem pt_lt (t : Fin cfg0.N) : t.val < 1 := lt_of_lt_of_eq t.isLt N_0

/-- Row `r` of block `t`. -/
def row (t : Fin cfg0.N) (r : Fin 128) : Fin 128 := ⟨t.val * 128 + r.val, by have := pt_lt t; omega⟩

theorem rd0 (c : Dev nD) (t : Fin cfg0.N) (r : Fin 128) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k j : Fin 2048) :
    iblk m c 1 t (ix3 (0 : Fin 1) k j) = m ((c : Thread nD τ).loc main_arg1) (ix3 (0 : Fin 2) k j) := by
  blk_point [iblk, V, idx t]

theorem rd2 (c : Dev nD) (t : Fin cfg0.N) (j : Fin 2048) :
    iblk m c 2 t (ix3 (0 : Fin 1) (0 : Fin 1) j) = m ((c : Thread nD τ).loc main_arg2) (ix2 (0 : Fin 2) j) := by
  blk_point [iblk, V, idx t]

theorem rd3 (c : Dev nD) (t : Fin cfg0.N) (r : Fin 128) (k : Fin 2048) :
    iblk m c 3 t (ix2 r k) = m ((c : Thread nD τ).loc main_arg3) (ix2 (row t r) k) := by
  have := pt_lt t
  unfold row
  blk_ext [iblk, V, idx t]

theorem final (c : Dev nD) : (dats m 0 c).arrAt 4 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  idx_vars y
  have := pt_lt t
  unfold out0_4
  rw [View.canon_unit_zero hz2]
  simp only [View.ld_unit_zero (S := S128x2048) hz2, View.ld_unit_zero (S := S1x2048x2048) hz3, View.ld_unit_zero (S := S1x1x2048) hz3]
  refine (pay_at _ _ _ _ y0 y1).trans ?_
  simp only [rd0, rd1, rd2, rd3]
  have e : ((View.whole main_v2).slice (win0_4.rect t)).emb (ix2 y0 y1) = ix2 (row t y0) y1 := by
    unfold row
    blk_ext [idx t]
  rw [e]
  rfl

end Cert.OutprojSIdeal.Layer

namespace Cert.OutprojSRefIdeal.Layer

open Cert.OutprojSRefIdeal Cert.OutprojSRefIdeal.Gen Cert.Layer

def MM (a : FVec Ideal S128x2048 .bf16) (w : FVec Ideal S2x2048x2048 .f32) : FVec Ideal S128x2048 .f32 :=
  Host.dotGeneral dot_S128x2048_S2048x2048_S128x2048_1_0_0_1_n_n none (extf .f32 a bitsLt_bf16_f32) (shapeCast _ (extractStridedSlice S1x2048x2048 ![0, 0, 0] w slices_S2x2048x2048_S1x2048x2048_0_0_0) shapeCasts_S1x2048x2048_S2048x2048)

theorem mm_at (a : FVec Ideal S128x2048 .bf16) (w : FVec Ideal S2x2048x2048 .f32) (t : Fin 128) (j : Fin 2048) :
    MM a w (ix2 t j) = ∑ k : Fin 2048, (show EReal from a (ix2 t k)) * (show EReal from w (ix3 (0 : Fin 2) k j)) := by
  pointwise [MM]

def RN (y : FVec Ideal S128x2048 .f32) (g : FVec Ideal S2x2048 .f32) : FVec Ideal S128x2048 .f32 :=
  mulf (mulf y (broadcastInDim S128x2048 ![0, 1] bcast_S128x1_S128x2048_0_1 (Host.rsqrt (addf (Host.divf (broadcastInDim S128x1 ![0] bcast_S128_S128x1_0 (Host.reduceAdd (mulf y y) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 (shapeCast _ (extractStridedSlice S1x2048 ![0, 0] g slices_S2x2048_S1x2048_0_0) shapeCasts_S1x2048_S2048)))

theorem rn_at (y : FVec Ideal S128x2048 .f32) (g : FVec Ideal S2x2048 .f32) (t : Fin 128) (j : Fin 2048) :
    RN y g (ix2 t j) = rms (fun j => y (ix2 t j)) (g (ix2 (0 : Fin 2) j)) j := by
  pointwise [RN, rms]

/-- The reference's term is the layer's result. -/
theorem ref_eq (a : FVec Ideal S128x2048 .bf16) (w : FVec Ideal S2x2048x2048 .f32) (g : FVec Ideal S2x2048 .f32) (x : FVec Ideal S128x2048 .f32) :
    addf x (RN (MM a w) g) = Cert.OutprojSIdeal.Layer.out a w g x := by
  funext i
  idx_vars i
  refine congrArg (fun z : EReal => (show EReal from x (ix2 i0 i1)) + z) ((rn_at _ _ i0 i1).trans ?_)
  refine congrArg (fun f : Fin 2048 → EReal => rms f (g (ix2 (0 : Fin 2) i1)) i1) (funext fun j => mm_at a w i0 j)

end Cert.OutprojSRefIdeal.Layer

end
-- ==== Proof.InprojSIdealBody.lean ====
/-
  The input projection's body at one grid point: the three cases of its branches, and what each leaves.
  The call of the sample group, 128 rows.
-/
module

public import proofs.«01_k».proof.Proof.Gen.InprojSIdeal.Skeleton
public import proofs.«01_k».proof.Proof.Gen.InprojSIdeal.Frame
public import Idealize.ShloMosaic.Lib.VecWindow

@[expose] public section

set_option maxRecDepth 16384

noncomputable section

namespace Cert.InprojSIdeal.Layer

open Cert.InprojSIdeal Cert.InprojSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource the assertions speak of. -/
abbrev Res (F : FTy → Type) := MT nD τ sig Unit (Elt F) ℕ (UR sig nD τ) ℕ

/-! ## The branch conditions -/

/-- The condition of the first branch: the first column tile. -/
abbrev cond1 (i : grid0.Coords) : Prop :=
  (Scalar.cmpi .ne (Scalar.extui (Scalar.cmpi .eq (BitVec.ofNat 32 (i 1).val) 0#32)) 0#32) = 1#1

theorem cond1_iff (t : Fin grid0.N) : cond1 (grid0.coords t) ↔ t.val % 11 = 0 := by
  have ht : t.val < 11 := Nat.lt_of_lt_of_eq t.isLt N_0
  have e1 : (grid0.coords t 1).val = t.val / 1 % 11 := Pipeline.Grid.coords_val t 1 (by decide) rfl
  simp only [cond1, e1]
  word_cmp

theorem cond2_iff (t : Fin grid0.N) : k0_cond2 (grid0.coords t) = 1#1 ↔ ¬t.val % 11 = 10 := by
  have ht : t.val < 11 := Nat.lt_of_lt_of_eq t.isLt N_0
  have e1 : (grid0.coords t 1).val = t.val / 1 % 11 := Pipeline.Grid.coords_val t 1 (by decide) rfl
  unfold k0_cond2
  simp only [e1]
  word_cmp

theorem cond3_iff (t : Fin grid0.N) : k0_cond3 (grid0.coords t) = 1#1 ↔ t.val % 11 = 10 := by
  have ht : t.val < 11 := Nat.lt_of_lt_of_eq t.isLt N_0
  have e1 : (grid0.coords t 1).val = t.val / 1 % 11 := Pipeline.Grid.coords_val t 1 (by decide) rfl
  unfold k0_cond3
  simp only [e1]
  word_cmp

/-! ## The body -/

section body

variable (c : Dev nD) (i : grid0.Coords)
  (arg2 : Memref sig .tc .vmem S128x2048 .f32) (harg2 : arg2.IsWhole)
  (arg3 : Memref sig .tc .vmem S1x1x2048 .f32) (harg3 : arg3.IsWhole)
  (arg4 : Memref sig .tc .vmem S1x2048x1536 .bf16) (harg4 : arg4.IsWhole)
  (arg5 : Memref sig .tc .vmem S1x2048x128 .f32) (harg5 : arg5.IsWhole)
  (arg6 : Memref sig .tc .vmem S128x1536 .f32) (harg6 : arg6.IsWhole)
  (arg7 : Memref sig .tc .vmem S128x128 .f32) (harg7 : arg7.IsWhole)
  (arg8 : Memref sig .tc .vmem S128x2048 .bf16) (harg8 : arg8.IsWhole)
  (x0 : Vec F S128x2048 .f32) (x1 : Vec F S1x1x2048 .f32) (x2 : Vec F S1x2048x1536 .bf16)
  (x3 : Vec F S1x2048x128 .f32) (x5 : Vec F S128x128 .f32)

/-- At the first column tile the body normalises the rows into the scratch and stores the first tile of the product. -/
theorem run_first (h1 : cond1 i) (h2 : k0_cond2 i = 1#1) (h3 : ¬k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k0_pay2 (k0_pay1 x0 x1) x2) ∗ owns (c : Thread nD τ) arg7 fullShare x5
          ∗ owns (c : Thread nD τ) arg8 fullShare (k0_pay1 x0 x1)) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full ..).trans (congrArg₂ _ ?_ ((View.readAt_full ..).trans (harg4.read_unread _)))
    exact (View.readCov_full ..).trans (congrArg₂ _ ((View.readAt_full ..).trans (harg2.read_unread _))
      ((View.readAt_full ..).trans (harg3.read_unread _)))
  isplitl [H5]
  · iexists _; isplitr; · ipureintro; exact harg7.read_unread _
    iexact H5
  iexists _; isplitr
  swap; · iexact HS
  ipureintro
  exact (View.read_writes_full ..).trans (congrArg₂ _ ((View.readAt_full ..).trans (harg2.read_unread _))
    ((View.readAt_full ..).trans (harg3.read_unread _)))

/-- At a column tile in between the body stores its tile of the product of the rows the scratch holds. -/
theorem run_mid (xs : Vec F S128x2048 .bf16) (h1 : ¬cond1 i) (h2 : k0_cond2 i = 1#1) (h3 : ¬k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare x5
        ∗ owns (c : Thread nD τ) arg8 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k0_pay2 xs x2) ∗ owns (c : Thread nD τ) arg7 fullShare x5
          ∗ owns (c : Thread nD τ) arg8 fullShare xs) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hf5; obtain rfl := harg8.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    exact (View.read_writes_full ..).trans (congrArg₂ _ ((View.readAt_full ..).trans (harg8.read_unread _))
      ((View.readAt_full ..).trans (harg4.read_unread _)))
  isplitl [H5]
  · iexists _; isplitr; · ipureintro; exact harg7.read_unread _
    iexact H5
  iexists _; isplitr; · ipureintro; exact harg8.read_unread _
  iexact HS

/-- At the last point of a row the body stores the narrow product; the wide one's tile stays as it was. -/
theorem run_last (x4 : Vec F S128x1536 .f32) (xs : Vec F S128x2048 .bf16) (h1 : ¬cond1 i) (h2 : ¬k0_cond2 i = 1#1) (h3 : k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare (k0_pay3 xs x3)
          ∗ owns (c : Thread nD τ) arg8 fullShare xs) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    exact (View.read_writes_full ..).trans (congrArg₂ _ ((View.readAt_full ..).trans (harg8.read_unread _))
      ((View.readAt_full ..).trans (harg5.read_unread _)))
  iexists _; isplitr; · ipureintro; exact harg8.read_unread _
  iexact HS

end body

end Cert.InprojSIdeal.Layer

end
-- ==== Proof.InprojSIdealFrame.lean ====
/-
  The input projection's run: what each buffer holds after each grid point, the body at every point, and the frame.

  The grid runs over 1 row block and 11 positions.  At position 0 the rows are normalised into the scratch; positions
  0 to 9 each store one tile of the wide product; position 10 stores the narrow product, and the wide product's last
  tile, left by position 9, is written out after it.
  The call of the sample group, 128 rows.
-/
module

public import proofs.«01_k».proof.Proof.InprojSIdealBody
public import Idealize.ShloMosaic.Lib.Claim

@[expose] public section

set_option maxRecDepth 16384

noncomputable section

namespace Cert.InprojSIdeal.Layer

open Cert.InprojSIdeal Cert.InprojSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Which points write what -/

theorem flush_wide : ∀ t : Fin cfg0.N, (cfg0.win 4).flush t = true ↔ ¬t.val % 11 = 9 :=
  (by decide +kernel : ∀ t : Fin grid0.N, win0_4.flush t = true ↔ ¬t.val % 11 = 9)

theorem idle_wide (t : Fin cfg0.N) : cfg0.idle 4 (cfg0.grid.coords t) = true ↔ t.val % 11 = 10 := by
  show (!(k0_cond2 (grid0.coords t) == 1#1)) = true ↔ _
  rw [Bool.not_eq_true', beq_eq_false_iff_ne, ne_eq, cond2_iff, not_not]

theorem idle_narrow (t : Fin cfg0.N) : cfg0.idle 5 (cfg0.grid.coords t) = true ↔ ¬t.val % 11 = 10 := by
  show (!(k0_cond3 (grid0.coords t) == 1#1)) = true ↔ _
  rw [Bool.not_eq_true', beq_eq_false_iff_ne, ne_eq, cond3_iff]

/-! ## What the buffers hold -/

/-- The point before. -/
def prev (t : Fin cfg0.N) : Fin cfg0.N := ⟨t.val - 1, Nat.lt_of_le_of_lt (Nat.sub_le _ _) t.isLt⟩

/-- The first point of the point's row block. -/
def start (t : Fin cfg0.N) : Fin cfg0.N := ⟨t.val - t.val % 11, Nat.lt_of_le_of_lt (Nat.sub_le _ _) t.isLt⟩

theorem start_first (t : Fin cfg0.N) (h : t.val % 11 = 0) : start t = t := Fin.ext (by show t.val - t.val % 11 = t.val; omega)

theorem start_prev (t : Fin cfg0.N) (h : ¬t.val % 11 = 0) : start (prev t) = start t :=
  Fin.ext (by show t.val - 1 - (t.val - 1) % 11 = t.val - t.val % 11; omega)

/-- The point whose tile of the wide product the buffer holds. -/
def wideAt (t : Fin cfg0.N) : Fin cfg0.N := if t.val % 11 = 10 then prev t else t

/-- The normalised rows the scratch holds. -/
def hs (c : Dev nD) (t : Fin cfg0.N) : Vec F S128x2048 .bf16 := k0_pay1 (iblk m c 0 (start t)) (iblk m c 1 (start t))

/-- The scratch, as a buffer. -/
abbrev scr : Memref sig .tc .vmem S128x2048 .bf16 := Memref.whole cc0_scratch0

theorem launch_eq (c : Dev nD) :
    (Pipeline.ΦA spec0 c : sProp (Res F))
      = iprop(iprop((∃ d, owns (c : Thread nD τ) scr fullShare d)) ∗ (∃ r, prngReg c r)) := by
  unfold Pipeline.ΦA; rw [scopedRest0_eq]; simp only [scr, owns_whole]; try rfl

/-- What holds before a point: the scratch holds the rows the point before used. -/
def inv (c : Dev nD) : (n : ℕ) → n ≤ cfg0.N → sProp (Res F)
  | 0, _ => Pipeline.ΦA spec0 c
  | n + 1, hn => iprop(iprop(owns (c : Thread nD τ) scr fullShare (hs m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (t : Fin cfg0.N) :
    inv m c (t.val + 1) t.isLt = iprop(iprop(owns (c : Thread nD τ) scr fullShare (hs m c t)) ∗ (∃ r, prngReg c r)) := rfl

theorem inv_pos (c : Dev nD) (n : ℕ) (h : n ≤ cfg0.N) (hz : n ≠ 0) :
    inv m c n h = iprop(iprop(owns (c : Thread nD τ) scr fullShare (hs m c ⟨n - 1, by omega⟩)) ∗ (∃ r, prngReg c r)) := by
  cases n with
  | zero => exact absurd rfl hz
  | succ n => rfl

/-- The run's data: the arrays as found, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (hs m c (wideAt t)) (iblk m c 2 (wideAt t))
    | ⟨5, _⟩ => k0_pay3 (hs m c t) (iblk m c 3 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay2 (hs m c (wideAt t)) (iblk m c 2 (wideAt t)) := by dsimp only [dats]
theorem after_5 (c : Dev nD) (t : Fin cfg0.N) : (dats m 0 c).after 5 t = k0_pay3 (hs m c t) (iblk m c 3 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At the last point of a row block the wide product's buffer still holds the tile of the point before. -/
theorem before_4 (c : Dev nD) (t : Fin cfg0.N) (h : t.val % 11 = 10) (d) :
    (dats m 0 c).before 4 t d = (dats m 0 c).after 4 t := by
  have hp : (prev t).val % 11 = 9 := by show (t.val - 1) % 11 = 9; omega
  have hfl : (cfg0.win 4).flush (prev t) = false := Bool.eq_false_iff.mpr fun h => (flush_wide _).mp h hp
  have hid : cfg0.idle 4 (cfg0.grid.coords (prev t)) = false :=
    Bool.eq_false_iff.mpr fun h => by have := (idle_wide _).mp h; omega
  have e : (dats m 0 c).before 4 t d = (dats m 0 c).after 4 (prev t) := by
    refine (Dat.before_of_pos _ 4 t (by omega) ((cfg0.win 4).fetch_out rfl t) d).trans ?_
    refine (if_neg (by rw [show (cfg0.win 4).flush ⟨t.val - 1, _⟩ = false from hfl]; exact Bool.false_ne_true)).trans ?_
    show (dats m 0 c).left 4 (prev t) d = _
    unfold Dat.left
    rw [hid]
    exact (Pipeline.fill_of_clip_none 4 _ (fun _ => rfl) d ((dats m 0 c).after 4 (prev t)) _).trans ((cfg0.win 4).fill_cut _ _)
  rw [e, after_4, after_4]
  unfold wideAt
  rw [if_pos h, if_neg (by omega)]

/-! ## The body at a point -/

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

/-- Every point leaves the wide product's buffer at its tile. -/
theorem leaves_wide (c : Dev nD) (t : Fin cfg0.N) :
    (dats m 0 c).leavesExact 4 t = owns (c : Thread nD τ) (st0_4 t) fullShare ((dats m 0 c).after 4 t) := by
  unfold Dat.leavesExact
  by_cases h : t.val % 11 = 10
  · rw [(idle_wide t).mpr h, (flush_wide t).mpr (by omega)]
  · rw [show cfg0.idle 4 (cfg0.grid.coords t) = false from Bool.eq_false_iff.mpr fun h' => h ((idle_wide t).mp h')]

/-- The last point of a row block leaves the narrow product's buffer at its block, -/
theorem leaves_narrow (c : Dev nD) (t : Fin cfg0.N) (h : t.val % 11 = 10) :
    (dats m 0 c).leavesExact 5 t = owns (c : Thread nD τ) (st0_5 t) fullShare ((dats m 0 c).after 5 t) := by
  unfold Dat.leavesExact
  rw [show cfg0.idle 5 (cfg0.grid.coords t) = false from Bool.eq_false_iff.mpr fun h' => (idle_narrow t).mp h' h]

/-- and any other point as it found it. -/
theorem leaves_narrow_idle (c : Dev nD) (t : Fin cfg0.N) (h : ¬t.val % 11 = 10) :
    (dats m 0 c).leavesExact 5 t = iprop(∃ d, owns (c : Thread nD τ) (st0_5 t) fullShare ((dats m 0 c).before 5 t d)) :=
  Dat.leavesExact_idle _ 5 t ((idle_narrow t).mpr h) (Bool.eq_false_iff.mpr fun h' => h ((flush0_5 t).mp h'))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, leaves_wide]
  rw [show (dats m 0 c).Φ t.succ = inv m c (t.val + 1) t.isLt from rfl, inv_succ, inv_castSucc m c t]
  by_cases h0 : t.val % 11 = 0
  · have h10 : ¬t.val % 11 = 10 := by omega
    rw [leaves_narrow_idle m c t h10, after_4]
    unfold wideAt; rw [if_neg h10]
    have eh : hs m c t = k0_pay1 (iblk m c 0 t) (iblk m c 1 t) := by unfold hs; rw [start_first t h0]
    rw [eh]
    have hphi : inv m c t.val (Nat.le_of_lt t.isLt)
        ⊢ iprop(iprop((∃ d, owns (c : Thread nD τ) scr fullShare d)) ∗ (∃ r, prngReg c r)) := by
      by_cases hz : t.val = 0
      · rw [inv_zero m c _ _ hz, launch_eq]
      · rw [inv_pos m c _ _ hz]
        iintro ⟨HS, Hg⟩
        isplitl [HS]
        · iexists _; iexact HS
        iexact Hg
    refine (sep_mono hphi .rfl).trans ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ (iblk m c 0 t) (iblk m c 1 t) (iblk m c 2 t) (iblk m c 3 t)
      ((dats m 0 c).before 5 t d5) ((cond1_iff t).mpr h0) ((cond2_iff t).mpr h10) (fun h => h10 ((cond3_iff t).mp h)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    have eh : hs m c ⟨t.val - 1, by omega⟩ = hs m c t := by
      show hs m c (prev t) = _
      unfold hs; rw [start_prev t h0]
    rw [inv_pos m c _ _ hz, eh]
    by_cases h10 : t.val % 11 = 10
    · rw [leaves_narrow m c t h10, after_5]
      simp only [before_4 m c t h10]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ (iblk m c 0 t) (iblk m c 1 t) (iblk m c 2 t) (iblk m c 3 t)
        ((dats m 0 c).after 4 t) (hs m c t) (fun h => h0 ((cond1_iff t).mp h)) (fun h => (cond2_iff t).mp h h10) ((cond3_iff t).mpr h10) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves_narrow_idle m c t h10, after_4]
      unfold wideAt; rw [if_neg h10]
      iintro ⟨⟨HS, Hg⟩, Ho, ⟨%d0, H0⟩, ⟨%d1, H1⟩, ⟨%d2, H2⟩, ⟨%d3, H3⟩, ⟨%d4, H4⟩, ⟨%d5, H5⟩⟩
      iapply (run_mid c (grid0.coords t) _ _ _ _ _ _ _ _ _ _ _ _ _ _ (iblk m c 0 t) (iblk m c 1 t) (iblk m c 2 t) (iblk m c 3 t)
        ((dats m 0 c).before 5 t d5) (hs m c t) (fun h => h0 ((cond1_iff t).mp h)) ((cond2_iff t).mpr h10) (fun h => h10 ((cond3_iff t).mp h)) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem defs_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hN : cfg0.N = 11 := N_0
  rw [show (dats m 0 c).Φ (Fin.last cfg0.N) = inv m c cfg0.N (Nat.le_refl _) from rfl, inv_pos m c _ _ (by omega), launch_eq]
  iintro ⟨HS, Hg⟩
  isplitl [HS]
  · iexists _; iexact HS
  iexact Hg

/-! ## The run and the frame -/

set_option backward.isDefEq.respectTransparency.types false in
/-- The run: every array at what the data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_main_quiescent m ρ))

end Cert.InprojSIdeal.Layer

end
-- ==== Proof.InprojSFrame.lean ====
/-
  The input projection of the sample group: the idealized module is the module itself, so the frame of the one is the frame of the other.
-/
module

public import proofs.«01_k».proof.Proof.Gen.InprojS
public import proofs.«01_k».proof.Proof.InprojSIdealFrame

@[expose] public section

set_option maxRecDepth 16384

noncomputable section

open Idealize.ShloMosaic Idealize.ShloMosaic.TcCoe Idealize.SL.Sem

namespace Cert.InprojS.Layer

open Cert.InprojS Cert.InprojS.Gen

variable {F : FTy → Type} [FloatOps F]

theorem bodies_eq : (defs₀ (F := F)) = Cert.InprojSIdeal.defs₀ (F := F) := by
  unfold defs₀ Cert.InprojSIdeal.defs₀
  refine congrArg Defs.onTc ?_
  funext l a
  match l, a with
  | 0, (t, s) => with_unfolding_all rfl

theorem table_eq : (defs (F := F)) = Cert.InprojSIdeal.defs (F := F) := congrArg (Pipeline.defs pcfgs) bodies_eq

/-- Every run ends, with the argument arrays unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [table_eq]
  with_unfolding_all exact Cert.InprojSIdeal.Layer.frame (F := F) m ρ

end Cert.InprojS.Layer
end
-- ==== Proof.InprojSClaim.lean ====
/-
  The input projection: what the kernel's two arrays and the reference's two arrays hold.
  The call of the sample group, 128 rows.
-/
module

public import proofs.«01_k».proof.Proof.Rms
public import proofs.«01_k».proof.Proof.InprojSIdealFrame
public import proofs.«01_k».proof.Proof.Gen.InprojSRefIdeal.Run
public import Idealize.ShloMosaic.Lib.Pipeline.ValueKit

@[expose] public section

set_option maxRecDepth 16384

noncomputable section

open Idealize.ShloMosaic Idealize.ShloMosaic.TcCoe Idealize.SL.Sem

namespace Cert.InprojSIdeal.Layer

open Cert.InprojSIdeal Cert.InprojSIdeal.Gen Cert.Layer

/-- The normalised row. -/
def hid (x : S128x2048.Idx → EReal) (g : S2x2048.Idx → EReal) (i : Fin 128) (k : Fin 2048) : EReal :=
  rms (fun j => x (ix2 i j)) (g (ix2 (0 : Fin 2) k)) k

/-- The wide product. -/
def wide (x : S128x2048.Idx → EReal) (g : S2x2048.Idx → EReal) (w : S2x2048x15360.Idx → EReal) : S128x15360.Idx → EReal := fun i =>
  ∑ k : Fin 2048, hid x g (i 0) k * w (ix3 (0 : Fin 2) k (i 1 : Fin 15360))

/-- The narrow product. -/
def narrow (x : S128x2048.Idx → EReal) (g : S2x2048.Idx → EReal) (w : S2x2048x128.Idx → EReal) : S128x128.Idx → EReal := fun i =>
  ∑ k : Fin 2048, hid x g (i 0) k * w (ix3 (0 : Fin 2) k (i 1 : Fin 128))

theorem pay1_at (x : Vec Ideal S128x2048 .f32) (g : Vec Ideal S1x1x2048 .f32) (r : Fin 128) (k : Fin 2048) :
    k0_pay1 (F := Ideal) x g (ix2 r k) = rms (fun j => x (ix2 r j)) (g (ix3 (0 : Fin 1) (0 : Fin 1) k)) k := by
  pointwise [k0_pay1, rms]

theorem pay2_at (h : Vec Ideal S128x2048 .bf16) (w : Vec Ideal S1x2048x1536 .bf16) (r : Fin 128) (j : Fin 1536) :
    k0_pay2 (F := Ideal) h w (ix2 r j) = ∑ k : Fin 2048, (show EReal from h (ix2 r k)) * (show EReal from w (ix3 (0 : Fin 1) k j)) := by
  pointwise [k0_pay2]

theorem pay3_at (h : Vec Ideal S128x2048 .bf16) (w : Vec Ideal S1x2048x128 .f32) (r : Fin 128) (j : Fin 128) :
    k0_pay3 (F := Ideal) h w (ix2 r j) = ∑ k : Fin 2048, (show EReal from h (ix2 r k)) * (show EReal from w (ix3 (0 : Fin 1) k j)) := by
  pointwise [k0_pay3]

variable (m : (ℓ : Loc nD τ sig) → Buf (Elt Ideal) ℓ) (ρ : Dev nD → PrngReg)

theorem idx : ∀ t : Fin cfg0.N, win0_0.index t = ![t.val / 11, 0] ∧ win0_1.index t = ![0, 0, 0] ∧ win0_2.index t = ![0, 0, min (t.val % 11) 9]
      ∧ win0_3.index t = ![0, 0, 0] ∧ win0_4.index t = ![t.val / 11, min (t.val % 11) 9] ∧ win0_5.index t = ![t.val / 11, 0] :=
  (by decide +kernel : ∀ t : Fin grid0.N, _)

theorem pt_lt (t : Fin cfg0.N) : t.val < 11 := lt_of_lt_of_eq t.isLt N_0

/-- Row `r` of the point's row block. -/
def row (t : Fin cfg0.N) (r : Fin 128) : Fin 128 := ⟨t.val / 11 * 128 + r.val, by have := pt_lt t; omega⟩

/-- Column `l` of the point's tile. -/
def col (t : Fin cfg0.N) (l : Fin 1536) : Fin 15360 := ⟨min (t.val % 11) 9 * 1536 + l.val, by omega⟩

theorem rd0 (c : Dev nD) (t : Fin cfg0.N) (r : Fin 128) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k : Fin 2048) :
    iblk m c 1 t (ix3 (0 : Fin 1) (0 : Fin 1) k) = m ((c : Thread nD τ).loc main_arg1) (ix2 (0 : Fin 2) k) := by
  blk_point [iblk, V, idx t]

theorem rd2 (c : Dev nD) (t : Fin cfg0.N) (k : Fin 2048) (l : Fin 1536) :
    iblk m c 2 t (ix3 (0 : Fin 1) k l) = m ((c : Thread nD τ).loc main_arg2) (ix3 (0 : Fin 2) k (col t l)) := by
  unfold col
  blk_point [iblk, V, idx t]

theorem rd3 (c : Dev nD) (t : Fin cfg0.N) (k : Fin 2048) (l : Fin 128) :
    iblk m c 3 t (ix3 (0 : Fin 1) k l) = m ((c : Thread nD τ).loc main_arg3) (ix3 (0 : Fin 2) k l) := by
  blk_point [iblk, V, idx t]

theorem row_start (t : Fin cfg0.N) (r : Fin 128) : row (start t) r = row t r := Fin.ext (by
  show (t.val - t.val % 11) / 11 * 128 + r.val = t.val / 11 * 128 + r.val
  omega)

theorem row_wide (t : Fin cfg0.N) (r : Fin 128) : row (wideAt t) r = row t r := by
  unfold wideAt
  split
  · exact Fin.ext (by show (t.val - 1) / 11 * 128 + r.val = t.val / 11 * 128 + r.val; omega)
  · rfl

theorem col_wide (t : Fin cfg0.N) (l : Fin 1536) : col (wideAt t) l = col t l := by
  unfold wideAt
  split
  · exact Fin.ext (by show min ((t.val - 1) % 11) 9 * 1536 + l.val = min (t.val % 11) 9 * 1536 + l.val; omega)
  · rfl

/-- The scratch holds the normalised rows of the point's row block. -/
theorem hs_at (c : Dev nD) (t : Fin cfg0.N) (r : Fin 128) (k : Fin 2048) :
    hs m c t (ix2 r k) = hid (m ((c : Thread nD τ).loc main_arg0)) (m ((c : Thread nD τ).loc main_arg1)) (row t r) k := by
  unfold hs
  refine (pay1_at _ _ r k).trans ?_
  simp only [rd0, rd1, row_start]
  rfl

theorem final_wide (c : Dev nD) : (dats m 0 c).arrAt 4 (cfgs 0).N
    = wide (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after_4]
  idx_vars y
  have := pt_lt t
  refine (pay2_at _ _ y0 y1).trans ?_
  simp only [hs_at, rd2, row_wide, col_wide]
  have e : ((View.whole main_v1_0).slice (win0_4.rect t)).emb (ix2 y0 y1) = ix2 (row t y0) (col t y1) := by
    unfold row col
    blk_ext [idx t]
  rw [e]
  rfl

theorem final_narrow (c : Dev nD) : (dats m 0 c).arrAt 5 (cfgs 0).N
    = narrow (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after_5]
  idx_vars y
  have := pt_lt t
  refine (pay3_at _ _ y0 y1).trans ?_
  simp only [hs_at, rd3]
  have e : ((View.whole main_v1_1).slice (win0_5.rect t)).emb (ix2 y0 y1) = ix2 (row t y0) y1 := by
    unfold row
    blk_ext [idx t]
  rw [e]
  rfl

/-- The run, with the two result arrays named. -/
theorem run_blocks : θ_run defs (onTc (τ := τ) (main (F := Ideal))) ⟨m, fun _ => 0, ρ⟩ fun r => ∀ c : Dev nD,
      r.2.mem ((c : Thread nD τ).loc main_v1_0) = (dats m 0 c).arrAt 4 (cfgs 0).N
      ∧ r.2.mem ((c : Thread nD τ).loc main_v1_1) = (dats m 0 c).arrAt 5 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, h.2 c⟩)
    (θ_run_and (run_main m ρ) (frame_of m ρ (dats m) (A_eq m) (run_main m ρ)))

end Cert.InprojSIdeal.Layer

namespace Cert.InprojSRefIdeal.Layer

open Cert.InprojSRefIdeal Cert.InprojSRefIdeal.Gen Cert.Layer
open Cert.InprojSIdeal.Layer (hid wide narrow)

def RN (y : FVec Ideal S128x2048 .f32) (g : FVec Ideal S2x2048 .f32) : FVec Ideal S128x2048 .f32 :=
  mulf (mulf y (broadcastInDim S128x2048 ![0, 1] bcast_S128x1_S128x2048_0_1 (Host.rsqrt (addf (Host.divf (broadcastInDim S128x1 ![0] bcast_S128_S128x1_0 (Host.reduceAdd (mulf y y) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 (shapeCast _ (extractStridedSlice S1x2048 ![0, 0] g slices_S2x2048_S1x2048_0_0) shapeCasts_S1x2048_S2048)))

theorem rn_at (y : FVec Ideal S128x2048 .f32) (g : FVec Ideal S2x2048 .f32) (t : Fin 128) (j : Fin 2048) :
    RN y g (ix2 t j) = hid y g t j := by
  pointwise [RN, hid, rms]

def WD (h : FVec Ideal S128x2048 .f32) (w : FVec Ideal S2x2048x15360 .bf16) : FVec Ideal S128x15360 .f32 :=
  Host.dotGeneral dot_S128x2048_S2048x15360_S128x15360_1_0_0_1_n_n none h (extf .f32 (shapeCast _ (extractStridedSlice S1x2048x15360 ![0, 0, 0] w slices_S2x2048x15360_S1x2048x15360_0_0_0) shapeCasts_S1x2048x15360_S2048x15360) bitsLt_bf16_f32)

theorem wd_at (h : FVec Ideal S128x2048 .f32) (w : FVec Ideal S2x2048x15360 .bf16) (t : Fin 128) (j : Fin 15360) :
    WD h w (ix2 t j) = ∑ k : Fin 2048, (show EReal from h (ix2 t k)) * (show EReal from w (ix3 (0 : Fin 2) k j)) := by
  pointwise [WD]

def NR (h : FVec Ideal S128x2048 .f32) (w : FVec Ideal S2x2048x128 .f32) : FVec Ideal S128x128 .f32 :=
  Host.dotGeneral dot_S128x2048_S2048x128_S128x128_1_0_0_1_n_n none h (shapeCast _ (extractStridedSlice S1x2048x128 ![0, 0, 0] w slices_S2x2048x128_S1x2048x128_0_0_0) shapeCasts_S1x2048x128_S2048x128)

theorem nr_at (h : FVec Ideal S128x2048 .f32) (w : FVec Ideal S2x2048x128 .f32) (t : Fin 128) (j : Fin 128) :
    NR h w (ix2 t j) = ∑ k : Fin 2048, (show EReal from h (ix2 t k)) * (show EReal from w (ix3 (0 : Fin 2) k j)) := by
  pointwise [NR]

/-- The reference's wide product. -/
theorem wide_eq (x : FVec Ideal S128x2048 .f32) (g : FVec Ideal S2x2048 .f32) (w : FVec Ideal S2x2048x15360 .bf16) :
    WD (RN x g) w = wide x g w := by
  funext i
  idx_vars i
  refine (wd_at _ _ i0 i1).trans ?_
  exact Fin.sum_fin_congr fun k => congrArg (fun z : EReal => z * (show EReal from w (ix3 (0 : Fin 2) k i1))) (rn_at x g i0 k)

/-- The reference's narrow product. -/
theorem narrow_eq (x : FVec Ideal S128x2048 .f32) (g : FVec Ideal S2x2048 .f32) (w : FVec Ideal S2x2048x128 .f32) :
    NR (RN x g) w = narrow x g w := by
  funext i
  idx_vars i
  refine (nr_at _ _ i0 i1).trans ?_
  exact Fin.sum_fin_congr fun k => congrArg (fun z : EReal => z * (show EReal from w (ix3 (0 : Fin 2) k i1))) (rn_at x g i0 k)

end Cert.InprojSRefIdeal.Layer

end
-- ==== Proof.MlpSBCases.lean ====
/-
  What the feed-forward kernel holds after a grid point, over what it held after the point before.
  The call of the second layer for the sample group, 128 rows.
-/
module

public import proofs.«01_k».proof.Proof.Gen.MlpSBIdeal.Value
public import Idealize.ShloMosaic.Lib.Pipeline.ValueKit

@[expose] public section

set_option maxRecDepth 16384

noncomputable section

open Idealize.ShloMosaic Idealize.ShloMosaic.TcCoe Idealize.SL.Sem

namespace Cert.MlpSBIdeal.Layer

open Cert.MlpSBIdeal Cert.MlpSBIdeal.Gen

variable (m : (ℓ : Loc nD τ sig) → Buf (Elt Ideal) ℓ)

theorem h_A (c : Dev nD) (t : Fin cfg0.N) (h0 : t.val % 16 = 0) :
    (outsAt0 m c t.val t.isLt).2 = k0_pay1 (iblk m c 0 t) (iblk m c 1 t) := by
  rw [outsAt0_A m c t h0 (by omega)]; frame_out

theorem o_A (c : Dev nD) (t : Fin cfg0.N) (h0 : t.val % 16 = 0) :
    (outsAt0 m c t.val t.isLt).1 = k0_pay3 (k0_pay1 (iblk m c 0 t) (iblk m c 1 t)) (iblk m c 2 t) (k0_pay2 (F := Ideal)) (iblk m c 3 t) := by
  rw [outsAt0_A m c t h0 (by omega)]; frame_out

theorem h_step (c : Dev nD) (t : Fin cfg0.N) (h0 : ¬t.val % 16 = 0) :
    (outsAt0 m c t.val t.isLt).2 = (outsAt0 m c (t.val - 1) (Nat.lt_of_le_of_lt (Nat.sub_le _ _) t.isLt)).2 := by
  by_cases h1 : t.val % 16 = 15
  · rw [outsAt0_C m c t h0 h1]; rfl
  · rw [outsAt0_B m c t h0 h1]; rfl

theorem o_B (c : Dev nD) (t : Fin cfg0.N) (h0 : ¬t.val % 16 = 0) (h1 : ¬t.val % 16 = 15) :
    (outsAt0 m c t.val t.isLt).1 = k0_pay3 (outsAt0 m c (t.val - 1) (Nat.lt_of_le_of_lt (Nat.sub_le _ _) t.isLt)).2 (iblk m c 2 t)
      (outsAt0 m c (t.val - 1) (Nat.lt_of_le_of_lt (Nat.sub_le _ _) t.isLt)).1 (iblk m c 3 t) := by
  rw [outsAt0_B m c t h0 h1]; frame_out
  exact congrArg (fun h => k0_pay3 (F := Ideal) h (iblk m c 2 t) (outsAt0 m c (t.val - 1) (Nat.lt_of_le_of_lt (Nat.sub_le _ _) t.isLt)).1 (iblk m c 3 t))
    ((Memref.isWhole_whole cc0_scratch0).read_unread _)

theorem o_C (c : Dev nD) (t : Fin cfg0.N) (h0 : ¬t.val % 16 = 0) (h1 : t.val % 16 = 15) :
    (outsAt0 m c t.val t.isLt).1 = k0_pay4 (iblk m c 0 t) (k0_pay3 (outsAt0 m c (t.val - 1) (Nat.lt_of_le_of_lt (Nat.sub_le _ _) t.isLt)).2 (iblk m c 2 t)
      (outsAt0 m c (t.val - 1) (Nat.lt_of_le_of_lt (Nat.sub_le _ _) t.isLt)).1 (iblk m c 3 t)) (iblk m c 4 t) := by
  rw [outsAt0_C m c t h0 h1]; frame_out
  exact congrArg (fun h => k0_pay4 (F := Ideal) (iblk m c 0 t) (k0_pay3 (F := Ideal) h (iblk m c 2 t)
    (outsAt0 m c (t.val - 1) (Nat.lt_of_le_of_lt (Nat.sub_le _ _) t.isLt)).1 (iblk m c 3 t)) (iblk m c 4 t))
    ((Memref.isWhole_whole cc0_scratch0).read_unread _)

end Cert.MlpSBIdeal.Layer

end
-- ==== Proof.MlpSBArray.lean ====
/-
  The feed-forward kernel: the array its grid leaves. The sixteen tiles of the hidden axis add up to the whole product.
  The call of the second layer for the sample group, 128 rows.
-/
module

public import proofs.«01_k».proof.Proof.Rms
public import proofs.«01_k».proof.Proof.MlpSBCases

@[expose] public section

set_option maxRecDepth 16384

noncomputable section

open Idealize.ShloMosaic Idealize.ShloMosaic.TcCoe Idealize.SL.Sem

namespace Cert.MlpSBIdeal.Layer

open Cert.MlpSBIdeal Cert.MlpSBIdeal.Gen Cert.Layer

/-- The squared positive part. -/
def act (s : EReal) : EReal := max s 0 * max s 0

/-- The normalised row. -/
def hid (x : S128x2048.Idx → EReal) (g : S2x2048.Idx → EReal) (i : Fin 128) (k : Fin 2048) : EReal :=
  rms (fun j => x (ix2 i j)) (g (ix2 (1 : Fin 2) k)) k

/-- What hidden unit `l` adds to entry `j` of row `i`. -/
def unit (x : S128x2048.Idx → EReal) (g : S2x2048.Idx → EReal) (wu : S2x2048x8192.Idx → EReal) (wd : S2x8192x2048.Idx → EReal)
    (i : Fin 128) (j : Fin 2048) (l : Fin 8192) : EReal :=
  act (∑ k : Fin 2048, hid x g i k * wu (ix3 (1 : Fin 2) k l)) * wd (ix3 (1 : Fin 2) l j)

/-- The result: the residual plus the normalised output of the two products. -/
def out (x : S128x2048.Idx → EReal) (g : S2x2048.Idx → EReal) (wu : S2x2048x8192.Idx → EReal) (wd : S2x8192x2048.Idx → EReal)
    (gp : S2x2048.Idx → EReal) : S128x2048.Idx → EReal := fun i =>
  x i + rms (fun j => ∑ l : Fin 8192, unit x g wu wd (i 0) j l) (gp (ix2 (1 : Fin 2) (i 1 : Fin 2048))) (i 1)

theorem pay1_at (x : Vec Ideal S128x2048 .f32) (g : Vec Ideal S1x1x2048 .f32) (r : Fin 128) (k : Fin 2048) :
    k0_pay1 (F := Ideal) x g (ix2 r k) = rms (fun j => x (ix2 r j)) (g (ix3 (0 : Fin 1) (0 : Fin 1) k)) k := by
  pointwise [k0_pay1, rms]

theorem pay2_at (r : Fin 128) (k : Fin 2048) : (k0_pay2 (F := Ideal) (ix2 r k) : EReal) = 0 := by
  pointwise [k0_pay2]

theorem pay3_at (h : Vec Ideal S128x2048 .bf16) (wu : Vec Ideal S1x2048x512 .bf16) (o : Vec Ideal S128x2048 .f32) (wd : Vec Ideal S1x512x2048 .bf16)
    (r : Fin 128) (j : Fin 2048) :
    k0_pay3 (F := Ideal) h wu o wd (ix2 r j) = (show EReal from o (ix2 r j))
      + ∑ l : Fin 512, act (∑ k : Fin 2048, (show EReal from h (ix2 r k)) * (show EReal from wu (ix3 (0 : Fin 1) k l))) * (show EReal from wd (ix3 (0 : Fin 1) l j)) := by
  pointwise [k0_pay3, act]

theorem pay4_at (x o : Vec Ideal S128x2048 .f32) (g : Vec Ideal S1x1x2048 .f32) (r : Fin 128) (j : Fin 2048) :
    k0_pay4 (F := Ideal) x o g (ix2 r j) = (show EReal from x (ix2 r j)) + rms (fun j => o (ix2 r j)) (g (ix3 (0 : Fin 1) (0 : Fin 1) j)) j := by
  pointwise [k0_pay4, rms]

variable (m : (ℓ : Loc nD τ sig) → Buf (Elt Ideal) ℓ)

theorem idx : ∀ t : Fin cfg0.N, win0_0.index t = ![t.val / 16, 0] ∧ win0_1.index t = ![1, 0, 0] ∧ win0_2.index t = ![1, 0, t.val % 16]
      ∧ win0_3.index t = ![1, t.val % 16, 0] ∧ win0_4.index t = ![1, 0, 0] ∧ win0_5.index t = ![t.val / 16, 0] :=
  (by decide +kernel : ∀ t : Fin grid0.N, _)

theorem pt_lt (t : Fin cfg0.N) : t.val < 16 := lt_of_lt_of_eq t.isLt N_0

/-- Row `r` of block row `t / 16`. -/
def row (t : Fin cfg0.N) (r : Fin 128) : Fin 128 := ⟨t.val / 16 * 128 + r.val, by have := pt_lt t; omega⟩

/-- Hidden unit `l` of tile `t % 16`. -/
def hcol (t : Fin cfg0.N) (l : Fin 512) : Fin 8192 := ⟨t.val % 16 * 512 + l.val, by omega⟩

theorem rd0 (c : Dev nD) (t : Fin cfg0.N) (r : Fin 128) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k : Fin 2048) :
    iblk m c 1 t (ix3 (0 : Fin 1) (0 : Fin 1) k) = m ((c : Thread nD τ).loc main_arg1) (ix2 (1 : Fin 2) k) := by
  blk_point [iblk, V, idx t]

theorem rd2 (c : Dev nD) (t : Fin cfg0.N) (k : Fin 2048) (l : Fin 512) :
    iblk m c 2 t (ix3 (0 : Fin 1) k l) = m ((c : Thread nD τ).loc main_arg2) (ix3 (1 : Fin 2) k (hcol t l)) := by
  unfold hcol
  blk_point [iblk, V, idx t]

theorem rd3 (c : Dev nD) (t : Fin cfg0.N) (l : Fin 512) (j : Fin 2048) :
    iblk m c 3 t (ix3 (0 : Fin 1) l j) = m ((c : Thread nD τ).loc main_arg3) (ix3 (1 : Fin 2) (hcol t l) j) := by
  unfold hcol
  blk_point [iblk, V, idx t]

theorem rd4 (c : Dev nD) (t : Fin cfg0.N) (k : Fin 2048) :
    iblk m c 4 t (ix3 (0 : Fin 1) (0 : Fin 1) k) = m ((c : Thread nD τ).loc main_arg4) (ix2 (1 : Fin 2) k) := by
  blk_point [iblk, V, idx t]

/-- The carried rows, at every point, are the normalised rows of the point's block row. -/
theorem h_at (c : Dev nD) : ∀ (n : ℕ) (hn : n < cfg0.N) (r : Fin 128) (k : Fin 2048),
    (outsAt0 m c n hn).2 (ix2 r k) = hid (m ((c : Thread nD τ).loc main_arg0)) (m ((c : Thread nD τ).loc main_arg1)) (row ⟨n, hn⟩ r) k := by
  intro n
  induction n with
  | zero =>
    intro hn r k
    rw [h_A m c ⟨0, hn⟩ rfl]
    refine (pay1_at _ _ r k).trans ?_
    simp only [rd0, rd1]
    rfl
  | succ n ih =>
    intro hn r k
    by_cases h0 : (n + 1) % 16 = 0
    · rw [h_A m c ⟨n + 1, hn⟩ h0]
      refine (pay1_at _ _ r k).trans ?_
      simp only [rd0, rd1]
      rfl
    · rw [h_step m c ⟨n + 1, hn⟩ h0]
      refine (ih _ r k).trans ?_
      have e : row ⟨n, Nat.lt_of_succ_lt hn⟩ r = row ⟨n + 1, hn⟩ r := Fin.ext (by simp only [row]; omega)
      exact congrArg (fun i => hid _ _ i k) e

/-- What point `t` adds to entry `j` of row `r`. -/
def term (c : Dev nD) (r : Fin 128) (j : Fin 2048) (t : Fin cfg0.N) : EReal :=
  ∑ l : Fin 512, unit (m ((c : Thread nD τ).loc main_arg0)) (m ((c : Thread nD τ).loc main_arg1)) (m ((c : Thread nD τ).loc main_arg2)) (m ((c : Thread nD τ).loc main_arg3)) (row t r) j (hcol t l)

/-- One step over carried rows `h` known to be the normalised ones. -/
theorem step (c : Dev nD) (t : Fin cfg0.N) (h : Vec Ideal S128x2048 .bf16) (o : Vec Ideal S128x2048 .f32)
    (hh : ∀ r k, h (ix2 r k) = hid (m ((c : Thread nD τ).loc main_arg0)) (m ((c : Thread nD τ).loc main_arg1)) (row t r) k) (r : Fin 128) (j : Fin 2048) :
    k0_pay3 (F := Ideal) h (iblk m c 2 t) o (iblk m c 3 t) (ix2 r j) = (show EReal from o (ix2 r j)) + term m c r j t := by
  refine (pay3_at _ _ _ _ r j).trans ?_
  unfold term unit
  simp only [hh, rd2, rd3]

theorem row_pred (t : Fin cfg0.N) (h0 : ¬t.val % 16 = 0) (r : Fin 128) :
    row ⟨t.val - 1, Nat.lt_of_le_of_lt (Nat.sub_le _ _) t.isLt⟩ r = row t r := Fin.ext (by simp only [row]; omega)

theorem h_pred (c : Dev nD) (t : Fin cfg0.N) (h0 : ¬t.val % 16 = 0) (r : Fin 128) (k : Fin 2048) :
    (outsAt0 m c (t.val - 1) (Nat.lt_of_le_of_lt (Nat.sub_le _ _) t.isLt)).2 (ix2 r k)
      = hid (m ((c : Thread nD τ).loc main_arg0)) (m ((c : Thread nD τ).loc main_arg1)) (row t r) k :=
  (h_at m c _ _ r k).trans (congrArg (fun i => hid _ _ i k) (row_pred t h0 r))

/-- The running sum at entry `j` of row `r`, before the last point's normalisation. -/
def acc (c : Dev nD) (r : Fin 128) (j : Fin 2048) (n : ℕ) (hn : n < cfg0.N) : EReal :=
  if n % 16 = 15 then (show EReal from (outsAt0 m c (n - 1) (Nat.lt_of_le_of_lt (Nat.sub_le _ _) hn)).1 (ix2 r j)) + term m c r j ⟨n, hn⟩
  else (outsAt0 m c n hn).1 (ix2 r j)

theorem acc_A (c : Dev nD) (r : Fin 128) (j : Fin 2048) (t : Fin cfg0.N) (h0 : t.val % 16 = 0) :
    acc m c r j t.val t.isLt = 0 + term m c r j t := by
  unfold acc
  rw [if_neg (by omega), o_A m c t h0]
  refine (step m c t _ _ (fun r k => ?_) r j).trans (congrArg (· + _) (pay2_at r j))
  rw [← h_A m c t h0]
  exact h_at m c _ _ r k

theorem acc_S (c : Dev nD) (r : Fin 128) (j : Fin 2048) (t : Fin cfg0.N) (h0 : ¬t.val % 16 = 0) :
    acc m c r j t.val t.isLt = acc m c r j (t.val - 1) (Nat.lt_of_le_of_lt (Nat.sub_le _ _) t.isLt) + term m c r j t := by
  have e : acc m c r j (t.val - 1) (Nat.lt_of_le_of_lt (Nat.sub_le _ _) t.isLt)
      = (outsAt0 m c (t.val - 1) (Nat.lt_of_le_of_lt (Nat.sub_le _ _) t.isLt)).1 (ix2 r j) := if_neg (by omega)
  rw [e]
  by_cases h1 : t.val % 16 = 15
  · exact if_pos h1
  · refine (if_neg h1).trans ?_
    rw [o_B m c t h0 h1]
    exact step m c t _ _ (h_pred m c t h0) r j

/-- The whole sum over the hidden axis. -/
theorem acc_last (c : Dev nD) (r : Fin 128) (j : Fin 2048) (t : Fin cfg0.N) (h1 : t.val % 16 = 15) :
    acc m c r j t.val t.isLt
      = ∑ l : Fin 8192, unit (m ((c : Thread nD τ).loc main_arg0)) (m ((c : Thread nD τ).loc main_arg1)) (m ((c : Thread nD τ).loc main_arg2)) (m ((c : Thread nD τ).loc main_arg3)) (row t r) j l := by
  rw [Pipeline.eq_sum_fin_of_reset_step_of_flush (fun n hn => acc m c r j n hn) 16 0 (term m c r j) (acc_A m c r j) (acc_S m c r j) t h1, zero_add]
  unfold term
  refine Fin.sum_mul_add_congr fun s k hl => ?_
  have hr : row ⟨16 * (t.val / 16) + s.val, Pipeline.run_point_lt_of_flush t h1 s⟩ r = row t r := Fin.ext (by simp only [row]; omega)
  have hc : hcol ⟨16 * (t.val / 16) + s.val, Pipeline.run_point_lt_of_flush t h1 s⟩ k = ⟨s.val * 512 + k.val, hl⟩ := Fin.ext (by simp only [hcol]; omega)
  rw [hr, hc]

theorem last_at (c : Dev nD) (t : Fin cfg0.N) (h1 : t.val % 16 = 15) (r : Fin 128) (j : Fin 2048) :
    (outsAt0 m c t.val t.isLt).1 (ix2 r j)
      = out (m ((c : Thread nD τ).loc main_arg0)) (m ((c : Thread nD τ).loc main_arg1)) (m ((c : Thread nD τ).loc main_arg2)) (m ((c : Thread nD τ).loc main_arg3)) (m ((c : Thread nD τ).loc main_arg4)) (ix2 (row t r) j) := by
  have h0 : ¬t.val % 16 = 0 := by omega
  rw [o_C m c t h0 h1]
  refine (pay4_at _ _ _ r j).trans ?_
  rw [rd0, rd4]
  unfold out
  refine congrArg (fun f : Fin 2048 → EReal => _ + rms f _ j) (funext fun j' => ?_)
  refine (step m c t _ _ (h_pred m c t h0) r j').trans ?_
  refine Eq.trans ?_ (acc_last m c r j' t h1)
  exact (if_pos h1).symm

theorem final (c : Dev nD) : (dats m 0 c).arrAt 5 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  have := pt_lt t
  refine (last_at m c t ((flush0_5 t).mp hf) y0 y1).trans ?_
  have e : ((View.whole main_v4).slice (win0_5.rect t)).emb (ix2 y0 y1) = ix2 (row t y0) y1 := by
    unfold row
    blk_ext [idx t]
  rw [e]

end Cert.MlpSBIdeal.Layer

end
-- ==== Proof.MlpSBRef.lean ====
/-
  The feed-forward reference: its term, stage by stage, and the array it is.
  The call of the second layer for the sample group, 128 rows.
-/
module

public import proofs.«01_k».proof.Proof.MlpSBArray
public import proofs.«01_k».proof.Proof.Gen.MlpSBRefIdeal.Run

@[expose] public section

set_option maxRecDepth 16384

noncomputable section

open Idealize.ShloMosaic Idealize.ShloMosaic.TcCoe Idealize.SL.Sem

namespace Cert.MlpSBRefIdeal.Layer

open Cert.MlpSBRefIdeal Cert.MlpSBRefIdeal.Gen Cert.MlpSBRefIdeal.Value Cert.Layer Cert.MlpSBIdeal.Layer

def RN (y : FVec Ideal S128x2048 .f32) (g : FVec Ideal S2x2048 .f32) : FVec Ideal S128x2048 .f32 :=
  mulf (mulf y (broadcastInDim S128x2048 ![0, 1] bcast_S128x1_S128x2048_0_1 (Host.rsqrt (addf (Host.divf (broadcastInDim S128x1 ![0] bcast_S128_S128x1_0 (Host.reduceAdd (mulf y y) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 (shapeCast _ (extractStridedSlice S1x2048 ![1, 0] g slices_S2x2048_S1x2048_1_0) shapeCasts_S1x2048_S2048)))

theorem rn_at (y : FVec Ideal S128x2048 .f32) (g : FVec Ideal S2x2048 .f32) (t : Fin 128) (j : Fin 2048) :
    RN y g (ix2 t j) = rms (fun j => y (ix2 t j)) (g (ix2 (1 : Fin 2) j)) j := by
  pointwise [RN, rms]

def UP (h : FVec Ideal S128x2048 .f32) (w : FVec Ideal S2x2048x8192 .f32) : FVec Ideal S128x8192 .f32 :=
  Host.dotGeneral dot_S128x2048_S2048x8192_S128x8192_1_0_0_1_n_n none h (shapeCast _ (extractStridedSlice S1x2048x8192 ![1, 0, 0] w slices_S2x2048x8192_S1x2048x8192_1_0_0) shapeCasts_S1x2048x8192_S2048x8192)

theorem up_at (h : FVec Ideal S128x2048 .f32) (w : FVec Ideal S2x2048x8192 .f32) (t : Fin 128) (l : Fin 8192) :
    UP h w (ix2 t l) = ∑ k : Fin 2048, (show EReal from h (ix2 t k)) * (show EReal from w (ix3 (1 : Fin 2) k l)) := by
  pointwise [UP]

def SQ (u : FVec Ideal S128x8192 .f32) : FVec Ideal S128x8192 .f32 :=
  mulf (maximumf u (broadcastInDim S128x8192 ![] bcast_S_S128x8192 (constant S_ .f32 0x00000000#32))) (maximumf u (broadcastInDim S128x8192 ![] bcast_S_S128x8192 (constant S_ .f32 0x00000000#32)))

theorem sq_at (u : FVec Ideal S128x8192 .f32) (t : Fin 128) (l : Fin 8192) : SQ u (ix2 t l) = act (u (ix2 t l)) := by
  pointwise [SQ, act]

def DN (q : FVec Ideal S128x8192 .f32) (w : FVec Ideal S2x8192x2048 .f32) : FVec Ideal S128x2048 .f32 :=
  Host.dotGeneral dot_S128x8192_S8192x2048_S128x2048_1_0_0_1_n_n none q (shapeCast _ (extractStridedSlice S1x8192x2048 ![1, 0, 0] w slices_S2x8192x2048_S1x8192x2048_1_0_0) shapeCasts_S1x8192x2048_S8192x2048)

theorem dn_at (q : FVec Ideal S128x8192 .f32) (w : FVec Ideal S2x8192x2048 .f32) (t : Fin 128) (j : Fin 2048) :
    DN q w (ix2 t j) = ∑ l : Fin 8192, (show EReal from q (ix2 t l)) * (show EReal from w (ix3 (1 : Fin 2) l j)) := by
  pointwise [DN]

variable (m : (ℓ : Loc nD τ sig) → Buf (Elt Ideal) ℓ)

theorem stages (c : Dev nD) : res_out0 m c
    = addf (m ((c.tc : Thread nD τ).loc main_arg0)) (RN (DN (SQ (UP (RN (m ((c.tc : Thread nD τ).loc main_arg0)) (m ((c.tc : Thread nD τ).loc main_arg1))) (m ((c.tc : Thread nD τ).loc main_arg2)))) (m ((c.tc : Thread nD τ).loc main_arg3))) (m ((c.tc : Thread nD τ).loc main_arg4))) := by
  unfold res_out0 res_main_v38 RN DN SQ UP
  rfl

/-- The staged term is the layer's result. -/
theorem ref_eq (x : FVec Ideal S128x2048 .f32) (g : FVec Ideal S2x2048 .f32) (wu : FVec Ideal S2x2048x8192 .f32) (wd : FVec Ideal S2x8192x2048 .f32)
    (gp : FVec Ideal S2x2048 .f32) : addf x (RN (DN (SQ (UP (RN x g) wu)) wd) gp) = out x g wu wd gp := by
  funext i
  idx_vars i
  refine congrArg (fun z : EReal => (show EReal from x (ix2 i0 i1)) + z) ((rn_at _ _ i0 i1).trans ?_)
  refine congrArg (fun f : Fin 2048 → EReal => rms f (gp (ix2 (1 : Fin 2) i1)) i1) (funext fun j => (dn_at _ _ i0 j).trans ?_)
  refine Fin.sum_fin_congr fun l => congrArg (fun z : EReal => z * (show EReal from wd (ix3 (1 : Fin 2) l j))) ((sq_at _ i0 l).trans (congrArg act ((up_at _ _ i0 l).trans ?_)))
  exact Fin.sum_fin_congr fun k => congrArg (fun z : EReal => z * (show EReal from wu (ix3 (1 : Fin 2) k l))) (rn_at x g i0 k)

end Cert.MlpSBRefIdeal.Layer

end
-- ==== Proof.MergeSBClaim.lean ====
/-
  The merge of the three branches: what the kernel's array and the reference's array hold.
  The call of the second layer for the sample group, 128 rows.
-/
module

public import proofs.«01_k».proof.Proof.Gen.MergeSBIdeal.Value
public import proofs.«01_k».proof.Proof.Gen.MergeSBRefIdeal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.MergeSBIdeal.Layer

open Cert.MergeSBIdeal Cert.MergeSBIdeal.Gen

/-- The logistic function, as both programs write it. -/
def sgm (z : EReal) : EReal := Ideal.div (Ideal.ofBits .f32 0x3F800000#32) (Ideal.ofBits .f32 0x3F800000#32 + Ideal.exp (-z))

/-- Branch `b`'s rows times its matrix. -/
def proj (h : S128x1024.Idx → EReal) (w : S2x3x1024x2048.Idx → EReal) (b : Fin 3) (t : Fin 128) (j : Fin 2048) : EReal :=
  ∑ k : Fin 1024, h (ix2 t k) * w (ix4 (1 : Fin 2) b k j)

/-- Branch `b`'s gate. -/
def gate (z : S128x15360.Idx → EReal) (b : Fin 3) (t : Fin 128) (j : Fin 2048) : EReal :=
  sgm (z (ix2 t (⟨9216 + (b.val * 2048 + j.val), by omega⟩ : Fin 15360)))

/-- The merged rows: the gated branches, summed. -/
def out (hm hf ys : S128x1024.Idx → EReal) (w : S2x3x1024x2048.Idx → EReal) (z : S128x15360.Idx → EReal) : S128x2048.Idx → EReal := fun i =>
  gate z 0 (i 0) (i 1) * proj hm w 0 (i 0) (i 1) + gate z 1 (i 0) (i 1) * proj hf w 1 (i 0) (i 1) + gate z 2 (i 0) (i 1) * proj ys w 2 (i 0) (i 1)

theorem pay2_at (g0 : Vec Ideal S128x512 .f32) (a0 : Vec Ideal S128x1024 .bf16) (w0 : Vec Ideal S1x1x1024x512 .bf16)
    (g1 : Vec Ideal S128x512 .f32) (a1 : Vec Ideal S128x1024 .bf16) (w1 : Vec Ideal S1x1x1024x512 .bf16) (r : Fin 128) (j : Fin 512) :
    k0_pay2 (F := Ideal) g0 a0 w0 g1 a1 w1 (ix2 r j)
      = sgm (g0 (ix2 r j)) * (∑ k : Fin 1024, (show EReal from a0 (ix2 r k)) * (show EReal from w0 (ix4 (0 : Fin 1) (0 : Fin 1) k j)))
       + sgm (g1 (ix2 r j)) * (∑ k : Fin 1024, (show EReal from a1 (ix2 r k)) * (show EReal from w1 (ix4 (0 : Fin 1) (0 : Fin 1) k j))) := by
  pointwise [k0_pay2, sgm]
  simp only [zero_sub]

theorem pay1_at (acc : Vec Ideal S128x512 .f32) (g : Vec Ideal S128x512 .f32) (a : Vec Ideal S128x1024 .bf16) (w : Vec Ideal S1x1x1024x512 .bf16) (r : Fin 128) (j : Fin 512) :
    k0_pay1 (F := Ideal) acc (k0_pay3 (F := Ideal) g) a w (ix2 r j)
      = (show EReal from acc (ix2 r j)) + sgm (g (ix2 r j)) * (∑ k : Fin 1024, (show EReal from a (ix2 r k)) * (show EReal from w (ix4 (0 : Fin 1) (0 : Fin 1) k j))) := by
  pointwise [k0_pay1, k0_pay3, sgm]
  simp only [zero_sub]

variable (m : (ℓ : Loc nD τ sig) → Buf (Elt Ideal) ℓ)

theorem idx : ∀ t : Fin cfg0.N, win0_0.index t = ![t.val / 4, 0] ∧ win0_1.index t = ![t.val / 4, 0] ∧ win0_2.index t = ![t.val / 4, 0]
      ∧ win0_3.index t = ![1, 0, 0, t.val % 4] ∧ win0_4.index t = ![t.val / 4, 18 + t.val % 4] ∧ win0_5.index t = ![t.val / 4, 22 + t.val % 4]
      ∧ win0_6.index t = ![t.val / 4, 26 + t.val % 4] ∧ win0_7.index t = ![t.val / 4, t.val % 4] :=
  (by decide +kernel : ∀ t : Fin grid0.N, _)

theorem hz2 : (![0, 0] : Fin 2 → Nat) = fun _ => 0 := funext fun a => by fin_cases a <;> rfl

theorem pt_lt (t : Fin cfg0.N) : t.val < 4 := lt_of_lt_of_eq t.isLt N_0

/-- Row `r` of block row `t / 4`. -/
def row (t : Fin cfg0.N) (r : Fin 128) : Fin 128 := ⟨t.val / 4 * 128 + r.val, by have := pt_lt t; omega⟩

/-- Column `j` of block column `t % 4`. -/
def col (t : Fin cfg0.N) (j : Fin 512) : Fin 2048 := ⟨t.val % 4 * 512 + j.val, by omega⟩

theorem rd0 (c : Dev nD) (t : Fin cfg0.N) (r : Fin 128) (k : Fin 1024) :
    iblk m c 0 t (ix2 r k) = m ((c : Thread nD τ).loc main_arg0) (ix2 (row t r) k) := by
  have := pt_lt t
  unfold row
  blk_ext [iblk, V, idx t]

theorem rd1 (c : Dev nD) (t : Fin cfg0.N) (r : Fin 128) (k : Fin 1024) :
    iblk m c 1 t (ix2 r k) = m ((c : Thread nD τ).loc main_arg1) (ix2 (row t r) k) := by
  have := pt_lt t
  unfold row
  blk_ext [iblk, V, idx t]

theorem rd2 (c : Dev nD) (t : Fin cfg0.N) (r : Fin 128) (k : Fin 1024) :
    iblk m c 2 t (ix2 r k) = m ((c : Thread nD τ).loc main_arg2) (ix2 (row t r) k) := by
  have := pt_lt t
  unfold row
  blk_ext [iblk, V, idx t]

theorem rd3 (c : Dev nD) (t : Fin cfg0.N) (b : Fin 3) (k : Fin 1024) (j : Fin 512) :
    iblk m c 3 t (ix4 (0 : Fin 1) b k j) = m ((c : Thread nD τ).loc main_arg3) (ix4 (1 : Fin 2) b k (col t j)) := by
  unfold col
  blk_point [iblk, V, idx t]

theorem rd4 (c : Dev nD) (t : Fin cfg0.N) (r : Fin 128) (j : Fin 512) :
    iblk m c 4 t (ix2 r j) = m ((c : Thread nD τ).loc main_arg4) (ix2 (row t r) (⟨9216 + ((0 : Fin 3).val * 2048 + (col t j).val), by omega⟩ : Fin 15360)) := by
  have := pt_lt t
  unfold row col
  blk_ext [iblk, V, idx t]

theorem rd5 (c : Dev nD) (t : Fin cfg0.N) (r : Fin 128) (j : Fin 512) :
    iblk m c 5 t (ix2 r j) = m ((c : Thread nD τ).loc main_arg4) (ix2 (row t r) (⟨9216 + ((1 : Fin 3).val * 2048 + (col t j).val), by omega⟩ : Fin 15360)) := by
  have := pt_lt t
  unfold row col
  blk_ext [iblk, V, idx t]

theorem rd6 (c : Dev nD) (t : Fin cfg0.N) (r : Fin 128) (j : Fin 512) :
    iblk m c 6 t (ix2 r j) = m ((c : Thread nD τ).loc main_arg4) (ix2 (row t r) (⟨9216 + ((2 : Fin 3).val * 2048 + (col t j).val), by omega⟩ : Fin 15360)) := by
  have := pt_lt t
  unfold row col
  blk_ext [iblk, V, idx t]

theorem ld3_0 (x : Vec Ideal S1x3x1024x512 .bf16) (k : Fin 1024) (j : Fin 512) : View.ld x r0_2 (ix4 (0 : Fin 1) (0 : Fin 1) k j) = x (ix4 (0 : Fin 1) (0 : Fin 3) k j) := by
  unfold r0_2
  pointwise
theorem ld3_1 (x : Vec Ideal S1x3x1024x512 .bf16) (k : Fin 1024) (j : Fin 512) : View.ld x r0_3 (ix4 (0 : Fin 1) (0 : Fin 1) k j) = x (ix4 (0 : Fin 1) (1 : Fin 3) k j) := by
  unfold r0_3
  pointwise
theorem ld3_2 (x : Vec Ideal S1x3x1024x512 .bf16) (k : Fin 1024) (j : Fin 512) : View.ld x r0_4 (ix4 (0 : Fin 1) (0 : Fin 1) k j) = x (ix4 (0 : Fin 1) (2 : Fin 3) k j) := by
  unfold r0_4
  pointwise

theorem final (c : Dev nD) : (dats m 0 c).arrAt 7 (cfgs 0).N
    = out (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  idx_vars y
  have := pt_lt t
  unfold out0_7
  rw [View.canon_unit_zero hz2]
  simp only [View.ld_unit_zero (S := S128x512) hz2, View.ld_unit_zero (S := S128x1024) hz2]
  refine (pay1_at _ _ _ _ y0 y1).trans ?_
  rw [pay2_at]
  simp only [rd0, rd1, rd2, rd4, rd5, rd6]
  have e : ((View.whole main_v1).slice (win0_7.rect t)).emb (ix2 y0 y1) = ix2 (row t y0) (col t y1) := by
    unfold row col
    blk_ext [idx t]
  rw [e]
  unfold out proj gate
  refine congrArg₂ (· + ·) (congrArg₂ (· + ·) ?_ ?_) ?_
  · exact congrArg _ (Fin.sum_fin_congr fun k => congrArg _ ((ld3_0 _ k y1).trans (rd3 m c t 0 k y1)))
  · exact congrArg _ (Fin.sum_fin_congr fun k => congrArg _ ((ld3_1 _ k y1).trans (rd3 m c t 1 k y1)))
  · exact congrArg _ (Fin.sum_fin_congr fun k => congrArg _ ((ld3_2 _ k y1).trans (rd3 m c t 2 k y1)))

end Cert.MergeSBIdeal.Layer

namespace Cert.MergeSBRefIdeal.Layer

open Cert.MergeSBRefIdeal Cert.MergeSBRefIdeal.Gen Cert.MergeSBIdeal.Layer

def G (z : FVec Ideal S128x15360 .f32) : FVec Ideal S128x3x2048 .f32 :=
  shapeCast _ (Host.divf (broadcastInDim S128x6144 ![] bcast_S_S128x6144 (constant S_ .f32 0x3F800000#32)) (addf (broadcastInDim S128x6144 ![] bcast_S_S128x6144 (constant S_ .f32 0x3F800000#32)) (Host.exp (Host.negf (extractStridedSlice S128x6144 ![0, 9216] z slices_S128x15360_S128x6144_0_9216))))) shapeCasts_S128x6144_S128x3x2048

theorem g_at (z : FVec Ideal S128x15360 .f32) (t : Fin 128) (b : Fin 3) (j : Fin 2048) : G z (ix3 t b j) = gate z b t j := by
  pointwise [G, gate, Cert.MergeSBIdeal.Layer.sgm]

def ST (hm hf ys : FVec Ideal S128x1024 .bf16) : FVec Ideal S128x3x1024 .bf16 :=
  concatenate S128x3x1024 1 [⟨S128x1x1024, ((broadcastInDim S128x1x1024 ![0, 2] bcast_S128x1024_S128x1x1024_0_2 hm) : (⟨S128x1x1024, .bf16⟩ : BufTy).Contents (Elt Ideal))⟩, ⟨S128x1x1024, ((broadcastInDim S128x1x1024 ![0, 2] bcast_S128x1024_S128x1x1024_0_2 hf) : (⟨S128x1x1024, .bf16⟩ : BufTy).Contents (Elt Ideal))⟩, ⟨S128x1x1024, ((broadcastInDim S128x1x1024 ![0, 2] bcast_S128x1024_S128x1x1024_0_2 ys) : (⟨S128x1x1024, .bf16⟩ : BufTy).Contents (Elt Ideal))⟩] concatenates_S128x1x1024_S128x1x1024_S128x1x1024_S128x3x1024_d1

theorem st_at0 (hm hf ys : FVec Ideal S128x1024 .bf16) (t : Fin 128) (k : Fin 1024) : ST hm hf ys (ix3 t (0 : Fin 3) k) = hm (ix2 t k) := by
  pointwise [ST]
theorem st_at1 (hm hf ys : FVec Ideal S128x1024 .bf16) (t : Fin 128) (k : Fin 1024) : ST hm hf ys (ix3 t (1 : Fin 3) k) = hf (ix2 t k) := by
  pointwise [ST]
theorem st_at2 (hm hf ys : FVec Ideal S128x1024 .bf16) (t : Fin 128) (k : Fin 1024) : ST hm hf ys (ix3 t (2 : Fin 3) k) = ys (ix2 t k) := by
  pointwise [ST]

def PJ (h : FVec Ideal S128x3x1024 .bf16) (w : FVec Ideal S2x3x1024x2048 .f32) : FVec Ideal S128x3x2048 .f32 :=
  transpose S128x3x2048 [2, 0, 1] (Host.dotGeneral dot_S3x1024x2048_S128x3x1024_S3x2048x128_1_2_2_0_0_1 none (shapeCast _ (extractStridedSlice S1x3x1024x2048 ![1, 0, 0, 0] w slices_S2x3x1024x2048_S1x3x1024x2048_1_0_0_0) shapeCasts_S1x3x1024x2048_S3x1024x2048) (extf .f32 h bitsLt_bf16_f32)) transposes_S3x2048x128_S128x3x2048_2_0_1

theorem pj_at (h : FVec Ideal S128x3x1024 .bf16) (w : FVec Ideal S2x3x1024x2048 .f32) (t : Fin 128) (b : Fin 3) (j : Fin 2048) :
    PJ h w (ix3 t b j) = ∑ k : Fin 1024, (show EReal from w (ix4 (1 : Fin 2) b k j)) * (show EReal from h (ix3 t b k)) := by
  pointwise [PJ]

def MG (g p : FVec Ideal S128x3x2048 .f32) : FVec Ideal S128x2048 .bf16 :=
  truncf .bf16 (Host.dotGeneral dot_S128x3x2048_S128x3x2048_S128x2048_1_1_n_n_02_02 none g p) bitsLt_bf16_f32

theorem mg_at (g p : FVec Ideal S128x3x2048 .f32) (t : Fin 128) (j : Fin 2048) :
    MG g p (ix2 t j) = ∑ b : Fin 3, (show EReal from g (ix3 t b j)) * (show EReal from p (ix3 t b j)) := by
  pointwise [MG]

/-- The reference's term is the merged rows. -/
theorem ref_eq (hm hf ys : FVec Ideal S128x1024 .bf16) (w : FVec Ideal S2x3x1024x2048 .f32) (z : FVec Ideal S128x15360 .f32) :
    MG (G z) (PJ (ST hm hf ys) w) = out hm hf ys w z := by
  funext i
  idx_vars i
  rw [mg_at, Fin.sum_univ_three, g_at, g_at, g_at, pj_at, pj_at, pj_at]
  simp only [st_at0, st_at1, st_at2]
  unfold out proj
  refine congrArg₂ (· + ·) (congrArg₂ (· + ·) ?_ ?_) ?_
  all_goals exact congrArg _ (Fin.sum_fin_congr fun k => mul_comm _ _)

end Cert.MergeSBRefIdeal.Layer

end
-- ==== Proof.OutprojSBClaim.lean ====
/-
  The output projection: what the kernel's array and the reference's array hold.
  The call of the second layer for the sample group, 128 rows.
-/
module

public import proofs.«01_k».proof.Proof.Rms
public import proofs.«01_k».proof.Proof.Gen.OutprojSBIdeal.Value
public import proofs.«01_k».proof.Proof.Gen.OutprojSBRefIdeal.Run
public import Idealize.ShloMosaic.Lib.Pipeline.ValueKit

@[expose] public section

set_option maxRecDepth 16384

noncomputable section

open Idealize.ShloMosaic Idealize.ShloMosaic.TcCoe Idealize.SL.Sem

namespace Cert.OutprojSBIdeal.Layer

open Cert.OutprojSBIdeal Cert.OutprojSBIdeal.Gen Cert.Layer

/-- The result: the residual plus the normalised projection. -/
def out (a : S128x2048.Idx → EReal) (w : S2x2048x2048.Idx → EReal) (g : S2x2048.Idx → EReal) (x : S128x2048.Idx → EReal) :
    S128x2048.Idx → EReal := fun i =>
  x i + rms (fun j => ∑ k : Fin 2048, a (ix2 (i 0 : Fin 128) k) * w (ix3 (1 : Fin 2) k j)) (g (ix2 (1 : Fin 2) (i 1 : Fin 2048))) (i 1)

theorem pay_at (x : Vec Ideal S128x2048 .f32) (a : Vec Ideal S128x2048 .bf16) (w : Vec Ideal S1x2048x2048 .bf16) (g : Vec Ideal S1x1x2048 .f32)
    (r : Fin 128) (j : Fin 2048) :
    k0_pay1 (F := Ideal) x a w g (ix2 r j)
      = (show EReal from x (ix2 r j)) + rms (fun j => ∑ k : Fin 2048, (show EReal from a (ix2 r k)) * (show EReal from w (ix3 (0 : Fin 1) k j))) (g (ix3 (0 : Fin 1) (0 : Fin 1) j)) j := by
  pointwise [k0_pay1, rms]

variable (m : (ℓ : Loc nD τ sig) → Buf (Elt Ideal) ℓ)

theorem idx : ∀ t : Fin cfg0.N, win0_0.index t = ![t.val, 0] ∧ win0_1.index t = ![1, 0, 0] ∧ win0_2.index t = ![1, 0, 0]
      ∧ win0_3.index t = ![t.val, 0] ∧ win0_4.index t = ![t.val, 0] :=
  (by decide +kernel : ∀ t : Fin grid0.N, _)

theorem hz2 : (![0, 0] : Fin 2 → Nat) = fun _ => 0 := funext fun a => by fin_cases a <;> rfl
theorem hz3 : (![0, 0, 0] : Fin 3 → Nat) = fun _ => 0 := funext fun a => by fin_cases a <;> rfl

theorem pt_lt (t : Fin cfg0.N) : t.val < 1 := lt_of_lt_of_eq t.isLt N_0

/-- Row `r` of block `t`. -/
def row (t : Fin cfg0.N) (r : Fin 128) : Fin 128 := ⟨t.val * 128 + r.val, by have := pt_lt t; omega⟩

theorem rd0 (c : Dev nD) (t : Fin cfg0.N) (r : Fin 128) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k j : Fin 2048) :
    iblk m c 1 t (ix3 (0 : Fin 1) k j) = m ((c : Thread nD τ).loc main_arg1) (ix3 (1 : Fin 2) k j) := by
  blk_point [iblk, V, idx t]

theorem rd2 (c : Dev nD) (t : Fin cfg0.N) (j : Fin 2048) :
    iblk m c 2 t (ix3 (0 : Fin 1) (0 : Fin 1) j) = m ((c : Thread nD τ).loc main_arg2) (ix2 (1 : Fin 2) j) := by
  blk_point [iblk, V, idx t]

theorem rd3 (c : Dev nD) (t : Fin cfg0.N) (r : Fin 128) (k : Fin 2048) :
    iblk m c 3 t (ix2 r k) = m ((c : Thread nD τ).loc main_arg3) (ix2 (row t r) k) := by
  have := pt_lt t
  unfold row
  blk_ext [iblk, V, idx t]

theorem final (c : Dev nD) : (dats m 0 c).arrAt 4 (cfgs 0).N
    = out (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  idx_vars y
  have := pt_lt t
  unfold out0_4
  rw [View.canon_unit_zero hz2]
  simp only [View.ld_unit_zero (S := S128x2048) hz2, View.ld_unit_zero (S := S1x2048x2048) hz3, View.ld_unit_zero (S := S1x1x2048) hz3]
  refine (pay_at _ _ _ _ y0 y1).trans ?_
  simp only [rd0, rd1, rd2, rd3]
  have e : ((View.whole main_v2).slice (win0_4.rect t)).emb (ix2 y0 y1) = ix2 (row t y0) y1 := by
    unfold row
    blk_ext [idx t]
  rw [e]
  rfl

end Cert.OutprojSBIdeal.Layer

namespace Cert.OutprojSBRefIdeal.Layer

open Cert.OutprojSBRefIdeal Cert.OutprojSBRefIdeal.Gen Cert.Layer

def MM (a : FVec Ideal S128x2048 .bf16) (w : FVec Ideal S2x2048x2048 .f32) : FVec Ideal S128x2048 .f32 :=
  Host.dotGeneral dot_S128x2048_S2048x2048_S128x2048_1_0_0_1_n_n none (extf .f32 a bitsLt_bf16_f32) (shapeCast _ (extractStridedSlice S1x2048x2048 ![1, 0, 0] w slices_S2x2048x2048_S1x2048x2048_1_0_0) shapeCasts_S1x2048x2048_S2048x2048)

theorem mm_at (a : FVec Ideal S128x2048 .bf16) (w : FVec Ideal S2x2048x2048 .f32) (t : Fin 128) (j : Fin 2048) :
    MM a w (ix2 t j) = ∑ k : Fin 2048, (show EReal from a (ix2 t k)) * (show EReal from w (ix3 (1 : Fin 2) k j)) := by
  pointwise [MM]

def RN (y : FVec Ideal S128x2048 .f32) (g : FVec Ideal S2x2048 .f32) : FVec Ideal S128x2048 .f32 :=
  mulf (mulf y (broadcastInDim S128x2048 ![0, 1] bcast_S128x1_S128x2048_0_1 (Host.rsqrt (addf (Host.divf (broadcastInDim S128x1 ![0] bcast_S128_S128x1_0 (Host.reduceAdd (mulf y y) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 (shapeCast _ (extractStridedSlice S1x2048 ![1, 0] g slices_S2x2048_S1x2048_1_0) shapeCasts_S1x2048_S2048)))

theorem rn_at (y : FVec Ideal S128x2048 .f32) (g : FVec Ideal S2x2048 .f32) (t : Fin 128) (j : Fin 2048) :
    RN y g (ix2 t j) = rms (fun j => y (ix2 t j)) (g (ix2 (1 : Fin 2) j)) j := by
  pointwise [RN, rms]

/-- The reference's term is the layer's result. -/
theorem ref_eq (a : FVec Ideal S128x2048 .bf16) (w : FVec Ideal S2x2048x2048 .f32) (g : FVec Ideal S2x2048 .f32) (x : FVec Ideal S128x2048 .f32) :
    addf x (RN (MM a w) g) = Cert.OutprojSBIdeal.Layer.out a w g x := by
  funext i
  idx_vars i
  refine congrArg (fun z : EReal => (show EReal from x (ix2 i0 i1)) + z) ((rn_at _ _ i0 i1).trans ?_)
  refine congrArg (fun f : Fin 2048 → EReal => rms f (g (ix2 (1 : Fin 2) i1)) i1) (funext fun j => mm_at a w i0 j)

end Cert.OutprojSBRefIdeal.Layer

end
-- ==== Proof.InprojSBIdealBody.lean ====
/-
  The input projection's body at one grid point: the three cases of its branches, and what each leaves.
  The call of the second layer for the sample group, 128 rows.
-/
module

public import proofs.«01_k».proof.Proof.Gen.InprojSBIdeal.Skeleton
public import proofs.«01_k».proof.Proof.Gen.InprojSBIdeal.Frame
public import Idealize.ShloMosaic.Lib.VecWindow

@[expose] public section

set_option maxRecDepth 16384

noncomputable section

namespace Cert.InprojSBIdeal.Layer

open Cert.InprojSBIdeal Cert.InprojSBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource the assertions speak of. -/
abbrev Res (F : FTy → Type) := MT nD τ sig Unit (Elt F) ℕ (UR sig nD τ) ℕ

/-! ## The branch conditions -/

/-- The condition of the first branch: the first column tile. -/
abbrev cond1 (i : grid0.Coords) : Prop :=
  (Scalar.cmpi .ne (Scalar.extui (Scalar.cmpi .eq (BitVec.ofNat 32 (i 1).val) 0#32)) 0#32) = 1#1

theorem cond1_iff (t : Fin grid0.N) : cond1 (grid0.coords t) ↔ t.val % 11 = 0 := by
  have ht : t.val < 11 := Nat.lt_of_lt_of_eq t.isLt N_0
  have e1 : (grid0.coords t 1).val = t.val / 1 % 11 := Pipeline.Grid.coords_val t 1 (by decide) rfl
  simp only [cond1, e1]
  word_cmp

theorem cond2_iff (t : Fin grid0.N) : k0_cond2 (grid0.coords t) = 1#1 ↔ ¬t.val % 11 = 10 := by
  have ht : t.val < 11 := Nat.lt_of_lt_of_eq t.isLt N_0
  have e1 : (grid0.coords t 1).val = t.val / 1 % 11 := Pipeline.Grid.coords_val t 1 (by decide) rfl
  unfold k0_cond2
  simp only [e1]
  word_cmp

theorem cond3_iff (t : Fin grid0.N) : k0_cond3 (grid0.coords t) = 1#1 ↔ t.val % 11 = 10 := by
  have ht : t.val < 11 := Nat.lt_of_lt_of_eq t.isLt N_0
  have e1 : (grid0.coords t 1).val = t.val / 1 % 11 := Pipeline.Grid.coords_val t 1 (by decide) rfl
  unfold k0_cond3
  simp only [e1]
  word_cmp

/-! ## The body -/

section body

variable (c : Dev nD) (i : grid0.Coords)
  (arg2 : Memref sig .tc .vmem S128x2048 .f32) (harg2 : arg2.IsWhole)
  (arg3 : Memref sig .tc .vmem S1x1x2048 .f32) (harg3 : arg3.IsWhole)
  (arg4 : Memref sig .tc .vmem S1x2048x1536 .bf16) (harg4 : arg4.IsWhole)
  (arg5 : Memref sig .tc .vmem S1x2048x128 .f32) (harg5 : arg5.IsWhole)
  (arg6 : Memref sig .tc .vmem S128x1536 .f32) (harg6 : arg6.IsWhole)
  (arg7 : Memref sig .tc .vmem S128x128 .f32) (harg7 : arg7.IsWhole)
  (arg8 : Memref sig .tc .vmem S128x2048 .bf16) (harg8 : arg8.IsWhole)
  (x0 : Vec F S128x2048 .f32) (x1 : Vec F S1x1x2048 .f32) (x2 : Vec F S1x2048x1536 .bf16)
  (x3 : Vec F S1x2048x128 .f32) (x5 : Vec F S128x128 .f32)

/-- At the first column tile the body normalises the rows into the scratch and stores the first tile of the product. -/
theorem run_first (h1 : cond1 i) (h2 : k0_cond2 i = 1#1) (h3 : ¬k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k0_pay2 (k0_pay1 x0 x1) x2) ∗ owns (c : Thread nD τ) arg7 fullShare x5
          ∗ owns (c : Thread nD τ) arg8 fullShare (k0_pay1 x0 x1)) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full ..).trans (congrArg₂ _ ?_ ((View.readAt_full ..).trans (harg4.read_unread _)))
    exact (View.readCov_full ..).trans (congrArg₂ _ ((View.readAt_full ..).trans (harg2.read_unread _))
      ((View.readAt_full ..).trans (harg3.read_unread _)))
  isplitl [H5]
  · iexists _; isplitr; · ipureintro; exact harg7.read_unread _
    iexact H5
  iexists _; isplitr
  swap; · iexact HS
  ipureintro
  exact (View.read_writes_full ..).trans (congrArg₂ _ ((View.readAt_full ..).trans (harg2.read_unread _))
    ((View.readAt_full ..).trans (harg3.read_unread _)))

/-- At a column tile in between the body stores its tile of the product of the rows the scratch holds. -/
theorem run_mid (xs : Vec F S128x2048 .bf16) (h1 : ¬cond1 i) (h2 : k0_cond2 i = 1#1) (h3 : ¬k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare x5
        ∗ owns (c : Thread nD τ) arg8 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare (k0_pay2 xs x2) ∗ owns (c : Thread nD τ) arg7 fullShare x5
          ∗ owns (c : Thread nD τ) arg8 fullShare xs) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hf5; obtain rfl := harg8.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    exact (View.read_writes_full ..).trans (congrArg₂ _ ((View.readAt_full ..).trans (harg8.read_unread _))
      ((View.readAt_full ..).trans (harg4.read_unread _)))
  isplitl [H5]
  · iexists _; isplitr; · ipureintro; exact harg7.read_unread _
    iexact H5
  iexists _; isplitr; · ipureintro; exact harg8.read_unread _
  iexact HS

/-- At the last point of a row the body stores the narrow product; the wide one's tile stays as it was. -/
theorem run_last (x4 : Vec F S128x1536 .f32) (xs : Vec F S128x2048 .bf16) (h1 : ¬cond1 i) (h2 : ¬k0_cond2 i = 1#1) (h3 : k0_cond3 i = 1#1) (E : Set ℕ) (K : PUnit → sProp (Res F)) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1
          ∗ owns (c : Thread nD τ) arg4 fullShare x2 ∗ owns (c : Thread nD τ) arg5 fullShare x3
          ∗ owns (c : Thread nD τ) arg6 fullShare x4 ∗ owns (c : Thread nD τ) arg7 fullShare (k0_pay3 xs x3)
          ∗ owns (c : Thread nD τ) arg8 fullShare xs) -∗ K ⟨⟩))
      ⊢ wp frame (wpE (defs₀ (F := F)) Variants.none c none) E
          (cc0_inproj i arg2 harg2 arg3 harg3 arg4 harg4 arg5 harg5 arg6 harg6 arg7 harg7 arg8 harg8) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hfs
  sl_exec (disch := first | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    exact (View.read_writes_full ..).trans (congrArg₂ _ ((View.readAt_full ..).trans (harg8.read_unread _))
      ((View.readAt_full ..).trans (harg5.read_unread _)))
  iexists _; isplitr; · ipureintro; exact harg8.read_unread _
  iexact HS

end body

end Cert.InprojSBIdeal.Layer

end
-- ==== Proof.InprojSBIdealFrame.lean ====
/-
  The input projection's run: what each buffer holds after each grid point, the body at every point, and the frame.

  The grid runs over 1 row block and 11 positions.  At position 0 the rows are normalised into the scratch; positions
  0 to 9 each store one tile of the wide product; position 10 stores the narrow product, and the wide product's last
  tile, left by position 9, is written out after it.
  The call of the second layer for the sample group, 128 rows.
-/
module

public import proofs.«01_k».proof.Proof.InprojSBIdealBody
public import Idealize.ShloMosaic.Lib.Claim

@[expose] public section

set_option maxRecDepth 16384

noncomputable section

namespace Cert.InprojSBIdeal.Layer

open Cert.InprojSBIdeal Cert.InprojSBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Which points write what -/

theorem flush_wide : ∀ t : Fin cfg0.N, (cfg0.win 4).flush t = true ↔ ¬t.val % 11 = 9 :=
  (by decide +kernel : ∀ t : Fin grid0.N, win0_4.flush t = true ↔ ¬t.val % 11 = 9)

theorem idle_wide (t : Fin cfg0.N) : cfg0.idle 4 (cfg0.grid.coords t) = true ↔ t.val % 11 = 10 := by
  show (!(k0_cond2 (grid0.coords t) == 1#1)) = true ↔ _
  rw [Bool.not_eq_true', beq_eq_false_iff_ne, ne_eq, cond2_iff, not_not]

theorem idle_narrow (t : Fin cfg0.N) : cfg0.idle 5 (cfg0.grid.coords t) = true ↔ ¬t.val % 11 = 10 := by
  show (!(k0_cond3 (grid0.coords t) == 1#1)) = true ↔ _
  rw [Bool.not_eq_true', beq_eq_false_iff_ne, ne_eq, cond3_iff]

/-! ## What the buffers hold -/

/-- The point before. -/
def prev (t : Fin cfg0.N) : Fin cfg0.N := ⟨t.val - 1, Nat.lt_of_le_of_lt (Nat.sub_le _ _) t.isLt⟩

/-- The first point of the point's row block. -/
def start (t : Fin cfg0.N) : Fin cfg0.N := ⟨t.val - t.val % 11, Nat.lt_of_le_of_lt (Nat.sub_le _ _) t.isLt⟩

theorem start_first (t : Fin cfg0.N) (h : t.val % 11 = 0) : start t = t := Fin.ext (by show t.val - t.val % 11 = t.val; omega)

theorem start_prev (t : Fin cfg0.N) (h : ¬t.val % 11 = 0) : start (prev t) = start t :=
  Fin.ext (by show t.val - 1 - (t.val - 1) % 11 = t.val - t.val % 11; omega)

/-- The point whose tile of the wide product the buffer holds. -/
def wideAt (t : Fin cfg0.N) : Fin cfg0.N := if t.val % 11 = 10 then prev t else t

/-- The normalised rows the scratch holds. -/
def hs (c : Dev nD) (t : Fin cfg0.N) : Vec F S128x2048 .bf16 := k0_pay1 (iblk m c 0 (start t)) (iblk m c 1 (start t))

/-- The scratch, as a buffer. -/
abbrev scr : Memref sig .tc .vmem S128x2048 .bf16 := Memref.whole cc0_scratch0

theorem launch_eq (c : Dev nD) :
    (Pipeline.ΦA spec0 c : sProp (Res F))
      = iprop(iprop((∃ d, owns (c : Thread nD τ) scr fullShare d)) ∗ (∃ r, prngReg c r)) := by
  unfold Pipeline.ΦA; rw [scopedRest0_eq]; simp only [scr, owns_whole]; try rfl

/-- What holds before a point: the scratch holds the rows the point before used. -/
def inv (c : Dev nD) : (n : ℕ) → n ≤ cfg0.N → sProp (Res F)
  | 0, _ => Pipeline.ΦA spec0 c
  | n + 1, hn => iprop(iprop(owns (c : Thread nD τ) scr fullShare (hs m c ⟨n, hn⟩)) ∗ (∃ r, prngReg c r))

theorem inv_zero (c : Dev nD) (n : ℕ) (h : n ≤ cfg0.N) (hz : n = 0) : inv m c n h = Pipeline.ΦA spec0 c := by
  subst hz; rfl

theorem inv_succ (c : Dev nD) (t : Fin cfg0.N) :
    inv m c (t.val + 1) t.isLt = iprop(iprop(owns (c : Thread nD τ) scr fullShare (hs m c t)) ∗ (∃ r, prngReg c r)) := rfl

theorem inv_pos (c : Dev nD) (n : ℕ) (h : n ≤ cfg0.N) (hz : n ≠ 0) :
    inv m c n h = iprop(iprop(owns (c : Thread nD τ) scr fullShare (hs m c ⟨n - 1, by omega⟩)) ∗ (∃ r, prngReg c r)) := by
  cases n with
  | zero => exact absurd rfl hz
  | succ n => rfl

/-- The run's data: the arrays as found, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (hs m c (wideAt t)) (iblk m c 2 (wideAt t))
    | ⟨5, _⟩ => k0_pay3 (hs m c t) (iblk m c 3 t)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay2 (hs m c (wideAt t)) (iblk m c 2 (wideAt t)) := by dsimp only [dats]
theorem after_5 (c : Dev nD) (t : Fin cfg0.N) : (dats m 0 c).after 5 t = k0_pay3 (hs m c t) (iblk m c 3 t) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At the last point of a row block the wide product's buffer still holds the tile of the point before. -/
theorem before_4 (c : Dev nD) (t : Fin cfg0.N) (h : t.val % 11 = 10) (d) :
    (dats m 0 c).before 4 t d = (dats m 0 c).after 4 t := by
  have hp : (prev t).val % 11 = 9 := by show (t.val - 1) % 11 = 9; omega
  have hfl : (cfg0.win 4).flush (prev t) = false := Bool.eq_false_iff.mpr fun h => (flush_wide _).mp h hp
  have hid : cfg0.idle 4 (cfg0.grid.coords (prev t)) = false :=
    Bool.eq_false_iff.mpr fun h => by have := (idle_wide _).mp h; omega
  have e : (dats m 0 c).before 4 t d = (dats m 0 c).after 4 (prev t) := by
    refine (Dat.before_of_pos _ 4 t (by omega) ((cfg0.win 4).fetch_out rfl t) d).trans ?_
    refine (if_neg (by rw [show (cfg0.win 4).flush ⟨t.val - 1, _⟩ = false from hfl]; exact Bool.false_ne_true)).trans ?_
    show (dats m 0 c).left 4 (prev t) d = _
    unfold Dat.left
    rw [hid]
    exact (Pipeline.fill_of_clip_none 4 _ (fun _ => rfl) d ((dats m 0 c).after 4 (prev t)) _).trans ((cfg0.win 4).fill_cut _ _)
  rw [e, after_4, after_4]
  unfold wideAt
  rw [if_pos h, if_neg (by omega)]

/-! ## The body at a point -/

/-- What the body is called with at a point, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

/-- Every point leaves the wide product's buffer at its tile. -/
theorem leaves_wide (c : Dev nD) (t : Fin cfg0.N) :
    (dats m 0 c).leavesExact 4 t = owns (c : Thread nD τ) (st0_4 t) fullShare ((dats m 0 c).after 4 t) := by
  unfold Dat.leavesExact
  by_cases h : t.val % 11 = 10
  · rw [(idle_wide t).mpr h, (flush_wide t).mpr (by omega)]
  · rw [show cfg0.idle 4 (cfg0.grid.coords t) = false from Bool.eq_false_iff.mpr fun h' => h ((idle_wide t).mp h')]

/-- The last point of a row block leaves the narrow product's buffer at its block, -/
theorem leaves_narrow (c : Dev nD) (t : Fin cfg0.N) (h : t.val % 11 = 10) :
    (dats m 0 c).leavesExact 5 t = owns (c : Thread nD τ) (st0_5 t) fullShare ((dats m 0 c).after 5 t) := by
  unfold Dat.leavesExact
  rw [show cfg0.idle 5 (cfg0.grid.coords t) = false from Bool.eq_false_iff.mpr fun h' => (idle_narrow t).mp h' h]

/-- and any other point as it found it. -/
theorem leaves_narrow_idle (c : Dev nD) (t : Fin cfg0.N) (h : ¬t.val % 11 = 10) :
    (dats m 0 c).leavesExact 5 t = iprop(∃ d, owns (c : Thread nD τ) (st0_5 t) fullShare ((dats m 0 c).before 5 t d)) :=
  Dat.leavesExact_idle _ 5 t ((idle_narrow t).mpr h) (Bool.eq_false_iff.mpr fun h' => h ((flush0_5 t).mp h'))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, leaves_wide]
  rw [show (dats m 0 c).Φ t.succ = inv m c (t.val + 1) t.isLt from rfl, inv_succ, inv_castSucc m c t]
  by_cases h0 : t.val % 11 = 0
  · have h10 : ¬t.val % 11 = 10 := by omega
    rw [leaves_narrow_idle m c t h10, after_4]
    unfold wideAt; rw [if_neg h10]
    have eh : hs m c t = k0_pay1 (iblk m c 0 t) (iblk m c 1 t) := by unfold hs; rw [start_first t h0]
    rw [eh]
    have hphi : inv m c t.val (Nat.le_of_lt t.isLt)
        ⊢ iprop(iprop((∃ d, owns (c : Thread nD τ) scr fullShare d)) ∗ (∃ r, prngReg c r)) := by
      by_cases hz : t.val = 0
      · rw [inv_zero m c _ _ hz, launch_eq]
      · rw [inv_pos m c _ _ hz]
        iintro ⟨HS, Hg⟩
        isplitl [HS]
        · iexists _; iexact HS
        iexact Hg
    refine (sep_mono hphi .rfl).trans ?_
    iintro ⟨⟨HS, Hg⟩, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ _ _ (iblk m c 0 t) (iblk m c 1 t) (iblk m c 2 t) (iblk m c 3 t)
      ((dats m 0 c).before 5 t d5) ((cond1_iff t).mpr h0) ((cond2_iff t).mpr h10) (fun h => h10 ((cond3_iff t).mp h)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    have eh : hs m c ⟨t.val - 1, by omega⟩ = hs m c t := by
      show hs m c (prev t) = _
      unfold hs; rw [start_prev t h0]
    rw [inv_pos m c _ _ hz, eh]
    by_cases h10 : t.val % 11 = 10
    · rw [leaves_narrow m c t h10, after_5]
      simp only [before_4 m c t h10]
      iintro ⟨⟨HS, Hg⟩, Ho, ⟨%d0, H0⟩, ⟨%d1, H1⟩, ⟨%d2, H2⟩, ⟨%d3, H3⟩, ⟨%d4, H4⟩, ⟨%d5, H5⟩⟩
      iapply (run_last c (grid0.coords t) _ _ _ _ _ _ _ _ _ _ _ _ _ _ (iblk m c 0 t) (iblk m c 1 t) (iblk m c 2 t) (iblk m c 3 t)
        ((dats m 0 c).after 4 t) (hs m c t) (fun h => h0 ((cond1_iff t).mp h)) (fun h => (cond2_iff t).mp h h10) ((cond3_iff t).mpr h10) Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves_narrow_idle m c t h10, after_4]
      unfold wideAt; rw [if_neg h10]
      iintro ⟨⟨HS, Hg⟩, Ho, ⟨%d0, H0⟩, ⟨%d1, H1⟩, ⟨%d2, H2⟩, ⟨%d3, H3⟩, ⟨%d4, H4⟩, ⟨%d5, H5⟩⟩
      iapply (run_mid c (grid0.coords t) _ _ _ _ _ _ _ _ _ _ _ _ _ _ (iblk m c 0 t) (iblk m c 1 t) (iblk m c 2 t) (iblk m c 3 t)
        ((dats m 0 c).before 5 t d5) (hs m c t) (fun h => h0 ((cond1_iff t).mp h)) ((cond2_iff t).mpr h10) (fun h => h10 ((cond3_iff t).mp h)) Set.univ _)
      isplitl [H0]; · iexact H0
      isplitl [H1]; · iexact H1
      isplitl [H2]; · iexact H2
      isplitl [H3]; · iexact H3
      isplitl [H4]; · iexists _; iexact H4
      isplitl [H5]; · iexact H5
      isplitl [HS]; · iexact HS
      iintro ⟨H0, H1, H2, H3, H4, H5, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem defs_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

theorem hout (c : Dev nD) : (dats m 0 c).Φ (Fin.last cfg0.N) ⊢ Pipeline.ΦA spec0 c := by
  have hN : cfg0.N = 11 := N_0
  rw [show (dats m 0 c).Φ (Fin.last cfg0.N) = inv m c cfg0.N (Nat.le_refl _) from rfl, inv_pos m c _ _ (by omega), launch_eq]
  iintro ⟨HS, Hg⟩
  isplitl [HS]
  · iexists _; iexact HS
  iexact Hg

/-! ## The run and the frame -/

set_option backward.isDefEq.respectTransparency.types false in
/-- The run: every array at what the data says, every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every run ends, with the argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ))
    ((θ_run defs _ _).mono (fun _ h => h.2) (run_main_quiescent m ρ))

end Cert.InprojSBIdeal.Layer

end
-- ==== Proof.InprojSBFrame.lean ====
/-
  The input projection of the sample group in the second layer: the idealized module is the module itself, so the frame of the one is the frame of the other.
-/
module

public import proofs.«01_k».proof.Proof.Gen.InprojSB
public import proofs.«01_k».proof.Proof.InprojSBIdealFrame

@[expose] public section

set_option maxRecDepth 16384

noncomputable section

open Idealize.ShloMosaic Idealize.ShloMosaic.TcCoe Idealize.SL.Sem

namespace Cert.InprojSB.Layer

open Cert.InprojSB Cert.InprojSB.Gen

variable {F : FTy → Type} [FloatOps F]

theorem bodies_eq : (defs₀ (F := F)) = Cert.InprojSBIdeal.defs₀ (F := F) := by
  unfold defs₀ Cert.InprojSBIdeal.defs₀
  refine congrArg Defs.onTc ?_
  funext l a
  match l, a with
  | 0, (t, s) => with_unfolding_all rfl

theorem table_eq : (defs (F := F)) = Cert.InprojSBIdeal.defs (F := F) := congrArg (Pipeline.defs pcfgs) bodies_eq

/-- Every run ends, with the argument arrays unchanged and every semaphore at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [table_eq]
  with_unfolding_all exact Cert.InprojSBIdeal.Layer.frame (F := F) m ρ

end Cert.InprojSB.Layer
end
-- ==== Proof.InprojSBClaim.lean ====
/-
  The input projection: what the kernel's two arrays and the reference's two arrays hold.
  The call of the second layer for the sample group, 128 rows.
-/
module

public import proofs.«01_k».proof.Proof.Rms
public import proofs.«01_k».proof.Proof.InprojSBIdealFrame
public import proofs.«01_k».proof.Proof.Gen.InprojSBRefIdeal.Run
public import Idealize.ShloMosaic.Lib.Pipeline.ValueKit

@[expose] public section

set_option maxRecDepth 16384

noncomputable section

open Idealize.ShloMosaic Idealize.ShloMosaic.TcCoe Idealize.SL.Sem

namespace Cert.InprojSBIdeal.Layer

open Cert.InprojSBIdeal Cert.InprojSBIdeal.Gen Cert.Layer

/-- The normalised row. -/
def hid (x : S128x2048.Idx → EReal) (g : S2x2048.Idx → EReal) (i : Fin 128) (k : Fin 2048) : EReal :=
  rms (fun j => x (ix2 i j)) (g (ix2 (1 : Fin 2) k)) k

/-- The wide product. -/
def wide (x : S128x2048.Idx → EReal) (g : S2x2048.Idx → EReal) (w : S2x2048x15360.Idx → EReal) : S128x15360.Idx → EReal := fun i =>
  ∑ k : Fin 2048, hid x g (i 0) k * w (ix3 (1 : Fin 2) k (i 1 : Fin 15360))

/-- The narrow product. -/
def narrow (x : S128x2048.Idx → EReal) (g : S2x2048.Idx → EReal) (w : S2x2048x128.Idx → EReal) : S128x128.Idx → EReal := fun i =>
  ∑ k : Fin 2048, hid x g (i 0) k * w (ix3 (1 : Fin 2) k (i 1 : Fin 128))

theorem pay1_at (x : Vec Ideal S128x2048 .f32) (g : Vec Ideal S1x1x2048 .f32) (r : Fin 128) (k : Fin 2048) :
    k0_pay1 (F := Ideal) x g (ix2 r k) = rms (fun j => x (ix2 r j)) (g (ix3 (0 : Fin 1) (0 : Fin 1) k)) k := by
  pointwise [k0_pay1, rms]

theorem pay2_at (h : Vec Ideal S128x2048 .bf16) (w : Vec Ideal S1x2048x1536 .bf16) (r : Fin 128) (j : Fin 1536) :
    k0_pay2 (F := Ideal) h w (ix2 r j) = ∑ k : Fin 2048, (show EReal from h (ix2 r k)) * (show EReal from w (ix3 (0 : Fin 1) k j)) := by
  pointwise [k0_pay2]

theorem pay3_at (h : Vec Ideal S128x2048 .bf16) (w : Vec Ideal S1x2048x128 .f32) (r : Fin 128) (j : Fin 128) :
    k0_pay3 (F := Ideal) h w (ix2 r j) = ∑ k : Fin 2048, (show EReal from h (ix2 r k)) * (show EReal from w (ix3 (0 : Fin 1) k j)) := by
  pointwise [k0_pay3]

variable (m : (ℓ : Loc nD τ sig) → Buf (Elt Ideal) ℓ) (ρ : Dev nD → PrngReg)

theorem idx : ∀ t : Fin cfg0.N, win0_0.index t = ![t.val / 11, 0] ∧ win0_1.index t = ![1, 0, 0] ∧ win0_2.index t = ![1, 0, min (t.val % 11) 9]
      ∧ win0_3.index t = ![1, 0, 0] ∧ win0_4.index t = ![t.val / 11, min (t.val % 11) 9] ∧ win0_5.index t = ![t.val / 11, 0] :=
  (by decide +kernel : ∀ t : Fin grid0.N, _)

theorem pt_lt (t : Fin cfg0.N) : t.val < 11 := lt_of_lt_of_eq t.isLt N_0

/-- Row `r` of the point's row block. -/
def row (t : Fin cfg0.N) (r : Fin 128) : Fin 128 := ⟨t.val / 11 * 128 + r.val, by have := pt_lt t; omega⟩

/-- Column `l` of the point's tile. -/
def col (t : Fin cfg0.N) (l : Fin 1536) : Fin 15360 := ⟨min (t.val % 11) 9 * 1536 + l.val, by omega⟩

theorem rd0 (c : Dev nD) (t : Fin cfg0.N) (r : Fin 128) (k : Fin 2048) :
    iblk m c 0 t (ix2 r k) = m ((c : Thread nD τ).loc main_arg0) (ix2 (row t r) k) := by
  have := pt_lt t
  unfold row
  blk_ext [iblk, V, idx t]

theorem rd1 (c : Dev nD) (t : Fin cfg0.N) (k : Fin 2048) :
    iblk m c 1 t (ix3 (0 : Fin 1) (0 : Fin 1) k) = m ((c : Thread nD τ).loc main_arg1) (ix2 (1 : Fin 2) k) := by
  blk_point [iblk, V, idx t]

theorem rd2 (c : Dev nD) (t : Fin cfg0.N) (k : Fin 2048) (l : Fin 1536) :
    iblk m c 2 t (ix3 (0 : Fin 1) k l) = m ((c : Thread nD τ).loc main_arg2) (ix3 (1 : Fin 2) k (col t l)) := by
  unfold col
  blk_point [iblk, V, idx t]

theorem rd3 (c : Dev nD) (t : Fin cfg0.N) (k : Fin 2048) (l : Fin 128) :
    iblk m c 3 t (ix3 (0 : Fin 1) k l) = m ((c : Thread nD τ).loc main_arg3) (ix3 (1 : Fin 2) k l) := by
  blk_point [iblk, V, idx t]

theorem row_start (t : Fin cfg0.N) (r : Fin 128) : row (start t) r = row t r := Fin.ext (by
  show (t.val - t.val % 11) / 11 * 128 + r.val = t.val / 11 * 128 + r.val
  omega)

theorem row_wide (t : Fin cfg0.N) (r : Fin 128) : row (wideAt t) r = row t r := by
  unfold wideAt
  split
  · exact Fin.ext (by show (t.val - 1) / 11 * 128 + r.val = t.val / 11 * 128 + r.val; omega)
  · rfl

theorem col_wide (t : Fin cfg0.N) (l : Fin 1536) : col (wideAt t) l = col t l := by
  unfold wideAt
  split
  · exact Fin.ext (by show min ((t.val - 1) % 11) 9 * 1536 + l.val = min (t.val % 11) 9 * 1536 + l.val; omega)
  · rfl

/-- The scratch holds the normalised rows of the point's row block. -/
theorem hs_at (c : Dev nD) (t : Fin cfg0.N) (r : Fin 128) (k : Fin 2048) :
    hs m c t (ix2 r k) = hid (m ((c : Thread nD τ).loc main_arg0)) (m ((c : Thread nD τ).loc main_arg1)) (row t r) k := by
  unfold hs
  refine (pay1_at _ _ r k).trans ?_
  simp only [rd0, rd1, row_start]
  rfl

theorem final_wide (c : Dev nD) : (dats m 0 c).arrAt 4 (cfgs 0).N
    = wide (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after_4]
  idx_vars y
  have := pt_lt t
  refine (pay2_at _ _ y0 y1).trans ?_
  simp only [hs_at, rd2, row_wide, col_wide]
  have e : ((View.whole main_v1_0).slice (win0_4.rect t)).emb (ix2 y0 y1) = ix2 (row t y0) (col t y1) := by
    unfold row col
    blk_ext [idx t]
  rw [e]
  rfl

theorem final_narrow (c : Dev nD) : (dats m 0 c).arrAt 5 (cfgs 0).N
    = narrow (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after_5]
  idx_vars y
  have := pt_lt t
  refine (pay3_at _ _ y0 y1).trans ?_
  simp only [hs_at, rd3]
  have e : ((View.whole main_v1_1).slice (win0_5.rect t)).emb (ix2 y0 y1) = ix2 (row t y0) y1 := by
    unfold row
    blk_ext [idx t]
  rw [e]
  rfl

/-- The run, with the two result arrays named. -/
theorem run_blocks : θ_run defs (onTc (τ := τ) (main (F := Ideal))) ⟨m, fun _ => 0, ρ⟩ fun r => ∀ c : Dev nD,
      r.2.mem ((c : Thread nD τ).loc main_v1_0) = (dats m 0 c).arrAt 4 (cfgs 0).N
      ∧ r.2.mem ((c : Thread nD τ).loc main_v1_1) = (dats m 0 c).arrAt 5 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, (h.1 c).1 5, h.2 c⟩)
    (θ_run_and (run_main m ρ) (frame_of m ρ (dats m) (A_eq m) (run_main m ρ)))

end Cert.InprojSBIdeal.Layer

namespace Cert.InprojSBRefIdeal.Layer

open Cert.InprojSBRefIdeal Cert.InprojSBRefIdeal.Gen Cert.Layer
open Cert.InprojSBIdeal.Layer (hid wide narrow)

def RN (y : FVec Ideal S128x2048 .f32) (g : FVec Ideal S2x2048 .f32) : FVec Ideal S128x2048 .f32 :=
  mulf (mulf y (broadcastInDim S128x2048 ![0, 1] bcast_S128x1_S128x2048_0_1 (Host.rsqrt (addf (Host.divf (broadcastInDim S128x1 ![0] bcast_S128_S128x1_0 (Host.reduceAdd (mulf y y) (constant S_ .f32 0x00000000#32) reducesTo_S128x2048_S128_d1 h_S_)) (broadcastInDim S128x1 ![] bcast_S_S128x1 (constant S_ .f32 0x45000000#32))) (broadcastInDim S128x1 ![] bcast_S_S128x1 (constant S_ .f32 0x358637BD#32)))))) (broadcastInDim S128x2048 ![0, 1] bcast_S1x2048_S128x2048_0_1 (broadcastInDim S1x2048 ![1] bcast_S2048_S1x2048_1 (shapeCast _ (extractStridedSlice S1x2048 ![1, 0] g slices_S2x2048_S1x2048_1_0) shapeCasts_S1x2048_S2048)))

theorem rn_at (y : FVec Ideal S128x2048 .f32) (g : FVec Ideal S2x2048 .f32) (t : Fin 128) (j : Fin 2048) :
    RN y g (ix2 t j) = hid y g t j := by
  pointwise [RN, hid, rms]

def WD (h : FVec Ideal S128x2048 .f32) (w : FVec Ideal S2x2048x15360 .bf16) : FVec Ideal S128x15360 .f32 :=
  Host.dotGeneral dot_S128x2048_S2048x15360_S128x15360_1_0_0_1_n_n none h (extf .f32 (shapeCast _ (extractStridedSlice S1x2048x15360 ![1, 0, 0] w slices_S2x2048x15360_S1x2048x15360_1_0_0) shapeCasts_S1x2048x15360_S2048x15360) bitsLt_bf16_f32)

theorem wd_at (h : FVec Ideal S128x2048 .f32) (w : FVec Ideal S2x2048x15360 .bf16) (t : Fin 128) (j : Fin 15360) :
    WD h w (ix2 t j) = ∑ k : Fin 2048, (show EReal from h (ix2 t k)) * (show EReal from w (ix3 (1 : Fin 2) k j)) := by
  pointwise [WD]

def NR (h : FVec Ideal S128x2048 .f32) (w : FVec Ideal S2x2048x128 .f32) : FVec Ideal S128x128 .f32 :=
  Host.dotGeneral dot_S128x2048_S2048x128_S128x128_1_0_0_1_n_n none h (shapeCast _ (extractStridedSlice S1x2048x128 ![1, 0, 0] w slices_S2x2048x128_S1x2048x128_1_0_0) shapeCasts_S1x2048x128_S2048x128)

theorem nr_at (h : FVec Ideal S128x2048 .f32) (w : FVec Ideal S2x2048x128 .f32) (t : Fin 128) (j : Fin 128) :
    NR h w (ix2 t j) = ∑ k : Fin 2048, (show EReal from h (ix2 t k)) * (show EReal from w (ix3 (1 : Fin 2) k j)) := by
  pointwise [NR]

/-- The reference's wide product. -/
theorem wide_eq (x : FVec Ideal S128x2048 .f32) (g : FVec Ideal S2x2048 .f32) (w : FVec Ideal S2x2048x15360 .bf16) :
    WD (RN x g) w = wide x g w := by
  funext i
  idx_vars i
  refine (wd_at _ _ i0 i1).trans ?_
  exact Fin.sum_fin_congr fun k => congrArg (fun z : EReal => z * (show EReal from w (ix3 (1 : Fin 2) k i1))) (rn_at x g i0 k)

/-- The reference's narrow product. -/
theorem narrow_eq (x : FVec Ideal S128x2048 .f32) (g : FVec Ideal S2x2048 .f32) (w : FVec Ideal S2x2048x128 .f32) :
    NR (RN x g) w = narrow x g w := by
  funext i
  idx_vars i
  refine (nr_at _ _ i0 i1).trans ?_
  exact Fin.sum_fin_congr fun k => congrArg (fun z : EReal => z * (show EReal from w (ix3 (1 : Fin 2) k i1))) (rn_at x g i0 k)

end Cert.InprojSBRefIdeal.Layer

end
-- ==== Proof.LfCases.lean ====
/-
  What the suffix-sum kernel holds after a grid point.
-/
module

public import proofs.«01_k».proof.Proof.Gen.LfIdeal.Value
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.LfIdeal.Suffix

open Cert.LfIdeal Cert.LfIdeal.Gen

/-- The matrix the first point stores: on the left the later-page indicator, on the right the same-head indicator. -/
def mat : Vec Ideal S1024x2048 .bf16 :=
  View.canon [⟨Rect.unit ![0, 1024] ![1024, 1024] inb_S1024x2048_S1024x1024_0_1024, k0_pay3 (F := Ideal)⟩,
    ⟨Rect.unit ![0, 0] ![1024, 1024] inb_S1024x2048_S1024x1024_0_0, k0_pay2 (F := Ideal)⟩]

variable (m : (ℓ : Loc nD τ sig) → Buf (Elt Ideal) ℓ)

theorem s_A (c : Dev nD) (t : Fin cfg0.N) (h0 : t.val % 10 = 0) :
    (outsAt0 m c t.val t.isLt).2 = mat := by
  rw [outsAt0_A m c t h0]; frame_out

theorem o_A (c : Dev nD) (t : Fin cfg0.N) (h0 : t.val % 10 = 0) :
    (outsAt0 m c t.val t.isLt).1 = k0_pay4 (iblk m c 0 t) mat := by
  rw [outsAt0_A m c t h0]; frame_out
  refine congrArg (fun h => k0_pay4 (F := Ideal) (iblk m c 0 t) h) ((View.readCov_eq_canon' _ _ _).trans ?_)
  funext j
  exact congrArg mat (Rect.emb_unit_full _ j)

theorem s_B (c : Dev nD) (t : Fin cfg0.N) (h0 : ¬t.val % 10 = 0) :
    (outsAt0 m c t.val t.isLt).2 = (outsAt0 m c (t.val - 1) (Nat.lt_of_le_of_lt (Nat.sub_le _ _) t.isLt)).2 := by
  rw [outsAt0_B m c t h0]; rfl

theorem o_B (c : Dev nD) (t : Fin cfg0.N) (h0 : ¬t.val % 10 = 0) :
    (outsAt0 m c t.val t.isLt).1 = k0_pay4 (iblk m c 0 t) (outsAt0 m c (t.val - 1) (Nat.lt_of_le_of_lt (Nat.sub_le _ _) t.isLt)).2 := by
  rw [outsAt0_B m c t h0]; frame_out
  exact congrArg (fun h => k0_pay4 (F := Ideal) (iblk m c 0 t) h) ((Memref.isWhole_whole cc0_scratch0).read_unread _)

/-- Every point finds and leaves the same matrix. -/
theorem s_at (c : Dev nD) : ∀ (n : ℕ) (hn : n < cfg0.N), (outsAt0 m c n hn).2 = mat := by
  intro n
  induction n with
  | zero => intro hn; exact s_A m c ⟨0, hn⟩ rfl
  | succ n ih =>
    intro hn
    by_cases h0 : (n + 1) % 10 = 0
    · exact s_A m c ⟨n + 1, hn⟩ h0
    · exact (s_B m c ⟨n + 1, hn⟩ h0).trans (ih _)

/-- The block a point leaves is the product of its rows with the matrix. -/
theorem o_at (c : Dev nD) (t : Fin cfg0.N) : (outsAt0 m c t.val t.isLt).1 = k0_pay4 (iblk m c 0 t) mat := by
  by_cases h0 : t.val % 10 = 0
  · exact o_A m c t h0
  · rw [o_B m c t h0, s_at]

end Cert.LfIdeal.Suffix

end
-- ==== Proof.LfMatrix.lean ====
/-
  The suffix-sum kernel: the matrix it multiplies by, entry by entry, and one block of the product.
-/
module

public import proofs.«01_k».proof.Proof.Rms
public import proofs.«01_k».proof.Proof.LfCases

@[expose] public section

set_option maxRecDepth 16384

noncomputable section

open Idealize.ShloMosaic Idealize.ShloMosaic.TcCoe Idealize.SL.Sem

namespace Cert.LfIdeal.Suffix

open Cert.LfIdeal Cert.LfIdeal.Gen Cert.Layer

theorem lane_eq : ∀ k : Fin 1024, IntOp.andi (BitVec.ofNat 32 k.val) 7#32 = BitVec.ofNat 32 (k.val % 8) := by decide +kernel

theorem page_eq : ∀ k : Fin 1024, IntOp.shrsi .vector (BitVec.ofNat 32 k.val) 3#32 = BitVec.ofNat 32 (k.val / 8) := by decide +kernel

theorem same_head (k c : Fin 1024) :
    IntOp.cmpi .eq (IntOp.andi (BitVec.ofNat 32 k.val) 7#32) (IntOp.andi (BitVec.ofNat 32 c.val) 7#32) = if k.val % 8 = c.val % 8 then 1#1 else 0#1 := by
  rw [lane_eq, lane_eq]
  exact (by decide +kernel : ∀ a b : Fin 8, IntOp.cmpi .eq (BitVec.ofNat 32 a.val) (BitVec.ofNat 32 b.val) = if a.val = b.val then 1#1 else 0#1)
    ⟨k.val % 8, Nat.mod_lt _ (by decide)⟩ ⟨c.val % 8, Nat.mod_lt _ (by decide)⟩

theorem later_page (k c : Fin 1024) :
    IntOp.cmpi .sgt (IntOp.shrsi .vector (BitVec.ofNat 32 k.val) 3#32) (IntOp.shrsi .vector (BitVec.ofNat 32 c.val) 3#32) = if c.val / 8 < k.val / 8 then 1#1 else 0#1 := by
  rw [page_eq, page_eq]
  exact (by decide +kernel : ∀ a b : Fin 128, IntOp.cmpi .sgt (BitVec.ofNat 32 a.val) (BitVec.ofNat 32 b.val) = if b.val < a.val then 1#1 else 0#1)
    ⟨k.val / 8, by omega⟩ ⟨c.val / 8, by omega⟩

theorem pay2_at (k c : Fin 1024) : (k0_pay2 (F := Ideal) (ix2 k c) : EReal) = if k.val % 8 = c.val % 8 ∧ c.val / 8 < k.val / 8 then 1 else 0 := by
  pointwise [k0_pay2, k0_pay1]
  rw [same_head, later_page]
  by_cases h1 : k.val % 8 = c.val % 8 <;> by_cases h2 : c.val / 8 < k.val / 8 <;> simp [h1, h2, Scalar.select, IntOp.andi]

theorem pay3_at (k c : Fin 1024) : (k0_pay3 (F := Ideal) (ix2 k c) : EReal) = if k.val % 8 = c.val % 8 then 1 else 0 := by
  pointwise [k0_pay3, k0_pay1]
  rw [same_head]
  by_cases h1 : k.val % 8 = c.val % 8 <;> simp [h1, Scalar.select]

theorem pay4_at (x : Vec Ideal S512x1024 .f32) (a : Vec Ideal S1024x2048 .bf16) (X : S512x1024.Idx → ℝ) (hX : ∀ i, x i = (X i : EReal)) (r : Fin 512) (j : Fin 2048) :
    k0_pay4 (F := Ideal) x a (ix2 r j) = ∑ k : Fin 1024, (X (ix2 r k) : EReal) * (show EReal from a (ix2 k j)) := by
  pointwise [k0_pay4]
  have e : ∀ i, (show EReal from x i) = (X i : EReal) := hX
  have z : ∀ i, (show EReal from x i) - (show EReal from x i) = 0 := fun i => by rw [e, ← EReal.coe_sub, sub_self, EReal.coe_zero]
  have z' : ∀ i, x i - x i = (0 : EReal) := z
  simp only [z', sub_zero, zero_mul, Finset.sum_const_zero, add_zero]
  exact Finset.sum_congr rfl fun k _ => congrArg (· * _) (hX _)

/-- The matrix, left half. -/
theorem mat_left (k : Fin 1024) (j : Fin 2048) (h : j.val < 1024) :
    (mat (ix2 k j) : EReal) = if k.val % 8 = j.val % 8 ∧ j.val / 8 < k.val / 8 then 1 else 0 := by
  have e : (ix2 k j : S1024x2048.Idx) = (Rect.unit (s := S1024x2048) ![0, 0] ![1024, 1024] inb_S1024x2048_S1024x1024_0_0).emb (ix2 k (⟨j.val, h⟩ : Fin 1024)) := by
    funext a
    match a with
    | ⟨0, _⟩ => exact Fin.ext (show k.val = 0 + 1 * k.val by omega)
    | ⟨1, _⟩ => exact Fin.ext (show j.val = 0 + 1 * j.val by omega)
  unfold mat
  rw [View.canon_cons_of_not_mem, e]
  · exact (View.canon_cons_emb _ _ _ _).trans (pay2_at k ⟨j.val, h⟩)
  · intro hm
    have hm' : (ix2 k j : S1024x2048.Idx) ∈ (Rect.unit (s := S1024x2048) ![0, 1024] ![1024, 1024] inb_S1024x2048_S1024x1024_0_1024).set := hm
    exact absurd (show 1024 ≤ j.val from (Rect.mem_set_unit.1 hm' 1).1) (by omega)

/-- The matrix, right half. -/
theorem mat_right (k : Fin 1024) (j : Fin 2048) (h : 1024 ≤ j.val) :
    (mat (ix2 k j) : EReal) = if k.val % 8 = (j.val - 1024) % 8 then 1 else 0 := by
  have e : (ix2 k j : S1024x2048.Idx) = (Rect.unit (s := S1024x2048) ![0, 1024] ![1024, 1024] inb_S1024x2048_S1024x1024_0_1024).emb (ix2 k (⟨j.val - 1024, by omega⟩ : Fin 1024)) := by
    funext a
    match a with
    | ⟨0, _⟩ => exact Fin.ext (show k.val = 0 + 1 * k.val by omega)
    | ⟨1, _⟩ => exact Fin.ext (show j.val = 1024 + 1 * (j.val - 1024) by omega)
  unfold mat
  rw [e]
  exact (View.canon_cons_emb _ _ _ _).trans (pay3_at k ⟨j.val - 1024, by omega⟩)

end Cert.LfIdeal.Suffix
end
-- ==== Proof.LfRef.lean ====
/-
  The suffix sums: what the reference computes, over real gates.
-/
module

public import proofs.«01_k».proof.Proof.Rms
public import proofs.«01_k».proof.Proof.Gen.LfRefIdeal.Run
public import Idealize.ShloMosaic.Lib.Pipeline.ValueKit

@[expose] public section

set_option maxRecDepth 16384

noncomputable section

open Idealize.ShloMosaic Idealize.ShloMosaic.TcCoe Idealize.SL.Sem

namespace Cert.Suffix

open Cert.Layer

/-- The gate of page `p` and head `l`. -/
def elt (p : Fin 128) (l : Fin 8) : Fin 1024 := ⟨p.val * 8 + l.val, by omega⟩

/-- The result: left, the sum over the later pages; right, the sum over all pages. -/
def sums (X : (⟨2, ![5120, 1024]⟩ : Shape).Idx → ℝ) (r : Fin 5120) (j : Fin 2048) : EReal :=
  if j.val < 1024 then ∑ p : Fin 128, if j.val / 8 < p.val then (X (ix2 r (elt p ⟨j.val % 8, Nat.mod_lt _ (by decide)⟩)) : EReal) else 0
  else ∑ p : Fin 128, (X (ix2 r (elt p ⟨(j.val - 1024) % 8, Nat.mod_lt _ (by decide)⟩)) : EReal)

/-- A left fold of additions is the start plus the sum. -/
theorem foldl_sum {ι : Type} (f : ι → EReal) : ∀ (l : List ι) (v : EReal), l.foldl (fun r n => r + f n) v = v + (l.map f).sum
  | [], v => by simp
  | a :: l, v => by rw [List.foldl_cons, foldl_sum f l, List.map_cons, List.sum_cons, add_assoc]

/-- The one-axis window as an index set. -/
def winEquiv : (⟨3, ![1, 128, 1]⟩ : Shape).Idx ≃ Fin 128 where
  toFun w := w 1
  invFun p := ix3 (0 : Fin 1) p (0 : Fin 1)
  left_inv w := by
    funext a
    match a with
    | ⟨0, _⟩ => exact (Fin.eq_zero (show Fin 1 from w 0)).symm
    | ⟨1, _⟩ => rfl
    | ⟨2, _⟩ => exact (Fin.eq_zero (show Fin 1 from w 2)).symm
  right_inv p := rfl

/-- The window's positions in row-major order. -/
def win (n : Fin (⟨3, ![1, 128, 1]⟩ : Shape).numel) : (⟨3, ![1, 128, 1]⟩ : Shape).Idx := (Shape.rowMajor (⟨3, ![1, 128, 1]⟩ : Shape)).symm n

/-- A window that starts at `q` and runs over the end sums the elements from `q` on. -/
theorem shifted_sum (a : Fin 128 → EReal) (q : Fin 128) :
    (∑ p : Fin 128, if h : q.val + p.val < 128 then a ⟨q.val + p.val, h⟩ else 0) = ∑ p : Fin 128, if q.val ≤ p.val then a p else 0 := by
  have hl : (∑ p : Fin 128, if h : q.val + p.val < 128 then a ⟨q.val + p.val, h⟩ else 0) = ∑ p ∈ Finset.univ.filter (fun p : Fin 128 => q.val + p.val < 128), if h : q.val + p.val < 128 then a ⟨q.val + p.val, h⟩ else 0 :=
    (Finset.sum_filter_of_ne fun p _ hp => by by_contra hn; exact hp (dif_neg hn)).symm
  rw [hl, ← Finset.sum_filter]
  refine Finset.sum_bij' (fun p hp => ⟨q.val + p.val, (Finset.mem_filter.1 hp).2⟩) (fun p _ => ⟨p.val - q.val, by omega⟩) ?_ ?_ ?_ ?_ ?_
  · intro p hp
    exact Finset.mem_filter.2 ⟨Finset.mem_univ _, Nat.le_add_right _ _⟩
  · intro p hp
    have h := (Finset.mem_filter.1 hp).2
    exact Finset.mem_filter.2 ⟨Finset.mem_univ _, show q.val + (p.val - q.val) < 128 by omega⟩
  · intro p hp
    exact Fin.ext (show q.val + p.val - q.val = p.val by omega)
  · intro p hp
    have h := (Finset.mem_filter.1 hp).2
    exact Fin.ext (show q.val + (p.val - q.val) = p.val by omega)
  · intro p hp
    exact dif_pos (Finset.mem_filter.1 hp).2

/-- Taking the first one away leaves the later ones. -/
theorem later_sum (a : Fin 128 → ℝ) (q : Fin 128) :
    (∑ p : Fin 128, if q.val ≤ p.val then (a p : EReal) else 0) - (a q : EReal) = ∑ p : Fin 128, if q.val < p.val then (a p : EReal) else 0 := by
  have e : ∀ p : Fin 128, (if q.val ≤ p.val then (a p : EReal) else 0) = (if q.val < p.val then (a p : EReal) else 0) + if q = p then (a p : EReal) else 0 := by
    intro p
    rcases lt_trichotomy q.val p.val with h | h | h
    · rw [if_pos h.le, if_pos h, if_neg (fun e => by rw [e] at h; omega), add_zero]
    · rw [if_pos h.le, if_neg (by omega), if_pos (Fin.ext h), zero_add]
    · rw [if_neg (by omega), if_neg (by omega), if_neg (fun e => by rw [e] at h; omega), add_zero]
  rw [Finset.sum_congr rfl fun p _ => e p, Finset.sum_add_distrib, Finset.sum_ite_eq, if_pos (Finset.mem_univ q), EReal.add_sub_cancel_right]

end Cert.Suffix

namespace Cert.LfRefIdeal.Suffix

open Cert.LfRefIdeal Cert.LfRefIdeal.Gen Cert.Layer Cert.Suffix

/-- The reverse cumulative sum along the pages, at an index. -/
theorem window_at (x : FVec Ideal S5120x128x8 .f32) (v : FVec Ideal S_ .f32) (hv : ∀ i, (v i : EReal) = 0) (h h') (r : Fin 5120) (q : Fin 128) (l : Fin 8) :
    (Host.reduceWindowAdd (t := S5120x128x8) ![1, 128, 1] ![1, 1, 1] ![0, 0, 0] ![0, 127, 0] x v h h' (ix3 r q l) : EReal)
      = ∑ p : Fin 128, if q.val ≤ p.val then (show EReal from x (ix3 r p l)) else 0 := by
  rw [← shifted_sum (fun p => (show EReal from x (ix3 r p l)))]
  refine (foldl_sum _ _ _).trans ?_
  refine (congrArg (· + _) (hv _)).trans ((zero_add _).trans ?_)
  rw [← Fin.sum_univ_def]
  refine Fintype.sum_equiv ((Shape.rowMajor (⟨3, ![1, 128, 1]⟩ : Shape)).symm.trans winEquiv) _ _ fun n => ?_
  show _ = if h : q.val + (win n 1).val < 128 then (show EReal from x (ix3 r ⟨q.val + (win n 1).val, h⟩ l)) else 0
  have w0 : (win n 0).val < 1 := (win n 0).isLt
  have w2 : (win n 2).val < 1 := (win n 2).isLt
  by_cases hq : q.val + (win n 1).val < 128
  · rw [dif_pos hq, dif_pos]
    · refine congrArg x (funext fun a => Fin.ext ?_)
      match a with
      | ⟨0, _⟩ => show r.val * 1 + (win n 0).val - 0 = r.val; omega
      | ⟨1, _⟩ => show q.val * 1 + (win n 1).val - 0 = q.val + (win n 1).val; omega
      | ⟨2, _⟩ => show l.val * 1 + (win n 2).val - 0 = l.val; omega
    · intro a
      match a with
      | ⟨0, _⟩ => show 0 ≤ r.val * 1 + (win n 0).val ∧ r.val * 1 + (win n 0).val - 0 < 5120; omega
      | ⟨1, _⟩ => show 0 ≤ q.val * 1 + (win n 1).val ∧ q.val * 1 + (win n 1).val - 0 < 128; omega
      | ⟨2, _⟩ => show 0 ≤ l.val * 1 + (win n 2).val ∧ l.val * 1 + (win n 2).val - 0 < 8; omega
  · rw [dif_neg hq, dif_neg]
    · exact hv _
    · intro hin
      have h1 : q.val * 1 + (win n 1).val - 0 < 128 := (hin 1).2
      omega

/-- The left half: the sum of the later pages' gates of the same head. -/
theorem ref_left (x : FVec Ideal S5120x1024 .f32) (X : S5120x1024.Idx → ℝ) (hX : ∀ i, (x i : EReal) = (X i : EReal))
    (w b : FVec Ideal S5120x128x8 .f32)
    (hw : ∀ r q l, (w (ix3 r q l) : EReal) = ∑ p : Fin 128, if q.val ≤ p.val then (show EReal from shapeCast S5120x128x8 x shapeCasts_S5120x1024_S5120x128x8 (ix3 r p l)) else 0)
    (r : Fin 5120) (j : Fin 2048) (hj : j.val < 1024) :
    (concatenate S5120x2048 1 [⟨S5120x1024, (shapeCast _ (subf w (shapeCast _ x shapeCasts_S5120x1024_S5120x128x8)) shapeCasts_S5120x128x8_S5120x1024)⟩, ⟨S5120x1024, (shapeCast _ b shapeCasts_S5120x128x8_S5120x1024)⟩] concatenates_S5120x1024_S5120x1024_S5120x2048_d1 (ix2 r j) : EReal)
      = sums X r j := by
  have hx : ∀ (q : Fin 128) (l : Fin 8), (show EReal from shapeCast S5120x128x8 x shapeCasts_S5120x1024_S5120x128x8 (ix3 r q l)) = (X (ix2 r (elt q l)) : EReal) := by
    intro q l
    refine Eq.trans ?_ (hX (ix2 r (elt q l)))
    pointwise [elt]
  pointwise []
  rw [dif_pos hj, hw]
  refine (congrArg₂ (· - ·) (Finset.sum_congr rfl fun p _ => if_congr Iff.rfl (hx p _) rfl) (hX _)).trans ?_
  refine (later_sum (fun p => X (ix2 r (elt p ⟨j.val % 8, by omega⟩))) ⟨j.val / 8, by omega⟩).trans ?_
  unfold sums
  rw [if_pos hj]

/-- The right half: the sum of all pages' gates of the same head. -/
theorem ref_right (x : FVec Ideal S5120x1024 .f32) (X : S5120x1024.Idx → ℝ) (hX : ∀ i, (x i : EReal) = (X i : EReal))
    (w : FVec Ideal S5120x1024 .f32) (r : Fin 5120) (j : Fin 2048) (hj : ¬j.val < 1024) :
    (concatenate S5120x2048 1 [⟨S5120x1024, w⟩, ⟨S5120x1024, (shapeCast _ (broadcastInDim S5120x128x8 ![0, 1, 2] bcast_S5120x1x8_S5120x128x8_0_1_2 (broadcastInDim S5120x1x8 ![0, 2] bcast_S5120x8_S5120x1x8_0_2 (Host.reduceAdd (shapeCast _ x shapeCasts_S5120x1024_S5120x128x8) (constant S_ .f32 0x00000000#32) reducesTo_S5120x128x8_S5120x8_d1 h_S_))) shapeCasts_S5120x128x8_S5120x1024)⟩] concatenates_S5120x1024_S5120x1024_S5120x2048_d1 (ix2 r j) : EReal)
      = sums X r j := by
  pointwise []
  rw [dif_neg hj]
  unfold sums
  rw [if_neg hj]
  exact Finset.sum_congr rfl fun p _ => hX _

end Cert.LfRefIdeal.Suffix
end
-- ==== Proof.LfClaim.lean ====
/-
  The suffix sums: the kernel's array and the reference's are the same array, and finite gates are real ones.
-/
module

public import proofs.«01_k».proof.Proof.LfMatrix
public import proofs.«01_k».proof.Proof.LfRef
public import proofs.«01_k».proof.Proof.FlashClaim
public import proofs.«01_k».proof.Proof.Gen.Pre_finite_lf

@[expose] public section

set_option maxRecDepth 16384

noncomputable section

open Idealize.ShloMosaic Idealize.ShloMosaic.TcCoe Idealize.SL.Sem

namespace Cert.LfIdeal.Suffix

open Cert.LfIdeal Cert.LfIdeal.Gen Cert.Layer Cert.Suffix

/-- Page and head of a lane. -/
def lanes : Fin 1024 ≃ Fin 128 × Fin 8 where
  toFun k := (⟨k.val / 8, by omega⟩, ⟨k.val % 8, by omega⟩)
  invFun p := elt p.1 p.2
  left_inv k := Fin.ext (show k.val / 8 * 8 + k.val % 8 = k.val by omega)
  right_inv p := Prod.ext (Fin.ext (show (p.1.val * 8 + p.2.val) / 8 = p.1.val by omega)) (Fin.ext (show (p.1.val * 8 + p.2.val) % 8 = p.2.val by omega))

/-- A sum over lanes against an indicator of one head is a sum over pages. -/
theorem lane_sum (f : Fin 1024 → EReal) (l : Fin 8) (P : ℕ → Prop) [DecidablePred P] :
    (∑ k : Fin 1024, f k * if k.val % 8 = l.val ∧ P (k.val / 8) then 1 else 0) = ∑ p : Fin 128, if P p.val then f (elt p l) else 0 := by
  rw [← lanes.symm.sum_comp, Fintype.sum_prod_type]
  refine Finset.sum_congr rfl fun p _ => ?_
  rw [Finset.sum_eq_single l]
  · have e1 : (lanes.symm (p, l)).val % 8 = l.val := show (p.val * 8 + l.val) % 8 = l.val by omega
    have e2 : (lanes.symm (p, l)).val / 8 = p.val := show (p.val * 8 + l.val) / 8 = p.val by omega
    rw [e1, e2]
    by_cases h : P p.val
    · rw [if_pos ⟨rfl, h⟩, if_pos h, mul_one]; rfl
    · rw [if_neg (fun a => h a.2), if_neg h, mul_zero]
  · intro b _ hb
    have e1 : (lanes.symm (p, b)).val % 8 = b.val := show (p.val * 8 + b.val) % 8 = b.val by omega
    rw [if_neg (fun a => hb (Fin.ext (e1.symm.trans a.1))), mul_zero]
  · intro h
    exact absurd (Finset.mem_univ l) h

variable (m : (ℓ : Loc nD τ sig) → Buf (Elt Ideal) ℓ)

theorem idx : ∀ t : Fin cfg0.N, win0_0.index t = ![t.val, 0] ∧ win0_1.index t = ![t.val, 0] :=
  (by decide +kernel : ∀ t : Fin grid0.N, _)

theorem pt_lt (t : Fin cfg0.N) : t.val < 10 := lt_of_lt_of_eq t.isLt N_0

/-- Row `r` of block `t`. -/
def row (t : Fin cfg0.N) (r : Fin 512) : Fin 5120 := ⟨t.val * 512 + r.val, by have := pt_lt t; omega⟩

theorem rd0 (c : Dev nD) (t : Fin cfg0.N) (r : Fin 512) (k : Fin 1024) :
    iblk m c 0 t (ix2 r k) = m ((c : Thread nD τ).loc main_arg0) (ix2 (row t r) k) := by
  have := pt_lt t
  unfold row
  blk_ext [iblk, V, idx t]

/-- One entry of the block a point leaves. -/
theorem out_at (c : Dev nD) (X : S5120x1024.Idx → ℝ) (hX : ∀ i, m ((c : Thread nD τ).loc main_arg0) i = (X i : EReal))
    (t : Fin cfg0.N) (r : Fin 512) (j : Fin 2048) : (outsAt0 m c t.val t.isLt).1 (ix2 r j) = (sums X (row t r) j : EReal) := by
  rw [o_at]
  refine (pay4_at (iblk m c 0 t) mat (fun i => X (ix2 (row t (i 0 : Fin 512)) (i 1 : Fin 1024))) ?_ r j).trans ?_
  · intro i
    idx_vars i
    exact (rd0 m c t _ _).trans (hX _)
  · by_cases hj : j.val < 1024
    · refine (Finset.sum_congr rfl fun k _ => congrArg (_ * ·) (mat_left k j hj)).trans ?_
      refine (lane_sum (fun k => (X (ix2 (row t r) k) : EReal)) ⟨j.val % 8, by omega⟩ (fun p => j.val / 8 < p)).trans ?_
      unfold sums
      rw [if_pos hj]
    · refine (Finset.sum_congr rfl fun k _ => congrArg (_ * ·) ((mat_right k j (by omega)).trans ((if_congr (and_iff_left trivial).symm rfl rfl)))).trans ?_
      refine (lane_sum (fun k => (X (ix2 (row t r) k) : EReal)) ⟨(j.val - 1024) % 8, by omega⟩ (fun _ => True)).trans ?_
      unfold sums
      rw [if_neg hj]
      exact Finset.sum_congr rfl fun p _ => if_pos trivial

/-- The array the grid leaves. -/
theorem final (c : Dev nD) (X : S5120x1024.Idx → ℝ) (hX : ∀ i, m ((c : Thread nD τ).loc main_arg0) i = (X i : EReal)) :
    (dats m 0 c).arrAt 1 cfg0.N = fun i => (sums X (i 0 : Fin 5120) (i 1 : Fin 2048) : EReal) := by
  refine (dats m 0 c).arrAt_eq_of_covers 1 _ (by decide +kernel) fun t _ y => ?_
  blk_simp
  rw [after0_1]
  idx_vars y
  have := pt_lt t
  refine (out_at m c X hX t y0 y1).trans ?_
  have e : ((View.whole main_v0).slice (win0_1.rect t)).emb (ix2 y0 y1) = ix2 (row t y0) y1 := by
    unfold row
    blk_ext [idx t]
  rw [e]
  rfl

end Cert.LfIdeal.Suffix

namespace Cert.LfRefIdeal.Suffix

open Cert.LfRefIdeal Cert.LfRefIdeal.Gen Cert.Layer Cert.Suffix

/-- The reference's array. -/
theorem ref_eq (x : FVec Ideal S5120x1024 .f32) (X : S5120x1024.Idx → ℝ) (hX : ∀ i, (x i : EReal) = (X i : EReal)) :
    concatenate S5120x2048 1 [⟨S5120x1024, (shapeCast _ (subf (Host.reduceWindowAdd ![1, 128, 1] ![1, 1, 1] ![0, 0, 0] ![0, 127, 0] (shapeCast _ x shapeCasts_S5120x1024_S5120x128x8) (broadcastInDim S_ ![] bcast_S_S_ (constant S_ .f32 0x00000000#32)) reduceWindows_S5120x128x8_S5120x128x8_w1s1p0_0_w128s1p0_127_w1s1p0_0 h_S_) (shapeCast _ x shapeCasts_S5120x1024_S5120x128x8)) shapeCasts_S5120x128x8_S5120x1024)⟩, ⟨S5120x1024, (shapeCast _ (broadcastInDim S5120x128x8 ![0, 1, 2] bcast_S5120x1x8_S5120x128x8_0_1_2 (broadcastInDim S5120x1x8 ![0, 2] bcast_S5120x8_S5120x1x8_0_2 (Host.reduceAdd (shapeCast _ x shapeCasts_S5120x1024_S5120x128x8) (constant S_ .f32 0x00000000#32) reducesTo_S5120x128x8_S5120x8_d1 h_S_))) shapeCasts_S5120x128x8_S5120x1024)⟩] concatenates_S5120x1024_S5120x1024_S5120x2048_d1
      = fun i : S5120x2048.Idx => (sums X (i 0 : Fin 5120) (i 1 : Fin 2048) : EReal) := by
  funext i
  idx_vars i
  by_cases hj : i1.val < 1024
  · refine ref_left x X hX _ _ (fun r q l => window_at _ _ (fun i => ?_) _ _ r q l) i0 i1 hj
    exact Ideal.ofBits_zero .f32
  · exact ref_right x X hX _ i0 i1 hj

end Cert.LfRefIdeal.Suffix

namespace Cert.Suffix

/-- A finite argument is a real one, element by element. -/
theorem finite_real (a0 : FVec Ideal Pre_finite_lf.S5120x1024 .f32) [Pre_finite_lf.Facts] (h : Pre_finite_lf.fn (F := Ideal) a0 = fun _ => 1#1) :
    ∀ i, (a0 i : EReal) = ((EReal.toReal (a0 i) : ℝ) : EReal) := by
  have h0 := congrFun h (fun k => k.elim0)
  unfold Pre_finite_lf.fn at h0
  exact fun i => Flash.real_of_abs_lt _ (Host.reduce_andi_all _ _ _ _ _ h0 i)

end Cert.Suffix

end
-- ==== Proof.MlstmMath.lean ====
module

public import Idealize.ShloMosaic.Lib.Pipeline.ValueKit

/-!
One step of the matrix memory of one head over `n` tokens, as plain functions of the head's queries,
keys, values, input gates and summed forget gates, and what it comes to when the four tokens are padded
to 128 rows: keys and values of the padding are zero, its input gates minus infinity.
-/

@[expose] public section

noncomputable section

open Idealize.ShloMosaic

namespace Cert.Mlstm

/-- Logarithm of the logistic function. -/
def lsig (x : EReal) : EReal := -(max (-x) 0 + Ideal.log1p (Ideal.exp (-(max (-x) (-(-x))))))

/-- The largest of a row, minus infinity on an empty one. -/
def top {n : ℕ} (f : Fin n → EReal) : EReal := Finset.univ.fold max ⊥ f

/-- Exponent of token `s` as token `t` sees it. -/
def logD {n : ℕ} (i b : Fin n → EReal) (t s : Fin n) : EReal := if s.val ≤ t.val then b t + (i s - b s) else ⊥

/-- Stabiliser of row `t`. -/
def stab {n : ℕ} (i b : Fin n → EReal) (m : EReal) (t : Fin n) : EReal := max (b t + m) (top (logD i b t))

/-- Weight of the carried memory in row `t`. -/
def wIn {n : ℕ} (i b : Fin n → EReal) (m : EReal) (t : Fin n) : EReal := Ideal.exp (b t + m - stab i b m t)

/-- Weighted score of tokens `t` and `s`. -/
def sc {n : ℕ} (q k : Fin n → Fin 128 → EReal) (i b : Fin n → EReal) (m : EReal) (t s : Fin n) : EReal :=
  (∑ d, q t d * k s d) * Ideal.exp (logD i b t s - stab i b m t)

/-- Numerator of the read out row. -/
def num {n : ℕ} (q k : Fin n → Fin 128 → EReal) (v : Fin n → Fin 256 → EReal) (i b : Fin n → EReal) (m : EReal)
    (C : Fin 256 → Fin 128 → EReal) (t : Fin n) (e : Fin 256) : EReal :=
  (∑ s, sc q k i b m t s * v s e) + wIn i b m t * ∑ d, q t d * C e d

/-- Denominator of the read out row. -/
def den {n : ℕ} (q k : Fin n → Fin 128 → EReal) (i b : Fin n → EReal) (m : EReal)
    (N : Fin 128 → EReal) (t : Fin n) : EReal :=
  max (max ((∑ s, sc q k i b m t s) + wIn i b m t * ∑ d, q t d * N d) (-((∑ s, sc q k i b m t s) + wIn i b m t * ∑ d, q t d * N d)))
    (Ideal.exp (-stab i b m t))

/-- The read out row. -/
def hid {n : ℕ} (q k : Fin n → Fin 128 → EReal) (v : Fin n → Fin 256 → EReal) (i b : Fin n → EReal) (m : EReal)
    (C : Fin 256 → Fin 128 → EReal) (N : Fin 128 → EReal) (t : Fin n) (e : Fin 256) : EReal :=
  Ideal.div (num q k v i b m C t e) (den q k i b m N t)

/-- Entry `e` of the normalised row at gain `g`. -/
def rms (v : Fin 256 → EReal) (g : EReal) (e : Fin 256) : EReal :=
  v e * Ideal.rsqrt (Ideal.div (∑ k, v k * v k) (Ideal.ofBits .f32 0x43800000#32) + Ideal.ofBits .f32 0x358637BD#32) * g

/-- Exponent with which token `s` enters the memory, `l` the forget gates' sum over the whole step. -/
def le {n : ℕ} (i b : Fin n → EReal) (l : EReal) (s : Fin n) : EReal := l - b s + i s

/-- The new stabiliser. -/
def mNew {n : ℕ} (i b : Fin n → EReal) (l m : EReal) : EReal := max (l + m) (top (le i b l))

/-- Weight of token `s` in the new memory. -/
def ws {n : ℕ} (i b : Fin n → EReal) (l m : EReal) (s : Fin n) : EReal := Ideal.exp (le i b l s - mNew i b l m)

/-- The new memory. -/
def cNew {n : ℕ} (k : Fin n → Fin 128 → EReal) (v : Fin n → Fin 256 → EReal) (i b : Fin n → EReal) (l m : EReal)
    (C : Fin 256 → Fin 128 → EReal) (e : Fin 256) (d : Fin 128) : EReal :=
  Ideal.exp (l + m - mNew i b l m) * C e d + ∑ s, k s d * (ws i b l m s * v s e)

/-- The new normaliser. -/
def nNew {n : ℕ} (k : Fin n → Fin 128 → EReal) (i b : Fin n → EReal) (l m : EReal)
    (N : Fin 128 → EReal) (d : Fin 128) : EReal :=
  Ideal.exp (l + m - mNew i b l m) * N d + ∑ s, ws i b l m s * k s d

/-! ## Padding -/

/-- Token `t` among the 128 rows. -/
def up (t : Fin 4) : Fin 128 := ⟨t.val, by omega⟩

/-- A padded row: the four entries, then `z`. -/
def padz (z : EReal) (f : Fin 4 → EReal) (s : Fin 128) : EReal := if h : s.val < 4 then f ⟨s.val, h⟩ else z

/-- Padded rows of entries: the four, then zeros. -/
def padr {w : ℕ} (f : Fin 4 → Fin w → EReal) (s : Fin 128) (d : Fin w) : EReal := if h : s.val < 4 then f ⟨s.val, h⟩ d else 0

theorem padz_up (z : EReal) (f : Fin 4 → EReal) (t : Fin 4) : padz z f (up t) = f t := by simp [padz, up]
theorem padr_up {w : ℕ} (f : Fin 4 → Fin w → EReal) (t : Fin 4) (d : Fin w) : padr f (up t) d = f t d := by simp [padr, up]
theorem padz_out (z : EReal) (f : Fin 4 → EReal) (s : Fin 128) (h : ¬ s.val < 4) : padz z f s = z := by simp [padz, h]
theorem padr_out {w : ℕ} (f : Fin 4 → Fin w → EReal) (s : Fin 128) (d : Fin w) (h : ¬ s.val < 4) : padr f s d = 0 := by simp [padr, h]

/-- A sum over the rows whose terms vanish in the padding. -/
theorem sum_up (f : Fin 128 → EReal) (h : ∀ s : Fin 128, ¬ s.val < 4 → f s = 0) : ∑ s, f s = ∑ t : Fin 4, f (up t) := by
  have e : ∑ s : Fin (4 + 124), f s = ∑ t : Fin 4, f (Fin.castAdd 124 t) + ∑ t : Fin 124, f (Fin.natAdd 4 t) :=
    Fin.sum_univ_add (a := 4) (b := 124) (f : Fin (4 + 124) → EReal)
  refine e.trans ?_
  rw [Finset.sum_eq_zero (s := (Finset.univ : Finset (Fin 124))) (fun t _ => h _ (by simp)), add_zero]
  rfl

theorem top_eq {n : ℕ} (f : Fin n → EReal) : top f = Finset.univ.sup f := rfl

/-- A largest entry over the rows whose entries are minus infinity in the padding. -/
theorem top_up (f : Fin 128 → EReal) (h : ∀ s : Fin 128, ¬ s.val < 4 → f s = ⊥) : top f = top fun t : Fin 4 => f (up t) := by
  rw [top_eq, top_eq]
  refine le_antisymm (Finset.sup_le fun s _ => ?_) (Finset.sup_le fun t _ => Finset.le_sup (Finset.mem_univ _))
  by_cases hs : s.val < 4
  · exact Finset.le_sup (f := fun t : Fin 4 => f (up t)) (Finset.mem_univ (⟨s.val, hs⟩ : Fin 4))
  · rw [h s hs]; exact bot_le

variable (q k : Fin 4 → Fin 128 → EReal) (v : Fin 4 → Fin 256 → EReal) (i b : Fin 4 → EReal) (b' : Fin 128 → EReal)
  (m l : EReal) (C : Fin 256 → Fin 128 → EReal) (N : Fin 128 → EReal)

theorem logD_up (hb : ∀ t, b' (up t) = b t) (t s : Fin 4) : logD (padz ⊥ i) b' (up t) (up s) = logD i b t s := by
  unfold logD; rw [padz_up, hb, hb]; rfl

theorem stab_up (hb : ∀ t, b' (up t) = b t) (t : Fin 4) : stab (padz ⊥ i) b' m (up t) = stab i b m t := by
  unfold stab
  rw [top_up _ fun s hs => ?_, hb]
  · congr 2; funext s; exact logD_up i b b' hb t s
  · unfold logD; rw [if_neg]; have := t.isLt; show ¬ s.val ≤ t.val; omega

theorem wIn_up (hb : ∀ t, b' (up t) = b t) (t : Fin 4) : wIn (padz ⊥ i) b' m (up t) = wIn i b m t := by
  unfold wIn; rw [stab_up i b b' m hb, hb]

theorem sc_up (hb : ∀ t, b' (up t) = b t) (t s : Fin 4) :
    sc (padr q) (padr k) (padz ⊥ i) b' m (up t) (up s) = sc q k i b m t s := by
  unfold sc; rw [stab_up i b b' m hb, logD_up i b b' hb]; simp only [padr_up]

theorem sc_out (t s : Fin 128) (hs : ¬ s.val < 4) : sc (padr q) (padr k) (padz ⊥ i) b' m t s = 0 := by
  unfold sc; simp only [padr_out k s _ hs, mul_zero, Finset.sum_const_zero, zero_mul]

theorem sc_row_out (t s : Fin 128) (ht : ¬ t.val < 4) : sc (padr q) (padr k) (padz ⊥ i) b' m t s = 0 := by
  unfold sc; simp only [padr_out q t _ ht, Finset.sum_const_zero, zero_mul]

theorem hid_up (hb : ∀ t, b' (up t) = b t) (t : Fin 4) (e : Fin 256) :
    hid (padr q) (padr k) (padr v) (padz ⊥ i) b' m C N (up t) e = hid q k v i b m C N t e := by
  unfold hid num den
  rw [sum_up _ fun s hs => by rw [sc_out q k i b' m _ s hs, zero_mul], sum_up _ fun s hs => sc_out q k i b' m (up t) s hs]
  simp only [sc_up q k i b b' m hb, wIn_up i b b' m hb, stab_up i b b' m hb, padr_up]

/-- A padded row of the read out is the same number throughout, zero or minus infinity. -/
theorem hid_out (t : Fin 128) (ht : ¬ t.val < 4) :
    (∀ e, hid (padr q) (padr k) (padr v) (padz ⊥ i) b' m C N t e = 0) ∨ ∀ e, hid (padr q) (padr k) (padr v) (padz ⊥ i) b' m C N t e = ⊥ := by
  have hn : ∀ e, num (padr q) (padr k) (padr v) (padz ⊥ i) b' m C t e = 0 := fun e => by
    unfold num
    simp only [sc_row_out q k i b' m t _ ht, padr_out q t _ ht, zero_mul, mul_zero, Finset.sum_const_zero, add_zero]
  unfold hid
  simp only [hn]
  by_cases hd : den (padr q) (padr k) (padz ⊥ i) b' m N t = 0
  · right; intro e; unfold Ideal.div; rw [if_pos hd, if_neg (lt_irrefl _)]
  · left; intro e; unfold Ideal.div; rw [if_neg hd, zero_mul]

theorem nsmul_top : (256 : ℕ) • (⊤ : EReal) = ⊤ := by
  rw [EReal.nsmul_eq_mul]; exact EReal.coe_mul_top_of_pos (by norm_num)

theorem rms_zero (v : Fin 256 → EReal) (g : EReal) (h : (∀ e, v e = 0) ∨ ∀ e, v e = ⊥) (e : Fin 256) : rms v g e = 0 := by
  unfold rms
  rcases h with h | h
  · rw [h e, zero_mul, zero_mul]
  · have hs : ∑ k, v k * v k = ⊤ := by
      simp only [h, EReal.bot_mul_bot, Finset.sum_const, Finset.card_univ, Fintype.card_fin]
      exact nsmul_top
    have h256 : Ideal.ofBits .f32 0x43800000#32 = ((256 : ℝ) : EReal) := by
      simp [Ideal.ofBits, Ideal.ieee, -EReal.coe_mul]; norm_num
    have heps : ⊥ < Ideal.ofBits .f32 0x358637BD#32 := by
      simp [Ideal.ofBits, Ideal.ieee, -EReal.coe_mul]
    have hd : Ideal.div ⊤ (Ideal.ofBits .f32 0x43800000#32) = ⊤ := by
      rw [h256]; unfold Ideal.div
      rw [if_neg (by norm_cast), ← EReal.coe_inv]
      exact EReal.top_mul_coe_of_pos (by norm_num)
    rw [hs, hd, h e, EReal.top_add_of_ne_bot heps.ne']
    show ⊥ * (0 : EReal) * g = 0
    rw [mul_zero, zero_mul]

theorem le_up (hb : ∀ t, b' (up t) = b t) (s : Fin 4) : le (padz ⊥ i) b' l (up s) = le i b l s := by
  unfold le; rw [padz_up, hb]

theorem le_out (s : Fin 128) (hs : ¬ s.val < 4) : le (padz ⊥ i) b' l s = ⊥ := by
  unfold le; rw [padz_out _ _ s hs, EReal.add_bot]

theorem mNew_up (hb : ∀ t, b' (up t) = b t) : mNew (padz ⊥ i) b' l m = mNew i b l m := by
  unfold mNew; rw [top_up _ (le_out i b' l)]; simp only [le_up i b b' l hb]

theorem ws_up (hb : ∀ t, b' (up t) = b t) (s : Fin 4) : ws (padz ⊥ i) b' l m (up s) = ws i b l m s := by
  unfold ws; rw [mNew_up i b b' m l hb, le_up i b b' l hb]

theorem cNew_up (hb : ∀ t, b' (up t) = b t) (e : Fin 256) (d : Fin 128) :
    cNew (padr k) (padr v) (padz ⊥ i) b' l m C e d = cNew k v i b l m C e d := by
  unfold cNew
  rw [sum_up _ fun s hs => by rw [padr_out k s _ hs, zero_mul], mNew_up i b b' m l hb]
  simp only [ws_up i b b' m l hb, padr_up]

theorem nNew_up (hb : ∀ t, b' (up t) = b t) (d : Fin 128) :
    nNew (padr k) (padz ⊥ i) b' l m N d = nNew k i b l m N d := by
  unfold nNew
  rw [sum_up _ fun s hs => by rw [padr_out k s _ hs, mul_zero], mNew_up i b b' m l hb]
  simp only [ws_up i b b' m l hb, padr_up]

/-- Running sum of a row, entry `t` included. -/
def bsum {n : ℕ} (f : Fin n → EReal) (t : Fin n) : EReal := ∑ k, if k.val ≤ t.val then f k else 0

theorem bsum_up (f : Fin 4 → EReal) (t : Fin 4) : bsum (padz 0 f) (up t) = bsum f t := by
  unfold bsum
  rw [sum_up _ fun s hs => by rw [padz_out _ _ s hs, ite_self]]
  simp only [padz_up]
  rfl

/-- From the last token on the running sum stays. -/
theorem bsum_last (f : Fin 4 → EReal) (t : Fin 128) (h : 3 ≤ t.val) : bsum (padz 0 f) t = bsum f 3 := by
  unfold bsum
  rw [sum_up _ fun s hs => by rw [padz_out _ _ s hs, ite_self]]
  simp only [padz_up]
  refine Finset.sum_congr rfl fun k _ => ?_
  have hk := k.isLt
  rw [if_pos (show (up k).val ≤ t.val by show k.val ≤ t.val; omega), if_pos (show k.val ≤ (3 : Fin 4).val by show k.val ≤ 3; omega)]

/-! ## The arguments' entries, by sequence and head -/

abbrev Z' := (⟨3, ![32, 4, 15360]⟩ : Shape).Idx → EReal
abbrev G' := (⟨3, ![32, 4, 128]⟩ : Shape).Idx → EReal
abbrev W' := (⟨2, ![2, 128]⟩ : Shape).Idx → EReal

/-- Queries. -/
def qz (Z : Z') (b : Fin 32) (h : Fin 4) (t : Fin 4) (d : Fin 128) : EReal := Z (ix3 b t (⟨h.val * 128 + d.val, by omega⟩ : Fin 15360))
/-- Scaled keys. -/
def kz (Z : Z') (b : Fin 32) (h : Fin 4) (t : Fin 4) (d : Fin 128) : EReal :=
  Z (ix3 b t (⟨512 + (h.val * 128 + d.val), by omega⟩ : Fin 15360)) * Ideal.ofBits .f32 0x3DB504F3#32
/-- Values. -/
def vz (Z : Z') (b : Fin 32) (h : Fin 4) (t : Fin 4) (e : Fin 256) : EReal := Z (ix3 b t (⟨1024 + (h.val * 256 + e.val), by omega⟩ : Fin 15360))
/-- Output gate's input. -/
def oz (Z : Z') (b : Fin 32) (t : Fin 4) (j : Fin 1024) : EReal := Z (ix3 b t (⟨4096 + j.val, by omega⟩ : Fin 15360))
/-- Gate `l` of token `t`. -/
def gz (G : G') (W : W') (b : Fin 32) (l : Fin 128) (t : Fin 4) : EReal := G (ix3 b t l) + W (ix2 (0 : Fin 2) l)
/-- Logarithm of the forget gate `l` of token `t`. -/
def lz (G : G') (W : W') (b : Fin 32) (l : Fin 128) (t : Fin 4) : EReal := lsig (gz G W b l t)
/-- Input gates of a head. -/
def iz (G : G') (W : W') (b : Fin 32) (h : Fin 4) : Fin 4 → EReal := gz G W b ⟨8 + h.val, by omega⟩
/-- Summed forget gates of a head. -/
def bz (G : G') (W : W') (b : Fin 32) (h : Fin 4) : Fin 4 → EReal := bsum (lz G W b ⟨12 + h.val, by omega⟩)

/-- Head and entry of a column. -/
def hd (j : Fin 1024) : Fin 4 := ⟨j.val / 256, by omega⟩
def en (j : Fin 1024) : Fin 256 := ⟨j.val % 256, Nat.mod_lt _ (by decide)⟩

end Cert.Mlstm

end
-- ==== Proof.MlstmHead.lean ====
/-
  One head of the matrix memory kernel, as vectors: what it reads out, the memory, the normaliser and the stabiliser
  it leaves, from the head's blocks. The four heads of the body are the same operations.
-/
module

public import proofs.«01_k».proof.Proof.MlstmMath
public import proofs.«01_k».proof.Proof.Gen.MlstmIdeal.Value
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.MlstmIdeal.Cell

open Cert.MlstmIdeal Cert.MlstmIdeal.Gen Cert.Mlstm

variable (q k : FVec Ideal S128x128 .f32) (v : FVec Ideal S128x256 .f32) (ic bc : FVec Ideal S128x1 .f32) (ir br : FVec Ideal S1x128 .f32)
  (mv : Vec Ideal S1x1x1 .f32) (ct : Vec Ideal S1x128x256 .f32) (nv : Vec Ideal S1x1x128 .f32)
  (mn : Vec Ideal S1x1x256 .f32) (og : Vec Ideal S1x8x256 .f32)

/-- The head's block of read out rows. -/
def hmV : FVec Ideal S1x8x256 .bf16 :=
  k0_pay87 (k0_pay79 (k0_pay69 k0_pay17 ir bc br mv) (k0_pay76 k0_pay17 q k v ir bc br mv ct) (k0_pay77 k0_pay17 q k ir bc br mv nv) k0_pay78) mn og

/-- The head's memory, transposed, after the step. -/
def cV : FVec Ideal S1x128x256 .f32 := k0_pay84 k v ic ir bc br (k0_pay66 mv) (k0_pay74 ct)

/-- The head's normaliser after the step. -/
def nV : FVec Ideal S1x1x128 .f32 := k0_pay85 ir bc br (k0_pay66 mv) (k0_pay72 k) (k0_pay75 nv)

/-- The head's stabiliser after the step. -/
def mV : FVec Ideal S1x1x1 .f32 := k0_pay86 (k0_pay82 ir bc br (k0_pay66 mv))

section heads

variable (BR BC GT : FVec Ideal S128x128 .f32) (IR : IVec S1x128 32) (VR : IVec S1x128 1)

theorem hm_0 : k0_pay58 (k0_pay49 (k0_pay39 k0_pay17 BR ir bc mv) (k0_pay40 k0_pay17 BR ir bc mv) (k0_pay46 k0_pay17 BR q k v ir bc mv ct)
    (k0_pay47 q nv) (k0_pay48 k0_pay17 BR q k ir bc mv)) mn og = hmV q k v bc ir (k0_pay35 BR) mv ct nv mn og := rfl
theorem hm_1 : k0_pay87 (k0_pay79 (k0_pay69 k0_pay17 ir bc br mv) (k0_pay76 k0_pay17 q k v ir bc br mv ct) (k0_pay77 k0_pay17 q k ir bc br mv nv) k0_pay78) mn og
    = hmV q k v bc ir br mv ct nv mn og := rfl
theorem hm_2 : k0_pay109 (k0_pay101 k0_pay17 q k v (k0_pay94 IR BC) (k0_pay96 mv) (k0_pay97 IR VR GT BC BR) ct nv) mn og
    = hmV q k v (k0_pay94 IR BC) (k0_pay93 VR GT) (k0_pay95 BR) mv ct nv mn og := rfl
theorem hm_3 : k0_pay133 (k0_pay123 q k v (k0_pay118 IR VR k0_pay17 GT BC BR) (k0_pay119 IR BC mv) ct nv) mn og
    = hmV q k v (k0_pay115 IR BC) (k0_pay114 VR GT) (k0_pay116 BR) mv ct nv mn og := rfl

theorem c_0 : k0_pay54 k v ic ir bc br (k0_pay36 mv) (k0_pay44 ct) = cV k v ic bc ir br mv ct := rfl
theorem c_1 : k0_pay84 k v ic ir bc br (k0_pay66 mv) (k0_pay74 ct) = cV k v ic bc ir br mv ct := rfl
theorem c_2 : k0_pay106 k v ic ir bc br (k0_pay96 mv) (k0_pay99 ct) = cV k v ic bc ir br mv ct := rfl
theorem c_3 : k0_pay130 k v ir br (k0_pay117 mv) (k0_pay121 ct) (k0_pay124 bc) (k0_pay125 ic bc) (k0_pay126 bc) = cV k v ic bc ir br mv ct := rfl

theorem n_0 : k0_pay56 (k0_pay55 ir bc br (k0_pay36 mv) (k0_pay42 k) (k0_pay45 nv)) = nV k bc ir br mv nv := rfl
theorem n_1 : k0_pay85 ir bc br (k0_pay66 mv) (k0_pay72 k) (k0_pay75 nv) = nV k bc ir br mv nv := rfl
theorem n_2 : k0_pay107 ir bc br (k0_pay96 mv) (k0_pay98 k) (k0_pay100 nv) = nV k bc ir br mv nv := rfl
theorem n_3 : k0_pay131 ir br (k0_pay117 mv) (k0_pay120 k) (k0_pay122 nv) (k0_pay124 bc) (k0_pay126 bc) = nV k bc ir br mv nv := rfl

theorem m_0 : k0_pay57 (k0_pay52 ir bc br (k0_pay36 mv)) = mV bc ir br mv := rfl
theorem m_1 : k0_pay86 (k0_pay82 ir bc br (k0_pay66 mv)) = mV bc ir br mv := rfl
theorem m_2 : k0_pay108 ir bc br (k0_pay96 mv) = mV bc ir br mv := rfl
theorem m_3 : k0_pay132 ir br (k0_pay117 mv) (k0_pay124 bc) (k0_pay126 bc) = mV bc ir br mv := rfl

end heads

theorem le_word (a b : Fin 128) : IntOp.cmpi .sle (BitVec.ofNat 32 a.val) (BitVec.ofNat 32 b.val) = if a.val ≤ b.val then 1#1 else 0#1 := by
  revert a b; decide +kernel

theorem neg_inf : Ideal.ofBits .f32 0xFF800000#32 = (⊥ : EReal) := by simp [Ideal.ofBits, Ideal.ieee]

variable {Q K : Fin 128 → Fin 128 → EReal} {V : Fin 128 → Fin 256 → EReal} {I B : Fin 128 → EReal} {M : EReal}
  {C : Fin 256 → Fin 128 → EReal} {N : Fin 128 → EReal}
  (hq : ∀ t d, (q (ix2 t d) : EReal) = Q t d) (hk : ∀ t d, (k (ix2 t d) : EReal) = K t d) (hv : ∀ t e, (v (ix2 t e) : EReal) = V t e)
  (hic : ∀ s, (ic (ix2 s 0) : EReal) = I s) (hir : ∀ s, (ir (ix2 0 s) : EReal) = I s)
  (hbc : ∀ s, (bc (ix2 s 0) : EReal) = B s) (hbr : ∀ s, (br (ix2 0 s) : EReal) = B s)
  (hm : (mv (ix3 0 0 0) : EReal) = M) (hc : ∀ d e, (ct (ix3 0 d e) : EReal) = C e d) (hn : ∀ d, (nv (ix3 0 0 d) : EReal) = N d)

include hbc hbr hir in
theorem pay67_at (t s : Fin 128) : (k0_pay67 (F := Ideal) k0_pay17 ir bc br (ix2 t s) : EReal) = logD I B t s := by
  pointwise [k0_pay67, k0_pay17]
  rw [le_word, neg_inf, hbc, hbr, hir]
  unfold logD
  by_cases h : s.val ≤ t.val <;> simp [h, Scalar.select]

include hbc hm in
theorem pay68_at (t : Fin 128) : (k0_pay68 (F := Ideal) bc mv (ix2 t 0) : EReal) = B t + M := by
  pointwise [k0_pay68, k0_pay66]
  rw [hbc, hm]

include hbc hbr hir hm in
theorem pay69_at (t : Fin 128) : (k0_pay69 (F := Ideal) k0_pay17 ir bc br mv (ix2 t 0) : EReal) = stab I B M t := by
  pointwise [k0_pay69, k0_pay68, k0_pay66]
  rw [neg_inf, hbc, hm]
  simp only [pay67_at bc ir br hir hbc hbr]
  rfl

include hbc hbr hir hm hq hk in
theorem pay73_at (t s : Fin 128) : (k0_pay73 (F := Ideal) k0_pay17 q k ir bc br mv (ix2 t s) : EReal) = sc Q K I B M t s := by
  pointwise [k0_pay73, k0_pay71, k0_pay72]
  rw [pay67_at bc ir br hir hbc hbr, pay69_at bc ir br mv hir hbc hbr hm]
  simp only [hq, hk]
  rfl

include hbc hbr hir hm hq hk hv hc in
theorem pay76_at (t : Fin 128) (e : Fin 256) : (k0_pay76 (F := Ideal) k0_pay17 q k v ir bc br mv ct (ix2 t e) : EReal) = num Q K V I B M C t e := by
  pointwise [k0_pay76, k0_pay70, k0_pay74, k0_pay71]
  rw [pay68_at bc mv hbc hm, pay69_at bc ir br mv hir hbc hbr hm]
  simp only [hq, hv, hc, pay73_at q k bc ir br mv hq hk hir hbc hbr hm]
  rfl

include hbc hbr hir hm hq hk hn in
theorem pay77_at (t : Fin 128) : (k0_pay77 (F := Ideal) k0_pay17 q k ir bc br mv nv (ix2 t 0) : EReal)
    = max ((∑ s, sc Q K I B M t s) + wIn I B M t * ∑ d, Q t d * N d) (-((∑ s, sc Q K I B M t s) + wIn I B M t * ∑ d, Q t d * N d)) := by
  pointwise [k0_pay77, k0_pay70, k0_pay75, k0_pay71]
  rw [pay68_at bc mv hbc hm, pay69_at bc ir br mv hir hbc hbr hm]
  simp only [hq, hn, pay73_at q k bc ir br mv hq hk hir hbc hbr hm]
  rfl

include hbc hbr hir hm hq hk hv hc hn in
/-- The read out rows. -/
theorem pay79_at (t : Fin 128) (e : Fin 256) :
    (k0_pay79 (k0_pay69 k0_pay17 ir bc br mv) (k0_pay76 k0_pay17 q k v ir bc br mv ct) (k0_pay77 k0_pay17 q k ir bc br mv nv) k0_pay78 (ix2 t e) : EReal)
      = hid Q K V I B M C N t e := by
  pointwise [k0_pay79, k0_pay78]
  rw [pay69_at bc ir br mv hir hbc hbr hm, pay76_at q k v bc ir br mv ct hq hk hv hir hbc hbr hm hc,
    pay77_at q k bc ir br mv nv hq hk hir hbc hbr hm hn, zero_sub]
  rfl

theorem pay87_at (w : FVec Ideal S128x256 .f32) (t : Fin 8) (e : Fin 256) : (k0_pay87 (F := Ideal) w mn og (ix3 0 t e) : EReal)
    = rms (fun e => (w (ix2 (⟨t.val, by omega⟩ : Fin 128) e) : EReal)) (mn (ix3 0 0 e)) e * Ideal.div 1 (1 + Ideal.exp (-(og (ix3 0 t e) : EReal))) := by
  pointwise [k0_pay87]
  rw [zero_sub]
  rfl

include hbc hbr hir hm hq hk hv hc hn in
theorem hmV_at (t : Fin 8) (e : Fin 256) : (hmV q k v bc ir br mv ct nv mn og (ix3 0 t e) : EReal)
    = rms (hid Q K V I B M C N ⟨t.val, by omega⟩) (mn (ix3 0 0 e)) e * Ideal.div 1 (1 + Ideal.exp (-(og (ix3 0 t e) : EReal))) := by
  unfold hmV
  rw [pay87_at]
  simp only [pay79_at q k v bc ir br mv ct nv hq hk hv hir hbc hbr hm hc hn]

include hbc hbr hir hm in
theorem pay82_at : (k0_pay82 (F := Ideal) ir bc br (k0_pay66 mv) (ix2 0 0) : EReal) = mNew I B (B 127) M := by
  pointwise [k0_pay82, k0_pay80, k0_pay81, k0_pay66]
  rw [neg_inf, hm]
  simp only [hbc, hbr, hir]
  rfl

include hbc hbr hir hm in
theorem mV_at : (mV bc ir br mv (ix3 0 0 0) : EReal) = mNew I B (B 127) M := by
  pointwise [mV, k0_pay86]
  exact pay82_at bc ir br mv hir hbc hbr hm

include hm in
theorem pay66_at : (k0_pay66 (F := Ideal) mv (ix2 0 0) : EReal) = M := by
  pointwise [k0_pay66]
  exact hm

include hbc hbr hir hic hm hk hv hc in
theorem cV_at (d : Fin 128) (e : Fin 256) : (cV k v ic bc ir br mv ct (ix3 0 d e) : EReal) = cNew K V I B (B 127) M C e d := by
  pointwise [cV, k0_pay84, k0_pay80, k0_pay74, k0_pay83]
  rw [pay82_at bc ir br mv hir hbc hbr hm, pay66_at mv hm]
  simp only [hbc, hic, hk, hv, hc]
  rfl

include hbc hbr hir hm hk hn in
theorem nV_at (d : Fin 128) : (nV k bc ir br mv nv (ix3 0 0 d) : EReal) = nNew K I B (B 127) M N d := by
  pointwise [nV, k0_pay85, k0_pay80, k0_pay75, k0_pay83, k0_pay81, k0_pay72]
  rw [pay82_at bc ir br mv hir hbc hbr hm, pay66_at mv hm]
  simp only [hbc, hbr, hir, hk, hn]
  rfl

end Cert.MlstmIdeal.Cell
end
-- ==== Proof.MlstmGate.lean ====
/-
  The gates of the matrix memory kernel, entry by entry: input gates, the forget gates' logarithms and their running
  sums, as columns and as rows, and the head's padded queries, keys and values.
-/
module

public import proofs.«01_k».proof.Proof.MlstmHead
public import proofs.«01_k».proof.Proof.Gen.MlstmIdeal.Value
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.MlstmIdeal.Cell

open Cert.MlstmIdeal Cert.MlstmIdeal.Gen Cert.Mlstm

theorem lt_word (s : Fin 128) : IntOp.cmpi .slt (BitVec.ofNat 32 s.val) 4#32 = if s.val < 4 then 1#1 else 0#1 := by
  revert s; decide +kernel

theorem eq_word (a b : Fin 128) : IntOp.cmpi .eq (BitVec.ofNat 32 a.val) (BitVec.ofNat 32 b.val) = if a = b then 1#1 else 0#1 := by
  revert a b; decide +kernel

theorem le_num (a b : Fin 128) :
    (FloatOps.sitofp (F := Ideal) .f32 (BitVec.setWidth 32 (IntOp.cmpi .sle (BitVec.ofNat 32 a.val) (BitVec.ofNat 32 b.val))) : EReal)
      = if a.val ≤ b.val then 1 else 0 := by
  rw [le_word]
  by_cases h : a.val ≤ b.val
  · simp only [h, if_true]; show (((BitVec.setWidth 32 1#1).toInt : ℝ) : EReal) = 1; norm_num
  · simp only [h, if_false]; show (((BitVec.setWidth 32 0#1).toInt : ℝ) : EReal) = 0; norm_num

/-- A sum over the lanes that keeps one. -/
theorem pick (c : Fin 128) (f : Fin 128 → EReal) :
    ∑ x : Fin 128, Scalar.select (IntOp.cmpi .eq (BitVec.ofNat 32 x.val) (BitVec.ofNat 32 c.val)) (f x) 0 = f c := by
  rw [Finset.sum_eq_single c (fun x _ hx => by rw [eq_word, if_neg hx]; rfl) (fun h => absurd (Finset.mem_univ c) h), eq_word, if_pos rfl]
  rfl

theorem sel_lt (s : Fin 128) (a b : EReal) : Scalar.select (IntOp.cmpi .slt (BitVec.ofNat 32 s.val) 4#32) a b = if s.val < 4 then a else b := by
  rw [lt_word]
  by_cases h : s.val < 4 <;> simp [h, Scalar.select]

variable (x4 : Vec Ideal S1x8x128 .f32) (x5 : Vec Ideal S1x1x128 .f32) (x6 : Vec Ideal S1x128x1 .f32)
  (h6 : ∀ l : Fin 128, (x6 (ix3 0 l 0) : EReal) = x5 (ix3 0 0 l))

/-- Gate of lane `l` at token `s`. -/
def gate (l : Fin 128) (s : Fin 4) : EReal := (x4 (ix3 0 (⟨s.val, by omega⟩ : Fin 8) l) : EReal) + x5 (ix3 0 0 l)

/-- The gate's logarithm of the logistic function. -/
def lgate (l : Fin 128) (s : Fin 4) : EReal := lsig (gate x4 x5 l s)

theorem pay18_at (s l : Fin 128) (h : s.val < 4) : (k0_pay18 (F := Ideal) x4 x5 (ix2 s l) : EReal) = gate x4 x5 l ⟨s.val, h⟩ := by
  pointwise [k0_pay18, k0_pay14]
  rw [dif_pos (show s.val < 8 by omega)]
  rfl

include h6 in
theorem pay19_at (s l : Fin 128) (h : s.val < 4) : (k0_pay19 (F := Ideal) x4 x6 (ix2 l s) : EReal) = gate x4 x5 l ⟨s.val, h⟩ := by
  pointwise [k0_pay19, k0_pay14]
  rw [dif_pos (show s.val < 8 by omega), h6]
  rfl

theorem lsig_eq (x : EReal) : 0 - (max (0 - x) 0 + Ideal.log1p (Ideal.exp (0 - FloatOps.absf (F := Ideal) (φ := .f32) (0 - x)))) = lsig x := by
  unfold lsig
  simp only [zero_sub]
  rfl

theorem pay21_at (s l : Fin 128) :
    (k0_pay21 (F := Ideal) k0_pay15 (k0_pay20 x4 x5) (FloatOps.ofBits FTy.f32 0#32) (ix2 s l) : EReal) = padz 0 (lgate x4 x5 l) s := by
  pointwise [k0_pay21, k0_pay15, k0_pay20]
  rw [lsig_eq, sel_lt]
  unfold padz
  by_cases h : s.val < 4
  · rw [if_pos h, dif_pos h, pay18_at x4 x5 s l h]; rfl
  · rw [if_neg h, dif_neg h]

theorem pay21_at' (s l : Fin 128) : (k0_pay21 (F := Ideal) k0_pay15 (k0_pay20 x4 x5) (0 : EReal) (ix2 s l) : EReal) = padz 0 (lgate x4 x5 l) s := by
  have e : (FloatOps.ofBits (F := Ideal) FTy.f32 0#32 : EReal) = 0 := Ideal.ofBits_zero .f32
  exact e ▸ pay21_at x4 x5 s l

theorem pay22_at (t l : Fin 128) :
    (k0_pay22 (F := Ideal) k0_pay15 k0_pay17 (k0_pay20 x4 x5) (FloatOps.ofBits FTy.f32 0#32) (ix2 t l) : EReal) = bsum (padz 0 (lgate x4 x5 l)) t := by
  pointwise [k0_pay22, k0_pay17]
  unfold bsum
  refine Finset.sum_congr rfl fun x _ => ?_
  rw [le_num, pay21_at']
  by_cases h : x.val ≤ t.val <;> simp [h]

include h6 in
theorem pay23_at (t l : Fin 128) :
    (k0_pay23 (F := Ideal) (iota Kind.tc S128x1 32 [0] iota_S128x1_d0_w32) (iota Kind.tc S1x128 32 [1] iota_S1x128_d1_w32) k0_pay16 (k0_pay19 x4 x6) (ix2 l t) : EReal)
      = bsum (padz 0 (lgate x4 x5 l)) t := by
  pointwise [k0_pay23, k0_pay16]
  unfold bsum
  refine Finset.sum_congr rfl fun x _ => ?_
  rw [le_num, sel_lt, lsig_eq]
  unfold padz
  by_cases h : x.val < 4
  · rw [if_pos h, dif_pos h, pay19_at x4 x5 x6 h6 x l h]
    by_cases h' : x.val ≤ t.val <;> simp [h', lgate]
  · rw [if_neg h, dif_neg h, ite_self]

theorem pay24_at (s l : Fin 8) :
    (k0_pay24 (F := Ideal) k0_pay15 (k0_pay20 x4 x5) (FloatOps.ofBits FTy.f32 0#32) (ix3 0 s l) : EReal)
      = padz 0 (lgate x4 x5 ⟨l.val, by omega⟩) ⟨s.val, by omega⟩ := by
  refine Eq.trans ?_ (pay21_at x4 x5 ⟨s.val, by omega⟩ ⟨l.val, by omega⟩)
  pointwise [k0_pay24]

include h6 in
theorem pay26_at (l : Fin 8) (t : Fin 128) :
    (k0_pay26 (F := Ideal) (iota Kind.tc S128x1 32 [0] iota_S128x1_d0_w32) (iota Kind.tc S1x128 32 [1] iota_S1x128_d1_w32) k0_pay16 (k0_pay19 x4 x6)
      (k0_pay13 (F := Ideal)) (ix3 0 l t) : EReal) = bsum (padz 0 (lgate x4 x5 ⟨l.val, by omega⟩)) t := by
  pointwise [k0_pay26, k0_pay25, k0_pay13]
  exact pay23_at x4 x5 x6 h6 t ⟨l.val, by omega⟩

theorem ic_0 (s : Fin 128) : (k0_pay32 (F := Ideal) (iota Kind.tc S1x128 32 [1] iota_S1x128_d1_w32) k0_pay15 (k0_pay18 x4 x5) (ix2 s 0) : EReal) = padz ⊥ (gate x4 x5 8) s := by
  pointwise [k0_pay32, k0_pay15]
  rw [sel_lt, neg_inf]
  unfold padz
  by_cases h : s.val < 4
  · rw [if_pos h, dif_pos h]; exact (pick 8 _).trans (pay18_at x4 x5 s 8 h)
  · rw [if_neg h, dif_neg h]

include h6 in
theorem ir_0 (s : Fin 128) : (k0_pay33 (F := Ideal) k0_pay16 (k0_pay19 x4 x6) (ix2 0 s) : EReal) = padz ⊥ (gate x4 x5 8) s := by
  pointwise [k0_pay33, k0_pay16]
  rw [sel_lt, neg_inf]
  unfold padz
  by_cases h : s.val < 4
  · rw [if_pos h, dif_pos h]; exact pay19_at x4 x5 x6 h6 s 8 h
  · rw [if_neg h, dif_neg h]

theorem bc_0 (s : Fin 128) : (k0_pay34 (F := Ideal) (iota Kind.tc S1x128 32 [1] iota_S1x128_d1_w32) (k0_pay22 k0_pay15 k0_pay17 (k0_pay20 x4 x5) (FloatOps.ofBits FTy.f32 0#32)) (ix2 s 0) : EReal) = bsum (padz 0 (lgate x4 x5 12)) s := by
  refine Eq.trans ?_ (pay22_at x4 x5 s 12)
  generalize (k0_pay22 k0_pay15 k0_pay17 (k0_pay20 x4 x5) (FloatOps.ofBits FTy.f32 0#32)) = w
  pointwise [k0_pay34]
  exact pick 12 _

include h6 in
theorem br_0 (s : Fin 128) : (k0_pay35 (F := Ideal) (k0_pay23 (iota Kind.tc S128x1 32 [0] iota_S128x1_d0_w32) (iota Kind.tc S1x128 32 [1] iota_S1x128_d1_w32) k0_pay16 (k0_pay19 x4 x6)) (ix2 0 s) : EReal) = bsum (padz 0 (lgate x4 x5 12)) s := by
  refine Eq.trans ?_ (pay23_at x4 x5 x6 h6 s 12)
  generalize (k0_pay23 (iota Kind.tc S128x1 32 [0] iota_S128x1_d0_w32) (iota Kind.tc S1x128 32 [1] iota_S1x128_d1_w32) k0_pay16 (k0_pay19 x4 x6)) = w
  pointwise [k0_pay35]

theorem ic_1 (s : Fin 128) : (k0_pay62 (F := Ideal) (iota Kind.tc S1x128 32 [1] iota_S1x128_d1_w32) k0_pay15 (k0_pay18 x4 x5) (ix2 s 0) : EReal) = padz ⊥ (gate x4 x5 9) s := by
  pointwise [k0_pay62, k0_pay15]
  rw [sel_lt, neg_inf]
  unfold padz
  by_cases h : s.val < 4
  · rw [if_pos h, dif_pos h]; exact (pick 9 _).trans (pay18_at x4 x5 s 9 h)
  · rw [if_neg h, dif_neg h]

include h6 in
theorem ir_1 (s : Fin 128) : (k0_pay63 (F := Ideal) k0_pay16 (k0_pay19 x4 x6) (ix2 0 s) : EReal) = padz ⊥ (gate x4 x5 9) s := by
  pointwise [k0_pay63, k0_pay16]
  rw [sel_lt, neg_inf]
  unfold padz
  by_cases h : s.val < 4
  · rw [if_pos h, dif_pos h]; exact pay19_at x4 x5 x6 h6 s 9 h
  · rw [if_neg h, dif_neg h]

theorem bc_1 (s : Fin 128) : (k0_pay64 (F := Ideal) (iota Kind.tc S1x128 32 [1] iota_S1x128_d1_w32) (k0_pay22 k0_pay15 k0_pay17 (k0_pay20 x4 x5) (FloatOps.ofBits FTy.f32 0#32)) (ix2 s 0) : EReal) = bsum (padz 0 (lgate x4 x5 13)) s := by
  refine Eq.trans ?_ (pay22_at x4 x5 s 13)
  generalize (k0_pay22 k0_pay15 k0_pay17 (k0_pay20 x4 x5) (FloatOps.ofBits FTy.f32 0#32)) = w
  pointwise [k0_pay64]
  exact pick 13 _

include h6 in
theorem br_1 (s : Fin 128) : (k0_pay65 (F := Ideal) (k0_pay23 (iota Kind.tc S128x1 32 [0] iota_S128x1_d0_w32) (iota Kind.tc S1x128 32 [1] iota_S1x128_d1_w32) k0_pay16 (k0_pay19 x4 x6)) (ix2 0 s) : EReal) = bsum (padz 0 (lgate x4 x5 13)) s := by
  refine Eq.trans ?_ (pay23_at x4 x5 x6 h6 s 13)
  generalize (k0_pay23 (iota Kind.tc S128x1 32 [0] iota_S128x1_d0_w32) (iota Kind.tc S1x128 32 [1] iota_S1x128_d1_w32) k0_pay16 (k0_pay19 x4 x6)) = w
  pointwise [k0_pay65]

theorem ic_2 (s : Fin 128) : (k0_pay92 (F := Ideal) (iota Kind.tc S1x128 32 [1] iota_S1x128_d1_w32) k0_pay15 (k0_pay18 x4 x5) (ix2 s 0) : EReal) = padz ⊥ (gate x4 x5 10) s := by
  pointwise [k0_pay92, k0_pay15]
  rw [sel_lt, neg_inf]
  unfold padz
  by_cases h : s.val < 4
  · rw [if_pos h, dif_pos h]; exact (pick 10 _).trans (pay18_at x4 x5 s 10 h)
  · rw [if_neg h, dif_neg h]

include h6 in
theorem ir_2 (s : Fin 128) : (k0_pay93 (F := Ideal) k0_pay16 (k0_pay19 x4 x6) (ix2 0 s) : EReal) = padz ⊥ (gate x4 x5 10) s := by
  pointwise [k0_pay93, k0_pay16]
  rw [sel_lt, neg_inf]
  unfold padz
  by_cases h : s.val < 4
  · rw [if_pos h, dif_pos h]; exact pay19_at x4 x5 x6 h6 s 10 h
  · rw [if_neg h, dif_neg h]

theorem bc_2 (s : Fin 128) : (k0_pay94 (F := Ideal) (iota Kind.tc S1x128 32 [1] iota_S1x128_d1_w32) (k0_pay22 k0_pay15 k0_pay17 (k0_pay20 x4 x5) (FloatOps.ofBits FTy.f32 0#32)) (ix2 s 0) : EReal) = bsum (padz 0 (lgate x4 x5 14)) s := by
  refine Eq.trans ?_ (pay22_at x4 x5 s 14)
  generalize (k0_pay22 k0_pay15 k0_pay17 (k0_pay20 x4 x5) (FloatOps.ofBits FTy.f32 0#32)) = w
  pointwise [k0_pay94]
  exact pick 14 _

include h6 in
theorem br_2 (s : Fin 128) : (k0_pay95 (F := Ideal) (k0_pay23 (iota Kind.tc S128x1 32 [0] iota_S128x1_d0_w32) (iota Kind.tc S1x128 32 [1] iota_S1x128_d1_w32) k0_pay16 (k0_pay19 x4 x6)) (ix2 0 s) : EReal) = bsum (padz 0 (lgate x4 x5 14)) s := by
  refine Eq.trans ?_ (pay23_at x4 x5 x6 h6 s 14)
  generalize (k0_pay23 (iota Kind.tc S128x1 32 [0] iota_S128x1_d0_w32) (iota Kind.tc S1x128 32 [1] iota_S1x128_d1_w32) k0_pay16 (k0_pay19 x4 x6)) = w
  pointwise [k0_pay95]

theorem ic_3 (s : Fin 128) : (k0_pay113 (F := Ideal) (iota Kind.tc S1x128 32 [1] iota_S1x128_d1_w32) k0_pay15 (k0_pay18 x4 x5) (ix2 s 0) : EReal) = padz ⊥ (gate x4 x5 11) s := by
  pointwise [k0_pay113, k0_pay15]
  rw [sel_lt, neg_inf]
  unfold padz
  by_cases h : s.val < 4
  · rw [if_pos h, dif_pos h]; exact (pick 11 _).trans (pay18_at x4 x5 s 11 h)
  · rw [if_neg h, dif_neg h]

include h6 in
theorem ir_3 (s : Fin 128) : (k0_pay114 (F := Ideal) k0_pay16 (k0_pay19 x4 x6) (ix2 0 s) : EReal) = padz ⊥ (gate x4 x5 11) s := by
  pointwise [k0_pay114, k0_pay16]
  rw [sel_lt, neg_inf]
  unfold padz
  by_cases h : s.val < 4
  · rw [if_pos h, dif_pos h]; exact pay19_at x4 x5 x6 h6 s 11 h
  · rw [if_neg h, dif_neg h]

theorem bc_3 (s : Fin 128) : (k0_pay115 (F := Ideal) (iota Kind.tc S1x128 32 [1] iota_S1x128_d1_w32) (k0_pay22 k0_pay15 k0_pay17 (k0_pay20 x4 x5) (FloatOps.ofBits FTy.f32 0#32)) (ix2 s 0) : EReal) = bsum (padz 0 (lgate x4 x5 15)) s := by
  refine Eq.trans ?_ (pay22_at x4 x5 s 15)
  generalize (k0_pay22 k0_pay15 k0_pay17 (k0_pay20 x4 x5) (FloatOps.ofBits FTy.f32 0#32)) = w
  pointwise [k0_pay115]
  exact pick 15 _

include h6 in
theorem br_3 (s : Fin 128) : (k0_pay116 (F := Ideal) (k0_pay23 (iota Kind.tc S128x1 32 [0] iota_S128x1_d0_w32) (iota Kind.tc S1x128 32 [1] iota_S1x128_d1_w32) k0_pay16 (k0_pay19 x4 x6)) (ix2 0 s) : EReal) = bsum (padz 0 (lgate x4 x5 15)) s := by
  refine Eq.trans ?_ (pay23_at x4 x5 x6 h6 s 15)
  generalize (k0_pay23 (iota Kind.tc S128x1 32 [0] iota_S128x1_d0_w32) (iota Kind.tc S1x128 32 [1] iota_S1x128_d1_w32) k0_pay16 (k0_pay19 x4 x6)) = w
  pointwise [k0_pay116]

variable (f : Vec Ideal S1x8x128 .f32) (g : Vec Ideal S1x8x256 .f32)

theorem rows_128 (F : Fin 4 → Fin 128 → EReal) (h0 : ∀ t : Fin 4, ∀ d, (f (ix3 0 (⟨t.val, by omega⟩ : Fin 8) d) : EReal) = F t d)
    (h1 : ∀ t : Fin 8, 4 ≤ t.val → ∀ d, (f (ix3 0 t d) : EReal) = 0) (s d : Fin 128) :
    (if h : s.val < 8 then (f (ix3 0 (⟨s.val, h⟩ : Fin 8) d) : EReal) else 0) = padr F s d := by
  unfold padr
  by_cases h : s.val < 4
  · rw [dif_pos h, dif_pos (show s.val < 8 by omega)]; exact h0 ⟨s.val, h⟩ d
  · rw [dif_neg h]
    by_cases h8 : s.val < 8
    · rw [dif_pos h8]; exact h1 ⟨s.val, h8⟩ (by show 4 ≤ s.val; omega) d
    · rw [dif_neg h8]

theorem rows_256 (F : Fin 4 → Fin 256 → EReal) (h0 : ∀ t : Fin 4, ∀ d, (g (ix3 0 (⟨t.val, by omega⟩ : Fin 8) d) : EReal) = F t d)
    (h1 : ∀ t : Fin 8, 4 ≤ t.val → ∀ d, (g (ix3 0 t d) : EReal) = 0) (s : Fin 128) (d : Fin 256) :
    (if h : s.val < 8 then (g (ix3 0 (⟨s.val, h⟩ : Fin 8) d) : EReal) else 0) = padr F s d := by
  unfold padr
  by_cases h : s.val < 4
  · rw [dif_pos h, dif_pos (show s.val < 8 by omega)]; exact h0 ⟨s.val, h⟩ d
  · rw [dif_neg h]
    by_cases h8 : s.val < 8
    · rw [dif_pos h8]; exact h1 ⟨s.val, h8⟩ (by show 4 ≤ s.val; omega) d
    · rw [dif_neg h8]

theorem q_0 (s d : Fin 128) : (k0_pay29 (F := Ideal) f (ix2 s d) : EReal) = if h : s.val < 8 then (f (ix3 0 (⟨s.val, h⟩ : Fin 8) d) : EReal) else 0 := by
  pointwise [k0_pay29]

theorem k_0 (s d : Fin 128) : (k0_pay30 (F := Ideal) f (ix2 s d) : EReal)
    = (if h : s.val < 8 then (f (ix3 0 (⟨s.val, h⟩ : Fin 8) d) : EReal) else 0) * Ideal.ofBits .f32 0x3DB504F3#32 := by
  pointwise [k0_pay30]

theorem v_0 (s : Fin 128) (d : Fin 256) : (k0_pay31 (F := Ideal) g (ix2 s d) : EReal) = if h : s.val < 8 then (g (ix3 0 (⟨s.val, h⟩ : Fin 8) d) : EReal) else 0 := by
  pointwise [k0_pay31]

theorem q_1 (s d : Fin 128) : (k0_pay59 (F := Ideal) f (ix2 s d) : EReal) = if h : s.val < 8 then (f (ix3 0 (⟨s.val, h⟩ : Fin 8) d) : EReal) else 0 := by
  pointwise [k0_pay59]

theorem k_1 (s d : Fin 128) : (k0_pay60 (F := Ideal) f (ix2 s d) : EReal)
    = (if h : s.val < 8 then (f (ix3 0 (⟨s.val, h⟩ : Fin 8) d) : EReal) else 0) * Ideal.ofBits .f32 0x3DB504F3#32 := by
  pointwise [k0_pay60]

theorem v_1 (s : Fin 128) (d : Fin 256) : (k0_pay61 (F := Ideal) g (ix2 s d) : EReal) = if h : s.val < 8 then (g (ix3 0 (⟨s.val, h⟩ : Fin 8) d) : EReal) else 0 := by
  pointwise [k0_pay61]

theorem q_2 (s d : Fin 128) : (k0_pay89 (F := Ideal) (k0_pay88 f) (FloatOps.ofBits FTy.f32 0#32) (ix2 s d) : EReal) = if h : s.val < 8 then (f (ix3 0 (⟨s.val, h⟩ : Fin 8) d) : EReal) else 0 := by
  pointwise [k0_pay89, k0_pay88]

theorem k_2 (s d : Fin 128) : (k0_pay90 (F := Ideal) f (ix2 s d) : EReal)
    = (if h : s.val < 8 then (f (ix3 0 (⟨s.val, h⟩ : Fin 8) d) : EReal) else 0) * Ideal.ofBits .f32 0x3DB504F3#32 := by
  pointwise [k0_pay90]

theorem v_2 (s : Fin 128) (d : Fin 256) : (k0_pay91 (F := Ideal) g (ix2 s d) : EReal) = if h : s.val < 8 then (g (ix3 0 (⟨s.val, h⟩ : Fin 8) d) : EReal) else 0 := by
  pointwise [k0_pay91]

theorem q_3 (s d : Fin 128) : (k0_pay110 (F := Ideal) f (ix2 s d) : EReal) = if h : s.val < 8 then (f (ix3 0 (⟨s.val, h⟩ : Fin 8) d) : EReal) else 0 := by
  pointwise [k0_pay110]

theorem k_3 (s d : Fin 128) : (k0_pay111 (F := Ideal) f (ix2 s d) : EReal)
    = (if h : s.val < 8 then (f (ix3 0 (⟨s.val, h⟩ : Fin 8) d) : EReal) else 0) * Ideal.ofBits .f32 0x3DB504F3#32 := by
  pointwise [k0_pay111]

theorem v_3 (s : Fin 128) (d : Fin 256) : (k0_pay112 (F := Ideal) g (ix2 s d) : EReal) = if h : s.val < 8 then (g (ix3 0 (⟨s.val, h⟩ : Fin 8) d) : EReal) else 0 := by
  pointwise [k0_pay112]

end Cert.MlstmIdeal.Cell
end
-- ==== Proof.MlstmCell.lean ====
/-
  What the body of the matrix memory kernel leaves for one sequence: the scratch arrays read head by head, and the six
  blocks, entry by entry.
-/
module

public import proofs.«01_k».proof.Proof.MlstmGate

@[expose] public section

set_option maxRecDepth 16384

noncomputable section

open Idealize.ShloMosaic Idealize.ShloMosaic.TcCoe Idealize.SL.Sem

namespace Cert.MlstmIdeal.Cell

open Cert.MlstmIdeal Cert.MlstmIdeal.Gen Cert.Mlstm

/-! ## Stacks of four -/

section stack

variable {a b : ℕ} {κ : Kind} {sp : Space} (v : View sig κ sp (⟨3, ![4, a, b]⟩ : Shape) .f32)

/-- A store of another slab is skipped. -/
theorem rd_skip {j h : ℕ} (hjh : j ≠ h) (inb inb') (p) (L : List (View.Piece (Elt Ideal) (⟨3, ![4, a, b]⟩ : Shape) .f32)) :
    v.readCov (⟨Rect.unit ![j, 0, 0] ![1, a, b] inb, p⟩ :: L) (Rect.unit ![h, 0, 0] ![1, a, b] inb').toLoadRect
      = v.readCov L (Rect.unit ![h, 0, 0] ![1, a, b] inb').toLoadRect := by
  rw [View.readCov_eq_canon', View.readCov_eq_canon']
  funext i
  refine View.canon_cons_of_not_mem _ _ fun hm => ?_
  have hm' : (Rect.unit (s := (⟨3, ![4, a, b]⟩ : Shape)) ![h, 0, 0] ![1, a, b] inb').emb i ∈ (Rect.unit (s := (⟨3, ![4, a, b]⟩ : Shape)) ![j, 0, 0] ![1, a, b] inb).set := hm
  have h0 := Rect.mem_set_unit.1 hm' 0
  have hi : (i 0).val < 1 := (i 0).isLt
  have h1 : j ≤ h + 1 * (i 0).val := h0.1
  have h2 : h + 1 * (i 0).val < j + 1 := h0.2
  omega

/-- The last store of the slab is read. -/
theorem rd_hit {h : ℕ} (inb inb') (p) (L : List (View.Piece (Elt Ideal) (⟨3, ![4, a, b]⟩ : Shape) .f32)) :
    v.readCov (⟨Rect.unit ![h, 0, 0] ![1, a, b] inb, p⟩ :: L) (Rect.unit ![h, 0, 0] ![1, a, b] inb').toLoadRect = p := by
  rw [View.readCov_eq_canon']
  funext i
  exact View.canon_cons_emb (Rect.unit ![h, 0, 0] ![1, a, b] inb) p L i

/-- A slab after a store of the whole stack. -/
theorem rd_all {h : ℕ} (inb inb') (p) (L : List (View.Piece (Elt Ideal) (⟨3, ![4, a, b]⟩ : Shape) .f32)) :
    v.readCov (⟨Rect.unit ![0, 0, 0] ![4, a, b] inb, p⟩ :: L) (Rect.unit ![h, 0, 0] ![1, a, b] inb').toLoadRect
      = fun i => p ((Rect.unit (s := (⟨3, ![4, a, b]⟩ : Shape)) ![h, 0, 0] ![1, a, b] inb').emb i) := by
  rw [View.readCov_eq_canon']
  funext i
  refine Eq.trans ?_ (View.canon_cons_emb (Rect.unit ![0, 0, 0] ![4, a, b] inb) p L ((Rect.unit (s := (⟨3, ![4, a, b]⟩ : Shape)) ![h, 0, 0] ![1, a, b] inb').emb i))
  exact congrArg _ (Rect.emb_unit_full _ _).symm

/-- A slab of the whole stack read back. -/
theorem rd_full (h : Fin 4) (inb inb') (L : List (View.Piece (Elt Ideal) (⟨3, ![4, a, b]⟩ : Shape) .f32)) (x : Fin a) (y : Fin b) :
    v.readCov L (Rect.unit (s := (⟨3, ![4, a, b]⟩ : Shape)) ![0, 0, 0] ![4, a, b] inb).toLoadRect (ix3 h x y : (⟨3, ![4, a, b]⟩ : Shape).Idx)
      = v.readCov L (Rect.unit (s := (⟨3, ![4, a, b]⟩ : Shape)) ![h.val, 0, 0] ![1, a, b] inb').toLoadRect (ix3 0 x y : (⟨3, ![1, a, b]⟩ : Shape).Idx) := by
  rw [View.readCov_eq_canon', View.readCov_eq_canon']
  refine congrArg (View.canon L) (funext fun r => Fin.ext ?_)
  match r with
  | ⟨0, _⟩ => show 0 + 1 * h.val = h.val + 1 * 0; omega
  | ⟨1, _⟩ => rfl
  | ⟨2, _⟩ => rfl

end stack

/-! ## Pieces of the outputs -/

theorem skip_4 {j h : ℕ} (hjh : j ≠ h) (hh : h < 4) (inb) (p) (L : List (View.Piece (Elt Ideal) S1x4x256x128 .f32)) (e : Fin 256) (d : Fin 128) :
    View.canon (⟨Rect.unit (s := S1x4x256x128) ![0, j, 0, 0] ![1, 1, 256, 128] inb, p⟩ :: L) (ix4 0 (⟨h, hh⟩ : Fin 4) e d) = View.canon L (ix4 0 (⟨h, hh⟩ : Fin 4) e d) := by
  refine View.canon_cons_of_not_mem _ _ fun hm => ?_
  have hm' : (ix4 0 (⟨h, hh⟩ : Fin 4) e d : S1x4x256x128.Idx) ∈ (Rect.unit (s := S1x4x256x128) ![0, j, 0, 0] ![1, 1, 256, 128] inb).set := hm
  have h0 := Rect.mem_set_unit.1 hm' 1
  have h1 : j ≤ h := h0.1
  have h2 : h < j + 1 := h0.2
  omega

theorem hit_4 {h : ℕ} (hh : h < 4) (inb) (p) (L : List (View.Piece (Elt Ideal) S1x4x256x128 .f32)) (e : Fin 256) (d : Fin 128) :
    View.canon (⟨Rect.unit (s := S1x4x256x128) ![0, h, 0, 0] ![1, 1, 256, 128] inb, p⟩ :: L) (ix4 0 (⟨h, hh⟩ : Fin 4) e d) = p (ix4 0 0 e d : S1x1x256x128.Idx) := by
  refine Eq.trans ?_ (View.canon_cons_emb (Rect.unit (s := S1x4x256x128) ![0, h, 0, 0] ![1, 1, 256, 128] inb) p L (ix4 0 0 e d : S1x1x256x128.Idx))
  refine congrArg _ (funext fun a => Fin.ext ?_)
  match a with
  | ⟨0, _⟩ => rfl
  | ⟨1, _⟩ => show h = h + 1 * 0; omega
  | ⟨2, _⟩ => show e.val = 0 + 1 * e.val; omega
  | ⟨3, _⟩ => show d.val = 0 + 1 * d.val; omega

theorem skip_3 {o o' : ℕ} (ho : o' + 256 ≤ o ∨ o + 256 ≤ o') (ho' : o' + 256 ≤ 1024) (inb) (p) (L : List (View.Piece (Elt Ideal) S1x8x1024 .bf16)) (t : Fin 8) (e : Fin 256) :
    View.canon (⟨Rect.unit (s := S1x8x1024) ![0, 0, o] ![1, 8, 256] inb, p⟩ :: L) (ix3 0 t (⟨o' + e.val, by omega⟩ : Fin 1024))
      = View.canon L (ix3 0 t (⟨o' + e.val, by omega⟩ : Fin 1024)) := by
  refine View.canon_cons_of_not_mem _ _ fun hm => ?_
  have hm' : (ix3 0 t (⟨o' + e.val, by omega⟩ : Fin 1024) : S1x8x1024.Idx) ∈ (Rect.unit (s := S1x8x1024) ![0, 0, o] ![1, 8, 256] inb).set := hm
  have h0 := Rect.mem_set_unit.1 hm' 2
  have h1 : o ≤ o' + e.val := h0.1
  have h2 : o' + e.val < o + 256 := h0.2
  omega

theorem hit_3 {o : ℕ} (ho : o + 256 ≤ 1024) (inb) (p) (L : List (View.Piece (Elt Ideal) S1x8x1024 .bf16)) (t : Fin 8) (e : Fin 256) :
    View.canon (⟨Rect.unit (s := S1x8x1024) ![0, 0, o] ![1, 8, 256] inb, p⟩ :: L) (ix3 0 t (⟨o + e.val, by omega⟩ : Fin 1024)) = p (ix3 0 t e : S1x8x256.Idx) := by
  refine Eq.trans ?_ (View.canon_cons_emb (Rect.unit (s := S1x8x1024) ![0, 0, o] ![1, 8, 256] inb) p L (ix3 0 t e : S1x8x256.Idx))
  refine congrArg _ (funext fun a => Fin.ext ?_)
  match a with
  | ⟨0, _⟩ => rfl
  | ⟨1, _⟩ => show t.val = 0 + 1 * t.val; omega
  | ⟨2, _⟩ => show o + e.val = o + 1 * e.val; omega

/-! ## What padding comes to -/

theorem fin_m (i f : Fin 4 → EReal) (m : EReal) :
    mNew (padz ⊥ i) (bsum (padz 0 f)) (bsum (padz 0 f) 127) m = mNew i (bsum f) (bsum f 3) m := by
  rw [bsum_last f 127 (by decide)]
  exact mNew_up i (bsum f) (bsum (padz 0 f)) m _ fun t => bsum_up f t

theorem fin_c (k : Fin 4 → Fin 128 → EReal) (v : Fin 4 → Fin 256 → EReal) (i f : Fin 4 → EReal) (m : EReal) (C : Fin 256 → Fin 128 → EReal) (e : Fin 256) (d : Fin 128) :
    cNew (padr k) (padr v) (padz ⊥ i) (bsum (padz 0 f)) (bsum (padz 0 f) 127) m C e d = cNew k v i (bsum f) (bsum f 3) m C e d := by
  rw [bsum_last f 127 (by decide)]
  exact cNew_up k v i (bsum f) (bsum (padz 0 f)) m _ C (fun t => bsum_up f t) e d

theorem fin_n (k : Fin 4 → Fin 128 → EReal) (i f : Fin 4 → EReal) (m : EReal) (N : Fin 128 → EReal) (d : Fin 128) :
    nNew (padr k) (padz ⊥ i) (bsum (padz 0 f)) (bsum (padz 0 f) 127) m N d = nNew k i (bsum f) (bsum f 3) m N d := by
  rw [bsum_last f 127 (by decide)]
  exact nNew_up k i (bsum f) (bsum (padz 0 f)) m _ N (fun t => bsum_up f t) d

theorem fin_h (q k : Fin 4 → Fin 128 → EReal) (v : Fin 4 → Fin 256 → EReal) (i f : Fin 4 → EReal) (m : EReal) (C : Fin 256 → Fin 128 → EReal) (N : Fin 128 → EReal)
    (g x : EReal) (e : Fin 256) (t : Fin 8) :
    rms (hid (padr q) (padr k) (padr v) (padz ⊥ i) (bsum (padz 0 f)) m C N ⟨t.val, by omega⟩) g e * x
      = if h : t.val < 4 then rms (hid q k v i (bsum f) m C N ⟨t.val, h⟩) g e * x else 0 := by
  by_cases h : t.val < 4
  · rw [dif_pos h]
    have e' : hid (padr q) (padr k) (padr v) (padz ⊥ i) (bsum (padz 0 f)) m C N ⟨t.val, by omega⟩ = hid q k v i (bsum f) m C N ⟨t.val, h⟩ :=
      funext fun e => hid_up q k v i (bsum f) (bsum (padz 0 f)) m C N (fun t => bsum_up f t) ⟨t.val, h⟩ e
    rw [e']
  · rw [dif_neg h, rms_zero _ _ (hid_out q k v i (bsum (padz 0 f)) m C N ⟨t.val, by omega⟩ h), zero_mul]

/-! ## The blocks -/

theorem ld_3 {n w : ℕ} (x : (⟨3, ![1, 8, n]⟩ : Shape).Idx → Elt Ideal .f32) (o : ℕ) (ho : o + w ≤ n) (inb) (t : Fin 8) (d : Fin w) :
    View.ld x (Rect.unit (s := (⟨3, ![1, 8, n]⟩ : Shape)) ![0, 0, o] ![1, 8, w] inb) (ix3 0 t d : (⟨3, ![1, 8, w]⟩ : Shape).Idx)
      = x (ix3 0 t (⟨o + d.val, by omega⟩ : Fin n)) := by
  refine congrArg x (funext fun a => Fin.ext ?_)
  match a with
  | ⟨0, _⟩ => rfl
  | ⟨1, _⟩ => show 0 + 1 * t.val = t.val; omega
  | ⟨2, _⟩ => show o + 1 * d.val = o + d.val; omega

theorem ld_1 (x : S1x1x1024.Idx → Elt Ideal .f32) (o : ℕ) (ho : o + 256 ≤ 1024) (inb) (d : Fin 256) :
    View.ld x (Rect.unit (s := S1x1x1024) ![0, 0, o] ![1, 1, 256] inb) (ix3 0 0 d : S1x1x256.Idx)
      = x (ix3 0 0 (⟨o + d.val, by omega⟩ : Fin 1024)) := by
  refine congrArg x (funext fun a => Fin.ext ?_)
  match a with
  | ⟨0, _⟩ => rfl
  | ⟨1, _⟩ => rfl
  | ⟨2, _⟩ => show o + 1 * d.val = o + d.val; omega

theorem old_m (x : Vec Ideal S1x1x4x1x1 .f32) (h : Fin 4) (inb) :
    (k0_pay12 (F := Ideal) x ((Rect.unit (s := S4x1x1) ![h.val, 0, 0] ![1, 1, 1] inb).emb (ix3 0 0 0 : S1x1x1.Idx)) : EReal) = x (ix5 0 0 h 0 0) := by
  refine Eq.trans (congrArg (k0_pay12 (F := Ideal) x) (show _ = (ix3 h 0 0 : S4x1x1.Idx) from funext fun a => Fin.ext ?_)) ?_
  · match a with
    | ⟨0, _⟩ => show h.val + 1 * 0 = h.val; omega
    | ⟨1, _⟩ => rfl
    | ⟨2, _⟩ => rfl
  · pointwise [k0_pay12]

theorem old_n (x : Vec Ideal S1x1x4x1x128 .f32) (h : Fin 4) (inb) (d : Fin 128) :
    (k0_pay11 (F := Ideal) x ((Rect.unit (s := S4x1x128) ![h.val, 0, 0] ![1, 1, 128] inb).emb (ix3 0 0 d : S1x1x128.Idx)) : EReal) = x (ix5 0 0 h 0 d) := by
  refine Eq.trans (congrArg (k0_pay11 (F := Ideal) x) (show _ = (ix3 h 0 d : S4x1x128.Idx) from funext fun a => Fin.ext ?_)) ?_
  · match a with
    | ⟨0, _⟩ => show h.val + 1 * 0 = h.val; omega
    | ⟨1, _⟩ => rfl
    | ⟨2, _⟩ => show 0 + 1 * d.val = d.val; omega
  · pointwise [k0_pay11]

theorem old_c (x : Vec Ideal S1x1x4x256x128 .f32) (h : Fin 4) (inb) (d : Fin 128) (e : Fin 256) :
    (k0_pay3 (F := Ideal) (View.ld x (Rect.unit (s := S1x1x4x256x128) ![0, 0, h.val, 0, 0] ![1, 1, 1, 256, 128] inb)) (ix3 0 d e) : EReal) = x (ix5 0 0 h e d) := by
  refine Eq.trans (show _ = View.ld x (Rect.unit (s := S1x1x4x256x128) ![0, 0, h.val, 0, 0] ![1, 1, 1, 256, 128] inb) (ix5 0 0 0 e d : S1x1x1x256x128.Idx) from ?_) ?_
  · pointwise [k0_pay3]
  · refine congrArg x (funext fun a => Fin.ext ?_)
    match a with
    | ⟨0, _⟩ => rfl
    | ⟨1, _⟩ => rfl
    | ⟨2, _⟩ => show h.val + 1 * 0 = h.val; omega
    | ⟨3, _⟩ => show 0 + 1 * e.val = e.val; omega
    | ⟨4, _⟩ => show 0 + 1 * d.val = d.val; omega

/-! The columns of the projection and the rows of a block an entry lies in. -/

theorem lt_q (j : Fin 512) : j.val < 15360 := by omega
theorem lt_k (j : Fin 512) : 512 + j.val < 15360 := by omega
theorem lt_v (j : Fin 1024) : 1024 + j.val < 15360 := by omega
theorem lt_8 (t : Fin 4) : t.val < 8 := by omega

section blocks

variable {Z : Z'} {G : G'} {W : W'} {b : Fin 32}
  {x0 x1 : Vec Ideal S1x8x512 .f32} {x2 x3 : Vec Ideal S1x8x1024 .f32} {x4 : Vec Ideal S1x8x128 .f32} {x5 : Vec Ideal S1x1x128 .f32} {x6 : Vec Ideal S1x128x1 .f32}
  (h0 : ∀ (t : Fin 8) (j : Fin 512), (x0 (ix3 0 t j) : EReal) = if h : t.val < 4 then Z (ix3 b ⟨t.val, h⟩ (⟨j.val, lt_q j⟩ : Fin 15360)) else 0)
  (h1 : ∀ (t : Fin 8) (j : Fin 512), (x1 (ix3 0 t j) : EReal) = if h : t.val < 4 then Z (ix3 b ⟨t.val, h⟩ (⟨512 + j.val, lt_k j⟩ : Fin 15360)) else 0)
  (h2 : ∀ (t : Fin 8) (j : Fin 1024), (x2 (ix3 0 t j) : EReal) = if h : t.val < 4 then Z (ix3 b ⟨t.val, h⟩ (⟨1024 + j.val, lt_v j⟩ : Fin 15360)) else 0)
  (h4 : ∀ (t : Fin 4) (l : Fin 128), (x4 (ix3 0 (⟨t.val, lt_8 t⟩ : Fin 8) l) : EReal) = G (ix3 b t l))
  (h5 : ∀ l : Fin 128, (x5 (ix3 0 0 l) : EReal) = W (ix2 (0 : Fin 2) l))
  (h6 : ∀ l : Fin 128, (x6 (ix3 0 l 0) : EReal) = x5 (ix3 0 0 l))

include h4 h5 in
theorem gate_z (l : Fin 128) : gate x4 x5 l = gz G W b l := by
  funext s; unfold gate gz; rw [h4, h5]

include h4 h5 in
theorem lgate_z (l : Fin 128) : lgate x4 x5 l = lz G W b l := by
  funext s; unfold lgate lz; rw [gate_z h4 h5]

include h0 in
theorem q_z (h : Fin 4) (inb) (s d : Fin 128) :
    (if h8 : s.val < 8 then (View.ld x0 (Rect.unit (s := S1x8x512) ![0, 0, h.val * 128] ![1, 8, 128] inb) (ix3 0 (⟨s.val, h8⟩ : Fin 8) d : S1x8x128.Idx) : EReal) else 0)
      = padr (qz Z b h) s d :=
  rows_128 _ _ (fun t d => by rw [ld_3 x0 _ (by omega), h0, dif_pos t.isLt]; rfl) (fun t ht d => by rw [ld_3 x0 _ (by omega), h0, dif_neg (by omega)]) s d

include h1 in
theorem k_z (h : Fin 4) (inb) (s d : Fin 128) :
    (if h8 : s.val < 8 then (View.ld x1 (Rect.unit (s := S1x8x512) ![0, 0, h.val * 128] ![1, 8, 128] inb) (ix3 0 (⟨s.val, h8⟩ : Fin 8) d : S1x8x128.Idx) : EReal) else 0) * Ideal.ofBits .f32 0x3DB504F3#32
      = padr (kz Z b h) s d := by
  rw [rows_128 _ (fun t d => Z (ix3 b t (⟨512 + (h.val * 128 + d.val), by omega⟩ : Fin 15360))) (fun t d => by rw [ld_3 x1 _ (by omega), h1, dif_pos t.isLt]) (fun t ht d => by rw [ld_3 x1 _ (by omega), h1, dif_neg (by omega)]) s d]
  unfold padr
  by_cases hs : s.val < 4
  · rw [dif_pos hs, dif_pos hs]; rfl
  · rw [dif_neg hs, dif_neg hs, zero_mul]

include h2 in
theorem v_z (h : Fin 4) (inb) (s : Fin 128) (d : Fin 256) :
    (if h8 : s.val < 8 then (View.ld x2 (Rect.unit (s := S1x8x1024) ![0, 0, h.val * 256] ![1, 8, 256] inb) (ix3 0 (⟨s.val, h8⟩ : Fin 8) d : S1x8x256.Idx) : EReal) else 0)
      = padr (vz Z b h) s d :=
  rows_256 _ _ (fun t d => by rw [ld_3 x2 _ (by omega), h2, dif_pos t.isLt]; rfl) (fun t ht d => by rw [ld_3 x2 _ (by omega), h2, dif_neg (by omega)]) s d

end blocks

end Cert.MlstmIdeal.Cell
end
-- ==== Proof.MlstmOut.lean ====
/-
  The six blocks the body of the matrix memory kernel leaves for one sequence, entry by entry, from the arguments.
-/
module

public import proofs.«01_k».proof.Proof.MlstmCell

@[expose] public section

set_option maxRecDepth 16384

noncomputable section

open Idealize.ShloMosaic Idealize.ShloMosaic.TcCoe Idealize.SL.Sem

namespace Cert.MlstmIdeal.Cell

open Cert.MlstmIdeal Cert.MlstmIdeal.Gen Cert.Mlstm

theorem ne01 : (0 : ℕ) ≠ 1 := by decide
theorem ne02 : (0 : ℕ) ≠ 2 := by decide
theorem ne03 : (0 : ℕ) ≠ 3 := by decide
theorem ne12 : (1 : ℕ) ≠ 2 := by decide
theorem ne13 : (1 : ℕ) ≠ 3 := by decide
theorem ne23 : (2 : ℕ) ≠ 3 := by decide

theorem s_mm (x : FVec Ideal S4x1x1 .f32) (h : Fin 4) : (k0_pay2 (F := Ideal) x (ix4 0 h 0 0) : EReal) = x (ix3 h 0 0) := by
  pointwise [k0_pay2]

theorem s_nn (x : FVec Ideal S4x1x128 .f32) (h : Fin 4) (d : Fin 128) : (k0_pay1 (F := Ideal) x (ix4 0 h 0 d) : EReal) = x (ix3 h 0 d) := by
  pointwise [k0_pay1]

theorem s_cc (x : FVec Ideal S1x128x256 .f32) (e : Fin 256) (d : Fin 128) : (k0_pay7 (F := Ideal) x (ix4 0 0 e d) : EReal) = x (ix3 0 d e) := by
  pointwise [k0_pay7]

variable (m : (ℓ : Loc nD τ sig) → Buf (Elt Ideal) ℓ) (c : Dev nD) (t : Fin cfg0.N)
  {Z : Z'} {G : G'} {W : W'} {b : Fin 32} {C : Fin 4 → Fin 256 → Fin 128 → EReal} {N : Fin 4 → Fin 128 → EReal} {M : Fin 4 → EReal} {g : Fin 1024 → EReal}
  (h0 : ∀ (s : Fin 8) (j : Fin 512), ((show Vec Ideal S1x8x512 .f32 from iblk m c 0 t) (ix3 0 s j) : EReal) = if h : s.val < 4 then Z (ix3 b ⟨s.val, h⟩ (⟨j.val, lt_q j⟩ : Fin 15360)) else 0)
  (h1 : ∀ (s : Fin 8) (j : Fin 512), ((show Vec Ideal S1x8x512 .f32 from iblk m c 1 t) (ix3 0 s j) : EReal) = if h : s.val < 4 then Z (ix3 b ⟨s.val, h⟩ (⟨512 + j.val, lt_k j⟩ : Fin 15360)) else 0)
  (h2 : ∀ (s : Fin 8) (j : Fin 1024), ((show Vec Ideal S1x8x1024 .f32 from iblk m c 2 t) (ix3 0 s j) : EReal) = if h : s.val < 4 then Z (ix3 b ⟨s.val, h⟩ (⟨1024 + j.val, lt_v j⟩ : Fin 15360)) else 0)
  (h3 : ∀ (s : Fin 4) (j : Fin 1024), ((show Vec Ideal S1x8x1024 .f32 from iblk m c 3 t) (ix3 0 (⟨s.val, lt_8 s⟩ : Fin 8) j) : EReal) = oz Z b s j)
  (h4 : ∀ (s : Fin 4) (l : Fin 128), ((show Vec Ideal S1x8x128 .f32 from iblk m c 4 t) (ix3 0 (⟨s.val, lt_8 s⟩ : Fin 8) l) : EReal) = G (ix3 b s l))
  (h5 : ∀ l : Fin 128, ((show Vec Ideal S1x1x128 .f32 from iblk m c 5 t) (ix3 0 0 l) : EReal) = W (ix2 (0 : Fin 2) l))
  (h6 : ∀ l : Fin 128, ((show Vec Ideal S1x128x1 .f32 from iblk m c 6 t) (ix3 0 l 0) : EReal) = (show Vec Ideal S1x1x128 .f32 from iblk m c 5 t) (ix3 0 0 l))
  (h7 : ∀ j : Fin 1024, ((show Vec Ideal S1x1x1024 .f32 from iblk m c 7 t) (ix3 0 0 j) : EReal) = g j)
  (h8 : ∀ (h : Fin 4) (e : Fin 256) (d : Fin 128), ((show Vec Ideal S1x1x4x256x128 .f32 from iblk m c 8 t) (ix5 0 0 h e d) : EReal) = C h e d)
  (h9 : ∀ (h : Fin 4) (d : Fin 128), ((show Vec Ideal S1x1x4x1x128 .f32 from iblk m c 9 t) (ix5 0 0 h 0 d) : EReal) = N h d)
  (h10 : ∀ h : Fin 4, ((show Vec Ideal S1x1x4x1x1 .f32 from iblk m c 10 t) (ix5 0 0 h 0 0) : EReal) = M h)

set_option maxHeartbeats 1000000 in
include h4 h5 h6 h10 in
theorem mm_0 : ((outsAt0 m c t).2.2.2.1 (ix4 0 0 0 0) : EReal) = mNew (iz G W b 0) (bz G W b 0) (bz G W b 0 3) (M 0) := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  rw [s_mm]
  refine (rd_full _ (0 : Fin 4) _ inb_S4x1x1_S1x1x1_0_0_0 _ 0 0).trans ?_
  refine (congrFun (rd_skip _ ne03.symm _ _ _ _) _).trans ?_
  refine (congrFun (rd_skip _ ne02.symm _ _ _ _) _).trans ?_
  refine (congrFun (rd_skip _ ne01.symm _ _ _ _) _).trans ?_
  refine (congrFun (rd_hit _ _ _ _ _) _).trans ?_
  rw [m_0]
  exact (mV_at _ _ _ _ (fun s => (ir_0 _ _ _ h6 s).trans (congrArg (fun f => padz ⊥ f s) (gate_z h4 h5 8))) (fun s => (bc_0 _ _ s).trans (congrArg (fun f => bsum (padz 0 f) s) (lgate_z h4 h5 12))) (fun s => (br_0 _ _ _ h6 s).trans (congrArg (fun f => bsum (padz 0 f) s) (lgate_z h4 h5 12))) ((old_m _ 0 _).trans (h10 0))).trans (fin_m _ _ _)

set_option maxHeartbeats 1000000 in
include h1 h4 h5 h6 h9 h10 in
theorem nn_0 (d : Fin 128) : ((outsAt0 m c t).2.2.1 (ix4 0 0 0 d) : EReal) = nNew (kz Z b 0) (iz G W b 0) (bz G W b 0) (bz G W b 0 3) (M 0) (N 0) d := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  rw [s_nn]
  refine (rd_full _ (0 : Fin 4) _ inb_S4x1x128_S1x1x128_0_0_0 _ 0 d).trans ?_
  refine (congrFun (rd_skip _ ne03.symm _ _ _ _) _).trans ?_
  refine (congrFun (rd_skip _ ne02.symm _ _ _ _) _).trans ?_
  refine (congrFun (rd_skip _ ne01.symm _ _ _ _) _).trans ?_
  refine (congrFun (rd_hit _ _ _ _ _) _).trans ?_
  rw [n_0]
  exact (nV_at _ _ _ _ _ _ (fun s d => (k_0 _ s d).trans (k_z h1 0 _ s d)) (fun s => (ir_0 _ _ _ h6 s).trans (congrArg (fun f => padz ⊥ f s) (gate_z h4 h5 8))) (fun s => (bc_0 _ _ s).trans (congrArg (fun f => bsum (padz 0 f) s) (lgate_z h4 h5 12))) (fun s => (br_0 _ _ _ h6 s).trans (congrArg (fun f => bsum (padz 0 f) s) (lgate_z h4 h5 12))) ((old_m _ 0 _).trans (h10 0)) (fun d => (old_n _ 0 _ d).trans (h9 0 d)) d).trans (fin_n _ _ _ _ _ d)

set_option maxHeartbeats 1000000 in
include h1 h2 h4 h5 h6 h8 h10 in
theorem cc_0 (e : Fin 256) (d : Fin 128) : ((outsAt0 m c t).2.1 (ix4 0 0 e d) : EReal) = cNew (kz Z b 0) (vz Z b 0) (iz G W b 0) (bz G W b 0) (bz G W b 0 3) (M 0) (C 0) e d := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  refine (skip_4 ne03.symm (by decide) _ _ _ e d).trans ?_
  refine (skip_4 ne02.symm (by decide) _ _ _ e d).trans ?_
  refine (skip_4 ne01.symm (by decide) _ _ _ e d).trans ?_
  refine (hit_4 (h := 0) (by decide) _ _ _ e d).trans ?_
  refine (s_cc _ e d).trans ?_
  rw [c_0]
  exact (cV_at _ _ _ _ _ _ _ _ (fun s d => (k_0 _ s d).trans (k_z h1 0 _ s d)) (fun s d => (v_0 _ s d).trans (v_z h2 0 _ s d)) (fun s => (ic_0 _ _ s).trans (congrArg (fun f => padz ⊥ f s) (gate_z h4 h5 8))) (fun s => (ir_0 _ _ _ h6 s).trans (congrArg (fun f => padz ⊥ f s) (gate_z h4 h5 8))) (fun s => (bc_0 _ _ s).trans (congrArg (fun f => bsum (padz 0 f) s) (lgate_z h4 h5 12))) (fun s => (br_0 _ _ _ h6 s).trans (congrArg (fun f => bsum (padz 0 f) s) (lgate_z h4 h5 12))) ((old_m _ 0 _).trans (h10 0)) (fun d e => (old_c _ 0 _ d e).trans (h8 0 e d)) d e).trans (fin_c _ _ _ _ _ _ e d)

set_option maxHeartbeats 1000000 in
include h0 h1 h2 h3 h4 h5 h6 h7 h8 h9 h10 in
theorem hh_0 (s : Fin 8) (e : Fin 256) : ((outsAt0 m c t).1 (ix3 0 s (⟨0 + e.val, by omega⟩ : Fin 1024)) : EReal)
    = if h : s.val < 4 then rms (hid (qz Z b 0) (kz Z b 0) (vz Z b 0) (iz G W b 0) (bz G W b 0) (M 0) (C 0) (N 0) ⟨s.val, h⟩) (g ⟨0 + e.val, by omega⟩) e
        * Ideal.div 1 (1 + Ideal.exp (-oz Z b ⟨s.val, h⟩ ⟨0 + e.val, by omega⟩)) else 0 := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  refine (skip_3 (o := 768) (o' := 0) (by decide) (by decide) _ _ _ s e).trans ?_
  refine (skip_3 (o := 512) (o' := 0) (by decide) (by decide) _ _ _ s e).trans ?_
  refine (skip_3 (o := 256) (o' := 0) (by decide) (by decide) _ _ _ s e).trans ?_
  refine (hit_3 (o := 0) (by decide) _ _ _ s e).trans ?_
  rw [hm_0]
  refine (hmV_at _ _ _ _ _ _ _ _ _ _ _ (fun s d => (q_0 _ s d).trans (q_z h0 0 _ s d)) (fun s d => (k_0 _ s d).trans (k_z h1 0 _ s d)) (fun s d => (v_0 _ s d).trans (v_z h2 0 _ s d)) (fun s => (ir_0 _ _ _ h6 s).trans (congrArg (fun f => padz ⊥ f s) (gate_z h4 h5 8))) (fun s => (bc_0 _ _ s).trans (congrArg (fun f => bsum (padz 0 f) s) (lgate_z h4 h5 12))) (fun s => (br_0 _ _ _ h6 s).trans (congrArg (fun f => bsum (padz 0 f) s) (lgate_z h4 h5 12))) ((old_m _ 0 _).trans (h10 0)) (fun d e => (old_c _ 0 _ d e).trans (h8 0 e d)) (fun d => (old_n _ 0 _ d).trans (h9 0 d)) s e).trans ?_
  refine (fin_h _ _ _ _ _ _ _ _ _ _ e s).trans ?_
  by_cases hs : s.val < 4
  · rw [dif_pos hs, dif_pos hs, ld_1 _ 0 (by decide), ld_3 _ 0 (by decide)]
    exact congrArg₂ (· * · : EReal → EReal → EReal) (congrArg (fun y => rms _ y e) (h7 _)) (congrArg (fun y : EReal => Ideal.div 1 (1 + Ideal.exp (-y))) (h3 ⟨s.val, hs⟩ _))
  · rw [dif_neg hs, dif_neg hs]

set_option maxHeartbeats 1000000 in
include h4 h5 h6 h10 in
theorem mm_1 : ((outsAt0 m c t).2.2.2.1 (ix4 0 1 0 0) : EReal) = mNew (iz G W b 1) (bz G W b 1) (bz G W b 1 3) (M 1) := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  rw [s_mm]
  refine (rd_full _ (1 : Fin 4) _ inb_S4x1x1_S1x1x1_1_0_0 _ 0 0).trans ?_
  refine (congrFun (rd_skip _ ne13.symm _ _ _ _) _).trans ?_
  refine (congrFun (rd_skip _ ne12.symm _ _ _ _) _).trans ?_
  refine (congrFun (rd_hit _ _ _ _ _) _).trans ?_
  rw [m_1]
  exact (mV_at _ _ _ _ (fun s => (ir_1 _ _ _ h6 s).trans (congrArg (fun f => padz ⊥ f s) (gate_z h4 h5 9))) (fun s => (bc_1 _ _ s).trans (congrArg (fun f => bsum (padz 0 f) s) (lgate_z h4 h5 13))) (fun s => (br_1 _ _ _ h6 s).trans (congrArg (fun f => bsum (padz 0 f) s) (lgate_z h4 h5 13))) ((old_m _ 1 _).trans (h10 1))).trans (fin_m _ _ _)

set_option maxHeartbeats 1000000 in
include h1 h4 h5 h6 h9 h10 in
theorem nn_1 (d : Fin 128) : ((outsAt0 m c t).2.2.1 (ix4 0 1 0 d) : EReal) = nNew (kz Z b 1) (iz G W b 1) (bz G W b 1) (bz G W b 1 3) (M 1) (N 1) d := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  rw [s_nn]
  refine (rd_full _ (1 : Fin 4) _ inb_S4x1x128_S1x1x128_1_0_0 _ 0 d).trans ?_
  refine (congrFun (rd_skip _ ne13.symm _ _ _ _) _).trans ?_
  refine (congrFun (rd_skip _ ne12.symm _ _ _ _) _).trans ?_
  refine (congrFun (rd_hit _ _ _ _ _) _).trans ?_
  rw [n_1]
  exact (nV_at _ _ _ _ _ _ (fun s d => (k_1 _ s d).trans (k_z h1 1 _ s d)) (fun s => (ir_1 _ _ _ h6 s).trans (congrArg (fun f => padz ⊥ f s) (gate_z h4 h5 9))) (fun s => (bc_1 _ _ s).trans (congrArg (fun f => bsum (padz 0 f) s) (lgate_z h4 h5 13))) (fun s => (br_1 _ _ _ h6 s).trans (congrArg (fun f => bsum (padz 0 f) s) (lgate_z h4 h5 13))) ((old_m _ 1 _).trans (h10 1)) (fun d => (old_n _ 1 _ d).trans (h9 1 d)) d).trans (fin_n _ _ _ _ _ d)

set_option maxHeartbeats 1000000 in
include h1 h2 h4 h5 h6 h8 h10 in
theorem cc_1 (e : Fin 256) (d : Fin 128) : ((outsAt0 m c t).2.1 (ix4 0 1 e d) : EReal) = cNew (kz Z b 1) (vz Z b 1) (iz G W b 1) (bz G W b 1) (bz G W b 1 3) (M 1) (C 1) e d := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  refine (skip_4 ne13.symm (by decide) _ _ _ e d).trans ?_
  refine (skip_4 ne12.symm (by decide) _ _ _ e d).trans ?_
  refine (hit_4 (h := 1) (by decide) _ _ _ e d).trans ?_
  refine (s_cc _ e d).trans ?_
  rw [c_1]
  exact (cV_at _ _ _ _ _ _ _ _ (fun s d => (k_1 _ s d).trans (k_z h1 1 _ s d)) (fun s d => (v_1 _ s d).trans (v_z h2 1 _ s d)) (fun s => (ic_1 _ _ s).trans (congrArg (fun f => padz ⊥ f s) (gate_z h4 h5 9))) (fun s => (ir_1 _ _ _ h6 s).trans (congrArg (fun f => padz ⊥ f s) (gate_z h4 h5 9))) (fun s => (bc_1 _ _ s).trans (congrArg (fun f => bsum (padz 0 f) s) (lgate_z h4 h5 13))) (fun s => (br_1 _ _ _ h6 s).trans (congrArg (fun f => bsum (padz 0 f) s) (lgate_z h4 h5 13))) ((old_m _ 1 _).trans (h10 1)) (fun d e => (old_c _ 1 _ d e).trans (h8 1 e d)) d e).trans (fin_c _ _ _ _ _ _ e d)

set_option maxHeartbeats 1000000 in
include h0 h1 h2 h3 h4 h5 h6 h7 h8 h9 h10 in
theorem hh_1 (s : Fin 8) (e : Fin 256) : ((outsAt0 m c t).1 (ix3 0 s (⟨256 + e.val, by omega⟩ : Fin 1024)) : EReal)
    = if h : s.val < 4 then rms (hid (qz Z b 1) (kz Z b 1) (vz Z b 1) (iz G W b 1) (bz G W b 1) (M 1) (C 1) (N 1) ⟨s.val, h⟩) (g ⟨256 + e.val, by omega⟩) e
        * Ideal.div 1 (1 + Ideal.exp (-oz Z b ⟨s.val, h⟩ ⟨256 + e.val, by omega⟩)) else 0 := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  refine (skip_3 (o := 768) (o' := 256) (by decide) (by decide) _ _ _ s e).trans ?_
  refine (skip_3 (o := 512) (o' := 256) (by decide) (by decide) _ _ _ s e).trans ?_
  refine (hit_3 (o := 256) (by decide) _ _ _ s e).trans ?_
  rw [hm_1]
  refine (hmV_at _ _ _ _ _ _ _ _ _ _ _ (fun s d => (q_1 _ s d).trans (q_z h0 1 _ s d)) (fun s d => (k_1 _ s d).trans (k_z h1 1 _ s d)) (fun s d => (v_1 _ s d).trans (v_z h2 1 _ s d)) (fun s => (ir_1 _ _ _ h6 s).trans (congrArg (fun f => padz ⊥ f s) (gate_z h4 h5 9))) (fun s => (bc_1 _ _ s).trans (congrArg (fun f => bsum (padz 0 f) s) (lgate_z h4 h5 13))) (fun s => (br_1 _ _ _ h6 s).trans (congrArg (fun f => bsum (padz 0 f) s) (lgate_z h4 h5 13))) ((old_m _ 1 _).trans (h10 1)) (fun d e => (old_c _ 1 _ d e).trans (h8 1 e d)) (fun d => (old_n _ 1 _ d).trans (h9 1 d)) s e).trans ?_
  refine (fin_h _ _ _ _ _ _ _ _ _ _ e s).trans ?_
  by_cases hs : s.val < 4
  · rw [dif_pos hs, dif_pos hs, ld_1 _ 256 (by decide), ld_3 _ 256 (by decide)]
    exact congrArg₂ (· * · : EReal → EReal → EReal) (congrArg (fun y => rms _ y e) (h7 _)) (congrArg (fun y : EReal => Ideal.div 1 (1 + Ideal.exp (-y))) (h3 ⟨s.val, hs⟩ _))
  · rw [dif_neg hs, dif_neg hs]

set_option maxHeartbeats 1000000 in
include h4 h5 h6 h10 in
theorem mm_2 : ((outsAt0 m c t).2.2.2.1 (ix4 0 2 0 0) : EReal) = mNew (iz G W b 2) (bz G W b 2) (bz G W b 2 3) (M 2) := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  rw [s_mm]
  refine (rd_full _ (2 : Fin 4) _ inb_S4x1x1_S1x1x1_2_0_0 _ 0 0).trans ?_
  refine (congrFun (rd_skip _ ne23.symm _ _ _ _) _).trans ?_
  refine (congrFun (rd_hit _ _ _ _ _) _).trans ?_
  rw [m_2]
  exact (mV_at _ _ _ _ (fun s => (ir_2 _ _ _ h6 s).trans (congrArg (fun f => padz ⊥ f s) (gate_z h4 h5 10))) (fun s => (bc_2 _ _ s).trans (congrArg (fun f => bsum (padz 0 f) s) (lgate_z h4 h5 14))) (fun s => (br_2 _ _ _ h6 s).trans (congrArg (fun f => bsum (padz 0 f) s) (lgate_z h4 h5 14))) ((old_m _ 2 _).trans (h10 2))).trans (fin_m _ _ _)

set_option maxHeartbeats 1000000 in
include h1 h4 h5 h6 h9 h10 in
theorem nn_2 (d : Fin 128) : ((outsAt0 m c t).2.2.1 (ix4 0 2 0 d) : EReal) = nNew (kz Z b 2) (iz G W b 2) (bz G W b 2) (bz G W b 2 3) (M 2) (N 2) d := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  rw [s_nn]
  refine (rd_full _ (2 : Fin 4) _ inb_S4x1x128_S1x1x128_2_0_0 _ 0 d).trans ?_
  refine (congrFun (rd_skip _ ne23.symm _ _ _ _) _).trans ?_
  refine (congrFun (rd_hit _ _ _ _ _) _).trans ?_
  rw [n_2]
  exact (nV_at _ _ _ _ _ _ (fun s d => (k_2 _ s d).trans (k_z h1 2 _ s d)) (fun s => (ir_2 _ _ _ h6 s).trans (congrArg (fun f => padz ⊥ f s) (gate_z h4 h5 10))) (fun s => (bc_2 _ _ s).trans (congrArg (fun f => bsum (padz 0 f) s) (lgate_z h4 h5 14))) (fun s => (br_2 _ _ _ h6 s).trans (congrArg (fun f => bsum (padz 0 f) s) (lgate_z h4 h5 14))) ((old_m _ 2 _).trans (h10 2)) (fun d => (old_n _ 2 _ d).trans (h9 2 d)) d).trans (fin_n _ _ _ _ _ d)

set_option maxHeartbeats 1000000 in
include h1 h2 h4 h5 h6 h8 h10 in
theorem cc_2 (e : Fin 256) (d : Fin 128) : ((outsAt0 m c t).2.1 (ix4 0 2 e d) : EReal) = cNew (kz Z b 2) (vz Z b 2) (iz G W b 2) (bz G W b 2) (bz G W b 2 3) (M 2) (C 2) e d := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  refine (skip_4 ne23.symm (by decide) _ _ _ e d).trans ?_
  refine (hit_4 (h := 2) (by decide) _ _ _ e d).trans ?_
  refine (s_cc _ e d).trans ?_
  rw [c_2]
  exact (cV_at _ _ _ _ _ _ _ _ (fun s d => (k_2 _ s d).trans (k_z h1 2 _ s d)) (fun s d => (v_2 _ s d).trans (v_z h2 2 _ s d)) (fun s => (ic_2 _ _ s).trans (congrArg (fun f => padz ⊥ f s) (gate_z h4 h5 10))) (fun s => (ir_2 _ _ _ h6 s).trans (congrArg (fun f => padz ⊥ f s) (gate_z h4 h5 10))) (fun s => (bc_2 _ _ s).trans (congrArg (fun f => bsum (padz 0 f) s) (lgate_z h4 h5 14))) (fun s => (br_2 _ _ _ h6 s).trans (congrArg (fun f => bsum (padz 0 f) s) (lgate_z h4 h5 14))) ((old_m _ 2 _).trans (h10 2)) (fun d e => (old_c _ 2 _ d e).trans (h8 2 e d)) d e).trans (fin_c _ _ _ _ _ _ e d)

set_option maxHeartbeats 1000000 in
include h0 h1 h2 h3 h4 h5 h6 h7 h8 h9 h10 in
theorem hh_2 (s : Fin 8) (e : Fin 256) : ((outsAt0 m c t).1 (ix3 0 s (⟨512 + e.val, by omega⟩ : Fin 1024)) : EReal)
    = if h : s.val < 4 then rms (hid (qz Z b 2) (kz Z b 2) (vz Z b 2) (iz G W b 2) (bz G W b 2) (M 2) (C 2) (N 2) ⟨s.val, h⟩) (g ⟨512 + e.val, by omega⟩) e
        * Ideal.div 1 (1 + Ideal.exp (-oz Z b ⟨s.val, h⟩ ⟨512 + e.val, by omega⟩)) else 0 := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  refine (skip_3 (o := 768) (o' := 512) (by decide) (by decide) _ _ _ s e).trans ?_
  refine (hit_3 (o := 512) (by decide) _ _ _ s e).trans ?_
  rw [hm_2]
  refine (hmV_at _ _ _ _ _ _ _ _ _ _ _ (fun s d => (q_2 _ s d).trans (q_z h0 2 _ s d)) (fun s d => (k_2 _ s d).trans (k_z h1 2 _ s d)) (fun s d => (v_2 _ s d).trans (v_z h2 2 _ s d)) (fun s => (ir_2 _ _ _ h6 s).trans (congrArg (fun f => padz ⊥ f s) (gate_z h4 h5 10))) (fun s => (bc_2 _ _ s).trans (congrArg (fun f => bsum (padz 0 f) s) (lgate_z h4 h5 14))) (fun s => (br_2 _ _ _ h6 s).trans (congrArg (fun f => bsum (padz 0 f) s) (lgate_z h4 h5 14))) ((old_m _ 2 _).trans (h10 2)) (fun d e => (old_c _ 2 _ d e).trans (h8 2 e d)) (fun d => (old_n _ 2 _ d).trans (h9 2 d)) s e).trans ?_
  refine (fin_h _ _ _ _ _ _ _ _ _ _ e s).trans ?_
  by_cases hs : s.val < 4
  · rw [dif_pos hs, dif_pos hs, ld_1 _ 512 (by decide), ld_3 _ 512 (by decide)]
    exact congrArg₂ (· * · : EReal → EReal → EReal) (congrArg (fun y => rms _ y e) (h7 _)) (congrArg (fun y : EReal => Ideal.div 1 (1 + Ideal.exp (-y))) (h3 ⟨s.val, hs⟩ _))
  · rw [dif_neg hs, dif_neg hs]

set_option maxHeartbeats 1000000 in
include h4 h5 h6 h10 in
theorem mm_3 : ((outsAt0 m c t).2.2.2.1 (ix4 0 3 0 0) : EReal) = mNew (iz G W b 3) (bz G W b 3) (bz G W b 3 3) (M 3) := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  rw [s_mm]
  refine (rd_full _ (3 : Fin 4) _ inb_S4x1x1_S1x1x1_3_0_0 _ 0 0).trans ?_
  refine (congrFun (rd_hit _ _ _ _ _) _).trans ?_
  rw [m_3]
  exact (mV_at _ _ _ _ (fun s => (ir_3 _ _ _ h6 s).trans (congrArg (fun f => padz ⊥ f s) (gate_z h4 h5 11))) (fun s => (bc_3 _ _ s).trans (congrArg (fun f => bsum (padz 0 f) s) (lgate_z h4 h5 15))) (fun s => (br_3 _ _ _ h6 s).trans (congrArg (fun f => bsum (padz 0 f) s) (lgate_z h4 h5 15))) ((old_m _ 3 _).trans (h10 3))).trans (fin_m _ _ _)

set_option maxHeartbeats 1000000 in
include h1 h4 h5 h6 h9 h10 in
theorem nn_3 (d : Fin 128) : ((outsAt0 m c t).2.2.1 (ix4 0 3 0 d) : EReal) = nNew (kz Z b 3) (iz G W b 3) (bz G W b 3) (bz G W b 3 3) (M 3) (N 3) d := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  rw [s_nn]
  refine (rd_full _ (3 : Fin 4) _ inb_S4x1x128_S1x1x128_3_0_0 _ 0 d).trans ?_
  refine (congrFun (rd_hit _ _ _ _ _) _).trans ?_
  rw [n_3]
  exact (nV_at _ _ _ _ _ _ (fun s d => (k_3 _ s d).trans (k_z h1 3 _ s d)) (fun s => (ir_3 _ _ _ h6 s).trans (congrArg (fun f => padz ⊥ f s) (gate_z h4 h5 11))) (fun s => (bc_3 _ _ s).trans (congrArg (fun f => bsum (padz 0 f) s) (lgate_z h4 h5 15))) (fun s => (br_3 _ _ _ h6 s).trans (congrArg (fun f => bsum (padz 0 f) s) (lgate_z h4 h5 15))) ((old_m _ 3 _).trans (h10 3)) (fun d => (old_n _ 3 _ d).trans (h9 3 d)) d).trans (fin_n _ _ _ _ _ d)

set_option maxHeartbeats 1000000 in
include h1 h2 h4 h5 h6 h8 h10 in
theorem cc_3 (e : Fin 256) (d : Fin 128) : ((outsAt0 m c t).2.1 (ix4 0 3 e d) : EReal) = cNew (kz Z b 3) (vz Z b 3) (iz G W b 3) (bz G W b 3) (bz G W b 3 3) (M 3) (C 3) e d := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  refine (hit_4 (h := 3) (by decide) _ _ _ e d).trans ?_
  refine (s_cc _ e d).trans ?_
  rw [c_3]
  exact (cV_at _ _ _ _ _ _ _ _ (fun s d => (k_3 _ s d).trans (k_z h1 3 _ s d)) (fun s d => (v_3 _ s d).trans (v_z h2 3 _ s d)) (fun s => (ic_3 _ _ s).trans (congrArg (fun f => padz ⊥ f s) (gate_z h4 h5 11))) (fun s => (ir_3 _ _ _ h6 s).trans (congrArg (fun f => padz ⊥ f s) (gate_z h4 h5 11))) (fun s => (bc_3 _ _ s).trans (congrArg (fun f => bsum (padz 0 f) s) (lgate_z h4 h5 15))) (fun s => (br_3 _ _ _ h6 s).trans (congrArg (fun f => bsum (padz 0 f) s) (lgate_z h4 h5 15))) ((old_m _ 3 _).trans (h10 3)) (fun d e => (old_c _ 3 _ d e).trans (h8 3 e d)) d e).trans (fin_c _ _ _ _ _ _ e d)

set_option maxHeartbeats 1000000 in
include h0 h1 h2 h3 h4 h5 h6 h7 h8 h9 h10 in
theorem hh_3 (s : Fin 8) (e : Fin 256) : ((outsAt0 m c t).1 (ix3 0 s (⟨768 + e.val, by omega⟩ : Fin 1024)) : EReal)
    = if h : s.val < 4 then rms (hid (qz Z b 3) (kz Z b 3) (vz Z b 3) (iz G W b 3) (bz G W b 3) (M 3) (C 3) (N 3) ⟨s.val, h⟩) (g ⟨768 + e.val, by omega⟩) e
        * Ideal.div 1 (1 + Ideal.exp (-oz Z b ⟨s.val, h⟩ ⟨768 + e.val, by omega⟩)) else 0 := by
  unfold outsAt0
  frame_out
  simp only [rd_skip _ ne01, rd_skip _ ne02, rd_skip _ ne12, rd_skip _ ne03, rd_skip _ ne13, rd_skip _ ne23, rd_skip _ ne01.symm, rd_skip _ ne02.symm, rd_skip _ ne12.symm, rd_skip _ ne03.symm, rd_skip _ ne13.symm, rd_skip _ ne23.symm, rd_hit, rd_all]
  refine (hit_3 (o := 768) (by decide) _ _ _ s e).trans ?_
  rw [hm_3]
  refine (hmV_at _ _ _ _ _ _ _ _ _ _ _ (fun s d => (q_3 _ s d).trans (q_z h0 3 _ s d)) (fun s d => (k_3 _ s d).trans (k_z h1 3 _ s d)) (fun s d => (v_3 _ s d).trans (v_z h2 3 _ s d)) (fun s => (ir_3 _ _ _ h6 s).trans (congrArg (fun f => padz ⊥ f s) (gate_z h4 h5 11))) (fun s => (bc_3 _ _ s).trans (congrArg (fun f => bsum (padz 0 f) s) (lgate_z h4 h5 15))) (fun s => (br_3 _ _ _ h6 s).trans (congrArg (fun f => bsum (padz 0 f) s) (lgate_z h4 h5 15))) ((old_m _ 3 _).trans (h10 3)) (fun d e => (old_c _ 3 _ d e).trans (h8 3 e d)) (fun d => (old_n _ 3 _ d).trans (h9 3 d)) s e).trans ?_
  refine (fin_h _ _ _ _ _ _ _ _ _ _ e s).trans ?_
  by_cases hs : s.val < 4
  · rw [dif_pos hs, dif_pos hs, ld_1 _ 768 (by decide), ld_3 _ 768 (by decide)]
    exact congrArg₂ (· * · : EReal → EReal → EReal) (congrArg (fun y => rms _ y e) (h7 _)) (congrArg (fun y : EReal => Ideal.div 1 (1 + Ideal.exp (-y))) (h3 ⟨s.val, hs⟩ _))
  · rw [dif_neg hs, dif_neg hs]

include h4 h5 in
theorem lf_at (s l : Fin 8) : ((outsAt0 m c t).2.2.2.2.1 (ix3 0 s l) : EReal) = padz 0 (lz G W b ⟨l.val, by omega⟩) ⟨s.val, by omega⟩ := by
  unfold outsAt0
  frame_out
  exact (pay24_at _ _ s l).trans (congrArg (fun f => padz 0 f (⟨s.val, by omega⟩ : Fin 128)) (lgate_z h4 h5 _))

include h4 h5 h6 in
theorem cr_at (l : Fin 8) (s : Fin 128) : ((outsAt0 m c t).2.2.2.2.2 (ix3 0 l s) : EReal) = bsum (padz 0 (lz G W b ⟨l.val, by omega⟩)) s := by
  unfold outsAt0
  frame_out
  exact (pay26_at _ _ _ h6 l s).trans (congrArg (fun f => bsum (padz 0 f) s) (lgate_z h4 h5 _))

end Cert.MlstmIdeal.Cell
end
-- ==== Proof.MlstmBlocks.lean ====
/-
  The blocks the matrix memory kernel reads for one sequence, as entries of the arguments.
-/
module

public import proofs.«01_k».proof.Proof.MlstmOut

@[expose] public section

set_option maxRecDepth 16384

noncomputable section

open Idealize.ShloMosaic Idealize.ShloMosaic.TcCoe Idealize.SL.Sem

namespace Cert.MlstmIdeal.Cell

open Cert.MlstmIdeal Cert.MlstmIdeal.Gen Cert.Mlstm

theorem idx : ∀ t : Fin cfg0.N, win0_0.index t = ![t.val, 0, 0] ∧ win0_1.index t = ![t.val, 0, 1] ∧ win0_2.index t = ![t.val, 0, 1]
      ∧ win0_3.index t = ![t.val, 0, 4] ∧ win0_4.index t = ![t.val, 0, 0] ∧ win0_5.index t = ![0, 0, 0] ∧ win0_6.index t = ![0, 0, 0] ∧ win0_7.index t = ![0, 0, 0]
      ∧ win0_8.index t = ![0, t.val, 0, 0, 0] ∧ win0_9.index t = ![0, t.val, 0, 0, 0] ∧ win0_10.index t = ![0, t.val, 0, 0, 0]
      ∧ win0_11.index t = ![t.val, 0, 0] ∧ win0_12.index t = ![t.val, 0, 0, 0] ∧ win0_13.index t = ![t.val, 0, 0, 0] ∧ win0_14.index t = ![t.val, 0, 0, 0]
      ∧ win0_15.index t = ![t.val, 0, 0] ∧ win0_16.index t = ![t.val, 0, 0] :=
  (by decide +kernel : ∀ t : Fin grid0.N, _)

theorem pt_lt (t : Fin cfg0.N) : t.val < 32 := lt_of_lt_of_eq t.isLt N_0

/-- The sequence of a point. -/
def seq (t : Fin cfg0.N) : Fin 32 := ⟨t.val, pt_lt t⟩

variable (m : (ℓ : Loc nD τ sig) → Buf (Elt Ideal) ℓ)

/-! The arrays of the call, from the arguments. -/

theorem V0 (c : Dev nD) : V m c main_v0 = pad S32x8x15360 ![0, 0, 0] ![0, 4, 0] ![0, 0, 0] (show FVec Ideal S32x4x15360 .f32 from m ((c : Thread nD τ).loc main_arg0)) (sitofp .f32 (constantI S_ 32 0#32)) pads_S32x4x15360_S32x8x15360_000_040_000 h_S_ := by
  unfold_abbrev_sides
  simp only [hostOps0, hostOps0_1, hostOps0_2, hostOps0_3, hostOps0_4, List.flatten_cons, List.flatten_nil, List.append_nil, List.cons_append, List.nil_append]
  after_results
  rfl

theorem V1 (c : Dev nD) : V m c main_v1 = pad S32x8x128 ![0, 0, 0] ![0, 4, 0] ![0, 0, 0] (show FVec Ideal S32x4x128 .f32 from m ((c : Thread nD τ).loc main_arg1)) (sitofp .f32 (constantI S_ 32 0#32)) pads_S32x4x128_S32x8x128_000_040_000 h_S_ := by
  unfold_abbrev_sides
  simp only [hostOps0, hostOps0_1, hostOps0_2, hostOps0_3, hostOps0_4, List.flatten_cons, List.flatten_nil, List.append_nil, List.cons_append, List.nil_append]
  after_results
  rfl

theorem V2 (c : Dev nD) : V m c main_v2 = broadcastInDim S2x1x128 ![0, 2] bcast_S2x128_S2x1x128_0_2 (m ((c : Thread nD τ).loc main_arg2)) := by
  unfold_abbrev_sides
  simp only [hostOps0, hostOps0_1, hostOps0_2, hostOps0_3, hostOps0_4, List.flatten_cons, List.flatten_nil, List.append_nil, List.cons_append, List.nil_append]
  after_results
  try rfl

theorem V3 (c : Dev nD) : V m c main_v3 = broadcastInDim S2x128x1 ![0, 1] bcast_S2x128_S2x128x1_0_1 (m ((c : Thread nD τ).loc main_arg2)) := by
  unfold_abbrev_sides
  simp only [hostOps0, hostOps0_1, hostOps0_2, hostOps0_3, hostOps0_4, List.flatten_cons, List.flatten_nil, List.append_nil, List.cons_append, List.nil_append]
  after_results
  try rfl

theorem V4 (c : Dev nD) : V m c main_v4 = broadcastInDim S2x1x1024 ![0, 2] bcast_S2x1024_S2x1x1024_0_2 (m ((c : Thread nD τ).loc main_arg3)) := by
  unfold_abbrev_sides
  simp only [hostOps0, hostOps0_1, hostOps0_2, hostOps0_3, hostOps0_4, List.flatten_cons, List.flatten_nil, List.append_nil, List.cons_append, List.nil_append]
  after_results
  try rfl

theorem V5 (c : Dev nD) : V m c main_v5 = broadcastInDim S2x32x4x1x128 ![0, 1, 2, 4] bcast_S2x32x4x128_S2x32x4x1x128_0_1_2_4 (m ((c : Thread nD τ).loc main_arg5)) := by
  unfold_abbrev_sides
  simp only [hostOps0, hostOps0_1, hostOps0_2, hostOps0_3, hostOps0_4, List.flatten_cons, List.flatten_nil, List.append_nil, List.cons_append, List.nil_append]
  after_results
  try rfl

theorem V6 (c : Dev nD) : V m c main_v6 = broadcastInDim S2x32x4x1x1 ![0, 1, 2] bcast_S2x32x4_S2x32x4x1x1_0_1_2 (m ((c : Thread nD τ).loc main_arg6)) := by
  unfold_abbrev_sides
  simp only [hostOps0, hostOps0_1, hostOps0_2, hostOps0_3, hostOps0_4, List.flatten_cons, List.flatten_nil, List.append_nil, List.cons_append, List.nil_append]
  after_results
  try rfl

/-- The integer zero as a real. -/
theorem zero_word : (FloatOps.sitofp (F := Ideal) .f32 0#32 : EReal) = 0 := by
  show (((0#32 : BitVec 32).toInt : ℝ) : EReal) = 0
  simp

/-- The projection with four rows of zeros. -/
def padZ (x : FVec Ideal S32x4x15360 .f32) : FVec Ideal S32x8x15360 .f32 :=
  pad S32x8x15360 ![0, 0, 0] ![0, 4, 0] ![0, 0, 0] x (sitofp .f32 (constantI S_ 32 0#32)) pads_S32x4x15360_S32x8x15360_000_040_000 h_S_

/-- The gates with four rows of zeros. -/
def padG (x : FVec Ideal S32x4x128 .f32) : FVec Ideal S32x8x128 .f32 :=
  pad S32x8x128 ![0, 0, 0] ![0, 4, 0] ![0, 0, 0] x (sitofp .f32 (constantI S_ 32 0#32)) pads_S32x4x128_S32x8x128_000_040_000 h_S_

theorem pad_z (x : FVec Ideal S32x4x15360 .f32) (b : Fin 32) (s : Fin 8) (j : Fin 15360) :
    (padZ x (ix3 b s j) : EReal)
      = if h : s.val < 4 then x (ix3 b ⟨s.val, h⟩ j) else 0 := by
  refine Eq.trans (b := if h : s.val < 4 then x (ix3 b ⟨s.val, h⟩ j) else (FloatOps.sitofp (F := Ideal) .f32 0#32 : EReal)) (by pointwise [padZ]) ?_
  rw [zero_word]

theorem pad_g (x : FVec Ideal S32x4x128 .f32) (b : Fin 32) (s : Fin 4) (j : Fin 128) :
    (padG x (ix3 b (⟨s.val, lt_8 s⟩ : Fin 8) j) : EReal)
      = x (ix3 b s j) := by
  pointwise [padG]

theorem bc2 (x : FVec Ideal S2x128 .f32) (l : Fin 128) : (broadcastInDim S2x1x128 ![0, 2] bcast_S2x128_S2x1x128_0_2 x (ix3 0 0 l) : EReal) = x (ix2 0 l) := by
  pointwise

theorem bc3 (x : FVec Ideal S2x128 .f32) (l : Fin 128) : (broadcastInDim S2x128x1 ![0, 1] bcast_S2x128_S2x128x1_0_1 x (ix3 0 l 0) : EReal) = x (ix2 0 l) := by
  pointwise

theorem bc4 (x : FVec Ideal S2x1024 .f32) (l : Fin 1024) : (broadcastInDim S2x1x1024 ![0, 2] bcast_S2x1024_S2x1x1024_0_2 x (ix3 0 0 l) : EReal) = x (ix2 0 l) := by
  pointwise

theorem bc5 (x : FVec Ideal S2x32x4x128 .f32) (b : Fin 32) (h : Fin 4) (d : Fin 128) : (broadcastInDim S2x32x4x1x128 ![0, 1, 2, 4] bcast_S2x32x4x128_S2x32x4x1x128_0_1_2_4 x (ix5 0 b h 0 d) : EReal) = x (ix4 0 b h d) := by
  pointwise

theorem bc6 (x : FVec Ideal S2x32x4 .f32) (b : Fin 32) (h : Fin 4) : (broadcastInDim S2x32x4x1x1 ![0, 1, 2] bcast_S2x32x4_S2x32x4x1x1_0_1_2 x (ix5 0 b h 0 0) : EReal) = x (ix3 0 b h) := by
  pointwise

theorem rd5 (c : Dev nD) (t : Fin cfg0.N) (l : Fin 128) :
    iblk m c 5 t (ix3 (0 : Fin 1) (0 : Fin 1) l) = m ((c : Thread nD τ).loc main_arg2) (ix2 (0 : Fin 2) l) := by
  have := pt_lt t
  refine Eq.trans ?_ (bc2 _ l)
  refine (congrFun (V2 m c) _).trans ?_
  blk_ext [idx t]

theorem rd6 (c : Dev nD) (t : Fin cfg0.N) (l : Fin 128) :
    iblk m c 6 t (ix3 (0 : Fin 1) l (0 : Fin 1)) = m ((c : Thread nD τ).loc main_arg2) (ix2 (0 : Fin 2) l) := by
  have := pt_lt t
  refine Eq.trans ?_ (bc3 _ l)
  refine (congrFun (V3 m c) _).trans ?_
  blk_ext [idx t]

theorem rd7 (c : Dev nD) (t : Fin cfg0.N) (l : Fin 1024) :
    iblk m c 7 t (ix3 (0 : Fin 1) (0 : Fin 1) l) = m ((c : Thread nD τ).loc main_arg3) (ix2 (0 : Fin 2) l) := by
  have := pt_lt t
  refine Eq.trans ?_ (bc4 _ l)
  refine (congrFun (V4 m c) _).trans ?_
  blk_ext [idx t]

theorem rd8 (c : Dev nD) (t : Fin cfg0.N) (h : Fin 4) (e : Fin 256) (d : Fin 128) :
    iblk m c 8 t (ix5 (0 : Fin 1) (0 : Fin 1) h e d) = m ((c : Thread nD τ).loc main_arg4) (ix5 (0 : Fin 2) (seq t) h e d) := by
  have := pt_lt t
  refine (congrFun (V_main_arg4 m c) _).trans ?_
  unfold seq
  blk_ext [idx t]

theorem rd9 (c : Dev nD) (t : Fin cfg0.N) (h : Fin 4) (d : Fin 128) :
    iblk m c 9 t (ix5 (0 : Fin 1) (0 : Fin 1) h (0 : Fin 1) d) = m ((c : Thread nD τ).loc main_arg5) (ix4 (0 : Fin 2) (seq t) h d) := by
  have := pt_lt t
  refine Eq.trans ?_ (bc5 _ (seq t) h d)
  refine (congrFun (V5 m c) _).trans ?_
  unfold seq
  blk_ext [idx t]

theorem rd10 (c : Dev nD) (t : Fin cfg0.N) (h : Fin 4) :
    iblk m c 10 t (ix5 (0 : Fin 1) (0 : Fin 1) h (0 : Fin 1) (0 : Fin 1)) = m ((c : Thread nD τ).loc main_arg6) (ix3 (0 : Fin 2) (seq t) h) := by
  have := pt_lt t
  refine Eq.trans ?_ (bc6 _ (seq t) h)
  refine (congrFun (V6 m c) _).trans ?_
  unfold seq
  blk_ext [idx t]

theorem rd0 (c : Dev nD) (t : Fin cfg0.N) (s : Fin 8) (j : Fin 512) :
    ((show Vec Ideal S1x8x512 .f32 from iblk m c 0 t) (ix3 0 s j) : EReal)
      = if h : s.val < 4 then (show Z' from m ((c : Thread nD τ).loc main_arg0)) (ix3 (seq t) ⟨s.val, h⟩ (⟨j.val, lt_q j⟩ : Fin 15360)) else 0 := by
  have := pt_lt t
  refine Eq.trans ?_ (pad_z _ (seq t) s _)
  refine (congrFun (V0 m c) _).trans ?_
  unfold seq
  blk_ext [idx t]

theorem rd1 (c : Dev nD) (t : Fin cfg0.N) (s : Fin 8) (j : Fin 512) :
    ((show Vec Ideal S1x8x512 .f32 from iblk m c 1 t) (ix3 0 s j) : EReal)
      = if h : s.val < 4 then (show Z' from m ((c : Thread nD τ).loc main_arg0)) (ix3 (seq t) ⟨s.val, h⟩ (⟨512 + j.val, lt_k j⟩ : Fin 15360)) else 0 := by
  have := pt_lt t
  refine Eq.trans ?_ (pad_z _ (seq t) s _)
  refine (congrFun (V0 m c) _).trans ?_
  unfold seq
  blk_ext [idx t]

theorem rd2 (c : Dev nD) (t : Fin cfg0.N) (s : Fin 8) (j : Fin 1024) :
    ((show Vec Ideal S1x8x1024 .f32 from iblk m c 2 t) (ix3 0 s j) : EReal)
      = if h : s.val < 4 then (show Z' from m ((c : Thread nD τ).loc main_arg0)) (ix3 (seq t) ⟨s.val, h⟩ (⟨1024 + j.val, lt_v j⟩ : Fin 15360)) else 0 := by
  have := pt_lt t
  refine Eq.trans ?_ (pad_z _ (seq t) s _)
  refine (congrFun (V0 m c) _).trans ?_
  unfold seq
  blk_ext [idx t]

theorem rd3 (c : Dev nD) (t : Fin cfg0.N) (s : Fin 4) (j : Fin 1024) :
    ((show Vec Ideal S1x8x1024 .f32 from iblk m c 3 t) (ix3 0 (⟨s.val, lt_8 s⟩ : Fin 8) j) : EReal)
      = oz (show Z' from m ((c : Thread nD τ).loc main_arg0)) (seq t) s j := by
  have := pt_lt t
  unfold oz
  refine Eq.trans ?_ ((pad_z _ (seq t) (⟨s.val, lt_8 s⟩ : Fin 8) _).trans (dif_pos s.isLt))
  refine (congrFun (V0 m c) _).trans ?_
  unfold seq
  blk_ext [idx t]

theorem rd4 (c : Dev nD) (t : Fin cfg0.N) (s : Fin 4) (l : Fin 128) :
    ((show Vec Ideal S1x8x128 .f32 from iblk m c 4 t) (ix3 0 (⟨s.val, lt_8 s⟩ : Fin 8) l) : EReal)
      = (show G' from m ((c : Thread nD τ).loc main_arg1)) (ix3 (seq t) s l) := by
  have := pt_lt t
  refine Eq.trans ?_ (pad_g _ (seq t) s l)
  refine (congrFun (V1 m c) _).trans ?_
  unfold seq
  blk_ext [idx t]

end Cert.MlstmIdeal.Cell
end
-- ==== Proof.MlstmRef.lean ====
module

public import proofs.«01_k».proof.Proof.MlstmMath
public import proofs.«01_k».proof.Proof.Gen.MlstmRefIdeal.Run
public import Idealize.ShloMosaic.Lib.Pipeline.ValueKit

/-!
The chunk step of the matrix memory: what the reference computes, entry by entry.
-/

@[expose] public section

set_option maxRecDepth 16384

noncomputable section

open Idealize.ShloMosaic Idealize.ShloMosaic.TcCoe Idealize.SL.Sem

namespace Cert.Mlstm

/-- The window's one axis as an index set. -/
def winEquiv : (⟨3, ![1, 4, 1]⟩ : Shape).Idx ≃ Fin 4 where
  toFun w := w 1
  invFun p := ix3 (0 : Fin 1) p (0 : Fin 1)
  left_inv w := by
    funext a
    match a with
    | ⟨0, _⟩ => exact (Fin.eq_zero (show Fin 1 from w 0)).symm
    | ⟨1, _⟩ => rfl
    | ⟨2, _⟩ => exact (Fin.eq_zero (show Fin 1 from w 2)).symm
  right_inv p := rfl

/-- The window's positions in row-major order. -/
def win (n : Fin (⟨3, ![1, 4, 1]⟩ : Shape).numel) : (⟨3, ![1, 4, 1]⟩ : Shape).Idx := (Shape.rowMajor (⟨3, ![1, 4, 1]⟩ : Shape)).symm n

/-- A left fold of additions is the start plus the sum. -/
theorem foldl_sum {ι : Type} (f : ι → EReal) : ∀ (l : List ι) (v : EReal), l.foldl (fun r n => r + f n) v = v + (l.map f).sum
  | [], v => by simp
  | a :: l, v => by rw [List.foldl_cons, foldl_sum f l, List.map_cons, List.sum_cons, add_assoc]

/-- A window that ends at `q` sums the entries up to `q`. -/
theorem shifted_sum (a : Fin 4 → EReal) (q : Fin 4) :
    (∑ p : Fin 4, if h : 3 ≤ q.val + p.val ∧ q.val + p.val - 3 < 4 then a ⟨q.val + p.val - 3, h.2⟩ else 0) = bsum a q := by
  unfold bsum
  fin_cases q <;> simp [Fin.sum_univ_four] <;> try rfl

/-- The cumulative sum along the tokens, at an index. -/
theorem window_at {n : ℕ} {u : Shape} (x : FVec Ideal (⟨3, ![32, 4, n]⟩ : Shape) .f32) (v : FVec Ideal u .f32) (hv : ∀ i, (v i : EReal) = 0) (h h') (r : Fin 32) (q : Fin 4) (l : Fin n) :
    (Host.reduceWindowAdd (t := (⟨3, ![32, 4, n]⟩ : Shape)) ![1, 4, 1] ![1, 1, 1] ![0, 3, 0] ![0, 0, 0] x v h h' (ix3 r q l) : EReal)
      = bsum (fun p => (show EReal from x (ix3 r p l))) q := by
  rw [← shifted_sum (fun p => (show EReal from x (ix3 r p l)))]
  refine (foldl_sum _ _ _).trans ?_
  refine (congrArg (· + _) (hv _)).trans ((zero_add _).trans ?_)
  rw [← Fin.sum_univ_def]
  refine Fintype.sum_equiv ((Shape.rowMajor (⟨3, ![1, 4, 1]⟩ : Shape)).symm.trans winEquiv) _ _ fun n' => ?_
  show _ = if h : 3 ≤ q.val + (win n' 1).val ∧ q.val + (win n' 1).val - 3 < 4 then (show EReal from x (ix3 r ⟨q.val + (win n' 1).val - 3, h.2⟩ l)) else 0
  have w0 : (win n' 0).val < 1 := (win n' 0).isLt
  have w2 : (win n' 2).val < 1 := (win n' 2).isLt
  by_cases hq : 3 ≤ q.val + (win n' 1).val ∧ q.val + (win n' 1).val - 3 < 4
  · rw [dif_pos hq, dif_pos]
    · refine congrArg x (funext fun a => Fin.ext ?_)
      match a with
      | ⟨0, _⟩ => show r.val * 1 + (win n' 0).val - 0 = r.val; omega
      | ⟨1, _⟩ => show q.val * 1 + (win n' 1).val - 3 = q.val + (win n' 1).val - 3; omega
      | ⟨2, _⟩ => show l.val * 1 + (win n' 2).val - 0 = l.val; omega
    · intro a
      match a with
      | ⟨0, _⟩ => show 0 ≤ r.val * 1 + (win n' 0).val ∧ r.val * 1 + (win n' 0).val - 0 < 32; omega
      | ⟨1, _⟩ => show 3 ≤ q.val * 1 + (win n' 1).val ∧ q.val * 1 + (win n' 1).val - 3 < 4; omega
      | ⟨2, _⟩ => show 0 ≤ l.val * 1 + (win n' 2).val ∧ l.val * 1 + (win n' 2).val - 0 < n; omega
  · rw [dif_neg hq, dif_neg]
    · exact hv _
    · intro hin
      have h1 : 3 ≤ q.val * 1 + (win n' 1).val ∧ q.val * 1 + (win n' 1).val - 3 < 4 := hin 1
      omega

end Cert.Mlstm

namespace Cert.MlstmRefIdeal.Cell

open Cert.MlstmRefIdeal Cert.MlstmRefIdeal.Gen Cert.MlstmRefIdeal.Value Cert.Mlstm

variable (V0 : Valuation τ sig (Elt Ideal))

abbrev Z : Z' := V0 (Proc.devRef .tc main_arg0)
abbrev G : G' := V0 (Proc.devRef .tc main_arg1)
abbrev W : W' := V0 (Proc.devRef .tc main_arg2)

theorem neg_inf : Ideal.ofBits .f32 0xFF800000#32 = (⊥ : EReal) := by simp [Ideal.ofBits, Ideal.ieee]

/-- A maximum over the third of four axes, at sizes left open. -/
theorem max_4 {n0 n1 n2 n3 : ℕ} {u : Shape} (v : FVec Ideal (⟨4, ![n0, n1, n2, n3]⟩ : Shape) .f32) (init : FVec Ideal u .f32)
    (h : (⟨4, ![n0, n1, n2, n3]⟩ : Shape).ReducesTo [2] (⟨3, ![n0, n1, n3]⟩ : Shape)) (hu : 0 < u.numel) (a : Fin n0) (b : Fin n1) (c : Fin n3) :
    Host.reduce FloatOps.maximumf v init h hu (ix3 a b c)
      = Finset.univ.fold max (show EReal from init (Shape.Idx.first hu)) fun k : Fin n2 => (show EReal from v (ix4 a b k c)) := by
  rw [Host.reduce_eq_fold, h.fold_fiber_r4_a2]
  rfl

/-- A maximum over the second of three axes, at sizes left open. -/
theorem max_3 {n0 n1 n2 : ℕ} {u : Shape} (v : FVec Ideal (⟨3, ![n0, n1, n2]⟩ : Shape) .f32) (init : FVec Ideal u .f32)
    (h : (⟨3, ![n0, n1, n2]⟩ : Shape).ReducesTo [1] (⟨2, ![n0, n2]⟩ : Shape)) (hu : 0 < u.numel) (a : Fin n0) (c : Fin n2) :
    Host.reduce FloatOps.maximumf v init h hu (ix2 a c)
      = Finset.univ.fold max (show EReal from init (Shape.Idx.first hu)) fun k : Fin n1 => (show EReal from v (ix3 a k c)) := by
  rw [Host.reduce_eq_fold, h.fold_fiber_r3_a1]
  rfl

theorem sel_ge (t s : Fin 4) (x y : EReal) :
    Scalar.select (Scalar.select (IntOp.cmpi .sge (IntOp.addi (BitVec.ofNat 32 t.val) 0#32) (BitVec.ofNat 32 s.val)) 1#1 0#1) x y
      = if s.val ≤ t.val then x else y := by
  have e : Scalar.select (IntOp.cmpi .sge (IntOp.addi (BitVec.ofNat 32 t.val) 0#32) (BitVec.ofNat 32 s.val)) 1#1 0#1 = if s.val ≤ t.val then 1#1 else 0#1 := by
    revert t s; decide +kernel
  rw [e]
  by_cases h : s.val ≤ t.val <;> simp [h, Scalar.select]

theorem v1_at (b : Fin 32) (t h : Fin 4) (d : Fin 128) : (res_main_v1 V0 (ix4 b t h d) : EReal) = qz (Z V0) b h t d := by
  pointwise [res_main_v1, qz, Z]

theorem v5_at (b : Fin 32) (t h : Fin 4) (d : Fin 128) : (res_main_v5 V0 (ix4 b t h d) : EReal) = kz (Z V0) b h t d := by
  pointwise [res_main_v5, kz, Z]

theorem v7_at (b : Fin 32) (t h : Fin 4) (e : Fin 256) : (res_main_v7 V0 (ix4 b t h e) : EReal) = vz (Z V0) b h t e := by
  pointwise [res_main_v7, vz, Z]

theorem v13_at (b : Fin 32) (t : Fin 4) (l : Fin 128) : (res_main_v13 V0 (ix3 b t l) : EReal) = gz (G V0) (W V0) b l t := by
  pointwise [res_main_v13, gz, G, W]

theorem v14_at (b : Fin 32) (t : Fin 4) (l : Fin 128) : (res_main_v14 V0 (ix3 b t l) : EReal) = lz (G V0) (W V0) b l t := by
  pointwise [res_main_v14, res_main_call0_call0_v3, res_main_call0_v0, res_main_call0_call0_cst, v13_at, lz, lsig]
  rw [if_neg (fun h => h rfl)]
  rfl

theorem v15_at (b : Fin 32) (t : Fin 4) (h : Fin 4) : (res_main_v15 V0 (ix3 b t h) : EReal) = iz (G V0) (W V0) b h t := by
  pointwise [res_main_v15, v13_at, iz]

theorem v26_at (b : Fin 32) (t : Fin 4) (h : Fin 4) : (res_main_v26 V0 (ix3 b t h) : EReal) = bz (G V0) (W V0) b h t := by
  unfold res_main_v26 bz
  refine (window_at _ _ (fun i => ?_) _ _ b t h).trans ?_
  · exact Ideal.ofBits_zero .f32
  refine congrArg (fun f => bsum f t) (funext fun p => ?_)
  pointwise [v14_at]

abbrev C0 (b : Fin 32) (h : Fin 4) (e : Fin 256) (d : Fin 128) : EReal := V0 (Proc.devRef .tc main_arg4) (ix5 0 b h e d)
abbrev N0 (b : Fin 32) (h : Fin 4) (d : Fin 128) : EReal := V0 (Proc.devRef .tc main_arg5) (ix4 0 b h d)
abbrev M0 (b : Fin 32) (h : Fin 4) : EReal := V0 (Proc.devRef .tc main_arg6) (ix3 0 b h)

theorem v18_at (b : Fin 32) (h : Fin 4) (e : Fin 256) (d : Fin 128) : (res_main_v18 V0 (ix4 b h e d) : EReal) = C0 V0 b h e d := by
  pointwise [res_main_v18, C0]

theorem v20_at (b : Fin 32) (h : Fin 4) (d : Fin 128) : (res_main_v20 V0 (ix3 b h d) : EReal) = N0 V0 b h d := by
  pointwise [res_main_v20, N0]

theorem v22_at (b : Fin 32) (h : Fin 4) : (res_main_v22 V0 (ix2 b h) : EReal) = M0 V0 b h := by
  pointwise [res_main_v22, M0]

theorem v35_at (b : Fin 32) (t s h : Fin 4) : (res_main_v35 V0 (ix4 b t s h) : EReal) = logD (iz (G V0) (W V0) b h) (bz (G V0) (W V0) b h) t s := by
  pointwise [res_main_v35, v26_at, v15_at, logD]
  rw [sel_ge]
  by_cases hs : s.val ≤ t.val
  · rw [if_pos hs, if_pos hs, sub_eq_add_neg, sub_eq_add_neg, add_assoc]
    exact congrArg (_ + ·) (add_comm _ _)
  · rw [if_neg hs, if_neg hs]; exact neg_inf

theorem v38_at (b : Fin 32) (t h : Fin 4) : (res_main_v38 V0 (ix3 b t h) : EReal) = bz (G V0) (W V0) b h t + M0 V0 b h := by
  pointwise [res_main_v38, v26_at, v22_at]

theorem v40_at (b : Fin 32) (t h : Fin 4) : (res_main_v40 V0 (ix3 b t h) : EReal) = stab (iz (G V0) (W V0) b h) (bz (G V0) (W V0) b h) (M0 V0 b h) t := by
  unfold res_main_v40
  unfold stab top
  refine congrArg₂ (max : EReal → EReal → EReal) (v38_at V0 b t h) ((max_4 _ _ _ _ b t h).trans ?_)
  refine (congrArg (fun z => Finset.univ.fold max z _) neg_inf).trans ?_
  exact congrArg (Finset.univ.fold max ⊥) (funext fun s => v35_at V0 b t s h)

theorem v42_at (b : Fin 32) (t h : Fin 4) : (res_main_v42 V0 (ix3 b t h) : EReal) = wIn (iz (G V0) (W V0) b h) (bz (G V0) (W V0) b h) (M0 V0 b h) t := by
  pointwise [res_main_v42, v38_at, v40_at, wIn]

theorem v49_at (b : Fin 32) (t s h : Fin 4) : (res_main_v49 V0 (ix4 b t s h) : EReal)
    = sc (qz (Z V0) b h) (kz (Z V0) b h) (iz (G V0) (W V0) b h) (bz (G V0) (W V0) b h) (M0 V0 b h) t s := by
  pointwise [res_main_v49, v5_at, v1_at, v35_at, v40_at, sc]
  exact congrArg (· * _) (Finset.sum_congr rfl fun x _ => mul_comm _ _)

theorem v69_at (b : Fin 32) (t h : Fin 4) (e : Fin 256) : (res_main_v69 V0 (ix4 b t h e) : EReal)
    = hid (qz (Z V0) b h) (kz (Z V0) b h) (vz (Z V0) b h) (iz (G V0) (W V0) b h) (bz (G V0) (W V0) b h) (M0 V0 b h) (C0 V0 b h) (N0 V0 b h) t e := by
  pointwise [res_main_v69, v7_at, v49_at, v42_at, v1_at, v18_at, v20_at, v40_at, hid, num, den]
  refine congrArg₂ Ideal.div (congrArg (· + _) (Finset.sum_congr rfl fun x _ => mul_comm _ _)) rfl

theorem v71_at (b : Fin 32) (h : Fin 4) : (res_main_v71 V0 (ix2 b h) : EReal) = bz (G V0) (W V0) b h 3 := by
  pointwise [res_main_v71, v26_at]

theorem v75_at (b : Fin 32) (s h : Fin 4) : (res_main_v75 V0 (ix3 b s h) : EReal) = le (iz (G V0) (W V0) b h) (bz (G V0) (W V0) b h) (bz (G V0) (W V0) b h 3) s := by
  pointwise [res_main_v75, v71_at, v26_at, v15_at, le]

theorem v78_at (b : Fin 32) (h : Fin 4) : (res_main_v78 V0 (ix2 b h) : EReal) = mNew (iz (G V0) (W V0) b h) (bz (G V0) (W V0) b h) (bz (G V0) (W V0) b h 3) (M0 V0 b h) := by
  unfold res_main_v78
  unfold mNew top
  refine congrArg₂ (max : EReal → EReal → EReal) (congrArg₂ (· + · : EReal → EReal → EReal) (v71_at V0 b h) (v22_at V0 b h)) ((max_3 _ _ _ _ b h).trans ?_)
  refine (congrArg (fun z => Finset.univ.fold max z _) neg_inf).trans ?_
  exact congrArg (Finset.univ.fold max ⊥) (funext fun s => v75_at V0 b s h)

theorem v82_at (b : Fin 32) (s h : Fin 4) : (res_main_v82 V0 (ix3 b s h) : EReal) = ws (iz (G V0) (W V0) b h) (bz (G V0) (W V0) b h) (bz (G V0) (W V0) b h 3) (M0 V0 b h) s := by
  pointwise [res_main_v82, v75_at, v78_at, ws]

theorem v85_at (b : Fin 32) (h : Fin 4) : (res_main_v85 V0 (ix2 b h) : EReal)
    = Ideal.exp (bz (G V0) (W V0) b h 3 + M0 V0 b h - mNew (iz (G V0) (W V0) b h) (bz (G V0) (W V0) b h) (bz (G V0) (W V0) b h 3) (M0 V0 b h)) := by
  pointwise [res_main_v85, v71_at, v22_at, v78_at]

theorem v123_at (b : Fin 32) (s : Fin 4) (l : Fin 8) : (res_main_v123 V0 (ix3 b s l) : EReal) = lz (G V0) (W V0) b ⟨l.val, by omega⟩ s := by
  pointwise [res_main_v123, v14_at]

theorem v125_at (b : Fin 32) (l : Fin 8) (t : Fin 4) : (res_main_v125 V0 (ix3 b l t) : EReal) = bsum (lz (G V0) (W V0) b ⟨l.val, by omega⟩) t := by
  unfold res_main_v125
  pointwise []
  refine (window_at _ _ (fun i => ?_) _ _ b t l).trans ?_
  · exact Ideal.ofBits_zero .f32
  exact congrArg (fun f => bsum f t) (funext fun p => v123_at V0 b p l)

/-! ## The results -/

theorem r_m (b : Fin 32) (h : Fin 4) :
    ((broadcastInDim S32x4x1x1 ![0, 1] bcast_S32x4_S32x4x1x1_0_1 (res_main_v78 V0)) (ix4 b h 0 0) : EReal)
      = mNew (iz (G V0) (W V0) b h) (bz (G V0) (W V0) b h) (bz (G V0) (W V0) b h 3) (M0 V0 b h) := by
  pointwise [v78_at]

/-- The normaliser from its parts. -/
def nX (A : FVec Ideal S32x4 .f32) (X : FVec Ideal S32x4x128 .f32) (U : FVec Ideal S32x4x4 .f32) (K : FVec Ideal S32x4x4x128 .f32) : FVec Ideal S32x4x1x128 .f32 :=
  broadcastInDim S32x4x1x128 ![0, 1, 3] bcast_S32x4x128_S32x4x1x128_0_1_3 (addf (mulf (broadcastInDim S32x4x128 ![0, 1, 2] bcast_S32x4x1_S32x4x128_0_1_2 (broadcastInDim S32x4x1 ![0, 1] bcast_S32x4_S32x4x1_0_1 A)) X) (Host.dotGeneral dot_S32x4x4_S32x4x4x128_S32x4x128_1_1_n_3_02_02 none U K))

theorem r_n (b : Fin 32) (h : Fin 4) (d : Fin 128) :
    (nX (res_main_v85 V0) (res_main_v20 V0) (res_main_v82 V0) (res_main_v5 V0) (ix4 b h 0 d) : EReal)
      = nNew (kz (Z V0) b h) (iz (G V0) (W V0) b h) (bz (G V0) (W V0) b h) (bz (G V0) (W V0) b h 3) (M0 V0 b h) (N0 V0 b h) d := by
  pointwise [nX, v85_at, v82_at, v5_at, v20_at, nNew]

/-- The memory from its parts. -/
def cX (A : FVec Ideal S32x4 .f32) (X : FVec Ideal S32x4x256x128 .f32) (U : FVec Ideal S32x4x4 .f32) (Y : FVec Ideal S32x4x4x256 .f32) (K : FVec Ideal S32x4x4x128 .f32) : FVec Ideal S32x4x256x128 .f32 :=
  addf (mulf (broadcastInDim S32x4x256x128 ![0, 1, 2, 3] bcast_S32x4x1x1_S32x4x256x128_0_1_2_3 (broadcastInDim S32x4x1x1 ![0, 1] bcast_S32x4_S32x4x1x1_0_1 A)) X) (Host.dotGeneral dot_S32x4x4x256_S32x4x4x128_S32x4x256x128_1_1_3_3_02_02 none (mulf (broadcastInDim S32x4x4x256 ![0, 1, 2, 3] bcast_S32x4x4x1_S32x4x4x256_0_1_2_3 (broadcastInDim S32x4x4x1 ![0, 1, 2] bcast_S32x4x4_S32x4x4x1_0_1_2 U)) Y) K)

theorem r_c (b : Fin 32) (h : Fin 4) (e : Fin 256) (d : Fin 128) :
    (cX (res_main_v85 V0) (res_main_v18 V0) (res_main_v82 V0) (res_main_v7 V0) (res_main_v5 V0) (ix4 b h e d) : EReal)
      = cNew (kz (Z V0) b h) (vz (Z V0) b h) (iz (G V0) (W V0) b h) (bz (G V0) (W V0) b h) (bz (G V0) (W V0) b h 3) (M0 V0 b h) (C0 V0 b h) e d := by
  pointwise [cX, v85_at, v82_at, v5_at, v7_at, v18_at, cNew]
  exact congrArg (_ + ·) (Finset.sum_congr rfl fun x _ => mul_comm _ _)

/-- The forget gates with four rows of zeros. -/
def lX (X : FVec Ideal S32x4x8 .f32) : FVec Ideal S32x8x8 .f32 :=
  concatenate S32x8x8 1 [⟨S32x4x8, X⟩, ⟨S32x4x8, (broadcastInDim S32x4x8 ![] bcast_S_S32x4x8 (constant S_ .f32 0x00000000#32))⟩] concatenates_S32x4x8_S32x4x8_S32x8x8_d1

theorem r_lf (b : Fin 32) (s l : Fin 8) :
    (lX (res_main_v123 V0) (ix3 b s l) : EReal) = padz 0 (lz (G V0) (W V0) b ⟨l.val, by omega⟩) ⟨s.val, by omega⟩ := by
  pointwise [lX, v123_at, padz]

theorem r_cum (b : Fin 32) (l : Fin 8) (t : Fin 128) :
    ((concatenate S32x8x128 2 [⟨S32x8x4, (res_main_v125 V0)⟩, ⟨S32x8x124, (broadcastInDim S32x8x124 ![0, 1, 2] bcast_S32x8x1_S32x8x124_0_1_2 (extractStridedSlice S32x8x1 ![0, 0, 3] (res_main_v125 V0) slices_S32x8x4_S32x8x1_0_0_3))⟩] concatenates_S32x8x4_S32x8x124_S32x8x128_d2) (ix3 b l t) : EReal)
      = bsum (padz 0 (lz (G V0) (W V0) b ⟨l.val, by omega⟩)) t := by
  pointwise [v125_at]
  by_cases h : t.val < 4
  · rw [dif_pos h]; exact (bsum_up _ ⟨t.val, h⟩).symm
  · rw [dif_neg h]; exact (bsum_last _ t (by omega)).symm

theorem sq_at (X : FVec Ideal S32x4x4x256 .f32) (b : Fin 32) (t h : Fin 4) :
    (Host.reduceAdd (mulf X X) (constant S_ .f32 0x00000000#32) reducesTo_S32x4x4x256_S32x4x4_d3 h_S_ (ix3 b t h) : EReal)
      = ∑ k : Fin 256, (X (ix4 b t h k) : EReal) * X (ix4 b t h k) := by
  pointwise []

theorem r_hm (b : Fin 32) (t : Fin 4) (j : Fin 1024) :
    ((truncf .bf16 (mulf (shapeCast _ (mulf (mulf (res_main_v69 V0) (broadcastInDim S32x4x4x256 ![0, 1, 2, 3] bcast_S32x4x4x1_S32x4x4x256_0_1_2_3 (Host.rsqrt (addf (Host.divf (broadcastInDim S32x4x4x1 ![0, 1, 2] bcast_S32x4x4_S32x4x4x1_0_1_2 (Host.reduceAdd (mulf (res_main_v69 V0) (res_main_v69 V0)) (constant S_ .f32 0x00000000#32) reducesTo_S32x4x4x256_S32x4x4_d3 h_S_)) (broadcastInDim S32x4x4x1 ![] bcast_S_S32x4x4x1 (constant S_ .f32 0x43800000#32))) (broadcastInDim S32x4x4x1 ![] bcast_S_S32x4x4x1 (constant S_ .f32 0x358637BD#32)))))) (broadcastInDim S32x4x4x256 ![0, 1, 2, 3] bcast_S1x1x4x256_S32x4x4x256_0_1_2_3 (broadcastInDim S1x1x4x256 ![2, 3] bcast_S4x256_S1x1x4x256_2_3 (shapeCast _ (shapeCast _ (extractStridedSlice S1x1024 ![0, 0] (V0 (Proc.devRef .tc main_arg3)) slices_S2x1024_S1x1024_0_0) shapeCasts_S1x1024_S1024) shapeCasts_S1024_S4x256)))) shapeCasts_S32x4x4x256_S32x4x1024) (Host.divf (broadcastInDim S32x4x1024 ![] bcast_S_S32x4x1024 (constant S_ .f32 0x3F800000#32)) (addf (broadcastInDim S32x4x1024 ![] bcast_S_S32x4x1024 (constant S_ .f32 0x3F800000#32)) (Host.exp (Host.negf (extractStridedSlice S32x4x1024 ![0, 0, 4096] (V0 (Proc.devRef .tc main_arg0)) slices_S32x4x15360_S32x4x1024_0_0_4096)))))) bitsLt_bf16_f32) (ix3 b t j) : EReal)
      = rms (hid (qz (Z V0) b (hd j)) (kz (Z V0) b (hd j)) (vz (Z V0) b (hd j)) (iz (G V0) (W V0) b (hd j)) (bz (G V0) (W V0) b (hd j)) (M0 V0 b (hd j)) (C0 V0 b (hd j)) (N0 V0 b (hd j)) t)
          (V0 (Proc.devRef .tc main_arg3) (ix2 0 j)) (en j)
        * Ideal.div 1 (1 + Ideal.exp (-oz (Z V0) b t j)) := by
  unfold rms
  simp only [← v69_at]
  generalize res_main_v69 V0 = X
  rw [← sq_at]
  pointwise [hd, en, oz]

/-- The read out rows with four rows of zeros. -/
def hX (X : FVec Ideal S32x4x1024 .bf16) : FVec Ideal S32x8x1024 .bf16 :=
  concatenate S32x8x1024 1 [⟨S32x4x1024, X⟩, ⟨S32x4x1024, (broadcastInDim S32x4x1024 ![] bcast_S_S32x4x1024 (constant S_ .bf16 0x0000#16))⟩] concatenates_S32x4x1024_S32x4x1024_S32x8x1024_d1

theorem hX_at (X : FVec Ideal S32x4x1024 .bf16) (b : Fin 32) (t : Fin 8) (j : Fin 1024) :
    (hX X (ix3 b t j) : EReal) = if h : t.val < 4 then (X (ix3 b ⟨t.val, h⟩ j) : EReal) else 0 := by
  pointwise [hX]

end Cert.MlstmRefIdeal.Cell
-- ==== Proof.MlstmClaim.lean ====
/-
  The matrix memory kernel: what its six arrays hold, and that the reference's six arrays hold the same.
-/
module

public import proofs.«01_k».proof.Proof.MlstmBlocks
public import proofs.«01_k».proof.Proof.MlstmRef
public import Idealize.ShloMosaic.Lib.Pipeline.ValueKit

@[expose] public section

set_option maxRecDepth 16384

noncomputable section

open Idealize.ShloMosaic Idealize.ShloMosaic.TcCoe Idealize.SL.Sem

namespace Cert.Mlstm

/-! The six arrays, from the arguments: projection `Z`, gates `G`, their biases `W`, gains `g`, memory `C`, normaliser `N`, stabiliser `M`. -/

section arrays

variable (Z : Z') (G : G') (W : W') (g : (⟨2, ![2, 1024]⟩ : Shape).Idx → EReal) (C : (⟨5, ![2, 32, 4, 256, 128]⟩ : Shape).Idx → EReal)
  (N : (⟨4, ![2, 32, 4, 128]⟩ : Shape).Idx → EReal) (M : (⟨3, ![2, 32, 4]⟩ : Shape).Idx → EReal)

abbrev cIn (b : Fin 32) (h : Fin 4) (e : Fin 256) (d : Fin 128) : EReal := C (ix5 0 b h e d)
abbrev nIn (b : Fin 32) (h : Fin 4) (d : Fin 128) : EReal := N (ix4 0 b h d)
abbrev mIn (b : Fin 32) (h : Fin 4) : EReal := M (ix3 0 b h)

/-- The gated output of a token. -/
def hAt (b : Fin 32) (t : Fin 4) (j : Fin 1024) : EReal :=
  rms (hid (qz Z b (hd j)) (kz Z b (hd j)) (vz Z b (hd j)) (iz G W b (hd j)) (bz G W b (hd j)) (mIn M b (hd j)) (cIn C b (hd j)) (nIn N b (hd j)) t)
      (g (ix2 0 j)) (en j)
    * Ideal.div 1 (1 + Ideal.exp (-oz Z b t j))

/-- The gated outputs, with four rows of zeros. -/
def aH : (⟨3, ![32, 8, 1024]⟩ : Shape).Idx → EReal := fun i =>
  if h : (i 1).val < 4 then hAt Z G W g C N M (i 0) ⟨(i 1).val, h⟩ (i 2 : Fin 1024) else 0

/-- The memory after the four tokens. -/
def aC : (⟨4, ![32, 4, 256, 128]⟩ : Shape).Idx → EReal := fun i =>
  cNew (kz Z (i 0) (i 1)) (vz Z (i 0) (i 1)) (iz G W (i 0) (i 1)) (bz G W (i 0) (i 1)) (bz G W (i 0) (i 1) 3) (mIn M (i 0) (i 1)) (cIn C (i 0) (i 1)) (i 2 : Fin 256) (i 3 : Fin 128)

/-- The normaliser after the four tokens. -/
def aN : (⟨4, ![32, 4, 1, 128]⟩ : Shape).Idx → EReal := fun i =>
  nNew (kz Z (i 0) (i 1)) (iz G W (i 0) (i 1)) (bz G W (i 0) (i 1)) (bz G W (i 0) (i 1) 3) (mIn M (i 0) (i 1)) (nIn N (i 0) (i 1)) (i 3 : Fin 128)

/-- The stabiliser after the four tokens. -/
def aM : (⟨4, ![32, 4, 1, 1]⟩ : Shape).Idx → EReal := fun i =>
  mNew (iz G W (i 0) (i 1)) (bz G W (i 0) (i 1)) (bz G W (i 0) (i 1) 3) (mIn M (i 0) (i 1))

/-- The logarithms of the first eight forget gates, with four rows of zeros. -/
def aL : (⟨3, ![32, 8, 8]⟩ : Shape).Idx → EReal := fun i =>
  padz 0 (lz G W (i 0) ⟨(i 2).val, lt_of_lt_of_le (i 2 : Fin 8).isLt (by decide)⟩) ⟨(i 1).val, lt_of_lt_of_le (i 1 : Fin 8).isLt (by decide)⟩

/-- Their running sums, the last one repeated. -/
def aS : (⟨3, ![32, 8, 128]⟩ : Shape).Idx → EReal := fun i =>
  bsum (padz 0 (lz G W (i 0) ⟨(i 1).val, lt_of_lt_of_le (i 1 : Fin 8).isLt (by decide)⟩)) (i 2 : Fin 128)

end arrays

end Cert.Mlstm

namespace Cert.MlstmIdeal.Cell

open Cert.MlstmIdeal Cert.MlstmIdeal.Gen Cert.Mlstm

variable (m : (ℓ : Loc nD τ sig) → Buf (Elt Ideal) ℓ) (c : Dev nD)

abbrev mZ : Z' := m ((c : Thread nD τ).loc main_arg0)
abbrev mG : G' := m ((c : Thread nD τ).loc main_arg1)
abbrev mW : W' := m ((c : Thread nD τ).loc main_arg2)
abbrev mg : (⟨2, ![2, 1024]⟩ : Shape).Idx → EReal := m ((c : Thread nD τ).loc main_arg3)
abbrev mC : (⟨5, ![2, 32, 4, 256, 128]⟩ : Shape).Idx → EReal := m ((c : Thread nD τ).loc main_arg4)
abbrev mN : (⟨4, ![2, 32, 4, 128]⟩ : Shape).Idx → EReal := m ((c : Thread nD τ).loc main_arg5)
abbrev mM : (⟨3, ![2, 32, 4]⟩ : Shape).Idx → EReal := m ((c : Thread nD τ).loc main_arg6)

theorem bias_col (t : Fin cfg0.N) (l : Fin 128) :
    ((show Vec Ideal S1x128x1 .f32 from iblk m c 6 t) (ix3 0 l 0) : EReal) = (show Vec Ideal S1x1x128 .f32 from iblk m c 5 t) (ix3 0 0 l) :=
  (rd6 m c t l).trans (rd5 m c t l).symm

/-! One entry of the blocks a point leaves, at any head. -/

theorem mm (t : Fin cfg0.N) (h : Fin 4) : ((outsAt0 m c t).2.2.2.1 (ix4 0 h 0 0) : EReal) = mNew (iz (mG m c) (mW m c) (seq t) h) (bz (mG m c) (mW m c) (seq t) h) (bz (mG m c) (mW m c) (seq t) h 3) (mIn (mM m c) (seq t) h) :=
  match h with
  | 0 => mm_0 m c t (rd4 m c t) (rd5 m c t) (bias_col m c t) (rd10 m c t)
  | 1 => mm_1 m c t (rd4 m c t) (rd5 m c t) (bias_col m c t) (rd10 m c t)
  | 2 => mm_2 m c t (rd4 m c t) (rd5 m c t) (bias_col m c t) (rd10 m c t)
  | 3 => mm_3 m c t (rd4 m c t) (rd5 m c t) (bias_col m c t) (rd10 m c t)

theorem nn (t : Fin cfg0.N) (h : Fin 4) (d : Fin 128) :
    ((outsAt0 m c t).2.2.1 (ix4 0 h 0 d) : EReal) = nNew (kz (mZ m c) (seq t) h) (iz (mG m c) (mW m c) (seq t) h) (bz (mG m c) (mW m c) (seq t) h) (bz (mG m c) (mW m c) (seq t) h 3) (mIn (mM m c) (seq t) h) (nIn (mN m c) (seq t) h) d :=
  match h with
  | 0 => nn_0 m c t (rd1 m c t) (rd4 m c t) (rd5 m c t) (bias_col m c t) (rd9 m c t) (rd10 m c t) d
  | 1 => nn_1 m c t (rd1 m c t) (rd4 m c t) (rd5 m c t) (bias_col m c t) (rd9 m c t) (rd10 m c t) d
  | 2 => nn_2 m c t (rd1 m c t) (rd4 m c t) (rd5 m c t) (bias_col m c t) (rd9 m c t) (rd10 m c t) d
  | 3 => nn_3 m c t (rd1 m c t) (rd4 m c t) (rd5 m c t) (bias_col m c t) (rd9 m c t) (rd10 m c t) d

theorem cc (t : Fin cfg0.N) (h : Fin 4) (e : Fin 256) (d : Fin 128) :
    ((outsAt0 m c t).2.1 (ix4 0 h e d) : EReal) = cNew (kz (mZ m c) (seq t) h) (vz (mZ m c) (seq t) h) (iz (mG m c) (mW m c) (seq t) h) (bz (mG m c) (mW m c) (seq t) h) (bz (mG m c) (mW m c) (seq t) h 3) (mIn (mM m c) (seq t) h) (cIn (mC m c) (seq t) h) e d :=
  match h with
  | 0 => cc_0 m c t (rd1 m c t) (rd2 m c t) (rd4 m c t) (rd5 m c t) (bias_col m c t) (rd8 m c t) (rd10 m c t) e d
  | 1 => cc_1 m c t (rd1 m c t) (rd2 m c t) (rd4 m c t) (rd5 m c t) (bias_col m c t) (rd8 m c t) (rd10 m c t) e d
  | 2 => cc_2 m c t (rd1 m c t) (rd2 m c t) (rd4 m c t) (rd5 m c t) (bias_col m c t) (rd8 m c t) (rd10 m c t) e d
  | 3 => cc_3 m c t (rd1 m c t) (rd2 m c t) (rd4 m c t) (rd5 m c t) (bias_col m c t) (rd8 m c t) (rd10 m c t) e d

/-- Column `e` of head `h`. -/
def col (h : Fin 4) (e : Fin 256) : Fin 1024 := ⟨256 * h.val + e.val, by omega⟩

theorem col_hd_en (j : Fin 1024) : col (hd j) (en j) = j := Fin.ext (show 256 * (j.val / 256) + j.val % 256 = j.val by omega)

theorem hh_col (t : Fin cfg0.N) (s : Fin 8) (h : Fin 4) (e : Fin 256) : ((outsAt0 m c t).1 (ix3 0 s (col h e)) : EReal)
    = if hs : s.val < 4 then rms (hid (qz (mZ m c) (seq t) h) (kz (mZ m c) (seq t) h) (vz (mZ m c) (seq t) h) (iz (mG m c) (mW m c) (seq t) h) (bz (mG m c) (mW m c) (seq t) h)
          (mIn (mM m c) (seq t) h) (cIn (mC m c) (seq t) h) (nIn (mN m c) (seq t) h) ⟨s.val, hs⟩) (mg m c (ix2 0 (col h e))) e
        * Ideal.div 1 (1 + Ideal.exp (-oz (mZ m c) (seq t) ⟨s.val, hs⟩ (col h e))) else 0 :=
  match h with
  | 0 => hh_0 m c t (rd0 m c t) (rd1 m c t) (rd2 m c t) (rd3 m c t) (rd4 m c t) (rd5 m c t) (bias_col m c t) (g := fun j => mg m c (ix2 0 j)) (rd7 m c t) (rd8 m c t) (rd9 m c t) (rd10 m c t) s e
  | 1 => hh_1 m c t (rd0 m c t) (rd1 m c t) (rd2 m c t) (rd3 m c t) (rd4 m c t) (rd5 m c t) (bias_col m c t) (g := fun j => mg m c (ix2 0 j)) (rd7 m c t) (rd8 m c t) (rd9 m c t) (rd10 m c t) s e
  | 2 => hh_2 m c t (rd0 m c t) (rd1 m c t) (rd2 m c t) (rd3 m c t) (rd4 m c t) (rd5 m c t) (bias_col m c t) (g := fun j => mg m c (ix2 0 j)) (rd7 m c t) (rd8 m c t) (rd9 m c t) (rd10 m c t) s e
  | 3 => hh_3 m c t (rd0 m c t) (rd1 m c t) (rd2 m c t) (rd3 m c t) (rd4 m c t) (rd5 m c t) (bias_col m c t) (g := fun j => mg m c (ix2 0 j)) (rd7 m c t) (rd8 m c t) (rd9 m c t) (rd10 m c t) s e

theorem hh (t : Fin cfg0.N) (s : Fin 8) (j : Fin 1024) : ((outsAt0 m c t).1 (ix3 0 s j) : EReal)
    = if hs : s.val < 4 then hAt (mZ m c) (mG m c) (mW m c) (mg m c) (mC m c) (mN m c) (mM m c) (seq t) ⟨s.val, hs⟩ j else 0 := by
  have h := hh_col m c t s (hd j) (en j)
  rw [col_hd_en] at h
  exact h

/-! The arrays the grid leaves. -/

theorem finalH : (dats m 0 c).arrAt 11 cfg0.N = aH (mZ m c) (mG m c) (mW m c) (mg m c) (mC m c) (mN m c) (mM m c) := by
  refine (dats m 0 c).arrAt_eq_of_covers 11 _ (by decide +kernel) fun t _ y => ?_
  blk_simp
  rw [after0_11]
  idx_vars y
  have z0 : y0 = 0 := Subsingleton.elim _ _
  subst z0
  have := pt_lt t
  refine (hh m c t y1 y2).trans ?_
  have e : ((View.whole main_v7_0).slice (win0_11.rect t)).emb (ix3 0 y1 y2) = ix3 (seq t) y1 y2 := by
    unfold seq
    blk_ext [idx t]
  rw [e]
  rfl

theorem finalC : (dats m 0 c).arrAt 12 cfg0.N = aC (mZ m c) (mG m c) (mW m c) (mC m c) (mM m c) := by
  refine (dats m 0 c).arrAt_eq_of_covers 12 _ (by decide +kernel) fun t _ y => ?_
  blk_simp
  rw [after0_12]
  idx_vars y
  have z0 : y0 = 0 := Subsingleton.elim _ _
  subst z0
  have := pt_lt t
  refine (cc m c t y1 y2 y3).trans ?_
  have e : ((View.whole main_v7_1).slice (win0_12.rect t)).emb (ix4 0 y1 y2 y3) = ix4 (seq t) y1 y2 y3 := by
    unfold seq
    blk_ext [idx t]
  rw [e]
  rfl

theorem finalN : (dats m 0 c).arrAt 13 cfg0.N = aN (mZ m c) (mG m c) (mW m c) (mN m c) (mM m c) := by
  refine (dats m 0 c).arrAt_eq_of_covers 13 _ (by decide +kernel) fun t _ y => ?_
  blk_simp
  rw [after0_13]
  idx_vars y
  have z0 : y0 = 0 := Subsingleton.elim _ _
  subst z0
  have z2 : y2 = 0 := Subsingleton.elim _ _
  subst z2
  have := pt_lt t
  refine (nn m c t y1 y3).trans ?_
  have e : ((View.whole main_v7_2).slice (win0_13.rect t)).emb (ix4 0 y1 0 y3) = ix4 (seq t) y1 0 y3 := by
    unfold seq
    blk_ext [idx t]
  rw [e]
  rfl

theorem finalM : (dats m 0 c).arrAt 14 cfg0.N = aM (mG m c) (mW m c) (mM m c) := by
  refine (dats m 0 c).arrAt_eq_of_covers 14 _ (by decide +kernel) fun t _ y => ?_
  blk_simp
  rw [after0_14]
  idx_vars y
  have z0 : y0 = 0 := Subsingleton.elim _ _
  subst z0
  have z2 : y2 = 0 := Subsingleton.elim _ _
  subst z2
  have z3 : y3 = 0 := Subsingleton.elim _ _
  subst z3
  have := pt_lt t
  refine (mm m c t y1).trans ?_
  have e : ((View.whole main_v7_3).slice (win0_14.rect t)).emb (ix4 0 y1 0 0) = ix4 (seq t) y1 0 0 := by
    unfold seq
    blk_ext [idx t]
  rw [e]
  rfl

theorem finalL : (dats m 0 c).arrAt 15 cfg0.N = aL (mG m c) (mW m c) := by
  refine (dats m 0 c).arrAt_eq_of_covers 15 _ (by decide +kernel) fun t _ y => ?_
  blk_simp
  rw [after0_15]
  idx_vars y
  have z0 : y0 = 0 := Subsingleton.elim _ _
  subst z0
  have := pt_lt t
  refine (lf_at m c t (rd4 m c t) (rd5 m c t) y1 y2).trans ?_
  have e : ((View.whole main_v7_4).slice (win0_15.rect t)).emb (ix3 0 y1 y2) = ix3 (seq t) y1 y2 := by
    unfold seq
    blk_ext [idx t]
  rw [e]
  rfl

theorem finalS : (dats m 0 c).arrAt 16 cfg0.N = aS (mG m c) (mW m c) := by
  refine (dats m 0 c).arrAt_eq_of_covers 16 _ (by decide +kernel) fun t _ y => ?_
  blk_simp
  rw [after0_16]
  idx_vars y
  have z0 : y0 = 0 := Subsingleton.elim _ _
  subst z0
  have := pt_lt t
  refine (cr_at m c t (rd4 m c t) (rd5 m c t) (bias_col m c t) y1 y2).trans ?_
  have e : ((View.whole main_v7_5).slice (win0_16.rect t)).emb (ix3 0 y1 y2) = ix3 (seq t) y1 y2 := by
    unfold seq
    blk_ext [idx t]
  rw [e]
  rfl

end Cert.MlstmIdeal.Cell

namespace Cert.MlstmRefIdeal.Cell

open Cert.MlstmRefIdeal Cert.MlstmRefIdeal.Gen Cert.MlstmRefIdeal.Value Cert.Mlstm

variable (V0 : Valuation τ sig (Elt Ideal))

abbrev g0 : (⟨2, ![2, 1024]⟩ : Shape).Idx → EReal := V0 (Proc.devRef .tc main_arg3)
abbrev c0 : (⟨5, ![2, 32, 4, 256, 128]⟩ : Shape).Idx → EReal := V0 (Proc.devRef .tc main_arg4)
abbrev n0 : (⟨4, ![2, 32, 4, 128]⟩ : Shape).Idx → EReal := V0 (Proc.devRef .tc main_arg5)
abbrev m0 : (⟨3, ![2, 32, 4]⟩ : Shape).Idx → EReal := V0 (Proc.devRef .tc main_arg6)

/-! The reference's arrays. -/

theorem refH (X : FVec Ideal S32x4x1024 .bf16) (h : ∀ (b : Fin 32) (t : Fin 4) (j : Fin 1024), (X (ix3 b t j) : EReal) = hAt (Z V0) (G V0) (W V0) (g0 V0) (c0 V0) (n0 V0) (m0 V0) b t j) :
    hX X = aH (Z V0) (G V0) (W V0) (g0 V0) (c0 V0) (n0 V0) (m0 V0) := by
  funext i
  idx_vars i
  refine (hX_at X i0 i1 i2).trans ?_
  simp only [h]
  rfl

theorem refC : cX (res_main_v85 V0) (res_main_v18 V0) (res_main_v82 V0) (res_main_v7 V0) (res_main_v5 V0) = aC (Z V0) (G V0) (W V0) (c0 V0) (m0 V0) := by
  funext i
  idx_vars i
  exact r_c V0 i0 i1 i2 i3

theorem refN : nX (res_main_v85 V0) (res_main_v20 V0) (res_main_v82 V0) (res_main_v5 V0) = aN (Z V0) (G V0) (W V0) (n0 V0) (m0 V0) := by
  funext i
  idx_vars i
  have z2 : i2 = 0 := Subsingleton.elim _ _
  subst z2
  exact r_n V0 i0 i1 i3

theorem refM : (broadcastInDim S32x4x1x1 ![0, 1] bcast_S32x4_S32x4x1x1_0_1 (res_main_v78 V0)) = aM (G V0) (W V0) (m0 V0) := by
  funext i
  idx_vars i
  have z2 : i2 = 0 := Subsingleton.elim _ _
  subst z2
  have z3 : i3 = 0 := Subsingleton.elim _ _
  subst z3
  exact r_m V0 i0 i1

theorem refL : lX (res_main_v123 V0) = aL (G V0) (W V0) := by
  funext i
  idx_vars i
  exact r_lf V0 i0 i1 i2

theorem refS : (concatenate S32x8x128 2 [⟨S32x8x4, (res_main_v125 V0)⟩, ⟨S32x8x124, (broadcastInDim S32x8x124 ![0, 1, 2] bcast_S32x8x1_S32x8x124_0_1_2 (extractStridedSlice S32x8x1 ![0, 0, 3] (res_main_v125 V0) slices_S32x8x4_S32x8x1_0_0_3))⟩] concatenates_S32x8x4_S32x8x124_S32x8x128_d2)
    = aS (G V0) (W V0) := by
  funext i
  idx_vars i
  exact r_cum V0 i0 i1 i2

end Cert.MlstmRefIdeal.Cell

end
-- ==== Proof.lean ====
/-
  The certificate: frames, the idealization of the constants, and the equality of each call with its reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.FlashClaim
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.MlpRef
public import proofs.«01_k».proof.Proof.MergeClaim
public import proofs.«01_k».proof.Proof.OutprojClaim
public import proofs.«01_k».proof.Proof.Gen.Inproj
public import proofs.«01_k».proof.Proof.Gen.InprojIdeal
public import proofs.«01_k».proof.Proof.Gen.InprojRefIdeal
public import proofs.«01_k».proof.Proof.InprojFrame
public import proofs.«01_k».proof.Proof.InprojClaim
public import proofs.«01_k».proof.Proof.Gen.MlpB
public import proofs.«01_k».proof.Proof.Gen.MlpB.Frame
public import proofs.«01_k».proof.Proof.Gen.MlpBIdeal
public import proofs.«01_k».proof.Proof.Gen.MlpBIdeal.Frame
public import proofs.«01_k».proof.Proof.Gen.MlpBIdeal.Value
public import proofs.«01_k».proof.Proof.Gen.MlpBRefIdeal
public import proofs.«01_k».proof.Proof.Gen.MlpBRefIdeal.Run
public import proofs.«01_k».proof.Proof.Gen.MergeB
public import proofs.«01_k».proof.Proof.Gen.MergeB.Frame
public import proofs.«01_k».proof.Proof.Gen.MergeBIdeal
public import proofs.«01_k».proof.Proof.Gen.MergeBIdeal.Frame
public import proofs.«01_k».proof.Proof.Gen.MergeBIdeal.Value
public import proofs.«01_k».proof.Proof.Gen.MergeBRefIdeal
public import proofs.«01_k».proof.Proof.Gen.MergeBRefIdeal.Run
public import proofs.«01_k».proof.Proof.Gen.OutprojB
public import proofs.«01_k».proof.Proof.Gen.OutprojB.Frame
public import proofs.«01_k».proof.Proof.Gen.OutprojBIdeal
public import proofs.«01_k».proof.Proof.Gen.OutprojBIdeal.Frame
public import proofs.«01_k».proof.Proof.Gen.OutprojBIdeal.Value
public import proofs.«01_k».proof.Proof.Gen.OutprojBRefIdeal
public import proofs.«01_k».proof.Proof.Gen.OutprojBRefIdeal.Run
public import proofs.«01_k».proof.Proof.MlpBRef
public import proofs.«01_k».proof.Proof.MergeBClaim
public import proofs.«01_k».proof.Proof.OutprojBClaim
public import proofs.«01_k».proof.Proof.Gen.InprojB
public import proofs.«01_k».proof.Proof.Gen.InprojBIdeal
public import proofs.«01_k».proof.Proof.Gen.InprojBRefIdeal
public import proofs.«01_k».proof.Proof.InprojBFrame
public import proofs.«01_k».proof.Proof.InprojBClaim
public import proofs.«01_k».proof.Proof.Gen.MlpS
public import proofs.«01_k».proof.Proof.Gen.MlpS.Frame
public import proofs.«01_k».proof.Proof.Gen.MlpSIdeal
public import proofs.«01_k».proof.Proof.Gen.MlpSIdeal.Frame
public import proofs.«01_k».proof.Proof.Gen.MlpSIdeal.Value
public import proofs.«01_k».proof.Proof.Gen.MlpSRefIdeal
public import proofs.«01_k».proof.Proof.Gen.MlpSRefIdeal.Run
public import proofs.«01_k».proof.Proof.Gen.MergeS
public import proofs.«01_k».proof.Proof.Gen.MergeS.Frame
public import proofs.«01_k».proof.Proof.Gen.MergeSIdeal
public import proofs.«01_k».proof.Proof.Gen.MergeSIdeal.Frame
public import proofs.«01_k».proof.Proof.Gen.MergeSIdeal.Value
public import proofs.«01_k».proof.Proof.Gen.MergeSRefIdeal
public import proofs.«01_k».proof.Proof.Gen.MergeSRefIdeal.Run
public import proofs.«01_k».proof.Proof.Gen.OutprojS
public import proofs.«01_k».proof.Proof.Gen.OutprojS.Frame
public import proofs.«01_k».proof.Proof.Gen.OutprojSIdeal
public import proofs.«01_k».proof.Proof.Gen.OutprojSIdeal.Frame
public import proofs.«01_k».proof.Proof.Gen.OutprojSIdeal.Value
public import proofs.«01_k».proof.Proof.Gen.OutprojSRefIdeal
public import proofs.«01_k».proof.Proof.Gen.OutprojSRefIdeal.Run
public import proofs.«01_k».proof.Proof.Gen.InprojS
public import proofs.«01_k».proof.Proof.Gen.InprojSIdeal
public import proofs.«01_k».proof.Proof.Gen.InprojSRefIdeal
public import proofs.«01_k».proof.Proof.Gen.MlpSB
public import proofs.«01_k».proof.Proof.Gen.MlpSB.Frame
public import proofs.«01_k».proof.Proof.Gen.MlpSBIdeal
public import proofs.«01_k».proof.Proof.Gen.MlpSBIdeal.Frame
public import proofs.«01_k».proof.Proof.Gen.MlpSBIdeal.Value
public import proofs.«01_k».proof.Proof.Gen.MlpSBRefIdeal
public import proofs.«01_k».proof.Proof.Gen.MlpSBRefIdeal.Run
public import proofs.«01_k».proof.Proof.Gen.MergeSB
public import proofs.«01_k».proof.Proof.Gen.MergeSB.Frame
public import proofs.«01_k».proof.Proof.Gen.MergeSBIdeal
public import proofs.«01_k».proof.Proof.Gen.MergeSBIdeal.Frame
public import proofs.«01_k».proof.Proof.Gen.MergeSBIdeal.Value
public import proofs.«01_k».proof.Proof.Gen.MergeSBRefIdeal
public import proofs.«01_k».proof.Proof.Gen.MergeSBRefIdeal.Run
public import proofs.«01_k».proof.Proof.Gen.OutprojSB
public import proofs.«01_k».proof.Proof.Gen.OutprojSB.Frame
public import proofs.«01_k».proof.Proof.Gen.OutprojSBIdeal
public import proofs.«01_k».proof.Proof.Gen.OutprojSBIdeal.Frame
public import proofs.«01_k».proof.Proof.Gen.OutprojSBIdeal.Value
public import proofs.«01_k».proof.Proof.Gen.OutprojSBRefIdeal
public import proofs.«01_k».proof.Proof.Gen.OutprojSBRefIdeal.Run
public import proofs.«01_k».proof.Proof.Gen.InprojSB
public import proofs.«01_k».proof.Proof.Gen.InprojSBIdeal
public import proofs.«01_k».proof.Proof.Gen.InprojSBRefIdeal
public import proofs.«01_k».proof.Proof.MlpSRef
public import proofs.«01_k».proof.Proof.MergeSClaim
public import proofs.«01_k».proof.Proof.OutprojSClaim
public import proofs.«01_k».proof.Proof.InprojSFrame
public import proofs.«01_k».proof.Proof.InprojSClaim
public import proofs.«01_k».proof.Proof.MlpSBRef
public import proofs.«01_k».proof.Proof.MergeSBClaim
public import proofs.«01_k».proof.Proof.OutprojSBClaim
public import proofs.«01_k».proof.Proof.InprojSBFrame
public import proofs.«01_k».proof.Proof.InprojSBClaim
public import proofs.«01_k».proof.Proof.Gen.Lf
public import proofs.«01_k».proof.Proof.Gen.Lf.Frame
public import proofs.«01_k».proof.Proof.Gen.LfIdeal
public import proofs.«01_k».proof.Proof.Gen.LfIdeal.Frame
public import proofs.«01_k».proof.Proof.Gen.LfIdeal.Value
public import proofs.«01_k».proof.Proof.Gen.LfRefIdeal
public import proofs.«01_k».proof.Proof.Gen.LfRefIdeal.Run
public import proofs.«01_k».proof.Proof.Gen.Pre_finite_lf
public import proofs.«01_k».proof.Proof.LfClaim
public import proofs.«01_k».proof.Proof.Gen.Mlstm
public import proofs.«01_k».proof.Proof.Gen.Mlstm.Frame
public import proofs.«01_k».proof.Proof.Gen.MlstmIdeal
public import proofs.«01_k».proof.Proof.Gen.MlstmIdeal.Frame
public import proofs.«01_k».proof.Proof.Gen.MlstmIdeal.Value
public import proofs.«01_k».proof.Proof.Gen.MlstmRefIdeal
public import proofs.«01_k».proof.Proof.Gen.MlstmRefIdeal.Run
public import proofs.«01_k».proof.Proof.MlstmClaim
public import Idealize.ShloMosaic.Adequacy
public import Idealize.ShloMosaic.Init

@[expose] public section

noncomputable section

namespace Cert.Proof

open Idealize.ShloMosaic Idealize.SL.Sem

/-- The attention reference runs, keeps its arguments and leaves every counter at zero. -/
theorem frame_flash_ref (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1))
        ∧ r.2.sem = fun _ => 0) :=
  (θ_run ReferenceIdeal.defs _ _).mono (fun r h => ⟨fun c => (h c).2, Idealize.ShloMosaic.sem_eq_zero_of_no_sems (by decide) r.2⟩)
    (ReferenceIdeal.Value.run (F := Ideal) m g)

/-- The attention kernel and its reference end with the same array. -/
theorem algebraic_flash : algebraic_KernelIdeal_ReferenceIdeal_pre_finite (hKernelIdeal := KernelIdeal.Gen.facts)
    (hReferenceIdeal := ReferenceIdeal.Gen.facts) (hPre_finite := Pre_finite.Gen.facts) := by
  intro m ρ m' ρ' hpre hagree
  refine ⟨fun c => (KernelIdeal.Gen.dats m 0 c).arrAt 4 (KernelIdeal.cfgs 0).N, KernelIdeal.Value.run_blocks m ρ, ?_⟩
  refine (θ_run ReferenceIdeal.defs _ _).mono (fun r h c => ⟨(h c).1.trans ?_, (h c).2⟩) (ReferenceIdeal.Value.run (F := Ideal) m' ρ')
  obtain ⟨hz, hc⟩ := Flash.finite_real _ _ (hpre c)
  refine (Flash.ref_final m' c _ _ (fun i => (congrFun (hagree c).1 i).trans (hz i)) (fun i => (congrFun (hagree c).2 i).trans (hc i))).trans ?_
  exact (KernelIdeal.Flash.final m c _ _ hz hc).symm

/-- The feed-forward reference runs, keeps its arguments and leaves every counter at zero. -/
theorem frame_MlpRefIdeal (m : (ℓ : Loc MlpRefIdeal.nD MlpRefIdeal.τ MlpRefIdeal.sig) → Buf (Elt Ideal) ℓ) (g : Dev MlpRefIdeal.nD → PrngReg) :
    θ_run (MlpRefIdeal.defs (F := Ideal)) (onTc (τ := MlpRefIdeal.τ) (MlpRefIdeal.main (F := Ideal))) ⟨m, fun _ => 0, g⟩
      (fun r => (∀ c : Dev MlpRefIdeal.nD,
        r.2.mem ((c.tc : Thread MlpRefIdeal.nD MlpRefIdeal.τ).loc MlpRefIdeal.main_arg0) = m ((c.tc : Thread MlpRefIdeal.nD MlpRefIdeal.τ).loc MlpRefIdeal.main_arg0)
        ∧ r.2.mem ((c.tc : Thread MlpRefIdeal.nD MlpRefIdeal.τ).loc MlpRefIdeal.main_arg1) = m ((c.tc : Thread MlpRefIdeal.nD MlpRefIdeal.τ).loc MlpRefIdeal.main_arg1)
        ∧ r.2.mem ((c.tc : Thread MlpRefIdeal.nD MlpRefIdeal.τ).loc MlpRefIdeal.main_arg2) = m ((c.tc : Thread MlpRefIdeal.nD MlpRefIdeal.τ).loc MlpRefIdeal.main_arg2)
        ∧ r.2.mem ((c.tc : Thread MlpRefIdeal.nD MlpRefIdeal.τ).loc MlpRefIdeal.main_arg3) = m ((c.tc : Thread MlpRefIdeal.nD MlpRefIdeal.τ).loc MlpRefIdeal.main_arg3)
        ∧ r.2.mem ((c.tc : Thread MlpRefIdeal.nD MlpRefIdeal.τ).loc MlpRefIdeal.main_arg4) = m ((c.tc : Thread MlpRefIdeal.nD MlpRefIdeal.τ).loc MlpRefIdeal.main_arg4))
        ∧ r.2.sem = fun _ => 0) :=
  (θ_run MlpRefIdeal.defs _ _).mono (fun r h => ⟨fun c => (h c).2, Idealize.ShloMosaic.sem_eq_zero_of_no_sems (by decide) r.2⟩)
    (MlpRefIdeal.Value.run (F := Ideal) m g)

/-- The feed-forward kernel and its reference end with the same array. -/
theorem algebraic_Mlp : algebraic_MlpIdeal_MlpRefIdeal (hMlpIdeal := MlpIdeal.Gen.facts) (hMlpRefIdeal := MlpRefIdeal.Gen.facts) := by
  intro m ρ m' ρ' _ hagree
  refine ⟨fun c => (MlpIdeal.Gen.dats m 0 c).arrAt 5 (MlpIdeal.cfgs 0).N, MlpIdeal.Value.run_blocks m ρ, ?_⟩
  refine (θ_run MlpRefIdeal.defs _ _).mono (fun r h c => ⟨(h c).1.trans ?_, (h c).2⟩) (MlpRefIdeal.Value.run (F := Ideal) m' ρ')
  obtain ⟨h0, h1, h2, h3, h4⟩ := hagree c
  refine (MlpRefIdeal.Layer.stages m' c).trans ?_
  rw [h0, h1, h2, h3, h4]
  exact (MlpRefIdeal.Layer.ref_eq _ _ _ _ _).trans (MlpIdeal.Layer.final m c).symm

/-- The merge reference runs, keeps its arguments and leaves every counter at zero. -/
theorem frame_MergeRefIdeal (m : (ℓ : Loc MergeRefIdeal.nD MergeRefIdeal.τ MergeRefIdeal.sig) → Buf (Elt Ideal) ℓ) (g : Dev MergeRefIdeal.nD → PrngReg) :
    θ_run (MergeRefIdeal.defs (F := Ideal)) (onTc (τ := MergeRefIdeal.τ) (MergeRefIdeal.main (F := Ideal))) ⟨m, fun _ => 0, g⟩
      (fun r => (∀ c : Dev MergeRefIdeal.nD,
        r.2.mem ((c.tc : Thread MergeRefIdeal.nD MergeRefIdeal.τ).loc MergeRefIdeal.main_arg0) = m ((c.tc : Thread MergeRefIdeal.nD MergeRefIdeal.τ).loc MergeRefIdeal.main_arg0)
        ∧ r.2.mem ((c.tc : Thread MergeRefIdeal.nD MergeRefIdeal.τ).loc MergeRefIdeal.main_arg1) = m ((c.tc : Thread MergeRefIdeal.nD MergeRefIdeal.τ).loc MergeRefIdeal.main_arg1)
        ∧ r.2.mem ((c.tc : Thread MergeRefIdeal.nD MergeRefIdeal.τ).loc MergeRefIdeal.main_arg2) = m ((c.tc : Thread MergeRefIdeal.nD MergeRefIdeal.τ).loc MergeRefIdeal.main_arg2)
        ∧ r.2.mem ((c.tc : Thread MergeRefIdeal.nD MergeRefIdeal.τ).loc MergeRefIdeal.main_arg3) = m ((c.tc : Thread MergeRefIdeal.nD MergeRefIdeal.τ).loc MergeRefIdeal.main_arg3)
        ∧ r.2.mem ((c.tc : Thread MergeRefIdeal.nD MergeRefIdeal.τ).loc MergeRefIdeal.main_arg4) = m ((c.tc : Thread MergeRefIdeal.nD MergeRefIdeal.τ).loc MergeRefIdeal.main_arg4))
        ∧ r.2.sem = fun _ => 0) :=
  (θ_run MergeRefIdeal.defs _ _).mono (fun r h => ⟨fun c => (h c).2, Idealize.ShloMosaic.sem_eq_zero_of_no_sems (by decide) r.2⟩)
    (MergeRefIdeal.Value.run (F := Ideal) m g)

/-- The merge kernel and its reference end with the same array. -/
theorem algebraic_Merge : algebraic_MergeIdeal_MergeRefIdeal (hMergeIdeal := MergeIdeal.Gen.facts) (hMergeRefIdeal := MergeRefIdeal.Gen.facts) := by
  intro m ρ m' ρ' _ hagree
  refine ⟨fun c => (MergeIdeal.Gen.dats m 0 c).arrAt 7 (MergeIdeal.cfgs 0).N, MergeIdeal.Value.run_blocks m ρ, ?_⟩
  refine (θ_run MergeRefIdeal.defs _ _).mono (fun r h c => ⟨(h c).1.trans ?_, (h c).2⟩) (MergeRefIdeal.Value.run (F := Ideal) m' ρ')
  obtain ⟨h0, h1, h2, h3, h4⟩ := hagree c
  rw [h0, h1, h2, h3, h4]
  exact (MergeRefIdeal.Layer.ref_eq _ _ _ _ _).trans (MergeIdeal.Layer.final m c).symm

/-- The output projection reference runs, keeps its arguments and leaves every counter at zero. -/
theorem frame_OutprojRefIdeal (m : (ℓ : Loc OutprojRefIdeal.nD OutprojRefIdeal.τ OutprojRefIdeal.sig) → Buf (Elt Ideal) ℓ) (g : Dev OutprojRefIdeal.nD → PrngReg) :
    θ_run (OutprojRefIdeal.defs (F := Ideal)) (onTc (τ := OutprojRefIdeal.τ) (OutprojRefIdeal.main (F := Ideal))) ⟨m, fun _ => 0, g⟩
      (fun r => (∀ c : Dev OutprojRefIdeal.nD,
        r.2.mem ((c.tc : Thread OutprojRefIdeal.nD OutprojRefIdeal.τ).loc OutprojRefIdeal.main_arg0) = m ((c.tc : Thread OutprojRefIdeal.nD OutprojRefIdeal.τ).loc OutprojRefIdeal.main_arg0)
        ∧ r.2.mem ((c.tc : Thread OutprojRefIdeal.nD OutprojRefIdeal.τ).loc OutprojRefIdeal.main_arg1) = m ((c.tc : Thread OutprojRefIdeal.nD OutprojRefIdeal.τ).loc OutprojRefIdeal.main_arg1)
        ∧ r.2.mem ((c.tc : Thread OutprojRefIdeal.nD OutprojRefIdeal.τ).loc OutprojRefIdeal.main_arg2) = m ((c.tc : Thread OutprojRefIdeal.nD OutprojRefIdeal.τ).loc OutprojRefIdeal.main_arg2)
        ∧ r.2.mem ((c.tc : Thread OutprojRefIdeal.nD OutprojRefIdeal.τ).loc OutprojRefIdeal.main_arg3) = m ((c.tc : Thread OutprojRefIdeal.nD OutprojRefIdeal.τ).loc OutprojRefIdeal.main_arg3))
        ∧ r.2.sem = fun _ => 0) :=
  (θ_run OutprojRefIdeal.defs _ _).mono (fun r h => ⟨fun c => (h c).2, Idealize.ShloMosaic.sem_eq_zero_of_no_sems (by decide) r.2⟩)
    (OutprojRefIdeal.Value.run (F := Ideal) m g)

/-- The output projection kernel and its reference end with the same array. -/
theorem algebraic_Outproj : algebraic_OutprojIdeal_OutprojRefIdeal (hOutprojIdeal := OutprojIdeal.Gen.facts) (hOutprojRefIdeal := OutprojRefIdeal.Gen.facts) := by
  intro m ρ m' ρ' _ hagree
  refine ⟨fun c => (OutprojIdeal.Gen.dats m 0 c).arrAt 4 (OutprojIdeal.cfgs 0).N, OutprojIdeal.Value.run_blocks m ρ, ?_⟩
  refine (θ_run OutprojRefIdeal.defs _ _).mono (fun r h c => ⟨(h c).1.trans ?_, (h c).2⟩) (OutprojRefIdeal.Value.run (F := Ideal) m' ρ')
  obtain ⟨h0, h1, h2, h3⟩ := hagree c
  rw [h0, h1, h2, h3]
  exact (OutprojRefIdeal.Layer.ref_eq _ _ _ _).trans (OutprojIdeal.Layer.final m c).symm

/-- The input projection reference runs, keeps its arguments and leaves every counter at zero. -/
theorem frame_InprojRefIdeal (m : (ℓ : Loc InprojRefIdeal.nD InprojRefIdeal.τ InprojRefIdeal.sig) → Buf (Elt Ideal) ℓ) (g : Dev InprojRefIdeal.nD → PrngReg) :
    θ_run (InprojRefIdeal.defs (F := Ideal)) (onTc (τ := InprojRefIdeal.τ) (InprojRefIdeal.main (F := Ideal))) ⟨m, fun _ => 0, g⟩
      (fun r => (∀ c : Dev InprojRefIdeal.nD,
        r.2.mem ((c.tc : Thread InprojRefIdeal.nD InprojRefIdeal.τ).loc InprojRefIdeal.main_arg0) = m ((c.tc : Thread InprojRefIdeal.nD InprojRefIdeal.τ).loc InprojRefIdeal.main_arg0)
        ∧ r.2.mem ((c.tc : Thread InprojRefIdeal.nD InprojRefIdeal.τ).loc InprojRefIdeal.main_arg1) = m ((c.tc : Thread InprojRefIdeal.nD InprojRefIdeal.τ).loc InprojRefIdeal.main_arg1)
        ∧ r.2.mem ((c.tc : Thread InprojRefIdeal.nD InprojRefIdeal.τ).loc InprojRefIdeal.main_arg2) = m ((c.tc : Thread InprojRefIdeal.nD InprojRefIdeal.τ).loc InprojRefIdeal.main_arg2)
        ∧ r.2.mem ((c.tc : Thread InprojRefIdeal.nD InprojRefIdeal.τ).loc InprojRefIdeal.main_arg3) = m ((c.tc : Thread InprojRefIdeal.nD InprojRefIdeal.τ).loc InprojRefIdeal.main_arg3))
        ∧ r.2.sem = fun _ => 0) :=
  (θ_run InprojRefIdeal.defs _ _).mono (fun r h => ⟨fun c => (h c).2.2, Idealize.ShloMosaic.sem_eq_zero_of_no_sems (by decide) r.2⟩)
    (InprojRefIdeal.Value.run (F := Ideal) m g)

/-- The input projection kernel and its reference end with the same two arrays. -/
theorem algebraic_Inproj : algebraic_InprojIdeal_InprojRefIdeal (hInprojIdeal := InprojIdeal.Gen.facts) (hInprojRefIdeal := InprojRefIdeal.Gen.facts) := by
  intro m ρ m' ρ' _ hagree
  refine ⟨fun c => (InprojIdeal.Layer.dats m 0 c).arrAt 4 (InprojIdeal.cfgs 0).N, fun c => (InprojIdeal.Layer.dats m 0 c).arrAt 5 (InprojIdeal.cfgs 0).N,
    InprojIdeal.Layer.run_blocks m ρ, ?_⟩
  refine (θ_run InprojRefIdeal.defs _ _).mono (fun r h c => ⟨(h c).1.trans ?_, (h c).2.1.trans ?_, (h c).2.2⟩) (InprojRefIdeal.Value.run (F := Ideal) m' ρ')
  · obtain ⟨h0, h1, h2, h3⟩ := hagree c
    rw [h0, h1, h2]
    exact (InprojRefIdeal.Layer.wide_eq _ _ _).trans (InprojIdeal.Layer.final_wide m c).symm
  · obtain ⟨h0, h1, h2, h3⟩ := hagree c
    rw [h0, h1, h3]
    exact (InprojRefIdeal.Layer.narrow_eq _ _ _).trans (InprojIdeal.Layer.final_narrow m c).symm

/-- In the second layer, the feed-forward reference runs, keeps its arguments and leaves every counter at zero. -/
theorem frame_MlpBRefIdeal (m : (ℓ : Loc MlpBRefIdeal.nD MlpBRefIdeal.τ MlpBRefIdeal.sig) → Buf (Elt Ideal) ℓ) (g : Dev MlpBRefIdeal.nD → PrngReg) :
    θ_run (MlpBRefIdeal.defs (F := Ideal)) (onTc (τ := MlpBRefIdeal.τ) (MlpBRefIdeal.main (F := Ideal))) ⟨m, fun _ => 0, g⟩
      (fun r => (∀ c : Dev MlpBRefIdeal.nD,
        r.2.mem ((c.tc : Thread MlpBRefIdeal.nD MlpBRefIdeal.τ).loc MlpBRefIdeal.main_arg0) = m ((c.tc : Thread MlpBRefIdeal.nD MlpBRefIdeal.τ).loc MlpBRefIdeal.main_arg0)
        ∧ r.2.mem ((c.tc : Thread MlpBRefIdeal.nD MlpBRefIdeal.τ).loc MlpBRefIdeal.main_arg1) = m ((c.tc : Thread MlpBRefIdeal.nD MlpBRefIdeal.τ).loc MlpBRefIdeal.main_arg1)
        ∧ r.2.mem ((c.tc : Thread MlpBRefIdeal.nD MlpBRefIdeal.τ).loc MlpBRefIdeal.main_arg2) = m ((c.tc : Thread MlpBRefIdeal.nD MlpBRefIdeal.τ).loc MlpBRefIdeal.main_arg2)
        ∧ r.2.mem ((c.tc : Thread MlpBRefIdeal.nD MlpBRefIdeal.τ).loc MlpBRefIdeal.main_arg3) = m ((c.tc : Thread MlpBRefIdeal.nD MlpBRefIdeal.τ).loc MlpBRefIdeal.main_arg3)
        ∧ r.2.mem ((c.tc : Thread MlpBRefIdeal.nD MlpBRefIdeal.τ).loc MlpBRefIdeal.main_arg4) = m ((c.tc : Thread MlpBRefIdeal.nD MlpBRefIdeal.τ).loc MlpBRefIdeal.main_arg4))
        ∧ r.2.sem = fun _ => 0) :=
  (θ_run MlpBRefIdeal.defs _ _).mono (fun r h => ⟨fun c => (h c).2, Idealize.ShloMosaic.sem_eq_zero_of_no_sems (by decide) r.2⟩)
    (MlpBRefIdeal.Value.run (F := Ideal) m g)

/-- In the second layer, the feed-forward kernel and its reference end with the same array. -/
theorem algebraic_MlpB : algebraic_MlpBIdeal_MlpBRefIdeal (hMlpBIdeal := MlpBIdeal.Gen.facts) (hMlpBRefIdeal := MlpBRefIdeal.Gen.facts) := by
  intro m ρ m' ρ' _ hagree
  refine ⟨fun c => (MlpBIdeal.Gen.dats m 0 c).arrAt 5 (MlpBIdeal.cfgs 0).N, MlpBIdeal.Value.run_blocks m ρ, ?_⟩
  refine (θ_run MlpBRefIdeal.defs _ _).mono (fun r h c => ⟨(h c).1.trans ?_, (h c).2⟩) (MlpBRefIdeal.Value.run (F := Ideal) m' ρ')
  obtain ⟨h0, h1, h2, h3, h4⟩ := hagree c
  refine (MlpBRefIdeal.Layer.stages m' c).trans ?_
  rw [h0, h1, h2, h3, h4]
  exact (MlpBRefIdeal.Layer.ref_eq _ _ _ _ _).trans (MlpBIdeal.Layer.final m c).symm

/-- In the second layer, the merge reference runs, keeps its arguments and leaves every counter at zero. -/
theorem frame_MergeBRefIdeal (m : (ℓ : Loc MergeBRefIdeal.nD MergeBRefIdeal.τ MergeBRefIdeal.sig) → Buf (Elt Ideal) ℓ) (g : Dev MergeBRefIdeal.nD → PrngReg) :
    θ_run (MergeBRefIdeal.defs (F := Ideal)) (onTc (τ := MergeBRefIdeal.τ) (MergeBRefIdeal.main (F := Ideal))) ⟨m, fun _ => 0, g⟩
      (fun r => (∀ c : Dev MergeBRefIdeal.nD,
        r.2.mem ((c.tc : Thread MergeBRefIdeal.nD MergeBRefIdeal.τ).loc MergeBRefIdeal.main_arg0) = m ((c.tc : Thread MergeBRefIdeal.nD MergeBRefIdeal.τ).loc MergeBRefIdeal.main_arg0)
        ∧ r.2.mem ((c.tc : Thread MergeBRefIdeal.nD MergeBRefIdeal.τ).loc MergeBRefIdeal.main_arg1) = m ((c.tc : Thread MergeBRefIdeal.nD MergeBRefIdeal.τ).loc MergeBRefIdeal.main_arg1)
        ∧ r.2.mem ((c.tc : Thread MergeBRefIdeal.nD MergeBRefIdeal.τ).loc MergeBRefIdeal.main_arg2) = m ((c.tc : Thread MergeBRefIdeal.nD MergeBRefIdeal.τ).loc MergeBRefIdeal.main_arg2)
        ∧ r.2.mem ((c.tc : Thread MergeBRefIdeal.nD MergeBRefIdeal.τ).loc MergeBRefIdeal.main_arg3) = m ((c.tc : Thread MergeBRefIdeal.nD MergeBRefIdeal.τ).loc MergeBRefIdeal.main_arg3)
        ∧ r.2.mem ((c.tc : Thread MergeBRefIdeal.nD MergeBRefIdeal.τ).loc MergeBRefIdeal.main_arg4) = m ((c.tc : Thread MergeBRefIdeal.nD MergeBRefIdeal.τ).loc MergeBRefIdeal.main_arg4))
        ∧ r.2.sem = fun _ => 0) :=
  (θ_run MergeBRefIdeal.defs _ _).mono (fun r h => ⟨fun c => (h c).2, Idealize.ShloMosaic.sem_eq_zero_of_no_sems (by decide) r.2⟩)
    (MergeBRefIdeal.Value.run (F := Ideal) m g)

/-- In the second layer, the merge kernel and its reference end with the same array. -/
theorem algebraic_MergeB : algebraic_MergeBIdeal_MergeBRefIdeal (hMergeBIdeal := MergeBIdeal.Gen.facts) (hMergeBRefIdeal := MergeBRefIdeal.Gen.facts) := by
  intro m ρ m' ρ' _ hagree
  refine ⟨fun c => (MergeBIdeal.Gen.dats m 0 c).arrAt 7 (MergeBIdeal.cfgs 0).N, MergeBIdeal.Value.run_blocks m ρ, ?_⟩
  refine (θ_run MergeBRefIdeal.defs _ _).mono (fun r h c => ⟨(h c).1.trans ?_, (h c).2⟩) (MergeBRefIdeal.Value.run (F := Ideal) m' ρ')
  obtain ⟨h0, h1, h2, h3, h4⟩ := hagree c
  rw [h0, h1, h2, h3, h4]
  exact (MergeBRefIdeal.Layer.ref_eq _ _ _ _ _).trans (MergeBIdeal.Layer.final m c).symm

/-- In the second layer, the output projection reference runs, keeps its arguments and leaves every counter at zero. -/
theorem frame_OutprojBRefIdeal (m : (ℓ : Loc OutprojBRefIdeal.nD OutprojBRefIdeal.τ OutprojBRefIdeal.sig) → Buf (Elt Ideal) ℓ) (g : Dev OutprojBRefIdeal.nD → PrngReg) :
    θ_run (OutprojBRefIdeal.defs (F := Ideal)) (onTc (τ := OutprojBRefIdeal.τ) (OutprojBRefIdeal.main (F := Ideal))) ⟨m, fun _ => 0, g⟩
      (fun r => (∀ c : Dev OutprojBRefIdeal.nD,
        r.2.mem ((c.tc : Thread OutprojBRefIdeal.nD OutprojBRefIdeal.τ).loc OutprojBRefIdeal.main_arg0) = m ((c.tc : Thread OutprojBRefIdeal.nD OutprojBRefIdeal.τ).loc OutprojBRefIdeal.main_arg0)
        ∧ r.2.mem ((c.tc : Thread OutprojBRefIdeal.nD OutprojBRefIdeal.τ).loc OutprojBRefIdeal.main_arg1) = m ((c.tc : Thread OutprojBRefIdeal.nD OutprojBRefIdeal.τ).loc OutprojBRefIdeal.main_arg1)
        ∧ r.2.mem ((c.tc : Thread OutprojBRefIdeal.nD OutprojBRefIdeal.τ).loc OutprojBRefIdeal.main_arg2) = m ((c.tc : Thread OutprojBRefIdeal.nD OutprojBRefIdeal.τ).loc OutprojBRefIdeal.main_arg2)
        ∧ r.2.mem ((c.tc : Thread OutprojBRefIdeal.nD OutprojBRefIdeal.τ).loc OutprojBRefIdeal.main_arg3) = m ((c.tc : Thread OutprojBRefIdeal.nD OutprojBRefIdeal.τ).loc OutprojBRefIdeal.main_arg3))
        ∧ r.2.sem = fun _ => 0) :=
  (θ_run OutprojBRefIdeal.defs _ _).mono (fun r h => ⟨fun c => (h c).2, Idealize.ShloMosaic.sem_eq_zero_of_no_sems (by decide) r.2⟩)
    (OutprojBRefIdeal.Value.run (F := Ideal) m g)

/-- In the second layer, the output projection kernel and its reference end with the same array. -/
theorem algebraic_OutprojB : algebraic_OutprojBIdeal_OutprojBRefIdeal (hOutprojBIdeal := OutprojBIdeal.Gen.facts) (hOutprojBRefIdeal := OutprojBRefIdeal.Gen.facts) := by
  intro m ρ m' ρ' _ hagree
  refine ⟨fun c => (OutprojBIdeal.Gen.dats m 0 c).arrAt 4 (OutprojBIdeal.cfgs 0).N, OutprojBIdeal.Value.run_blocks m ρ, ?_⟩
  refine (θ_run OutprojBRefIdeal.defs _ _).mono (fun r h c => ⟨(h c).1.trans ?_, (h c).2⟩) (OutprojBRefIdeal.Value.run (F := Ideal) m' ρ')
  obtain ⟨h0, h1, h2, h3⟩ := hagree c
  rw [h0, h1, h2, h3]
  exact (OutprojBRefIdeal.Layer.ref_eq _ _ _ _).trans (OutprojBIdeal.Layer.final m c).symm

/-- In the second layer, the input projection reference runs, keeps its arguments and leaves every counter at zero. -/
theorem frame_InprojBRefIdeal (m : (ℓ : Loc InprojBRefIdeal.nD InprojBRefIdeal.τ InprojBRefIdeal.sig) → Buf (Elt Ideal) ℓ) (g : Dev InprojBRefIdeal.nD → PrngReg) :
    θ_run (InprojBRefIdeal.defs (F := Ideal)) (onTc (τ := InprojBRefIdeal.τ) (InprojBRefIdeal.main (F := Ideal))) ⟨m, fun _ => 0, g⟩
      (fun r => (∀ c : Dev InprojBRefIdeal.nD,
        r.2.mem ((c.tc : Thread InprojBRefIdeal.nD InprojBRefIdeal.τ).loc InprojBRefIdeal.main_arg0) = m ((c.tc : Thread InprojBRefIdeal.nD InprojBRefIdeal.τ).loc InprojBRefIdeal.main_arg0)
        ∧ r.2.mem ((c.tc : Thread InprojBRefIdeal.nD InprojBRefIdeal.τ).loc InprojBRefIdeal.main_arg1) = m ((c.tc : Thread InprojBRefIdeal.nD InprojBRefIdeal.τ).loc InprojBRefIdeal.main_arg1)
        ∧ r.2.mem ((c.tc : Thread InprojBRefIdeal.nD InprojBRefIdeal.τ).loc InprojBRefIdeal.main_arg2) = m ((c.tc : Thread InprojBRefIdeal.nD InprojBRefIdeal.τ).loc InprojBRefIdeal.main_arg2)
        ∧ r.2.mem ((c.tc : Thread InprojBRefIdeal.nD InprojBRefIdeal.τ).loc InprojBRefIdeal.main_arg3) = m ((c.tc : Thread InprojBRefIdeal.nD InprojBRefIdeal.τ).loc InprojBRefIdeal.main_arg3))
        ∧ r.2.sem = fun _ => 0) :=
  (θ_run InprojBRefIdeal.defs _ _).mono (fun r h => ⟨fun c => (h c).2.2, Idealize.ShloMosaic.sem_eq_zero_of_no_sems (by decide) r.2⟩)
    (InprojBRefIdeal.Value.run (F := Ideal) m g)

/-- In the second layer, the input projection kernel and its reference end with the same two arrays. -/
theorem algebraic_InprojB : algebraic_InprojBIdeal_InprojBRefIdeal (hInprojBIdeal := InprojBIdeal.Gen.facts) (hInprojBRefIdeal := InprojBRefIdeal.Gen.facts) := by
  intro m ρ m' ρ' _ hagree
  refine ⟨fun c => (InprojBIdeal.Layer.dats m 0 c).arrAt 4 (InprojBIdeal.cfgs 0).N, fun c => (InprojBIdeal.Layer.dats m 0 c).arrAt 5 (InprojBIdeal.cfgs 0).N,
    InprojBIdeal.Layer.run_blocks m ρ, ?_⟩
  refine (θ_run InprojBRefIdeal.defs _ _).mono (fun r h c => ⟨(h c).1.trans ?_, (h c).2.1.trans ?_, (h c).2.2⟩) (InprojBRefIdeal.Value.run (F := Ideal) m' ρ')
  · obtain ⟨h0, h1, h2, h3⟩ := hagree c
    rw [h0, h1, h2]
    exact (InprojBRefIdeal.Layer.wide_eq _ _ _).trans (InprojBIdeal.Layer.final_wide m c).symm
  · obtain ⟨h0, h1, h2, h3⟩ := hagree c
    rw [h0, h1, h3]
    exact (InprojBRefIdeal.Layer.narrow_eq _ _ _).trans (InprojBIdeal.Layer.final_narrow m c).symm

/-- For the sample group, the feed-forward reference runs, keeps its arguments and leaves every counter at zero. -/
theorem frame_MlpSRefIdeal (m : (ℓ : Loc MlpSRefIdeal.nD MlpSRefIdeal.τ MlpSRefIdeal.sig) → Buf (Elt Ideal) ℓ) (g : Dev MlpSRefIdeal.nD → PrngReg) :
    θ_run (MlpSRefIdeal.defs (F := Ideal)) (onTc (τ := MlpSRefIdeal.τ) (MlpSRefIdeal.main (F := Ideal))) ⟨m, fun _ => 0, g⟩
      (fun r => (∀ c : Dev MlpSRefIdeal.nD,
        r.2.mem ((c.tc : Thread MlpSRefIdeal.nD MlpSRefIdeal.τ).loc MlpSRefIdeal.main_arg0) = m ((c.tc : Thread MlpSRefIdeal.nD MlpSRefIdeal.τ).loc MlpSRefIdeal.main_arg0)
        ∧ r.2.mem ((c.tc : Thread MlpSRefIdeal.nD MlpSRefIdeal.τ).loc MlpSRefIdeal.main_arg1) = m ((c.tc : Thread MlpSRefIdeal.nD MlpSRefIdeal.τ).loc MlpSRefIdeal.main_arg1)
        ∧ r.2.mem ((c.tc : Thread MlpSRefIdeal.nD MlpSRefIdeal.τ).loc MlpSRefIdeal.main_arg2) = m ((c.tc : Thread MlpSRefIdeal.nD MlpSRefIdeal.τ).loc MlpSRefIdeal.main_arg2)
        ∧ r.2.mem ((c.tc : Thread MlpSRefIdeal.nD MlpSRefIdeal.τ).loc MlpSRefIdeal.main_arg3) = m ((c.tc : Thread MlpSRefIdeal.nD MlpSRefIdeal.τ).loc MlpSRefIdeal.main_arg3)
        ∧ r.2.mem ((c.tc : Thread MlpSRefIdeal.nD MlpSRefIdeal.τ).loc MlpSRefIdeal.main_arg4) = m ((c.tc : Thread MlpSRefIdeal.nD MlpSRefIdeal.τ).loc MlpSRefIdeal.main_arg4))
        ∧ r.2.sem = fun _ => 0) :=
  (θ_run MlpSRefIdeal.defs _ _).mono (fun r h => ⟨fun c => (h c).2, Idealize.ShloMosaic.sem_eq_zero_of_no_sems (by decide) r.2⟩)
    (MlpSRefIdeal.Value.run (F := Ideal) m g)

/-- For the sample group, the feed-forward kernel and its reference end with the same array. -/
theorem algebraic_MlpS : algebraic_MlpSIdeal_MlpSRefIdeal (hMlpSIdeal := MlpSIdeal.Gen.facts) (hMlpSRefIdeal := MlpSRefIdeal.Gen.facts) := by
  intro m ρ m' ρ' _ hagree
  refine ⟨fun c => (MlpSIdeal.Gen.dats m 0 c).arrAt 5 (MlpSIdeal.cfgs 0).N, MlpSIdeal.Value.run_blocks m ρ, ?_⟩
  refine (θ_run MlpSRefIdeal.defs _ _).mono (fun r h c => ⟨(h c).1.trans ?_, (h c).2⟩) (MlpSRefIdeal.Value.run (F := Ideal) m' ρ')
  obtain ⟨h0, h1, h2, h3, h4⟩ := hagree c
  refine (MlpSRefIdeal.Layer.stages m' c).trans ?_
  rw [h0, h1, h2, h3, h4]
  exact (MlpSRefIdeal.Layer.ref_eq _ _ _ _ _).trans (MlpSIdeal.Layer.final m c).symm

/-- For the sample group, the merge reference runs, keeps its arguments and leaves every counter at zero. -/
theorem frame_MergeSRefIdeal (m : (ℓ : Loc MergeSRefIdeal.nD MergeSRefIdeal.τ MergeSRefIdeal.sig) → Buf (Elt Ideal) ℓ) (g : Dev MergeSRefIdeal.nD → PrngReg) :
    θ_run (MergeSRefIdeal.defs (F := Ideal)) (onTc (τ := MergeSRefIdeal.τ) (MergeSRefIdeal.main (F := Ideal))) ⟨m, fun _ => 0, g⟩
      (fun r => (∀ c : Dev MergeSRefIdeal.nD,
        r.2.mem ((c.tc : Thread MergeSRefIdeal.nD MergeSRefIdeal.τ).loc MergeSRefIdeal.main_arg0) = m ((c.tc : Thread MergeSRefIdeal.nD MergeSRefIdeal.τ).loc MergeSRefIdeal.main_arg0)
        ∧ r.2.mem ((c.tc : Thread MergeSRefIdeal.nD MergeSRefIdeal.τ).loc MergeSRefIdeal.main_arg1) = m ((c.tc : Thread MergeSRefIdeal.nD MergeSRefIdeal.τ).loc MergeSRefIdeal.main_arg1)
        ∧ r.2.mem ((c.tc : Thread MergeSRefIdeal.nD MergeSRefIdeal.τ).loc MergeSRefIdeal.main_arg2) = m ((c.tc : Thread MergeSRefIdeal.nD MergeSRefIdeal.τ).loc MergeSRefIdeal.main_arg2)
        ∧ r.2.mem ((c.tc : Thread MergeSRefIdeal.nD MergeSRefIdeal.τ).loc MergeSRefIdeal.main_arg3) = m ((c.tc : Thread MergeSRefIdeal.nD MergeSRefIdeal.τ).loc MergeSRefIdeal.main_arg3)
        ∧ r.2.mem ((c.tc : Thread MergeSRefIdeal.nD MergeSRefIdeal.τ).loc MergeSRefIdeal.main_arg4) = m ((c.tc : Thread MergeSRefIdeal.nD MergeSRefIdeal.τ).loc MergeSRefIdeal.main_arg4))
        ∧ r.2.sem = fun _ => 0) :=
  (θ_run MergeSRefIdeal.defs _ _).mono (fun r h => ⟨fun c => (h c).2, Idealize.ShloMosaic.sem_eq_zero_of_no_sems (by decide) r.2⟩)
    (MergeSRefIdeal.Value.run (F := Ideal) m g)

/-- For the sample group, the merge kernel and its reference end with the same array. -/
theorem algebraic_MergeS : algebraic_MergeSIdeal_MergeSRefIdeal (hMergeSIdeal := MergeSIdeal.Gen.facts) (hMergeSRefIdeal := MergeSRefIdeal.Gen.facts) := by
  intro m ρ m' ρ' _ hagree
  refine ⟨fun c => (MergeSIdeal.Gen.dats m 0 c).arrAt 7 (MergeSIdeal.cfgs 0).N, MergeSIdeal.Value.run_blocks m ρ, ?_⟩
  refine (θ_run MergeSRefIdeal.defs _ _).mono (fun r h c => ⟨(h c).1.trans ?_, (h c).2⟩) (MergeSRefIdeal.Value.run (F := Ideal) m' ρ')
  obtain ⟨h0, h1, h2, h3, h4⟩ := hagree c
  rw [h0, h1, h2, h3, h4]
  exact (MergeSRefIdeal.Layer.ref_eq _ _ _ _ _).trans (MergeSIdeal.Layer.final m c).symm

/-- For the sample group, the output projection reference runs, keeps its arguments and leaves every counter at zero. -/
theorem frame_OutprojSRefIdeal (m : (ℓ : Loc OutprojSRefIdeal.nD OutprojSRefIdeal.τ OutprojSRefIdeal.sig) → Buf (Elt Ideal) ℓ) (g : Dev OutprojSRefIdeal.nD → PrngReg) :
    θ_run (OutprojSRefIdeal.defs (F := Ideal)) (onTc (τ := OutprojSRefIdeal.τ) (OutprojSRefIdeal.main (F := Ideal))) ⟨m, fun _ => 0, g⟩
      (fun r => (∀ c : Dev OutprojSRefIdeal.nD,
        r.2.mem ((c.tc : Thread OutprojSRefIdeal.nD OutprojSRefIdeal.τ).loc OutprojSRefIdeal.main_arg0) = m ((c.tc : Thread OutprojSRefIdeal.nD OutprojSRefIdeal.τ).loc OutprojSRefIdeal.main_arg0)
        ∧ r.2.mem ((c.tc : Thread OutprojSRefIdeal.nD OutprojSRefIdeal.τ).loc OutprojSRefIdeal.main_arg1) = m ((c.tc : Thread OutprojSRefIdeal.nD OutprojSRefIdeal.τ).loc OutprojSRefIdeal.main_arg1)
        ∧ r.2.mem ((c.tc : Thread OutprojSRefIdeal.nD OutprojSRefIdeal.τ).loc OutprojSRefIdeal.main_arg2) = m ((c.tc : Thread OutprojSRefIdeal.nD OutprojSRefIdeal.τ).loc OutprojSRefIdeal.main_arg2)
        ∧ r.2.mem ((c.tc : Thread OutprojSRefIdeal.nD OutprojSRefIdeal.τ).loc OutprojSRefIdeal.main_arg3) = m ((c.tc : Thread OutprojSRefIdeal.nD OutprojSRefIdeal.τ).loc OutprojSRefIdeal.main_arg3))
        ∧ r.2.sem = fun _ => 0) :=
  (θ_run OutprojSRefIdeal.defs _ _).mono (fun r h => ⟨fun c => (h c).2, Idealize.ShloMosaic.sem_eq_zero_of_no_sems (by decide) r.2⟩)
    (OutprojSRefIdeal.Value.run (F := Ideal) m g)

/-- For the sample group, the output projection kernel and its reference end with the same array. -/
theorem algebraic_OutprojS : algebraic_OutprojSIdeal_OutprojSRefIdeal (hOutprojSIdeal := OutprojSIdeal.Gen.facts) (hOutprojSRefIdeal := OutprojSRefIdeal.Gen.facts) := by
  intro m ρ m' ρ' _ hagree
  refine ⟨fun c => (OutprojSIdeal.Gen.dats m 0 c).arrAt 4 (OutprojSIdeal.cfgs 0).N, OutprojSIdeal.Value.run_blocks m ρ, ?_⟩
  refine (θ_run OutprojSRefIdeal.defs _ _).mono (fun r h c => ⟨(h c).1.trans ?_, (h c).2⟩) (OutprojSRefIdeal.Value.run (F := Ideal) m' ρ')
  obtain ⟨h0, h1, h2, h3⟩ := hagree c
  rw [h0, h1, h2, h3]
  exact (OutprojSRefIdeal.Layer.ref_eq _ _ _ _).trans (OutprojSIdeal.Layer.final m c).symm

/-- For the sample group, the input projection reference runs, keeps its arguments and leaves every counter at zero. -/
theorem frame_InprojSRefIdeal (m : (ℓ : Loc InprojSRefIdeal.nD InprojSRefIdeal.τ InprojSRefIdeal.sig) → Buf (Elt Ideal) ℓ) (g : Dev InprojSRefIdeal.nD → PrngReg) :
    θ_run (InprojSRefIdeal.defs (F := Ideal)) (onTc (τ := InprojSRefIdeal.τ) (InprojSRefIdeal.main (F := Ideal))) ⟨m, fun _ => 0, g⟩
      (fun r => (∀ c : Dev InprojSRefIdeal.nD,
        r.2.mem ((c.tc : Thread InprojSRefIdeal.nD InprojSRefIdeal.τ).loc InprojSRefIdeal.main_arg0) = m ((c.tc : Thread InprojSRefIdeal.nD InprojSRefIdeal.τ).loc InprojSRefIdeal.main_arg0)
        ∧ r.2.mem ((c.tc : Thread InprojSRefIdeal.nD InprojSRefIdeal.τ).loc InprojSRefIdeal.main_arg1) = m ((c.tc : Thread InprojSRefIdeal.nD InprojSRefIdeal.τ).loc InprojSRefIdeal.main_arg1)
        ∧ r.2.mem ((c.tc : Thread InprojSRefIdeal.nD InprojSRefIdeal.τ).loc InprojSRefIdeal.main_arg2) = m ((c.tc : Thread InprojSRefIdeal.nD InprojSRefIdeal.τ).loc InprojSRefIdeal.main_arg2)
        ∧ r.2.mem ((c.tc : Thread InprojSRefIdeal.nD InprojSRefIdeal.τ).loc InprojSRefIdeal.main_arg3) = m ((c.tc : Thread InprojSRefIdeal.nD InprojSRefIdeal.τ).loc InprojSRefIdeal.main_arg3))
        ∧ r.2.sem = fun _ => 0) :=
  (θ_run InprojSRefIdeal.defs _ _).mono (fun r h => ⟨fun c => (h c).2.2, Idealize.ShloMosaic.sem_eq_zero_of_no_sems (by decide) r.2⟩)
    (InprojSRefIdeal.Value.run (F := Ideal) m g)

/-- For the sample group, the input projection kernel and its reference end with the same two arrays. -/
theorem algebraic_InprojS : algebraic_InprojSIdeal_InprojSRefIdeal (hInprojSIdeal := InprojSIdeal.Gen.facts) (hInprojSRefIdeal := InprojSRefIdeal.Gen.facts) := by
  intro m ρ m' ρ' _ hagree
  refine ⟨fun c => (InprojSIdeal.Layer.dats m 0 c).arrAt 4 (InprojSIdeal.cfgs 0).N, fun c => (InprojSIdeal.Layer.dats m 0 c).arrAt 5 (InprojSIdeal.cfgs 0).N,
    InprojSIdeal.Layer.run_blocks m ρ, ?_⟩
  refine (θ_run InprojSRefIdeal.defs _ _).mono (fun r h c => ⟨(h c).1.trans ?_, (h c).2.1.trans ?_, (h c).2.2⟩) (InprojSRefIdeal.Value.run (F := Ideal) m' ρ')
  · obtain ⟨h0, h1, h2, h3⟩ := hagree c
    rw [h0, h1, h2]
    exact (InprojSRefIdeal.Layer.wide_eq _ _ _).trans (InprojSIdeal.Layer.final_wide m c).symm
  · obtain ⟨h0, h1, h2, h3⟩ := hagree c
    rw [h0, h1, h3]
    exact (InprojSRefIdeal.Layer.narrow_eq _ _ _).trans (InprojSIdeal.Layer.final_narrow m c).symm

/-- In the second layer, for the sample group, the feed-forward reference runs, keeps its arguments and leaves every counter at zero. -/
theorem frame_MlpSBRefIdeal (m : (ℓ : Loc MlpSBRefIdeal.nD MlpSBRefIdeal.τ MlpSBRefIdeal.sig) → Buf (Elt Ideal) ℓ) (g : Dev MlpSBRefIdeal.nD → PrngReg) :
    θ_run (MlpSBRefIdeal.defs (F := Ideal)) (onTc (τ := MlpSBRefIdeal.τ) (MlpSBRefIdeal.main (F := Ideal))) ⟨m, fun _ => 0, g⟩
      (fun r => (∀ c : Dev MlpSBRefIdeal.nD,
        r.2.mem ((c.tc : Thread MlpSBRefIdeal.nD MlpSBRefIdeal.τ).loc MlpSBRefIdeal.main_arg0) = m ((c.tc : Thread MlpSBRefIdeal.nD MlpSBRefIdeal.τ).loc MlpSBRefIdeal.main_arg0)
        ∧ r.2.mem ((c.tc : Thread MlpSBRefIdeal.nD MlpSBRefIdeal.τ).loc MlpSBRefIdeal.main_arg1) = m ((c.tc : Thread MlpSBRefIdeal.nD MlpSBRefIdeal.τ).loc MlpSBRefIdeal.main_arg1)
        ∧ r.2.mem ((c.tc : Thread MlpSBRefIdeal.nD MlpSBRefIdeal.τ).loc MlpSBRefIdeal.main_arg2) = m ((c.tc : Thread MlpSBRefIdeal.nD MlpSBRefIdeal.τ).loc MlpSBRefIdeal.main_arg2)
        ∧ r.2.mem ((c.tc : Thread MlpSBRefIdeal.nD MlpSBRefIdeal.τ).loc MlpSBRefIdeal.main_arg3) = m ((c.tc : Thread MlpSBRefIdeal.nD MlpSBRefIdeal.τ).loc MlpSBRefIdeal.main_arg3)
        ∧ r.2.mem ((c.tc : Thread MlpSBRefIdeal.nD MlpSBRefIdeal.τ).loc MlpSBRefIdeal.main_arg4) = m ((c.tc : Thread MlpSBRefIdeal.nD MlpSBRefIdeal.τ).loc MlpSBRefIdeal.main_arg4))
        ∧ r.2.sem = fun _ => 0) :=
  (θ_run MlpSBRefIdeal.defs _ _).mono (fun r h => ⟨fun c => (h c).2, Idealize.ShloMosaic.sem_eq_zero_of_no_sems (by decide) r.2⟩)
    (MlpSBRefIdeal.Value.run (F := Ideal) m g)

/-- In the second layer, for the sample group, the feed-forward kernel and its reference end with the same array. -/
theorem algebraic_MlpSB : algebraic_MlpSBIdeal_MlpSBRefIdeal (hMlpSBIdeal := MlpSBIdeal.Gen.facts) (hMlpSBRefIdeal := MlpSBRefIdeal.Gen.facts) := by
  intro m ρ m' ρ' _ hagree
  refine ⟨fun c => (MlpSBIdeal.Gen.dats m 0 c).arrAt 5 (MlpSBIdeal.cfgs 0).N, MlpSBIdeal.Value.run_blocks m ρ, ?_⟩
  refine (θ_run MlpSBRefIdeal.defs _ _).mono (fun r h c => ⟨(h c).1.trans ?_, (h c).2⟩) (MlpSBRefIdeal.Value.run (F := Ideal) m' ρ')
  obtain ⟨h0, h1, h2, h3, h4⟩ := hagree c
  refine (MlpSBRefIdeal.Layer.stages m' c).trans ?_
  rw [h0, h1, h2, h3, h4]
  exact (MlpSBRefIdeal.Layer.ref_eq _ _ _ _ _).trans (MlpSBIdeal.Layer.final m c).symm

/-- In the second layer, for the sample group, the merge reference runs, keeps its arguments and leaves every counter at zero. -/
theorem frame_MergeSBRefIdeal (m : (ℓ : Loc MergeSBRefIdeal.nD MergeSBRefIdeal.τ MergeSBRefIdeal.sig) → Buf (Elt Ideal) ℓ) (g : Dev MergeSBRefIdeal.nD → PrngReg) :
    θ_run (MergeSBRefIdeal.defs (F := Ideal)) (onTc (τ := MergeSBRefIdeal.τ) (MergeSBRefIdeal.main (F := Ideal))) ⟨m, fun _ => 0, g⟩
      (fun r => (∀ c : Dev MergeSBRefIdeal.nD,
        r.2.mem ((c.tc : Thread MergeSBRefIdeal.nD MergeSBRefIdeal.τ).loc MergeSBRefIdeal.main_arg0) = m ((c.tc : Thread MergeSBRefIdeal.nD MergeSBRefIdeal.τ).loc MergeSBRefIdeal.main_arg0)
        ∧ r.2.mem ((c.tc : Thread MergeSBRefIdeal.nD MergeSBRefIdeal.τ).loc MergeSBRefIdeal.main_arg1) = m ((c.tc : Thread MergeSBRefIdeal.nD MergeSBRefIdeal.τ).loc MergeSBRefIdeal.main_arg1)
        ∧ r.2.mem ((c.tc : Thread MergeSBRefIdeal.nD MergeSBRefIdeal.τ).loc MergeSBRefIdeal.main_arg2) = m ((c.tc : Thread MergeSBRefIdeal.nD MergeSBRefIdeal.τ).loc MergeSBRefIdeal.main_arg2)
        ∧ r.2.mem ((c.tc : Thread MergeSBRefIdeal.nD MergeSBRefIdeal.τ).loc MergeSBRefIdeal.main_arg3) = m ((c.tc : Thread MergeSBRefIdeal.nD MergeSBRefIdeal.τ).loc MergeSBRefIdeal.main_arg3)
        ∧ r.2.mem ((c.tc : Thread MergeSBRefIdeal.nD MergeSBRefIdeal.τ).loc MergeSBRefIdeal.main_arg4) = m ((c.tc : Thread MergeSBRefIdeal.nD MergeSBRefIdeal.τ).loc MergeSBRefIdeal.main_arg4))
        ∧ r.2.sem = fun _ => 0) :=
  (θ_run MergeSBRefIdeal.defs _ _).mono (fun r h => ⟨fun c => (h c).2, Idealize.ShloMosaic.sem_eq_zero_of_no_sems (by decide) r.2⟩)
    (MergeSBRefIdeal.Value.run (F := Ideal) m g)

/-- In the second layer, for the sample group, the merge kernel and its reference end with the same array. -/
theorem algebraic_MergeSB : algebraic_MergeSBIdeal_MergeSBRefIdeal (hMergeSBIdeal := MergeSBIdeal.Gen.facts) (hMergeSBRefIdeal := MergeSBRefIdeal.Gen.facts) := by
  intro m ρ m' ρ' _ hagree
  refine ⟨fun c => (MergeSBIdeal.Gen.dats m 0 c).arrAt 7 (MergeSBIdeal.cfgs 0).N, MergeSBIdeal.Value.run_blocks m ρ, ?_⟩
  refine (θ_run MergeSBRefIdeal.defs _ _).mono (fun r h c => ⟨(h c).1.trans ?_, (h c).2⟩) (MergeSBRefIdeal.Value.run (F := Ideal) m' ρ')
  obtain ⟨h0, h1, h2, h3, h4⟩ := hagree c
  rw [h0, h1, h2, h3, h4]
  exact (MergeSBRefIdeal.Layer.ref_eq _ _ _ _ _).trans (MergeSBIdeal.Layer.final m c).symm

/-- In the second layer, for the sample group, the output projection reference runs, keeps its arguments and leaves every counter at zero. -/
theorem frame_OutprojSBRefIdeal (m : (ℓ : Loc OutprojSBRefIdeal.nD OutprojSBRefIdeal.τ OutprojSBRefIdeal.sig) → Buf (Elt Ideal) ℓ) (g : Dev OutprojSBRefIdeal.nD → PrngReg) :
    θ_run (OutprojSBRefIdeal.defs (F := Ideal)) (onTc (τ := OutprojSBRefIdeal.τ) (OutprojSBRefIdeal.main (F := Ideal))) ⟨m, fun _ => 0, g⟩
      (fun r => (∀ c : Dev OutprojSBRefIdeal.nD,
        r.2.mem ((c.tc : Thread OutprojSBRefIdeal.nD OutprojSBRefIdeal.τ).loc OutprojSBRefIdeal.main_arg0) = m ((c.tc : Thread OutprojSBRefIdeal.nD OutprojSBRefIdeal.τ).loc OutprojSBRefIdeal.main_arg0)
        ∧ r.2.mem ((c.tc : Thread OutprojSBRefIdeal.nD OutprojSBRefIdeal.τ).loc OutprojSBRefIdeal.main_arg1) = m ((c.tc : Thread OutprojSBRefIdeal.nD OutprojSBRefIdeal.τ).loc OutprojSBRefIdeal.main_arg1)
        ∧ r.2.mem ((c.tc : Thread OutprojSBRefIdeal.nD OutprojSBRefIdeal.τ).loc OutprojSBRefIdeal.main_arg2) = m ((c.tc : Thread OutprojSBRefIdeal.nD OutprojSBRefIdeal.τ).loc OutprojSBRefIdeal.main_arg2)
        ∧ r.2.mem ((c.tc : Thread OutprojSBRefIdeal.nD OutprojSBRefIdeal.τ).loc OutprojSBRefIdeal.main_arg3) = m ((c.tc : Thread OutprojSBRefIdeal.nD OutprojSBRefIdeal.τ).loc OutprojSBRefIdeal.main_arg3))
        ∧ r.2.sem = fun _ => 0) :=
  (θ_run OutprojSBRefIdeal.defs _ _).mono (fun r h => ⟨fun c => (h c).2, Idealize.ShloMosaic.sem_eq_zero_of_no_sems (by decide) r.2⟩)
    (OutprojSBRefIdeal.Value.run (F := Ideal) m g)

/-- In the second layer, for the sample group, the output projection kernel and its reference end with the same array. -/
theorem algebraic_OutprojSB : algebraic_OutprojSBIdeal_OutprojSBRefIdeal (hOutprojSBIdeal := OutprojSBIdeal.Gen.facts) (hOutprojSBRefIdeal := OutprojSBRefIdeal.Gen.facts) := by
  intro m ρ m' ρ' _ hagree
  refine ⟨fun c => (OutprojSBIdeal.Gen.dats m 0 c).arrAt 4 (OutprojSBIdeal.cfgs 0).N, OutprojSBIdeal.Value.run_blocks m ρ, ?_⟩
  refine (θ_run OutprojSBRefIdeal.defs _ _).mono (fun r h c => ⟨(h c).1.trans ?_, (h c).2⟩) (OutprojSBRefIdeal.Value.run (F := Ideal) m' ρ')
  obtain ⟨h0, h1, h2, h3⟩ := hagree c
  rw [h0, h1, h2, h3]
  exact (OutprojSBRefIdeal.Layer.ref_eq _ _ _ _).trans (OutprojSBIdeal.Layer.final m c).symm

/-- In the second layer, for the sample group, the input projection reference runs, keeps its arguments and leaves every counter at zero. -/
theorem frame_InprojSBRefIdeal (m : (ℓ : Loc InprojSBRefIdeal.nD InprojSBRefIdeal.τ InprojSBRefIdeal.sig) → Buf (Elt Ideal) ℓ) (g : Dev InprojSBRefIdeal.nD → PrngReg) :
    θ_run (InprojSBRefIdeal.defs (F := Ideal)) (onTc (τ := InprojSBRefIdeal.τ) (InprojSBRefIdeal.main (F := Ideal))) ⟨m, fun _ => 0, g⟩
      (fun r => (∀ c : Dev InprojSBRefIdeal.nD,
        r.2.mem ((c.tc : Thread InprojSBRefIdeal.nD InprojSBRefIdeal.τ).loc InprojSBRefIdeal.main_arg0) = m ((c.tc : Thread InprojSBRefIdeal.nD InprojSBRefIdeal.τ).loc InprojSBRefIdeal.main_arg0)
        ∧ r.2.mem ((c.tc : Thread InprojSBRefIdeal.nD InprojSBRefIdeal.τ).loc InprojSBRefIdeal.main_arg1) = m ((c.tc : Thread InprojSBRefIdeal.nD InprojSBRefIdeal.τ).loc InprojSBRefIdeal.main_arg1)
        ∧ r.2.mem ((c.tc : Thread InprojSBRefIdeal.nD InprojSBRefIdeal.τ).loc InprojSBRefIdeal.main_arg2) = m ((c.tc : Thread InprojSBRefIdeal.nD InprojSBRefIdeal.τ).loc InprojSBRefIdeal.main_arg2)
        ∧ r.2.mem ((c.tc : Thread InprojSBRefIdeal.nD InprojSBRefIdeal.τ).loc InprojSBRefIdeal.main_arg3) = m ((c.tc : Thread InprojSBRefIdeal.nD InprojSBRefIdeal.τ).loc InprojSBRefIdeal.main_arg3))
        ∧ r.2.sem = fun _ => 0) :=
  (θ_run InprojSBRefIdeal.defs _ _).mono (fun r h => ⟨fun c => (h c).2.2, Idealize.ShloMosaic.sem_eq_zero_of_no_sems (by decide) r.2⟩)
    (InprojSBRefIdeal.Value.run (F := Ideal) m g)

/-- In the second layer, for the sample group, the input projection kernel and its reference end with the same two arrays. -/
theorem algebraic_InprojSB : algebraic_InprojSBIdeal_InprojSBRefIdeal (hInprojSBIdeal := InprojSBIdeal.Gen.facts) (hInprojSBRefIdeal := InprojSBRefIdeal.Gen.facts) := by
  intro m ρ m' ρ' _ hagree
  refine ⟨fun c => (InprojSBIdeal.Layer.dats m 0 c).arrAt 4 (InprojSBIdeal.cfgs 0).N, fun c => (InprojSBIdeal.Layer.dats m 0 c).arrAt 5 (InprojSBIdeal.cfgs 0).N,
    InprojSBIdeal.Layer.run_blocks m ρ, ?_⟩
  refine (θ_run InprojSBRefIdeal.defs _ _).mono (fun r h c => ⟨(h c).1.trans ?_, (h c).2.1.trans ?_, (h c).2.2⟩) (InprojSBRefIdeal.Value.run (F := Ideal) m' ρ')
  · obtain ⟨h0, h1, h2, h3⟩ := hagree c
    rw [h0, h1, h2]
    exact (InprojSBRefIdeal.Layer.wide_eq _ _ _).trans (InprojSBIdeal.Layer.final_wide m c).symm
  · obtain ⟨h0, h1, h2, h3⟩ := hagree c
    rw [h0, h1, h3]
    exact (InprojSBRefIdeal.Layer.narrow_eq _ _ _).trans (InprojSBIdeal.Layer.final_narrow m c).symm

/-- The suffix sum reference runs to its end and leaves its argument. -/
theorem frame_LfRefIdeal (m : (ℓ : Loc LfRefIdeal.nD LfRefIdeal.τ LfRefIdeal.sig) → Buf (Elt Ideal) ℓ) (g : Dev LfRefIdeal.nD → PrngReg) :
    θ_run (LfRefIdeal.defs (F := Ideal)) (onTc (τ := LfRefIdeal.τ) (LfRefIdeal.main (F := Ideal))) ⟨m, fun _ => 0, g⟩ (fun r => (∀ c : Dev LfRefIdeal.nD,
      r.2.mem ((c.tc : Thread LfRefIdeal.nD LfRefIdeal.τ).loc LfRefIdeal.main_arg0) = m ((c.tc : Thread LfRefIdeal.nD LfRefIdeal.τ).loc LfRefIdeal.main_arg0))
      ∧ r.2.sem = fun _ => 0) :=
  (θ_run LfRefIdeal.defs _ _).mono (fun r h => ⟨fun c => (h c).2, Idealize.ShloMosaic.sem_eq_zero_of_no_sems (by decide) r.2⟩) (LfRefIdeal.Value.run (F := Ideal) m g)

/-- On finite gates the suffix sum kernel and its reference end with the same array. -/
theorem algebraic_Lf : algebraic_LfIdeal_LfRefIdeal_pre_finite_lf (hLfIdeal := LfIdeal.Gen.facts) (hLfRefIdeal := LfRefIdeal.Gen.facts)
    (hPre_finite_lf := Pre_finite_lf.Gen.facts) := by
  intro m ρ m' ρ' hpre hagree
  refine ⟨fun c => (LfIdeal.Gen.dats m 0 c).arrAt 1 (LfIdeal.cfgs 0).N, LfIdeal.Value.run_blocks m ρ, ?_⟩
  refine (θ_run LfRefIdeal.defs _ _).mono (fun r h c => ⟨(h c).1.trans ?_, (h c).2⟩) (LfRefIdeal.Value.run (F := Ideal) m' ρ')
  have hx := Suffix.finite_real _ (hpre c)
  rw [hagree c]
  exact (LfRefIdeal.Suffix.ref_eq _ _ hx).trans (LfIdeal.Suffix.final m c _ hx).symm

/-- The matrix memory reference runs, keeps its arguments and leaves every counter at zero. -/
theorem frame_MlstmRefIdeal (m : (ℓ : Loc MlstmRefIdeal.nD MlstmRefIdeal.τ MlstmRefIdeal.sig) → Buf (Elt Ideal) ℓ) (g : Dev MlstmRefIdeal.nD → PrngReg) :
    θ_run (MlstmRefIdeal.defs (F := Ideal)) (onTc (τ := MlstmRefIdeal.τ) (MlstmRefIdeal.main (F := Ideal))) ⟨m, fun _ => 0, g⟩
      (fun r => (∀ c : Dev MlstmRefIdeal.nD,
        r.2.mem ((c.tc : Thread MlstmRefIdeal.nD MlstmRefIdeal.τ).loc MlstmRefIdeal.main_arg0) = m ((c.tc : Thread MlstmRefIdeal.nD MlstmRefIdeal.τ).loc MlstmRefIdeal.main_arg0)
        ∧ r.2.mem ((c.tc : Thread MlstmRefIdeal.nD MlstmRefIdeal.τ).loc MlstmRefIdeal.main_arg1) = m ((c.tc : Thread MlstmRefIdeal.nD MlstmRefIdeal.τ).loc MlstmRefIdeal.main_arg1)
        ∧ r.2.mem ((c.tc : Thread MlstmRefIdeal.nD MlstmRefIdeal.τ).loc MlstmRefIdeal.main_arg2) = m ((c.tc : Thread MlstmRefIdeal.nD MlstmRefIdeal.τ).loc MlstmRefIdeal.main_arg2)
        ∧ r.2.mem ((c.tc : Thread MlstmRefIdeal.nD MlstmRefIdeal.τ).loc MlstmRefIdeal.main_arg3) = m ((c.tc : Thread MlstmRefIdeal.nD MlstmRefIdeal.τ).loc MlstmRefIdeal.main_arg3)
        ∧ r.2.mem ((c.tc : Thread MlstmRefIdeal.nD MlstmRefIdeal.τ).loc MlstmRefIdeal.main_arg4) = m ((c.tc : Thread MlstmRefIdeal.nD MlstmRefIdeal.τ).loc MlstmRefIdeal.main_arg4)
        ∧ r.2.mem ((c.tc : Thread MlstmRefIdeal.nD MlstmRefIdeal.τ).loc MlstmRefIdeal.main_arg5) = m ((c.tc : Thread MlstmRefIdeal.nD MlstmRefIdeal.τ).loc MlstmRefIdeal.main_arg5)
        ∧ r.2.mem ((c.tc : Thread MlstmRefIdeal.nD MlstmRefIdeal.τ).loc MlstmRefIdeal.main_arg6) = m ((c.tc : Thread MlstmRefIdeal.nD MlstmRefIdeal.τ).loc MlstmRefIdeal.main_arg6))
        ∧ r.2.sem = fun _ => 0) :=
  (θ_run MlstmRefIdeal.defs _ _).mono (fun r h => ⟨fun c => (h c).2.2.2.2.2.2, Idealize.ShloMosaic.sem_eq_zero_of_no_sems (by decide) r.2⟩)
    (MlstmRefIdeal.Value.run (F := Ideal) m g)

/-- The matrix memory kernel and its reference end with the same six arrays. -/
theorem algebraic_Mlstm : algebraic_MlstmIdeal_MlstmRefIdeal (hMlstmIdeal := MlstmIdeal.Gen.facts) (hMlstmRefIdeal := MlstmRefIdeal.Gen.facts) := by
  intro m ρ m' ρ' _ hagree
  refine ⟨fun c => (MlstmIdeal.Gen.dats m 0 c).arrAt 11 (MlstmIdeal.cfgs 0).N, fun c => (MlstmIdeal.Gen.dats m 0 c).arrAt 12 (MlstmIdeal.cfgs 0).N,
    fun c => (MlstmIdeal.Gen.dats m 0 c).arrAt 13 (MlstmIdeal.cfgs 0).N, fun c => (MlstmIdeal.Gen.dats m 0 c).arrAt 14 (MlstmIdeal.cfgs 0).N,
    fun c => (MlstmIdeal.Gen.dats m 0 c).arrAt 15 (MlstmIdeal.cfgs 0).N, fun c => (MlstmIdeal.Gen.dats m 0 c).arrAt 16 (MlstmIdeal.cfgs 0).N,
    MlstmIdeal.Value.run_blocks m ρ, ?_⟩
  refine (θ_run MlstmRefIdeal.defs _ _).mono (fun r h c => ⟨(h c).1.trans ?_, (h c).2.1.trans ?_, (h c).2.2.1.trans ?_, (h c).2.2.2.1.trans ?_, (h c).2.2.2.2.1.trans ?_,
    (h c).2.2.2.2.2.1.trans ?_, (h c).2.2.2.2.2.2⟩) (MlstmRefIdeal.Value.run (F := Ideal) m' ρ')
  all_goals obtain ⟨h0, h1, h2, h3, h4, h5, h6⟩ := hagree c
  · refine (MlstmRefIdeal.Cell.refH (StableHlo.launchContents m' c) _ (MlstmRefIdeal.Cell.r_hm (StableHlo.launchContents m' c))).trans ?_
    show Cert.Mlstm.aH (m' ((c.tc : Thread MlstmRefIdeal.nD MlstmRefIdeal.τ).loc MlstmRefIdeal.main_arg0)) (m' ((c.tc : Thread MlstmRefIdeal.nD MlstmRefIdeal.τ).loc MlstmRefIdeal.main_arg1)) (m' ((c.tc : Thread MlstmRefIdeal.nD MlstmRefIdeal.τ).loc MlstmRefIdeal.main_arg2)) (m' ((c.tc : Thread MlstmRefIdeal.nD MlstmRefIdeal.τ).loc MlstmRefIdeal.main_arg3)) (m' ((c.tc : Thread MlstmRefIdeal.nD MlstmRefIdeal.τ).loc MlstmRefIdeal.main_arg4)) (m' ((c.tc : Thread MlstmRefIdeal.nD MlstmRefIdeal.τ).loc MlstmRefIdeal.main_arg5)) (m' ((c.tc : Thread MlstmRefIdeal.nD MlstmRefIdeal.τ).loc MlstmRefIdeal.main_arg6)) = _
    rw [h0, h1, h2, h3, h4, h5, h6]
    exact (MlstmIdeal.Cell.finalH m c).symm
  · refine (MlstmRefIdeal.Cell.refC (StableHlo.launchContents m' c)).trans ?_
    show Cert.Mlstm.aC (m' ((c.tc : Thread MlstmRefIdeal.nD MlstmRefIdeal.τ).loc MlstmRefIdeal.main_arg0)) (m' ((c.tc : Thread MlstmRefIdeal.nD MlstmRefIdeal.τ).loc MlstmRefIdeal.main_arg1)) (m' ((c.tc : Thread MlstmRefIdeal.nD MlstmRefIdeal.τ).loc MlstmRefIdeal.main_arg2)) (m' ((c.tc : Thread MlstmRefIdeal.nD MlstmRefIdeal.τ).loc MlstmRefIdeal.main_arg4)) (m' ((c.tc : Thread MlstmRefIdeal.nD MlstmRefIdeal.τ).loc MlstmRefIdeal.main_arg6)) = _
    rw [h0, h1, h2, h4, h6]
    exact (MlstmIdeal.Cell.finalC m c).symm
  · refine (MlstmRefIdeal.Cell.refN (StableHlo.launchContents m' c)).trans ?_
    show Cert.Mlstm.aN (m' ((c.tc : Thread MlstmRefIdeal.nD MlstmRefIdeal.τ).loc MlstmRefIdeal.main_arg0)) (m' ((c.tc : Thread MlstmRefIdeal.nD MlstmRefIdeal.τ).loc MlstmRefIdeal.main_arg1)) (m' ((c.tc : Thread MlstmRefIdeal.nD MlstmRefIdeal.τ).loc MlstmRefIdeal.main_arg2)) (m' ((c.tc : Thread MlstmRefIdeal.nD MlstmRefIdeal.τ).loc MlstmRefIdeal.main_arg5)) (m' ((c.tc : Thread MlstmRefIdeal.nD MlstmRefIdeal.τ).loc MlstmRefIdeal.main_arg6)) = _
    rw [h0, h1, h2, h5, h6]
    exact (MlstmIdeal.Cell.finalN m c).symm
  · refine (MlstmRefIdeal.Cell.refM (StableHlo.launchContents m' c)).trans ?_
    show Cert.Mlstm.aM (m' ((c.tc : Thread MlstmRefIdeal.nD MlstmRefIdeal.τ).loc MlstmRefIdeal.main_arg1)) (m' ((c.tc : Thread MlstmRefIdeal.nD MlstmRefIdeal.τ).loc MlstmRefIdeal.main_arg2)) (m' ((c.tc : Thread MlstmRefIdeal.nD MlstmRefIdeal.τ).loc MlstmRefIdeal.main_arg6)) = _
    rw [h1, h2, h6]
    exact (MlstmIdeal.Cell.finalM m c).symm
  · refine (MlstmRefIdeal.Cell.refL (StableHlo.launchContents m' c)).trans ?_
    show Cert.Mlstm.aL (m' ((c.tc : Thread MlstmRefIdeal.nD MlstmRefIdeal.τ).loc MlstmRefIdeal.main_arg1)) (m' ((c.tc : Thread MlstmRefIdeal.nD MlstmRefIdeal.τ).loc MlstmRefIdeal.main_arg2)) = _
    rw [h1, h2]
    exact (MlstmIdeal.Cell.finalL m c).symm
  · refine (MlstmRefIdeal.Cell.refS (StableHlo.launchContents m' c)).trans ?_
    show Cert.Mlstm.aS (m' ((c.tc : Thread MlstmRefIdeal.nD MlstmRefIdeal.τ).loc MlstmRefIdeal.main_arg1)) (m' ((c.tc : Thread MlstmRefIdeal.nD MlstmRefIdeal.τ).loc MlstmRefIdeal.main_arg2)) = _
    rw [h1, h2]
    exact (MlstmIdeal.Cell.finalS m c).symm

theorem claim : Cert.Claim := ⟨Cert.Kernel.Gen.facts, Cert.KernelIdeal.Gen.facts, Cert.ReferenceIdeal.Gen.facts,
  Cert.Mlp.Gen.facts, Cert.MlpIdeal.Gen.facts, Cert.MlpRefIdeal.Gen.facts,
  Cert.Merge.Gen.facts, Cert.MergeIdeal.Gen.facts, Cert.MergeRefIdeal.Gen.facts,
  Cert.Outproj.Gen.facts, Cert.OutprojIdeal.Gen.facts, Cert.OutprojRefIdeal.Gen.facts,
  Cert.Inproj.Gen.facts, Cert.InprojIdeal.Gen.facts, Cert.InprojRefIdeal.Gen.facts,
  Cert.MlpB.Gen.facts, Cert.MlpBIdeal.Gen.facts, Cert.MlpBRefIdeal.Gen.facts,
  Cert.MergeB.Gen.facts, Cert.MergeBIdeal.Gen.facts, Cert.MergeBRefIdeal.Gen.facts,
  Cert.OutprojB.Gen.facts, Cert.OutprojBIdeal.Gen.facts, Cert.OutprojBRefIdeal.Gen.facts,
  Cert.InprojB.Gen.facts, Cert.InprojBIdeal.Gen.facts, Cert.InprojBRefIdeal.Gen.facts,
  Cert.MlpS.Gen.facts, Cert.MlpSIdeal.Gen.facts, Cert.MlpSRefIdeal.Gen.facts,
  Cert.MergeS.Gen.facts, Cert.MergeSIdeal.Gen.facts, Cert.MergeSRefIdeal.Gen.facts,
  Cert.OutprojS.Gen.facts, Cert.OutprojSIdeal.Gen.facts, Cert.OutprojSRefIdeal.Gen.facts,
  Cert.InprojS.Gen.facts, Cert.InprojSIdeal.Gen.facts, Cert.InprojSRefIdeal.Gen.facts,
  Cert.MlpSB.Gen.facts, Cert.MlpSBIdeal.Gen.facts, Cert.MlpSBRefIdeal.Gen.facts,
  Cert.MergeSB.Gen.facts, Cert.MergeSBIdeal.Gen.facts, Cert.MergeSBRefIdeal.Gen.facts,
  Cert.OutprojSB.Gen.facts, Cert.OutprojSBIdeal.Gen.facts, Cert.OutprojSBRefIdeal.Gen.facts,
  Cert.InprojSB.Gen.facts, Cert.InprojSBIdeal.Gen.facts, Cert.InprojSBRefIdeal.Gen.facts,
  Cert.Lf.Gen.facts, Cert.LfIdeal.Gen.facts, Cert.LfRefIdeal.Gen.facts,
  Cert.Mlstm.Gen.facts, Cert.MlstmIdeal.Gen.facts, Cert.MlstmRefIdeal.Gen.facts,
  Cert.Pre_finite.Gen.facts, Cert.Pre_finite_lf.Gen.facts,
  fun m ρ _ => Cert.Kernel.Gen.frame m ρ, fun m ρ _ => Cert.KernelIdeal.Gen.frame m ρ, fun m ρ _ => Cert.KernelIdeal.Gen.frame m ρ,
  fun m ρ _ => frame_flash_ref m ρ, fun m ρ _ => frame_flash_ref m ρ,
  fun m ρ _ => Cert.Mlp.Gen.frame m ρ, fun m ρ _ => Cert.MlpIdeal.Gen.frame m ρ, fun m ρ _ => frame_MlpRefIdeal m ρ,
  fun m ρ _ => Cert.Merge.Gen.frame m ρ, fun m ρ _ => Cert.MergeIdeal.Gen.frame m ρ, fun m ρ _ => frame_MergeRefIdeal m ρ,
  fun m ρ _ => Cert.Outproj.Gen.frame m ρ, fun m ρ _ => Cert.OutprojIdeal.Gen.frame m ρ, fun m ρ _ => frame_OutprojRefIdeal m ρ,
  fun m ρ _ => Cert.Inproj.Layer.frame m ρ, fun m ρ _ => Cert.InprojIdeal.Layer.frame m ρ, fun m ρ _ => frame_InprojRefIdeal m ρ,
  fun m ρ _ => Cert.MlpB.Gen.frame m ρ, fun m ρ _ => Cert.MlpBIdeal.Gen.frame m ρ, fun m ρ _ => frame_MlpBRefIdeal m ρ,
  fun m ρ _ => Cert.MergeB.Gen.frame m ρ, fun m ρ _ => Cert.MergeBIdeal.Gen.frame m ρ, fun m ρ _ => frame_MergeBRefIdeal m ρ,
  fun m ρ _ => Cert.OutprojB.Gen.frame m ρ, fun m ρ _ => Cert.OutprojBIdeal.Gen.frame m ρ, fun m ρ _ => frame_OutprojBRefIdeal m ρ,
  fun m ρ _ => Cert.InprojB.Layer.frame m ρ, fun m ρ _ => Cert.InprojBIdeal.Layer.frame m ρ, fun m ρ _ => frame_InprojBRefIdeal m ρ,
  fun m ρ _ => Cert.MlpS.Gen.frame m ρ, fun m ρ _ => Cert.MlpSIdeal.Gen.frame m ρ, fun m ρ _ => frame_MlpSRefIdeal m ρ,
  fun m ρ _ => Cert.MergeS.Gen.frame m ρ, fun m ρ _ => Cert.MergeSIdeal.Gen.frame m ρ, fun m ρ _ => frame_MergeSRefIdeal m ρ,
  fun m ρ _ => Cert.OutprojS.Gen.frame m ρ, fun m ρ _ => Cert.OutprojSIdeal.Gen.frame m ρ, fun m ρ _ => frame_OutprojSRefIdeal m ρ,
  fun m ρ _ => Cert.InprojS.Layer.frame m ρ, fun m ρ _ => Cert.InprojSIdeal.Layer.frame m ρ, fun m ρ _ => frame_InprojSRefIdeal m ρ,
  fun m ρ _ => Cert.MlpSB.Gen.frame m ρ, fun m ρ _ => Cert.MlpSBIdeal.Gen.frame m ρ, fun m ρ _ => frame_MlpSBRefIdeal m ρ,
  fun m ρ _ => Cert.MergeSB.Gen.frame m ρ, fun m ρ _ => Cert.MergeSBIdeal.Gen.frame m ρ, fun m ρ _ => frame_MergeSBRefIdeal m ρ,
  fun m ρ _ => Cert.OutprojSB.Gen.frame m ρ, fun m ρ _ => Cert.OutprojSBIdeal.Gen.frame m ρ, fun m ρ _ => frame_OutprojSBRefIdeal m ρ,
  fun m ρ _ => Cert.InprojSB.Layer.frame m ρ, fun m ρ _ => Cert.InprojSBIdeal.Layer.frame m ρ, fun m ρ _ => frame_InprojSBRefIdeal m ρ,
  fun m ρ _ => Cert.Lf.Gen.frame m ρ, fun m ρ _ => Cert.LfIdeal.Gen.frame m ρ, fun m ρ _ => Cert.LfIdeal.Gen.frame m ρ,
  fun m ρ _ => frame_LfRefIdeal m ρ, fun m ρ _ => frame_LfRefIdeal m ρ,
  fun m ρ _ => Cert.Mlstm.Gen.frame m ρ, fun m ρ _ => Cert.MlstmIdeal.Gen.frame m ρ, fun m ρ _ => frame_MlstmRefIdeal m ρ,
  ⟨IdealRules.named_const.statement Cert.KernelIdeal.κ "qscale" .f32 0x3E0293EE#32 (((Real.sqrt 128)⁻¹ * (Real.log 2)⁻¹ : ℝ) : EReal) rfl,
    IdealRules.named_const.statement Cert.KernelIdeal.κ "log2e" .f32 0x3FB8AA3B#32 (((Real.log 2)⁻¹ : ℝ) : EReal) rfl⟩,
  algebraic_flash, trivial, algebraic_Mlp, trivial, algebraic_Merge, trivial, algebraic_Outproj, trivial, algebraic_Inproj,
  trivial, algebraic_MlpB, trivial, algebraic_MergeB, trivial, algebraic_OutprojB, trivial, algebraic_InprojB,
  trivial, algebraic_MlpS, trivial, algebraic_MergeS, trivial, algebraic_OutprojS, trivial, algebraic_InprojS,
  trivial, algebraic_MlpSB, trivial, algebraic_MergeSB, trivial, algebraic_OutprojSB, trivial, algebraic_InprojSB,
  trivial, algebraic_Lf, trivial, algebraic_Mlstm⟩

end Cert.Proof

end
